-- ==== Defs.lean ====
def Pre_BwdDf (m : (ℓ : Loc Cert.BwdDf.nD Cert.BwdDf.τ Cert.BwdDf.sig) → Buf (Elt Bits) ℓ) : Prop :=
  True

def Pre_BwdDfIdeal (m : (ℓ : Loc Cert.BwdDfIdeal.nD Cert.BwdDfIdeal.τ Cert.BwdDfIdeal.sig) → Buf (Elt Ideal) ℓ) : Prop :=
  True

def Pre_RefDfIdeal (m : (ℓ : Loc Cert.RefDfIdeal.nD Cert.RefDfIdeal.τ Cert.RefDfIdeal.sig) → Buf (Elt Ideal) ℓ) : Prop :=
  True

def Pre_BwdDw2 (m : (ℓ : Loc Cert.BwdDw2.nD Cert.BwdDw2.τ Cert.BwdDw2.sig) → Buf (Elt Bits) ℓ) : Prop :=
  True

def Pre_BwdDw2Ideal (m : (ℓ : Loc Cert.BwdDw2Ideal.nD Cert.BwdDw2Ideal.τ Cert.BwdDw2Ideal.sig) → Buf (Elt Ideal) ℓ) : Prop :=
  True

def Pre_RefDw2Ideal (m : (ℓ : Loc Cert.RefDw2Ideal.nD Cert.RefDw2Ideal.τ Cert.RefDw2Ideal.sig) → Buf (Elt Ideal) ℓ) : Prop :=
  True

def Pre_BwdDw1 (m : (ℓ : Loc Cert.BwdDw1.nD Cert.BwdDw1.τ Cert.BwdDw1.sig) → Buf (Elt Bits) ℓ) : Prop :=
  True

def Pre_BwdDw1Ideal (m : (ℓ : Loc Cert.BwdDw1Ideal.nD Cert.BwdDw1Ideal.τ Cert.BwdDw1Ideal.sig) → Buf (Elt Ideal) ℓ) : Prop :=
  True

def Pre_RefDw1Ideal (m : (ℓ : Loc Cert.RefDw1Ideal.nD Cert.RefDw1Ideal.τ Cert.RefDw1Ideal.sig) → Buf (Elt Ideal) ℓ) : Prop :=
  True

def Pre_BwdDwin (m : (ℓ : Loc Cert.BwdDwin.nD Cert.BwdDwin.τ Cert.BwdDwin.sig) → Buf (Elt Bits) ℓ) : Prop :=
  True

def Pre_BwdDwinIdeal (m : (ℓ : Loc Cert.BwdDwinIdeal.nD Cert.BwdDwinIdeal.τ Cert.BwdDwinIdeal.sig) → Buf (Elt Ideal) ℓ) : Prop :=
  True

def Pre_RefDwinIdeal (m : (ℓ : Loc Cert.RefDwinIdeal.nD Cert.RefDwinIdeal.τ Cert.RefDwinIdeal.sig) → Buf (Elt Ideal) ℓ) : Prop :=
  True

def Pre_BwdDwo (m : (ℓ : Loc Cert.BwdDwo.nD Cert.BwdDwo.τ Cert.BwdDwo.sig) → Buf (Elt Bits) ℓ) : Prop :=
  True

def Pre_BwdDwoIdeal (m : (ℓ : Loc Cert.BwdDwoIdeal.nD Cert.BwdDwoIdeal.τ Cert.BwdDwoIdeal.sig) → Buf (Elt Ideal) ℓ) : Prop :=
  True

def Pre_RefDwoIdeal (m : (ℓ : Loc Cert.RefDwoIdeal.nD Cert.RefDwoIdeal.τ Cert.RefDwoIdeal.sig) → Buf (Elt Ideal) ℓ) : Prop :=
  True

def Pre_BwdDh2 (m : (ℓ : Loc Cert.BwdDh2.nD Cert.BwdDh2.τ Cert.BwdDh2.sig) → Buf (Elt Bits) ℓ) : Prop :=
  True

def Pre_BwdDh2Ideal (m : (ℓ : Loc Cert.BwdDh2Ideal.nD Cert.BwdDh2Ideal.τ Cert.BwdDh2Ideal.sig) → Buf (Elt Ideal) ℓ) : Prop :=
  True

def Pre_RefDh2Ideal (m : (ℓ : Loc Cert.RefDh2Ideal.nD Cert.RefDh2Ideal.τ Cert.RefDh2Ideal.sig) → Buf (Elt Ideal) ℓ) : Prop :=
  True

def Pre_FwdX2 (m : (ℓ : Loc Cert.FwdX2.nD Cert.FwdX2.τ Cert.FwdX2.sig) → Buf (Elt Bits) ℓ) : Prop :=
  True

def Pre_FwdX2Ideal (m : (ℓ : Loc Cert.FwdX2Ideal.nD Cert.FwdX2Ideal.τ Cert.FwdX2Ideal.sig) → Buf (Elt Ideal) ℓ) : Prop :=
  True

def Pre_RefX2Ideal (m : (ℓ : Loc Cert.RefX2Ideal.nD Cert.RefX2Ideal.τ Cert.RefX2Ideal.sig) → Buf (Elt Ideal) ℓ) : Prop :=
  True

def Pre_BwdDh (m : (ℓ : Loc Cert.BwdDh.nD Cert.BwdDh.τ Cert.BwdDh.sig) → Buf (Elt Bits) ℓ) : Prop :=
  True

def Pre_BwdDhIdeal (m : (ℓ : Loc Cert.BwdDhIdeal.nD Cert.BwdDhIdeal.τ Cert.BwdDhIdeal.sig) → Buf (Elt Ideal) ℓ) : Prop :=
  True

def Pre_RefDhIdeal (m : (ℓ : Loc Cert.RefDhIdeal.nD Cert.RefDhIdeal.τ Cert.RefDhIdeal.sig) → Buf (Elt Ideal) ℓ) : Prop :=
  True

def Pre_BwdConvB (m : (ℓ : Loc Cert.BwdConvB.nD Cert.BwdConvB.τ Cert.BwdConvB.sig) → Buf (Elt Bits) ℓ) : Prop :=
  True

def Pre_BwdConvBIdeal (m : (ℓ : Loc Cert.BwdConvBIdeal.nD Cert.BwdConvBIdeal.τ Cert.BwdConvBIdeal.sig) → Buf (Elt Ideal) ℓ) : Prop :=
  True

def Pre_RefConvBIdeal (m : (ℓ : Loc Cert.RefConvBIdeal.nD Cert.RefConvBIdeal.τ Cert.RefConvBIdeal.sig) → Buf (Elt Ideal) ℓ) : Prop :=
  True

def Pre_FwdF (m : (ℓ : Loc Cert.FwdF.nD Cert.FwdF.τ Cert.FwdF.sig) → Buf (Elt Bits) ℓ) : Prop :=
  True

def Pre_FwdFIdeal (m : (ℓ : Loc Cert.FwdFIdeal.nD Cert.FwdFIdeal.τ Cert.FwdFIdeal.sig) → Buf (Elt Ideal) ℓ) : Prop :=
  True

def Pre_RefFIdeal (m : (ℓ : Loc Cert.RefFIdeal.nD Cert.RefFIdeal.τ Cert.RefFIdeal.sig) → Buf (Elt Ideal) ℓ) : Prop :=
  True

def Pre_BwdDwa (m : (ℓ : Loc Cert.BwdDwa.nD Cert.BwdDwa.τ Cert.BwdDwa.sig) → Buf (Elt Bits) ℓ) : Prop :=
  True

def Pre_BwdDwaIdeal (m : (ℓ : Loc Cert.BwdDwaIdeal.nD Cert.BwdDwaIdeal.τ Cert.BwdDwaIdeal.sig) → Buf (Elt Ideal) ℓ) : Prop :=
  True

def Pre_RefDwaIdeal (m : (ℓ : Loc Cert.RefDwaIdeal.nD Cert.RefDwaIdeal.τ Cert.RefDwaIdeal.sig) → Buf (Elt Ideal) ℓ) : Prop :=
  True

def Pre_BwdDwb (m : (ℓ : Loc Cert.BwdDwb.nD Cert.BwdDwb.τ Cert.BwdDwb.sig) → Buf (Elt Bits) ℓ) : Prop :=
  True

def Pre_BwdDwbIdeal (m : (ℓ : Loc Cert.BwdDwbIdeal.nD Cert.BwdDwbIdeal.τ Cert.BwdDwbIdeal.sig) → Buf (Elt Ideal) ℓ) : Prop :=
  True

def Pre_RefDwbIdeal (m : (ℓ : Loc Cert.RefDwbIdeal.nD Cert.RefDwbIdeal.τ Cert.RefDwbIdeal.sig) → Buf (Elt Ideal) ℓ) : Prop :=
  True

def Pre_FwdYa (m : (ℓ : Loc Cert.FwdYa.nD Cert.FwdYa.τ Cert.FwdYa.sig) → Buf (Elt Bits) ℓ) : Prop :=
  True

def Pre_FwdYaIdeal (m : (ℓ : Loc Cert.FwdYaIdeal.nD Cert.FwdYaIdeal.τ Cert.FwdYaIdeal.sig) → Buf (Elt Ideal) ℓ) : Prop :=
  True

def Pre_RefYaIdeal (m : (ℓ : Loc Cert.RefYaIdeal.nD Cert.RefYaIdeal.τ Cert.RefYaIdeal.sig) → Buf (Elt Ideal) ℓ) : Prop :=
  True

def Pre_FwdYb (m : (ℓ : Loc Cert.FwdYb.nD Cert.FwdYb.τ Cert.FwdYb.sig) → Buf (Elt Bits) ℓ) : Prop :=
  True

def Pre_FwdYbIdeal (m : (ℓ : Loc Cert.FwdYbIdeal.nD Cert.FwdYbIdeal.τ Cert.FwdYbIdeal.sig) → Buf (Elt Ideal) ℓ) : Prop :=
  True

def Pre_RefYbIdeal (m : (ℓ : Loc Cert.RefYbIdeal.nD Cert.RefYbIdeal.τ Cert.RefYbIdeal.sig) → Buf (Elt Ideal) ℓ) : Prop :=
  True

def Pre_FwdX1 (m : (ℓ : Loc Cert.FwdX1.nD Cert.FwdX1.τ Cert.FwdX1.sig) → Buf (Elt Bits) ℓ) : Prop :=
  True

def Pre_FwdX1Ideal (m : (ℓ : Loc Cert.FwdX1Ideal.nD Cert.FwdX1Ideal.τ Cert.FwdX1Ideal.sig) → Buf (Elt Ideal) ℓ) : Prop :=
  True

def Pre_RefX1Ideal (m : (ℓ : Loc Cert.RefX1Ideal.nD Cert.RefX1Ideal.τ Cert.RefX1Ideal.sig) → Buf (Elt Ideal) ℓ) : Prop :=
  True

def Pre_BwdDm (m : (ℓ : Loc Cert.BwdDm.nD Cert.BwdDm.τ Cert.BwdDm.sig) → Buf (Elt Bits) ℓ) : Prop :=
  True

def Pre_BwdDmIdeal (m : (ℓ : Loc Cert.BwdDmIdeal.nD Cert.BwdDmIdeal.τ Cert.BwdDmIdeal.sig) → Buf (Elt Ideal) ℓ) : Prop :=
  True

def Pre_RefDmIdeal (m : (ℓ : Loc Cert.RefDmIdeal.nD Cert.RefDmIdeal.τ Cert.RefDmIdeal.sig) → Buf (Elt Ideal) ℓ) : Prop :=
  True

def Pre_FwdZ (m : (ℓ : Loc Cert.FwdZ.nD Cert.FwdZ.τ Cert.FwdZ.sig) → Buf (Elt Bits) ℓ) : Prop :=
  True

def Pre_FwdZIdeal (m : (ℓ : Loc Cert.FwdZIdeal.nD Cert.FwdZIdeal.τ Cert.FwdZIdeal.sig) → Buf (Elt Ideal) ℓ) : Prop :=
  True

def Pre_RefZIdeal (m : (ℓ : Loc Cert.RefZIdeal.nD Cert.RefZIdeal.τ Cert.RefZIdeal.sig) → Buf (Elt Ideal) ℓ) : Prop :=
  True

def Pre_BwdDu3 (m : (ℓ : Loc Cert.BwdDu3.nD Cert.BwdDu3.τ Cert.BwdDu3.sig) → Buf (Elt Bits) ℓ) : Prop :=
  True

def Pre_BwdDu3Ideal (m : (ℓ : Loc Cert.BwdDu3Ideal.nD Cert.BwdDu3Ideal.τ Cert.BwdDu3Ideal.sig) → Buf (Elt Ideal) ℓ) : Prop :=
  True

def Pre_BwdDu3Ideal_finite_du3 [hPre_finite_du3 : Cert.Pre_finite_du3.Facts] (m : (ℓ : Loc Cert.BwdDu3Ideal.nD Cert.BwdDu3Ideal.τ Cert.BwdDu3Ideal.sig) → Buf (Elt Ideal) ℓ) : Prop :=
  ∀ c : Dev Cert.BwdDu3Ideal.nD,
    (Cert.Pre_finite_du3.fn (F := Ideal) (m ((c.tc : Thread Cert.BwdDu3Ideal.nD Cert.BwdDu3Ideal.τ).loc Cert.BwdDu3Ideal.main_arg0)) (m ((c.tc : Thread Cert.BwdDu3Ideal.nD Cert.BwdDu3Ideal.τ).loc Cert.BwdDu3Ideal.main_arg1)) (m ((c.tc : Thread Cert.BwdDu3Ideal.nD Cert.BwdDu3Ideal.τ).loc Cert.BwdDu3Ideal.main_arg2)) (m ((c.tc : Thread Cert.BwdDu3Ideal.nD Cert.BwdDu3Ideal.τ).loc Cert.BwdDu3Ideal.main_arg3)) (m ((c.tc : Thread Cert.BwdDu3Ideal.nD Cert.BwdDu3Ideal.τ).loc Cert.BwdDu3Ideal.main_arg4))).1 = (fun _ => 1#1)
    ∧ (Cert.Pre_finite_du3.fn (F := Ideal) (m ((c.tc : Thread Cert.BwdDu3Ideal.nD Cert.BwdDu3Ideal.τ).loc Cert.BwdDu3Ideal.main_arg0)) (m ((c.tc : Thread Cert.BwdDu3Ideal.nD Cert.BwdDu3Ideal.τ).loc Cert.BwdDu3Ideal.main_arg1)) (m ((c.tc : Thread Cert.BwdDu3Ideal.nD Cert.BwdDu3Ideal.τ).loc Cert.BwdDu3Ideal.main_arg2)) (m ((c.tc : Thread Cert.BwdDu3Ideal.nD Cert.BwdDu3Ideal.τ).loc Cert.BwdDu3Ideal.main_arg3)) (m ((c.tc : Thread Cert.BwdDu3Ideal.nD Cert.BwdDu3Ideal.τ).loc Cert.BwdDu3Ideal.main_arg4))).2.1 = (fun _ => 1#1)
    ∧ (Cert.Pre_finite_du3.fn (F := Ideal) (m ((c.tc : Thread Cert.BwdDu3Ideal.nD Cert.BwdDu3Ideal.τ).loc Cert.BwdDu3Ideal.main_arg0)) (m ((c.tc : Thread Cert.BwdDu3Ideal.nD Cert.BwdDu3Ideal.τ).loc Cert.BwdDu3Ideal.main_arg1)) (m ((c.tc : Thread Cert.BwdDu3Ideal.nD Cert.BwdDu3Ideal.τ).loc Cert.BwdDu3Ideal.main_arg2)) (m ((c.tc : Thread Cert.BwdDu3Ideal.nD Cert.BwdDu3Ideal.τ).loc Cert.BwdDu3Ideal.main_arg3)) (m ((c.tc : Thread Cert.BwdDu3Ideal.nD Cert.BwdDu3Ideal.τ).loc Cert.BwdDu3Ideal.main_arg4))).2.2.1 = (fun _ => 1#1)
    ∧ (Cert.Pre_finite_du3.fn (F := Ideal) (m ((c.tc : Thread Cert.BwdDu3Ideal.nD Cert.BwdDu3Ideal.τ).loc Cert.BwdDu3Ideal.main_arg0)) (m ((c.tc : Thread Cert.BwdDu3Ideal.nD Cert.BwdDu3Ideal.τ).loc Cert.BwdDu3Ideal.main_arg1)) (m ((c.tc : Thread Cert.BwdDu3Ideal.nD Cert.BwdDu3Ideal.τ).loc Cert.BwdDu3Ideal.main_arg2)) (m ((c.tc : Thread Cert.BwdDu3Ideal.nD Cert.BwdDu3Ideal.τ).loc Cert.BwdDu3Ideal.main_arg3)) (m ((c.tc : Thread Cert.BwdDu3Ideal.nD Cert.BwdDu3Ideal.τ).loc Cert.BwdDu3Ideal.main_arg4))).2.2.2 = (fun _ => 1#1)

def Pre_RefDu3Ideal (m : (ℓ : Loc Cert.RefDu3Ideal.nD Cert.RefDu3Ideal.τ Cert.RefDu3Ideal.sig) → Buf (Elt Ideal) ℓ) : Prop :=
  True

def Pre_RefDu3Ideal_finite_du3 [hPre_finite_du3 : Cert.Pre_finite_du3.Facts] (m : (ℓ : Loc Cert.RefDu3Ideal.nD Cert.RefDu3Ideal.τ Cert.RefDu3Ideal.sig) → Buf (Elt Ideal) ℓ) : Prop :=
  ∀ c : Dev Cert.RefDu3Ideal.nD,
    (Cert.Pre_finite_du3.fn (F := Ideal) (m ((c.tc : Thread Cert.RefDu3Ideal.nD Cert.RefDu3Ideal.τ).loc Cert.RefDu3Ideal.main_arg0)) (m ((c.tc : Thread Cert.RefDu3Ideal.nD Cert.RefDu3Ideal.τ).loc Cert.RefDu3Ideal.main_arg1)) (m ((c.tc : Thread Cert.RefDu3Ideal.nD Cert.RefDu3Ideal.τ).loc Cert.RefDu3Ideal.main_arg2)) (m ((c.tc : Thread Cert.RefDu3Ideal.nD Cert.RefDu3Ideal.τ).loc Cert.RefDu3Ideal.main_arg3)) (m ((c.tc : Thread Cert.RefDu3Ideal.nD Cert.RefDu3Ideal.τ).loc Cert.RefDu3Ideal.main_arg4))).1 = (fun _ => 1#1)
    ∧ (Cert.Pre_finite_du3.fn (F := Ideal) (m ((c.tc : Thread Cert.RefDu3Ideal.nD Cert.RefDu3Ideal.τ).loc Cert.RefDu3Ideal.main_arg0)) (m ((c.tc : Thread Cert.RefDu3Ideal.nD Cert.RefDu3Ideal.τ).loc Cert.RefDu3Ideal.main_arg1)) (m ((c.tc : Thread Cert.RefDu3Ideal.nD Cert.RefDu3Ideal.τ).loc Cert.RefDu3Ideal.main_arg2)) (m ((c.tc : Thread Cert.RefDu3Ideal.nD Cert.RefDu3Ideal.τ).loc Cert.RefDu3Ideal.main_arg3)) (m ((c.tc : Thread Cert.RefDu3Ideal.nD Cert.RefDu3Ideal.τ).loc Cert.RefDu3Ideal.main_arg4))).2.1 = (fun _ => 1#1)
    ∧ (Cert.Pre_finite_du3.fn (F := Ideal) (m ((c.tc : Thread Cert.RefDu3Ideal.nD Cert.RefDu3Ideal.τ).loc Cert.RefDu3Ideal.main_arg0)) (m ((c.tc : Thread Cert.RefDu3Ideal.nD Cert.RefDu3Ideal.τ).loc Cert.RefDu3Ideal.main_arg1)) (m ((c.tc : Thread Cert.RefDu3Ideal.nD Cert.RefDu3Ideal.τ).loc Cert.RefDu3Ideal.main_arg2)) (m ((c.tc : Thread Cert.RefDu3Ideal.nD Cert.RefDu3Ideal.τ).loc Cert.RefDu3Ideal.main_arg3)) (m ((c.tc : Thread Cert.RefDu3Ideal.nD Cert.RefDu3Ideal.τ).loc Cert.RefDu3Ideal.main_arg4))).2.2.1 = (fun _ => 1#1)
    ∧ (Cert.Pre_finite_du3.fn (F := Ideal) (m ((c.tc : Thread Cert.RefDu3Ideal.nD Cert.RefDu3Ideal.τ).loc Cert.RefDu3Ideal.main_arg0)) (m ((c.tc : Thread Cert.RefDu3Ideal.nD Cert.RefDu3Ideal.τ).loc Cert.RefDu3Ideal.main_arg1)) (m ((c.tc : Thread Cert.RefDu3Ideal.nD Cert.RefDu3Ideal.τ).loc Cert.RefDu3Ideal.main_arg2)) (m ((c.tc : Thread Cert.RefDu3Ideal.nD Cert.RefDu3Ideal.τ).loc Cert.RefDu3Ideal.main_arg3)) (m ((c.tc : Thread Cert.RefDu3Ideal.nD Cert.RefDu3Ideal.τ).loc Cert.RefDu3Ideal.main_arg4))).2.2.2 = (fun _ => 1#1)

def Pre_BwdDp (m : (ℓ : Loc Cert.BwdDp.nD Cert.BwdDp.τ Cert.BwdDp.sig) → Buf (Elt Bits) ℓ) : Prop :=
  True

def Pre_BwdDpIdeal (m : (ℓ : Loc Cert.BwdDpIdeal.nD Cert.BwdDpIdeal.τ Cert.BwdDpIdeal.sig) → Buf (Elt Ideal) ℓ) : Prop :=
  True

def Pre_BwdDpIdeal_finite_dp [hPre_finite_dp : Cert.Pre_finite_dp.Facts] (m : (ℓ : Loc Cert.BwdDpIdeal.nD Cert.BwdDpIdeal.τ Cert.BwdDpIdeal.sig) → Buf (Elt Ideal) ℓ) : Prop :=
  ∀ c : Dev Cert.BwdDpIdeal.nD,
    (Cert.Pre_finite_dp.fn (F := Ideal) (m ((c.tc : Thread Cert.BwdDpIdeal.nD Cert.BwdDpIdeal.τ).loc Cert.BwdDpIdeal.main_arg0)) (m ((c.tc : Thread Cert.BwdDpIdeal.nD Cert.BwdDpIdeal.τ).loc Cert.BwdDpIdeal.main_arg1)) (m ((c.tc : Thread Cert.BwdDpIdeal.nD Cert.BwdDpIdeal.τ).loc Cert.BwdDpIdeal.main_arg2)) (m ((c.tc : Thread Cert.BwdDpIdeal.nD Cert.BwdDpIdeal.τ).loc Cert.BwdDpIdeal.main_arg3)) (m ((c.tc : Thread Cert.BwdDpIdeal.nD Cert.BwdDpIdeal.τ).loc Cert.BwdDpIdeal.main_arg4))).1 = (fun _ => 1#1)
    ∧ (Cert.Pre_finite_dp.fn (F := Ideal) (m ((c.tc : Thread Cert.BwdDpIdeal.nD Cert.BwdDpIdeal.τ).loc Cert.BwdDpIdeal.main_arg0)) (m ((c.tc : Thread Cert.BwdDpIdeal.nD Cert.BwdDpIdeal.τ).loc Cert.BwdDpIdeal.main_arg1)) (m ((c.tc : Thread Cert.BwdDpIdeal.nD Cert.BwdDpIdeal.τ).loc Cert.BwdDpIdeal.main_arg2)) (m ((c.tc : Thread Cert.BwdDpIdeal.nD Cert.BwdDpIdeal.τ).loc Cert.BwdDpIdeal.main_arg3)) (m ((c.tc : Thread Cert.BwdDpIdeal.nD Cert.BwdDpIdeal.τ).loc Cert.BwdDpIdeal.main_arg4))).2.1 = (fun _ => 1#1)
    ∧ (Cert.Pre_finite_dp.fn (F := Ideal) (m ((c.tc : Thread Cert.BwdDpIdeal.nD Cert.BwdDpIdeal.τ).loc Cert.BwdDpIdeal.main_arg0)) (m ((c.tc : Thread Cert.BwdDpIdeal.nD Cert.BwdDpIdeal.τ).loc Cert.BwdDpIdeal.main_arg1)) (m ((c.tc : Thread Cert.BwdDpIdeal.nD Cert.BwdDpIdeal.τ).loc Cert.BwdDpIdeal.main_arg2)) (m ((c.tc : Thread Cert.BwdDpIdeal.nD Cert.BwdDpIdeal.τ).loc Cert.BwdDpIdeal.main_arg3)) (m ((c.tc : Thread Cert.BwdDpIdeal.nD Cert.BwdDpIdeal.τ).loc Cert.BwdDpIdeal.main_arg4))).2.2 = (fun _ => 1#1)

def Pre_RefDpIdeal (m : (ℓ : Loc Cert.RefDpIdeal.nD Cert.RefDpIdeal.τ Cert.RefDpIdeal.sig) → Buf (Elt Ideal) ℓ) : Prop :=
  True

def Pre_RefDpIdeal_finite_dp [hPre_finite_dp : Cert.Pre_finite_dp.Facts] (m : (ℓ : Loc Cert.RefDpIdeal.nD Cert.RefDpIdeal.τ Cert.RefDpIdeal.sig) → Buf (Elt Ideal) ℓ) : Prop :=
  ∀ c : Dev Cert.RefDpIdeal.nD,
    (Cert.Pre_finite_dp.fn (F := Ideal) (m ((c.tc : Thread Cert.RefDpIdeal.nD Cert.RefDpIdeal.τ).loc Cert.RefDpIdeal.main_arg0)) (m ((c.tc : Thread Cert.RefDpIdeal.nD Cert.RefDpIdeal.τ).loc Cert.RefDpIdeal.main_arg1)) (m ((c.tc : Thread Cert.RefDpIdeal.nD Cert.RefDpIdeal.τ).loc Cert.RefDpIdeal.main_arg2)) (m ((c.tc : Thread Cert.RefDpIdeal.nD Cert.RefDpIdeal.τ).loc Cert.RefDpIdeal.main_arg3)) (m ((c.tc : Thread Cert.RefDpIdeal.nD Cert.RefDpIdeal.τ).loc Cert.RefDpIdeal.main_arg4))).1 = (fun _ => 1#1)
    ∧ (Cert.Pre_finite_dp.fn (F := Ideal) (m ((c.tc : Thread Cert.RefDpIdeal.nD Cert.RefDpIdeal.τ).loc Cert.RefDpIdeal.main_arg0)) (m ((c.tc : Thread Cert.RefDpIdeal.nD Cert.RefDpIdeal.τ).loc Cert.RefDpIdeal.main_arg1)) (m ((c.tc : Thread Cert.RefDpIdeal.nD Cert.RefDpIdeal.τ).loc Cert.RefDpIdeal.main_arg2)) (m ((c.tc : Thread Cert.RefDpIdeal.nD Cert.RefDpIdeal.τ).loc Cert.RefDpIdeal.main_arg3)) (m ((c.tc : Thread Cert.RefDpIdeal.nD Cert.RefDpIdeal.τ).loc Cert.RefDpIdeal.main_arg4))).2.1 = (fun _ => 1#1)
    ∧ (Cert.Pre_finite_dp.fn (F := Ideal) (m ((c.tc : Thread Cert.RefDpIdeal.nD Cert.RefDpIdeal.τ).loc Cert.RefDpIdeal.main_arg0)) (m ((c.tc : Thread Cert.RefDpIdeal.nD Cert.RefDpIdeal.τ).loc Cert.RefDpIdeal.main_arg1)) (m ((c.tc : Thread Cert.RefDpIdeal.nD Cert.RefDpIdeal.τ).loc Cert.RefDpIdeal.main_arg2)) (m ((c.tc : Thread Cert.RefDpIdeal.nD Cert.RefDpIdeal.τ).loc Cert.RefDpIdeal.main_arg3)) (m ((c.tc : Thread Cert.RefDpIdeal.nD Cert.RefDpIdeal.τ).loc Cert.RefDpIdeal.main_arg4))).2.2 = (fun _ => 1#1)

def quiescent_BwdDf [hBwdDf : Cert.BwdDf.Facts] : Prop :=
  ∀ (m : (ℓ : Loc Cert.BwdDf.nD Cert.BwdDf.τ Cert.BwdDf.sig) → Buf (Elt Bits) ℓ) (g : Dev Cert.BwdDf.nD → PrngReg), Pre_BwdDf m →
    θ_run (Cert.BwdDf.defs (F := Bits)) (onTc (τ := Cert.BwdDf.τ) (Cert.BwdDf.main (F := Bits))) ⟨m, fun _ => 0, g⟩ (fun r => (∀ c : Dev Cert.BwdDf.nD,
      r.2.mem ((c.tc : Thread Cert.BwdDf.nD Cert.BwdDf.τ).loc Cert.BwdDf.main_arg0) = m ((c.tc : Thread Cert.BwdDf.nD Cert.BwdDf.τ).loc Cert.BwdDf.main_arg0)
      ∧ r.2.mem ((c.tc : Thread Cert.BwdDf.nD Cert.BwdDf.τ).loc Cert.BwdDf.main_arg1) = m ((c.tc : Thread Cert.BwdDf.nD Cert.BwdDf.τ).loc Cert.BwdDf.main_arg1)
      ∧ r.2.mem ((c.tc : Thread Cert.BwdDf.nD Cert.BwdDf.τ).loc Cert.BwdDf.main_arg2) = m ((c.tc : Thread Cert.BwdDf.nD Cert.BwdDf.τ).loc Cert.BwdDf.main_arg2))
      ∧ r.2.sem = fun _ => 0)

def quiescent_BwdDfIdeal [hBwdDfIdeal : Cert.BwdDfIdeal.Facts] : Prop :=
  ∀ (m : (ℓ : Loc Cert.BwdDfIdeal.nD Cert.BwdDfIdeal.τ Cert.BwdDfIdeal.sig) → Buf (Elt Ideal) ℓ) (g : Dev Cert.BwdDfIdeal.nD → PrngReg), Pre_BwdDfIdeal m →
    θ_run (Cert.BwdDfIdeal.defs (F := Ideal)) (onTc (τ := Cert.BwdDfIdeal.τ) (Cert.BwdDfIdeal.main (F := Ideal))) ⟨m, fun _ => 0, g⟩ (fun r => (∀ c : Dev Cert.BwdDfIdeal.nD,
      r.2.mem ((c.tc : Thread Cert.BwdDfIdeal.nD Cert.BwdDfIdeal.τ).loc Cert.BwdDfIdeal.main_arg0) = m ((c.tc : Thread Cert.BwdDfIdeal.nD Cert.BwdDfIdeal.τ).loc Cert.BwdDfIdeal.main_arg0)
      ∧ r.2.mem ((c.tc : Thread Cert.BwdDfIdeal.nD Cert.BwdDfIdeal.τ).loc Cert.BwdDfIdeal.main_arg1) = m ((c.tc : Thread Cert.BwdDfIdeal.nD Cert.BwdDfIdeal.τ).loc Cert.BwdDfIdeal.main_arg1)
      ∧ r.2.mem ((c.tc : Thread Cert.BwdDfIdeal.nD Cert.BwdDfIdeal.τ).loc Cert.BwdDfIdeal.main_arg2) = m ((c.tc : Thread Cert.BwdDfIdeal.nD Cert.BwdDfIdeal.τ).loc Cert.BwdDfIdeal.main_arg2))
      ∧ r.2.sem = fun _ => 0)

def quiescent_RefDfIdeal [hRefDfIdeal : Cert.RefDfIdeal.Facts] : Prop :=
  ∀ (m : (ℓ : Loc Cert.RefDfIdeal.nD Cert.RefDfIdeal.τ Cert.RefDfIdeal.sig) → Buf (Elt Ideal) ℓ) (g : Dev Cert.RefDfIdeal.nD → PrngReg), Pre_RefDfIdeal m →
    θ_run (Cert.RefDfIdeal.defs (F := Ideal)) (onTc (τ := Cert.RefDfIdeal.τ) (Cert.RefDfIdeal.main (F := Ideal))) ⟨m, fun _ => 0, g⟩ (fun r => (∀ c : Dev Cert.RefDfIdeal.nD,
      r.2.mem ((c.tc : Thread Cert.RefDfIdeal.nD Cert.RefDfIdeal.τ).loc Cert.RefDfIdeal.main_arg0) = m ((c.tc : Thread Cert.RefDfIdeal.nD Cert.RefDfIdeal.τ).loc Cert.RefDfIdeal.main_arg0)
      ∧ r.2.mem ((c.tc : Thread Cert.RefDfIdeal.nD Cert.RefDfIdeal.τ).loc Cert.RefDfIdeal.main_arg1) = m ((c.tc : Thread Cert.RefDfIdeal.nD Cert.RefDfIdeal.τ).loc Cert.RefDfIdeal.main_arg1)
      ∧ r.2.mem ((c.tc : Thread Cert.RefDfIdeal.nD Cert.RefDfIdeal.τ).loc Cert.RefDfIdeal.main_arg2) = m ((c.tc : Thread Cert.RefDfIdeal.nD Cert.RefDfIdeal.τ).loc Cert.RefDfIdeal.main_arg2))
      ∧ r.2.sem = fun _ => 0)

def quiescent_BwdDw2 [hBwdDw2 : Cert.BwdDw2.Facts] : Prop :=
  ∀ (m : (ℓ : Loc Cert.BwdDw2.nD Cert.BwdDw2.τ Cert.BwdDw2.sig) → Buf (Elt Bits) ℓ) (g : Dev Cert.BwdDw2.nD → PrngReg), Pre_BwdDw2 m →
    θ_run (Cert.BwdDw2.defs (F := Bits)) (onTc (τ := Cert.BwdDw2.τ) (Cert.BwdDw2.main (F := Bits))) ⟨m, fun _ => 0, g⟩ (fun r => (∀ c : Dev Cert.BwdDw2.nD,
      r.2.mem ((c.tc : Thread Cert.BwdDw2.nD Cert.BwdDw2.τ).loc Cert.BwdDw2.main_arg0) = m ((c.tc : Thread Cert.BwdDw2.nD Cert.BwdDw2.τ).loc Cert.BwdDw2.main_arg0)
      ∧ r.2.mem ((c.tc : Thread Cert.BwdDw2.nD Cert.BwdDw2.τ).loc Cert.BwdDw2.main_arg1) = m ((c.tc : Thread Cert.BwdDw2.nD Cert.BwdDw2.τ).loc Cert.BwdDw2.main_arg1))
      ∧ r.2.sem = fun _ => 0)

def quiescent_BwdDw2Ideal [hBwdDw2Ideal : Cert.BwdDw2Ideal.Facts] : Prop :=
  ∀ (m : (ℓ : Loc Cert.BwdDw2Ideal.nD Cert.BwdDw2Ideal.τ Cert.BwdDw2Ideal.sig) → Buf (Elt Ideal) ℓ) (g : Dev Cert.BwdDw2Ideal.nD → PrngReg), Pre_BwdDw2Ideal m →
    θ_run (Cert.BwdDw2Ideal.defs (F := Ideal)) (onTc (τ := Cert.BwdDw2Ideal.τ) (Cert.BwdDw2Ideal.main (F := Ideal))) ⟨m, fun _ => 0, g⟩ (fun r => (∀ c : Dev Cert.BwdDw2Ideal.nD,
      r.2.mem ((c.tc : Thread Cert.BwdDw2Ideal.nD Cert.BwdDw2Ideal.τ).loc Cert.BwdDw2Ideal.main_arg0) = m ((c.tc : Thread Cert.BwdDw2Ideal.nD Cert.BwdDw2Ideal.τ).loc Cert.BwdDw2Ideal.main_arg0)
      ∧ r.2.mem ((c.tc : Thread Cert.BwdDw2Ideal.nD Cert.BwdDw2Ideal.τ).loc Cert.BwdDw2Ideal.main_arg1) = m ((c.tc : Thread Cert.BwdDw2Ideal.nD Cert.BwdDw2Ideal.τ).loc Cert.BwdDw2Ideal.main_arg1))
      ∧ r.2.sem = fun _ => 0)

def quiescent_RefDw2Ideal [hRefDw2Ideal : Cert.RefDw2Ideal.Facts] : Prop :=
  ∀ (m : (ℓ : Loc Cert.RefDw2Ideal.nD Cert.RefDw2Ideal.τ Cert.RefDw2Ideal.sig) → Buf (Elt Ideal) ℓ) (g : Dev Cert.RefDw2Ideal.nD → PrngReg), Pre_RefDw2Ideal m →
    θ_run (Cert.RefDw2Ideal.defs (F := Ideal)) (onTc (τ := Cert.RefDw2Ideal.τ) (Cert.RefDw2Ideal.main (F := Ideal))) ⟨m, fun _ => 0, g⟩ (fun r => (∀ c : Dev Cert.RefDw2Ideal.nD,
      r.2.mem ((c.tc : Thread Cert.RefDw2Ideal.nD Cert.RefDw2Ideal.τ).loc Cert.RefDw2Ideal.main_arg0) = m ((c.tc : Thread Cert.RefDw2Ideal.nD Cert.RefDw2Ideal.τ).loc Cert.RefDw2Ideal.main_arg0)
      ∧ r.2.mem ((c.tc : Thread Cert.RefDw2Ideal.nD Cert.RefDw2Ideal.τ).loc Cert.RefDw2Ideal.main_arg1) = m ((c.tc : Thread Cert.RefDw2Ideal.nD Cert.RefDw2Ideal.τ).loc Cert.RefDw2Ideal.main_arg1))
      ∧ r.2.sem = fun _ => 0)

def quiescent_BwdDw1 [hBwdDw1 : Cert.BwdDw1.Facts] : Prop :=
  ∀ (m : (ℓ : Loc Cert.BwdDw1.nD Cert.BwdDw1.τ Cert.BwdDw1.sig) → Buf (Elt Bits) ℓ) (g : Dev Cert.BwdDw1.nD → PrngReg), Pre_BwdDw1 m →
    θ_run (Cert.BwdDw1.defs (F := Bits)) (onTc (τ := Cert.BwdDw1.τ) (Cert.BwdDw1.main (F := Bits))) ⟨m, fun _ => 0, g⟩ (fun r => (∀ c : Dev Cert.BwdDw1.nD,
      r.2.mem ((c.tc : Thread Cert.BwdDw1.nD Cert.BwdDw1.τ).loc Cert.BwdDw1.main_arg0) = m ((c.tc : Thread Cert.BwdDw1.nD Cert.BwdDw1.τ).loc Cert.BwdDw1.main_arg0)
      ∧ r.2.mem ((c.tc : Thread Cert.BwdDw1.nD Cert.BwdDw1.τ).loc Cert.BwdDw1.main_arg1) = m ((c.tc : Thread Cert.BwdDw1.nD Cert.BwdDw1.τ).loc Cert.BwdDw1.main_arg1))
      ∧ r.2.sem = fun _ => 0)

def quiescent_BwdDw1Ideal [hBwdDw1Ideal : Cert.BwdDw1Ideal.Facts] : Prop :=
  ∀ (m : (ℓ : Loc Cert.BwdDw1Ideal.nD Cert.BwdDw1Ideal.τ Cert.BwdDw1Ideal.sig) → Buf (Elt Ideal) ℓ) (g : Dev Cert.BwdDw1Ideal.nD → PrngReg), Pre_BwdDw1Ideal m →
    θ_run (Cert.BwdDw1Ideal.defs (F := Ideal)) (onTc (τ := Cert.BwdDw1Ideal.τ) (Cert.BwdDw1Ideal.main (F := Ideal))) ⟨m, fun _ => 0, g⟩ (fun r => (∀ c : Dev Cert.BwdDw1Ideal.nD,
      r.2.mem ((c.tc : Thread Cert.BwdDw1Ideal.nD Cert.BwdDw1Ideal.τ).loc Cert.BwdDw1Ideal.main_arg0) = m ((c.tc : Thread Cert.BwdDw1Ideal.nD Cert.BwdDw1Ideal.τ).loc Cert.BwdDw1Ideal.main_arg0)
      ∧ r.2.mem ((c.tc : Thread Cert.BwdDw1Ideal.nD Cert.BwdDw1Ideal.τ).loc Cert.BwdDw1Ideal.main_arg1) = m ((c.tc : Thread Cert.BwdDw1Ideal.nD Cert.BwdDw1Ideal.τ).loc Cert.BwdDw1Ideal.main_arg1))
      ∧ r.2.sem = fun _ => 0)

def quiescent_RefDw1Ideal [hRefDw1Ideal : Cert.RefDw1Ideal.Facts] : Prop :=
  ∀ (m : (ℓ : Loc Cert.RefDw1Ideal.nD Cert.RefDw1Ideal.τ Cert.RefDw1Ideal.sig) → Buf (Elt Ideal) ℓ) (g : Dev Cert.RefDw1Ideal.nD → PrngReg), Pre_RefDw1Ideal m →
    θ_run (Cert.RefDw1Ideal.defs (F := Ideal)) (onTc (τ := Cert.RefDw1Ideal.τ) (Cert.RefDw1Ideal.main (F := Ideal))) ⟨m, fun _ => 0, g⟩ (fun r => (∀ c : Dev Cert.RefDw1Ideal.nD,
      r.2.mem ((c.tc : Thread Cert.RefDw1Ideal.nD Cert.RefDw1Ideal.τ).loc Cert.RefDw1Ideal.main_arg0) = m ((c.tc : Thread Cert.RefDw1Ideal.nD Cert.RefDw1Ideal.τ).loc Cert.RefDw1Ideal.main_arg0)
      ∧ r.2.mem ((c.tc : Thread Cert.RefDw1Ideal.nD Cert.RefDw1Ideal.τ).loc Cert.RefDw1Ideal.main_arg1) = m ((c.tc : Thread Cert.RefDw1Ideal.nD Cert.RefDw1Ideal.τ).loc Cert.RefDw1Ideal.main_arg1))
      ∧ r.2.sem = fun _ => 0)

def quiescent_BwdDwin [hBwdDwin : Cert.BwdDwin.Facts] : Prop :=
  ∀ (m : (ℓ : Loc Cert.BwdDwin.nD Cert.BwdDwin.τ Cert.BwdDwin.sig) → Buf (Elt Bits) ℓ) (g : Dev Cert.BwdDwin.nD → PrngReg), Pre_BwdDwin m →
    θ_run (Cert.BwdDwin.defs (F := Bits)) (onTc (τ := Cert.BwdDwin.τ) (Cert.BwdDwin.main (F := Bits))) ⟨m, fun _ => 0, g⟩ (fun r => (∀ c : Dev Cert.BwdDwin.nD,
      r.2.mem ((c.tc : Thread Cert.BwdDwin.nD Cert.BwdDwin.τ).loc Cert.BwdDwin.main_arg0) = m ((c.tc : Thread Cert.BwdDwin.nD Cert.BwdDwin.τ).loc Cert.BwdDwin.main_arg0)
      ∧ r.2.mem ((c.tc : Thread Cert.BwdDwin.nD Cert.BwdDwin.τ).loc Cert.BwdDwin.main_arg1) = m ((c.tc : Thread Cert.BwdDwin.nD Cert.BwdDwin.τ).loc Cert.BwdDwin.main_arg1))
      ∧ r.2.sem = fun _ => 0)

def quiescent_BwdDwinIdeal [hBwdDwinIdeal : Cert.BwdDwinIdeal.Facts] : Prop :=
  ∀ (m : (ℓ : Loc Cert.BwdDwinIdeal.nD Cert.BwdDwinIdeal.τ Cert.BwdDwinIdeal.sig) → Buf (Elt Ideal) ℓ) (g : Dev Cert.BwdDwinIdeal.nD → PrngReg), Pre_BwdDwinIdeal m →
    θ_run (Cert.BwdDwinIdeal.defs (F := Ideal)) (onTc (τ := Cert.BwdDwinIdeal.τ) (Cert.BwdDwinIdeal.main (F := Ideal))) ⟨m, fun _ => 0, g⟩ (fun r => (∀ c : Dev Cert.BwdDwinIdeal.nD,
      r.2.mem ((c.tc : Thread Cert.BwdDwinIdeal.nD Cert.BwdDwinIdeal.τ).loc Cert.BwdDwinIdeal.main_arg0) = m ((c.tc : Thread Cert.BwdDwinIdeal.nD Cert.BwdDwinIdeal.τ).loc Cert.BwdDwinIdeal.main_arg0)
      ∧ r.2.mem ((c.tc : Thread Cert.BwdDwinIdeal.nD Cert.BwdDwinIdeal.τ).loc Cert.BwdDwinIdeal.main_arg1) = m ((c.tc : Thread Cert.BwdDwinIdeal.nD Cert.BwdDwinIdeal.τ).loc Cert.BwdDwinIdeal.main_arg1))
      ∧ r.2.sem = fun _ => 0)

def quiescent_RefDwinIdeal [hRefDwinIdeal : Cert.RefDwinIdeal.Facts] : Prop :=
  ∀ (m : (ℓ : Loc Cert.RefDwinIdeal.nD Cert.RefDwinIdeal.τ Cert.RefDwinIdeal.sig) → Buf (Elt Ideal) ℓ) (g : Dev Cert.RefDwinIdeal.nD → PrngReg), Pre_RefDwinIdeal m →
    θ_run (Cert.RefDwinIdeal.defs (F := Ideal)) (onTc (τ := Cert.RefDwinIdeal.τ) (Cert.RefDwinIdeal.main (F := Ideal))) ⟨m, fun _ => 0, g⟩ (fun r => (∀ c : Dev Cert.RefDwinIdeal.nD,
      r.2.mem ((c.tc : Thread Cert.RefDwinIdeal.nD Cert.RefDwinIdeal.τ).loc Cert.RefDwinIdeal.main_arg0) = m ((c.tc : Thread Cert.RefDwinIdeal.nD Cert.RefDwinIdeal.τ).loc Cert.RefDwinIdeal.main_arg0)
      ∧ r.2.mem ((c.tc : Thread Cert.RefDwinIdeal.nD Cert.RefDwinIdeal.τ).loc Cert.RefDwinIdeal.main_arg1) = m ((c.tc : Thread Cert.RefDwinIdeal.nD Cert.RefDwinIdeal.τ).loc Cert.RefDwinIdeal.main_arg1))
      ∧ r.2.sem = fun _ => 0)

def quiescent_BwdDwo [hBwdDwo : Cert.BwdDwo.Facts] : Prop :=
  ∀ (m : (ℓ : Loc Cert.BwdDwo.nD Cert.BwdDwo.τ Cert.BwdDwo.sig) → Buf (Elt Bits) ℓ) (g : Dev Cert.BwdDwo.nD → PrngReg), Pre_BwdDwo m →
    θ_run (Cert.BwdDwo.defs (F := Bits)) (onTc (τ := Cert.BwdDwo.τ) (Cert.BwdDwo.main (F := Bits))) ⟨m, fun _ => 0, g⟩ (fun r => (∀ c : Dev Cert.BwdDwo.nD,
      r.2.mem ((c.tc : Thread Cert.BwdDwo.nD Cert.BwdDwo.τ).loc Cert.BwdDwo.main_arg0) = m ((c.tc : Thread Cert.BwdDwo.nD Cert.BwdDwo.τ).loc Cert.BwdDwo.main_arg0)
      ∧ r.2.mem ((c.tc : Thread Cert.BwdDwo.nD Cert.BwdDwo.τ).loc Cert.BwdDwo.main_arg1) = m ((c.tc : Thread Cert.BwdDwo.nD Cert.BwdDwo.τ).loc Cert.BwdDwo.main_arg1))
      ∧ r.2.sem = fun _ => 0)

def quiescent_BwdDwoIdeal [hBwdDwoIdeal : Cert.BwdDwoIdeal.Facts] : Prop :=
  ∀ (m : (ℓ : Loc Cert.BwdDwoIdeal.nD Cert.BwdDwoIdeal.τ Cert.BwdDwoIdeal.sig) → Buf (Elt Ideal) ℓ) (g : Dev Cert.BwdDwoIdeal.nD → PrngReg), Pre_BwdDwoIdeal m →
    θ_run (Cert.BwdDwoIdeal.defs (F := Ideal)) (onTc (τ := Cert.BwdDwoIdeal.τ) (Cert.BwdDwoIdeal.main (F := Ideal))) ⟨m, fun _ => 0, g⟩ (fun r => (∀ c : Dev Cert.BwdDwoIdeal.nD,
      r.2.mem ((c.tc : Thread Cert.BwdDwoIdeal.nD Cert.BwdDwoIdeal.τ).loc Cert.BwdDwoIdeal.main_arg0) = m ((c.tc : Thread Cert.BwdDwoIdeal.nD Cert.BwdDwoIdeal.τ).loc Cert.BwdDwoIdeal.main_arg0)
      ∧ r.2.mem ((c.tc : Thread Cert.BwdDwoIdeal.nD Cert.BwdDwoIdeal.τ).loc Cert.BwdDwoIdeal.main_arg1) = m ((c.tc : Thread Cert.BwdDwoIdeal.nD Cert.BwdDwoIdeal.τ).loc Cert.BwdDwoIdeal.main_arg1))
      ∧ r.2.sem = fun _ => 0)

def quiescent_RefDwoIdeal [hRefDwoIdeal : Cert.RefDwoIdeal.Facts] : Prop :=
  ∀ (m : (ℓ : Loc Cert.RefDwoIdeal.nD Cert.RefDwoIdeal.τ Cert.RefDwoIdeal.sig) → Buf (Elt Ideal) ℓ) (g : Dev Cert.RefDwoIdeal.nD → PrngReg), Pre_RefDwoIdeal m →
    θ_run (Cert.RefDwoIdeal.defs (F := Ideal)) (onTc (τ := Cert.RefDwoIdeal.τ) (Cert.RefDwoIdeal.main (F := Ideal))) ⟨m, fun _ => 0, g⟩ (fun r => (∀ c : Dev Cert.RefDwoIdeal.nD,
      r.2.mem ((c.tc : Thread Cert.RefDwoIdeal.nD Cert.RefDwoIdeal.τ).loc Cert.RefDwoIdeal.main_arg0) = m ((c.tc : Thread Cert.RefDwoIdeal.nD Cert.RefDwoIdeal.τ).loc Cert.RefDwoIdeal.main_arg0)
      ∧ r.2.mem ((c.tc : Thread Cert.RefDwoIdeal.nD Cert.RefDwoIdeal.τ).loc Cert.RefDwoIdeal.main_arg1) = m ((c.tc : Thread Cert.RefDwoIdeal.nD Cert.RefDwoIdeal.τ).loc Cert.RefDwoIdeal.main_arg1))
      ∧ r.2.sem = fun _ => 0)

def quiescent_BwdDh2 [hBwdDh2 : Cert.BwdDh2.Facts] : Prop :=
  ∀ (m : (ℓ : Loc Cert.BwdDh2.nD Cert.BwdDh2.τ Cert.BwdDh2.sig) → Buf (Elt Bits) ℓ) (g : Dev Cert.BwdDh2.nD → PrngReg), Pre_BwdDh2 m →
    θ_run (Cert.BwdDh2.defs (F := Bits)) (onTc (τ := Cert.BwdDh2.τ) (Cert.BwdDh2.main (F := Bits))) ⟨m, fun _ => 0, g⟩ (fun r => (∀ c : Dev Cert.BwdDh2.nD,
      r.2.mem ((c.tc : Thread Cert.BwdDh2.nD Cert.BwdDh2.τ).loc Cert.BwdDh2.main_arg0) = m ((c.tc : Thread Cert.BwdDh2.nD Cert.BwdDh2.τ).loc Cert.BwdDh2.main_arg0)
      ∧ r.2.mem ((c.tc : Thread Cert.BwdDh2.nD Cert.BwdDh2.τ).loc Cert.BwdDh2.main_arg1) = m ((c.tc : Thread Cert.BwdDh2.nD Cert.BwdDh2.τ).loc Cert.BwdDh2.main_arg1)
      ∧ r.2.mem ((c.tc : Thread Cert.BwdDh2.nD Cert.BwdDh2.τ).loc Cert.BwdDh2.main_arg2) = m ((c.tc : Thread Cert.BwdDh2.nD Cert.BwdDh2.τ).loc Cert.BwdDh2.main_arg2)
      ∧ r.2.mem ((c.tc : Thread Cert.BwdDh2.nD Cert.BwdDh2.τ).loc Cert.BwdDh2.main_arg3) = m ((c.tc : Thread Cert.BwdDh2.nD Cert.BwdDh2.τ).loc Cert.BwdDh2.main_arg3)
      ∧ r.2.mem ((c.tc : Thread Cert.BwdDh2.nD Cert.BwdDh2.τ).loc Cert.BwdDh2.main_arg4) = m ((c.tc : Thread Cert.BwdDh2.nD Cert.BwdDh2.τ).loc Cert.BwdDh2.main_arg4))
      ∧ r.2.sem = fun _ => 0)

def quiescent_BwdDh2Ideal [hBwdDh2Ideal : Cert.BwdDh2Ideal.Facts] : Prop :=
  ∀ (m : (ℓ : Loc Cert.BwdDh2Ideal.nD Cert.BwdDh2Ideal.τ Cert.BwdDh2Ideal.sig) → Buf (Elt Ideal) ℓ) (g : Dev Cert.BwdDh2Ideal.nD → PrngReg), Pre_BwdDh2Ideal m →
    θ_run (Cert.BwdDh2Ideal.defs (F := Ideal)) (onTc (τ := Cert.BwdDh2Ideal.τ) (Cert.BwdDh2Ideal.main (F := Ideal))) ⟨m, fun _ => 0, g⟩ (fun r => (∀ c : Dev Cert.BwdDh2Ideal.nD,
      r.2.mem ((c.tc : Thread Cert.BwdDh2Ideal.nD Cert.BwdDh2Ideal.τ).loc Cert.BwdDh2Ideal.main_arg0) = m ((c.tc : Thread Cert.BwdDh2Ideal.nD Cert.BwdDh2Ideal.τ).loc Cert.BwdDh2Ideal.main_arg0)
      ∧ r.2.mem ((c.tc : Thread Cert.BwdDh2Ideal.nD Cert.BwdDh2Ideal.τ).loc Cert.BwdDh2Ideal.main_arg1) = m ((c.tc : Thread Cert.BwdDh2Ideal.nD Cert.BwdDh2Ideal.τ).loc Cert.BwdDh2Ideal.main_arg1)
      ∧ r.2.mem ((c.tc : Thread Cert.BwdDh2Ideal.nD Cert.BwdDh2Ideal.τ).loc Cert.BwdDh2Ideal.main_arg2) = m ((c.tc : Thread Cert.BwdDh2Ideal.nD Cert.BwdDh2Ideal.τ).loc Cert.BwdDh2Ideal.main_arg2)
      ∧ r.2.mem ((c.tc : Thread Cert.BwdDh2Ideal.nD Cert.BwdDh2Ideal.τ).loc Cert.BwdDh2Ideal.main_arg3) = m ((c.tc : Thread Cert.BwdDh2Ideal.nD Cert.BwdDh2Ideal.τ).loc Cert.BwdDh2Ideal.main_arg3)
      ∧ r.2.mem ((c.tc : Thread Cert.BwdDh2Ideal.nD Cert.BwdDh2Ideal.τ).loc Cert.BwdDh2Ideal.main_arg4) = m ((c.tc : Thread Cert.BwdDh2Ideal.nD Cert.BwdDh2Ideal.τ).loc Cert.BwdDh2Ideal.main_arg4))
      ∧ r.2.sem = fun _ => 0)

def quiescent_RefDh2Ideal [hRefDh2Ideal : Cert.RefDh2Ideal.Facts] : Prop :=
  ∀ (m : (ℓ : Loc Cert.RefDh2Ideal.nD Cert.RefDh2Ideal.τ Cert.RefDh2Ideal.sig) → Buf (Elt Ideal) ℓ) (g : Dev Cert.RefDh2Ideal.nD → PrngReg), Pre_RefDh2Ideal m →
    θ_run (Cert.RefDh2Ideal.defs (F := Ideal)) (onTc (τ := Cert.RefDh2Ideal.τ) (Cert.RefDh2Ideal.main (F := Ideal))) ⟨m, fun _ => 0, g⟩ (fun r => (∀ c : Dev Cert.RefDh2Ideal.nD,
      r.2.mem ((c.tc : Thread Cert.RefDh2Ideal.nD Cert.RefDh2Ideal.τ).loc Cert.RefDh2Ideal.main_arg0) = m ((c.tc : Thread Cert.RefDh2Ideal.nD Cert.RefDh2Ideal.τ).loc Cert.RefDh2Ideal.main_arg0)
      ∧ r.2.mem ((c.tc : Thread Cert.RefDh2Ideal.nD Cert.RefDh2Ideal.τ).loc Cert.RefDh2Ideal.main_arg1) = m ((c.tc : Thread Cert.RefDh2Ideal.nD Cert.RefDh2Ideal.τ).loc Cert.RefDh2Ideal.main_arg1)
      ∧ r.2.mem ((c.tc : Thread Cert.RefDh2Ideal.nD Cert.RefDh2Ideal.τ).loc Cert.RefDh2Ideal.main_arg2) = m ((c.tc : Thread Cert.RefDh2Ideal.nD Cert.RefDh2Ideal.τ).loc Cert.RefDh2Ideal.main_arg2)
      ∧ r.2.mem ((c.tc : Thread Cert.RefDh2Ideal.nD Cert.RefDh2Ideal.τ).loc Cert.RefDh2Ideal.main_arg3) = m ((c.tc : Thread Cert.RefDh2Ideal.nD Cert.RefDh2Ideal.τ).loc Cert.RefDh2Ideal.main_arg3)
      ∧ r.2.mem ((c.tc : Thread Cert.RefDh2Ideal.nD Cert.RefDh2Ideal.τ).loc Cert.RefDh2Ideal.main_arg4) = m ((c.tc : Thread Cert.RefDh2Ideal.nD Cert.RefDh2Ideal.τ).loc Cert.RefDh2Ideal.main_arg4))
      ∧ r.2.sem = fun _ => 0)

def quiescent_FwdX2 [hFwdX2 : Cert.FwdX2.Facts] : Prop :=
  ∀ (m : (ℓ : Loc Cert.FwdX2.nD Cert.FwdX2.τ Cert.FwdX2.sig) → Buf (Elt Bits) ℓ) (g : Dev Cert.FwdX2.nD → PrngReg), Pre_FwdX2 m →
    θ_run (Cert.FwdX2.defs (F := Bits)) (onTc (τ := Cert.FwdX2.τ) (Cert.FwdX2.main (F := Bits))) ⟨m, fun _ => 0, g⟩ (fun r => (∀ c : Dev Cert.FwdX2.nD,
      r.2.mem ((c.tc : Thread Cert.FwdX2.nD Cert.FwdX2.τ).loc Cert.FwdX2.main_arg0) = m ((c.tc : Thread Cert.FwdX2.nD Cert.FwdX2.τ).loc Cert.FwdX2.main_arg0)
      ∧ r.2.mem ((c.tc : Thread Cert.FwdX2.nD Cert.FwdX2.τ).loc Cert.FwdX2.main_arg1) = m ((c.tc : Thread Cert.FwdX2.nD Cert.FwdX2.τ).loc Cert.FwdX2.main_arg1)
      ∧ r.2.mem ((c.tc : Thread Cert.FwdX2.nD Cert.FwdX2.τ).loc Cert.FwdX2.main_arg2) = m ((c.tc : Thread Cert.FwdX2.nD Cert.FwdX2.τ).loc Cert.FwdX2.main_arg2))
      ∧ r.2.sem = fun _ => 0)

def quiescent_FwdX2Ideal [hFwdX2Ideal : Cert.FwdX2Ideal.Facts] : Prop :=
  ∀ (m : (ℓ : Loc Cert.FwdX2Ideal.nD Cert.FwdX2Ideal.τ Cert.FwdX2Ideal.sig) → Buf (Elt Ideal) ℓ) (g : Dev Cert.FwdX2Ideal.nD → PrngReg), Pre_FwdX2Ideal m →
    θ_run (Cert.FwdX2Ideal.defs (F := Ideal)) (onTc (τ := Cert.FwdX2Ideal.τ) (Cert.FwdX2Ideal.main (F := Ideal))) ⟨m, fun _ => 0, g⟩ (fun r => (∀ c : Dev Cert.FwdX2Ideal.nD,
      r.2.mem ((c.tc : Thread Cert.FwdX2Ideal.nD Cert.FwdX2Ideal.τ).loc Cert.FwdX2Ideal.main_arg0) = m ((c.tc : Thread Cert.FwdX2Ideal.nD Cert.FwdX2Ideal.τ).loc Cert.FwdX2Ideal.main_arg0)
      ∧ r.2.mem ((c.tc : Thread Cert.FwdX2Ideal.nD Cert.FwdX2Ideal.τ).loc Cert.FwdX2Ideal.main_arg1) = m ((c.tc : Thread Cert.FwdX2Ideal.nD Cert.FwdX2Ideal.τ).loc Cert.FwdX2Ideal.main_arg1)
      ∧ r.2.mem ((c.tc : Thread Cert.FwdX2Ideal.nD Cert.FwdX2Ideal.τ).loc Cert.FwdX2Ideal.main_arg2) = m ((c.tc : Thread Cert.FwdX2Ideal.nD Cert.FwdX2Ideal.τ).loc Cert.FwdX2Ideal.main_arg2))
      ∧ r.2.sem = fun _ => 0)

def quiescent_RefX2Ideal [hRefX2Ideal : Cert.RefX2Ideal.Facts] : Prop :=
  ∀ (m : (ℓ : Loc Cert.RefX2Ideal.nD Cert.RefX2Ideal.τ Cert.RefX2Ideal.sig) → Buf (Elt Ideal) ℓ) (g : Dev Cert.RefX2Ideal.nD → PrngReg), Pre_RefX2Ideal m →
    θ_run (Cert.RefX2Ideal.defs (F := Ideal)) (onTc (τ := Cert.RefX2Ideal.τ) (Cert.RefX2Ideal.main (F := Ideal))) ⟨m, fun _ => 0, g⟩ (fun r => (∀ c : Dev Cert.RefX2Ideal.nD,
      r.2.mem ((c.tc : Thread Cert.RefX2Ideal.nD Cert.RefX2Ideal.τ).loc Cert.RefX2Ideal.main_arg0) = m ((c.tc : Thread Cert.RefX2Ideal.nD Cert.RefX2Ideal.τ).loc Cert.RefX2Ideal.main_arg0)
      ∧ r.2.mem ((c.tc : Thread Cert.RefX2Ideal.nD Cert.RefX2Ideal.τ).loc Cert.RefX2Ideal.main_arg1) = m ((c.tc : Thread Cert.RefX2Ideal.nD Cert.RefX2Ideal.τ).loc Cert.RefX2Ideal.main_arg1)
      ∧ r.2.mem ((c.tc : Thread Cert.RefX2Ideal.nD Cert.RefX2Ideal.τ).loc Cert.RefX2Ideal.main_arg2) = m ((c.tc : Thread Cert.RefX2Ideal.nD Cert.RefX2Ideal.τ).loc Cert.RefX2Ideal.main_arg2))
      ∧ r.2.sem = fun _ => 0)

def quiescent_BwdDh [hBwdDh : Cert.BwdDh.Facts] : Prop :=
  ∀ (m : (ℓ : Loc Cert.BwdDh.nD Cert.BwdDh.τ Cert.BwdDh.sig) → Buf (Elt Bits) ℓ) (g : Dev Cert.BwdDh.nD → PrngReg), Pre_BwdDh m →
    θ_run (Cert.BwdDh.defs (F := Bits)) (onTc (τ := Cert.BwdDh.τ) (Cert.BwdDh.main (F := Bits))) ⟨m, fun _ => 0, g⟩ (fun r => (∀ c : Dev Cert.BwdDh.nD,
      r.2.mem ((c.tc : Thread Cert.BwdDh.nD Cert.BwdDh.τ).loc Cert.BwdDh.main_arg0) = m ((c.tc : Thread Cert.BwdDh.nD Cert.BwdDh.τ).loc Cert.BwdDh.main_arg0)
      ∧ r.2.mem ((c.tc : Thread Cert.BwdDh.nD Cert.BwdDh.τ).loc Cert.BwdDh.main_arg1) = m ((c.tc : Thread Cert.BwdDh.nD Cert.BwdDh.τ).loc Cert.BwdDh.main_arg1)
      ∧ r.2.mem ((c.tc : Thread Cert.BwdDh.nD Cert.BwdDh.τ).loc Cert.BwdDh.main_arg2) = m ((c.tc : Thread Cert.BwdDh.nD Cert.BwdDh.τ).loc Cert.BwdDh.main_arg2)
      ∧ r.2.mem ((c.tc : Thread Cert.BwdDh.nD Cert.BwdDh.τ).loc Cert.BwdDh.main_arg3) = m ((c.tc : Thread Cert.BwdDh.nD Cert.BwdDh.τ).loc Cert.BwdDh.main_arg3)
      ∧ r.2.mem ((c.tc : Thread Cert.BwdDh.nD Cert.BwdDh.τ).loc Cert.BwdDh.main_arg4) = m ((c.tc : Thread Cert.BwdDh.nD Cert.BwdDh.τ).loc Cert.BwdDh.main_arg4))
      ∧ r.2.sem = fun _ => 0)

def quiescent_BwdDhIdeal [hBwdDhIdeal : Cert.BwdDhIdeal.Facts] : Prop :=
  ∀ (m : (ℓ : Loc Cert.BwdDhIdeal.nD Cert.BwdDhIdeal.τ Cert.BwdDhIdeal.sig) → Buf (Elt Ideal) ℓ) (g : Dev Cert.BwdDhIdeal.nD → PrngReg), Pre_BwdDhIdeal m →
    θ_run (Cert.BwdDhIdeal.defs (F := Ideal)) (onTc (τ := Cert.BwdDhIdeal.τ) (Cert.BwdDhIdeal.main (F := Ideal))) ⟨m, fun _ => 0, g⟩ (fun r => (∀ c : Dev Cert.BwdDhIdeal.nD,
      r.2.mem ((c.tc : Thread Cert.BwdDhIdeal.nD Cert.BwdDhIdeal.τ).loc Cert.BwdDhIdeal.main_arg0) = m ((c.tc : Thread Cert.BwdDhIdeal.nD Cert.BwdDhIdeal.τ).loc Cert.BwdDhIdeal.main_arg0)
      ∧ r.2.mem ((c.tc : Thread Cert.BwdDhIdeal.nD Cert.BwdDhIdeal.τ).loc Cert.BwdDhIdeal.main_arg1) = m ((c.tc : Thread Cert.BwdDhIdeal.nD Cert.BwdDhIdeal.τ).loc Cert.BwdDhIdeal.main_arg1)
      ∧ r.2.mem ((c.tc : Thread Cert.BwdDhIdeal.nD Cert.BwdDhIdeal.τ).loc Cert.BwdDhIdeal.main_arg2) = m ((c.tc : Thread Cert.BwdDhIdeal.nD Cert.BwdDhIdeal.τ).loc Cert.BwdDhIdeal.main_arg2)
      ∧ r.2.mem ((c.tc : Thread Cert.BwdDhIdeal.nD Cert.BwdDhIdeal.τ).loc Cert.BwdDhIdeal.main_arg3) = m ((c.tc : Thread Cert.BwdDhIdeal.nD Cert.BwdDhIdeal.τ).loc Cert.BwdDhIdeal.main_arg3)
      ∧ r.2.mem ((c.tc : Thread Cert.BwdDhIdeal.nD Cert.BwdDhIdeal.τ).loc Cert.BwdDhIdeal.main_arg4) = m ((c.tc : Thread Cert.BwdDhIdeal.nD Cert.BwdDhIdeal.τ).loc Cert.BwdDhIdeal.main_arg4))
      ∧ r.2.sem = fun _ => 0)

def quiescent_RefDhIdeal [hRefDhIdeal : Cert.RefDhIdeal.Facts] : Prop :=
  ∀ (m : (ℓ : Loc Cert.RefDhIdeal.nD Cert.RefDhIdeal.τ Cert.RefDhIdeal.sig) → Buf (Elt Ideal) ℓ) (g : Dev Cert.RefDhIdeal.nD → PrngReg), Pre_RefDhIdeal m →
    θ_run (Cert.RefDhIdeal.defs (F := Ideal)) (onTc (τ := Cert.RefDhIdeal.τ) (Cert.RefDhIdeal.main (F := Ideal))) ⟨m, fun _ => 0, g⟩ (fun r => (∀ c : Dev Cert.RefDhIdeal.nD,
      r.2.mem ((c.tc : Thread Cert.RefDhIdeal.nD Cert.RefDhIdeal.τ).loc Cert.RefDhIdeal.main_arg0) = m ((c.tc : Thread Cert.RefDhIdeal.nD Cert.RefDhIdeal.τ).loc Cert.RefDhIdeal.main_arg0)
      ∧ r.2.mem ((c.tc : Thread Cert.RefDhIdeal.nD Cert.RefDhIdeal.τ).loc Cert.RefDhIdeal.main_arg1) = m ((c.tc : Thread Cert.RefDhIdeal.nD Cert.RefDhIdeal.τ).loc Cert.RefDhIdeal.main_arg1)
      ∧ r.2.mem ((c.tc : Thread Cert.RefDhIdeal.nD Cert.RefDhIdeal.τ).loc Cert.RefDhIdeal.main_arg2) = m ((c.tc : Thread Cert.RefDhIdeal.nD Cert.RefDhIdeal.τ).loc Cert.RefDhIdeal.main_arg2)
      ∧ r.2.mem ((c.tc : Thread Cert.RefDhIdeal.nD Cert.RefDhIdeal.τ).loc Cert.RefDhIdeal.main_arg3) = m ((c.tc : Thread Cert.RefDhIdeal.nD Cert.RefDhIdeal.τ).loc Cert.RefDhIdeal.main_arg3)
      ∧ r.2.mem ((c.tc : Thread Cert.RefDhIdeal.nD Cert.RefDhIdeal.τ).loc Cert.RefDhIdeal.main_arg4) = m ((c.tc : Thread Cert.RefDhIdeal.nD Cert.RefDhIdeal.τ).loc Cert.RefDhIdeal.main_arg4))
      ∧ r.2.sem = fun _ => 0)

def quiescent_BwdConvB [hBwdConvB : Cert.BwdConvB.Facts] : Prop :=
  ∀ (m : (ℓ : Loc Cert.BwdConvB.nD Cert.BwdConvB.τ Cert.BwdConvB.sig) → Buf (Elt Bits) ℓ) (g : Dev Cert.BwdConvB.nD → PrngReg), Pre_BwdConvB m →
    θ_run (Cert.BwdConvB.defs (F := Bits)) (onTc (τ := Cert.BwdConvB.τ) (Cert.BwdConvB.main (F := Bits))) ⟨m, fun _ => 0, g⟩ (fun r => (∀ c : Dev Cert.BwdConvB.nD,
      r.2.mem ((c.tc : Thread Cert.BwdConvB.nD Cert.BwdConvB.τ).loc Cert.BwdConvB.main_arg0) = m ((c.tc : Thread Cert.BwdConvB.nD Cert.BwdConvB.τ).loc Cert.BwdConvB.main_arg0)
      ∧ r.2.mem ((c.tc : Thread Cert.BwdConvB.nD Cert.BwdConvB.τ).loc Cert.BwdConvB.main_arg1) = m ((c.tc : Thread Cert.BwdConvB.nD Cert.BwdConvB.τ).loc Cert.BwdConvB.main_arg1)
      ∧ r.2.mem ((c.tc : Thread Cert.BwdConvB.nD Cert.BwdConvB.τ).loc Cert.BwdConvB.main_arg2) = m ((c.tc : Thread Cert.BwdConvB.nD Cert.BwdConvB.τ).loc Cert.BwdConvB.main_arg2)
      ∧ r.2.mem ((c.tc : Thread Cert.BwdConvB.nD Cert.BwdConvB.τ).loc Cert.BwdConvB.main_arg3) = m ((c.tc : Thread Cert.BwdConvB.nD Cert.BwdConvB.τ).loc Cert.BwdConvB.main_arg3))
      ∧ r.2.sem = fun _ => 0)

def quiescent_BwdConvBIdeal [hBwdConvBIdeal : Cert.BwdConvBIdeal.Facts] : Prop :=
  ∀ (m : (ℓ : Loc Cert.BwdConvBIdeal.nD Cert.BwdConvBIdeal.τ Cert.BwdConvBIdeal.sig) → Buf (Elt Ideal) ℓ) (g : Dev Cert.BwdConvBIdeal.nD → PrngReg), Pre_BwdConvBIdeal m →
    θ_run (Cert.BwdConvBIdeal.defs (F := Ideal)) (onTc (τ := Cert.BwdConvBIdeal.τ) (Cert.BwdConvBIdeal.main (F := Ideal))) ⟨m, fun _ => 0, g⟩ (fun r => (∀ c : Dev Cert.BwdConvBIdeal.nD,
      r.2.mem ((c.tc : Thread Cert.BwdConvBIdeal.nD Cert.BwdConvBIdeal.τ).loc Cert.BwdConvBIdeal.main_arg0) = m ((c.tc : Thread Cert.BwdConvBIdeal.nD Cert.BwdConvBIdeal.τ).loc Cert.BwdConvBIdeal.main_arg0)
      ∧ r.2.mem ((c.tc : Thread Cert.BwdConvBIdeal.nD Cert.BwdConvBIdeal.τ).loc Cert.BwdConvBIdeal.main_arg1) = m ((c.tc : Thread Cert.BwdConvBIdeal.nD Cert.BwdConvBIdeal.τ).loc Cert.BwdConvBIdeal.main_arg1)
      ∧ r.2.mem ((c.tc : Thread Cert.BwdConvBIdeal.nD Cert.BwdConvBIdeal.τ).loc Cert.BwdConvBIdeal.main_arg2) = m ((c.tc : Thread Cert.BwdConvBIdeal.nD Cert.BwdConvBIdeal.τ).loc Cert.BwdConvBIdeal.main_arg2)
      ∧ r.2.mem ((c.tc : Thread Cert.BwdConvBIdeal.nD Cert.BwdConvBIdeal.τ).loc Cert.BwdConvBIdeal.main_arg3) = m ((c.tc : Thread Cert.BwdConvBIdeal.nD Cert.BwdConvBIdeal.τ).loc Cert.BwdConvBIdeal.main_arg3))
      ∧ r.2.sem = fun _ => 0)

def quiescent_RefConvBIdeal [hRefConvBIdeal : Cert.RefConvBIdeal.Facts] : Prop :=
  ∀ (m : (ℓ : Loc Cert.RefConvBIdeal.nD Cert.RefConvBIdeal.τ Cert.RefConvBIdeal.sig) → Buf (Elt Ideal) ℓ) (g : Dev Cert.RefConvBIdeal.nD → PrngReg), Pre_RefConvBIdeal m →
    θ_run (Cert.RefConvBIdeal.defs (F := Ideal)) (onTc (τ := Cert.RefConvBIdeal.τ) (Cert.RefConvBIdeal.main (F := Ideal))) ⟨m, fun _ => 0, g⟩ (fun r => (∀ c : Dev Cert.RefConvBIdeal.nD,
      r.2.mem ((c.tc : Thread Cert.RefConvBIdeal.nD Cert.RefConvBIdeal.τ).loc Cert.RefConvBIdeal.main_arg0) = m ((c.tc : Thread Cert.RefConvBIdeal.nD Cert.RefConvBIdeal.τ).loc Cert.RefConvBIdeal.main_arg0)
      ∧ r.2.mem ((c.tc : Thread Cert.RefConvBIdeal.nD Cert.RefConvBIdeal.τ).loc Cert.RefConvBIdeal.main_arg1) = m ((c.tc : Thread Cert.RefConvBIdeal.nD Cert.RefConvBIdeal.τ).loc Cert.RefConvBIdeal.main_arg1)
      ∧ r.2.mem ((c.tc : Thread Cert.RefConvBIdeal.nD Cert.RefConvBIdeal.τ).loc Cert.RefConvBIdeal.main_arg2) = m ((c.tc : Thread Cert.RefConvBIdeal.nD Cert.RefConvBIdeal.τ).loc Cert.RefConvBIdeal.main_arg2)
      ∧ r.2.mem ((c.tc : Thread Cert.RefConvBIdeal.nD Cert.RefConvBIdeal.τ).loc Cert.RefConvBIdeal.main_arg3) = m ((c.tc : Thread Cert.RefConvBIdeal.nD Cert.RefConvBIdeal.τ).loc Cert.RefConvBIdeal.main_arg3))
      ∧ r.2.sem = fun _ => 0)

def quiescent_FwdF [hFwdF : Cert.FwdF.Facts] : Prop :=
  ∀ (m : (ℓ : Loc Cert.FwdF.nD Cert.FwdF.τ Cert.FwdF.sig) → Buf (Elt Bits) ℓ) (g : Dev Cert.FwdF.nD → PrngReg), Pre_FwdF m →
    θ_run (Cert.FwdF.defs (F := Bits)) (onTc (τ := Cert.FwdF.τ) (Cert.FwdF.main (F := Bits))) ⟨m, fun _ => 0, g⟩ (fun r => (∀ c : Dev Cert.FwdF.nD,
      r.2.mem ((c.tc : Thread Cert.FwdF.nD Cert.FwdF.τ).loc Cert.FwdF.main_arg0) = m ((c.tc : Thread Cert.FwdF.nD Cert.FwdF.τ).loc Cert.FwdF.main_arg0)
      ∧ r.2.mem ((c.tc : Thread Cert.FwdF.nD Cert.FwdF.τ).loc Cert.FwdF.main_arg1) = m ((c.tc : Thread Cert.FwdF.nD Cert.FwdF.τ).loc Cert.FwdF.main_arg1)
      ∧ r.2.mem ((c.tc : Thread Cert.FwdF.nD Cert.FwdF.τ).loc Cert.FwdF.main_arg2) = m ((c.tc : Thread Cert.FwdF.nD Cert.FwdF.τ).loc Cert.FwdF.main_arg2))
      ∧ r.2.sem = fun _ => 0)

def quiescent_FwdFIdeal [hFwdFIdeal : Cert.FwdFIdeal.Facts] : Prop :=
  ∀ (m : (ℓ : Loc Cert.FwdFIdeal.nD Cert.FwdFIdeal.τ Cert.FwdFIdeal.sig) → Buf (Elt Ideal) ℓ) (g : Dev Cert.FwdFIdeal.nD → PrngReg), Pre_FwdFIdeal m →
    θ_run (Cert.FwdFIdeal.defs (F := Ideal)) (onTc (τ := Cert.FwdFIdeal.τ) (Cert.FwdFIdeal.main (F := Ideal))) ⟨m, fun _ => 0, g⟩ (fun r => (∀ c : Dev Cert.FwdFIdeal.nD,
      r.2.mem ((c.tc : Thread Cert.FwdFIdeal.nD Cert.FwdFIdeal.τ).loc Cert.FwdFIdeal.main_arg0) = m ((c.tc : Thread Cert.FwdFIdeal.nD Cert.FwdFIdeal.τ).loc Cert.FwdFIdeal.main_arg0)
      ∧ r.2.mem ((c.tc : Thread Cert.FwdFIdeal.nD Cert.FwdFIdeal.τ).loc Cert.FwdFIdeal.main_arg1) = m ((c.tc : Thread Cert.FwdFIdeal.nD Cert.FwdFIdeal.τ).loc Cert.FwdFIdeal.main_arg1)
      ∧ r.2.mem ((c.tc : Thread Cert.FwdFIdeal.nD Cert.FwdFIdeal.τ).loc Cert.FwdFIdeal.main_arg2) = m ((c.tc : Thread Cert.FwdFIdeal.nD Cert.FwdFIdeal.τ).loc Cert.FwdFIdeal.main_arg2))
      ∧ r.2.sem = fun _ => 0)

def quiescent_RefFIdeal [hRefFIdeal : Cert.RefFIdeal.Facts] : Prop :=
  ∀ (m : (ℓ : Loc Cert.RefFIdeal.nD Cert.RefFIdeal.τ Cert.RefFIdeal.sig) → Buf (Elt Ideal) ℓ) (g : Dev Cert.RefFIdeal.nD → PrngReg), Pre_RefFIdeal m →
    θ_run (Cert.RefFIdeal.defs (F := Ideal)) (onTc (τ := Cert.RefFIdeal.τ) (Cert.RefFIdeal.main (F := Ideal))) ⟨m, fun _ => 0, g⟩ (fun r => (∀ c : Dev Cert.RefFIdeal.nD,
      r.2.mem ((c.tc : Thread Cert.RefFIdeal.nD Cert.RefFIdeal.τ).loc Cert.RefFIdeal.main_arg0) = m ((c.tc : Thread Cert.RefFIdeal.nD Cert.RefFIdeal.τ).loc Cert.RefFIdeal.main_arg0)
      ∧ r.2.mem ((c.tc : Thread Cert.RefFIdeal.nD Cert.RefFIdeal.τ).loc Cert.RefFIdeal.main_arg1) = m ((c.tc : Thread Cert.RefFIdeal.nD Cert.RefFIdeal.τ).loc Cert.RefFIdeal.main_arg1)
      ∧ r.2.mem ((c.tc : Thread Cert.RefFIdeal.nD Cert.RefFIdeal.τ).loc Cert.RefFIdeal.main_arg2) = m ((c.tc : Thread Cert.RefFIdeal.nD Cert.RefFIdeal.τ).loc Cert.RefFIdeal.main_arg2))
      ∧ r.2.sem = fun _ => 0)

def quiescent_BwdDwa [hBwdDwa : Cert.BwdDwa.Facts] : Prop :=
  ∀ (m : (ℓ : Loc Cert.BwdDwa.nD Cert.BwdDwa.τ Cert.BwdDwa.sig) → Buf (Elt Bits) ℓ) (g : Dev Cert.BwdDwa.nD → PrngReg), Pre_BwdDwa m →
    θ_run (Cert.BwdDwa.defs (F := Bits)) (onTc (τ := Cert.BwdDwa.τ) (Cert.BwdDwa.main (F := Bits))) ⟨m, fun _ => 0, g⟩ (fun r => (∀ c : Dev Cert.BwdDwa.nD,
      r.2.mem ((c.tc : Thread Cert.BwdDwa.nD Cert.BwdDwa.τ).loc Cert.BwdDwa.main_arg0) = m ((c.tc : Thread Cert.BwdDwa.nD Cert.BwdDwa.τ).loc Cert.BwdDwa.main_arg0)
      ∧ r.2.mem ((c.tc : Thread Cert.BwdDwa.nD Cert.BwdDwa.τ).loc Cert.BwdDwa.main_arg1) = m ((c.tc : Thread Cert.BwdDwa.nD Cert.BwdDwa.τ).loc Cert.BwdDwa.main_arg1))
      ∧ r.2.sem = fun _ => 0)

def quiescent_BwdDwaIdeal [hBwdDwaIdeal : Cert.BwdDwaIdeal.Facts] : Prop :=
  ∀ (m : (ℓ : Loc Cert.BwdDwaIdeal.nD Cert.BwdDwaIdeal.τ Cert.BwdDwaIdeal.sig) → Buf (Elt Ideal) ℓ) (g : Dev Cert.BwdDwaIdeal.nD → PrngReg), Pre_BwdDwaIdeal m →
    θ_run (Cert.BwdDwaIdeal.defs (F := Ideal)) (onTc (τ := Cert.BwdDwaIdeal.τ) (Cert.BwdDwaIdeal.main (F := Ideal))) ⟨m, fun _ => 0, g⟩ (fun r => (∀ c : Dev Cert.BwdDwaIdeal.nD,
      r.2.mem ((c.tc : Thread Cert.BwdDwaIdeal.nD Cert.BwdDwaIdeal.τ).loc Cert.BwdDwaIdeal.main_arg0) = m ((c.tc : Thread Cert.BwdDwaIdeal.nD Cert.BwdDwaIdeal.τ).loc Cert.BwdDwaIdeal.main_arg0)
      ∧ r.2.mem ((c.tc : Thread Cert.BwdDwaIdeal.nD Cert.BwdDwaIdeal.τ).loc Cert.BwdDwaIdeal.main_arg1) = m ((c.tc : Thread Cert.BwdDwaIdeal.nD Cert.BwdDwaIdeal.τ).loc Cert.BwdDwaIdeal.main_arg1))
      ∧ r.2.sem = fun _ => 0)

def quiescent_RefDwaIdeal [hRefDwaIdeal : Cert.RefDwaIdeal.Facts] : Prop :=
  ∀ (m : (ℓ : Loc Cert.RefDwaIdeal.nD Cert.RefDwaIdeal.τ Cert.RefDwaIdeal.sig) → Buf (Elt Ideal) ℓ) (g : Dev Cert.RefDwaIdeal.nD → PrngReg), Pre_RefDwaIdeal m →
    θ_run (Cert.RefDwaIdeal.defs (F := Ideal)) (onTc (τ := Cert.RefDwaIdeal.τ) (Cert.RefDwaIdeal.main (F := Ideal))) ⟨m, fun _ => 0, g⟩ (fun r => (∀ c : Dev Cert.RefDwaIdeal.nD,
      r.2.mem ((c.tc : Thread Cert.RefDwaIdeal.nD Cert.RefDwaIdeal.τ).loc Cert.RefDwaIdeal.main_arg0) = m ((c.tc : Thread Cert.RefDwaIdeal.nD Cert.RefDwaIdeal.τ).loc Cert.RefDwaIdeal.main_arg0)
      ∧ r.2.mem ((c.tc : Thread Cert.RefDwaIdeal.nD Cert.RefDwaIdeal.τ).loc Cert.RefDwaIdeal.main_arg1) = m ((c.tc : Thread Cert.RefDwaIdeal.nD Cert.RefDwaIdeal.τ).loc Cert.RefDwaIdeal.main_arg1))
      ∧ r.2.sem = fun _ => 0)

def quiescent_BwdDwb [hBwdDwb : Cert.BwdDwb.Facts] : Prop :=
  ∀ (m : (ℓ : Loc Cert.BwdDwb.nD Cert.BwdDwb.τ Cert.BwdDwb.sig) → Buf (Elt Bits) ℓ) (g : Dev Cert.BwdDwb.nD → PrngReg), Pre_BwdDwb m →
    θ_run (Cert.BwdDwb.defs (F := Bits)) (onTc (τ := Cert.BwdDwb.τ) (Cert.BwdDwb.main (F := Bits))) ⟨m, fun _ => 0, g⟩ (fun r => (∀ c : Dev Cert.BwdDwb.nD,
      r.2.mem ((c.tc : Thread Cert.BwdDwb.nD Cert.BwdDwb.τ).loc Cert.BwdDwb.main_arg0) = m ((c.tc : Thread Cert.BwdDwb.nD Cert.BwdDwb.τ).loc Cert.BwdDwb.main_arg0)
      ∧ r.2.mem ((c.tc : Thread Cert.BwdDwb.nD Cert.BwdDwb.τ).loc Cert.BwdDwb.main_arg1) = m ((c.tc : Thread Cert.BwdDwb.nD Cert.BwdDwb.τ).loc Cert.BwdDwb.main_arg1))
      ∧ r.2.sem = fun _ => 0)

def quiescent_BwdDwbIdeal [hBwdDwbIdeal : Cert.BwdDwbIdeal.Facts] : Prop :=
  ∀ (m : (ℓ : Loc Cert.BwdDwbIdeal.nD Cert.BwdDwbIdeal.τ Cert.BwdDwbIdeal.sig) → Buf (Elt Ideal) ℓ) (g : Dev Cert.BwdDwbIdeal.nD → PrngReg), Pre_BwdDwbIdeal m →
    θ_run (Cert.BwdDwbIdeal.defs (F := Ideal)) (onTc (τ := Cert.BwdDwbIdeal.τ) (Cert.BwdDwbIdeal.main (F := Ideal))) ⟨m, fun _ => 0, g⟩ (fun r => (∀ c : Dev Cert.BwdDwbIdeal.nD,
      r.2.mem ((c.tc : Thread Cert.BwdDwbIdeal.nD Cert.BwdDwbIdeal.τ).loc Cert.BwdDwbIdeal.main_arg0) = m ((c.tc : Thread Cert.BwdDwbIdeal.nD Cert.BwdDwbIdeal.τ).loc Cert.BwdDwbIdeal.main_arg0)
      ∧ r.2.mem ((c.tc : Thread Cert.BwdDwbIdeal.nD Cert.BwdDwbIdeal.τ).loc Cert.BwdDwbIdeal.main_arg1) = m ((c.tc : Thread Cert.BwdDwbIdeal.nD Cert.BwdDwbIdeal.τ).loc Cert.BwdDwbIdeal.main_arg1))
      ∧ r.2.sem = fun _ => 0)

def quiescent_RefDwbIdeal [hRefDwbIdeal : Cert.RefDwbIdeal.Facts] : Prop :=
  ∀ (m : (ℓ : Loc Cert.RefDwbIdeal.nD Cert.RefDwbIdeal.τ Cert.RefDwbIdeal.sig) → Buf (Elt Ideal) ℓ) (g : Dev Cert.RefDwbIdeal.nD → PrngReg), Pre_RefDwbIdeal m →
    θ_run (Cert.RefDwbIdeal.defs (F := Ideal)) (onTc (τ := Cert.RefDwbIdeal.τ) (Cert.RefDwbIdeal.main (F := Ideal))) ⟨m, fun _ => 0, g⟩ (fun r => (∀ c : Dev Cert.RefDwbIdeal.nD,
      r.2.mem ((c.tc : Thread Cert.RefDwbIdeal.nD Cert.RefDwbIdeal.τ).loc Cert.RefDwbIdeal.main_arg0) = m ((c.tc : Thread Cert.RefDwbIdeal.nD Cert.RefDwbIdeal.τ).loc Cert.RefDwbIdeal.main_arg0)
      ∧ r.2.mem ((c.tc : Thread Cert.RefDwbIdeal.nD Cert.RefDwbIdeal.τ).loc Cert.RefDwbIdeal.main_arg1) = m ((c.tc : Thread Cert.RefDwbIdeal.nD Cert.RefDwbIdeal.τ).loc Cert.RefDwbIdeal.main_arg1))
      ∧ r.2.sem = fun _ => 0)

def quiescent_FwdYa [hFwdYa : Cert.FwdYa.Facts] : Prop :=
  ∀ (m : (ℓ : Loc Cert.FwdYa.nD Cert.FwdYa.τ Cert.FwdYa.sig) → Buf (Elt Bits) ℓ) (g : Dev Cert.FwdYa.nD → PrngReg), Pre_FwdYa m →
    θ_run (Cert.FwdYa.defs (F := Bits)) (onTc (τ := Cert.FwdYa.τ) (Cert.FwdYa.main (F := Bits))) ⟨m, fun _ => 0, g⟩ (fun r => (∀ c : Dev Cert.FwdYa.nD,
      r.2.mem ((c.tc : Thread Cert.FwdYa.nD Cert.FwdYa.τ).loc Cert.FwdYa.main_arg0) = m ((c.tc : Thread Cert.FwdYa.nD Cert.FwdYa.τ).loc Cert.FwdYa.main_arg0)
      ∧ r.2.mem ((c.tc : Thread Cert.FwdYa.nD Cert.FwdYa.τ).loc Cert.FwdYa.main_arg1) = m ((c.tc : Thread Cert.FwdYa.nD Cert.FwdYa.τ).loc Cert.FwdYa.main_arg1)
      ∧ r.2.mem ((c.tc : Thread Cert.FwdYa.nD Cert.FwdYa.τ).loc Cert.FwdYa.main_arg2) = m ((c.tc : Thread Cert.FwdYa.nD Cert.FwdYa.τ).loc Cert.FwdYa.main_arg2)
      ∧ r.2.mem ((c.tc : Thread Cert.FwdYa.nD Cert.FwdYa.τ).loc Cert.FwdYa.main_arg3) = m ((c.tc : Thread Cert.FwdYa.nD Cert.FwdYa.τ).loc Cert.FwdYa.main_arg3))
      ∧ r.2.sem = fun _ => 0)

def quiescent_FwdYaIdeal [hFwdYaIdeal : Cert.FwdYaIdeal.Facts] : Prop :=
  ∀ (m : (ℓ : Loc Cert.FwdYaIdeal.nD Cert.FwdYaIdeal.τ Cert.FwdYaIdeal.sig) → Buf (Elt Ideal) ℓ) (g : Dev Cert.FwdYaIdeal.nD → PrngReg), Pre_FwdYaIdeal m →
    θ_run (Cert.FwdYaIdeal.defs (F := Ideal)) (onTc (τ := Cert.FwdYaIdeal.τ) (Cert.FwdYaIdeal.main (F := Ideal))) ⟨m, fun _ => 0, g⟩ (fun r => (∀ c : Dev Cert.FwdYaIdeal.nD,
      r.2.mem ((c.tc : Thread Cert.FwdYaIdeal.nD Cert.FwdYaIdeal.τ).loc Cert.FwdYaIdeal.main_arg0) = m ((c.tc : Thread Cert.FwdYaIdeal.nD Cert.FwdYaIdeal.τ).loc Cert.FwdYaIdeal.main_arg0)
      ∧ r.2.mem ((c.tc : Thread Cert.FwdYaIdeal.nD Cert.FwdYaIdeal.τ).loc Cert.FwdYaIdeal.main_arg1) = m ((c.tc : Thread Cert.FwdYaIdeal.nD Cert.FwdYaIdeal.τ).loc Cert.FwdYaIdeal.main_arg1)
      ∧ r.2.mem ((c.tc : Thread Cert.FwdYaIdeal.nD Cert.FwdYaIdeal.τ).loc Cert.FwdYaIdeal.main_arg2) = m ((c.tc : Thread Cert.FwdYaIdeal.nD Cert.FwdYaIdeal.τ).loc Cert.FwdYaIdeal.main_arg2)
      ∧ r.2.mem ((c.tc : Thread Cert.FwdYaIdeal.nD Cert.FwdYaIdeal.τ).loc Cert.FwdYaIdeal.main_arg3) = m ((c.tc : Thread Cert.FwdYaIdeal.nD Cert.FwdYaIdeal.τ).loc Cert.FwdYaIdeal.main_arg3))
      ∧ r.2.sem = fun _ => 0)

def quiescent_RefYaIdeal [hRefYaIdeal : Cert.RefYaIdeal.Facts] : Prop :=
  ∀ (m : (ℓ : Loc Cert.RefYaIdeal.nD Cert.RefYaIdeal.τ Cert.RefYaIdeal.sig) → Buf (Elt Ideal) ℓ) (g : Dev Cert.RefYaIdeal.nD → PrngReg), Pre_RefYaIdeal m →
    θ_run (Cert.RefYaIdeal.defs (F := Ideal)) (onTc (τ := Cert.RefYaIdeal.τ) (Cert.RefYaIdeal.main (F := Ideal))) ⟨m, fun _ => 0, g⟩ (fun r => (∀ c : Dev Cert.RefYaIdeal.nD,
      r.2.mem ((c.tc : Thread Cert.RefYaIdeal.nD Cert.RefYaIdeal.τ).loc Cert.RefYaIdeal.main_arg0) = m ((c.tc : Thread Cert.RefYaIdeal.nD Cert.RefYaIdeal.τ).loc Cert.RefYaIdeal.main_arg0)
      ∧ r.2.mem ((c.tc : Thread Cert.RefYaIdeal.nD Cert.RefYaIdeal.τ).loc Cert.RefYaIdeal.main_arg1) = m ((c.tc : Thread Cert.RefYaIdeal.nD Cert.RefYaIdeal.τ).loc Cert.RefYaIdeal.main_arg1)
      ∧ r.2.mem ((c.tc : Thread Cert.RefYaIdeal.nD Cert.RefYaIdeal.τ).loc Cert.RefYaIdeal.main_arg2) = m ((c.tc : Thread Cert.RefYaIdeal.nD Cert.RefYaIdeal.τ).loc Cert.RefYaIdeal.main_arg2)
      ∧ r.2.mem ((c.tc : Thread Cert.RefYaIdeal.nD Cert.RefYaIdeal.τ).loc Cert.RefYaIdeal.main_arg3) = m ((c.tc : Thread Cert.RefYaIdeal.nD Cert.RefYaIdeal.τ).loc Cert.RefYaIdeal.main_arg3))
      ∧ r.2.sem = fun _ => 0)

def quiescent_FwdYb [hFwdYb : Cert.FwdYb.Facts] : Prop :=
  ∀ (m : (ℓ : Loc Cert.FwdYb.nD Cert.FwdYb.τ Cert.FwdYb.sig) → Buf (Elt Bits) ℓ) (g : Dev Cert.FwdYb.nD → PrngReg), Pre_FwdYb m →
    θ_run (Cert.FwdYb.defs (F := Bits)) (onTc (τ := Cert.FwdYb.τ) (Cert.FwdYb.main (F := Bits))) ⟨m, fun _ => 0, g⟩ (fun r => (∀ c : Dev Cert.FwdYb.nD,
      r.2.mem ((c.tc : Thread Cert.FwdYb.nD Cert.FwdYb.τ).loc Cert.FwdYb.main_arg0) = m ((c.tc : Thread Cert.FwdYb.nD Cert.FwdYb.τ).loc Cert.FwdYb.main_arg0)
      ∧ r.2.mem ((c.tc : Thread Cert.FwdYb.nD Cert.FwdYb.τ).loc Cert.FwdYb.main_arg1) = m ((c.tc : Thread Cert.FwdYb.nD Cert.FwdYb.τ).loc Cert.FwdYb.main_arg1)
      ∧ r.2.mem ((c.tc : Thread Cert.FwdYb.nD Cert.FwdYb.τ).loc Cert.FwdYb.main_arg2) = m ((c.tc : Thread Cert.FwdYb.nD Cert.FwdYb.τ).loc Cert.FwdYb.main_arg2))
      ∧ r.2.sem = fun _ => 0)

def quiescent_FwdYbIdeal [hFwdYbIdeal : Cert.FwdYbIdeal.Facts] : Prop :=
  ∀ (m : (ℓ : Loc Cert.FwdYbIdeal.nD Cert.FwdYbIdeal.τ Cert.FwdYbIdeal.sig) → Buf (Elt Ideal) ℓ) (g : Dev Cert.FwdYbIdeal.nD → PrngReg), Pre_FwdYbIdeal m →
    θ_run (Cert.FwdYbIdeal.defs (F := Ideal)) (onTc (τ := Cert.FwdYbIdeal.τ) (Cert.FwdYbIdeal.main (F := Ideal))) ⟨m, fun _ => 0, g⟩ (fun r => (∀ c : Dev Cert.FwdYbIdeal.nD,
      r.2.mem ((c.tc : Thread Cert.FwdYbIdeal.nD Cert.FwdYbIdeal.τ).loc Cert.FwdYbIdeal.main_arg0) = m ((c.tc : Thread Cert.FwdYbIdeal.nD Cert.FwdYbIdeal.τ).loc Cert.FwdYbIdeal.main_arg0)
      ∧ r.2.mem ((c.tc : Thread Cert.FwdYbIdeal.nD Cert.FwdYbIdeal.τ).loc Cert.FwdYbIdeal.main_arg1) = m ((c.tc : Thread Cert.FwdYbIdeal.nD Cert.FwdYbIdeal.τ).loc Cert.FwdYbIdeal.main_arg1)
      ∧ r.2.mem ((c.tc : Thread Cert.FwdYbIdeal.nD Cert.FwdYbIdeal.τ).loc Cert.FwdYbIdeal.main_arg2) = m ((c.tc : Thread Cert.FwdYbIdeal.nD Cert.FwdYbIdeal.τ).loc Cert.FwdYbIdeal.main_arg2))
      ∧ r.2.sem = fun _ => 0)

def quiescent_RefYbIdeal [hRefYbIdeal : Cert.RefYbIdeal.Facts] : Prop :=
  ∀ (m : (ℓ : Loc Cert.RefYbIdeal.nD Cert.RefYbIdeal.τ Cert.RefYbIdeal.sig) → Buf (Elt Ideal) ℓ) (g : Dev Cert.RefYbIdeal.nD → PrngReg), Pre_RefYbIdeal m →
    θ_run (Cert.RefYbIdeal.defs (F := Ideal)) (onTc (τ := Cert.RefYbIdeal.τ) (Cert.RefYbIdeal.main (F := Ideal))) ⟨m, fun _ => 0, g⟩ (fun r => (∀ c : Dev Cert.RefYbIdeal.nD,
      r.2.mem ((c.tc : Thread Cert.RefYbIdeal.nD Cert.RefYbIdeal.τ).loc Cert.RefYbIdeal.main_arg0) = m ((c.tc : Thread Cert.RefYbIdeal.nD Cert.RefYbIdeal.τ).loc Cert.RefYbIdeal.main_arg0)
      ∧ r.2.mem ((c.tc : Thread Cert.RefYbIdeal.nD Cert.RefYbIdeal.τ).loc Cert.RefYbIdeal.main_arg1) = m ((c.tc : Thread Cert.RefYbIdeal.nD Cert.RefYbIdeal.τ).loc Cert.RefYbIdeal.main_arg1)
      ∧ r.2.mem ((c.tc : Thread Cert.RefYbIdeal.nD Cert.RefYbIdeal.τ).loc Cert.RefYbIdeal.main_arg2) = m ((c.tc : Thread Cert.RefYbIdeal.nD Cert.RefYbIdeal.τ).loc Cert.RefYbIdeal.main_arg2))
      ∧ r.2.sem = fun _ => 0)

def quiescent_FwdX1 [hFwdX1 : Cert.FwdX1.Facts] : Prop :=
  ∀ (m : (ℓ : Loc Cert.FwdX1.nD Cert.FwdX1.τ Cert.FwdX1.sig) → Buf (Elt Bits) ℓ) (g : Dev Cert.FwdX1.nD → PrngReg), Pre_FwdX1 m →
    θ_run (Cert.FwdX1.defs (F := Bits)) (onTc (τ := Cert.FwdX1.τ) (Cert.FwdX1.main (F := Bits))) ⟨m, fun _ => 0, g⟩ (fun r => (∀ c : Dev Cert.FwdX1.nD,
      r.2.mem ((c.tc : Thread Cert.FwdX1.nD Cert.FwdX1.τ).loc Cert.FwdX1.main_arg0) = m ((c.tc : Thread Cert.FwdX1.nD Cert.FwdX1.τ).loc Cert.FwdX1.main_arg0)
      ∧ r.2.mem ((c.tc : Thread Cert.FwdX1.nD Cert.FwdX1.τ).loc Cert.FwdX1.main_arg1) = m ((c.tc : Thread Cert.FwdX1.nD Cert.FwdX1.τ).loc Cert.FwdX1.main_arg1)
      ∧ r.2.mem ((c.tc : Thread Cert.FwdX1.nD Cert.FwdX1.τ).loc Cert.FwdX1.main_arg2) = m ((c.tc : Thread Cert.FwdX1.nD Cert.FwdX1.τ).loc Cert.FwdX1.main_arg2)
      ∧ r.2.mem ((c.tc : Thread Cert.FwdX1.nD Cert.FwdX1.τ).loc Cert.FwdX1.main_arg3) = m ((c.tc : Thread Cert.FwdX1.nD Cert.FwdX1.τ).loc Cert.FwdX1.main_arg3)
      ∧ r.2.mem ((c.tc : Thread Cert.FwdX1.nD Cert.FwdX1.τ).loc Cert.FwdX1.main_arg4) = m ((c.tc : Thread Cert.FwdX1.nD Cert.FwdX1.τ).loc Cert.FwdX1.main_arg4))
      ∧ r.2.sem = fun _ => 0)

def quiescent_FwdX1Ideal [hFwdX1Ideal : Cert.FwdX1Ideal.Facts] : Prop :=
  ∀ (m : (ℓ : Loc Cert.FwdX1Ideal.nD Cert.FwdX1Ideal.τ Cert.FwdX1Ideal.sig) → Buf (Elt Ideal) ℓ) (g : Dev Cert.FwdX1Ideal.nD → PrngReg), Pre_FwdX1Ideal m →
    θ_run (Cert.FwdX1Ideal.defs (F := Ideal)) (onTc (τ := Cert.FwdX1Ideal.τ) (Cert.FwdX1Ideal.main (F := Ideal))) ⟨m, fun _ => 0, g⟩ (fun r => (∀ c : Dev Cert.FwdX1Ideal.nD,
      r.2.mem ((c.tc : Thread Cert.FwdX1Ideal.nD Cert.FwdX1Ideal.τ).loc Cert.FwdX1Ideal.main_arg0) = m ((c.tc : Thread Cert.FwdX1Ideal.nD Cert.FwdX1Ideal.τ).loc Cert.FwdX1Ideal.main_arg0)
      ∧ r.2.mem ((c.tc : Thread Cert.FwdX1Ideal.nD Cert.FwdX1Ideal.τ).loc Cert.FwdX1Ideal.main_arg1) = m ((c.tc : Thread Cert.FwdX1Ideal.nD Cert.FwdX1Ideal.τ).loc Cert.FwdX1Ideal.main_arg1)
      ∧ r.2.mem ((c.tc : Thread Cert.FwdX1Ideal.nD Cert.FwdX1Ideal.τ).loc Cert.FwdX1Ideal.main_arg2) = m ((c.tc : Thread Cert.FwdX1Ideal.nD Cert.FwdX1Ideal.τ).loc Cert.FwdX1Ideal.main_arg2)
      ∧ r.2.mem ((c.tc : Thread Cert.FwdX1Ideal.nD Cert.FwdX1Ideal.τ).loc Cert.FwdX1Ideal.main_arg3) = m ((c.tc : Thread Cert.FwdX1Ideal.nD Cert.FwdX1Ideal.τ).loc Cert.FwdX1Ideal.main_arg3)
      ∧ r.2.mem ((c.tc : Thread Cert.FwdX1Ideal.nD Cert.FwdX1Ideal.τ).loc Cert.FwdX1Ideal.main_arg4) = m ((c.tc : Thread Cert.FwdX1Ideal.nD Cert.FwdX1Ideal.τ).loc Cert.FwdX1Ideal.main_arg4))
      ∧ r.2.sem = fun _ => 0)

def quiescent_RefX1Ideal [hRefX1Ideal : Cert.RefX1Ideal.Facts] : Prop :=
  ∀ (m : (ℓ : Loc Cert.RefX1Ideal.nD Cert.RefX1Ideal.τ Cert.RefX1Ideal.sig) → Buf (Elt Ideal) ℓ) (g : Dev Cert.RefX1Ideal.nD → PrngReg), Pre_RefX1Ideal m →
    θ_run (Cert.RefX1Ideal.defs (F := Ideal)) (onTc (τ := Cert.RefX1Ideal.τ) (Cert.RefX1Ideal.main (F := Ideal))) ⟨m, fun _ => 0, g⟩ (fun r => (∀ c : Dev Cert.RefX1Ideal.nD,
      r.2.mem ((c.tc : Thread Cert.RefX1Ideal.nD Cert.RefX1Ideal.τ).loc Cert.RefX1Ideal.main_arg0) = m ((c.tc : Thread Cert.RefX1Ideal.nD Cert.RefX1Ideal.τ).loc Cert.RefX1Ideal.main_arg0)
      ∧ r.2.mem ((c.tc : Thread Cert.RefX1Ideal.nD Cert.RefX1Ideal.τ).loc Cert.RefX1Ideal.main_arg1) = m ((c.tc : Thread Cert.RefX1Ideal.nD Cert.RefX1Ideal.τ).loc Cert.RefX1Ideal.main_arg1)
      ∧ r.2.mem ((c.tc : Thread Cert.RefX1Ideal.nD Cert.RefX1Ideal.τ).loc Cert.RefX1Ideal.main_arg2) = m ((c.tc : Thread Cert.RefX1Ideal.nD Cert.RefX1Ideal.τ).loc Cert.RefX1Ideal.main_arg2)
      ∧ r.2.mem ((c.tc : Thread Cert.RefX1Ideal.nD Cert.RefX1Ideal.τ).loc Cert.RefX1Ideal.main_arg3) = m ((c.tc : Thread Cert.RefX1Ideal.nD Cert.RefX1Ideal.τ).loc Cert.RefX1Ideal.main_arg3)
      ∧ r.2.mem ((c.tc : Thread Cert.RefX1Ideal.nD Cert.RefX1Ideal.τ).loc Cert.RefX1Ideal.main_arg4) = m ((c.tc : Thread Cert.RefX1Ideal.nD Cert.RefX1Ideal.τ).loc Cert.RefX1Ideal.main_arg4))
      ∧ r.2.sem = fun _ => 0)

def quiescent_BwdDm [hBwdDm : Cert.BwdDm.Facts] : Prop :=
  ∀ (m : (ℓ : Loc Cert.BwdDm.nD Cert.BwdDm.τ Cert.BwdDm.sig) → Buf (Elt Bits) ℓ) (g : Dev Cert.BwdDm.nD → PrngReg), Pre_BwdDm m →
    θ_run (Cert.BwdDm.defs (F := Bits)) (onTc (τ := Cert.BwdDm.τ) (Cert.BwdDm.main (F := Bits))) ⟨m, fun _ => 0, g⟩ (fun r => (∀ c : Dev Cert.BwdDm.nD,
      r.2.mem ((c.tc : Thread Cert.BwdDm.nD Cert.BwdDm.τ).loc Cert.BwdDm.main_arg0) = m ((c.tc : Thread Cert.BwdDm.nD Cert.BwdDm.τ).loc Cert.BwdDm.main_arg0)
      ∧ r.2.mem ((c.tc : Thread Cert.BwdDm.nD Cert.BwdDm.τ).loc Cert.BwdDm.main_arg1) = m ((c.tc : Thread Cert.BwdDm.nD Cert.BwdDm.τ).loc Cert.BwdDm.main_arg1)
      ∧ r.2.mem ((c.tc : Thread Cert.BwdDm.nD Cert.BwdDm.τ).loc Cert.BwdDm.main_arg2) = m ((c.tc : Thread Cert.BwdDm.nD Cert.BwdDm.τ).loc Cert.BwdDm.main_arg2)
      ∧ r.2.mem ((c.tc : Thread Cert.BwdDm.nD Cert.BwdDm.τ).loc Cert.BwdDm.main_arg3) = m ((c.tc : Thread Cert.BwdDm.nD Cert.BwdDm.τ).loc Cert.BwdDm.main_arg3)
      ∧ r.2.mem ((c.tc : Thread Cert.BwdDm.nD Cert.BwdDm.τ).loc Cert.BwdDm.main_arg4) = m ((c.tc : Thread Cert.BwdDm.nD Cert.BwdDm.τ).loc Cert.BwdDm.main_arg4))
      ∧ r.2.sem = fun _ => 0)

def quiescent_BwdDmIdeal [hBwdDmIdeal : Cert.BwdDmIdeal.Facts] : Prop :=
  ∀ (m : (ℓ : Loc Cert.BwdDmIdeal.nD Cert.BwdDmIdeal.τ Cert.BwdDmIdeal.sig) → Buf (Elt Ideal) ℓ) (g : Dev Cert.BwdDmIdeal.nD → PrngReg), Pre_BwdDmIdeal m →
    θ_run (Cert.BwdDmIdeal.defs (F := Ideal)) (onTc (τ := Cert.BwdDmIdeal.τ) (Cert.BwdDmIdeal.main (F := Ideal))) ⟨m, fun _ => 0, g⟩ (fun r => (∀ c : Dev Cert.BwdDmIdeal.nD,
      r.2.mem ((c.tc : Thread Cert.BwdDmIdeal.nD Cert.BwdDmIdeal.τ).loc Cert.BwdDmIdeal.main_arg0) = m ((c.tc : Thread Cert.BwdDmIdeal.nD Cert.BwdDmIdeal.τ).loc Cert.BwdDmIdeal.main_arg0)
      ∧ r.2.mem ((c.tc : Thread Cert.BwdDmIdeal.nD Cert.BwdDmIdeal.τ).loc Cert.BwdDmIdeal.main_arg1) = m ((c.tc : Thread Cert.BwdDmIdeal.nD Cert.BwdDmIdeal.τ).loc Cert.BwdDmIdeal.main_arg1)
      ∧ r.2.mem ((c.tc : Thread Cert.BwdDmIdeal.nD Cert.BwdDmIdeal.τ).loc Cert.BwdDmIdeal.main_arg2) = m ((c.tc : Thread Cert.BwdDmIdeal.nD Cert.BwdDmIdeal.τ).loc Cert.BwdDmIdeal.main_arg2)
      ∧ r.2.mem ((c.tc : Thread Cert.BwdDmIdeal.nD Cert.BwdDmIdeal.τ).loc Cert.BwdDmIdeal.main_arg3) = m ((c.tc : Thread Cert.BwdDmIdeal.nD Cert.BwdDmIdeal.τ).loc Cert.BwdDmIdeal.main_arg3)
      ∧ r.2.mem ((c.tc : Thread Cert.BwdDmIdeal.nD Cert.BwdDmIdeal.τ).loc Cert.BwdDmIdeal.main_arg4) = m ((c.tc : Thread Cert.BwdDmIdeal.nD Cert.BwdDmIdeal.τ).loc Cert.BwdDmIdeal.main_arg4))
      ∧ r.2.sem = fun _ => 0)

def quiescent_RefDmIdeal [hRefDmIdeal : Cert.RefDmIdeal.Facts] : Prop :=
  ∀ (m : (ℓ : Loc Cert.RefDmIdeal.nD Cert.RefDmIdeal.τ Cert.RefDmIdeal.sig) → Buf (Elt Ideal) ℓ) (g : Dev Cert.RefDmIdeal.nD → PrngReg), Pre_RefDmIdeal m →
    θ_run (Cert.RefDmIdeal.defs (F := Ideal)) (onTc (τ := Cert.RefDmIdeal.τ) (Cert.RefDmIdeal.main (F := Ideal))) ⟨m, fun _ => 0, g⟩ (fun r => (∀ c : Dev Cert.RefDmIdeal.nD,
      r.2.mem ((c.tc : Thread Cert.RefDmIdeal.nD Cert.RefDmIdeal.τ).loc Cert.RefDmIdeal.main_arg0) = m ((c.tc : Thread Cert.RefDmIdeal.nD Cert.RefDmIdeal.τ).loc Cert.RefDmIdeal.main_arg0)
      ∧ r.2.mem ((c.tc : Thread Cert.RefDmIdeal.nD Cert.RefDmIdeal.τ).loc Cert.RefDmIdeal.main_arg1) = m ((c.tc : Thread Cert.RefDmIdeal.nD Cert.RefDmIdeal.τ).loc Cert.RefDmIdeal.main_arg1)
      ∧ r.2.mem ((c.tc : Thread Cert.RefDmIdeal.nD Cert.RefDmIdeal.τ).loc Cert.RefDmIdeal.main_arg2) = m ((c.tc : Thread Cert.RefDmIdeal.nD Cert.RefDmIdeal.τ).loc Cert.RefDmIdeal.main_arg2)
      ∧ r.2.mem ((c.tc : Thread Cert.RefDmIdeal.nD Cert.RefDmIdeal.τ).loc Cert.RefDmIdeal.main_arg3) = m ((c.tc : Thread Cert.RefDmIdeal.nD Cert.RefDmIdeal.τ).loc Cert.RefDmIdeal.main_arg3)
      ∧ r.2.mem ((c.tc : Thread Cert.RefDmIdeal.nD Cert.RefDmIdeal.τ).loc Cert.RefDmIdeal.main_arg4) = m ((c.tc : Thread Cert.RefDmIdeal.nD Cert.RefDmIdeal.τ).loc Cert.RefDmIdeal.main_arg4))
      ∧ r.2.sem = fun _ => 0)

def quiescent_FwdZ [hFwdZ : Cert.FwdZ.Facts] : Prop :=
  ∀ (m : (ℓ : Loc Cert.FwdZ.nD Cert.FwdZ.τ Cert.FwdZ.sig) → Buf (Elt Bits) ℓ) (g : Dev Cert.FwdZ.nD → PrngReg), Pre_FwdZ m →
    θ_run (Cert.FwdZ.defs (F := Bits)) (onTc (τ := Cert.FwdZ.τ) (Cert.FwdZ.main (F := Bits))) ⟨m, fun _ => 0, g⟩ (fun r => (∀ c : Dev Cert.FwdZ.nD,
      r.2.mem ((c.tc : Thread Cert.FwdZ.nD Cert.FwdZ.τ).loc Cert.FwdZ.main_arg0) = m ((c.tc : Thread Cert.FwdZ.nD Cert.FwdZ.τ).loc Cert.FwdZ.main_arg0)
      ∧ r.2.mem ((c.tc : Thread Cert.FwdZ.nD Cert.FwdZ.τ).loc Cert.FwdZ.main_arg1) = m ((c.tc : Thread Cert.FwdZ.nD Cert.FwdZ.τ).loc Cert.FwdZ.main_arg1)
      ∧ r.2.mem ((c.tc : Thread Cert.FwdZ.nD Cert.FwdZ.τ).loc Cert.FwdZ.main_arg2) = m ((c.tc : Thread Cert.FwdZ.nD Cert.FwdZ.τ).loc Cert.FwdZ.main_arg2)
      ∧ r.2.mem ((c.tc : Thread Cert.FwdZ.nD Cert.FwdZ.τ).loc Cert.FwdZ.main_arg3) = m ((c.tc : Thread Cert.FwdZ.nD Cert.FwdZ.τ).loc Cert.FwdZ.main_arg3))
      ∧ r.2.sem = fun _ => 0)

def quiescent_FwdZIdeal [hFwdZIdeal : Cert.FwdZIdeal.Facts] : Prop :=
  ∀ (m : (ℓ : Loc Cert.FwdZIdeal.nD Cert.FwdZIdeal.τ Cert.FwdZIdeal.sig) → Buf (Elt Ideal) ℓ) (g : Dev Cert.FwdZIdeal.nD → PrngReg), Pre_FwdZIdeal m →
    θ_run (Cert.FwdZIdeal.defs (F := Ideal)) (onTc (τ := Cert.FwdZIdeal.τ) (Cert.FwdZIdeal.main (F := Ideal))) ⟨m, fun _ => 0, g⟩ (fun r => (∀ c : Dev Cert.FwdZIdeal.nD,
      r.2.mem ((c.tc : Thread Cert.FwdZIdeal.nD Cert.FwdZIdeal.τ).loc Cert.FwdZIdeal.main_arg0) = m ((c.tc : Thread Cert.FwdZIdeal.nD Cert.FwdZIdeal.τ).loc Cert.FwdZIdeal.main_arg0)
      ∧ r.2.mem ((c.tc : Thread Cert.FwdZIdeal.nD Cert.FwdZIdeal.τ).loc Cert.FwdZIdeal.main_arg1) = m ((c.tc : Thread Cert.FwdZIdeal.nD Cert.FwdZIdeal.τ).loc Cert.FwdZIdeal.main_arg1)
      ∧ r.2.mem ((c.tc : Thread Cert.FwdZIdeal.nD Cert.FwdZIdeal.τ).loc Cert.FwdZIdeal.main_arg2) = m ((c.tc : Thread Cert.FwdZIdeal.nD Cert.FwdZIdeal.τ).loc Cert.FwdZIdeal.main_arg2)
      ∧ r.2.mem ((c.tc : Thread Cert.FwdZIdeal.nD Cert.FwdZIdeal.τ).loc Cert.FwdZIdeal.main_arg3) = m ((c.tc : Thread Cert.FwdZIdeal.nD Cert.FwdZIdeal.τ).loc Cert.FwdZIdeal.main_arg3))
      ∧ r.2.sem = fun _ => 0)

def quiescent_RefZIdeal [hRefZIdeal : Cert.RefZIdeal.Facts] : Prop :=
  ∀ (m : (ℓ : Loc Cert.RefZIdeal.nD Cert.RefZIdeal.τ Cert.RefZIdeal.sig) → Buf (Elt Ideal) ℓ) (g : Dev Cert.RefZIdeal.nD → PrngReg), Pre_RefZIdeal m →
    θ_run (Cert.RefZIdeal.defs (F := Ideal)) (onTc (τ := Cert.RefZIdeal.τ) (Cert.RefZIdeal.main (F := Ideal))) ⟨m, fun _ => 0, g⟩ (fun r => (∀ c : Dev Cert.RefZIdeal.nD,
      r.2.mem ((c.tc : Thread Cert.RefZIdeal.nD Cert.RefZIdeal.τ).loc Cert.RefZIdeal.main_arg0) = m ((c.tc : Thread Cert.RefZIdeal.nD Cert.RefZIdeal.τ).loc Cert.RefZIdeal.main_arg0)
      ∧ r.2.mem ((c.tc : Thread Cert.RefZIdeal.nD Cert.RefZIdeal.τ).loc Cert.RefZIdeal.main_arg1) = m ((c.tc : Thread Cert.RefZIdeal.nD Cert.RefZIdeal.τ).loc Cert.RefZIdeal.main_arg1)
      ∧ r.2.mem ((c.tc : Thread Cert.RefZIdeal.nD Cert.RefZIdeal.τ).loc Cert.RefZIdeal.main_arg2) = m ((c.tc : Thread Cert.RefZIdeal.nD Cert.RefZIdeal.τ).loc Cert.RefZIdeal.main_arg2)
      ∧ r.2.mem ((c.tc : Thread Cert.RefZIdeal.nD Cert.RefZIdeal.τ).loc Cert.RefZIdeal.main_arg3) = m ((c.tc : Thread Cert.RefZIdeal.nD Cert.RefZIdeal.τ).loc Cert.RefZIdeal.main_arg3))
      ∧ r.2.sem = fun _ => 0)

def quiescent_BwdDu3 [hBwdDu3 : Cert.BwdDu3.Facts] : Prop :=
  ∀ (m : (ℓ : Loc Cert.BwdDu3.nD Cert.BwdDu3.τ Cert.BwdDu3.sig) → Buf (Elt Bits) ℓ) (g : Dev Cert.BwdDu3.nD → PrngReg), Pre_BwdDu3 m →
    θ_run (Cert.BwdDu3.defs (F := Bits)) (onTc (τ := Cert.BwdDu3.τ) (Cert.BwdDu3.main (F := Bits))) ⟨m, fun _ => 0, g⟩ (fun r => (∀ c : Dev Cert.BwdDu3.nD,
      r.2.mem ((c.tc : Thread Cert.BwdDu3.nD Cert.BwdDu3.τ).loc Cert.BwdDu3.main_arg0) = m ((c.tc : Thread Cert.BwdDu3.nD Cert.BwdDu3.τ).loc Cert.BwdDu3.main_arg0)
      ∧ r.2.mem ((c.tc : Thread Cert.BwdDu3.nD Cert.BwdDu3.τ).loc Cert.BwdDu3.main_arg1) = m ((c.tc : Thread Cert.BwdDu3.nD Cert.BwdDu3.τ).loc Cert.BwdDu3.main_arg1)
      ∧ r.2.mem ((c.tc : Thread Cert.BwdDu3.nD Cert.BwdDu3.τ).loc Cert.BwdDu3.main_arg2) = m ((c.tc : Thread Cert.BwdDu3.nD Cert.BwdDu3.τ).loc Cert.BwdDu3.main_arg2)
      ∧ r.2.mem ((c.tc : Thread Cert.BwdDu3.nD Cert.BwdDu3.τ).loc Cert.BwdDu3.main_arg3) = m ((c.tc : Thread Cert.BwdDu3.nD Cert.BwdDu3.τ).loc Cert.BwdDu3.main_arg3)
      ∧ r.2.mem ((c.tc : Thread Cert.BwdDu3.nD Cert.BwdDu3.τ).loc Cert.BwdDu3.main_arg4) = m ((c.tc : Thread Cert.BwdDu3.nD Cert.BwdDu3.τ).loc Cert.BwdDu3.main_arg4))
      ∧ r.2.sem = fun _ => 0)

def quiescent_BwdDu3Ideal [hBwdDu3Ideal : Cert.BwdDu3Ideal.Facts] : Prop :=
  ∀ (m : (ℓ : Loc Cert.BwdDu3Ideal.nD Cert.BwdDu3Ideal.τ Cert.BwdDu3Ideal.sig) → Buf (Elt Ideal) ℓ) (g : Dev Cert.BwdDu3Ideal.nD → PrngReg), Pre_BwdDu3Ideal m →
    θ_run (Cert.BwdDu3Ideal.defs (F := Ideal)) (onTc (τ := Cert.BwdDu3Ideal.τ) (Cert.BwdDu3Ideal.main (F := Ideal))) ⟨m, fun _ => 0, g⟩ (fun r => (∀ c : Dev Cert.BwdDu3Ideal.nD,
      r.2.mem ((c.tc : Thread Cert.BwdDu3Ideal.nD Cert.BwdDu3Ideal.τ).loc Cert.BwdDu3Ideal.main_arg0) = m ((c.tc : Thread Cert.BwdDu3Ideal.nD Cert.BwdDu3Ideal.τ).loc Cert.BwdDu3Ideal.main_arg0)
      ∧ r.2.mem ((c.tc : Thread Cert.BwdDu3Ideal.nD Cert.BwdDu3Ideal.τ).loc Cert.BwdDu3Ideal.main_arg1) = m ((c.tc : Thread Cert.BwdDu3Ideal.nD Cert.BwdDu3Ideal.τ).loc Cert.BwdDu3Ideal.main_arg1)
      ∧ r.2.mem ((c.tc : Thread Cert.BwdDu3Ideal.nD Cert.BwdDu3Ideal.τ).loc Cert.BwdDu3Ideal.main_arg2) = m ((c.tc : Thread Cert.BwdDu3Ideal.nD Cert.BwdDu3Ideal.τ).loc Cert.BwdDu3Ideal.main_arg2)
      ∧ r.2.mem ((c.tc : Thread Cert.BwdDu3Ideal.nD Cert.BwdDu3Ideal.τ).loc Cert.BwdDu3Ideal.main_arg3) = m ((c.tc : Thread Cert.BwdDu3Ideal.nD Cert.BwdDu3Ideal.τ).loc Cert.BwdDu3Ideal.main_arg3)
      ∧ r.2.mem ((c.tc : Thread Cert.BwdDu3Ideal.nD Cert.BwdDu3Ideal.τ).loc Cert.BwdDu3Ideal.main_arg4) = m ((c.tc : Thread Cert.BwdDu3Ideal.nD Cert.BwdDu3Ideal.τ).loc Cert.BwdDu3Ideal.main_arg4))
      ∧ r.2.sem = fun _ => 0)

def quiescent_BwdDu3Ideal_pre_finite_du3 [hBwdDu3Ideal : Cert.BwdDu3Ideal.Facts] [hPre_finite_du3 : Cert.Pre_finite_du3.Facts] : Prop :=
  ∀ (m : (ℓ : Loc Cert.BwdDu3Ideal.nD Cert.BwdDu3Ideal.τ Cert.BwdDu3Ideal.sig) → Buf (Elt Ideal) ℓ) (g : Dev Cert.BwdDu3Ideal.nD → PrngReg), Pre_BwdDu3Ideal_finite_du3 m →
    θ_run (Cert.BwdDu3Ideal.defs (F := Ideal)) (onTc (τ := Cert.BwdDu3Ideal.τ) (Cert.BwdDu3Ideal.main (F := Ideal))) ⟨m, fun _ => 0, g⟩ (fun r => (∀ c : Dev Cert.BwdDu3Ideal.nD,
      r.2.mem ((c.tc : Thread Cert.BwdDu3Ideal.nD Cert.BwdDu3Ideal.τ).loc Cert.BwdDu3Ideal.main_arg0) = m ((c.tc : Thread Cert.BwdDu3Ideal.nD Cert.BwdDu3Ideal.τ).loc Cert.BwdDu3Ideal.main_arg0)
      ∧ r.2.mem ((c.tc : Thread Cert.BwdDu3Ideal.nD Cert.BwdDu3Ideal.τ).loc Cert.BwdDu3Ideal.main_arg1) = m ((c.tc : Thread Cert.BwdDu3Ideal.nD Cert.BwdDu3Ideal.τ).loc Cert.BwdDu3Ideal.main_arg1)
      ∧ r.2.mem ((c.tc : Thread Cert.BwdDu3Ideal.nD Cert.BwdDu3Ideal.τ).loc Cert.BwdDu3Ideal.main_arg2) = m ((c.tc : Thread Cert.BwdDu3Ideal.nD Cert.BwdDu3Ideal.τ).loc Cert.BwdDu3Ideal.main_arg2)
      ∧ r.2.mem ((c.tc : Thread Cert.BwdDu3Ideal.nD Cert.BwdDu3Ideal.τ).loc Cert.BwdDu3Ideal.main_arg3) = m ((c.tc : Thread Cert.BwdDu3Ideal.nD Cert.BwdDu3Ideal.τ).loc Cert.BwdDu3Ideal.main_arg3)
      ∧ r.2.mem ((c.tc : Thread Cert.BwdDu3Ideal.nD Cert.BwdDu3Ideal.τ).loc Cert.BwdDu3Ideal.main_arg4) = m ((c.tc : Thread Cert.BwdDu3Ideal.nD Cert.BwdDu3Ideal.τ).loc Cert.BwdDu3Ideal.main_arg4))
      ∧ r.2.sem = fun _ => 0)

def quiescent_RefDu3Ideal [hRefDu3Ideal : Cert.RefDu3Ideal.Facts] : Prop :=
  ∀ (m : (ℓ : Loc Cert.RefDu3Ideal.nD Cert.RefDu3Ideal.τ Cert.RefDu3Ideal.sig) → Buf (Elt Ideal) ℓ) (g : Dev Cert.RefDu3Ideal.nD → PrngReg), Pre_RefDu3Ideal m →
    θ_run (Cert.RefDu3Ideal.defs (F := Ideal)) (onTc (τ := Cert.RefDu3Ideal.τ) (Cert.RefDu3Ideal.main (F := Ideal))) ⟨m, fun _ => 0, g⟩ (fun r => (∀ c : Dev Cert.RefDu3Ideal.nD,
      r.2.mem ((c.tc : Thread Cert.RefDu3Ideal.nD Cert.RefDu3Ideal.τ).loc Cert.RefDu3Ideal.main_arg0) = m ((c.tc : Thread Cert.RefDu3Ideal.nD Cert.RefDu3Ideal.τ).loc Cert.RefDu3Ideal.main_arg0)
      ∧ r.2.mem ((c.tc : Thread Cert.RefDu3Ideal.nD Cert.RefDu3Ideal.τ).loc Cert.RefDu3Ideal.main_arg1) = m ((c.tc : Thread Cert.RefDu3Ideal.nD Cert.RefDu3Ideal.τ).loc Cert.RefDu3Ideal.main_arg1)
      ∧ r.2.mem ((c.tc : Thread Cert.RefDu3Ideal.nD Cert.RefDu3Ideal.τ).loc Cert.RefDu3Ideal.main_arg2) = m ((c.tc : Thread Cert.RefDu3Ideal.nD Cert.RefDu3Ideal.τ).loc Cert.RefDu3Ideal.main_arg2)
      ∧ r.2.mem ((c.tc : Thread Cert.RefDu3Ideal.nD Cert.RefDu3Ideal.τ).loc Cert.RefDu3Ideal.main_arg3) = m ((c.tc : Thread Cert.RefDu3Ideal.nD Cert.RefDu3Ideal.τ).loc Cert.RefDu3Ideal.main_arg3)
      ∧ r.2.mem ((c.tc : Thread Cert.RefDu3Ideal.nD Cert.RefDu3Ideal.τ).loc Cert.RefDu3Ideal.main_arg4) = m ((c.tc : Thread Cert.RefDu3Ideal.nD Cert.RefDu3Ideal.τ).loc Cert.RefDu3Ideal.main_arg4))
      ∧ r.2.sem = fun _ => 0)

def quiescent_RefDu3Ideal_pre_finite_du3 [hRefDu3Ideal : Cert.RefDu3Ideal.Facts] [hPre_finite_du3 : Cert.Pre_finite_du3.Facts] : Prop :=
  ∀ (m : (ℓ : Loc Cert.RefDu3Ideal.nD Cert.RefDu3Ideal.τ Cert.RefDu3Ideal.sig) → Buf (Elt Ideal) ℓ) (g : Dev Cert.RefDu3Ideal.nD → PrngReg), Pre_RefDu3Ideal_finite_du3 m →
    θ_run (Cert.RefDu3Ideal.defs (F := Ideal)) (onTc (τ := Cert.RefDu3Ideal.τ) (Cert.RefDu3Ideal.main (F := Ideal))) ⟨m, fun _ => 0, g⟩ (fun r => (∀ c : Dev Cert.RefDu3Ideal.nD,
      r.2.mem ((c.tc : Thread Cert.RefDu3Ideal.nD Cert.RefDu3Ideal.τ).loc Cert.RefDu3Ideal.main_arg0) = m ((c.tc : Thread Cert.RefDu3Ideal.nD Cert.RefDu3Ideal.τ).loc Cert.RefDu3Ideal.main_arg0)
      ∧ r.2.mem ((c.tc : Thread Cert.RefDu3Ideal.nD Cert.RefDu3Ideal.τ).loc Cert.RefDu3Ideal.main_arg1) = m ((c.tc : Thread Cert.RefDu3Ideal.nD Cert.RefDu3Ideal.τ).loc Cert.RefDu3Ideal.main_arg1)
      ∧ r.2.mem ((c.tc : Thread Cert.RefDu3Ideal.nD Cert.RefDu3Ideal.τ).loc Cert.RefDu3Ideal.main_arg2) = m ((c.tc : Thread Cert.RefDu3Ideal.nD Cert.RefDu3Ideal.τ).loc Cert.RefDu3Ideal.main_arg2)
      ∧ r.2.mem ((c.tc : Thread Cert.RefDu3Ideal.nD Cert.RefDu3Ideal.τ).loc Cert.RefDu3Ideal.main_arg3) = m ((c.tc : Thread Cert.RefDu3Ideal.nD Cert.RefDu3Ideal.τ).loc Cert.RefDu3Ideal.main_arg3)
      ∧ r.2.mem ((c.tc : Thread Cert.RefDu3Ideal.nD Cert.RefDu3Ideal.τ).loc Cert.RefDu3Ideal.main_arg4) = m ((c.tc : Thread Cert.RefDu3Ideal.nD Cert.RefDu3Ideal.τ).loc Cert.RefDu3Ideal.main_arg4))
      ∧ r.2.sem = fun _ => 0)

def quiescent_BwdDp [hBwdDp : Cert.BwdDp.Facts] : Prop :=
  ∀ (m : (ℓ : Loc Cert.BwdDp.nD Cert.BwdDp.τ Cert.BwdDp.sig) → Buf (Elt Bits) ℓ) (g : Dev Cert.BwdDp.nD → PrngReg), Pre_BwdDp m →
    θ_run (Cert.BwdDp.defs (F := Bits)) (onTc (τ := Cert.BwdDp.τ) (Cert.BwdDp.main (F := Bits))) ⟨m, fun _ => 0, g⟩ (fun r => (∀ c : Dev Cert.BwdDp.nD,
      r.2.mem ((c.tc : Thread Cert.BwdDp.nD Cert.BwdDp.τ).loc Cert.BwdDp.main_arg0) = m ((c.tc : Thread Cert.BwdDp.nD Cert.BwdDp.τ).loc Cert.BwdDp.main_arg0)
      ∧ r.2.mem ((c.tc : Thread Cert.BwdDp.nD Cert.BwdDp.τ).loc Cert.BwdDp.main_arg1) = m ((c.tc : Thread Cert.BwdDp.nD Cert.BwdDp.τ).loc Cert.BwdDp.main_arg1)
      ∧ r.2.mem ((c.tc : Thread Cert.BwdDp.nD Cert.BwdDp.τ).loc Cert.BwdDp.main_arg2) = m ((c.tc : Thread Cert.BwdDp.nD Cert.BwdDp.τ).loc Cert.BwdDp.main_arg2)
      ∧ r.2.mem ((c.tc : Thread Cert.BwdDp.nD Cert.BwdDp.τ).loc Cert.BwdDp.main_arg3) = m ((c.tc : Thread Cert.BwdDp.nD Cert.BwdDp.τ).loc Cert.BwdDp.main_arg3)
      ∧ r.2.mem ((c.tc : Thread Cert.BwdDp.nD Cert.BwdDp.τ).loc Cert.BwdDp.main_arg4) = m ((c.tc : Thread Cert.BwdDp.nD Cert.BwdDp.τ).loc Cert.BwdDp.main_arg4))
      ∧ r.2.sem = fun _ => 0)

def quiescent_BwdDpIdeal [hBwdDpIdeal : Cert.BwdDpIdeal.Facts] : Prop :=
  ∀ (m : (ℓ : Loc Cert.BwdDpIdeal.nD Cert.BwdDpIdeal.τ Cert.BwdDpIdeal.sig) → Buf (Elt Ideal) ℓ) (g : Dev Cert.BwdDpIdeal.nD → PrngReg), Pre_BwdDpIdeal m →
    θ_run (Cert.BwdDpIdeal.defs (F := Ideal)) (onTc (τ := Cert.BwdDpIdeal.τ) (Cert.BwdDpIdeal.main (F := Ideal))) ⟨m, fun _ => 0, g⟩ (fun r => (∀ c : Dev Cert.BwdDpIdeal.nD,
      r.2.mem ((c.tc : Thread Cert.BwdDpIdeal.nD Cert.BwdDpIdeal.τ).loc Cert.BwdDpIdeal.main_arg0) = m ((c.tc : Thread Cert.BwdDpIdeal.nD Cert.BwdDpIdeal.τ).loc Cert.BwdDpIdeal.main_arg0)
      ∧ r.2.mem ((c.tc : Thread Cert.BwdDpIdeal.nD Cert.BwdDpIdeal.τ).loc Cert.BwdDpIdeal.main_arg1) = m ((c.tc : Thread Cert.BwdDpIdeal.nD Cert.BwdDpIdeal.τ).loc Cert.BwdDpIdeal.main_arg1)
      ∧ r.2.mem ((c.tc : Thread Cert.BwdDpIdeal.nD Cert.BwdDpIdeal.τ).loc Cert.BwdDpIdeal.main_arg2) = m ((c.tc : Thread Cert.BwdDpIdeal.nD Cert.BwdDpIdeal.τ).loc Cert.BwdDpIdeal.main_arg2)
      ∧ r.2.mem ((c.tc : Thread Cert.BwdDpIdeal.nD Cert.BwdDpIdeal.τ).loc Cert.BwdDpIdeal.main_arg3) = m ((c.tc : Thread Cert.BwdDpIdeal.nD Cert.BwdDpIdeal.τ).loc Cert.BwdDpIdeal.main_arg3)
      ∧ r.2.mem ((c.tc : Thread Cert.BwdDpIdeal.nD Cert.BwdDpIdeal.τ).loc Cert.BwdDpIdeal.main_arg4) = m ((c.tc : Thread Cert.BwdDpIdeal.nD Cert.BwdDpIdeal.τ).loc Cert.BwdDpIdeal.main_arg4))
      ∧ r.2.sem = fun _ => 0)

def quiescent_BwdDpIdeal_pre_finite_dp [hBwdDpIdeal : Cert.BwdDpIdeal.Facts] [hPre_finite_dp : Cert.Pre_finite_dp.Facts] : Prop :=
  ∀ (m : (ℓ : Loc Cert.BwdDpIdeal.nD Cert.BwdDpIdeal.τ Cert.BwdDpIdeal.sig) → Buf (Elt Ideal) ℓ) (g : Dev Cert.BwdDpIdeal.nD → PrngReg), Pre_BwdDpIdeal_finite_dp m →
    θ_run (Cert.BwdDpIdeal.defs (F := Ideal)) (onTc (τ := Cert.BwdDpIdeal.τ) (Cert.BwdDpIdeal.main (F := Ideal))) ⟨m, fun _ => 0, g⟩ (fun r => (∀ c : Dev Cert.BwdDpIdeal.nD,
      r.2.mem ((c.tc : Thread Cert.BwdDpIdeal.nD Cert.BwdDpIdeal.τ).loc Cert.BwdDpIdeal.main_arg0) = m ((c.tc : Thread Cert.BwdDpIdeal.nD Cert.BwdDpIdeal.τ).loc Cert.BwdDpIdeal.main_arg0)
      ∧ r.2.mem ((c.tc : Thread Cert.BwdDpIdeal.nD Cert.BwdDpIdeal.τ).loc Cert.BwdDpIdeal.main_arg1) = m ((c.tc : Thread Cert.BwdDpIdeal.nD Cert.BwdDpIdeal.τ).loc Cert.BwdDpIdeal.main_arg1)
      ∧ r.2.mem ((c.tc : Thread Cert.BwdDpIdeal.nD Cert.BwdDpIdeal.τ).loc Cert.BwdDpIdeal.main_arg2) = m ((c.tc : Thread Cert.BwdDpIdeal.nD Cert.BwdDpIdeal.τ).loc Cert.BwdDpIdeal.main_arg2)
      ∧ r.2.mem ((c.tc : Thread Cert.BwdDpIdeal.nD Cert.BwdDpIdeal.τ).loc Cert.BwdDpIdeal.main_arg3) = m ((c.tc : Thread Cert.BwdDpIdeal.nD Cert.BwdDpIdeal.τ).loc Cert.BwdDpIdeal.main_arg3)
      ∧ r.2.mem ((c.tc : Thread Cert.BwdDpIdeal.nD Cert.BwdDpIdeal.τ).loc Cert.BwdDpIdeal.main_arg4) = m ((c.tc : Thread Cert.BwdDpIdeal.nD Cert.BwdDpIdeal.τ).loc Cert.BwdDpIdeal.main_arg4))
      ∧ r.2.sem = fun _ => 0)

def quiescent_RefDpIdeal [hRefDpIdeal : Cert.RefDpIdeal.Facts] : Prop :=
  ∀ (m : (ℓ : Loc Cert.RefDpIdeal.nD Cert.RefDpIdeal.τ Cert.RefDpIdeal.sig) → Buf (Elt Ideal) ℓ) (g : Dev Cert.RefDpIdeal.nD → PrngReg), Pre_RefDpIdeal m →
    θ_run (Cert.RefDpIdeal.defs (F := Ideal)) (onTc (τ := Cert.RefDpIdeal.τ) (Cert.RefDpIdeal.main (F := Ideal))) ⟨m, fun _ => 0, g⟩ (fun r => (∀ c : Dev Cert.RefDpIdeal.nD,
      r.2.mem ((c.tc : Thread Cert.RefDpIdeal.nD Cert.RefDpIdeal.τ).loc Cert.RefDpIdeal.main_arg0) = m ((c.tc : Thread Cert.RefDpIdeal.nD Cert.RefDpIdeal.τ).loc Cert.RefDpIdeal.main_arg0)
      ∧ r.2.mem ((c.tc : Thread Cert.RefDpIdeal.nD Cert.RefDpIdeal.τ).loc Cert.RefDpIdeal.main_arg1) = m ((c.tc : Thread Cert.RefDpIdeal.nD Cert.RefDpIdeal.τ).loc Cert.RefDpIdeal.main_arg1)
      ∧ r.2.mem ((c.tc : Thread Cert.RefDpIdeal.nD Cert.RefDpIdeal.τ).loc Cert.RefDpIdeal.main_arg2) = m ((c.tc : Thread Cert.RefDpIdeal.nD Cert.RefDpIdeal.τ).loc Cert.RefDpIdeal.main_arg2)
      ∧ r.2.mem ((c.tc : Thread Cert.RefDpIdeal.nD Cert.RefDpIdeal.τ).loc Cert.RefDpIdeal.main_arg3) = m ((c.tc : Thread Cert.RefDpIdeal.nD Cert.RefDpIdeal.τ).loc Cert.RefDpIdeal.main_arg3)
      ∧ r.2.mem ((c.tc : Thread Cert.RefDpIdeal.nD Cert.RefDpIdeal.τ).loc Cert.RefDpIdeal.main_arg4) = m ((c.tc : Thread Cert.RefDpIdeal.nD Cert.RefDpIdeal.τ).loc Cert.RefDpIdeal.main_arg4))
      ∧ r.2.sem = fun _ => 0)

def quiescent_RefDpIdeal_pre_finite_dp [hRefDpIdeal : Cert.RefDpIdeal.Facts] [hPre_finite_dp : Cert.Pre_finite_dp.Facts] : Prop :=
  ∀ (m : (ℓ : Loc Cert.RefDpIdeal.nD Cert.RefDpIdeal.τ Cert.RefDpIdeal.sig) → Buf (Elt Ideal) ℓ) (g : Dev Cert.RefDpIdeal.nD → PrngReg), Pre_RefDpIdeal_finite_dp m →
    θ_run (Cert.RefDpIdeal.defs (F := Ideal)) (onTc (τ := Cert.RefDpIdeal.τ) (Cert.RefDpIdeal.main (F := Ideal))) ⟨m, fun _ => 0, g⟩ (fun r => (∀ c : Dev Cert.RefDpIdeal.nD,
      r.2.mem ((c.tc : Thread Cert.RefDpIdeal.nD Cert.RefDpIdeal.τ).loc Cert.RefDpIdeal.main_arg0) = m ((c.tc : Thread Cert.RefDpIdeal.nD Cert.RefDpIdeal.τ).loc Cert.RefDpIdeal.main_arg0)
      ∧ r.2.mem ((c.tc : Thread Cert.RefDpIdeal.nD Cert.RefDpIdeal.τ).loc Cert.RefDpIdeal.main_arg1) = m ((c.tc : Thread Cert.RefDpIdeal.nD Cert.RefDpIdeal.τ).loc Cert.RefDpIdeal.main_arg1)
      ∧ r.2.mem ((c.tc : Thread Cert.RefDpIdeal.nD Cert.RefDpIdeal.τ).loc Cert.RefDpIdeal.main_arg2) = m ((c.tc : Thread Cert.RefDpIdeal.nD Cert.RefDpIdeal.τ).loc Cert.RefDpIdeal.main_arg2)
      ∧ r.2.mem ((c.tc : Thread Cert.RefDpIdeal.nD Cert.RefDpIdeal.τ).loc Cert.RefDpIdeal.main_arg3) = m ((c.tc : Thread Cert.RefDpIdeal.nD Cert.RefDpIdeal.τ).loc Cert.RefDpIdeal.main_arg3)
      ∧ r.2.mem ((c.tc : Thread Cert.RefDpIdeal.nD Cert.RefDpIdeal.τ).loc Cert.RefDpIdeal.main_arg4) = m ((c.tc : Thread Cert.RefDpIdeal.nD Cert.RefDpIdeal.τ).loc Cert.RefDpIdeal.main_arg4))
      ∧ r.2.sem = fun _ => 0)

def preserves_BwdDf_BwdDfIdeal : Prop :=
  True

def algebraic_BwdDfIdeal_RefDfIdeal [hBwdDfIdeal : Cert.BwdDfIdeal.Facts] [hRefDfIdeal : Cert.RefDfIdeal.Facts] : Prop :=
  ∀ (m : (ℓ : Loc Cert.BwdDfIdeal.nD Cert.BwdDfIdeal.τ Cert.BwdDfIdeal.sig) → Buf (Elt Ideal) ℓ) (g : Dev Cert.BwdDfIdeal.nD → PrngReg)
    (m' : (ℓ : Loc Cert.RefDfIdeal.nD Cert.RefDfIdeal.τ Cert.RefDfIdeal.sig) → Buf (Elt Ideal) ℓ) (g' : Dev Cert.RefDfIdeal.nD → PrngReg), Pre_BwdDfIdeal m →
    (∀ c : Dev Cert.BwdDfIdeal.nD,
      m' ((c.tc : Thread Cert.RefDfIdeal.nD Cert.RefDfIdeal.τ).loc Cert.RefDfIdeal.main_arg0) = m ((c.tc : Thread Cert.BwdDfIdeal.nD Cert.BwdDfIdeal.τ).loc Cert.BwdDfIdeal.main_arg0)
      ∧ m' ((c.tc : Thread Cert.RefDfIdeal.nD Cert.RefDfIdeal.τ).loc Cert.RefDfIdeal.main_arg1) = m ((c.tc : Thread Cert.BwdDfIdeal.nD Cert.BwdDfIdeal.τ).loc Cert.BwdDfIdeal.main_arg1)
      ∧ m' ((c.tc : Thread Cert.RefDfIdeal.nD Cert.RefDfIdeal.τ).loc Cert.RefDfIdeal.main_arg2) = m ((c.tc : Thread Cert.BwdDfIdeal.nD Cert.BwdDfIdeal.τ).loc Cert.BwdDfIdeal.main_arg2)) →
    ∃ (v0 : (c : Dev Cert.BwdDfIdeal.nD) → Buf (Elt Ideal) ((c.tc : Thread Cert.BwdDfIdeal.nD Cert.BwdDfIdeal.τ).loc Cert.BwdDfIdeal.main_v0)),
      θ_run (Cert.BwdDfIdeal.defs (F := Ideal)) (onTc (τ := Cert.BwdDfIdeal.τ) (Cert.BwdDfIdeal.main (F := Ideal))) ⟨m, fun _ => 0, g⟩ (fun r => ∀ c : Dev Cert.BwdDfIdeal.nD,
          r.2.mem ((c.tc : Thread Cert.BwdDfIdeal.nD Cert.BwdDfIdeal.τ).loc Cert.BwdDfIdeal.main_v0) = v0 c
          ∧ r.2.mem ((c.tc : Thread Cert.BwdDfIdeal.nD Cert.BwdDfIdeal.τ).loc Cert.BwdDfIdeal.main_arg0) = m ((c.tc : Thread Cert.BwdDfIdeal.nD Cert.BwdDfIdeal.τ).loc Cert.BwdDfIdeal.main_arg0)
          ∧ r.2.mem ((c.tc : Thread Cert.BwdDfIdeal.nD Cert.BwdDfIdeal.τ).loc Cert.BwdDfIdeal.main_arg1) = m ((c.tc : Thread Cert.BwdDfIdeal.nD Cert.BwdDfIdeal.τ).loc Cert.BwdDfIdeal.main_arg1)
          ∧ r.2.mem ((c.tc : Thread Cert.BwdDfIdeal.nD Cert.BwdDfIdeal.τ).loc Cert.BwdDfIdeal.main_arg2) = m ((c.tc : Thread Cert.BwdDfIdeal.nD Cert.BwdDfIdeal.τ).loc Cert.BwdDfIdeal.main_arg2))
      ∧ θ_run (Cert.RefDfIdeal.defs (F := Ideal)) (onTc (τ := Cert.RefDfIdeal.τ) (Cert.RefDfIdeal.main (F := Ideal))) ⟨m', fun _ => 0, g'⟩ (fun r => ∀ c : Dev Cert.RefDfIdeal.nD,
          r.2.mem ((c.tc : Thread Cert.RefDfIdeal.nD Cert.RefDfIdeal.τ).loc Cert.RefDfIdeal.main_v15) = v0 c
          ∧ r.2.mem ((c.tc : Thread Cert.RefDfIdeal.nD Cert.RefDfIdeal.τ).loc Cert.RefDfIdeal.main_arg0) = m' ((c.tc : Thread Cert.RefDfIdeal.nD Cert.RefDfIdeal.τ).loc Cert.RefDfIdeal.main_arg0)
          ∧ r.2.mem ((c.tc : Thread Cert.RefDfIdeal.nD Cert.RefDfIdeal.τ).loc Cert.RefDfIdeal.main_arg1) = m' ((c.tc : Thread Cert.RefDfIdeal.nD Cert.RefDfIdeal.τ).loc Cert.RefDfIdeal.main_arg1)
          ∧ r.2.mem ((c.tc : Thread Cert.RefDfIdeal.nD Cert.RefDfIdeal.τ).loc Cert.RefDfIdeal.main_arg2) = m' ((c.tc : Thread Cert.RefDfIdeal.nD Cert.RefDfIdeal.τ).loc Cert.RefDfIdeal.main_arg2))

def preserves_BwdDw2_BwdDw2Ideal : Prop :=
  True

def algebraic_BwdDw2Ideal_RefDw2Ideal [hBwdDw2Ideal : Cert.BwdDw2Ideal.Facts] [hRefDw2Ideal : Cert.RefDw2Ideal.Facts] : Prop :=
  ∀ (m : (ℓ : Loc Cert.BwdDw2Ideal.nD Cert.BwdDw2Ideal.τ Cert.BwdDw2Ideal.sig) → Buf (Elt Ideal) ℓ) (g : Dev Cert.BwdDw2Ideal.nD → PrngReg)
    (m' : (ℓ : Loc Cert.RefDw2Ideal.nD Cert.RefDw2Ideal.τ Cert.RefDw2Ideal.sig) → Buf (Elt Ideal) ℓ) (g' : Dev Cert.RefDw2Ideal.nD → PrngReg), Pre_BwdDw2Ideal m →
    (∀ c : Dev Cert.BwdDw2Ideal.nD,
      m' ((c.tc : Thread Cert.RefDw2Ideal.nD Cert.RefDw2Ideal.τ).loc Cert.RefDw2Ideal.main_arg0) = m ((c.tc : Thread Cert.BwdDw2Ideal.nD Cert.BwdDw2Ideal.τ).loc Cert.BwdDw2Ideal.main_arg0)
      ∧ m' ((c.tc : Thread Cert.RefDw2Ideal.nD Cert.RefDw2Ideal.τ).loc Cert.RefDw2Ideal.main_arg1) = m ((c.tc : Thread Cert.BwdDw2Ideal.nD Cert.BwdDw2Ideal.τ).loc Cert.BwdDw2Ideal.main_arg1)) →
    ∃ (v0 : (c : Dev Cert.BwdDw2Ideal.nD) → Buf (Elt Ideal) ((c.tc : Thread Cert.BwdDw2Ideal.nD Cert.BwdDw2Ideal.τ).loc Cert.BwdDw2Ideal.main_v0)),
      θ_run (Cert.BwdDw2Ideal.defs (F := Ideal)) (onTc (τ := Cert.BwdDw2Ideal.τ) (Cert.BwdDw2Ideal.main (F := Ideal))) ⟨m, fun _ => 0, g⟩ (fun r => ∀ c : Dev Cert.BwdDw2Ideal.nD,
          r.2.mem ((c.tc : Thread Cert.BwdDw2Ideal.nD Cert.BwdDw2Ideal.τ).loc Cert.BwdDw2Ideal.main_v0) = v0 c
          ∧ r.2.mem ((c.tc : Thread Cert.BwdDw2Ideal.nD Cert.BwdDw2Ideal.τ).loc Cert.BwdDw2Ideal.main_arg0) = m ((c.tc : Thread Cert.BwdDw2Ideal.nD Cert.BwdDw2Ideal.τ).loc Cert.BwdDw2Ideal.main_arg0)
          ∧ r.2.mem ((c.tc : Thread Cert.BwdDw2Ideal.nD Cert.BwdDw2Ideal.τ).loc Cert.BwdDw2Ideal.main_arg1) = m ((c.tc : Thread Cert.BwdDw2Ideal.nD Cert.BwdDw2Ideal.τ).loc Cert.BwdDw2Ideal.main_arg1))
      ∧ θ_run (Cert.RefDw2Ideal.defs (F := Ideal)) (onTc (τ := Cert.RefDw2Ideal.τ) (Cert.RefDw2Ideal.main (F := Ideal))) ⟨m', fun _ => 0, g'⟩ (fun r => ∀ c : Dev Cert.RefDw2Ideal.nD,
          r.2.mem ((c.tc : Thread Cert.RefDw2Ideal.nD Cert.RefDw2Ideal.τ).loc Cert.RefDw2Ideal.main_v8) = v0 c
          ∧ r.2.mem ((c.tc : Thread Cert.RefDw2Ideal.nD Cert.RefDw2Ideal.τ).loc Cert.RefDw2Ideal.main_arg0) = m' ((c.tc : Thread Cert.RefDw2Ideal.nD Cert.RefDw2Ideal.τ).loc Cert.RefDw2Ideal.main_arg0)
          ∧ r.2.mem ((c.tc : Thread Cert.RefDw2Ideal.nD Cert.RefDw2Ideal.τ).loc Cert.RefDw2Ideal.main_arg1) = m' ((c.tc : Thread Cert.RefDw2Ideal.nD Cert.RefDw2Ideal.τ).loc Cert.RefDw2Ideal.main_arg1))

def preserves_BwdDw1_BwdDw1Ideal : Prop :=
  True

def algebraic_BwdDw1Ideal_RefDw1Ideal [hBwdDw1Ideal : Cert.BwdDw1Ideal.Facts] [hRefDw1Ideal : Cert.RefDw1Ideal.Facts] : Prop :=
  ∀ (m : (ℓ : Loc Cert.BwdDw1Ideal.nD Cert.BwdDw1Ideal.τ Cert.BwdDw1Ideal.sig) → Buf (Elt Ideal) ℓ) (g : Dev Cert.BwdDw1Ideal.nD → PrngReg)
    (m' : (ℓ : Loc Cert.RefDw1Ideal.nD Cert.RefDw1Ideal.τ Cert.RefDw1Ideal.sig) → Buf (Elt Ideal) ℓ) (g' : Dev Cert.RefDw1Ideal.nD → PrngReg), Pre_BwdDw1Ideal m →
    (∀ c : Dev Cert.BwdDw1Ideal.nD,
      m' ((c.tc : Thread Cert.RefDw1Ideal.nD Cert.RefDw1Ideal.τ).loc Cert.RefDw1Ideal.main_arg0) = m ((c.tc : Thread Cert.BwdDw1Ideal.nD Cert.BwdDw1Ideal.τ).loc Cert.BwdDw1Ideal.main_arg0)
      ∧ m' ((c.tc : Thread Cert.RefDw1Ideal.nD Cert.RefDw1Ideal.τ).loc Cert.RefDw1Ideal.main_arg1) = m ((c.tc : Thread Cert.BwdDw1Ideal.nD Cert.BwdDw1Ideal.τ).loc Cert.BwdDw1Ideal.main_arg1)) →
    ∃ (v0 : (c : Dev Cert.BwdDw1Ideal.nD) → Buf (Elt Ideal) ((c.tc : Thread Cert.BwdDw1Ideal.nD Cert.BwdDw1Ideal.τ).loc Cert.BwdDw1Ideal.main_v0)),
      θ_run (Cert.BwdDw1Ideal.defs (F := Ideal)) (onTc (τ := Cert.BwdDw1Ideal.τ) (Cert.BwdDw1Ideal.main (F := Ideal))) ⟨m, fun _ => 0, g⟩ (fun r => ∀ c : Dev Cert.BwdDw1Ideal.nD,
          r.2.mem ((c.tc : Thread Cert.BwdDw1Ideal.nD Cert.BwdDw1Ideal.τ).loc Cert.BwdDw1Ideal.main_v0) = v0 c
          ∧ r.2.mem ((c.tc : Thread Cert.BwdDw1Ideal.nD Cert.BwdDw1Ideal.τ).loc Cert.BwdDw1Ideal.main_arg0) = m ((c.tc : Thread Cert.BwdDw1Ideal.nD Cert.BwdDw1Ideal.τ).loc Cert.BwdDw1Ideal.main_arg0)
          ∧ r.2.mem ((c.tc : Thread Cert.BwdDw1Ideal.nD Cert.BwdDw1Ideal.τ).loc Cert.BwdDw1Ideal.main_arg1) = m ((c.tc : Thread Cert.BwdDw1Ideal.nD Cert.BwdDw1Ideal.τ).loc Cert.BwdDw1Ideal.main_arg1))
      ∧ θ_run (Cert.RefDw1Ideal.defs (F := Ideal)) (onTc (τ := Cert.RefDw1Ideal.τ) (Cert.RefDw1Ideal.main (F := Ideal))) ⟨m', fun _ => 0, g'⟩ (fun r => ∀ c : Dev Cert.RefDw1Ideal.nD,
          r.2.mem ((c.tc : Thread Cert.RefDw1Ideal.nD Cert.RefDw1Ideal.τ).loc Cert.RefDw1Ideal.main_v8) = v0 c
          ∧ r.2.mem ((c.tc : Thread Cert.RefDw1Ideal.nD Cert.RefDw1Ideal.τ).loc Cert.RefDw1Ideal.main_arg0) = m' ((c.tc : Thread Cert.RefDw1Ideal.nD Cert.RefDw1Ideal.τ).loc Cert.RefDw1Ideal.main_arg0)
          ∧ r.2.mem ((c.tc : Thread Cert.RefDw1Ideal.nD Cert.RefDw1Ideal.τ).loc Cert.RefDw1Ideal.main_arg1) = m' ((c.tc : Thread Cert.RefDw1Ideal.nD Cert.RefDw1Ideal.τ).loc Cert.RefDw1Ideal.main_arg1))

def preserves_BwdDwin_BwdDwinIdeal : Prop :=
  True

def algebraic_BwdDwinIdeal_RefDwinIdeal [hBwdDwinIdeal : Cert.BwdDwinIdeal.Facts] [hRefDwinIdeal : Cert.RefDwinIdeal.Facts] : Prop :=
  ∀ (m : (ℓ : Loc Cert.BwdDwinIdeal.nD Cert.BwdDwinIdeal.τ Cert.BwdDwinIdeal.sig) → Buf (Elt Ideal) ℓ) (g : Dev Cert.BwdDwinIdeal.nD → PrngReg)
    (m' : (ℓ : Loc Cert.RefDwinIdeal.nD Cert.RefDwinIdeal.τ Cert.RefDwinIdeal.sig) → Buf (Elt Ideal) ℓ) (g' : Dev Cert.RefDwinIdeal.nD → PrngReg), Pre_BwdDwinIdeal m →
    (∀ c : Dev Cert.BwdDwinIdeal.nD,
      m' ((c.tc : Thread Cert.RefDwinIdeal.nD Cert.RefDwinIdeal.τ).loc Cert.RefDwinIdeal.main_arg0) = m ((c.tc : Thread Cert.BwdDwinIdeal.nD Cert.BwdDwinIdeal.τ).loc Cert.BwdDwinIdeal.main_arg0)
      ∧ m' ((c.tc : Thread Cert.RefDwinIdeal.nD Cert.RefDwinIdeal.τ).loc Cert.RefDwinIdeal.main_arg1) = m ((c.tc : Thread Cert.BwdDwinIdeal.nD Cert.BwdDwinIdeal.τ).loc Cert.BwdDwinIdeal.main_arg1)) →
    ∃ (v0 : (c : Dev Cert.BwdDwinIdeal.nD) → Buf (Elt Ideal) ((c.tc : Thread Cert.BwdDwinIdeal.nD Cert.BwdDwinIdeal.τ).loc Cert.BwdDwinIdeal.main_v0)),
      θ_run (Cert.BwdDwinIdeal.defs (F := Ideal)) (onTc (τ := Cert.BwdDwinIdeal.τ) (Cert.BwdDwinIdeal.main (F := Ideal))) ⟨m, fun _ => 0, g⟩ (fun r => ∀ c : Dev Cert.BwdDwinIdeal.nD,
          r.2.mem ((c.tc : Thread Cert.BwdDwinIdeal.nD Cert.BwdDwinIdeal.τ).loc Cert.BwdDwinIdeal.main_v0) = v0 c
          ∧ r.2.mem ((c.tc : Thread Cert.BwdDwinIdeal.nD Cert.BwdDwinIdeal.τ).loc Cert.BwdDwinIdeal.main_arg0) = m ((c.tc : Thread Cert.BwdDwinIdeal.nD Cert.BwdDwinIdeal.τ).loc Cert.BwdDwinIdeal.main_arg0)
          ∧ r.2.mem ((c.tc : Thread Cert.BwdDwinIdeal.nD Cert.BwdDwinIdeal.τ).loc Cert.BwdDwinIdeal.main_arg1) = m ((c.tc : Thread Cert.BwdDwinIdeal.nD Cert.BwdDwinIdeal.τ).loc Cert.BwdDwinIdeal.main_arg1))
      ∧ θ_run (Cert.RefDwinIdeal.defs (F := Ideal)) (onTc (τ := Cert.RefDwinIdeal.τ) (Cert.RefDwinIdeal.main (F := Ideal))) ⟨m', fun _ => 0, g'⟩ (fun r => ∀ c : Dev Cert.RefDwinIdeal.nD,
          r.2.mem ((c.tc : Thread Cert.RefDwinIdeal.nD Cert.RefDwinIdeal.τ).loc Cert.RefDwinIdeal.main_v8) = v0 c
          ∧ r.2.mem ((c.tc : Thread Cert.RefDwinIdeal.nD Cert.RefDwinIdeal.τ).loc Cert.RefDwinIdeal.main_arg0) = m' ((c.tc : Thread Cert.RefDwinIdeal.nD Cert.RefDwinIdeal.τ).loc Cert.RefDwinIdeal.main_arg0)
          ∧ r.2.mem ((c.tc : Thread Cert.RefDwinIdeal.nD Cert.RefDwinIdeal.τ).loc Cert.RefDwinIdeal.main_arg1) = m' ((c.tc : Thread Cert.RefDwinIdeal.nD Cert.RefDwinIdeal.τ).loc Cert.RefDwinIdeal.main_arg1))

def preserves_BwdDwo_BwdDwoIdeal : Prop :=
  True

def algebraic_BwdDwoIdeal_RefDwoIdeal [hBwdDwoIdeal : Cert.BwdDwoIdeal.Facts] [hRefDwoIdeal : Cert.RefDwoIdeal.Facts] : Prop :=
  ∀ (m : (ℓ : Loc Cert.BwdDwoIdeal.nD Cert.BwdDwoIdeal.τ Cert.BwdDwoIdeal.sig) → Buf (Elt Ideal) ℓ) (g : Dev Cert.BwdDwoIdeal.nD → PrngReg)
    (m' : (ℓ : Loc Cert.RefDwoIdeal.nD Cert.RefDwoIdeal.τ Cert.RefDwoIdeal.sig) → Buf (Elt Ideal) ℓ) (g' : Dev Cert.RefDwoIdeal.nD → PrngReg), Pre_BwdDwoIdeal m →
    (∀ c : Dev Cert.BwdDwoIdeal.nD,
      m' ((c.tc : Thread Cert.RefDwoIdeal.nD Cert.RefDwoIdeal.τ).loc Cert.RefDwoIdeal.main_arg0) = m ((c.tc : Thread Cert.BwdDwoIdeal.nD Cert.BwdDwoIdeal.τ).loc Cert.BwdDwoIdeal.main_arg0)
      ∧ m' ((c.tc : Thread Cert.RefDwoIdeal.nD Cert.RefDwoIdeal.τ).loc Cert.RefDwoIdeal.main_arg1) = m ((c.tc : Thread Cert.BwdDwoIdeal.nD Cert.BwdDwoIdeal.τ).loc Cert.BwdDwoIdeal.main_arg1)) →
    ∃ (v0 : (c : Dev Cert.BwdDwoIdeal.nD) → Buf (Elt Ideal) ((c.tc : Thread Cert.BwdDwoIdeal.nD Cert.BwdDwoIdeal.τ).loc Cert.BwdDwoIdeal.main_v0)),
      θ_run (Cert.BwdDwoIdeal.defs (F := Ideal)) (onTc (τ := Cert.BwdDwoIdeal.τ) (Cert.BwdDwoIdeal.main (F := Ideal))) ⟨m, fun _ => 0, g⟩ (fun r => ∀ c : Dev Cert.BwdDwoIdeal.nD,
          r.2.mem ((c.tc : Thread Cert.BwdDwoIdeal.nD Cert.BwdDwoIdeal.τ).loc Cert.BwdDwoIdeal.main_v0) = v0 c
          ∧ r.2.mem ((c.tc : Thread Cert.BwdDwoIdeal.nD Cert.BwdDwoIdeal.τ).loc Cert.BwdDwoIdeal.main_arg0) = m ((c.tc : Thread Cert.BwdDwoIdeal.nD Cert.BwdDwoIdeal.τ).loc Cert.BwdDwoIdeal.main_arg0)
          ∧ r.2.mem ((c.tc : Thread Cert.BwdDwoIdeal.nD Cert.BwdDwoIdeal.τ).loc Cert.BwdDwoIdeal.main_arg1) = m ((c.tc : Thread Cert.BwdDwoIdeal.nD Cert.BwdDwoIdeal.τ).loc Cert.BwdDwoIdeal.main_arg1))
      ∧ θ_run (Cert.RefDwoIdeal.defs (F := Ideal)) (onTc (τ := Cert.RefDwoIdeal.τ) (Cert.RefDwoIdeal.main (F := Ideal))) ⟨m', fun _ => 0, g'⟩ (fun r => ∀ c : Dev Cert.RefDwoIdeal.nD,
          r.2.mem ((c.tc : Thread Cert.RefDwoIdeal.nD Cert.RefDwoIdeal.τ).loc Cert.RefDwoIdeal.main_v6) = v0 c
          ∧ r.2.mem ((c.tc : Thread Cert.RefDwoIdeal.nD Cert.RefDwoIdeal.τ).loc Cert.RefDwoIdeal.main_arg0) = m' ((c.tc : Thread Cert.RefDwoIdeal.nD Cert.RefDwoIdeal.τ).loc Cert.RefDwoIdeal.main_arg0)
          ∧ r.2.mem ((c.tc : Thread Cert.RefDwoIdeal.nD Cert.RefDwoIdeal.τ).loc Cert.RefDwoIdeal.main_arg1) = m' ((c.tc : Thread Cert.RefDwoIdeal.nD Cert.RefDwoIdeal.τ).loc Cert.RefDwoIdeal.main_arg1))

def preserves_BwdDh2_BwdDh2Ideal : Prop :=
  True

def algebraic_BwdDh2Ideal_RefDh2Ideal [hBwdDh2Ideal : Cert.BwdDh2Ideal.Facts] [hRefDh2Ideal : Cert.RefDh2Ideal.Facts] : Prop :=
  ∀ (m : (ℓ : Loc Cert.BwdDh2Ideal.nD Cert.BwdDh2Ideal.τ Cert.BwdDh2Ideal.sig) → Buf (Elt Ideal) ℓ) (g : Dev Cert.BwdDh2Ideal.nD → PrngReg)
    (m' : (ℓ : Loc Cert.RefDh2Ideal.nD Cert.RefDh2Ideal.τ Cert.RefDh2Ideal.sig) → Buf (Elt Ideal) ℓ) (g' : Dev Cert.RefDh2Ideal.nD → PrngReg), Pre_BwdDh2Ideal m →
    (∀ c : Dev Cert.BwdDh2Ideal.nD,
      m' ((c.tc : Thread Cert.RefDh2Ideal.nD Cert.RefDh2Ideal.τ).loc Cert.RefDh2Ideal.main_arg0) = m ((c.tc : Thread Cert.BwdDh2Ideal.nD Cert.BwdDh2Ideal.τ).loc Cert.BwdDh2Ideal.main_arg0)
      ∧ m' ((c.tc : Thread Cert.RefDh2Ideal.nD Cert.RefDh2Ideal.τ).loc Cert.RefDh2Ideal.main_arg1) = m ((c.tc : Thread Cert.BwdDh2Ideal.nD Cert.BwdDh2Ideal.τ).loc Cert.BwdDh2Ideal.main_arg1)
      ∧ m' ((c.tc : Thread Cert.RefDh2Ideal.nD Cert.RefDh2Ideal.τ).loc Cert.RefDh2Ideal.main_arg2) = m ((c.tc : Thread Cert.BwdDh2Ideal.nD Cert.BwdDh2Ideal.τ).loc Cert.BwdDh2Ideal.main_arg2)
      ∧ m' ((c.tc : Thread Cert.RefDh2Ideal.nD Cert.RefDh2Ideal.τ).loc Cert.RefDh2Ideal.main_arg3) = m ((c.tc : Thread Cert.BwdDh2Ideal.nD Cert.BwdDh2Ideal.τ).loc Cert.BwdDh2Ideal.main_arg3)
      ∧ m' ((c.tc : Thread Cert.RefDh2Ideal.nD Cert.RefDh2Ideal.τ).loc Cert.RefDh2Ideal.main_arg4) = m ((c.tc : Thread Cert.BwdDh2Ideal.nD Cert.BwdDh2Ideal.τ).loc Cert.BwdDh2Ideal.main_arg4)) →
    ∃ (v0 : (c : Dev Cert.BwdDh2Ideal.nD) → Buf (Elt Ideal) ((c.tc : Thread Cert.BwdDh2Ideal.nD Cert.BwdDh2Ideal.τ).loc Cert.BwdDh2Ideal.main_v0_0)) (v1 : (c : Dev Cert.BwdDh2Ideal.nD) → Buf (Elt Ideal) ((c.tc : Thread Cert.BwdDh2Ideal.nD Cert.BwdDh2Ideal.τ).loc Cert.BwdDh2Ideal.main_v0_1)) (v2 : (c : Dev Cert.BwdDh2Ideal.nD) → Buf (Elt Ideal) ((c.tc : Thread Cert.BwdDh2Ideal.nD Cert.BwdDh2Ideal.τ).loc Cert.BwdDh2Ideal.main_v0_2)),
      θ_run (Cert.BwdDh2Ideal.defs (F := Ideal)) (onTc (τ := Cert.BwdDh2Ideal.τ) (Cert.BwdDh2Ideal.main (F := Ideal))) ⟨m, fun _ => 0, g⟩ (fun r => ∀ c : Dev Cert.BwdDh2Ideal.nD,
          r.2.mem ((c.tc : Thread Cert.BwdDh2Ideal.nD Cert.BwdDh2Ideal.τ).loc Cert.BwdDh2Ideal.main_v0_0) = v0 c
          ∧ r.2.mem ((c.tc : Thread Cert.BwdDh2Ideal.nD Cert.BwdDh2Ideal.τ).loc Cert.BwdDh2Ideal.main_v0_1) = v1 c
          ∧ r.2.mem ((c.tc : Thread Cert.BwdDh2Ideal.nD Cert.BwdDh2Ideal.τ).loc Cert.BwdDh2Ideal.main_v0_2) = v2 c
          ∧ r.2.mem ((c.tc : Thread Cert.BwdDh2Ideal.nD Cert.BwdDh2Ideal.τ).loc Cert.BwdDh2Ideal.main_arg0) = m ((c.tc : Thread Cert.BwdDh2Ideal.nD Cert.BwdDh2Ideal.τ).loc Cert.BwdDh2Ideal.main_arg0)
          ∧ r.2.mem ((c.tc : Thread Cert.BwdDh2Ideal.nD Cert.BwdDh2Ideal.τ).loc Cert.BwdDh2Ideal.main_arg1) = m ((c.tc : Thread Cert.BwdDh2Ideal.nD Cert.BwdDh2Ideal.τ).loc Cert.BwdDh2Ideal.main_arg1)
          ∧ r.2.mem ((c.tc : Thread Cert.BwdDh2Ideal.nD Cert.BwdDh2Ideal.τ).loc Cert.BwdDh2Ideal.main_arg2) = m ((c.tc : Thread Cert.BwdDh2Ideal.nD Cert.BwdDh2Ideal.τ).loc Cert.BwdDh2Ideal.main_arg2)
          ∧ r.2.mem ((c.tc : Thread Cert.BwdDh2Ideal.nD Cert.BwdDh2Ideal.τ).loc Cert.BwdDh2Ideal.main_arg3) = m ((c.tc : Thread Cert.BwdDh2Ideal.nD Cert.BwdDh2Ideal.τ).loc Cert.BwdDh2Ideal.main_arg3)
          ∧ r.2.mem ((c.tc : Thread Cert.BwdDh2Ideal.nD Cert.BwdDh2Ideal.τ).loc Cert.BwdDh2Ideal.main_arg4) = m ((c.tc : Thread Cert.BwdDh2Ideal.nD Cert.BwdDh2Ideal.τ).loc Cert.BwdDh2Ideal.main_arg4))
      ∧ θ_run (Cert.RefDh2Ideal.defs (F := Ideal)) (onTc (τ := Cert.RefDh2Ideal.τ) (Cert.RefDh2Ideal.main (F := Ideal))) ⟨m', fun _ => 0, g'⟩ (fun r => ∀ c : Dev Cert.RefDh2Ideal.nD,
          r.2.mem ((c.tc : Thread Cert.RefDh2Ideal.nD Cert.RefDh2Ideal.τ).loc Cert.RefDh2Ideal.main_v38) = v0 c
          ∧ r.2.mem ((c.tc : Thread Cert.RefDh2Ideal.nD Cert.RefDh2Ideal.τ).loc Cert.RefDh2Ideal.main_v39) = v1 c
          ∧ r.2.mem ((c.tc : Thread Cert.RefDh2Ideal.nD Cert.RefDh2Ideal.τ).loc Cert.RefDh2Ideal.main_v21) = v2 c
          ∧ r.2.mem ((c.tc : Thread Cert.RefDh2Ideal.nD Cert.RefDh2Ideal.τ).loc Cert.RefDh2Ideal.main_arg0) = m' ((c.tc : Thread Cert.RefDh2Ideal.nD Cert.RefDh2Ideal.τ).loc Cert.RefDh2Ideal.main_arg0)
          ∧ r.2.mem ((c.tc : Thread Cert.RefDh2Ideal.nD Cert.RefDh2Ideal.τ).loc Cert.RefDh2Ideal.main_arg1) = m' ((c.tc : Thread Cert.RefDh2Ideal.nD Cert.RefDh2Ideal.τ).loc Cert.RefDh2Ideal.main_arg1)
          ∧ r.2.mem ((c.tc : Thread Cert.RefDh2Ideal.nD Cert.RefDh2Ideal.τ).loc Cert.RefDh2Ideal.main_arg2) = m' ((c.tc : Thread Cert.RefDh2Ideal.nD Cert.RefDh2Ideal.τ).loc Cert.RefDh2Ideal.main_arg2)
          ∧ r.2.mem ((c.tc : Thread Cert.RefDh2Ideal.nD Cert.RefDh2Ideal.τ).loc Cert.RefDh2Ideal.main_arg3) = m' ((c.tc : Thread Cert.RefDh2Ideal.nD Cert.RefDh2Ideal.τ).loc Cert.RefDh2Ideal.main_arg3)
          ∧ r.2.mem ((c.tc : Thread Cert.RefDh2Ideal.nD Cert.RefDh2Ideal.τ).loc Cert.RefDh2Ideal.main_arg4) = m' ((c.tc : Thread Cert.RefDh2Ideal.nD Cert.RefDh2Ideal.τ).loc Cert.RefDh2Ideal.main_arg4))

def preserves_FwdX2_FwdX2Ideal : Prop :=
  True

def algebraic_FwdX2Ideal_RefX2Ideal [hFwdX2Ideal : Cert.FwdX2Ideal.Facts] [hRefX2Ideal : Cert.RefX2Ideal.Facts] : Prop :=
  ∀ (m : (ℓ : Loc Cert.FwdX2Ideal.nD Cert.FwdX2Ideal.τ Cert.FwdX2Ideal.sig) → Buf (Elt Ideal) ℓ) (g : Dev Cert.FwdX2Ideal.nD → PrngReg)
    (m' : (ℓ : Loc Cert.RefX2Ideal.nD Cert.RefX2Ideal.τ Cert.RefX2Ideal.sig) → Buf (Elt Ideal) ℓ) (g' : Dev Cert.RefX2Ideal.nD → PrngReg), Pre_FwdX2Ideal m →
    (∀ c : Dev Cert.FwdX2Ideal.nD,
      m' ((c.tc : Thread Cert.RefX2Ideal.nD Cert.RefX2Ideal.τ).loc Cert.RefX2Ideal.main_arg0) = m ((c.tc : Thread Cert.FwdX2Ideal.nD Cert.FwdX2Ideal.τ).loc Cert.FwdX2Ideal.main_arg0)
      ∧ m' ((c.tc : Thread Cert.RefX2Ideal.nD Cert.RefX2Ideal.τ).loc Cert.RefX2Ideal.main_arg1) = m ((c.tc : Thread Cert.FwdX2Ideal.nD Cert.FwdX2Ideal.τ).loc Cert.FwdX2Ideal.main_arg1)
      ∧ m' ((c.tc : Thread Cert.RefX2Ideal.nD Cert.RefX2Ideal.τ).loc Cert.RefX2Ideal.main_arg2) = m ((c.tc : Thread Cert.FwdX2Ideal.nD Cert.FwdX2Ideal.τ).loc Cert.FwdX2Ideal.main_arg2)) →
    ∃ (v0 : (c : Dev Cert.FwdX2Ideal.nD) → Buf (Elt Ideal) ((c.tc : Thread Cert.FwdX2Ideal.nD Cert.FwdX2Ideal.τ).loc Cert.FwdX2Ideal.main_v0)),
      θ_run (Cert.FwdX2Ideal.defs (F := Ideal)) (onTc (τ := Cert.FwdX2Ideal.τ) (Cert.FwdX2Ideal.main (F := Ideal))) ⟨m, fun _ => 0, g⟩ (fun r => ∀ c : Dev Cert.FwdX2Ideal.nD,
          r.2.mem ((c.tc : Thread Cert.FwdX2Ideal.nD Cert.FwdX2Ideal.τ).loc Cert.FwdX2Ideal.main_v0) = v0 c
          ∧ r.2.mem ((c.tc : Thread Cert.FwdX2Ideal.nD Cert.FwdX2Ideal.τ).loc Cert.FwdX2Ideal.main_arg0) = m ((c.tc : Thread Cert.FwdX2Ideal.nD Cert.FwdX2Ideal.τ).loc Cert.FwdX2Ideal.main_arg0)
          ∧ r.2.mem ((c.tc : Thread Cert.FwdX2Ideal.nD Cert.FwdX2Ideal.τ).loc Cert.FwdX2Ideal.main_arg1) = m ((c.tc : Thread Cert.FwdX2Ideal.nD Cert.FwdX2Ideal.τ).loc Cert.FwdX2Ideal.main_arg1)
          ∧ r.2.mem ((c.tc : Thread Cert.FwdX2Ideal.nD Cert.FwdX2Ideal.τ).loc Cert.FwdX2Ideal.main_arg2) = m ((c.tc : Thread Cert.FwdX2Ideal.nD Cert.FwdX2Ideal.τ).loc Cert.FwdX2Ideal.main_arg2))
      ∧ θ_run (Cert.RefX2Ideal.defs (F := Ideal)) (onTc (τ := Cert.RefX2Ideal.τ) (Cert.RefX2Ideal.main (F := Ideal))) ⟨m', fun _ => 0, g'⟩ (fun r => ∀ c : Dev Cert.RefX2Ideal.nD,
          r.2.mem ((c.tc : Thread Cert.RefX2Ideal.nD Cert.RefX2Ideal.τ).loc Cert.RefX2Ideal.main_v5) = v0 c
          ∧ r.2.mem ((c.tc : Thread Cert.RefX2Ideal.nD Cert.RefX2Ideal.τ).loc Cert.RefX2Ideal.main_arg0) = m' ((c.tc : Thread Cert.RefX2Ideal.nD Cert.RefX2Ideal.τ).loc Cert.RefX2Ideal.main_arg0)
          ∧ r.2.mem ((c.tc : Thread Cert.RefX2Ideal.nD Cert.RefX2Ideal.τ).loc Cert.RefX2Ideal.main_arg1) = m' ((c.tc : Thread Cert.RefX2Ideal.nD Cert.RefX2Ideal.τ).loc Cert.RefX2Ideal.main_arg1)
          ∧ r.2.mem ((c.tc : Thread Cert.RefX2Ideal.nD Cert.RefX2Ideal.τ).loc Cert.RefX2Ideal.main_arg2) = m' ((c.tc : Thread Cert.RefX2Ideal.nD Cert.RefX2Ideal.τ).loc Cert.RefX2Ideal.main_arg2))

def preserves_BwdDh_BwdDhIdeal : Prop :=
  True

def algebraic_BwdDhIdeal_RefDhIdeal [hBwdDhIdeal : Cert.BwdDhIdeal.Facts] [hRefDhIdeal : Cert.RefDhIdeal.Facts] : Prop :=
  ∀ (m : (ℓ : Loc Cert.BwdDhIdeal.nD Cert.BwdDhIdeal.τ Cert.BwdDhIdeal.sig) → Buf (Elt Ideal) ℓ) (g : Dev Cert.BwdDhIdeal.nD → PrngReg)
    (m' : (ℓ : Loc Cert.RefDhIdeal.nD Cert.RefDhIdeal.τ Cert.RefDhIdeal.sig) → Buf (Elt Ideal) ℓ) (g' : Dev Cert.RefDhIdeal.nD → PrngReg), Pre_BwdDhIdeal m →
    (∀ c : Dev Cert.BwdDhIdeal.nD,
      m' ((c.tc : Thread Cert.RefDhIdeal.nD Cert.RefDhIdeal.τ).loc Cert.RefDhIdeal.main_arg0) = m ((c.tc : Thread Cert.BwdDhIdeal.nD Cert.BwdDhIdeal.τ).loc Cert.BwdDhIdeal.main_arg0)
      ∧ m' ((c.tc : Thread Cert.RefDhIdeal.nD Cert.RefDhIdeal.τ).loc Cert.RefDhIdeal.main_arg1) = m ((c.tc : Thread Cert.BwdDhIdeal.nD Cert.BwdDhIdeal.τ).loc Cert.BwdDhIdeal.main_arg1)
      ∧ m' ((c.tc : Thread Cert.RefDhIdeal.nD Cert.RefDhIdeal.τ).loc Cert.RefDhIdeal.main_arg2) = m ((c.tc : Thread Cert.BwdDhIdeal.nD Cert.BwdDhIdeal.τ).loc Cert.BwdDhIdeal.main_arg2)
      ∧ m' ((c.tc : Thread Cert.RefDhIdeal.nD Cert.RefDhIdeal.τ).loc Cert.RefDhIdeal.main_arg3) = m ((c.tc : Thread Cert.BwdDhIdeal.nD Cert.BwdDhIdeal.τ).loc Cert.BwdDhIdeal.main_arg3)
      ∧ m' ((c.tc : Thread Cert.RefDhIdeal.nD Cert.RefDhIdeal.τ).loc Cert.RefDhIdeal.main_arg4) = m ((c.tc : Thread Cert.BwdDhIdeal.nD Cert.BwdDhIdeal.τ).loc Cert.BwdDhIdeal.main_arg4)) →
    ∃ (v0 : (c : Dev Cert.BwdDhIdeal.nD) → Buf (Elt Ideal) ((c.tc : Thread Cert.BwdDhIdeal.nD Cert.BwdDhIdeal.τ).loc Cert.BwdDhIdeal.main_v0_0)) (v1 : (c : Dev Cert.BwdDhIdeal.nD) → Buf (Elt Ideal) ((c.tc : Thread Cert.BwdDhIdeal.nD Cert.BwdDhIdeal.τ).loc Cert.BwdDhIdeal.main_v0_1)) (v2 : (c : Dev Cert.BwdDhIdeal.nD) → Buf (Elt Ideal) ((c.tc : Thread Cert.BwdDhIdeal.nD Cert.BwdDhIdeal.τ).loc Cert.BwdDhIdeal.main_v0_2)) (v3 : (c : Dev Cert.BwdDhIdeal.nD) → Buf (Elt Ideal) ((c.tc : Thread Cert.BwdDhIdeal.nD Cert.BwdDhIdeal.τ).loc Cert.BwdDhIdeal.main_v0_3)),
      θ_run (Cert.BwdDhIdeal.defs (F := Ideal)) (onTc (τ := Cert.BwdDhIdeal.τ) (Cert.BwdDhIdeal.main (F := Ideal))) ⟨m, fun _ => 0, g⟩ (fun r => ∀ c : Dev Cert.BwdDhIdeal.nD,
          r.2.mem ((c.tc : Thread Cert.BwdDhIdeal.nD Cert.BwdDhIdeal.τ).loc Cert.BwdDhIdeal.main_v0_0) = v0 c
          ∧ r.2.mem ((c.tc : Thread Cert.BwdDhIdeal.nD Cert.BwdDhIdeal.τ).loc Cert.BwdDhIdeal.main_v0_1) = v1 c
          ∧ r.2.mem ((c.tc : Thread Cert.BwdDhIdeal.nD Cert.BwdDhIdeal.τ).loc Cert.BwdDhIdeal.main_v0_2) = v2 c
          ∧ r.2.mem ((c.tc : Thread Cert.BwdDhIdeal.nD Cert.BwdDhIdeal.τ).loc Cert.BwdDhIdeal.main_v0_3) = v3 c
          ∧ r.2.mem ((c.tc : Thread Cert.BwdDhIdeal.nD Cert.BwdDhIdeal.τ).loc Cert.BwdDhIdeal.main_arg0) = m ((c.tc : Thread Cert.BwdDhIdeal.nD Cert.BwdDhIdeal.τ).loc Cert.BwdDhIdeal.main_arg0)
          ∧ r.2.mem ((c.tc : Thread Cert.BwdDhIdeal.nD Cert.BwdDhIdeal.τ).loc Cert.BwdDhIdeal.main_arg1) = m ((c.tc : Thread Cert.BwdDhIdeal.nD Cert.BwdDhIdeal.τ).loc Cert.BwdDhIdeal.main_arg1)
          ∧ r.2.mem ((c.tc : Thread Cert.BwdDhIdeal.nD Cert.BwdDhIdeal.τ).loc Cert.BwdDhIdeal.main_arg2) = m ((c.tc : Thread Cert.BwdDhIdeal.nD Cert.BwdDhIdeal.τ).loc Cert.BwdDhIdeal.main_arg2)
          ∧ r.2.mem ((c.tc : Thread Cert.BwdDhIdeal.nD Cert.BwdDhIdeal.τ).loc Cert.BwdDhIdeal.main_arg3) = m ((c.tc : Thread Cert.BwdDhIdeal.nD Cert.BwdDhIdeal.τ).loc Cert.BwdDhIdeal.main_arg3)
          ∧ r.2.mem ((c.tc : Thread Cert.BwdDhIdeal.nD Cert.BwdDhIdeal.τ).loc Cert.BwdDhIdeal.main_arg4) = m ((c.tc : Thread Cert.BwdDhIdeal.nD Cert.BwdDhIdeal.τ).loc Cert.BwdDhIdeal.main_arg4))
      ∧ θ_run (Cert.RefDhIdeal.defs (F := Ideal)) (onTc (τ := Cert.RefDhIdeal.τ) (Cert.RefDhIdeal.main (F := Ideal))) ⟨m', fun _ => 0, g'⟩ (fun r => ∀ c : Dev Cert.RefDhIdeal.nD,
          r.2.mem ((c.tc : Thread Cert.RefDhIdeal.nD Cert.RefDhIdeal.τ).loc Cert.RefDhIdeal.main_v45) = v0 c
          ∧ r.2.mem ((c.tc : Thread Cert.RefDhIdeal.nD Cert.RefDhIdeal.τ).loc Cert.RefDhIdeal.main_v46) = v1 c
          ∧ r.2.mem ((c.tc : Thread Cert.RefDhIdeal.nD Cert.RefDhIdeal.τ).loc Cert.RefDhIdeal.main_v28) = v2 c
          ∧ r.2.mem ((c.tc : Thread Cert.RefDhIdeal.nD Cert.RefDhIdeal.τ).loc Cert.RefDhIdeal.main_v47) = v3 c
          ∧ r.2.mem ((c.tc : Thread Cert.RefDhIdeal.nD Cert.RefDhIdeal.τ).loc Cert.RefDhIdeal.main_arg0) = m' ((c.tc : Thread Cert.RefDhIdeal.nD Cert.RefDhIdeal.τ).loc Cert.RefDhIdeal.main_arg0)
          ∧ r.2.mem ((c.tc : Thread Cert.RefDhIdeal.nD Cert.RefDhIdeal.τ).loc Cert.RefDhIdeal.main_arg1) = m' ((c.tc : Thread Cert.RefDhIdeal.nD Cert.RefDhIdeal.τ).loc Cert.RefDhIdeal.main_arg1)
          ∧ r.2.mem ((c.tc : Thread Cert.RefDhIdeal.nD Cert.RefDhIdeal.τ).loc Cert.RefDhIdeal.main_arg2) = m' ((c.tc : Thread Cert.RefDhIdeal.nD Cert.RefDhIdeal.τ).loc Cert.RefDhIdeal.main_arg2)
          ∧ r.2.mem ((c.tc : Thread Cert.RefDhIdeal.nD Cert.RefDhIdeal.τ).loc Cert.RefDhIdeal.main_arg3) = m' ((c.tc : Thread Cert.RefDhIdeal.nD Cert.RefDhIdeal.τ).loc Cert.RefDhIdeal.main_arg3)
          ∧ r.2.mem ((c.tc : Thread Cert.RefDhIdeal.nD Cert.RefDhIdeal.τ).loc Cert.RefDhIdeal.main_arg4) = m' ((c.tc : Thread Cert.RefDhIdeal.nD Cert.RefDhIdeal.τ).loc Cert.RefDhIdeal.main_arg4))

def preserves_BwdConvB_BwdConvBIdeal : Prop :=
  True

def preserves_FwdF_FwdFIdeal : Prop :=
  True

def algebraic_FwdFIdeal_RefFIdeal [hFwdFIdeal : Cert.FwdFIdeal.Facts] [hRefFIdeal : Cert.RefFIdeal.Facts] : Prop :=
  ∀ (m : (ℓ : Loc Cert.FwdFIdeal.nD Cert.FwdFIdeal.τ Cert.FwdFIdeal.sig) → Buf (Elt Ideal) ℓ) (g : Dev Cert.FwdFIdeal.nD → PrngReg)
    (m' : (ℓ : Loc Cert.RefFIdeal.nD Cert.RefFIdeal.τ Cert.RefFIdeal.sig) → Buf (Elt Ideal) ℓ) (g' : Dev Cert.RefFIdeal.nD → PrngReg), Pre_FwdFIdeal m →
    (∀ c : Dev Cert.FwdFIdeal.nD,
      m' ((c.tc : Thread Cert.RefFIdeal.nD Cert.RefFIdeal.τ).loc Cert.RefFIdeal.main_arg0) = m ((c.tc : Thread Cert.FwdFIdeal.nD Cert.FwdFIdeal.τ).loc Cert.FwdFIdeal.main_arg0)
      ∧ m' ((c.tc : Thread Cert.RefFIdeal.nD Cert.RefFIdeal.τ).loc Cert.RefFIdeal.main_arg1) = m ((c.tc : Thread Cert.FwdFIdeal.nD Cert.FwdFIdeal.τ).loc Cert.FwdFIdeal.main_arg1)
      ∧ m' ((c.tc : Thread Cert.RefFIdeal.nD Cert.RefFIdeal.τ).loc Cert.RefFIdeal.main_arg2) = m ((c.tc : Thread Cert.FwdFIdeal.nD Cert.FwdFIdeal.τ).loc Cert.FwdFIdeal.main_arg2)) →
    ∃ (v0 : (c : Dev Cert.FwdFIdeal.nD) → Buf (Elt Ideal) ((c.tc : Thread Cert.FwdFIdeal.nD Cert.FwdFIdeal.τ).loc Cert.FwdFIdeal.main_v0_0)) (v1 : (c : Dev Cert.FwdFIdeal.nD) → Buf (Elt Ideal) ((c.tc : Thread Cert.FwdFIdeal.nD Cert.FwdFIdeal.τ).loc Cert.FwdFIdeal.main_v0_1)),
      θ_run (Cert.FwdFIdeal.defs (F := Ideal)) (onTc (τ := Cert.FwdFIdeal.τ) (Cert.FwdFIdeal.main (F := Ideal))) ⟨m, fun _ => 0, g⟩ (fun r => ∀ c : Dev Cert.FwdFIdeal.nD,
          r.2.mem ((c.tc : Thread Cert.FwdFIdeal.nD Cert.FwdFIdeal.τ).loc Cert.FwdFIdeal.main_v0_0) = v0 c
          ∧ r.2.mem ((c.tc : Thread Cert.FwdFIdeal.nD Cert.FwdFIdeal.τ).loc Cert.FwdFIdeal.main_v0_1) = v1 c
          ∧ r.2.mem ((c.tc : Thread Cert.FwdFIdeal.nD Cert.FwdFIdeal.τ).loc Cert.FwdFIdeal.main_arg0) = m ((c.tc : Thread Cert.FwdFIdeal.nD Cert.FwdFIdeal.τ).loc Cert.FwdFIdeal.main_arg0)
          ∧ r.2.mem ((c.tc : Thread Cert.FwdFIdeal.nD Cert.FwdFIdeal.τ).loc Cert.FwdFIdeal.main_arg1) = m ((c.tc : Thread Cert.FwdFIdeal.nD Cert.FwdFIdeal.τ).loc Cert.FwdFIdeal.main_arg1)
          ∧ r.2.mem ((c.tc : Thread Cert.FwdFIdeal.nD Cert.FwdFIdeal.τ).loc Cert.FwdFIdeal.main_arg2) = m ((c.tc : Thread Cert.FwdFIdeal.nD Cert.FwdFIdeal.τ).loc Cert.FwdFIdeal.main_arg2))
      ∧ θ_run (Cert.RefFIdeal.defs (F := Ideal)) (onTc (τ := Cert.RefFIdeal.τ) (Cert.RefFIdeal.main (F := Ideal))) ⟨m', fun _ => 0, g'⟩ (fun r => ∀ c : Dev Cert.RefFIdeal.nD,
          r.2.mem ((c.tc : Thread Cert.RefFIdeal.nD Cert.RefFIdeal.τ).loc Cert.RefFIdeal.main_v14) = v0 c
          ∧ r.2.mem ((c.tc : Thread Cert.RefFIdeal.nD Cert.RefFIdeal.τ).loc Cert.RefFIdeal.main_v15) = v1 c
          ∧ r.2.mem ((c.tc : Thread Cert.RefFIdeal.nD Cert.RefFIdeal.τ).loc Cert.RefFIdeal.main_arg0) = m' ((c.tc : Thread Cert.RefFIdeal.nD Cert.RefFIdeal.τ).loc Cert.RefFIdeal.main_arg0)
          ∧ r.2.mem ((c.tc : Thread Cert.RefFIdeal.nD Cert.RefFIdeal.τ).loc Cert.RefFIdeal.main_arg1) = m' ((c.tc : Thread Cert.RefFIdeal.nD Cert.RefFIdeal.τ).loc Cert.RefFIdeal.main_arg1)
          ∧ r.2.mem ((c.tc : Thread Cert.RefFIdeal.nD Cert.RefFIdeal.τ).loc Cert.RefFIdeal.main_arg2) = m' ((c.tc : Thread Cert.RefFIdeal.nD Cert.RefFIdeal.τ).loc Cert.RefFIdeal.main_arg2))

def preserves_BwdDwa_BwdDwaIdeal : Prop :=
  True

def algebraic_BwdDwaIdeal_RefDwaIdeal [hBwdDwaIdeal : Cert.BwdDwaIdeal.Facts] [hRefDwaIdeal : Cert.RefDwaIdeal.Facts] : Prop :=
  ∀ (m : (ℓ : Loc Cert.BwdDwaIdeal.nD Cert.BwdDwaIdeal.τ Cert.BwdDwaIdeal.sig) → Buf (Elt Ideal) ℓ) (g : Dev Cert.BwdDwaIdeal.nD → PrngReg)
    (m' : (ℓ : Loc Cert.RefDwaIdeal.nD Cert.RefDwaIdeal.τ Cert.RefDwaIdeal.sig) → Buf (Elt Ideal) ℓ) (g' : Dev Cert.RefDwaIdeal.nD → PrngReg), Pre_BwdDwaIdeal m →
    (∀ c : Dev Cert.BwdDwaIdeal.nD,
      m' ((c.tc : Thread Cert.RefDwaIdeal.nD Cert.RefDwaIdeal.τ).loc Cert.RefDwaIdeal.main_arg0) = m ((c.tc : Thread Cert.BwdDwaIdeal.nD Cert.BwdDwaIdeal.τ).loc Cert.BwdDwaIdeal.main_arg0)
      ∧ m' ((c.tc : Thread Cert.RefDwaIdeal.nD Cert.RefDwaIdeal.τ).loc Cert.RefDwaIdeal.main_arg1) = m ((c.tc : Thread Cert.BwdDwaIdeal.nD Cert.BwdDwaIdeal.τ).loc Cert.BwdDwaIdeal.main_arg1)) →
    ∃ (v0 : (c : Dev Cert.BwdDwaIdeal.nD) → Buf (Elt Ideal) ((c.tc : Thread Cert.BwdDwaIdeal.nD Cert.BwdDwaIdeal.τ).loc Cert.BwdDwaIdeal.main_v0)),
      θ_run (Cert.BwdDwaIdeal.defs (F := Ideal)) (onTc (τ := Cert.BwdDwaIdeal.τ) (Cert.BwdDwaIdeal.main (F := Ideal))) ⟨m, fun _ => 0, g⟩ (fun r => ∀ c : Dev Cert.BwdDwaIdeal.nD,
          r.2.mem ((c.tc : Thread Cert.BwdDwaIdeal.nD Cert.BwdDwaIdeal.τ).loc Cert.BwdDwaIdeal.main_v0) = v0 c
          ∧ r.2.mem ((c.tc : Thread Cert.BwdDwaIdeal.nD Cert.BwdDwaIdeal.τ).loc Cert.BwdDwaIdeal.main_arg0) = m ((c.tc : Thread Cert.BwdDwaIdeal.nD Cert.BwdDwaIdeal.τ).loc Cert.BwdDwaIdeal.main_arg0)
          ∧ r.2.mem ((c.tc : Thread Cert.BwdDwaIdeal.nD Cert.BwdDwaIdeal.τ).loc Cert.BwdDwaIdeal.main_arg1) = m ((c.tc : Thread Cert.BwdDwaIdeal.nD Cert.BwdDwaIdeal.τ).loc Cert.BwdDwaIdeal.main_arg1))
      ∧ θ_run (Cert.RefDwaIdeal.defs (F := Ideal)) (onTc (τ := Cert.RefDwaIdeal.τ) (Cert.RefDwaIdeal.main (F := Ideal))) ⟨m', fun _ => 0, g'⟩ (fun r => ∀ c : Dev Cert.RefDwaIdeal.nD,
          r.2.mem ((c.tc : Thread Cert.RefDwaIdeal.nD Cert.RefDwaIdeal.τ).loc Cert.RefDwaIdeal.main_v6) = v0 c
          ∧ r.2.mem ((c.tc : Thread Cert.RefDwaIdeal.nD Cert.RefDwaIdeal.τ).loc Cert.RefDwaIdeal.main_arg0) = m' ((c.tc : Thread Cert.RefDwaIdeal.nD Cert.RefDwaIdeal.τ).loc Cert.RefDwaIdeal.main_arg0)
          ∧ r.2.mem ((c.tc : Thread Cert.RefDwaIdeal.nD Cert.RefDwaIdeal.τ).loc Cert.RefDwaIdeal.main_arg1) = m' ((c.tc : Thread Cert.RefDwaIdeal.nD Cert.RefDwaIdeal.τ).loc Cert.RefDwaIdeal.main_arg1))

def preserves_BwdDwb_BwdDwbIdeal : Prop :=
  True

def algebraic_BwdDwbIdeal_RefDwbIdeal [hBwdDwbIdeal : Cert.BwdDwbIdeal.Facts] [hRefDwbIdeal : Cert.RefDwbIdeal.Facts] : Prop :=
  ∀ (m : (ℓ : Loc Cert.BwdDwbIdeal.nD Cert.BwdDwbIdeal.τ Cert.BwdDwbIdeal.sig) → Buf (Elt Ideal) ℓ) (g : Dev Cert.BwdDwbIdeal.nD → PrngReg)
    (m' : (ℓ : Loc Cert.RefDwbIdeal.nD Cert.RefDwbIdeal.τ Cert.RefDwbIdeal.sig) → Buf (Elt Ideal) ℓ) (g' : Dev Cert.RefDwbIdeal.nD → PrngReg), Pre_BwdDwbIdeal m →
    (∀ c : Dev Cert.BwdDwbIdeal.nD,
      m' ((c.tc : Thread Cert.RefDwbIdeal.nD Cert.RefDwbIdeal.τ).loc Cert.RefDwbIdeal.main_arg0) = m ((c.tc : Thread Cert.BwdDwbIdeal.nD Cert.BwdDwbIdeal.τ).loc Cert.BwdDwbIdeal.main_arg0)
      ∧ m' ((c.tc : Thread Cert.RefDwbIdeal.nD Cert.RefDwbIdeal.τ).loc Cert.RefDwbIdeal.main_arg1) = m ((c.tc : Thread Cert.BwdDwbIdeal.nD Cert.BwdDwbIdeal.τ).loc Cert.BwdDwbIdeal.main_arg1)) →
    ∃ (v0 : (c : Dev Cert.BwdDwbIdeal.nD) → Buf (Elt Ideal) ((c.tc : Thread Cert.BwdDwbIdeal.nD Cert.BwdDwbIdeal.τ).loc Cert.BwdDwbIdeal.main_v0)),
      θ_run (Cert.BwdDwbIdeal.defs (F := Ideal)) (onTc (τ := Cert.BwdDwbIdeal.τ) (Cert.BwdDwbIdeal.main (F := Ideal))) ⟨m, fun _ => 0, g⟩ (fun r => ∀ c : Dev Cert.BwdDwbIdeal.nD,
          r.2.mem ((c.tc : Thread Cert.BwdDwbIdeal.nD Cert.BwdDwbIdeal.τ).loc Cert.BwdDwbIdeal.main_v0) = v0 c
          ∧ r.2.mem ((c.tc : Thread Cert.BwdDwbIdeal.nD Cert.BwdDwbIdeal.τ).loc Cert.BwdDwbIdeal.main_arg0) = m ((c.tc : Thread Cert.BwdDwbIdeal.nD Cert.BwdDwbIdeal.τ).loc Cert.BwdDwbIdeal.main_arg0)
          ∧ r.2.mem ((c.tc : Thread Cert.BwdDwbIdeal.nD Cert.BwdDwbIdeal.τ).loc Cert.BwdDwbIdeal.main_arg1) = m ((c.tc : Thread Cert.BwdDwbIdeal.nD Cert.BwdDwbIdeal.τ).loc Cert.BwdDwbIdeal.main_arg1))
      ∧ θ_run (Cert.RefDwbIdeal.defs (F := Ideal)) (onTc (τ := Cert.RefDwbIdeal.τ) (Cert.RefDwbIdeal.main (F := Ideal))) ⟨m', fun _ => 0, g'⟩ (fun r => ∀ c : Dev Cert.RefDwbIdeal.nD,
          r.2.mem ((c.tc : Thread Cert.RefDwbIdeal.nD Cert.RefDwbIdeal.τ).loc Cert.RefDwbIdeal.main_v6) = v0 c
          ∧ r.2.mem ((c.tc : Thread Cert.RefDwbIdeal.nD Cert.RefDwbIdeal.τ).loc Cert.RefDwbIdeal.main_arg0) = m' ((c.tc : Thread Cert.RefDwbIdeal.nD Cert.RefDwbIdeal.τ).loc Cert.RefDwbIdeal.main_arg0)
          ∧ r.2.mem ((c.tc : Thread Cert.RefDwbIdeal.nD Cert.RefDwbIdeal.τ).loc Cert.RefDwbIdeal.main_arg1) = m' ((c.tc : Thread Cert.RefDwbIdeal.nD Cert.RefDwbIdeal.τ).loc Cert.RefDwbIdeal.main_arg1))

def preserves_FwdYa_FwdYaIdeal : Prop :=
  True

def algebraic_FwdYaIdeal_RefYaIdeal [hFwdYaIdeal : Cert.FwdYaIdeal.Facts] [hRefYaIdeal : Cert.RefYaIdeal.Facts] : Prop :=
  ∀ (m : (ℓ : Loc Cert.FwdYaIdeal.nD Cert.FwdYaIdeal.τ Cert.FwdYaIdeal.sig) → Buf (Elt Ideal) ℓ) (g : Dev Cert.FwdYaIdeal.nD → PrngReg)
    (m' : (ℓ : Loc Cert.RefYaIdeal.nD Cert.RefYaIdeal.τ Cert.RefYaIdeal.sig) → Buf (Elt Ideal) ℓ) (g' : Dev Cert.RefYaIdeal.nD → PrngReg), Pre_FwdYaIdeal m →
    (∀ c : Dev Cert.FwdYaIdeal.nD,
      m' ((c.tc : Thread Cert.RefYaIdeal.nD Cert.RefYaIdeal.τ).loc Cert.RefYaIdeal.main_arg0) = m ((c.tc : Thread Cert.FwdYaIdeal.nD Cert.FwdYaIdeal.τ).loc Cert.FwdYaIdeal.main_arg0)
      ∧ m' ((c.tc : Thread Cert.RefYaIdeal.nD Cert.RefYaIdeal.τ).loc Cert.RefYaIdeal.main_arg1) = m ((c.tc : Thread Cert.FwdYaIdeal.nD Cert.FwdYaIdeal.τ).loc Cert.FwdYaIdeal.main_arg1)
      ∧ m' ((c.tc : Thread Cert.RefYaIdeal.nD Cert.RefYaIdeal.τ).loc Cert.RefYaIdeal.main_arg2) = m ((c.tc : Thread Cert.FwdYaIdeal.nD Cert.FwdYaIdeal.τ).loc Cert.FwdYaIdeal.main_arg2)
      ∧ m' ((c.tc : Thread Cert.RefYaIdeal.nD Cert.RefYaIdeal.τ).loc Cert.RefYaIdeal.main_arg3) = m ((c.tc : Thread Cert.FwdYaIdeal.nD Cert.FwdYaIdeal.τ).loc Cert.FwdYaIdeal.main_arg3)) →
    ∃ (v0 : (c : Dev Cert.FwdYaIdeal.nD) → Buf (Elt Ideal) ((c.tc : Thread Cert.FwdYaIdeal.nD Cert.FwdYaIdeal.τ).loc Cert.FwdYaIdeal.main_v0_0)) (v1 : (c : Dev Cert.FwdYaIdeal.nD) → Buf (Elt Ideal) ((c.tc : Thread Cert.FwdYaIdeal.nD Cert.FwdYaIdeal.τ).loc Cert.FwdYaIdeal.main_v0_1)),
      θ_run (Cert.FwdYaIdeal.defs (F := Ideal)) (onTc (τ := Cert.FwdYaIdeal.τ) (Cert.FwdYaIdeal.main (F := Ideal))) ⟨m, fun _ => 0, g⟩ (fun r => ∀ c : Dev Cert.FwdYaIdeal.nD,
          r.2.mem ((c.tc : Thread Cert.FwdYaIdeal.nD Cert.FwdYaIdeal.τ).loc Cert.FwdYaIdeal.main_v0_0) = v0 c
          ∧ r.2.mem ((c.tc : Thread Cert.FwdYaIdeal.nD Cert.FwdYaIdeal.τ).loc Cert.FwdYaIdeal.main_v0_1) = v1 c
          ∧ r.2.mem ((c.tc : Thread Cert.FwdYaIdeal.nD Cert.FwdYaIdeal.τ).loc Cert.FwdYaIdeal.main_arg0) = m ((c.tc : Thread Cert.FwdYaIdeal.nD Cert.FwdYaIdeal.τ).loc Cert.FwdYaIdeal.main_arg0)
          ∧ r.2.mem ((c.tc : Thread Cert.FwdYaIdeal.nD Cert.FwdYaIdeal.τ).loc Cert.FwdYaIdeal.main_arg1) = m ((c.tc : Thread Cert.FwdYaIdeal.nD Cert.FwdYaIdeal.τ).loc Cert.FwdYaIdeal.main_arg1)
          ∧ r.2.mem ((c.tc : Thread Cert.FwdYaIdeal.nD Cert.FwdYaIdeal.τ).loc Cert.FwdYaIdeal.main_arg2) = m ((c.tc : Thread Cert.FwdYaIdeal.nD Cert.FwdYaIdeal.τ).loc Cert.FwdYaIdeal.main_arg2)
          ∧ r.2.mem ((c.tc : Thread Cert.FwdYaIdeal.nD Cert.FwdYaIdeal.τ).loc Cert.FwdYaIdeal.main_arg3) = m ((c.tc : Thread Cert.FwdYaIdeal.nD Cert.FwdYaIdeal.τ).loc Cert.FwdYaIdeal.main_arg3))
      ∧ θ_run (Cert.RefYaIdeal.defs (F := Ideal)) (onTc (τ := Cert.RefYaIdeal.τ) (Cert.RefYaIdeal.main (F := Ideal))) ⟨m', fun _ => 0, g'⟩ (fun r => ∀ c : Dev Cert.RefYaIdeal.nD,
          r.2.mem ((c.tc : Thread Cert.RefYaIdeal.nD Cert.RefYaIdeal.τ).loc Cert.RefYaIdeal.main_v24) = v0 c
          ∧ r.2.mem ((c.tc : Thread Cert.RefYaIdeal.nD Cert.RefYaIdeal.τ).loc Cert.RefYaIdeal.main_v25) = v1 c
          ∧ r.2.mem ((c.tc : Thread Cert.RefYaIdeal.nD Cert.RefYaIdeal.τ).loc Cert.RefYaIdeal.main_arg0) = m' ((c.tc : Thread Cert.RefYaIdeal.nD Cert.RefYaIdeal.τ).loc Cert.RefYaIdeal.main_arg0)
          ∧ r.2.mem ((c.tc : Thread Cert.RefYaIdeal.nD Cert.RefYaIdeal.τ).loc Cert.RefYaIdeal.main_arg1) = m' ((c.tc : Thread Cert.RefYaIdeal.nD Cert.RefYaIdeal.τ).loc Cert.RefYaIdeal.main_arg1)
          ∧ r.2.mem ((c.tc : Thread Cert.RefYaIdeal.nD Cert.RefYaIdeal.τ).loc Cert.RefYaIdeal.main_arg2) = m' ((c.tc : Thread Cert.RefYaIdeal.nD Cert.RefYaIdeal.τ).loc Cert.RefYaIdeal.main_arg2)
          ∧ r.2.mem ((c.tc : Thread Cert.RefYaIdeal.nD Cert.RefYaIdeal.τ).loc Cert.RefYaIdeal.main_arg3) = m' ((c.tc : Thread Cert.RefYaIdeal.nD Cert.RefYaIdeal.τ).loc Cert.RefYaIdeal.main_arg3))

def preserves_FwdYb_FwdYbIdeal : Prop :=
  True

def algebraic_FwdYbIdeal_RefYbIdeal [hFwdYbIdeal : Cert.FwdYbIdeal.Facts] [hRefYbIdeal : Cert.RefYbIdeal.Facts] : Prop :=
  ∀ (m : (ℓ : Loc Cert.FwdYbIdeal.nD Cert.FwdYbIdeal.τ Cert.FwdYbIdeal.sig) → Buf (Elt Ideal) ℓ) (g : Dev Cert.FwdYbIdeal.nD → PrngReg)
    (m' : (ℓ : Loc Cert.RefYbIdeal.nD Cert.RefYbIdeal.τ Cert.RefYbIdeal.sig) → Buf (Elt Ideal) ℓ) (g' : Dev Cert.RefYbIdeal.nD → PrngReg), Pre_FwdYbIdeal m →
    (∀ c : Dev Cert.FwdYbIdeal.nD,
      m' ((c.tc : Thread Cert.RefYbIdeal.nD Cert.RefYbIdeal.τ).loc Cert.RefYbIdeal.main_arg0) = m ((c.tc : Thread Cert.FwdYbIdeal.nD Cert.FwdYbIdeal.τ).loc Cert.FwdYbIdeal.main_arg0)
      ∧ m' ((c.tc : Thread Cert.RefYbIdeal.nD Cert.RefYbIdeal.τ).loc Cert.RefYbIdeal.main_arg1) = m ((c.tc : Thread Cert.FwdYbIdeal.nD Cert.FwdYbIdeal.τ).loc Cert.FwdYbIdeal.main_arg1)
      ∧ m' ((c.tc : Thread Cert.RefYbIdeal.nD Cert.RefYbIdeal.τ).loc Cert.RefYbIdeal.main_arg2) = m ((c.tc : Thread Cert.FwdYbIdeal.nD Cert.FwdYbIdeal.τ).loc Cert.FwdYbIdeal.main_arg2)) →
    ∃ (v0 : (c : Dev Cert.FwdYbIdeal.nD) → Buf (Elt Ideal) ((c.tc : Thread Cert.FwdYbIdeal.nD Cert.FwdYbIdeal.τ).loc Cert.FwdYbIdeal.main_v0_0)) (v1 : (c : Dev Cert.FwdYbIdeal.nD) → Buf (Elt Ideal) ((c.tc : Thread Cert.FwdYbIdeal.nD Cert.FwdYbIdeal.τ).loc Cert.FwdYbIdeal.main_v0_1)),
      θ_run (Cert.FwdYbIdeal.defs (F := Ideal)) (onTc (τ := Cert.FwdYbIdeal.τ) (Cert.FwdYbIdeal.main (F := Ideal))) ⟨m, fun _ => 0, g⟩ (fun r => ∀ c : Dev Cert.FwdYbIdeal.nD,
          r.2.mem ((c.tc : Thread Cert.FwdYbIdeal.nD Cert.FwdYbIdeal.τ).loc Cert.FwdYbIdeal.main_v0_0) = v0 c
          ∧ r.2.mem ((c.tc : Thread Cert.FwdYbIdeal.nD Cert.FwdYbIdeal.τ).loc Cert.FwdYbIdeal.main_v0_1) = v1 c
          ∧ r.2.mem ((c.tc : Thread Cert.FwdYbIdeal.nD Cert.FwdYbIdeal.τ).loc Cert.FwdYbIdeal.main_arg0) = m ((c.tc : Thread Cert.FwdYbIdeal.nD Cert.FwdYbIdeal.τ).loc Cert.FwdYbIdeal.main_arg0)
          ∧ r.2.mem ((c.tc : Thread Cert.FwdYbIdeal.nD Cert.FwdYbIdeal.τ).loc Cert.FwdYbIdeal.main_arg1) = m ((c.tc : Thread Cert.FwdYbIdeal.nD Cert.FwdYbIdeal.τ).loc Cert.FwdYbIdeal.main_arg1)
          ∧ r.2.mem ((c.tc : Thread Cert.FwdYbIdeal.nD Cert.FwdYbIdeal.τ).loc Cert.FwdYbIdeal.main_arg2) = m ((c.tc : Thread Cert.FwdYbIdeal.nD Cert.FwdYbIdeal.τ).loc Cert.FwdYbIdeal.main_arg2))
      ∧ θ_run (Cert.RefYbIdeal.defs (F := Ideal)) (onTc (τ := Cert.RefYbIdeal.τ) (Cert.RefYbIdeal.main (F := Ideal))) ⟨m', fun _ => 0, g'⟩ (fun r => ∀ c : Dev Cert.RefYbIdeal.nD,
          r.2.mem ((c.tc : Thread Cert.RefYbIdeal.nD Cert.RefYbIdeal.τ).loc Cert.RefYbIdeal.main_v19) = v0 c
          ∧ r.2.mem ((c.tc : Thread Cert.RefYbIdeal.nD Cert.RefYbIdeal.τ).loc Cert.RefYbIdeal.main_v20) = v1 c
          ∧ r.2.mem ((c.tc : Thread Cert.RefYbIdeal.nD Cert.RefYbIdeal.τ).loc Cert.RefYbIdeal.main_arg0) = m' ((c.tc : Thread Cert.RefYbIdeal.nD Cert.RefYbIdeal.τ).loc Cert.RefYbIdeal.main_arg0)
          ∧ r.2.mem ((c.tc : Thread Cert.RefYbIdeal.nD Cert.RefYbIdeal.τ).loc Cert.RefYbIdeal.main_arg1) = m' ((c.tc : Thread Cert.RefYbIdeal.nD Cert.RefYbIdeal.τ).loc Cert.RefYbIdeal.main_arg1)
          ∧ r.2.mem ((c.tc : Thread Cert.RefYbIdeal.nD Cert.RefYbIdeal.τ).loc Cert.RefYbIdeal.main_arg2) = m' ((c.tc : Thread Cert.RefYbIdeal.nD Cert.RefYbIdeal.τ).loc Cert.RefYbIdeal.main_arg2))

def preserves_FwdX1_FwdX1Ideal : Prop :=
  True

def algebraic_FwdX1Ideal_RefX1Ideal [hFwdX1Ideal : Cert.FwdX1Ideal.Facts] [hRefX1Ideal : Cert.RefX1Ideal.Facts] : Prop :=
  ∀ (m : (ℓ : Loc Cert.FwdX1Ideal.nD Cert.FwdX1Ideal.τ Cert.FwdX1Ideal.sig) → Buf (Elt Ideal) ℓ) (g : Dev Cert.FwdX1Ideal.nD → PrngReg)
    (m' : (ℓ : Loc Cert.RefX1Ideal.nD Cert.RefX1Ideal.τ Cert.RefX1Ideal.sig) → Buf (Elt Ideal) ℓ) (g' : Dev Cert.RefX1Ideal.nD → PrngReg), Pre_FwdX1Ideal m →
    (∀ c : Dev Cert.FwdX1Ideal.nD,
      m' ((c.tc : Thread Cert.RefX1Ideal.nD Cert.RefX1Ideal.τ).loc Cert.RefX1Ideal.main_arg0) = m ((c.tc : Thread Cert.FwdX1Ideal.nD Cert.FwdX1Ideal.τ).loc Cert.FwdX1Ideal.main_arg0)
      ∧ m' ((c.tc : Thread Cert.RefX1Ideal.nD Cert.RefX1Ideal.τ).loc Cert.RefX1Ideal.main_arg1) = m ((c.tc : Thread Cert.FwdX1Ideal.nD Cert.FwdX1Ideal.τ).loc Cert.FwdX1Ideal.main_arg1)
      ∧ m' ((c.tc : Thread Cert.RefX1Ideal.nD Cert.RefX1Ideal.τ).loc Cert.RefX1Ideal.main_arg2) = m ((c.tc : Thread Cert.FwdX1Ideal.nD Cert.FwdX1Ideal.τ).loc Cert.FwdX1Ideal.main_arg2)
      ∧ m' ((c.tc : Thread Cert.RefX1Ideal.nD Cert.RefX1Ideal.τ).loc Cert.RefX1Ideal.main_arg3) = m ((c.tc : Thread Cert.FwdX1Ideal.nD Cert.FwdX1Ideal.τ).loc Cert.FwdX1Ideal.main_arg3)
      ∧ m' ((c.tc : Thread Cert.RefX1Ideal.nD Cert.RefX1Ideal.τ).loc Cert.RefX1Ideal.main_arg4) = m ((c.tc : Thread Cert.FwdX1Ideal.nD Cert.FwdX1Ideal.τ).loc Cert.FwdX1Ideal.main_arg4)) →
    ∃ (v0 : (c : Dev Cert.FwdX1Ideal.nD) → Buf (Elt Ideal) ((c.tc : Thread Cert.FwdX1Ideal.nD Cert.FwdX1Ideal.τ).loc Cert.FwdX1Ideal.main_v0_0)) (v1 : (c : Dev Cert.FwdX1Ideal.nD) → Buf (Elt Ideal) ((c.tc : Thread Cert.FwdX1Ideal.nD Cert.FwdX1Ideal.τ).loc Cert.FwdX1Ideal.main_v0_1)),
      θ_run (Cert.FwdX1Ideal.defs (F := Ideal)) (onTc (τ := Cert.FwdX1Ideal.τ) (Cert.FwdX1Ideal.main (F := Ideal))) ⟨m, fun _ => 0, g⟩ (fun r => ∀ c : Dev Cert.FwdX1Ideal.nD,
          r.2.mem ((c.tc : Thread Cert.FwdX1Ideal.nD Cert.FwdX1Ideal.τ).loc Cert.FwdX1Ideal.main_v0_0) = v0 c
          ∧ r.2.mem ((c.tc : Thread Cert.FwdX1Ideal.nD Cert.FwdX1Ideal.τ).loc Cert.FwdX1Ideal.main_v0_1) = v1 c
          ∧ r.2.mem ((c.tc : Thread Cert.FwdX1Ideal.nD Cert.FwdX1Ideal.τ).loc Cert.FwdX1Ideal.main_arg0) = m ((c.tc : Thread Cert.FwdX1Ideal.nD Cert.FwdX1Ideal.τ).loc Cert.FwdX1Ideal.main_arg0)
          ∧ r.2.mem ((c.tc : Thread Cert.FwdX1Ideal.nD Cert.FwdX1Ideal.τ).loc Cert.FwdX1Ideal.main_arg1) = m ((c.tc : Thread Cert.FwdX1Ideal.nD Cert.FwdX1Ideal.τ).loc Cert.FwdX1Ideal.main_arg1)
          ∧ r.2.mem ((c.tc : Thread Cert.FwdX1Ideal.nD Cert.FwdX1Ideal.τ).loc Cert.FwdX1Ideal.main_arg2) = m ((c.tc : Thread Cert.FwdX1Ideal.nD Cert.FwdX1Ideal.τ).loc Cert.FwdX1Ideal.main_arg2)
          ∧ r.2.mem ((c.tc : Thread Cert.FwdX1Ideal.nD Cert.FwdX1Ideal.τ).loc Cert.FwdX1Ideal.main_arg3) = m ((c.tc : Thread Cert.FwdX1Ideal.nD Cert.FwdX1Ideal.τ).loc Cert.FwdX1Ideal.main_arg3)
          ∧ r.2.mem ((c.tc : Thread Cert.FwdX1Ideal.nD Cert.FwdX1Ideal.τ).loc Cert.FwdX1Ideal.main_arg4) = m ((c.tc : Thread Cert.FwdX1Ideal.nD Cert.FwdX1Ideal.τ).loc Cert.FwdX1Ideal.main_arg4))
      ∧ θ_run (Cert.RefX1Ideal.defs (F := Ideal)) (onTc (τ := Cert.RefX1Ideal.τ) (Cert.RefX1Ideal.main (F := Ideal))) ⟨m', fun _ => 0, g'⟩ (fun r => ∀ c : Dev Cert.RefX1Ideal.nD,
          r.2.mem ((c.tc : Thread Cert.RefX1Ideal.nD Cert.RefX1Ideal.τ).loc Cert.RefX1Ideal.main_v23) = v0 c
          ∧ r.2.mem ((c.tc : Thread Cert.RefX1Ideal.nD Cert.RefX1Ideal.τ).loc Cert.RefX1Ideal.main_v24) = v1 c
          ∧ r.2.mem ((c.tc : Thread Cert.RefX1Ideal.nD Cert.RefX1Ideal.τ).loc Cert.RefX1Ideal.main_arg0) = m' ((c.tc : Thread Cert.RefX1Ideal.nD Cert.RefX1Ideal.τ).loc Cert.RefX1Ideal.main_arg0)
          ∧ r.2.mem ((c.tc : Thread Cert.RefX1Ideal.nD Cert.RefX1Ideal.τ).loc Cert.RefX1Ideal.main_arg1) = m' ((c.tc : Thread Cert.RefX1Ideal.nD Cert.RefX1Ideal.τ).loc Cert.RefX1Ideal.main_arg1)
          ∧ r.2.mem ((c.tc : Thread Cert.RefX1Ideal.nD Cert.RefX1Ideal.τ).loc Cert.RefX1Ideal.main_arg2) = m' ((c.tc : Thread Cert.RefX1Ideal.nD Cert.RefX1Ideal.τ).loc Cert.RefX1Ideal.main_arg2)
          ∧ r.2.mem ((c.tc : Thread Cert.RefX1Ideal.nD Cert.RefX1Ideal.τ).loc Cert.RefX1Ideal.main_arg3) = m' ((c.tc : Thread Cert.RefX1Ideal.nD Cert.RefX1Ideal.τ).loc Cert.RefX1Ideal.main_arg3)
          ∧ r.2.mem ((c.tc : Thread Cert.RefX1Ideal.nD Cert.RefX1Ideal.τ).loc Cert.RefX1Ideal.main_arg4) = m' ((c.tc : Thread Cert.RefX1Ideal.nD Cert.RefX1Ideal.τ).loc Cert.RefX1Ideal.main_arg4))

def preserves_BwdDm_BwdDmIdeal : Prop :=
  True

def algebraic_BwdDmIdeal_RefDmIdeal_on_gate_columns [hBwdDmIdeal : Cert.BwdDmIdeal.Facts] [hRefDmIdeal : Cert.RefDmIdeal.Facts] [hOn_gate_columns : Cert.On_gate_columns.Facts] : Prop :=
  ∀ (m : (ℓ : Loc Cert.BwdDmIdeal.nD Cert.BwdDmIdeal.τ Cert.BwdDmIdeal.sig) → Buf (Elt Ideal) ℓ) (g : Dev Cert.BwdDmIdeal.nD → PrngReg)
    (m' : (ℓ : Loc Cert.RefDmIdeal.nD Cert.RefDmIdeal.τ Cert.RefDmIdeal.sig) → Buf (Elt Ideal) ℓ) (g' : Dev Cert.RefDmIdeal.nD → PrngReg), Pre_BwdDmIdeal m →
    (∀ c : Dev Cert.BwdDmIdeal.nD,
      m' ((c.tc : Thread Cert.RefDmIdeal.nD Cert.RefDmIdeal.τ).loc Cert.RefDmIdeal.main_arg0) = m ((c.tc : Thread Cert.BwdDmIdeal.nD Cert.BwdDmIdeal.τ).loc Cert.BwdDmIdeal.main_arg0)
      ∧ m' ((c.tc : Thread Cert.RefDmIdeal.nD Cert.RefDmIdeal.τ).loc Cert.RefDmIdeal.main_arg1) = m ((c.tc : Thread Cert.BwdDmIdeal.nD Cert.BwdDmIdeal.τ).loc Cert.BwdDmIdeal.main_arg1)
      ∧ m' ((c.tc : Thread Cert.RefDmIdeal.nD Cert.RefDmIdeal.τ).loc Cert.RefDmIdeal.main_arg2) = m ((c.tc : Thread Cert.BwdDmIdeal.nD Cert.BwdDmIdeal.τ).loc Cert.BwdDmIdeal.main_arg2)
      ∧ m' ((c.tc : Thread Cert.RefDmIdeal.nD Cert.RefDmIdeal.τ).loc Cert.RefDmIdeal.main_arg3) = m ((c.tc : Thread Cert.BwdDmIdeal.nD Cert.BwdDmIdeal.τ).loc Cert.BwdDmIdeal.main_arg3)
      ∧ m' ((c.tc : Thread Cert.RefDmIdeal.nD Cert.RefDmIdeal.τ).loc Cert.RefDmIdeal.main_arg4) = m ((c.tc : Thread Cert.BwdDmIdeal.nD Cert.BwdDmIdeal.τ).loc Cert.BwdDmIdeal.main_arg4)) →
    ∃ (v0 : (c : Dev Cert.BwdDmIdeal.nD) → Buf (Elt Ideal) ((c.tc : Thread Cert.BwdDmIdeal.nD Cert.BwdDmIdeal.τ).loc Cert.BwdDmIdeal.main_v0_0)) (v1 : (c : Dev Cert.BwdDmIdeal.nD) → Buf (Elt Ideal) ((c.tc : Thread Cert.BwdDmIdeal.nD Cert.BwdDmIdeal.τ).loc Cert.BwdDmIdeal.main_v0_1)) (v2 : (c : Dev Cert.BwdDmIdeal.nD) → Buf (Elt Ideal) ((c.tc : Thread Cert.BwdDmIdeal.nD Cert.BwdDmIdeal.τ).loc Cert.BwdDmIdeal.main_v0_2)),
      θ_run (Cert.BwdDmIdeal.defs (F := Ideal)) (onTc (τ := Cert.BwdDmIdeal.τ) (Cert.BwdDmIdeal.main (F := Ideal))) ⟨m, fun _ => 0, g⟩ (fun r => ∀ c : Dev Cert.BwdDmIdeal.nD,
          (∀ i : (⟨2, ![4096, 1024]⟩ : Shape).Idx, (Cert.On_gate_columns.fn (F := Ideal) (m ((c.tc : Thread Cert.BwdDmIdeal.nD Cert.BwdDmIdeal.τ).loc Cert.BwdDmIdeal.main_arg0)) (m ((c.tc : Thread Cert.BwdDmIdeal.nD Cert.BwdDmIdeal.τ).loc Cert.BwdDmIdeal.main_arg1)) (m ((c.tc : Thread Cert.BwdDmIdeal.nD Cert.BwdDmIdeal.τ).loc Cert.BwdDmIdeal.main_arg2)) (m ((c.tc : Thread Cert.BwdDmIdeal.nD Cert.BwdDmIdeal.τ).loc Cert.BwdDmIdeal.main_arg3)) (m ((c.tc : Thread Cert.BwdDmIdeal.nD Cert.BwdDmIdeal.τ).loc Cert.BwdDmIdeal.main_arg4))).1 i = 1#1 → r.2.mem ((c.tc : Thread Cert.BwdDmIdeal.nD Cert.BwdDmIdeal.τ).loc Cert.BwdDmIdeal.main_v0_0) i = v0 c i)
          ∧ (∀ i : (⟨2, ![4096, 1024]⟩ : Shape).Idx, (Cert.On_gate_columns.fn (F := Ideal) (m ((c.tc : Thread Cert.BwdDmIdeal.nD Cert.BwdDmIdeal.τ).loc Cert.BwdDmIdeal.main_arg0)) (m ((c.tc : Thread Cert.BwdDmIdeal.nD Cert.BwdDmIdeal.τ).loc Cert.BwdDmIdeal.main_arg1)) (m ((c.tc : Thread Cert.BwdDmIdeal.nD Cert.BwdDmIdeal.τ).loc Cert.BwdDmIdeal.main_arg2)) (m ((c.tc : Thread Cert.BwdDmIdeal.nD Cert.BwdDmIdeal.τ).loc Cert.BwdDmIdeal.main_arg3)) (m ((c.tc : Thread Cert.BwdDmIdeal.nD Cert.BwdDmIdeal.τ).loc Cert.BwdDmIdeal.main_arg4))).2.1 i = 1#1 → r.2.mem ((c.tc : Thread Cert.BwdDmIdeal.nD Cert.BwdDmIdeal.τ).loc Cert.BwdDmIdeal.main_v0_1) i = v1 c i)
          ∧ (∀ i : (⟨2, ![4096, 7168]⟩ : Shape).Idx, (Cert.On_gate_columns.fn (F := Ideal) (m ((c.tc : Thread Cert.BwdDmIdeal.nD Cert.BwdDmIdeal.τ).loc Cert.BwdDmIdeal.main_arg0)) (m ((c.tc : Thread Cert.BwdDmIdeal.nD Cert.BwdDmIdeal.τ).loc Cert.BwdDmIdeal.main_arg1)) (m ((c.tc : Thread Cert.BwdDmIdeal.nD Cert.BwdDmIdeal.τ).loc Cert.BwdDmIdeal.main_arg2)) (m ((c.tc : Thread Cert.BwdDmIdeal.nD Cert.BwdDmIdeal.τ).loc Cert.BwdDmIdeal.main_arg3)) (m ((c.tc : Thread Cert.BwdDmIdeal.nD Cert.BwdDmIdeal.τ).loc Cert.BwdDmIdeal.main_arg4))).2.2 i = 1#1 → r.2.mem ((c.tc : Thread Cert.BwdDmIdeal.nD Cert.BwdDmIdeal.τ).loc Cert.BwdDmIdeal.main_v0_2) i = v2 c i)
          ∧ r.2.mem ((c.tc : Thread Cert.BwdDmIdeal.nD Cert.BwdDmIdeal.τ).loc Cert.BwdDmIdeal.main_arg0) = m ((c.tc : Thread Cert.BwdDmIdeal.nD Cert.BwdDmIdeal.τ).loc Cert.BwdDmIdeal.main_arg0)
          ∧ r.2.mem ((c.tc : Thread Cert.BwdDmIdeal.nD Cert.BwdDmIdeal.τ).loc Cert.BwdDmIdeal.main_arg1) = m ((c.tc : Thread Cert.BwdDmIdeal.nD Cert.BwdDmIdeal.τ).loc Cert.BwdDmIdeal.main_arg1)
          ∧ r.2.mem ((c.tc : Thread Cert.BwdDmIdeal.nD Cert.BwdDmIdeal.τ).loc Cert.BwdDmIdeal.main_arg2) = m ((c.tc : Thread Cert.BwdDmIdeal.nD Cert.BwdDmIdeal.τ).loc Cert.BwdDmIdeal.main_arg2)
          ∧ r.2.mem ((c.tc : Thread Cert.BwdDmIdeal.nD Cert.BwdDmIdeal.τ).loc Cert.BwdDmIdeal.main_arg3) = m ((c.tc : Thread Cert.BwdDmIdeal.nD Cert.BwdDmIdeal.τ).loc Cert.BwdDmIdeal.main_arg3)
          ∧ r.2.mem ((c.tc : Thread Cert.BwdDmIdeal.nD Cert.BwdDmIdeal.τ).loc Cert.BwdDmIdeal.main_arg4) = m ((c.tc : Thread Cert.BwdDmIdeal.nD Cert.BwdDmIdeal.τ).loc Cert.BwdDmIdeal.main_arg4))
      ∧ θ_run (Cert.RefDmIdeal.defs (F := Ideal)) (onTc (τ := Cert.RefDmIdeal.τ) (Cert.RefDmIdeal.main (F := Ideal))) ⟨m', fun _ => 0, g'⟩ (fun r => ∀ c : Dev Cert.RefDmIdeal.nD,
          (∀ i : (⟨2, ![4096, 1024]⟩ : Shape).Idx, (Cert.On_gate_columns.fn (F := Ideal) (m ((c.tc : Thread Cert.BwdDmIdeal.nD Cert.BwdDmIdeal.τ).loc Cert.BwdDmIdeal.main_arg0)) (m ((c.tc : Thread Cert.BwdDmIdeal.nD Cert.BwdDmIdeal.τ).loc Cert.BwdDmIdeal.main_arg1)) (m ((c.tc : Thread Cert.BwdDmIdeal.nD Cert.BwdDmIdeal.τ).loc Cert.BwdDmIdeal.main_arg2)) (m ((c.tc : Thread Cert.BwdDmIdeal.nD Cert.BwdDmIdeal.τ).loc Cert.BwdDmIdeal.main_arg3)) (m ((c.tc : Thread Cert.BwdDmIdeal.nD Cert.BwdDmIdeal.τ).loc Cert.BwdDmIdeal.main_arg4))).1 i = 1#1 → r.2.mem ((c.tc : Thread Cert.RefDmIdeal.nD Cert.RefDmIdeal.τ).loc Cert.RefDmIdeal.main_v38) i = v0 c i)
          ∧ (∀ i : (⟨2, ![4096, 1024]⟩ : Shape).Idx, (Cert.On_gate_columns.fn (F := Ideal) (m ((c.tc : Thread Cert.BwdDmIdeal.nD Cert.BwdDmIdeal.τ).loc Cert.BwdDmIdeal.main_arg0)) (m ((c.tc : Thread Cert.BwdDmIdeal.nD Cert.BwdDmIdeal.τ).loc Cert.BwdDmIdeal.main_arg1)) (m ((c.tc : Thread Cert.BwdDmIdeal.nD Cert.BwdDmIdeal.τ).loc Cert.BwdDmIdeal.main_arg2)) (m ((c.tc : Thread Cert.BwdDmIdeal.nD Cert.BwdDmIdeal.τ).loc Cert.BwdDmIdeal.main_arg3)) (m ((c.tc : Thread Cert.BwdDmIdeal.nD Cert.BwdDmIdeal.τ).loc Cert.BwdDmIdeal.main_arg4))).2.1 i = 1#1 → r.2.mem ((c.tc : Thread Cert.RefDmIdeal.nD Cert.RefDmIdeal.τ).loc Cert.RefDmIdeal.main_v39) i = v1 c i)
          ∧ (∀ i : (⟨2, ![4096, 7168]⟩ : Shape).Idx, (Cert.On_gate_columns.fn (F := Ideal) (m ((c.tc : Thread Cert.BwdDmIdeal.nD Cert.BwdDmIdeal.τ).loc Cert.BwdDmIdeal.main_arg0)) (m ((c.tc : Thread Cert.BwdDmIdeal.nD Cert.BwdDmIdeal.τ).loc Cert.BwdDmIdeal.main_arg1)) (m ((c.tc : Thread Cert.BwdDmIdeal.nD Cert.BwdDmIdeal.τ).loc Cert.BwdDmIdeal.main_arg2)) (m ((c.tc : Thread Cert.BwdDmIdeal.nD Cert.BwdDmIdeal.τ).loc Cert.BwdDmIdeal.main_arg3)) (m ((c.tc : Thread Cert.BwdDmIdeal.nD Cert.BwdDmIdeal.τ).loc Cert.BwdDmIdeal.main_arg4))).2.2 i = 1#1 → r.2.mem ((c.tc : Thread Cert.RefDmIdeal.nD Cert.RefDmIdeal.τ).loc Cert.RefDmIdeal.main_v40) i = v2 c i)
          ∧ r.2.mem ((c.tc : Thread Cert.RefDmIdeal.nD Cert.RefDmIdeal.τ).loc Cert.RefDmIdeal.main_arg0) = m' ((c.tc : Thread Cert.RefDmIdeal.nD Cert.RefDmIdeal.τ).loc Cert.RefDmIdeal.main_arg0)
          ∧ r.2.mem ((c.tc : Thread Cert.RefDmIdeal.nD Cert.RefDmIdeal.τ).loc Cert.RefDmIdeal.main_arg1) = m' ((c.tc : Thread Cert.RefDmIdeal.nD Cert.RefDmIdeal.τ).loc Cert.RefDmIdeal.main_arg1)
          ∧ r.2.mem ((c.tc : Thread Cert.RefDmIdeal.nD Cert.RefDmIdeal.τ).loc Cert.RefDmIdeal.main_arg2) = m' ((c.tc : Thread Cert.RefDmIdeal.nD Cert.RefDmIdeal.τ).loc Cert.RefDmIdeal.main_arg2)
          ∧ r.2.mem ((c.tc : Thread Cert.RefDmIdeal.nD Cert.RefDmIdeal.τ).loc Cert.RefDmIdeal.main_arg3) = m' ((c.tc : Thread Cert.RefDmIdeal.nD Cert.RefDmIdeal.τ).loc Cert.RefDmIdeal.main_arg3)
          ∧ r.2.mem ((c.tc : Thread Cert.RefDmIdeal.nD Cert.RefDmIdeal.τ).loc Cert.RefDmIdeal.main_arg4) = m' ((c.tc : Thread Cert.RefDmIdeal.nD Cert.RefDmIdeal.τ).loc Cert.RefDmIdeal.main_arg4))

def preserves_FwdZ_FwdZIdeal : Prop :=
  True

def algebraic_FwdZIdeal_RefZIdeal [hFwdZIdeal : Cert.FwdZIdeal.Facts] [hRefZIdeal : Cert.RefZIdeal.Facts] : Prop :=
  ∀ (m : (ℓ : Loc Cert.FwdZIdeal.nD Cert.FwdZIdeal.τ Cert.FwdZIdeal.sig) → Buf (Elt Ideal) ℓ) (g : Dev Cert.FwdZIdeal.nD → PrngReg)
    (m' : (ℓ : Loc Cert.RefZIdeal.nD Cert.RefZIdeal.τ Cert.RefZIdeal.sig) → Buf (Elt Ideal) ℓ) (g' : Dev Cert.RefZIdeal.nD → PrngReg), Pre_FwdZIdeal m →
    (∀ c : Dev Cert.FwdZIdeal.nD,
      m' ((c.tc : Thread Cert.RefZIdeal.nD Cert.RefZIdeal.τ).loc Cert.RefZIdeal.main_arg0) = m ((c.tc : Thread Cert.FwdZIdeal.nD Cert.FwdZIdeal.τ).loc Cert.FwdZIdeal.main_arg0)
      ∧ m' ((c.tc : Thread Cert.RefZIdeal.nD Cert.RefZIdeal.τ).loc Cert.RefZIdeal.main_arg1) = m ((c.tc : Thread Cert.FwdZIdeal.nD Cert.FwdZIdeal.τ).loc Cert.FwdZIdeal.main_arg1)
      ∧ m' ((c.tc : Thread Cert.RefZIdeal.nD Cert.RefZIdeal.τ).loc Cert.RefZIdeal.main_arg2) = m ((c.tc : Thread Cert.FwdZIdeal.nD Cert.FwdZIdeal.τ).loc Cert.FwdZIdeal.main_arg2)
      ∧ m' ((c.tc : Thread Cert.RefZIdeal.nD Cert.RefZIdeal.τ).loc Cert.RefZIdeal.main_arg3) = m ((c.tc : Thread Cert.FwdZIdeal.nD Cert.FwdZIdeal.τ).loc Cert.FwdZIdeal.main_arg3)) →
    ∃ (v0 : (c : Dev Cert.FwdZIdeal.nD) → Buf (Elt Ideal) ((c.tc : Thread Cert.FwdZIdeal.nD Cert.FwdZIdeal.τ).loc Cert.FwdZIdeal.main_v0_0)) (v1 : (c : Dev Cert.FwdZIdeal.nD) → Buf (Elt Ideal) ((c.tc : Thread Cert.FwdZIdeal.nD Cert.FwdZIdeal.τ).loc Cert.FwdZIdeal.main_v0_1)),
      θ_run (Cert.FwdZIdeal.defs (F := Ideal)) (onTc (τ := Cert.FwdZIdeal.τ) (Cert.FwdZIdeal.main (F := Ideal))) ⟨m, fun _ => 0, g⟩ (fun r => ∀ c : Dev Cert.FwdZIdeal.nD,
          r.2.mem ((c.tc : Thread Cert.FwdZIdeal.nD Cert.FwdZIdeal.τ).loc Cert.FwdZIdeal.main_v0_0) = v0 c
          ∧ r.2.mem ((c.tc : Thread Cert.FwdZIdeal.nD Cert.FwdZIdeal.τ).loc Cert.FwdZIdeal.main_v0_1) = v1 c
          ∧ r.2.mem ((c.tc : Thread Cert.FwdZIdeal.nD Cert.FwdZIdeal.τ).loc Cert.FwdZIdeal.main_arg0) = m ((c.tc : Thread Cert.FwdZIdeal.nD Cert.FwdZIdeal.τ).loc Cert.FwdZIdeal.main_arg0)
          ∧ r.2.mem ((c.tc : Thread Cert.FwdZIdeal.nD Cert.FwdZIdeal.τ).loc Cert.FwdZIdeal.main_arg1) = m ((c.tc : Thread Cert.FwdZIdeal.nD Cert.FwdZIdeal.τ).loc Cert.FwdZIdeal.main_arg1)
          ∧ r.2.mem ((c.tc : Thread Cert.FwdZIdeal.nD Cert.FwdZIdeal.τ).loc Cert.FwdZIdeal.main_arg2) = m ((c.tc : Thread Cert.FwdZIdeal.nD Cert.FwdZIdeal.τ).loc Cert.FwdZIdeal.main_arg2)
          ∧ r.2.mem ((c.tc : Thread Cert.FwdZIdeal.nD Cert.FwdZIdeal.τ).loc Cert.FwdZIdeal.main_arg3) = m ((c.tc : Thread Cert.FwdZIdeal.nD Cert.FwdZIdeal.τ).loc Cert.FwdZIdeal.main_arg3))
      ∧ θ_run (Cert.RefZIdeal.defs (F := Ideal)) (onTc (τ := Cert.RefZIdeal.τ) (Cert.RefZIdeal.main (F := Ideal))) ⟨m', fun _ => 0, g'⟩ (fun r => ∀ c : Dev Cert.RefZIdeal.nD,
          r.2.mem ((c.tc : Thread Cert.RefZIdeal.nD Cert.RefZIdeal.τ).loc Cert.RefZIdeal.main_v16) = v0 c
          ∧ r.2.mem ((c.tc : Thread Cert.RefZIdeal.nD Cert.RefZIdeal.τ).loc Cert.RefZIdeal.main_v17) = v1 c
          ∧ r.2.mem ((c.tc : Thread Cert.RefZIdeal.nD Cert.RefZIdeal.τ).loc Cert.RefZIdeal.main_arg0) = m' ((c.tc : Thread Cert.RefZIdeal.nD Cert.RefZIdeal.τ).loc Cert.RefZIdeal.main_arg0)
          ∧ r.2.mem ((c.tc : Thread Cert.RefZIdeal.nD Cert.RefZIdeal.τ).loc Cert.RefZIdeal.main_arg1) = m' ((c.tc : Thread Cert.RefZIdeal.nD Cert.RefZIdeal.τ).loc Cert.RefZIdeal.main_arg1)
          ∧ r.2.mem ((c.tc : Thread Cert.RefZIdeal.nD Cert.RefZIdeal.τ).loc Cert.RefZIdeal.main_arg2) = m' ((c.tc : Thread Cert.RefZIdeal.nD Cert.RefZIdeal.τ).loc Cert.RefZIdeal.main_arg2)
          ∧ r.2.mem ((c.tc : Thread Cert.RefZIdeal.nD Cert.RefZIdeal.τ).loc Cert.RefZIdeal.main_arg3) = m' ((c.tc : Thread Cert.RefZIdeal.nD Cert.RefZIdeal.τ).loc Cert.RefZIdeal.main_arg3))

def preserves_BwdDu3_BwdDu3Ideal : Prop :=
  True

def algebraic_BwdDu3Ideal_RefDu3Ideal_pre_finite_du3 [hBwdDu3Ideal : Cert.BwdDu3Ideal.Facts] [hRefDu3Ideal : Cert.RefDu3Ideal.Facts] [hPre_finite_du3 : Cert.Pre_finite_du3.Facts] : Prop :=
  ∀ (m : (ℓ : Loc Cert.BwdDu3Ideal.nD Cert.BwdDu3Ideal.τ Cert.BwdDu3Ideal.sig) → Buf (Elt Ideal) ℓ) (g : Dev Cert.BwdDu3Ideal.nD → PrngReg)
    (m' : (ℓ : Loc Cert.RefDu3Ideal.nD Cert.RefDu3Ideal.τ Cert.RefDu3Ideal.sig) → Buf (Elt Ideal) ℓ) (g' : Dev Cert.RefDu3Ideal.nD → PrngReg), Pre_BwdDu3Ideal_finite_du3 m →
    (∀ c : Dev Cert.BwdDu3Ideal.nD,
      m' ((c.tc : Thread Cert.RefDu3Ideal.nD Cert.RefDu3Ideal.τ).loc Cert.RefDu3Ideal.main_arg0) = m ((c.tc : Thread Cert.BwdDu3Ideal.nD Cert.BwdDu3Ideal.τ).loc Cert.BwdDu3Ideal.main_arg0)
      ∧ m' ((c.tc : Thread Cert.RefDu3Ideal.nD Cert.RefDu3Ideal.τ).loc Cert.RefDu3Ideal.main_arg1) = m ((c.tc : Thread Cert.BwdDu3Ideal.nD Cert.BwdDu3Ideal.τ).loc Cert.BwdDu3Ideal.main_arg1)
      ∧ m' ((c.tc : Thread Cert.RefDu3Ideal.nD Cert.RefDu3Ideal.τ).loc Cert.RefDu3Ideal.main_arg2) = m ((c.tc : Thread Cert.BwdDu3Ideal.nD Cert.BwdDu3Ideal.τ).loc Cert.BwdDu3Ideal.main_arg2)
      ∧ m' ((c.tc : Thread Cert.RefDu3Ideal.nD Cert.RefDu3Ideal.τ).loc Cert.RefDu3Ideal.main_arg3) = m ((c.tc : Thread Cert.BwdDu3Ideal.nD Cert.BwdDu3Ideal.τ).loc Cert.BwdDu3Ideal.main_arg3)
      ∧ m' ((c.tc : Thread Cert.RefDu3Ideal.nD Cert.RefDu3Ideal.τ).loc Cert.RefDu3Ideal.main_arg4) = m ((c.tc : Thread Cert.BwdDu3Ideal.nD Cert.BwdDu3Ideal.τ).loc Cert.BwdDu3Ideal.main_arg4)) →
    ∃ (v0 : (c : Dev Cert.BwdDu3Ideal.nD) → Buf (Elt Ideal) ((c.tc : Thread Cert.BwdDu3Ideal.nD Cert.BwdDu3Ideal.τ).loc Cert.BwdDu3Ideal.main_v0_0)) (v1 : (c : Dev Cert.BwdDu3Ideal.nD) → Buf (Elt Ideal) ((c.tc : Thread Cert.BwdDu3Ideal.nD Cert.BwdDu3Ideal.τ).loc Cert.BwdDu3Ideal.main_v0_1)) (v2 : (c : Dev Cert.BwdDu3Ideal.nD) → Buf (Elt Ideal) ((c.tc : Thread Cert.BwdDu3Ideal.nD Cert.BwdDu3Ideal.τ).loc Cert.BwdDu3Ideal.main_v0_2)),
      θ_run (Cert.BwdDu3Ideal.defs (F := Ideal)) (onTc (τ := Cert.BwdDu3Ideal.τ) (Cert.BwdDu3Ideal.main (F := Ideal))) ⟨m, fun _ => 0, g⟩ (fun r => ∀ c : Dev Cert.BwdDu3Ideal.nD,
          r.2.mem ((c.tc : Thread Cert.BwdDu3Ideal.nD Cert.BwdDu3Ideal.τ).loc Cert.BwdDu3Ideal.main_v0_0) = v0 c
          ∧ r.2.mem ((c.tc : Thread Cert.BwdDu3Ideal.nD Cert.BwdDu3Ideal.τ).loc Cert.BwdDu3Ideal.main_v0_1) = v1 c
          ∧ r.2.mem ((c.tc : Thread Cert.BwdDu3Ideal.nD Cert.BwdDu3Ideal.τ).loc Cert.BwdDu3Ideal.main_v0_2) = v2 c
          ∧ r.2.mem ((c.tc : Thread Cert.BwdDu3Ideal.nD Cert.BwdDu3Ideal.τ).loc Cert.BwdDu3Ideal.main_arg0) = m ((c.tc : Thread Cert.BwdDu3Ideal.nD Cert.BwdDu3Ideal.τ).loc Cert.BwdDu3Ideal.main_arg0)
          ∧ r.2.mem ((c.tc : Thread Cert.BwdDu3Ideal.nD Cert.BwdDu3Ideal.τ).loc Cert.BwdDu3Ideal.main_arg1) = m ((c.tc : Thread Cert.BwdDu3Ideal.nD Cert.BwdDu3Ideal.τ).loc Cert.BwdDu3Ideal.main_arg1)
          ∧ r.2.mem ((c.tc : Thread Cert.BwdDu3Ideal.nD Cert.BwdDu3Ideal.τ).loc Cert.BwdDu3Ideal.main_arg2) = m ((c.tc : Thread Cert.BwdDu3Ideal.nD Cert.BwdDu3Ideal.τ).loc Cert.BwdDu3Ideal.main_arg2)
          ∧ r.2.mem ((c.tc : Thread Cert.BwdDu3Ideal.nD Cert.BwdDu3Ideal.τ).loc Cert.BwdDu3Ideal.main_arg3) = m ((c.tc : Thread Cert.BwdDu3Ideal.nD Cert.BwdDu3Ideal.τ).loc Cert.BwdDu3Ideal.main_arg3)
          ∧ r.2.mem ((c.tc : Thread Cert.BwdDu3Ideal.nD Cert.BwdDu3Ideal.τ).loc Cert.BwdDu3Ideal.main_arg4) = m ((c.tc : Thread Cert.BwdDu3Ideal.nD Cert.BwdDu3Ideal.τ).loc Cert.BwdDu3Ideal.main_arg4))
      ∧ θ_run (Cert.RefDu3Ideal.defs (F := Ideal)) (onTc (τ := Cert.RefDu3Ideal.τ) (Cert.RefDu3Ideal.main (F := Ideal))) ⟨m', fun _ => 0, g'⟩ (fun r => ∀ c : Dev Cert.RefDu3Ideal.nD,
          r.2.mem ((c.tc : Thread Cert.RefDu3Ideal.nD Cert.RefDu3Ideal.τ).loc Cert.RefDu3Ideal.main_v70) = v0 c
          ∧ r.2.mem ((c.tc : Thread Cert.RefDu3Ideal.nD Cert.RefDu3Ideal.τ).loc Cert.RefDu3Ideal.main_v46) = v1 c
          ∧ r.2.mem ((c.tc : Thread Cert.RefDu3Ideal.nD Cert.RefDu3Ideal.τ).loc Cert.RefDu3Ideal.main_v43) = v2 c
          ∧ r.2.mem ((c.tc : Thread Cert.RefDu3Ideal.nD Cert.RefDu3Ideal.τ).loc Cert.RefDu3Ideal.main_arg0) = m' ((c.tc : Thread Cert.RefDu3Ideal.nD Cert.RefDu3Ideal.τ).loc Cert.RefDu3Ideal.main_arg0)
          ∧ r.2.mem ((c.tc : Thread Cert.RefDu3Ideal.nD Cert.RefDu3Ideal.τ).loc Cert.RefDu3Ideal.main_arg1) = m' ((c.tc : Thread Cert.RefDu3Ideal.nD Cert.RefDu3Ideal.τ).loc Cert.RefDu3Ideal.main_arg1)
          ∧ r.2.mem ((c.tc : Thread Cert.RefDu3Ideal.nD Cert.RefDu3Ideal.τ).loc Cert.RefDu3Ideal.main_arg2) = m' ((c.tc : Thread Cert.RefDu3Ideal.nD Cert.RefDu3Ideal.τ).loc Cert.RefDu3Ideal.main_arg2)
          ∧ r.2.mem ((c.tc : Thread Cert.RefDu3Ideal.nD Cert.RefDu3Ideal.τ).loc Cert.RefDu3Ideal.main_arg3) = m' ((c.tc : Thread Cert.RefDu3Ideal.nD Cert.RefDu3Ideal.τ).loc Cert.RefDu3Ideal.main_arg3)
          ∧ r.2.mem ((c.tc : Thread Cert.RefDu3Ideal.nD Cert.RefDu3Ideal.τ).loc Cert.RefDu3Ideal.main_arg4) = m' ((c.tc : Thread Cert.RefDu3Ideal.nD Cert.RefDu3Ideal.τ).loc Cert.RefDu3Ideal.main_arg4))

def preserves_BwdDp_BwdDpIdeal : Prop :=
  IdealRules.named_const.Statement Cert.BwdDpIdeal.κ "gelu_cubic" .f32 0x3D372713#32 ((8943 / 200000 : ℝ) : EReal)
  ∧ IdealRules.named_const.Statement Cert.BwdDpIdeal.κ "gelu_slope" .f32 0x3E095D4F#32 ((26829 / 200000 : ℝ) : EReal)

def algebraic_BwdDpIdeal_RefDpIdeal_on_outside_gate [hBwdDpIdeal : Cert.BwdDpIdeal.Facts] [hRefDpIdeal : Cert.RefDpIdeal.Facts] [hOn_outside_gate : Cert.On_outside_gate.Facts] : Prop :=
  ∀ (m : (ℓ : Loc Cert.BwdDpIdeal.nD Cert.BwdDpIdeal.τ Cert.BwdDpIdeal.sig) → Buf (Elt Ideal) ℓ) (g : Dev Cert.BwdDpIdeal.nD → PrngReg)
    (m' : (ℓ : Loc Cert.RefDpIdeal.nD Cert.RefDpIdeal.τ Cert.RefDpIdeal.sig) → Buf (Elt Ideal) ℓ) (g' : Dev Cert.RefDpIdeal.nD → PrngReg), Pre_BwdDpIdeal m →
    (∀ c : Dev Cert.BwdDpIdeal.nD,
      m' ((c.tc : Thread Cert.RefDpIdeal.nD Cert.RefDpIdeal.τ).loc Cert.RefDpIdeal.main_arg0) = m ((c.tc : Thread Cert.BwdDpIdeal.nD Cert.BwdDpIdeal.τ).loc Cert.BwdDpIdeal.main_arg0)
      ∧ m' ((c.tc : Thread Cert.RefDpIdeal.nD Cert.RefDpIdeal.τ).loc Cert.RefDpIdeal.main_arg1) = m ((c.tc : Thread Cert.BwdDpIdeal.nD Cert.BwdDpIdeal.τ).loc Cert.BwdDpIdeal.main_arg1)
      ∧ m' ((c.tc : Thread Cert.RefDpIdeal.nD Cert.RefDpIdeal.τ).loc Cert.RefDpIdeal.main_arg2) = m ((c.tc : Thread Cert.BwdDpIdeal.nD Cert.BwdDpIdeal.τ).loc Cert.BwdDpIdeal.main_arg2)
      ∧ m' ((c.tc : Thread Cert.RefDpIdeal.nD Cert.RefDpIdeal.τ).loc Cert.RefDpIdeal.main_arg3) = m ((c.tc : Thread Cert.BwdDpIdeal.nD Cert.BwdDpIdeal.τ).loc Cert.BwdDpIdeal.main_arg3)
      ∧ m' ((c.tc : Thread Cert.RefDpIdeal.nD Cert.RefDpIdeal.τ).loc Cert.RefDpIdeal.main_arg4) = m ((c.tc : Thread Cert.BwdDpIdeal.nD Cert.BwdDpIdeal.τ).loc Cert.BwdDpIdeal.main_arg4)) →
    ∃ (v0 : (c : Dev Cert.BwdDpIdeal.nD) → Buf (Elt Ideal) ((c.tc : Thread Cert.BwdDpIdeal.nD Cert.BwdDpIdeal.τ).loc Cert.BwdDpIdeal.main_v0_0)) (v1 : (c : Dev Cert.BwdDpIdeal.nD) → Buf (Elt Ideal) ((c.tc : Thread Cert.BwdDpIdeal.nD Cert.BwdDpIdeal.τ).loc Cert.BwdDpIdeal.main_v0_1)),
      θ_run (Cert.BwdDpIdeal.defs (F := Ideal)) (onTc (τ := Cert.BwdDpIdeal.τ) (Cert.BwdDpIdeal.main (F := Ideal))) ⟨m, fun _ => 0, g⟩ (fun r => ∀ c : Dev Cert.BwdDpIdeal.nD,
          (∀ i : (⟨2, ![4096, 1536]⟩ : Shape).Idx, (Cert.On_outside_gate.fn (F := Ideal) (m ((c.tc : Thread Cert.BwdDpIdeal.nD Cert.BwdDpIdeal.τ).loc Cert.BwdDpIdeal.main_arg0)) (m ((c.tc : Thread Cert.BwdDpIdeal.nD Cert.BwdDpIdeal.τ).loc Cert.BwdDpIdeal.main_arg1)) (m ((c.tc : Thread Cert.BwdDpIdeal.nD Cert.BwdDpIdeal.τ).loc Cert.BwdDpIdeal.main_arg2)) (m ((c.tc : Thread Cert.BwdDpIdeal.nD Cert.BwdDpIdeal.τ).loc Cert.BwdDpIdeal.main_arg3)) (m ((c.tc : Thread Cert.BwdDpIdeal.nD Cert.BwdDpIdeal.τ).loc Cert.BwdDpIdeal.main_arg4))).1 i = 1#1 → r.2.mem ((c.tc : Thread Cert.BwdDpIdeal.nD Cert.BwdDpIdeal.τ).loc Cert.BwdDpIdeal.main_v0_0) i = v0 c i)
          ∧ (∀ i : (⟨2, ![4096, 7168]⟩ : Shape).Idx, (Cert.On_outside_gate.fn (F := Ideal) (m ((c.tc : Thread Cert.BwdDpIdeal.nD Cert.BwdDpIdeal.τ).loc Cert.BwdDpIdeal.main_arg0)) (m ((c.tc : Thread Cert.BwdDpIdeal.nD Cert.BwdDpIdeal.τ).loc Cert.BwdDpIdeal.main_arg1)) (m ((c.tc : Thread Cert.BwdDpIdeal.nD Cert.BwdDpIdeal.τ).loc Cert.BwdDpIdeal.main_arg2)) (m ((c.tc : Thread Cert.BwdDpIdeal.nD Cert.BwdDpIdeal.τ).loc Cert.BwdDpIdeal.main_arg3)) (m ((c.tc : Thread Cert.BwdDpIdeal.nD Cert.BwdDpIdeal.τ).loc Cert.BwdDpIdeal.main_arg4))).2 i = 1#1 → r.2.mem ((c.tc : Thread Cert.BwdDpIdeal.nD Cert.BwdDpIdeal.τ).loc Cert.BwdDpIdeal.main_v0_1) i = v1 c i)
          ∧ r.2.mem ((c.tc : Thread Cert.BwdDpIdeal.nD Cert.BwdDpIdeal.τ).loc Cert.BwdDpIdeal.main_arg0) = m ((c.tc : Thread Cert.BwdDpIdeal.nD Cert.BwdDpIdeal.τ).loc Cert.BwdDpIdeal.main_arg0)
          ∧ r.2.mem ((c.tc : Thread Cert.BwdDpIdeal.nD Cert.BwdDpIdeal.τ).loc Cert.BwdDpIdeal.main_arg1) = m ((c.tc : Thread Cert.BwdDpIdeal.nD Cert.BwdDpIdeal.τ).loc Cert.BwdDpIdeal.main_arg1)
          ∧ r.2.mem ((c.tc : Thread Cert.BwdDpIdeal.nD Cert.BwdDpIdeal.τ).loc Cert.BwdDpIdeal.main_arg2) = m ((c.tc : Thread Cert.BwdDpIdeal.nD Cert.BwdDpIdeal.τ).loc Cert.BwdDpIdeal.main_arg2)
          ∧ r.2.mem ((c.tc : Thread Cert.BwdDpIdeal.nD Cert.BwdDpIdeal.τ).loc Cert.BwdDpIdeal.main_arg3) = m ((c.tc : Thread Cert.BwdDpIdeal.nD Cert.BwdDpIdeal.τ).loc Cert.BwdDpIdeal.main_arg3)
          ∧ r.2.mem ((c.tc : Thread Cert.BwdDpIdeal.nD Cert.BwdDpIdeal.τ).loc Cert.BwdDpIdeal.main_arg4) = m ((c.tc : Thread Cert.BwdDpIdeal.nD Cert.BwdDpIdeal.τ).loc Cert.BwdDpIdeal.main_arg4))
      ∧ θ_run (Cert.RefDpIdeal.defs (F := Ideal)) (onTc (τ := Cert.RefDpIdeal.τ) (Cert.RefDpIdeal.main (F := Ideal))) ⟨m', fun _ => 0, g'⟩ (fun r => ∀ c : Dev Cert.RefDpIdeal.nD,
          (∀ i : (⟨2, ![4096, 1536]⟩ : Shape).Idx, (Cert.On_outside_gate.fn (F := Ideal) (m ((c.tc : Thread Cert.BwdDpIdeal.nD Cert.BwdDpIdeal.τ).loc Cert.BwdDpIdeal.main_arg0)) (m ((c.tc : Thread Cert.BwdDpIdeal.nD Cert.BwdDpIdeal.τ).loc Cert.BwdDpIdeal.main_arg1)) (m ((c.tc : Thread Cert.BwdDpIdeal.nD Cert.BwdDpIdeal.τ).loc Cert.BwdDpIdeal.main_arg2)) (m ((c.tc : Thread Cert.BwdDpIdeal.nD Cert.BwdDpIdeal.τ).loc Cert.BwdDpIdeal.main_arg3)) (m ((c.tc : Thread Cert.BwdDpIdeal.nD Cert.BwdDpIdeal.τ).loc Cert.BwdDpIdeal.main_arg4))).1 i = 1#1 → r.2.mem ((c.tc : Thread Cert.RefDpIdeal.nD Cert.RefDpIdeal.τ).loc Cert.RefDpIdeal.main_v29) i = v0 c i)
          ∧ (∀ i : (⟨2, ![4096, 7168]⟩ : Shape).Idx, (Cert.On_outside_gate.fn (F := Ideal) (m ((c.tc : Thread Cert.BwdDpIdeal.nD Cert.BwdDpIdeal.τ).loc Cert.BwdDpIdeal.main_arg0)) (m ((c.tc : Thread Cert.BwdDpIdeal.nD Cert.BwdDpIdeal.τ).loc Cert.BwdDpIdeal.main_arg1)) (m ((c.tc : Thread Cert.BwdDpIdeal.nD Cert.BwdDpIdeal.τ).loc Cert.BwdDpIdeal.main_arg2)) (m ((c.tc : Thread Cert.BwdDpIdeal.nD Cert.BwdDpIdeal.τ).loc Cert.BwdDpIdeal.main_arg3)) (m ((c.tc : Thread Cert.BwdDpIdeal.nD Cert.BwdDpIdeal.τ).loc Cert.BwdDpIdeal.main_arg4))).2 i = 1#1 → r.2.mem ((c.tc : Thread Cert.RefDpIdeal.nD Cert.RefDpIdeal.τ).loc Cert.RefDpIdeal.main_v52) i = v1 c i)
          ∧ r.2.mem ((c.tc : Thread Cert.RefDpIdeal.nD Cert.RefDpIdeal.τ).loc Cert.RefDpIdeal.main_arg0) = m' ((c.tc : Thread Cert.RefDpIdeal.nD Cert.RefDpIdeal.τ).loc Cert.RefDpIdeal.main_arg0)
          ∧ r.2.mem ((c.tc : Thread Cert.RefDpIdeal.nD Cert.RefDpIdeal.τ).loc Cert.RefDpIdeal.main_arg1) = m' ((c.tc : Thread Cert.RefDpIdeal.nD Cert.RefDpIdeal.τ).loc Cert.RefDpIdeal.main_arg1)
          ∧ r.2.mem ((c.tc : Thread Cert.RefDpIdeal.nD Cert.RefDpIdeal.τ).loc Cert.RefDpIdeal.main_arg2) = m' ((c.tc : Thread Cert.RefDpIdeal.nD Cert.RefDpIdeal.τ).loc Cert.RefDpIdeal.main_arg2)
          ∧ r.2.mem ((c.tc : Thread Cert.RefDpIdeal.nD Cert.RefDpIdeal.τ).loc Cert.RefDpIdeal.main_arg3) = m' ((c.tc : Thread Cert.RefDpIdeal.nD Cert.RefDpIdeal.τ).loc Cert.RefDpIdeal.main_arg3)
          ∧ r.2.mem ((c.tc : Thread Cert.RefDpIdeal.nD Cert.RefDpIdeal.τ).loc Cert.RefDpIdeal.main_arg4) = m' ((c.tc : Thread Cert.RefDpIdeal.nD Cert.RefDpIdeal.τ).loc Cert.RefDpIdeal.main_arg4))

def algebraic_BwdDpIdeal_RefDpIdeal_pre_finite_dp [hBwdDpIdeal : Cert.BwdDpIdeal.Facts] [hRefDpIdeal : Cert.RefDpIdeal.Facts] [hPre_finite_dp : Cert.Pre_finite_dp.Facts] : Prop :=
  ∀ (m : (ℓ : Loc Cert.BwdDpIdeal.nD Cert.BwdDpIdeal.τ Cert.BwdDpIdeal.sig) → Buf (Elt Ideal) ℓ) (g : Dev Cert.BwdDpIdeal.nD → PrngReg)
    (m' : (ℓ : Loc Cert.RefDpIdeal.nD Cert.RefDpIdeal.τ Cert.RefDpIdeal.sig) → Buf (Elt Ideal) ℓ) (g' : Dev Cert.RefDpIdeal.nD → PrngReg), Pre_BwdDpIdeal_finite_dp m →
    (∀ c : Dev Cert.BwdDpIdeal.nD,
      m' ((c.tc : Thread Cert.RefDpIdeal.nD Cert.RefDpIdeal.τ).loc Cert.RefDpIdeal.main_arg0) = m ((c.tc : Thread Cert.BwdDpIdeal.nD Cert.BwdDpIdeal.τ).loc Cert.BwdDpIdeal.main_arg0)
      ∧ m' ((c.tc : Thread Cert.RefDpIdeal.nD Cert.RefDpIdeal.τ).loc Cert.RefDpIdeal.main_arg1) = m ((c.tc : Thread Cert.BwdDpIdeal.nD Cert.BwdDpIdeal.τ).loc Cert.BwdDpIdeal.main_arg1)
      ∧ m' ((c.tc : Thread Cert.RefDpIdeal.nD Cert.RefDpIdeal.τ).loc Cert.RefDpIdeal.main_arg2) = m ((c.tc : Thread Cert.BwdDpIdeal.nD Cert.BwdDpIdeal.τ).loc Cert.BwdDpIdeal.main_arg2)
      ∧ m' ((c.tc : Thread Cert.RefDpIdeal.nD Cert.RefDpIdeal.τ).loc Cert.RefDpIdeal.main_arg3) = m ((c.tc : Thread Cert.BwdDpIdeal.nD Cert.BwdDpIdeal.τ).loc Cert.BwdDpIdeal.main_arg3)
      ∧ m' ((c.tc : Thread Cert.RefDpIdeal.nD Cert.RefDpIdeal.τ).loc Cert.RefDpIdeal.main_arg4) = m ((c.tc : Thread Cert.BwdDpIdeal.nD Cert.BwdDpIdeal.τ).loc Cert.BwdDpIdeal.main_arg4)) →
    ∃ (v0 : (c : Dev Cert.BwdDpIdeal.nD) → Buf (Elt Ideal) ((c.tc : Thread Cert.BwdDpIdeal.nD Cert.BwdDpIdeal.τ).loc Cert.BwdDpIdeal.main_v0_0)) (v1 : (c : Dev Cert.BwdDpIdeal.nD) → Buf (Elt Ideal) ((c.tc : Thread Cert.BwdDpIdeal.nD Cert.BwdDpIdeal.τ).loc Cert.BwdDpIdeal.main_v0_1)),
      θ_run (Cert.BwdDpIdeal.defs (F := Ideal)) (onTc (τ := Cert.BwdDpIdeal.τ) (Cert.BwdDpIdeal.main (F := Ideal))) ⟨m, fun _ => 0, g⟩ (fun r => ∀ c : Dev Cert.BwdDpIdeal.nD,
          r.2.mem ((c.tc : Thread Cert.BwdDpIdeal.nD Cert.BwdDpIdeal.τ).loc Cert.BwdDpIdeal.main_v0_0) = v0 c
          ∧ r.2.mem ((c.tc : Thread Cert.BwdDpIdeal.nD Cert.BwdDpIdeal.τ).loc Cert.BwdDpIdeal.main_v0_1) = v1 c
          ∧ r.2.mem ((c.tc : Thread Cert.BwdDpIdeal.nD Cert.BwdDpIdeal.τ).loc Cert.BwdDpIdeal.main_arg0) = m ((c.tc : Thread Cert.BwdDpIdeal.nD Cert.BwdDpIdeal.τ).loc Cert.BwdDpIdeal.main_arg0)
          ∧ r.2.mem ((c.tc : Thread Cert.BwdDpIdeal.nD Cert.BwdDpIdeal.τ).loc Cert.BwdDpIdeal.main_arg1) = m ((c.tc : Thread Cert.BwdDpIdeal.nD Cert.BwdDpIdeal.τ).loc Cert.BwdDpIdeal.main_arg1)
          ∧ r.2.mem ((c.tc : Thread Cert.BwdDpIdeal.nD Cert.BwdDpIdeal.τ).loc Cert.BwdDpIdeal.main_arg2) = m ((c.tc : Thread Cert.BwdDpIdeal.nD Cert.BwdDpIdeal.τ).loc Cert.BwdDpIdeal.main_arg2)
          ∧ r.2.mem ((c.tc : Thread Cert.BwdDpIdeal.nD Cert.BwdDpIdeal.τ).loc Cert.BwdDpIdeal.main_arg3) = m ((c.tc : Thread Cert.BwdDpIdeal.nD Cert.BwdDpIdeal.τ).loc Cert.BwdDpIdeal.main_arg3)
          ∧ r.2.mem ((c.tc : Thread Cert.BwdDpIdeal.nD Cert.BwdDpIdeal.τ).loc Cert.BwdDpIdeal.main_arg4) = m ((c.tc : Thread Cert.BwdDpIdeal.nD Cert.BwdDpIdeal.τ).loc Cert.BwdDpIdeal.main_arg4))
      ∧ θ_run (Cert.RefDpIdeal.defs (F := Ideal)) (onTc (τ := Cert.RefDpIdeal.τ) (Cert.RefDpIdeal.main (F := Ideal))) ⟨m', fun _ => 0, g'⟩ (fun r => ∀ c : Dev Cert.RefDpIdeal.nD,
          r.2.mem ((c.tc : Thread Cert.RefDpIdeal.nD Cert.RefDpIdeal.τ).loc Cert.RefDpIdeal.main_v29) = v0 c
          ∧ r.2.mem ((c.tc : Thread Cert.RefDpIdeal.nD Cert.RefDpIdeal.τ).loc Cert.RefDpIdeal.main_v52) = v1 c
          ∧ r.2.mem ((c.tc : Thread Cert.RefDpIdeal.nD Cert.RefDpIdeal.τ).loc Cert.RefDpIdeal.main_arg0) = m' ((c.tc : Thread Cert.RefDpIdeal.nD Cert.RefDpIdeal.τ).loc Cert.RefDpIdeal.main_arg0)
          ∧ r.2.mem ((c.tc : Thread Cert.RefDpIdeal.nD Cert.RefDpIdeal.τ).loc Cert.RefDpIdeal.main_arg1) = m' ((c.tc : Thread Cert.RefDpIdeal.nD Cert.RefDpIdeal.τ).loc Cert.RefDpIdeal.main_arg1)
          ∧ r.2.mem ((c.tc : Thread Cert.RefDpIdeal.nD Cert.RefDpIdeal.τ).loc Cert.RefDpIdeal.main_arg2) = m' ((c.tc : Thread Cert.RefDpIdeal.nD Cert.RefDpIdeal.τ).loc Cert.RefDpIdeal.main_arg2)
          ∧ r.2.mem ((c.tc : Thread Cert.RefDpIdeal.nD Cert.RefDpIdeal.τ).loc Cert.RefDpIdeal.main_arg3) = m' ((c.tc : Thread Cert.RefDpIdeal.nD Cert.RefDpIdeal.τ).loc Cert.RefDpIdeal.main_arg3)
          ∧ r.2.mem ((c.tc : Thread Cert.RefDpIdeal.nD Cert.RefDpIdeal.τ).loc Cert.RefDpIdeal.main_arg4) = m' ((c.tc : Thread Cert.RefDpIdeal.nD Cert.RefDpIdeal.τ).loc Cert.RefDpIdeal.main_arg4))

def Claim : Prop :=
  ∃ (hBwdDf : Cert.BwdDf.Facts) (hBwdDfIdeal : Cert.BwdDfIdeal.Facts) (hRefDfIdeal : Cert.RefDfIdeal.Facts) (hBwdDw2 : Cert.BwdDw2.Facts) (hBwdDw2Ideal : Cert.BwdDw2Ideal.Facts) (hRefDw2Ideal : Cert.RefDw2Ideal.Facts) (hBwdDw1 : Cert.BwdDw1.Facts) (hBwdDw1Ideal : Cert.BwdDw1Ideal.Facts) (hRefDw1Ideal : Cert.RefDw1Ideal.Facts) (hBwdDwin : Cert.BwdDwin.Facts) (hBwdDwinIdeal : Cert.BwdDwinIdeal.Facts) (hRefDwinIdeal : Cert.RefDwinIdeal.Facts) (hBwdDwo : Cert.BwdDwo.Facts) (hBwdDwoIdeal : Cert.BwdDwoIdeal.Facts) (hRefDwoIdeal : Cert.RefDwoIdeal.Facts) (hBwdDh2 : Cert.BwdDh2.Facts) (hBwdDh2Ideal : Cert.BwdDh2Ideal.Facts) (hRefDh2Ideal : Cert.RefDh2Ideal.Facts) (hFwdX2 : Cert.FwdX2.Facts) (hFwdX2Ideal : Cert.FwdX2Ideal.Facts) (hRefX2Ideal : Cert.RefX2Ideal.Facts) (hBwdDh : Cert.BwdDh.Facts) (hBwdDhIdeal : Cert.BwdDhIdeal.Facts) (hRefDhIdeal : Cert.RefDhIdeal.Facts) (hBwdConvB : Cert.BwdConvB.Facts) (hBwdConvBIdeal : Cert.BwdConvBIdeal.Facts) (hRefConvBIdeal : Cert.RefConvBIdeal.Facts) (hFwdF : Cert.FwdF.Facts) (hFwdFIdeal : Cert.FwdFIdeal.Facts) (hRefFIdeal : Cert.RefFIdeal.Facts) (hBwdDwa : Cert.BwdDwa.Facts) (hBwdDwaIdeal : Cert.BwdDwaIdeal.Facts) (hRefDwaIdeal : Cert.RefDwaIdeal.Facts) (hBwdDwb : Cert.BwdDwb.Facts) (hBwdDwbIdeal : Cert.BwdDwbIdeal.Facts) (hRefDwbIdeal : Cert.RefDwbIdeal.Facts) (hFwdYa : Cert.FwdYa.Facts) (hFwdYaIdeal : Cert.FwdYaIdeal.Facts) (hRefYaIdeal : Cert.RefYaIdeal.Facts) (hFwdYb : Cert.FwdYb.Facts) (hFwdYbIdeal : Cert.FwdYbIdeal.Facts) (hRefYbIdeal : Cert.RefYbIdeal.Facts) (hFwdX1 : Cert.FwdX1.Facts) (hFwdX1Ideal : Cert.FwdX1Ideal.Facts) (hRefX1Ideal : Cert.RefX1Ideal.Facts) (hBwdDm : Cert.BwdDm.Facts) (hBwdDmIdeal : Cert.BwdDmIdeal.Facts) (hRefDmIdeal : Cert.RefDmIdeal.Facts) (hFwdZ : Cert.FwdZ.Facts) (hFwdZIdeal : Cert.FwdZIdeal.Facts) (hRefZIdeal : Cert.RefZIdeal.Facts) (hBwdDu3 : Cert.BwdDu3.Facts) (hBwdDu3Ideal : Cert.BwdDu3Ideal.Facts) (hRefDu3Ideal : Cert.RefDu3Ideal.Facts) (hBwdDp : Cert.BwdDp.Facts) (hBwdDpIdeal : Cert.BwdDpIdeal.Facts) (hRefDpIdeal : Cert.RefDpIdeal.Facts) (hPre_finite_du3 : Cert.Pre_finite_du3.Facts) (hPre_finite_dp : Cert.Pre_finite_dp.Facts) (hOn_gate_columns : Cert.On_gate_columns.Facts) (hOn_outside_gate : Cert.On_outside_gate.Facts),
    quiescent_BwdDf (hBwdDf := hBwdDf)
    ∧ quiescent_BwdDfIdeal (hBwdDfIdeal := hBwdDfIdeal)
    ∧ quiescent_RefDfIdeal (hRefDfIdeal := hRefDfIdeal)
    ∧ quiescent_BwdDw2 (hBwdDw2 := hBwdDw2)
    ∧ quiescent_BwdDw2Ideal (hBwdDw2Ideal := hBwdDw2Ideal)
    ∧ quiescent_RefDw2Ideal (hRefDw2Ideal := hRefDw2Ideal)
    ∧ quiescent_BwdDw1 (hBwdDw1 := hBwdDw1)
    ∧ quiescent_BwdDw1Ideal (hBwdDw1Ideal := hBwdDw1Ideal)
    ∧ quiescent_RefDw1Ideal (hRefDw1Ideal := hRefDw1Ideal)
    ∧ quiescent_BwdDwin (hBwdDwin := hBwdDwin)
    ∧ quiescent_BwdDwinIdeal (hBwdDwinIdeal := hBwdDwinIdeal)
    ∧ quiescent_RefDwinIdeal (hRefDwinIdeal := hRefDwinIdeal)
    ∧ quiescent_BwdDwo (hBwdDwo := hBwdDwo)
    ∧ quiescent_BwdDwoIdeal (hBwdDwoIdeal := hBwdDwoIdeal)
    ∧ quiescent_RefDwoIdeal (hRefDwoIdeal := hRefDwoIdeal)
    ∧ quiescent_BwdDh2 (hBwdDh2 := hBwdDh2)
    ∧ quiescent_BwdDh2Ideal (hBwdDh2Ideal := hBwdDh2Ideal)
    ∧ quiescent_RefDh2Ideal (hRefDh2Ideal := hRefDh2Ideal)
    ∧ quiescent_FwdX2 (hFwdX2 := hFwdX2)
    ∧ quiescent_FwdX2Ideal (hFwdX2Ideal := hFwdX2Ideal)
    ∧ quiescent_RefX2Ideal (hRefX2Ideal := hRefX2Ideal)
    ∧ quiescent_BwdDh (hBwdDh := hBwdDh)
    ∧ quiescent_BwdDhIdeal (hBwdDhIdeal := hBwdDhIdeal)
    ∧ quiescent_RefDhIdeal (hRefDhIdeal := hRefDhIdeal)
    ∧ quiescent_BwdConvB (hBwdConvB := hBwdConvB)
    ∧ quiescent_BwdConvBIdeal (hBwdConvBIdeal := hBwdConvBIdeal)
    ∧ quiescent_RefConvBIdeal (hRefConvBIdeal := hRefConvBIdeal)
    ∧ quiescent_FwdF (hFwdF := hFwdF)
    ∧ quiescent_FwdFIdeal (hFwdFIdeal := hFwdFIdeal)
    ∧ quiescent_RefFIdeal (hRefFIdeal := hRefFIdeal)
    ∧ quiescent_BwdDwa (hBwdDwa := hBwdDwa)
    ∧ quiescent_BwdDwaIdeal (hBwdDwaIdeal := hBwdDwaIdeal)
    ∧ quiescent_RefDwaIdeal (hRefDwaIdeal := hRefDwaIdeal)
    ∧ quiescent_BwdDwb (hBwdDwb := hBwdDwb)
    ∧ quiescent_BwdDwbIdeal (hBwdDwbIdeal := hBwdDwbIdeal)
    ∧ quiescent_RefDwbIdeal (hRefDwbIdeal := hRefDwbIdeal)
    ∧ quiescent_FwdYa (hFwdYa := hFwdYa)
    ∧ quiescent_FwdYaIdeal (hFwdYaIdeal := hFwdYaIdeal)
    ∧ quiescent_RefYaIdeal (hRefYaIdeal := hRefYaIdeal)
    ∧ quiescent_FwdYb (hFwdYb := hFwdYb)
    ∧ quiescent_FwdYbIdeal (hFwdYbIdeal := hFwdYbIdeal)
    ∧ quiescent_RefYbIdeal (hRefYbIdeal := hRefYbIdeal)
    ∧ quiescent_FwdX1 (hFwdX1 := hFwdX1)
    ∧ quiescent_FwdX1Ideal (hFwdX1Ideal := hFwdX1Ideal)
    ∧ quiescent_RefX1Ideal (hRefX1Ideal := hRefX1Ideal)
    ∧ quiescent_BwdDm (hBwdDm := hBwdDm)
    ∧ quiescent_BwdDmIdeal (hBwdDmIdeal := hBwdDmIdeal)
    ∧ quiescent_RefDmIdeal (hRefDmIdeal := hRefDmIdeal)
    ∧ quiescent_FwdZ (hFwdZ := hFwdZ)
    ∧ quiescent_FwdZIdeal (hFwdZIdeal := hFwdZIdeal)
    ∧ quiescent_RefZIdeal (hRefZIdeal := hRefZIdeal)
    ∧ quiescent_BwdDu3 (hBwdDu3 := hBwdDu3)
    ∧ quiescent_BwdDu3Ideal (hBwdDu3Ideal := hBwdDu3Ideal)
    ∧ quiescent_BwdDu3Ideal_pre_finite_du3 (hBwdDu3Ideal := hBwdDu3Ideal) (hPre_finite_du3 := hPre_finite_du3)
    ∧ quiescent_RefDu3Ideal (hRefDu3Ideal := hRefDu3Ideal)
    ∧ quiescent_RefDu3Ideal_pre_finite_du3 (hRefDu3Ideal := hRefDu3Ideal) (hPre_finite_du3 := hPre_finite_du3)
    ∧ quiescent_BwdDp (hBwdDp := hBwdDp)
    ∧ quiescent_BwdDpIdeal (hBwdDpIdeal := hBwdDpIdeal)
    ∧ quiescent_BwdDpIdeal_pre_finite_dp (hBwdDpIdeal := hBwdDpIdeal) (hPre_finite_dp := hPre_finite_dp)
    ∧ quiescent_RefDpIdeal (hRefDpIdeal := hRefDpIdeal)
    ∧ quiescent_RefDpIdeal_pre_finite_dp (hRefDpIdeal := hRefDpIdeal) (hPre_finite_dp := hPre_finite_dp)
    ∧ preserves_BwdDf_BwdDfIdeal
    ∧ algebraic_BwdDfIdeal_RefDfIdeal (hBwdDfIdeal := hBwdDfIdeal) (hRefDfIdeal := hRefDfIdeal)
    ∧ preserves_BwdDw2_BwdDw2Ideal
    ∧ algebraic_BwdDw2Ideal_RefDw2Ideal (hBwdDw2Ideal := hBwdDw2Ideal) (hRefDw2Ideal := hRefDw2Ideal)
    ∧ preserves_BwdDw1_BwdDw1Ideal
    ∧ algebraic_BwdDw1Ideal_RefDw1Ideal (hBwdDw1Ideal := hBwdDw1Ideal) (hRefDw1Ideal := hRefDw1Ideal)
    ∧ preserves_BwdDwin_BwdDwinIdeal
    ∧ algebraic_BwdDwinIdeal_RefDwinIdeal (hBwdDwinIdeal := hBwdDwinIdeal) (hRefDwinIdeal := hRefDwinIdeal)
    ∧ preserves_BwdDwo_BwdDwoIdeal
    ∧ algebraic_BwdDwoIdeal_RefDwoIdeal (hBwdDwoIdeal := hBwdDwoIdeal) (hRefDwoIdeal := hRefDwoIdeal)
    ∧ preserves_BwdDh2_BwdDh2Ideal
    ∧ algebraic_BwdDh2Ideal_RefDh2Ideal (hBwdDh2Ideal := hBwdDh2Ideal) (hRefDh2Ideal := hRefDh2Ideal)
    ∧ preserves_FwdX2_FwdX2Ideal
    ∧ algebraic_FwdX2Ideal_RefX2Ideal (hFwdX2Ideal := hFwdX2Ideal) (hRefX2Ideal := hRefX2Ideal)
    ∧ preserves_BwdDh_BwdDhIdeal
    ∧ algebraic_BwdDhIdeal_RefDhIdeal (hBwdDhIdeal := hBwdDhIdeal) (hRefDhIdeal := hRefDhIdeal)
    ∧ preserves_BwdConvB_BwdConvBIdeal
    ∧ preserves_FwdF_FwdFIdeal
    ∧ algebraic_FwdFIdeal_RefFIdeal (hFwdFIdeal := hFwdFIdeal) (hRefFIdeal := hRefFIdeal)
    ∧ preserves_BwdDwa_BwdDwaIdeal
    ∧ algebraic_BwdDwaIdeal_RefDwaIdeal (hBwdDwaIdeal := hBwdDwaIdeal) (hRefDwaIdeal := hRefDwaIdeal)
    ∧ preserves_BwdDwb_BwdDwbIdeal
    ∧ algebraic_BwdDwbIdeal_RefDwbIdeal (hBwdDwbIdeal := hBwdDwbIdeal) (hRefDwbIdeal := hRefDwbIdeal)
    ∧ preserves_FwdYa_FwdYaIdeal
    ∧ algebraic_FwdYaIdeal_RefYaIdeal (hFwdYaIdeal := hFwdYaIdeal) (hRefYaIdeal := hRefYaIdeal)
    ∧ preserves_FwdYb_FwdYbIdeal
    ∧ algebraic_FwdYbIdeal_RefYbIdeal (hFwdYbIdeal := hFwdYbIdeal) (hRefYbIdeal := hRefYbIdeal)
    ∧ preserves_FwdX1_FwdX1Ideal
    ∧ algebraic_FwdX1Ideal_RefX1Ideal (hFwdX1Ideal := hFwdX1Ideal) (hRefX1Ideal := hRefX1Ideal)
    ∧ preserves_BwdDm_BwdDmIdeal
    ∧ algebraic_BwdDmIdeal_RefDmIdeal_on_gate_columns (hBwdDmIdeal := hBwdDmIdeal) (hRefDmIdeal := hRefDmIdeal) (hOn_gate_columns := hOn_gate_columns)
    ∧ preserves_FwdZ_FwdZIdeal
    ∧ algebraic_FwdZIdeal_RefZIdeal (hFwdZIdeal := hFwdZIdeal) (hRefZIdeal := hRefZIdeal)
    ∧ preserves_BwdDu3_BwdDu3Ideal
    ∧ algebraic_BwdDu3Ideal_RefDu3Ideal_pre_finite_du3 (hBwdDu3Ideal := hBwdDu3Ideal) (hRefDu3Ideal := hRefDu3Ideal) (hPre_finite_du3 := hPre_finite_du3)
    ∧ preserves_BwdDp_BwdDpIdeal
    ∧ algebraic_BwdDpIdeal_RefDpIdeal_on_outside_gate (hBwdDpIdeal := hBwdDpIdeal) (hRefDpIdeal := hRefDpIdeal) (hOn_outside_gate := hOn_outside_gate)
    ∧ algebraic_BwdDpIdeal_RefDpIdeal_pre_finite_dp (hBwdDpIdeal := hBwdDpIdeal) (hRefDpIdeal := hRefDpIdeal) (hPre_finite_dp := hPre_finite_dp)
-- ==== On_gate_columns.lean ====
abbrev S4096x1024 : Shape := ⟨2, ![4096, 1024]⟩
abbrev S1024x1024 : Shape := ⟨2, ![1024, 1024]⟩
abbrev S4096x7168 : Shape := ⟨2, ![4096, 7168]⟩
abbrev S_ : Shape := ⟨0, ![]⟩

class Facts : Prop where
  bcast_S_S4096x1024 : S_.BroadcastsInDim S4096x1024 (![] : Fin 0 → Fin S4096x1024.rank)
  bcast_S_S4096x7168 : S_.BroadcastsInDim S4096x7168 (![] : Fin 0 → Fin S4096x7168.rank)

variable [Facts]

def fn {F : FTy → Type} [FloatOps F] (main_arg0 : FVec F S4096x1024 .bf16) (main_arg1 : FVec F S1024x1024 .bf16) (main_arg2 : FVec F S4096x1024 .bf16) (main_arg3 : FVec F S4096x1024 .bf16) (main_arg4 : FVec F S4096x7168 .bf16) : IVec S4096x1024 1 × IVec S4096x1024 1 × IVec S4096x7168 1 :=
  let main_c : IVec S_ 1 := constantI S_ 1 1#1
  let main_v0 : IVec S4096x1024 1 := broadcastInDim S4096x1024 ![] bcast_S_S4096x1024 main_c
  let main_v1 : IVec S4096x7168 32 := iotaInDim S4096x7168 32 1
  let main_c_0 : IVec S_ 32 := constantI S_ 32 5120#32
  let main_v2 : IVec S4096x7168 32 := broadcastInDim S4096x7168 ![] bcast_S_S4096x7168 main_c_0
  let main_v3 : IVec S4096x7168 1 := cmpi .sge main_v1 main_v2
  (main_v0, main_v0, main_v3)
-- ==== On_outside_gate.lean ====
abbrev S4096x1024 : Shape := ⟨2, ![4096, 1024]⟩
abbrev S1536x1024 : Shape := ⟨2, ![1536, 1024]⟩
abbrev S4096x1536 : Shape := ⟨2, ![4096, 1536]⟩
abbrev S4096x7168 : Shape := ⟨2, ![4096, 7168]⟩
abbrev S_ : Shape := ⟨0, ![]⟩

class Facts : Prop where
  bcast_S_S4096x1536 : S_.BroadcastsInDim S4096x1536 (![] : Fin 0 → Fin S4096x1536.rank)
  bcast_S_S4096x7168 : S_.BroadcastsInDim S4096x7168 (![] : Fin 0 → Fin S4096x7168.rank)

variable [Facts]

def fn {F : FTy → Type} [FloatOps F] (main_arg0 : FVec F S4096x1024 .bf16) (main_arg1 : FVec F S1536x1024 .bf16) (main_arg2 : FVec F S4096x1536 .bf16) (main_arg3 : FVec F S4096x7168 .bf16) (main_arg4 : FVec F S4096x7168 .bf16) : IVec S4096x1536 1 × IVec S4096x7168 1 :=
  let main_v0 : IVec S4096x7168 32 := iotaInDim S4096x7168 32 1
  let main_c : IVec S_ 1 := constantI S_ 1 1#1
  let main_v1 : IVec S4096x1536 1 := broadcastInDim S4096x1536 ![] bcast_S_S4096x1536 main_c
  let main_c_0 : IVec S_ 32 := constantI S_ 32 3584#32
  let main_v2 : IVec S4096x7168 32 := broadcastInDim S4096x7168 ![] bcast_S_S4096x7168 main_c_0
  let main_v3 : IVec S4096x7168 1 := cmpi .slt main_v0 main_v2
  let main_c_1 : IVec S_ 32 := constantI S_ 32 5120#32
  let main_v4 : IVec S4096x7168 32 := broadcastInDim S4096x7168 ![] bcast_S_S4096x7168 main_c_1
  let main_v5 : IVec S4096x7168 1 := cmpi .sge main_v0 main_v4
  let main_v6 : IVec S4096x7168 1 := ori main_v3 main_v5
  (main_v1, main_v6)
-- ==== Pre_finite_dp.lean ====
abbrev S4096x1024 : Shape := ⟨2, ![4096, 1024]⟩
abbrev S1536x1024 : Shape := ⟨2, ![1536, 1024]⟩
abbrev S4096x1536 : Shape := ⟨2, ![4096, 1536]⟩
abbrev S4096x7168 : Shape := ⟨2, ![4096, 7168]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1536x1024 : S_.BroadcastsInDim S1536x1024 (![] : Fin 0 → Fin S1536x1024.rank)
  bcast_S_S4096x1536 : S_.BroadcastsInDim S4096x1536 (![] : Fin 0 → Fin S4096x1536.rank)

variable [Facts]

def fn_part1 {F : FTy → Type} [FloatOps F] (main_v6 : IVec S4096x1024 1) (main_v13 : IVec S1536x1024 1) (main_v16 : IVec S4096x1536 1) (main_v17 : FVec F S4096x1536 .f32) (main_cst_4 : FVec F S_ .f32) : IVec S4096x1024 1 × IVec S1536x1024 1 × IVec S4096x1536 1 :=
  let main_v18 : FVec F S4096x1536 .f32 := broadcastInDim S4096x1536 ![] bcast_S_S4096x1536 main_cst_4
  let main_v19 : IVec S4096x1536 1 := cmpf .ogt main_v17 main_v18
  let main_v20 : IVec S4096x1536 1 := andi main_v16 main_v19
  (main_v6, main_v13, main_v20)

def fn {F : FTy → Type} [FloatOps F] (main_arg0 : FVec F S4096x1024 .bf16) (main_arg1 : FVec F S1536x1024 .bf16) (main_arg2 : FVec F S4096x1536 .bf16) (main_arg3 : FVec F S4096x7168 .bf16) (main_arg4 : FVec F S4096x7168 .bf16) : IVec S4096x1024 1 × IVec S1536x1024 1 × IVec S4096x1536 1 :=
  let main_v0 : FVec F S4096x1024 .f32 := (extf .f32 · bitsLt_bf16_f32) main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := (extf .f32 · bitsLt_bf16_f32) main_arg0
  let main_cst_0 : FVec F S_ .f32 := constant S_ .f32 0xFF800000#32
  let main_v4 : FVec F S4096x1024 .f32 := broadcastInDim S4096x1024 ![] bcast_S_S4096x1024 main_cst_0
  let main_v5 : IVec S4096x1024 1 := cmpf .ogt main_v3 main_v4
  let main_v6 : IVec S4096x1024 1 := andi main_v2 main_v5
  let main_v7 : FVec F S1536x1024 .f32 := (extf .f32 · bitsLt_bf16_f32) main_arg1
  let main_cst_1 : FVec F S_ .f32 := constant S_ .f32 0x7F800000#32
  let main_v8 : FVec F S1536x1024 .f32 := broadcastInDim S1536x1024 ![] bcast_S_S1536x1024 main_cst_1
  let main_v9 : IVec S1536x1024 1 := cmpf .olt main_v7 main_v8
  let main_v10 : FVec F S1536x1024 .f32 := (extf .f32 · bitsLt_bf16_f32) main_arg1
  let main_cst_2 : FVec F S_ .f32 := constant S_ .f32 0xFF800000#32
  let main_v11 : FVec F S1536x1024 .f32 := broadcastInDim S1536x1024 ![] bcast_S_S1536x1024 main_cst_2
  let main_v12 : IVec S1536x1024 1 := cmpf .ogt main_v10 main_v11
  let main_v13 : IVec S1536x1024 1 := andi main_v9 main_v12
  let main_v14 : FVec F S4096x1536 .f32 := (extf .f32 · bitsLt_bf16_f32) main_arg2
  let main_cst_3 : FVec F S_ .f32 := constant S_ .f32 0x7F800000#32
  let main_v15 : FVec F S4096x1536 .f32 := broadcastInDim S4096x1536 ![] bcast_S_S4096x1536 main_cst_3
  let main_v16 : IVec S4096x1536 1 := cmpf .olt main_v14 main_v15
  let main_v17 : FVec F S4096x1536 .f32 := (extf .f32 · bitsLt_bf16_f32) main_arg2
  let main_cst_4 : FVec F S_ .f32 := constant S_ .f32 0xFF800000#32
  fn_part1 (F := F) main_v6 main_v13 main_v16 main_v17 main_cst_4
-- ==== Pre_finite_du3.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn_part1 {F : FTy → Type} [FloatOps F] (main_arg3 : FVec F S1x1024 .f32) (main_v6 : IVec S4096x1024 1) (main_v13 : IVec S1024x1024 1) (main_v16 : IVec S4096x1024 1) (main_v17 : FVec F S4096x1024 .f32) (main_cst_4 : FVec F S_ .f32) : IVec S4096x1024 1 × IVec S1024x1024 1 × IVec S4096x1024 1 × IVec S1x1024 1 :=
  let main_v18 : FVec F S4096x1024 .f32 := broadcastInDim S4096x1024 ![] bcast_S_S4096x1024 main_cst_4
  let main_v19 : IVec S4096x1024 1 := cmpf .ogt main_v17 main_v18
  let main_v20 : IVec S4096x1024 1 := andi main_v16 main_v19
  let main_cst_5 : FVec F S_ .f32 := constant S_ .f32 0x7F800000#32
  let main_v21 : FVec F S1x1024 .f32 := broadcastInDim S1x1024 ![] bcast_S_S1x1024 main_cst_5
  let main_v22 : IVec S1x1024 1 := cmpf .olt main_arg3 main_v21
  let main_cst_6 : FVec F S_ .f32 := constant S_ .f32 0xFF800000#32
  let main_v23 : FVec F S1x1024 .f32 := broadcastInDim S1x1024 ![] bcast_S_S1x1024 main_cst_6
  let main_v24 : IVec S1x1024 1 := cmpf .ogt main_arg3 main_v23
  let main_v25 : IVec S1x1024 1 := andi main_v22 main_v24
  (main_v6, main_v13, main_v20, main_v25)

def fn {F : FTy → Type} [FloatOps F] (main_arg0 : FVec F S4096x1024 .bf16) (main_arg1 : FVec F S1024x1024 .bf16) (main_arg2 : FVec F S4096x1024 .bf16) (main_arg3 : FVec F S1x1024 .f32) (main_arg4 : FVec F S1x1024 .f32) : IVec S4096x1024 1 × IVec S1024x1024 1 × IVec S4096x1024 1 × IVec S1x1024 1 :=
  let main_v0 : FVec F S4096x1024 .f32 := (extf .f32 · bitsLt_bf16_f32) main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := (extf .f32 · bitsLt_bf16_f32) main_arg0
  let main_cst_0 : FVec F S_ .f32 := constant S_ .f32 0xFF800000#32
  let main_v4 : FVec F S4096x1024 .f32 := broadcastInDim S4096x1024 ![] bcast_S_S4096x1024 main_cst_0
  let main_v5 : IVec S4096x1024 1 := cmpf .ogt main_v3 main_v4
  let main_v6 : IVec S4096x1024 1 := andi main_v2 main_v5
  let main_v7 : FVec F S1024x1024 .f32 := (extf .f32 · bitsLt_bf16_f32) main_arg1
  let main_cst_1 : FVec F S_ .f32 := constant S_ .f32 0x7F800000#32
  let main_v8 : FVec F S1024x1024 .f32 := broadcastInDim S1024x1024 ![] bcast_S_S1024x1024 main_cst_1
  let main_v9 : IVec S1024x1024 1 := cmpf .olt main_v7 main_v8
  let main_v10 : FVec F S1024x1024 .f32 := (extf .f32 · bitsLt_bf16_f32) main_arg1
  let main_cst_2 : FVec F S_ .f32 := constant S_ .f32 0xFF800000#32
  let main_v11 : FVec F S1024x1024 .f32 := broadcastInDim S1024x1024 ![] bcast_S_S1024x1024 main_cst_2
  let main_v12 : IVec S1024x1024 1 := cmpf .ogt main_v10 main_v11
  let main_v13 : IVec S1024x1024 1 := andi main_v9 main_v12
  let main_v14 : FVec F S4096x1024 .f32 := (extf .f32 · bitsLt_bf16_f32) main_arg2
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  let main_v17 : FVec F S4096x1024 .f32 := (extf .f32 · bitsLt_bf16_f32) main_arg2
  let main_cst_4 : FVec F S_ .f32 := constant S_ .f32 0xFF800000#32
  fn_part1 (F := F) main_arg3 main_v6 main_v13 main_v16 main_v17 main_cst_4
-- ==== BwdDf.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 4, 1], ![false, false, false]⟩

def k0_mult1 (i : grid0.Coords) : BitVec 32 :=
  let arg1 : BitVec 32 := BitVec.ofNat 32 (i 1).val
  let c1024_i32 : BitVec 32 := 1024#32
  let v1 : BitVec 32 := Scalar.muli arg1 c1024_i32
  v1
def k0_off1 (i : grid0.Coords) : Fin 2 → Nat :=
  let arg1 : BitVec 32 := BitVec.ofNat 32 (i 1).val
  let c1024_i32 : BitVec 32 := 1024#32
  let v1 : BitVec 32 := Scalar.muli arg1 c1024_i32
  let v2 : BitVec 32 := v1
  let v3 : Index := Scalar.indexCast v2
  let c0_1 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDfIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== BwdDw2.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDw2Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== BwdDw1.lean ====
abbrev S4096x1024 : Shape := ⟨2, ![4096, 1024]⟩
abbrev S4096x4096 : Shape := ⟨2, ![4096, 4096]⟩
abbrev S4x2x512x1024 : Shape := ⟨4, ![4, 2, 512, 1024]⟩
abbrev S1x2x512x1024 : Shape := ⟨4, ![1, 2, 512, 1024]⟩
abbrev S1024x1024 : Shape := ⟨2, ![1024, 1024]⟩
abbrev S2x512x1024 : Shape := ⟨3, ![2, 512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x2x512x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x2x512x1024, .bf16⟩
  | .local _ .vmem, ⟨4, _⟩ => ⟨S1x2x512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  let c0_i32_1 : BitVec 32 := 0#32
  let c0_i32_2 : BitVec 32 := 0#32
  ![v0.toNat, c0_i32.toNat, c0_i32_1.toNat, v1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== RefDw1Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S2x512x4x1024 : Shape := ⟨4, ![2, 512, 4, 1024]⟩
abbrev S4x2x512x1024 : Shape := ⟨4, ![4, 2, 512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S2x512x4x1024, .bf16⟩
  | .hbm, ⟨11, _⟩ => ⟨S4x2x512x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== BwdDwin.lean ====
abbrev S4096x1024 : Shape := ⟨2, ![4096, 1024]⟩
abbrev S4096x7168 : Shape := ⟨2, ![4096, 7168]⟩
abbrev S4x2x512x1792 : Shape := ⟨4, ![4, 2, 512, 1792]⟩
abbrev S4096x896 : Shape := ⟨2, ![4096, 896]⟩
abbrev S1x2x512x896 : Shape := ⟨4, ![1, 2, 512, 896]⟩
abbrev S1024x896 : Shape := ⟨2, ![1024, 896]⟩
abbrev S2x512x896 : Shape := ⟨3, ![2, 512, 896]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x7168, .bf16⟩
  | .hbm, ⟨2, _⟩ => ⟨S4x2x512x1792, .bf16⟩
  | .local _ .vmem, ⟨0, _⟩ => ⟨S4096x1024, .bf16⟩
  | .local _ .vmem, ⟨1, _⟩ => ⟨S4096x896, .bf16⟩
  | .local _ .vmem, ⟨2, _⟩ => ⟨S4096x896, .bf16⟩
  | .local _ .vmem, ⟨3, _⟩ => ⟨S1x2x512x896, .bf16⟩
  | .local _ .vmem, ⟨4, _⟩ => ⟨S1x2x512x896, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c2_i32_0 : BitVec 32 := 2#32
  let v1 : BitVec 32 := Scalar.remsi arg1 c2_i32_0
  let c0_i32 : BitVec 32 := 0#32
  let c0_i32_1 : BitVec 32 := 0#32
  let c0_i32_2 : BitVec 32 := 0#32
  ![v0.toNat, c0_i32.toNat, c0_i32_1.toNat, v1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2x512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== RefDwinIdeal.lean ====
abbrev S4096x1024 : Shape := ⟨2, ![4096, 1024]⟩
abbrev S4096x7168 : Shape := ⟨2, ![4096, 7168]⟩
abbrev S_ : Shape := ⟨0, ![]⟩
abbrev S1024x7168 : Shape := ⟨2, ![1024, 7168]⟩
abbrev S7168x1024 : Shape := ⟨2, ![7168, 1024]⟩
abbrev S2x512x4x1792 : Shape := ⟨4, ![2, 512, 4, 1792]⟩
abbrev S4x2x512x1792 : Shape := ⟨4, ![4, 2, 512, 1792]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x7168, .bf16⟩
  | .hbm, ⟨2, _⟩ => ⟨S_, .f32⟩
  | .hbm, ⟨3, _⟩ => ⟨S1024x7168, .f32⟩
  | .hbm, ⟨4, _⟩ => ⟨S4096x1024, .f32⟩
  | .hbm, ⟨5, _⟩ => ⟨S4096x7168, .f32⟩
  | .hbm, ⟨6, _⟩ => ⟨S4096x7168, .f32⟩
  | .hbm, ⟨7, _⟩ => ⟨S7168x1024, .f32⟩
  | .hbm, ⟨8, _⟩ => ⟨S1024x7168, .f32⟩
  | .hbm, ⟨9, _⟩ => ⟨S1024x7168, .bf16⟩
  | .hbm, ⟨10, _⟩ => ⟨S2x512x4x1792, .bf16⟩
  | .hbm, ⟨11, _⟩ => ⟨S4x2x512x1792, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== BwdDwo.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefDwoIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BwdDh2.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_19 : BitVec 32 := 0#32
  let v40 : BitVec 1 := Scalar.cmpi .ne v39 c0_i32_19
  v40

def k0_cond2 (i : grid0.Coords) : BitVec 1 :=
  let arg0 : BitVec 32 := BitVec.ofNat 32 (i 0).val
  let c0_i32 : BitVec 32 := 0#32
  let v38 : BitVec 1 := Scalar.cmpi .eq arg0 c0_i32
  let v_true : BitVec 1 := 1#1
  let v41 : BitVec 1 := Scalar.xori v38 v_true
  let v42 : BitVec 32 := Scalar.extui v41
  let c0_i32_20 : BitVec 32 := 0#32
  let v43 : BitVec 1 := Scalar.cmpi .ne v42 c0_i32_20
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== RefDh2Ideal.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x4096, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== FwdX2.lean ====
abbrev S4096x1024 : Shape := ⟨2, ![4096, 1024]⟩
abbrev S4096x4096 : Shape := ⟨2, ![4096, 4096]⟩
abbrev S512x4096 : Shape := ⟨2, ![512, 4096]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .bf16⟩
  | .hbm, ⟨2, _⟩ => ⟨S4096x1024, .bf16⟩
  | .hbm, ⟨3, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== RefX2Ideal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .bf16⟩
  | .hbm, ⟨2, _⟩ => ⟨S4096x1024, .bf16⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .f32⟩
  | .hbm, ⟨10, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== BwdDh.lean ====
abbrev S4096x7168 : Shape := ⟨2, ![4096, 7168]⟩
abbrev S1024x7168 : Shape := ⟨2, ![1024, 7168]⟩
abbrev S4096x1024 : Shape := ⟨2, ![4096, 1024]⟩
abbrev S1x1024 : Shape := ⟨2, ![1, 1024]⟩
abbrev S1x1x7168 : Shape := ⟨3, ![1, 1, 7168]⟩
abbrev S512x7168 : Shape := ⟨2, ![512, 7168]⟩
abbrev S512x1024 : Shape := ⟨2, ![512, 1024]⟩
abbrev S7168 : Shape := ⟨1, ![7168]⟩
abbrev S1x7168 : Shape := ⟨2, ![1, 7168]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x7168, .bf16⟩
  | .hbm, ⟨1, _⟩ => ⟨S1024x7168, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1x7168, .f32⟩
  | .local _ .vmem, ⟨0, _⟩ => ⟨S512x7168, .bf16⟩
  | .local _ .vmem, ⟨1, _⟩ => ⟨S512x7168, .bf16⟩
  | .local _ .vmem, ⟨2, _⟩ => ⟨S1024x7168, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1x7168, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_1 : BitVec 32 := 0#32
  let v6 : BitVec 1 := Scalar.cmpi .ne v5 c0_i32_1
  v6

def k0_off1 (i : grid0.Coords) : Fin 3 → Nat :=
  let arg2 : BitVec 32 := BitVec.ofNat 32 (i 2).val
  let v53 : Index := Scalar.indexCast arg2
  let c0_26 : Index := 0#32
  let c0_27 : Index := 0#32
  ![v53.toNat, 0, 0]
def k0_cond2 (i : grid0.Coords) : BitVec 1 :=
  let arg0 : BitVec 32 := BitVec.ofNat 32 (i 0).val
  let c0_i32_2 : BitVec 32 := 0#32
  let v7 : BitVec 1 := Scalar.cmpi .sgt arg0 c0_i32_2
  let v8 : BitVec 32 := Scalar.extui v7
  let c0_i32_3 : BitVec 32 := 0#32
  let v9 : BitVec 1 := Scalar.cmpi .ne v8 c0_i32_3
  v9

def k0_off2 (i : grid0.Coords) : Fin 3 → Nat :=
  let arg2 : BitVec 32 := BitVec.ofNat 32 (i 2).val
  let v53 : Index := Scalar.indexCast arg2
  let c0_26 : Index := 0#32
  let c0_27 : Index := 0#32
  ![v53.toNat, 0, 0]
def k0_cond3 (i : grid0.Coords) : BitVec 1 :=
  let arg0 : BitVec 32 := BitVec.ofNat 32 (i 0).val
  let c0_i32_23 : BitVec 32 := 0#32
  let v47 : BitVec 1 := Scalar.cmpi .eq arg0 c0_i32_23
  let v48 : BitVec 32 := Scalar.extui v47
  let c0_i32_24 : BitVec 32 := 0#32
  let v49 : BitVec 1 := Scalar.cmpi .ne v48 c0_i32_24
  v49

def k0_cond4 (i : grid0.Coords) : BitVec 1 :=
  let arg0 : BitVec 32 := BitVec.ofNat 32 (i 0).val
  let c0_i32_23 : BitVec 32 := 0#32
  let v47 : BitVec 1 := Scalar.cmpi .eq arg0 c0_i32_23
  let v_true : BitVec 1 := 1#1
  let v50 : BitVec 1 := Scalar.xori v47 v_true
  let v51 : BitVec 32 := Scalar.extui v50
  let c0_i32_25 : BitVec 32 := 0#32
  let v52 : BitVec 1 := Scalar.cmpi .ne v51 c0_i32_25
  v52

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1x7168 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== RefDhIdeal.lean ====
abbrev S4096x7168 : Shape := ⟨2, ![4096, 7168]⟩
abbrev S1024x7168 : Shape := ⟨2, ![1024, 7168]⟩
abbrev S4096x1024 : Shape := ⟨2, ![4096, 1024]⟩
abbrev S1x1024 : Shape := ⟨2, ![1, 1024]⟩
abbrev S_ : Shape := ⟨0, ![]⟩
abbrev S7168 : Shape := ⟨1, ![7168]⟩
abbrev S4096 : Shape := ⟨1, ![4096]⟩
abbrev S4096x1 : Shape := ⟨2, ![4096, 1]⟩
abbrev S1x7168 : Shape := ⟨2, ![1, 7168]⟩
abbrev S1024 : Shape := ⟨1, ![1024]⟩
abbrev S1x1x7168 : Shape := ⟨3, ![1, 1, 7168]⟩

abbrev nBuf : Space → Nat
  | .hbm => 64
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S1024x7168, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S7168, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1024x7168, .f32⟩
  | .hbm, ⟨27, _⟩ => ⟨S4096x7168, .f32⟩
  | .hbm, ⟨28, _⟩ => ⟨S1x7168, .f32⟩
  | .hbm, ⟨29, _⟩ => ⟨S4096x7168, .f32⟩
  | .hbm, ⟨30, _⟩ => ⟨S4096x7168, .f32⟩
  | .hbm, ⟨31, _⟩ => ⟨S4096x7168, .f32⟩
  | .hbm, ⟨32, _⟩ => ⟨S_, .f32⟩
  | .hbm, ⟨33, _⟩ => ⟨S7168, .f32⟩
  | .hbm, ⟨34, _⟩ => ⟨S1x7168, .f32⟩
  | .hbm, ⟨35, _⟩ => ⟨S_, .f32⟩
  | .hbm, ⟨36, _⟩ => ⟨S7168, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | .hbm, ⟨63, _⟩ => ⟨S1x1x7168, .f32⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== BwdConvB.lean ====
abbrev S4096x1536 : Shape := ⟨2, ![4096, 1536]⟩
abbrev S4096x7168 : Shape := ⟨2, ![4096, 7168]⟩
abbrev S4x1536 : Shape := ⟨2, ![4, 1536]⟩
abbrev S_ : Shape := ⟨0, ![]⟩
abbrev S8x1536 : Shape := ⟨2, ![8, 1536]⟩
abbrev S1x1536 : Shape := ⟨2, ![1, 1536]⟩
abbrev S2048x512 : Shape := ⟨2, ![2048, 512]⟩
abbrev S8x512 : Shape := ⟨2, ![8, 512]⟩
abbrev S1x512 : Shape := ⟨2, ![1, 512]⟩
abbrev S2056x512 : Shape := ⟨2, ![2056, 512]⟩
abbrev S64x512 : Shape := ⟨2, ![64, 512]⟩
abbrev S2 : Shape := ⟨1, ![2]⟩
abbrev S136x512 : Shape := ⟨2, ![136, 512]⟩
abbrev S128x512 : Shape := ⟨2, ![128, 512]⟩
abbrev S1 : Shape := ⟨1, ![1]⟩
abbrev S8x8x512 : Shape := ⟨3, ![8, 8, 512]⟩
abbrev S512 : Shape := ⟨1, ![512]⟩

abbrev nBuf : Space → Nat
  | .hbm => 10
  | .vmem => 15
  | .smem => 0
  | _ => 0

abbrev bufTy : (tb : Table) → Fin (tcTables nBuf tb) → BufTy
  | .hbm, ⟨0, _⟩ => ⟨S4096x1536, .f32⟩
  | .hbm, ⟨1, _⟩ => ⟨S4096x7168, .bf16⟩
  | .hbm, ⟨2, _⟩ => ⟨S4096x7168, .bf16⟩
  | .hbm, ⟨3, _⟩ => ⟨S4x1536, .f32⟩
  | .hbm, ⟨4, _⟩ => ⟨S_, .i32⟩
  | .hbm, ⟨5, _⟩ => ⟨S_, .f32⟩
  | .hbm, ⟨6, _⟩ => ⟨S8x1536, .f32⟩
  | .hbm, ⟨7, _⟩ => ⟨S4096x7168, .bf16⟩
  | .hbm, ⟨8, _⟩ => ⟨S8x1536, .f32⟩
  | .hbm, ⟨9, _⟩ => ⟨S1x1536, .f32⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S2048x512, .bf16⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1x512, .f32⟩
  | .local _ .vmem, ⟨9, _⟩ => ⟨S1x512, .f32⟩
  | .local _ .vmem, ⟨10, _⟩ => ⟨S2056x512, .f32⟩
  | .local _ .vmem, ⟨11, _⟩ => ⟨S2056x512, .f32⟩
  | .local _ .vmem, ⟨12, _⟩ => ⟨S2048x512, .f32⟩
  | .local _ .vmem, ⟨13, _⟩ => ⟨S64x512, .f32⟩
  | .local _ .vmem, ⟨14, _⟩ => ⟨S2048x512, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 2], ![false, false]⟩

@[reducible] def k0_t1_loop : Scf.Loop 32 :=
  let c0_i32 : BitVec 32 := 0#32
  let c16_i32 : BitVec 32 := 16#32
  let v22 : BitVec 32 := Scalar.addi c0_i32 c16_i32
  let c1_i32 : BitVec 32 := 1#32
  ⟨c0_i32, v22, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32 : BitVec 32 := 128#32
  let v64 : BitVec 32 := Scalar.muli arg15 c128_i32
  v64
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c128_i32 : BitVec 32 := 128#32
  let v64 : BitVec 32 := Scalar.muli arg15 c128_i32
  let v65 : BitVec 32 := v64
  let v66 : Index := Scalar.indexCast v65
  let c0_38 : Index := 0#32
  ![v66.toNat, 0]
def k0_off2 (k0_t1 : Fin k0_t1_loop.trips) : Fin 2 → Nat :=
  let c0_i32 : BitVec 32 := 0#32
  let c1_i32 : BitVec 32 := 1#32
  let arg15 : BitVec 32 := Scf.iv c0_i32 c1_i32 k0_t1
  let c128_i32 : BitVec 32 := 128#32
  let v64 : BitVec 32 := Scalar.muli arg15 c128_i32
  let v65 : BitVec 32 := v64
  let v96 : Index := Scalar.indexCast v65
  let c0_45 : Index := 0#32
  ![v96.toNat, 0]
def k0_mult2 (i : grid0.Coords) : BitVec 32 :=
  let arg1 : BitVec 32 := BitVec.ofNat 32 (i 1).val
  let c2048_i32 : BitVec 32 := 2048#32
  let v25 : BitVec 32 := Scalar.muli arg1 c2048_i32
  v25
def k0_mult3 (i : grid0.Coords) : BitVec 32 :=
  let c4_i32 : BitVec 32 := 4#32
  let arg0 : BitVec 32 := BitVec.ofNat 32 (i 0).val
  let v27 : BitVec 32 := Scalar.addi c4_i32 arg0
  let c512_i32 : BitVec 32 := 512#32
  let v28 : BitVec 32 := Scalar.muli v27 c512_i32
  v28
def k0_cond1 (i : grid0.Coords) : BitVec 1 :=
  let arg0 : BitVec 32 := BitVec.ofNat 32 (i 0).val
  let c0_i32_17 : BitVec 32 := 0#32
  let v30 : BitVec 1 := Scalar.cmpi .sgt arg0 c0_i32_17
  let arg1 : BitVec 32 := BitVec.ofNat 32 (i 1).val
  let c0_i32_18 : BitVec 32 := 0#32
  let v31 : BitVec 1 := Scalar.cmpi .sgt arg1 c0_i32_18
  let v32 : BitVec 1 := Scalar.ori v30 v31
  let v33 : BitVec 32 := Scalar.extui v32
  let c0_i32_20 : BitVec 32 := 0#32
  let v34 : BitVec 1 := Scalar.cmpi .ne v33 c0_i32_20
  v34

def k0_off3 (i : grid0.Coords) : Fin 2 → Nat :=
  let arg1 : BitVec 32 := BitVec.ofNat 32 (i 1).val
  let c2048_i32 : BitVec 32 := 2048#32
  let v25 : BitVec 32 := Scalar.muli arg1 c2048_i32
  let v26 : BitVec 32 := v25
  let c4_i32 : BitVec 32 := 4#32
  let arg0 : BitVec 32 := BitVec.ofNat 32 (i 0).val
  let v27 : BitVec 32 := Scalar.addi c4_i32 arg0
  let c512_i32 : BitVec 32 := 512#32
  let v28 : BitVec 32 := Scalar.muli v27 c512_i32
  let v29 : BitVec 32 := v28
  ![v26.toNat, v29.toNat]
def k0_off4 (i : grid0.Coords) : Fin 2 → Nat :=
  let arg1 : BitVec 32 := BitVec.ofNat 32 (i 1).val
  let c2048_i32 : BitVec 32 := 2048#32
  let v25 : BitVec 32 := Scalar.muli arg1 c2048_i32
  let v26 : BitVec 32 := v25
  let c4_i32 : BitVec 32 := 4#32
  let arg0 : BitVec 32 := BitVec.ofNat 32 (i 0).val
  let v27 : BitVec 32 := Scalar.addi c4_i32 arg0
  let c512_i32 : BitVec 32 := 512#32
  let v28 : BitVec 32 := Scalar.muli v27 c512_i32
  let v29 : BitVec 32 := v28
  ![v26.toNat, v29.toNat]
def k0_cond2 (i : grid0.Coords) : BitVec 1 :=
  let arg0 : BitVec 32 := BitVec.ofNat 32 (i 0).val
  let c2_i32 : BitVec 32 := 2#32
  let v42 : BitVec 1 := Scalar.cmpi .eq arg0 c2_i32
  let arg1 : BitVec 32 := BitVec.ofNat 32 (i 1).val
  let c1_i32_24 : BitVec 32 := 1#32
  let v43 : BitVec 1 := Scalar.cmpi .eq arg1 c1_i32_24
  let v44 : BitVec 1 := Scalar.andi v42 v43
  let v45 : BitVec 32 := Scalar.extui v44
  let c0_i32_26 : BitVec 32 := 0#32
  let v46 : BitVec 1 := Scalar.cmpi .ne v45 c0_i32_26
  v46

def k0_off5 (i : grid0.Coords) : Fin 2 → Nat :=
  let arg1 : BitVec 32 := BitVec.ofNat 32 (i 1).val
  let c2048_i32 : BitVec 32 := 2048#32
  let v25 : BitVec 32 := Scalar.muli arg1 c2048_i32
  let v26 : BitVec 32 := v25
  let c4_i32 : BitVec 32 := 4#32
  let arg0 : BitVec 32 := BitVec.ofNat 32 (i 0).val
  let v27 : BitVec 32 := Scalar.addi c4_i32 arg0
  let c512_i32 : BitVec 32 := 512#32
  let v28 : BitVec 32 := Scalar.muli v27 c512_i32
  let v29 : BitVec 32 := v28
  ![v26.toNat, v29.toNat]
def k0_cond3 (i : grid0.Coords) : BitVec 1 :=
  let arg1 : BitVec 32 := BitVec.ofNat 32 (i 1).val
  let c0_i32_30 : BitVec 32 := 0#32
  let v50 : BitVec 1 := Scalar.cmpi .eq arg1 c0_i32_30
  let v51 : BitVec 32 := Scalar.extui v50
  let c0_i32_31 : BitVec 32 := 0#32
  let v52 : BitVec 1 := Scalar.cmpi .ne v51 c0_i32_31
  v52

def k0_cond4 (i : grid0.Coords) : BitVec 1 :=
  let arg1 : BitVec 32 := BitVec.ofNat 32 (i 1).val
  let c0_i32_30 : BitVec 32 := 0#32
  let v50 : BitVec 1 := Scalar.cmpi .eq arg1 c0_i32_30
  let v_true : BitVec 1 := 1#1
  let v53 : BitVec 1 := Scalar.xori v50 v_true
  let v54 : BitVec 32 := Scalar.extui v53
  let c0_i32_32 : BitVec 32 := 0#32
  let v55 : BitVec 1 := Scalar.cmpi .ne v54 c0_i32_32
  v55

def k0_cond5 (i : grid0.Coords) : BitVec 1 :=
  let arg1 : BitVec 32 := BitVec.ofNat 32 (i 1).val
  let c0_i32_34 : BitVec 32 := 0#32
  let v58 : BitVec 1 := Scalar.cmpi .eq arg1 c0_i32_34
  let v59 : BitVec 32 := Scalar.extui v58
  let c0_i32_35 : BitVec 32 := 0#32
  let v60 : BitVec 1 := Scalar.cmpi .ne v59 c0_i32_35
  v60

def k0_cond6 (i : grid0.Coords) : BitVec 1 :=
  let arg1 : BitVec 32 := BitVec.ofNat 32 (i 1).val
  let c0_i32_34 : BitVec 32 := 0#32
  let v58 : BitVec 1 := Scalar.cmpi .eq arg1 c0_i32_34
  let true_36 : BitVec 1 := 1#1
  let v61 : BitVec 1 := Scalar.xori v58 true_36
  let v62 : BitVec 32 := Scalar.extui v61
  let c0_i32_37 : BitVec 32 := 0#32
  let v63 : BitVec 1 := Scalar.cmpi .ne v62 c0_i32_37
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== RefConvBIdeal.lean ====
abbrev S4096x1536 : Shape := ⟨2, ![4096, 1536]⟩
abbrev S4096x7168 : Shape := ⟨2, ![4096, 7168]⟩
abbrev S4x1536 : Shape := ⟨2, ![4, 1536]⟩
abbrev S2x2048x7168 : Shape := ⟨3, ![2, 2048, 7168]⟩
abbrev S2x2048x1536 : Shape := ⟨3, ![2, 2048, 1536]⟩
abbrev S_ : Shape := ⟨0, ![]⟩
abbrev S1536 : Shape := ⟨1, ![1536]⟩
abbrev S2x3x1536 : Shape := ⟨3, ![2, 3, 1536]⟩
abbrev S2x2051x1536 : Shape := ⟨3, ![2, 2051, 1536]⟩
abbrev S1x1536 : Shape := ⟨2, ![1, 1536]⟩
abbrev S1x1x1536 : Shape := ⟨3, ![1, 1, 1536]⟩
abbrev S4096x2048 : Shape := ⟨2, ![4096, 2048]⟩
abbrev S4096x3584 : Shape := ⟨2, ![4096, 3584]⟩
abbrev S8x1536 : Shape := ⟨2, ![8, 1536]⟩

abbrev nBuf : Space → Nat
  | .hbm => 123
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x7168, .bf16⟩
  | .hbm, ⟨2, _⟩ => ⟨S4096x7168, .bf16⟩
  | .hbm, ⟨3, _⟩ => ⟨S4x1536, .f32⟩
  | .hbm, ⟨4, _⟩ => ⟨S4096x7168, .f32⟩
  | .hbm, ⟨5, _⟩ => ⟨S2x2048x7168, .f32⟩
  | .hbm, ⟨6, _⟩ => ⟨S2x2048x1536, .f32⟩
  | .hbm, ⟨7, _⟩ => ⟨S_, .f32⟩
  | .hbm, ⟨8, _⟩ => ⟨S1536, .f32⟩
  | .hbm, ⟨9, _⟩ => ⟨S_, .f32⟩
  | .hbm, ⟨10, _⟩ => ⟨S2x3x1536, .f32⟩
  | .hbm, ⟨11, _⟩ => ⟨S2x2051x1536, .f32⟩
  | .hbm, ⟨12, _⟩ => ⟨S_, .f32⟩
  | .hbm, ⟨13, _⟩ => ⟨S2x3x1536, .f32⟩
  | .hbm, ⟨14, _⟩ => ⟨S1x1536, .f32⟩
  | .hbm, ⟨15, _⟩ => ⟨S1536, .f32⟩
  | .hbm, ⟨16, _⟩ => ⟨S2x2048x1536, .f32⟩
  | .hbm, ⟨17, _⟩ => ⟨S1x1x1536, .f32⟩
  | .hbm, ⟨18, _⟩ => ⟨S2x2048x1536, .f32⟩
  | .hbm, ⟨19, _⟩ => ⟨S2x2048x1536, .f32⟩
  | .hbm, ⟨20, _⟩ => ⟨S_, .f32⟩
  | .hbm, ⟨21, _⟩ => ⟨S2x2048x1536, .f32⟩
  | .hbm, ⟨22, _⟩ => ⟨S2x2048x1536, .f32⟩
  | .hbm, ⟨23, _⟩ => ⟨S1x1536, .f32⟩
  | .hbm, ⟨24, _⟩ => ⟨S1536, .f32⟩
  | .hbm, ⟨25, _⟩ => ⟨S2x2048x1536, .f32⟩
  | .hbm, ⟨26, _⟩ => ⟨S1x1x1536, .f32⟩
  | .hbm, ⟨27, _⟩ => ⟨S2x2048x1536, .f32⟩
  | .hbm, ⟨28, _⟩ => ⟨S2x2048x1536, .f32⟩
  | .hbm, ⟨29, _⟩ => ⟨S2x2048x1536, .f32⟩
  | .hbm, ⟨30, _⟩ => ⟨S1x1536, .f32⟩
  | .hbm, ⟨31, _⟩ => ⟨S1536, .f32⟩
  | .hbm, ⟨32, _⟩ => ⟨S2x2048x1536, .f32⟩
  | .hbm, ⟨33, _⟩ => ⟨S1x1x1536, .f32⟩
  | .hbm, ⟨34, _⟩ => ⟨S2x2048x1536, .f32⟩
  | .hbm, ⟨35, _⟩ => ⟨S2x2048x1536, .f32⟩
  | .hbm, ⟨36, _⟩ => ⟨S2x2048x1536, .f32⟩
  | .hbm, ⟨37, _⟩ => ⟨S1x1536, .f32⟩
  | .hbm, ⟨38, _⟩ => ⟨S1536, .f32⟩
  | .hbm, ⟨39, _⟩ => ⟨S2x2048x1536, .f32⟩
  | .hbm, ⟨40, _⟩ => ⟨S1x1x1536, .f32⟩
  | .hbm, ⟨41, _⟩ => ⟨S2x2048x1536, .f32⟩
  | .hbm, ⟨42, _⟩ => ⟨S2x2048x1536, .f32⟩
  | .hbm, ⟨43, _⟩ => ⟨S2x2048x1536, .f32⟩
  | .hbm, ⟨44, _⟩ => ⟨S1x1x1536, .f32⟩
  | .hbm, ⟨45, _⟩ => ⟨S2x2048x1536, .f32⟩
  | .hbm, ⟨46, _⟩ => ⟨S2x2048x1536, .f32⟩
  | .hbm, ⟨47, _⟩ => ⟨S2x2048x1536, .f32⟩
  | .hbm, ⟨48, _⟩ => ⟨S_, .f32⟩
  | .hbm, ⟨49, _⟩ => ⟨S1536, .f32⟩
  | .hbm, ⟨50, _⟩ => ⟨S1x1x1536, .f32⟩
  | .hbm, ⟨51, _⟩ => ⟨S_, .f32⟩
  | .hbm, ⟨52, _⟩ => ⟨S1536, .f32⟩
  | .hbm, ⟨53, _⟩ => ⟨S2x2048x1536, .f32⟩
  | .hbm, ⟨54, _⟩ => ⟨S2x2048x1536, .f32⟩
  | .hbm, ⟨55, _⟩ => ⟨S2x2048x1536, .f32⟩
  | .hbm, ⟨56, _⟩ => ⟨S_, .f32⟩
  | .hbm, ⟨57, _⟩ => ⟨S1536, .f32⟩
  | .hbm, ⟨58, _⟩ => ⟨S1x1x1536, .f32⟩
  | .hbm, ⟨59, _⟩ => ⟨S_, .f32⟩
  | .hbm, ⟨60, _⟩ => ⟨S1536, .f32⟩
  | .hbm, ⟨61, _⟩ => ⟨S_, .f32⟩
  | .hbm, ⟨62, _⟩ => ⟨S2x2051x1536, .f32⟩
  | .hbm, ⟨63, _⟩ => ⟨S1x1536, .f32⟩
  | .hbm, ⟨64, _⟩ => ⟨S_, .f32⟩
  | .hbm, ⟨65, _⟩ => ⟨S4x1536, .f32⟩
  | .hbm, ⟨66, _⟩ => ⟨S2x2048x1536, .f32⟩
  | .hbm, ⟨67, _⟩ => ⟨S2x2048x1536, .f32⟩
  | .hbm, ⟨68, _⟩ => ⟨S2x2048x1536, .f32⟩
  | .hbm, ⟨69, _⟩ => ⟨S_, .f32⟩
  | .hbm, ⟨70, _⟩ => ⟨S1536, .f32⟩
  | .hbm, ⟨71, _⟩ => ⟨S1x1x1536, .f32⟩
  | .hbm, ⟨72, _⟩ => ⟨S_, .f32⟩
  | .hbm, ⟨73, _⟩ => ⟨S1536, .f32⟩
  | .hbm, ⟨74, _⟩ => ⟨S_, .f32⟩
  | .hbm, ⟨75, _⟩ => ⟨S2x2051x1536, .f32⟩
  | .hbm, ⟨76, _⟩ => ⟨S2x2051x1536, .f32⟩
  | .hbm, ⟨77, _⟩ => ⟨S1x1536, .f32⟩
  | .hbm, ⟨78, _⟩ => ⟨S_, .f32⟩
  | .hbm, ⟨79, _⟩ => ⟨S4x1536, .f32⟩
  | .hbm, ⟨80, _⟩ => ⟨S4x1536, .f32⟩
  | .hbm, ⟨81, _⟩ => ⟨S2x2048x1536, .f32⟩
  | .hbm, ⟨82, _⟩ => ⟨S2x2048x1536, .f32⟩
  | .hbm, ⟨83, _⟩ => ⟨S2x2048x1536, .f32⟩
  | .hbm, ⟨84, _⟩ => ⟨S_, .f32⟩
  | .hbm, ⟨85, _⟩ => ⟨S1536, .f32⟩
  | .hbm, ⟨86, _⟩ => ⟨S1x1x1536, .f32⟩
  | .hbm, ⟨87, _⟩ => ⟨S_, .f32⟩
  | .hbm, ⟨88, _⟩ => ⟨S1536, .f32⟩
  | .hbm, ⟨89, _⟩ => ⟨S_, .f32⟩
  | .hbm, ⟨90, _⟩ => ⟨S2x2051x1536, .f32⟩
  | .hbm, ⟨91, _⟩ => ⟨S2x2051x1536, .f32⟩
  | .hbm, ⟨92, _⟩ => ⟨S1x1536, .f32⟩
  | .hbm, ⟨93, _⟩ => ⟨S_, .f32⟩
  | .hbm, ⟨94, _⟩ => ⟨S4x1536, .f32⟩
  | .hbm, ⟨95, _⟩ => ⟨S4x1536, .f32⟩
  | .hbm, ⟨96, _⟩ => ⟨S2x2048x1536, .f32⟩
  | .hbm, ⟨97, _⟩ => ⟨S2x2048x1536, .f32⟩
  | .hbm, ⟨98, _⟩ => ⟨S2x2048x1536, .f32⟩
  | .hbm, ⟨99, _⟩ => ⟨S_, .f32⟩
  | .hbm, ⟨100, _⟩ => ⟨S1536, .f32⟩
  | .hbm, ⟨101, _⟩ => ⟨S1x1x1536, .f32⟩
  | .hbm, ⟨102, _⟩ => ⟨S_, .f32⟩
  | .hbm, ⟨103, _⟩ => ⟨S1536, .f32⟩
  | .hbm, ⟨104, _⟩ => ⟨S_, .f32⟩
  | .hbm, ⟨105, _⟩ => ⟨S2x2051x1536, .f32⟩
  | .hbm, ⟨106, _⟩ => ⟨S2x2051x1536, .f32⟩
  | .hbm, ⟨107, _⟩ => ⟨S1x1536, .f32⟩
  | .hbm, ⟨108, _⟩ => ⟨S_, .f32⟩
  | .hbm, ⟨109, _⟩ => ⟨S4x1536, .f32⟩
  | .hbm, ⟨110, _⟩ => ⟨S4x1536, .f32⟩
  | .hbm, ⟨111, _⟩ => ⟨S2x3x1536, .f32⟩
  | .hbm, ⟨112, _⟩ => ⟨S2x2048x1536, .f32⟩
  | .hbm, ⟨113, _⟩ => ⟨S4096x7168, .f32⟩
  | .hbm, ⟨114, _⟩ => ⟨S4096x2048, .f32⟩
  | .hbm, ⟨115, _⟩ => ⟨S4096x1536, .f32⟩
  | .hbm, ⟨116, _⟩ => ⟨S4096x3584, .f32⟩
  | .hbm, ⟨117, _⟩ => ⟨S4096x7168, .f32⟩
  | .hbm, ⟨118, _⟩ => ⟨S4096x7168, .bf16⟩
  | .hbm, ⟨119, _⟩ => ⟨S_, .i32⟩
  | .hbm, ⟨120, _⟩ => ⟨S_, .f32⟩
  | .hbm, ⟨121, _⟩ => ⟨S8x1536, .f32⟩
  | .hbm, ⟨122, _⟩ => ⟨S1x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_13 : Ref sig .tc := ⟨.hbm, 84, rfl⟩
abbrev main_v66 : Ref sig .tc := ⟨.hbm, 85, rfl⟩
abbrev main_v67 : Ref sig .tc := ⟨.hbm, 86, rfl⟩
abbrev main_cst_14 : Ref sig .tc := ⟨.hbm, 87, rfl⟩
abbrev main_v68 : Ref sig .tc := ⟨.hbm, 88, rfl⟩
abbrev main_cst_15 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_16 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_17 : Ref sig .tc := ⟨.hbm, 99, rfl⟩
abbrev main_v77 : Ref sig .tc := ⟨.hbm, 100, rfl⟩
abbrev main_v78 : Ref sig .tc := ⟨.hbm, 101, rfl⟩
abbrev main_cst_18 : Ref sig .tc := ⟨.hbm, 102, rfl⟩
abbrev main_v79 : Ref sig .tc := ⟨.hbm, 103, rfl⟩
abbrev main_cst_19 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_20 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_c : Ref sig .tc := ⟨.hbm, 119, rfl⟩
abbrev main_call0_v0 : Ref sig .tc := ⟨.hbm, 120, rfl⟩
abbrev main_v93 : Ref sig .tc := ⟨.hbm, 121, rfl⟩
abbrev main_v94 : Ref sig .tc := ⟨.hbm, 122, rfl⟩

abbrev nD : Nat := 1
abbrev τ : Topo := Topo.v7x

variable {F : FTy → Type} [FloatOps F]
-- ==== FwdF.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .bf16⟩
  | .hbm, ⟨3, _⟩ => ⟨S4096x4096, .bf16⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 4, 1], ![false, false, false]⟩

def k0_mult1 (i : grid0.Coords) : BitVec 32 :=
  let arg1 : BitVec 32 := BitVec.ofNat 32 (i 1).val
  let c1024_i32 : BitVec 32 := 1024#32
  let v4 : BitVec 32 := Scalar.muli arg1 c1024_i32
  v4
def k0_off1 (i : grid0.Coords) : Fin 2 → Nat :=
  let c0_2 : Index := 0#32
  let arg1 : BitVec 32 := BitVec.ofNat 32 (i 1).val
  let c1024_i32 : BitVec 32 := 1024#32
  let v4 : BitVec 32 := Scalar.muli arg1 c1024_i32
  let v5 : BitVec 32 := v4
  let v6 : Index := Scalar.indexCast v5
  ![0, v6.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== RefFIdeal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x4096, .f32⟩
  | .hbm, ⟨19, _⟩ => ⟨S4096x4096, .f32⟩
  | .hbm, ⟨20, _⟩ => ⟨S4096x4096, .bf16⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== BwdDwa.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefDwaIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BwdDwb.lean ====
abbrev S4096x1536 : Shape := ⟨2, ![4096, 1536]⟩
abbrev S4096x1024 : Shape := ⟨2, ![4096, 1024]⟩
abbrev S1536x1024 : Shape := ⟨2, ![1536, 1024]⟩
abbrev S1024x1536 : Shape := ⟨2, ![1024, 1536]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefDwbIdeal.lean ====
abbrev S4096x1536 : Shape := ⟨2, ![4096, 1536]⟩
abbrev S4096x1024 : Shape := ⟨2, ![4096, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S_, .f32⟩
  | .hbm, ⟨3, _⟩ => ⟨S1536x1024, .f32⟩
  | .hbm, ⟨4, _⟩ => ⟨S4096x1536, .f32⟩
  | .hbm, ⟨5, _⟩ => ⟨S4096x1024, .f32⟩
  | .hbm, ⟨6, _⟩ => ⟨S4096x1024, .f32⟩
  | .hbm, ⟨7, _⟩ => ⟨S1024x1536, .f32⟩
  | .hbm, ⟨8, _⟩ => ⟨S1536x1024, .f32⟩
  | .hbm, ⟨9, _⟩ => ⟨S1536x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FwdYa.lean ====
abbrev S4096x1024 : Shape := ⟨2, ![4096, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1x1024, .f32⟩
  | .hbm, ⟨2, _⟩ => ⟨S1x1024, .f32⟩
  | .hbm, ⟨3, _⟩ => ⟨S1024x1024, .bf16⟩
  | .hbm, ⟨4, _⟩ => ⟨S4096x1024, .bf16⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== RefYaIdeal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024, .f32⟩
  | .hbm, ⟨2, _⟩ => ⟨S1x1024, .f32⟩
  | .hbm, ⟨3, _⟩ => ⟨S1024x1024, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S1024x1024, .f32⟩
  | .hbm, ⟨40, _⟩ => ⟨S4096x1024, .f32⟩
  | .hbm, ⟨41, _⟩ => ⟨S4096x1024, .bf16⟩
  | .hbm, ⟨42, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== FwdYb.lean ====
abbrev S4096x1536 : Shape := ⟨2, ![4096, 1536]⟩
abbrev S4096x7168 : Shape := ⟨2, ![4096, 7168]⟩
abbrev S1536x1024 : Shape := ⟨2, ![1536, 1024]⟩
abbrev S4096x1024 : Shape := ⟨2, ![4096, 1024]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x1536, .bf16⟩
  | .hbm, ⟨1, _⟩ => ⟨S4096x7168, .bf16⟩
  | .hbm, ⟨2, _⟩ => ⟨S1536x1024, .bf16⟩
  | .hbm, ⟨3, _⟩ => ⟨S4096x1024, .bf16⟩
  | .hbm, ⟨4, _⟩ => ⟨S4096x1536, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v28 : BitVec 1 := Scalar.cmpi .eq arg2 c2_i32
  let v29 : BitVec 32 := Scalar.extui v28
  let c0_i32_14 : BitVec 32 := 0#32
  let v30 : BitVec 1 := Scalar.cmpi .ne v29 c0_i32_14
  v30

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg2
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]
-- ==== RefYbIdeal.lean ====
abbrev S4096x1536 : Shape := ⟨2, ![4096, 1536]⟩
abbrev S4096x7168 : Shape := ⟨2, ![4096, 7168]⟩
abbrev S1536x1024 : Shape := ⟨2, ![1536, 1024]⟩
abbrev S_ : Shape := ⟨0, ![]⟩
abbrev S4096x1024 : Shape := ⟨2, ![4096, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x7168, .bf16⟩
  | .hbm, ⟨2, _⟩ => ⟨S1536x1024, .bf16⟩
  | .hbm, ⟨3, _⟩ => ⟨S4096x1536, .f32⟩
  | .hbm, ⟨4, _⟩ => ⟨S4096x1536, .bf16⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S_, .f32⟩
  | .hbm, ⟨9, _⟩ => ⟨S4096x1536, .f32⟩
  | .hbm, ⟨10, _⟩ => ⟨S4096x1536, .f32⟩
  | .hbm, ⟨11, _⟩ => ⟨S4096x1536, .f32⟩
  | .hbm, ⟨12, _⟩ => ⟨S_, .f32⟩
  | .hbm, ⟨13, _⟩ => ⟨S4096x1536, .f32⟩
  | .hbm, ⟨14, _⟩ => ⟨S4096x1536, .f32⟩
  | .hbm, ⟨15, _⟩ => ⟨S4096x1536, .f32⟩
  | .hbm, ⟨16, _⟩ => ⟨S_, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S4096x1536, .f32⟩
  | .hbm, ⟨23, _⟩ => ⟨S4096x1536, .f32⟩
  | .hbm, ⟨24, _⟩ => ⟨S1536x1024, .f32⟩
  | .hbm, ⟨25, _⟩ => ⟨S4096x1024, .f32⟩
  | .hbm, ⟨26, _⟩ => ⟨S4096x1024, .bf16⟩
  | .hbm, ⟨27, _⟩ => ⟨S4096x1536, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== FwdX1.lean ====
abbrev S4096x1024 : Shape := ⟨2, ![4096, 1024]⟩
abbrev S4096x7168 : Shape := ⟨2, ![4096, 7168]⟩
abbrev S1024x1024 : Shape := ⟨2, ![1024, 1024]⟩
abbrev S512x1024 : Shape := ⟨2, ![512, 1024]⟩

abbrev nBuf : Space → Nat
  | .hbm => 7
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x7168, .bf16⟩
  | .hbm, ⟨4, _⟩ => ⟨S1024x1024, .bf16⟩
  | .hbm, ⟨5, _⟩ => ⟨S4096x1024, .f32⟩
  | .hbm, ⟨6, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== RefX1Ideal.lean ====
abbrev S4096x1024 : Shape := ⟨2, ![4096, 1024]⟩
abbrev S4096x7168 : Shape := ⟨2, ![4096, 7168]⟩
abbrev S1024x1024 : Shape := ⟨2, ![1024, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x7168, .bf16⟩
  | .hbm, ⟨4, _⟩ => ⟨S1024x1024, .bf16⟩
  | .hbm, ⟨5, _⟩ => ⟨S4096x1024, .bf16⟩
  | .hbm, ⟨6, _⟩ => ⟨S4096x1024, .bf16⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1024x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== BwdDm.lean ====
abbrev S4096x1024 : Shape := ⟨2, ![4096, 1024]⟩
abbrev S1024x1024 : Shape := ⟨2, ![1024, 1024]⟩
abbrev S4096x7168 : Shape := ⟨2, ![4096, 7168]⟩
abbrev S512x1024 : Shape := ⟨2, ![512, 1024]⟩
abbrev S512x2048 : Shape := ⟨2, ![512, 2048]⟩
abbrev S_ : Shape := ⟨0, ![]⟩

abbrev nBuf : Space → Nat
  | .hbm => 8
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .bf16⟩
  | .hbm, ⟨4, _⟩ => ⟨S4096x7168, .bf16⟩
  | .hbm, ⟨5, _⟩ => ⟨S4096x1024, .bf16⟩
  | .hbm, ⟨6, _⟩ => ⟨S4096x1024, .bf16⟩
  | .hbm, ⟨7, _⟩ => ⟨S4096x7168, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![8, 1, 1], ![false, false, false]⟩

def k0_mult1 (i : grid0.Coords) : BitVec 32 :=
  let arg0 : BitVec 32 := BitVec.ofNat 32 (i 0).val
  let c512_i32 : BitVec 32 := 512#32
  let v31 : BitVec 32 := Scalar.muli arg0 c512_i32
  v31
def k0_cond1 (i : grid0.Coords) : BitVec 1 :=
  let arg0 : BitVec 32 := BitVec.ofNat 32 (i 0).val
  let c0_i32 : BitVec 32 := 0#32
  let v33 : BitVec 1 := Scalar.cmpi .sgt arg0 c0_i32
  let v34 : BitVec 32 := Scalar.extui v33
  let c0_i32_21 : BitVec 32 := 0#32
  let v35 : BitVec 1 := Scalar.cmpi .ne v34 c0_i32_21
  v35

def k0_off1 (i : grid0.Coords) : Fin 2 → Nat :=
  let arg0 : BitVec 32 := BitVec.ofNat 32 (i 0).val
  let c512_i32 : BitVec 32 := 512#32
  let v31 : BitVec 32 := Scalar.muli arg0 c512_i32
  let v32 : BitVec 32 := v31
  let c5120_i32_28 : BitVec 32 := 5120#32
  ![v32.toNat, 5120]
def k0_off2 (i : grid0.Coords) : Fin 2 → Nat :=
  let arg0 : BitVec 32 := BitVec.ofNat 32 (i 0).val
  let c512_i32 : BitVec 32 := 512#32
  let v31 : BitVec 32 := Scalar.muli arg0 c512_i32
  let v32 : BitVec 32 := v31
  let c5120_i32 : BitVec 32 := 5120#32
  ![v32.toNat, 5120]
def k0_cond2 (i : grid0.Coords) : BitVec 1 :=
  let arg0 : BitVec 32 := BitVec.ofNat 32 (i 0).val
  let c7_i32 : BitVec 32 := 7#32
  let v55 : BitVec 1 := Scalar.cmpi .eq arg0 c7_i32
  let v56 : BitVec 32 := Scalar.extui v55
  let c0_i32_27 : BitVec 32 := 0#32
  let v57 : BitVec 1 := Scalar.cmpi .ne v56 c0_i32_27
  v57

def k0_off3 (i : grid0.Coords) : Fin 2 → Nat :=
  let arg0 : BitVec 32 := BitVec.ofNat 32 (i 0).val
  let c512_i32 : BitVec 32 := 512#32
  let v31 : BitVec 32 := Scalar.muli arg0 c512_i32
  let v32 : BitVec 32 := v31
  let c5120_i32_28 : BitVec 32 := 5120#32
  ![v32.toNat, 5120]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== RefDmIdeal.lean ====
abbrev S4096x1024 : Shape := ⟨2, ![4096, 1024]⟩
abbrev S1024x1024 : Shape := ⟨2, ![1024, 1024]⟩
abbrev S4096x7168 : Shape := ⟨2, ![4096, 7168]⟩
abbrev S_ : Shape := ⟨0, ![]⟩
abbrev S4096x5120 : Shape := ⟨2, ![4096, 5120]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .bf16⟩
  | .hbm, ⟨4, _⟩ => ⟨S4096x7168, .bf16⟩
  | .hbm, ⟨5, _⟩ => ⟨S4096x7168, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1024x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x5120, .f32⟩
  | .hbm, ⟨49, _⟩ => ⟨S4096x7168, .f32⟩
  | .hbm, ⟨50, _⟩ => ⟨S4096x1024, .bf16⟩
  | .hbm, ⟨51, _⟩ => ⟨S4096x1024, .bf16⟩
  | .hbm, ⟨52, _⟩ => ⟨S4096x7168, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== FwdZ.lean ====
abbrev S4096x1024 : Shape := ⟨2, ![4096, 1024]⟩
abbrev S1x1024 : Shape := ⟨2, ![1, 1024]⟩
abbrev S1024x7168 : Shape := ⟨2, ![1024, 7168]⟩
abbrev S1x7168 : Shape := ⟨2, ![1, 7168]⟩
abbrev S4096x7168 : Shape := ⟨2, ![4096, 7168]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x7168, .bf16⟩
  | .hbm, ⟨3, _⟩ => ⟨S1x7168, .f32⟩
  | .hbm, ⟨4, _⟩ => ⟨S4096x7168, .bf16⟩
  | .hbm, ⟨5, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x7168, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 7, 1], ![false, false, false]⟩

def k0_mult1 (i : grid0.Coords) : BitVec 32 :=
  let arg1 : BitVec 32 := BitVec.ofNat 32 (i 1).val
  let c1024_i32 : BitVec 32 := 1024#32
  let v4 : BitVec 32 := Scalar.muli arg1 c1024_i32
  v4
def k0_off1 (i : grid0.Coords) : Fin 2 → Nat :=
  let c0_2 : Index := 0#32
  let arg1 : BitVec 32 := BitVec.ofNat 32 (i 1).val
  let c1024_i32 : BitVec 32 := 1024#32
  let v4 : BitVec 32 := Scalar.muli arg1 c1024_i32
  let v5 : BitVec 32 := v4
  let v6 : Index := Scalar.indexCast v5
  ![0, v6.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== RefZIdeal.lean ====
abbrev S4096x1024 : Shape := ⟨2, ![4096, 1024]⟩
abbrev S1x1024 : Shape := ⟨2, ![1, 1024]⟩
abbrev S1024x7168 : Shape := ⟨2, ![1024, 7168]⟩
abbrev S1x7168 : Shape := ⟨2, ![1, 7168]⟩
abbrev S_ : Shape := ⟨0, ![]⟩
abbrev S4096 : Shape := ⟨1, ![4096]⟩
abbrev S4096x1 : Shape := ⟨2, ![4096, 1]⟩
abbrev S4096x7168 : Shape := ⟨2, ![4096, 7168]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x7168, .bf16⟩
  | .hbm, ⟨3, _⟩ => ⟨S1x7168, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1024x7168, .f32⟩
  | .hbm, ⟨20, _⟩ => ⟨S4096x7168, .f32⟩
  | .hbm, ⟨21, _⟩ => ⟨S4096x7168, .f32⟩
  | .hbm, ⟨22, _⟩ => ⟨S4096x7168, .f32⟩
  | .hbm, ⟨23, _⟩ => ⟨S4096x7168, .bf16⟩
  | .hbm, ⟨24, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== BwdDu3.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v63 : BitVec 1 := Scalar.cmpi .eq arg0 c0_i32
  let v64 : BitVec 32 := Scalar.extui v63
  let c0_i32_26 : BitVec 32 := 0#32
  let v65 : BitVec 1 := Scalar.cmpi .ne v64 c0_i32_26
  v65

def k0_cond2 (i : grid0.Coords) : BitVec 1 :=
  let arg0 : BitVec 32 := BitVec.ofNat 32 (i 0).val
  let c0_i32 : BitVec 32 := 0#32
  let v63 : BitVec 1 := Scalar.cmpi .eq arg0 c0_i32
  let v_true : BitVec 1 := 1#1
  let v66 : BitVec 1 := Scalar.xori v63 v_true
  let v67 : BitVec 32 := Scalar.extui v66
  let c0_i32_27 : BitVec 32 := 0#32
  let v68 : BitVec 1 := Scalar.cmpi .ne v67 c0_i32_27
  v68

def k0_cond3 (i : grid0.Coords) : BitVec 1 :=
  let arg0 : BitVec 32 := BitVec.ofNat 32 (i 0).val
  let c0_i32_29 : BitVec 32 := 0#32
  let v71 : BitVec 1 := Scalar.cmpi .eq arg0 c0_i32_29
  let v72 : BitVec 32 := Scalar.extui v71
  let c0_i32_30 : BitVec 32 := 0#32
  let v73 : BitVec 1 := Scalar.cmpi .ne v72 c0_i32_30
  v73

def k0_cond4 (i : grid0.Coords) : BitVec 1 :=
  let arg0 : BitVec 32 := BitVec.ofNat 32 (i 0).val
  let c0_i32_29 : BitVec 32 := 0#32
  let v71 : BitVec 1 := Scalar.cmpi .eq arg0 c0_i32_29
  let true_31 : BitVec 1 := 1#1
  let v74 : BitVec 1 := Scalar.xori v71 true_31
  let v75 : BitVec 32 := Scalar.extui v74
  let c0_i32_32 : BitVec 32 := 0#32
  let v76 : BitVec 1 := Scalar.cmpi .ne v75 c0_i32_32
  v76

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== RefDu3Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S1024x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_cst_12 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩
abbrev main_cst_14 : Ref sig .tc := ⟨.hbm, 86, rfl⟩
abbrev main_v66 : Ref sig .tc := ⟨.hbm, 87, rfl⟩
abbrev main_v67 : Ref sig .tc := ⟨.hbm, 88, rfl⟩
abbrev main_cst_15 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== BwdDp.lean ====
abbrev S4096x1024 : Shape := ⟨2, ![4096, 1024]⟩
abbrev S1536x1024 : Shape := ⟨2, ![1536, 1024]⟩
abbrev S4096x1536 : Shape := ⟨2, ![4096, 1536]⟩
abbrev S4096x7168 : Shape := ⟨2, ![4096, 7168]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1536, .bf16⟩
  | .hbm, ⟨3, _⟩ => ⟨S4096x7168, .bf16⟩
  | .hbm, ⟨4, _⟩ => ⟨S4096x7168, .bf16⟩
  | .hbm, ⟨5, _⟩ => ⟨S4096x1536, .f32⟩
  | .hbm, ⟨6, _⟩ => ⟨S4096x7168, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg1
  let c0_i32 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== BwdDpIdeal.lean ====
variable {F : FTy → Type} [FloatOps F] [Named F]
def κ : String → Option EReal := fun
  | "gelu_cubic" => some ((8943 / 200000 : ℝ) : EReal)
  | "gelu_slope" => some ((26829 / 200000 : ℝ) : EReal)
  | _ => none
-- ==== RefDpIdeal.lean ====
abbrev S4096x1024 : Shape := ⟨2, ![4096, 1024]⟩
abbrev S1536x1024 : Shape := ⟨2, ![1536, 1024]⟩
abbrev S4096x1536 : Shape := ⟨2, ![4096, 1536]⟩
abbrev S4096x7168 : Shape := ⟨2, ![4096, 7168]⟩
abbrev S_ : Shape := ⟨0, ![]⟩
abbrev S4096x3584 : Shape := ⟨2, ![4096, 3584]⟩
abbrev S4096x2048 : Shape := ⟨2, ![4096, 2048]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1536, .bf16⟩
  | .hbm, ⟨3, _⟩ => ⟨S4096x7168, .bf16⟩
  | .hbm, ⟨4, _⟩ => ⟨S4096x7168, .bf16⟩
  | .hbm, ⟨5, _⟩ => ⟨S4096x1536, .f32⟩
  | .hbm, ⟨6, _⟩ => ⟨S4096x1536, .bf16⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S_, .f32⟩
  | .hbm, ⟨11, _⟩ => ⟨S4096x1536, .f32⟩
  | .hbm, ⟨12, _⟩ => ⟨S4096x1536, .f32⟩
  | .hbm, ⟨13, _⟩ => ⟨S_, .f32⟩
  | .hbm, ⟨14, _⟩ => ⟨S4096x1536, .f32⟩
  | .hbm, ⟨15, _⟩ => ⟨S4096x1536, .f32⟩
  | .hbm, ⟨16, _⟩ => ⟨S4096x1536, .f32⟩
  | .hbm, ⟨17, _⟩ => ⟨S_, .f32⟩
  | .hbm, ⟨18, _⟩ => ⟨S4096x1536, .f32⟩
  | .hbm, ⟨19, _⟩ => ⟨S4096x1536, .f32⟩
  | .hbm, ⟨20, _⟩ => ⟨S4096x1536, .f32⟩
  | .hbm, ⟨21, _⟩ => ⟨S_, .f32⟩
  | .hbm, ⟨22, _⟩ => ⟨S4096x1536, .f32⟩
  | .hbm, ⟨23, _⟩ => ⟨S4096x1536, .f32⟩
  | .hbm, ⟨24, _⟩ => ⟨S_, .f32⟩
  | .hbm, ⟨25, _⟩ => ⟨S4096x1536, .f32⟩
  | .hbm, ⟨26, _⟩ => ⟨S4096x1536, .f32⟩
  | .hbm, ⟨27, _⟩ => ⟨S4096x1536, .f32⟩
  | .hbm, ⟨28, _⟩ => ⟨S_, .f32⟩
  | .hbm, ⟨29, _⟩ => ⟨S4096x1536, .f32⟩
  | .hbm, ⟨30, _⟩ => ⟨S4096x1536, .f32⟩
  | .hbm, ⟨31, _⟩ => ⟨S_, .f32⟩
  | .hbm, ⟨32, _⟩ => ⟨S4096x1536, .f32⟩
  | .hbm, ⟨33, _⟩ => ⟨S4096x1536, .f32⟩
  | .hbm, ⟨34, _⟩ => ⟨S4096x1536, .f32⟩
  | .hbm, ⟨35, _⟩ => ⟨S4096x1536, .f32⟩
  | .hbm, ⟨36, _⟩ => ⟨S1536x1024, .f32⟩
  | .hbm, ⟨37, _⟩ => ⟨S4096x1024, .f32⟩
  | .hbm, ⟨38, _⟩ => ⟨S4096x1024, .f32⟩
  | .hbm, ⟨39, _⟩ => ⟨S4096x1536, .f32⟩
  | .hbm, ⟨40, _⟩ => ⟨S4096x1536, .f32⟩
  | .hbm, ⟨41, _⟩ => ⟨S4096x1536, .f32⟩
  | .hbm, ⟨42, _⟩ => ⟨S4096x1536, .f32⟩
  | .hbm, ⟨43, _⟩ => ⟨S4096x1536, .f32⟩
  | .hbm, ⟨44, _⟩ => ⟨S_, .f32⟩
  | .hbm, ⟨45, _⟩ => ⟨S4096x1536, .f32⟩
  | .hbm, ⟨46, _⟩ => ⟨S4096x1536, .f32⟩
  | .hbm, ⟨47, _⟩ => ⟨S4096x1536, .f32⟩
  | .hbm, ⟨48, _⟩ => ⟨S_, .f32⟩
  | .hbm, ⟨49, _⟩ => ⟨S4096x1536, .f32⟩
  | .hbm, ⟨50, _⟩ => ⟨S4096x1536, .f32⟩
  | .hbm, ⟨51, _⟩ => ⟨S4096x1536, .f32⟩
  | .hbm, ⟨52, _⟩ => ⟨S_, .f32⟩
  | .hbm, ⟨53, _⟩ => ⟨S4096x1536, .f32⟩
  | .hbm, ⟨54, _⟩ => ⟨S4096x1536, .f32⟩
  | .hbm, ⟨55, _⟩ => ⟨S_, .f32⟩
  | .hbm, ⟨56, _⟩ => ⟨S4096x1536, .f32⟩
  | .hbm, ⟨57, _⟩ => ⟨S4096x1536, .f32⟩
  | .hbm, ⟨58, _⟩ => ⟨S4096x1536, .f32⟩
  | .hbm, ⟨59, _⟩ => ⟨S4096x1536, .f32⟩
  | .hbm, ⟨60, _⟩ => ⟨S4096x1536, .f32⟩
  | .hbm, ⟨61, _⟩ => ⟨S4096x1536, .f32⟩
  | .hbm, ⟨62, _⟩ => ⟨S4096x1536, .f32⟩
  | .hbm, ⟨63, _⟩ => ⟨S4096x1536, .f32⟩
  | .hbm, ⟨64, _⟩ => ⟨S4096x1536, .f32⟩
  | .hbm, ⟨65, _⟩ => ⟨S4096x3584, .bf16⟩
  | .hbm, ⟨66, _⟩ => ⟨S4096x1536, .bf16⟩
  | .hbm, ⟨67, _⟩ => ⟨S4096x2048, .bf16⟩
  | .hbm, ⟨68, _⟩ => ⟨S4096x7168, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Proof.DfRef.lean ====
/- The result of the squared-ReLU gradient's reference as one term over its arguments. -/
module

public import proofs.«01_k».proof.Proof.Gen.RefDfIdeal.Run

@[expose] public section

set_option maxRecDepth 16384

noncomputable section

namespace Cert.RefDfIdeal.Term

open Cert.RefDfIdeal Cert.RefDfIdeal.Gen Idealize.ShloMosaic

variable {F : FTy → Type} [FloatOps F]

/-- Result 0 of the reference over its arguments. -/
abbrev term0 (a0 : FVec F S4096x1024 .bf16) (a1 : FVec F S4096x1024 .bf16) (a2 : FVec F S4096x4096 .bf16) : FVec F S4096x4096 .bf16 :=
  truncf .bf16 (select (cmpf .ogt (extf .f32 a2 bitsLt_bf16_f32) (broadcastInDim S4096x4096 ![] bcast_S_S4096x4096 (constant S_ .f32 0x00000000#32))) (mulf (Host.dotGeneral dot_S4096x1024_S4096x1024_S4096x4096_1_1_0_0_n_n none (extf .f32 a0 bitsLt_bf16_f32) (extf .f32 a1 bitsLt_bf16_f32)) (mulf (broadcastInDim S4096x4096 ![] bcast_S_S4096x4096 (constant S_ .f32 0x40000000#32)) (maximumf (extf .f32 a2 bitsLt_bf16_f32) (broadcastInDim S4096x4096 ![] bcast_S_S4096x4096 (constant S_ .f32 0x00000000#32))))) (broadcastInDim S4096x4096 ![] bcast_S_S4096x4096 (constant S_ .f32 0x00000000#32))) bitsLt_bf16_f32

end Cert.RefDfIdeal.Term

end
-- ==== Proof.DfValue.lean ====
/- The array the squared-ReLU gradient call leaves is the reference's term: point by point, the block of `dxb · w2ᵀ` times
   `2 · max(fp, 0)` against the derivative of the square of the positive part, which selects on `fp > 0`. -/
module

public import proofs.«01_k».proof.Proof.Gen.BwdDfIdeal.Value
public import proofs.«01_k».proof.Proof.DfRef
public import Idealize.ShloMosaic.Lib.Pipeline.ValueKit

@[expose] public section

set_option maxRecDepth 16384

noncomputable section

namespace Cert.BwdDfIdeal.Value

open Cert.BwdDfIdeal Cert.BwdDfIdeal.Gen
open Idealize.ShloMosaic Idealize.ShloMosaic.TcCoe Idealize.SL.Sem
open Idealize.ShloMosaic.Pipeline (Dat)

variable (m : (ℓ : Loc nD τ sig) → Buf (Elt Ideal) ℓ)

/-- Every window's block index at a point. -/
theorem idx_val : ∀ t : Fin cfg0.N, win0_0.index t = ![t.val / 4, 0]
    ∧ win0_1.index t = ![0, 0]
    ∧ win0_2.index t = ![t.val / 4, t.val % 4]
    ∧ win0_3.index t = ![t.val / 4, t.val % 4] :=
  (by decide +kernel : ∀ t : Fin grid0.N, _)

/-- The offset of the weight's rows at a point. -/
theorem off_val : ∀ t : Fin cfg0.N, k0_off1 (grid0.coords t) = ![(t.val % 4) * 1024, 0] :=
  (by decide +kernel : ∀ t : Fin grid0.N, _)

theorem final (c : Dev nD) : (dats m 0 c).arrAt 3 (cfgs 0).N
    = Cert.RefDfIdeal.Term.term0 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  unfold outsAt0
  frame_out
  pointwise [k0_pay1, Cert.RefDfIdeal.Term.term0]
  split
  case isTrue _ => blk_point [iblk, V, idx_val t, off_val t]
  case isFalse hneg =>
    have hx : iblk m c 2 t y
        = m ((c : Thread nD τ).loc main_arg2) (((View.whole main_v0).slice (win0_3.rect t)).emb y) := by
      blk_ext [iblk, V, idx_val t]
    have h0 : ∀ z : EReal, z = m ((c : Thread nD τ).loc main_arg2) (((View.whole main_v0).slice (win0_3.rect t)).emb y) →
        max z 0 = 0 := fun z hz => by rw [hz]; exact max_eq_right (not_lt.mp hneg)
    rw [h0 _ hx, mul_zero, mul_zero]

end Cert.BwdDfIdeal.Value

end
-- ==== Proof.Dw2Ref.lean ====
/- The reference's result, as a term over its arguments. -/
module

public import proofs.«01_k».proof.Proof.Gen.RefDw2Ideal.Run

@[expose] public section

set_option maxRecDepth 16384

noncomputable section

namespace Cert.RefDw2Ideal.Term

open Cert.RefDw2Ideal Cert.RefDw2Ideal.Gen Idealize.ShloMosaic

variable {F : FTy → Type} [FloatOps F]

/-- Result 0 of the reference over its arguments. -/
abbrev term0 (a0 : FVec F S4096x4096 .bf16) (a1 : FVec F S4096x1024 .bf16) : FVec F S4096x1024 .bf16 :=
  truncf .bf16 (transpose S4096x1024 [1, 0] (Host.dotGeneral dot_S4096x1024_S4096x4096_S1024x4096_0_0_1_1_n_n none (extf .f32 a1 bitsLt_bf16_f32) (mulf (maximumf (extf .f32 a0 bitsLt_bf16_f32) (broadcastInDim S4096x4096 ![] bcast_S_S4096x4096 (constant S_ .f32 0x00000000#32))) (maximumf (extf .f32 a0 bitsLt_bf16_f32) (broadcastInDim S4096x4096 ![] bcast_S_S4096x4096 (constant S_ .f32 0x00000000#32))))) transposes_S1024x4096_S4096x1024_1_0) bitsLt_bf16_f32

end Cert.RefDw2Ideal.Term

end
-- ==== Proof.Dw2Value.lean ====
/- The array this call leaves is the reference's term, point by point: every block of the product is the sum over all rows at once, as the reference's is. -/
module

public import proofs.«01_k».proof.Proof.Gen.BwdDw2Ideal.Value
public import proofs.«01_k».proof.Proof.Dw2Ref
public import Idealize.ShloMosaic.Lib.Pipeline.ValueKit

@[expose] public section

set_option maxRecDepth 16384

noncomputable section

namespace Cert.BwdDw2Ideal.Value

open Cert.BwdDw2Ideal Cert.BwdDw2Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- Every window's block index at a point. -/
theorem idx_val : ∀ t : Fin cfg0.N, win0_0.index t = ![0, t.val] ∧ win0_1.index t = ![0, 0] ∧ win0_2.index t = ![t.val, 0] :=
  (by decide +kernel : ∀ t : Fin grid0.N, _)

theorem final (c : Dev nD) : (dats m 0 c).arrAt 2 (cfgs 0).N
    = Cert.RefDw2Ideal.Term.term0 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, Cert.RefDw2Ideal.Term.term0]
  blk_point [iblk, V, idx_val t]

end Cert.BwdDw2Ideal.Value

end
-- ==== Proof.Dw1Ref.lean ====
/- The reference's result, as a term over its arguments. -/
module

public import proofs.«01_k».proof.Proof.Gen.RefDw1Ideal.Run

@[expose] public section

set_option maxRecDepth 16384

noncomputable section

namespace Cert.RefDw1Ideal.Term

open Cert.RefDw1Ideal Cert.RefDw1Ideal.Gen Idealize.ShloMosaic

variable {F : FTy → Type} [FloatOps F]

/-- Result 0 of the reference over its arguments. -/
abbrev term0 (a0 : FVec F S4096x1024 .bf16) (a1 : FVec F S4096x4096 .bf16) : FVec F S4x2x512x1024 .bf16 :=
  transpose S4x2x512x1024 [2, 0, 1, 3] (shapeCast _ (truncf .bf16 (transpose S1024x4096 [1, 0] (Host.dotGeneral dot_S4096x4096_S4096x1024_S4096x1024_0_0_1_1_n_n none (extf .f32 a1 bitsLt_bf16_f32) (extf .f32 a0 bitsLt_bf16_f32)) transposes_S4096x1024_S1024x4096_1_0) bitsLt_bf16_f32) shapeCasts_S1024x4096_S2x512x4x1024) transposes_S2x512x4x1024_S4x2x512x1024_2_0_1_3

end Cert.RefDw1Ideal.Term

end
-- ==== Proof.Dw1Value.lean ====
/- The array this call leaves is the reference's term, point by point: every block of the product is the sum over all rows at once, as the reference's is. -/
module

public import proofs.«01_k».proof.Proof.Gen.BwdDw1Ideal.Value
public import proofs.«01_k».proof.Proof.Dw1Ref
public import Idealize.ShloMosaic.Lib.Pipeline.ValueKit

@[expose] public section

set_option maxRecDepth 16384

noncomputable section

namespace Cert.BwdDw1Ideal.Value

open Cert.BwdDw1Ideal Cert.BwdDw1Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- Every window's block index at a point. -/
theorem idx_val : ∀ t : Fin cfg0.N, win0_0.index t = ![0, 0] ∧ win0_1.index t = ![0, t.val] ∧ win0_2.index t = ![t.val / 1, 0, 0, t.val % 1] :=
  (by decide +kernel : ∀ t : Fin grid0.N, _)

theorem final (c : Dev nD) : (dats m 0 c).arrAt 2 (cfgs 0).N
    = Cert.RefDw1Ideal.Term.term0 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, Cert.RefDw1Ideal.Term.term0]
  refine Fin.sum_fin_congr fun x => ?_
  refine (mul_comm (_ : EReal) _).trans ?_
  blk_point [iblk, V, idx_val t]

end Cert.BwdDw1Ideal.Value

end
-- ==== Proof.DwinRef.lean ====
/- The reference's result, as a term over its arguments. -/
module

public import proofs.«01_k».proof.Proof.Gen.RefDwinIdeal.Run

@[expose] public section

set_option maxRecDepth 16384

noncomputable section

namespace Cert.RefDwinIdeal.Term

open Cert.RefDwinIdeal Cert.RefDwinIdeal.Gen Idealize.ShloMosaic

variable {F : FTy → Type} [FloatOps F]

/-- Result 0 of the reference over its arguments. -/
abbrev term0 (a0 : FVec F S4096x1024 .bf16) (a1 : FVec F S4096x7168 .bf16) : FVec F S4x2x512x1792 .bf16 :=
  transpose S4x2x512x1792 [2, 0, 1, 3] (shapeCast _ (truncf .bf16 (transpose S1024x7168 [1, 0] (Host.dotGeneral dot_S4096x7168_S4096x1024_S7168x1024_0_0_1_1_n_n none (extf .f32 a1 bitsLt_bf16_f32) (extf .f32 a0 bitsLt_bf16_f32)) transposes_S7168x1024_S1024x7168_1_0) bitsLt_bf16_f32) shapeCasts_S1024x7168_S2x512x4x1792) transposes_S2x512x4x1792_S4x2x512x1792_2_0_1_3

end Cert.RefDwinIdeal.Term

end
-- ==== Proof.DwinValue.lean ====
/- The array this call leaves is the reference's term, point by point: every block of the product is the sum over all rows at once, as the reference's is. -/
module

public import proofs.«01_k».proof.Proof.Gen.BwdDwinIdeal.Value
public import proofs.«01_k».proof.Proof.DwinRef
public import Idealize.ShloMosaic.Lib.Pipeline.ValueKit

@[expose] public section

set_option maxRecDepth 16384

noncomputable section

namespace Cert.BwdDwinIdeal.Value

open Cert.BwdDwinIdeal Cert.BwdDwinIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- Every window's block index at a point. -/
theorem idx_val : ∀ t : Fin cfg0.N, win0_0.index t = ![0, 0] ∧ win0_1.index t = ![0, t.val] ∧ win0_2.index t = ![t.val / 2, 0, 0, t.val % 2] :=
  (by decide +kernel : ∀ t : Fin grid0.N, _)

theorem final (c : Dev nD) : (dats m 0 c).arrAt 2 (cfgs 0).N
    = Cert.RefDwinIdeal.Term.term0 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, Cert.RefDwinIdeal.Term.term0]
  refine Fin.sum_fin_congr fun x => ?_
  refine (mul_comm (_ : EReal) _).trans ?_
  blk_point [iblk, V, idx_val t]

end Cert.BwdDwinIdeal.Value

end
-- ==== Proof.DwoRef.lean ====
/- The reference's result, as a term over its arguments. -/
module

public import proofs.«01_k».proof.Proof.Gen.RefDwoIdeal.Run

@[expose] public section

set_option maxRecDepth 16384

noncomputable section

namespace Cert.RefDwoIdeal.Term

open Cert.RefDwoIdeal Cert.RefDwoIdeal.Gen Idealize.ShloMosaic

variable {F : FTy → Type} [FloatOps F]

/-- Result 0 of the reference over its arguments. -/
abbrev term0 (a0 : FVec F S4096x1024 .bf16) (a1 : FVec F S4096x1024 .bf16) : FVec F S1024x1024 .bf16 :=
  truncf .bf16 (transpose S1024x1024 [1, 0] (Host.dotGeneral dot_S4096x1024_S4096x1024_S1024x1024_0_0_1_1_n_n none (extf .f32 a1 bitsLt_bf16_f32) (extf .f32 a0 bitsLt_bf16_f32)) transposes_S1024x1024_S1024x1024_1_0) bitsLt_bf16_f32

end Cert.RefDwoIdeal.Term

end
-- ==== Proof.DwoValue.lean ====
/- The array this call leaves is the reference's term: the four partial sums over the rows, added point after point, are the reference's one sum. -/
module

public import proofs.«01_k».proof.Proof.Gen.BwdDwoIdeal.Value
public import proofs.«01_k».proof.Proof.DwoRef
public import Idealize.ShloMosaic.Lib.Pipeline.ValueKit
public import Idealize.ShloMosaic.Lib.Pipeline.ReadBack

@[expose] public section

set_option maxRecDepth 16384

noncomputable section

namespace Cert.BwdDwoIdeal.Value

open Cert.BwdDwoIdeal Cert.BwdDwoIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- Every window's block index at a point. -/
theorem idx_val : ∀ t : Fin cfg0.N, win0_0.index t = ![t.val, 0] ∧ win0_1.index t = ![t.val, 0] ∧ win0_2.index t = ![0, 0] :=
  (by decide +kernel : ∀ t : Fin grid0.N, _)

theorem pay3_at (x0 x1 acc : Vec Ideal S1024x1024 _) (j) :
    k0_pay3 (F := Ideal) x0 x1 acc j = acc j + ∑ k : Fin 1024, x0 (ix2 k (j 0)) * x1 (ix2 k (j 1)) := by
  pointwise [k0_pay3, k0_pay1]

theorem pay2_at (x0 x1 : Vec Ideal S1024x1024 _) (j) :
    k0_pay2 (F := Ideal) x0 x1 j = ∑ k : Fin 1024, x0 (ix2 k (j 0)) * x1 (ix2 k (j 1)) := by
  pointwise [k0_pay2, k0_pay1]

theorem pay4_eq (x : Vec Ideal S1024x1024 .f32) (j) : k0_pay4 (F := Ideal) x j = x j := by pointwise [k0_pay4]

theorem final (c : Dev nD) : (dats m 0 c).arrAt 2 (cfgs 0).N
    = Cert.RefDwoIdeal.Term.term0 (F := Ideal) (m ((c : Thread nD τ).loc main_arg0)) (m ((c : Thread nD τ).loc main_arg1)) := by
  refine (dats m 0 c).arrAt_eq_of_after_last 2 t0_3 (by decide +kernel) _ fun j => ?_
  blk_simp
  rw [after0_2]
  have hlast : (outsAt0 m c t0_3.val t0_3.isLt).1 j = (outsAt0 m c t0_3.val t0_3.isLt).2 j := by
    rw [outsAt0_C m c t0_3 (by decide) (by decide) (by decide)]; frame_out; rw [pay4_eq]
  rw [hlast]
  rw [Pipeline.eq_sum_fin_of_reset_step_apply_last (fun n h => (outsAt0 m c n h).2) 4 (fun _ => 0) _
    (fun t h j => by
      have h1 : ¬ 1 ≤ t.val := by have := lt_of_lt_of_eq t.isLt N_0; omega
      rw [outsAt0_A m c t h h1 (by omega)]; frame_out; rw [pay2_at, zero_add])
    (fun t h j => by
      by_cases h2 : t.val % 4 = 3
      · rw [outsAt0_C m c t h (by omega) h2]; frame_out; rw [pay3_at, read_unread_whole]
      · rw [outsAt0_B m c t h (by omega) h2]; frame_out; rw [pay3_at, read_unread_whole])
    (le_of_eq N_0) t0_3 rfl j, zero_add]
  pointwise [Cert.RefDwoIdeal.Term.term0]
  refine Fin.sum_mul_add_congr fun p k hl => ?_
  refine (mul_comm (_ : EReal) _).trans ?_
  blk_point [iblk, V, idx_val p]

end Cert.BwdDwoIdeal.Value

end
-- ==== Proof.Dh2Ref.lean ====
/- The results of the MLP norm gradient's reference as terms over its arguments. -/
module

public import proofs.«01_k».proof.Proof.Gen.RefDh2Ideal.Run

@[expose] public section

set_option maxRecDepth 16384

noncomputable section

namespace Cert.RefDh2Ideal.Term

open Cert.RefDh2Ideal Cert.RefDh2Ideal.Gen Idealize.ShloMosaic Idealize.SL.Sem

variable {F : FTy → Type} [FloatOps F]

/-- Result 0 of the reference over its arguments. -/
abbrev term0 (a0 : FVec F S4096x4096 .bf16) (a1 : FVec F S1024x4096 .bf16) (a2 : FVec F S4096x1024 .f32) (a3 : FVec F S1x1024 .f32) (a4 : FVec F S4096x1024 .f32) : FVec F S4096x1024 .f32 :=
  addf (addf (addf (mulf (mulf (Host.dotGeneral dot_S4096x4096_S1024x4096_S4096x1024_1_1_0_0_n_n none (extf .f32 a0 bitsLt_bf16_f32) (extf .f32 a1 bitsLt_bf16_f32)) (broadcastInDim S4096x1024 ![0, 1] bcast_S1x1024_S4096x1024_0_1 a3)) (broadcastInDim S4096x1024 ![0, 1] bcast_S4096x1_S4096x1024_0_1 (Host.rsqrt (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf a2 (broadcastInDim S4096x1024 ![0] bcast_S4096_S4096x1024_0 (Host.reduceAdd (Host.divf (mulf (shapeCast _ (Host.reduceAdd (mulf a2 (mulf (Host.dotGeneral dot_S4096x4096_S1024x4096_S4096x1024_1_1_0_0_n_n none (extf .f32 a0 bitsLt_bf16_f32) (extf .f32 a1 bitsLt_bf16_f32)) (broadcastInDim S4096x1024 ![0, 1] bcast_S1x1024_S4096x1024_0_1 a3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf a2 (mulf (Host.dotGeneral dot_S4096x4096_S1024x4096_S4096x1024_1_1_0_0_n_n none (extf .f32 a0 bitsLt_bf16_f32) (extf .f32 a1 bitsLt_bf16_f32)) (broadcastInDim S4096x1024 ![0, 1] bcast_S1x1024_S4096x1024_0_1 a3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) a2)) a4

/-- Result 1 of the reference over its arguments. -/
abbrev term1 (a0 : FVec F S4096x4096 .bf16) (a1 : FVec F S1024x4096 .bf16) (a2 : FVec F S4096x1024 .f32) (a3 : FVec F S1x1024 .f32) (a4 : FVec F S4096x1024 .f32) : FVec F S4096x1024 .bf16 :=
  truncf .bf16 (addf (addf (addf (mulf (mulf (Host.dotGeneral dot_S4096x4096_S1024x4096_S4096x1024_1_1_0_0_n_n none (extf .f32 a0 bitsLt_bf16_f32) (extf .f32 a1 bitsLt_bf16_f32)) (broadcastInDim S4096x1024 ![0, 1] bcast_S1x1024_S4096x1024_0_1 a3)) (broadcastInDim S4096x1024 ![0, 1] bcast_S4096x1_S4096x1024_0_1 (Host.rsqrt (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf a2 (broadcastInDim S4096x1024 ![0] bcast_S4096_S4096x1024_0 (Host.reduceAdd (Host.divf (mulf (shapeCast _ (Host.reduceAdd (mulf a2 (mulf (Host.dotGeneral dot_S4096x4096_S1024x4096_S4096x1024_1_1_0_0_n_n none (extf .f32 a0 bitsLt_bf16_f32) (extf .f32 a1 bitsLt_bf16_f32)) (broadcastInDim S4096x1024 ![0, 1] bcast_S1x1024_S4096x1024_0_1 a3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf a2 (mulf (Host.dotGeneral dot_S4096x4096_S1024x4096_S4096x1024_1_1_0_0_n_n none (extf .f32 a0 bitsLt_bf16_f32) (extf .f32 a1 bitsLt_bf16_f32)) (broadcastInDim S4096x1024 ![0, 1] bcast_S1x1024_S4096x1024_0_1 a3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) a2)) a4) bitsLt_bf16_f32

/-- Result 2 of the reference over its arguments. -/
abbrev term2 (a0 : FVec F S4096x4096 .bf16) (a1 : FVec F S1024x4096 .bf16) (a2 : FVec F S4096x1024 .f32) (a3 : FVec F S1x1024 .f32) (a4 : FVec F S4096x1024 .f32) : FVec F S1x1024 .f32 :=
  shapeCast _ (Host.reduceAdd (mulf (mulf a2 (broadcastInDim S4096x1024 ![0, 1] bcast_S4096x1_S4096x1024_0_1 (Host.rsqrt (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (Host.dotGeneral dot_S4096x4096_S1024x4096_S4096x1024_1_1_0_0_n_n none (extf .f32 a0 bitsLt_bf16_f32) (extf .f32 a1 bitsLt_bf16_f32))) (constant S_ .f32 0x00000000#32) reducesTo_S4096x1024_S1024_d0 h_S_) shapeCasts_S1024_S1x1024

/-- The reference's run, each result at its term. -/
theorem run_terms (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = term0 (m ((c.tc : Thread Cert.RefDh2Ideal.nD Cert.RefDh2Ideal.τ).loc main_arg0)) (m ((c.tc : Thread Cert.RefDh2Ideal.nD Cert.RefDh2Ideal.τ).loc main_arg1)) (m ((c.tc : Thread Cert.RefDh2Ideal.nD Cert.RefDh2Ideal.τ).loc main_arg2)) (m ((c.tc : Thread Cert.RefDh2Ideal.nD Cert.RefDh2Ideal.τ).loc main_arg3)) (m ((c.tc : Thread Cert.RefDh2Ideal.nD Cert.RefDh2Ideal.τ).loc main_arg4))
      ∧ r.2.mem ((c.tc : Thread nD τ).loc main_v39) = term1 (m ((c.tc : Thread Cert.RefDh2Ideal.nD Cert.RefDh2Ideal.τ).loc main_arg0)) (m ((c.tc : Thread Cert.RefDh2Ideal.nD Cert.RefDh2Ideal.τ).loc main_arg1)) (m ((c.tc : Thread Cert.RefDh2Ideal.nD Cert.RefDh2Ideal.τ).loc main_arg2)) (m ((c.tc : Thread Cert.RefDh2Ideal.nD Cert.RefDh2Ideal.τ).loc main_arg3)) (m ((c.tc : Thread Cert.RefDh2Ideal.nD Cert.RefDh2Ideal.τ).loc main_arg4))
      ∧ r.2.mem ((c.tc : Thread nD τ).loc main_v21) = term2 (m ((c.tc : Thread Cert.RefDh2Ideal.nD Cert.RefDh2Ideal.τ).loc main_arg0)) (m ((c.tc : Thread Cert.RefDh2Ideal.nD Cert.RefDh2Ideal.τ).loc main_arg1)) (m ((c.tc : Thread Cert.RefDh2Ideal.nD Cert.RefDh2Ideal.τ).loc main_arg2)) (m ((c.tc : Thread Cert.RefDh2Ideal.nD Cert.RefDh2Ideal.τ).loc main_arg3)) (m ((c.tc : Thread Cert.RefDh2Ideal.nD Cert.RefDh2Ideal.τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by unfold Cert.RefDh2Ideal.Value.res_main_v38; rfl),
      (h c).2.1.trans (by unfold Cert.RefDh2Ideal.Value.res_main_v39; rfl),
      (h c).2.2.1.trans (by rfl),
      (h c).2.2.2⟩)
    (Cert.RefDh2Ideal.Value.run m ρ)

end Cert.RefDh2Ideal.Term

end
-- ==== Proof.NormBwd.lean ====
/- The two ways of writing the gradient of the norm by the root mean square agree on every extended real: the reference
   differentiates `x · rsqrt (mean x² + eps)` term by term, the kernel factors the reciprocal root out. -/
module

public import Idealize.ShloMosaic.PureOps.Ideal

@[expose] public section

noncomputable section

namespace Cert.NormBwd

open Idealize.ShloMosaic
open scoped BigOperators

/-- The pattern of the number of columns. -/
theorem cols_eq : Ideal.ofBits .f32 1149239296#32 = ((1024 : ℝ) : EReal) := by
  simp [Ideal.ofBits, Ideal.ieee]; norm_num
  refine (EReal.coe_mul _ _).symm.trans (congrArg _ ?_); norm_num

/-- The pattern of the small number under the root is a positive real. -/
theorem eps_pos : ∃ e : ℝ, 0 < e ∧ Ideal.ofBits .f32 897988541#32 = (e : EReal) := by
  refine ⟨_, ?_, by simp [Ideal.ofBits, Ideal.ieee]; rfl⟩
  positivity

/-- The pattern of minus a half. -/
theorem half_eq : Ideal.ofBits .f32 3204448256#32 = ((-(1/2) : ℝ) : EReal) := by
  simp [Ideal.ofBits, Ideal.ieee]; norm_num
  refine (EReal.coe_mul _ _).symm.trans (congrArg _ ?_); norm_num

/-- Dividing by a positive real is multiplying by its inverse. -/
theorem div_coe (y : EReal) (k : ℝ) (hk : k ≠ 0) : Ideal.div y (k : EReal) = y * ((k⁻¹ : ℝ) : EReal) := by
  unfold Ideal.div
  rw [if_neg (by exact_mod_cast hk), ← EReal.coe_inv]

/-- A square is not negative. -/
theorem sq_nonneg' (x : EReal) : 0 ≤ x * x := by
  induction x with
  | bot => simp
  | top => simp
  | coe r => exact_mod_cast mul_self_nonneg r

/-- Twice a multiple by a negative real. -/
theorem twice (T : EReal) (q : ℝ) (hq : q < 0) : T * (q : EReal) + T * (q : EReal) = T * ((q + q : ℝ) : EReal) := by
  have h2 : q + q < 0 := by linarith
  induction T with
  | bot => rw [EReal.bot_mul_coe_of_neg hq, EReal.bot_mul_coe_of_neg h2]; rfl
  | top => rw [EReal.top_mul_coe_of_neg hq, EReal.top_mul_coe_of_neg h2]; rfl
  | coe r => rw [← EReal.coe_mul, ← EReal.coe_mul, ← EReal.coe_add]; congr 1; ring

/-- The gradient through the norm, the kernel's form on the left. -/
theorem dx_eq (x A S P : EReal) (hP : 0 ≤ P) :
    Ideal.rsqrt (Ideal.div P (Ideal.ofBits .f32 1149239296#32) + Ideal.ofBits .f32 897988541#32) *
      (A - x * (Ideal.rsqrt (Ideal.div P (Ideal.ofBits .f32 1149239296#32) + Ideal.ofBits .f32 897988541#32)
          * Ideal.rsqrt (Ideal.div P (Ideal.ofBits .f32 1149239296#32) + Ideal.ofBits .f32 897988541#32))
          * Ideal.div S (Ideal.ofBits .f32 1149239296#32))
    = A * Ideal.rsqrt (Ideal.div P (Ideal.ofBits .f32 1149239296#32) + Ideal.ofBits .f32 897988541#32)
      + x * Ideal.div (S * (Ideal.ofBits .f32 3204448256#32 *
          Ideal.div (Ideal.rsqrt (Ideal.div P (Ideal.ofBits .f32 1149239296#32) + Ideal.ofBits .f32 897988541#32))
            (Ideal.div P (Ideal.ofBits .f32 1149239296#32) + Ideal.ofBits .f32 897988541#32))) (Ideal.ofBits .f32 1149239296#32)
      + Ideal.div (S * (Ideal.ofBits .f32 3204448256#32 *
          Ideal.div (Ideal.rsqrt (Ideal.div P (Ideal.ofBits .f32 1149239296#32) + Ideal.ofBits .f32 897988541#32))
            (Ideal.div P (Ideal.ofBits .f32 1149239296#32) + Ideal.ofBits .f32 897988541#32))) (Ideal.ofBits .f32 1149239296#32) * x := by
  obtain ⟨e, he, hE⟩ := eps_pos
  rw [hE, cols_eq, half_eq, div_coe _ _ (by norm_num), div_coe _ _ (by norm_num), div_coe _ _ (by norm_num)]
  have hv : P * (((1024 : ℝ)⁻¹ : ℝ) : EReal) + (e : EReal) = ⊤ ∨ ∃ v : ℝ, 0 < v ∧ P * (((1024 : ℝ)⁻¹ : ℝ) : EReal) + (e : EReal) = v := by
    induction P with
    | bot => simp at hP
    | top => left; rw [EReal.top_mul_coe_of_pos (by norm_num)]; rfl
    | coe r =>
      right
      have hr : (0 : ℝ) ≤ r := by exact_mod_cast hP
      exact ⟨r * (1024 : ℝ)⁻¹ + e, by positivity, by push_cast; rfl⟩
  rcases hv with hv | ⟨v, hv0, hv⟩
  · rw [hv]
    have h0 : Ideal.div 0 ⊤ = 0 := by unfold Ideal.div; simp
    simp [h0]
  · rw [hv, div_coe _ v hv0.ne', Ideal.rsqrt_coe, if_neg (not_lt.mpr hv0.le), if_neg hv0.ne']
    obtain ⟨r, hr⟩ : ∃ r : ℝ, r = (Real.sqrt v)⁻¹ := ⟨_, rfl⟩
    have hr0 : 0 < r := by rw [hr]; exact inv_pos.mpr (Real.sqrt_pos.mpr hv0)
    have hrv : v⁻¹ = r * r := by
      rw [hr, ← mul_inv, Real.mul_self_sqrt hv0.le]
    rw [← hr, hrv]
    have hq : (-(1/2) : ℝ) * (r * (r * r)) * (1024 : ℝ)⁻¹ < 0 := by
      have : 0 < r * (r * r) * (1024 : ℝ)⁻¹ := by positivity
      nlinarith
    have hQ : S * (((-(1/2) : ℝ) : EReal) * ((r : EReal) * ((r * r : ℝ) : EReal))) * (((1024 : ℝ)⁻¹ : ℝ) : EReal)
        = S * (((-(1/2) : ℝ) * (r * (r * r)) * (1024 : ℝ)⁻¹ : ℝ) : EReal) := by
      rw [mul_assoc]; push_cast; simp only [mul_assoc]
    have hT : x * (S * (((-(1/2) : ℝ) * (r * (r * r)) * (1024 : ℝ)⁻¹ : ℝ) : EReal))
        = (x * S) * (((-(1/2) : ℝ) * (r * (r * r)) * (1024 : ℝ)⁻¹ : ℝ) : EReal) := (mul_assoc _ _ _).symm
    rw [hQ, mul_comm (S * _) x, hT, add_assoc, twice _ _ hq, sub_eq_add_neg,
      EReal.left_distrib_of_nonneg_of_ne_top (by exact_mod_cast hr0.le) (EReal.coe_ne_top r), mul_comm (r : EReal) A]
    congr 1
    have hX : x * ((r : EReal) * (r : EReal)) * (S * (((1024 : ℝ)⁻¹ : ℝ) : EReal))
        = (x * S) * ((r * r * (1024 : ℝ)⁻¹ : ℝ) : EReal) := by
      push_cast
      rw [mul_assoc x, mul_left_comm ((r : EReal) * r) S, ← mul_assoc x S]
    rw [hX, ← mul_neg, mul_left_comm, ← EReal.coe_neg, ← EReal.coe_mul]
    congr 2
    ring

end Cert.NormBwd

end
-- ==== Proof.Dh2Value.lean ====
/- The arrays the MLP norm gradient call leaves are the reference's terms: the gradient of the norm's input, the same rounded to the short
   format, and the gradient of the norm's scale, summed over the eight points of the grid. -/
module

public import proofs.«01_k».proof.Proof.Gen.BwdDh2Ideal.Value
public import proofs.«01_k».proof.Proof.Dh2Ref
public import Idealize.ShloMosaic.Lib.Pipeline.ValueKit
public import Idealize.ShloMosaic.Lib.Pipeline.ReadBack
public import proofs.«01_k».proof.Proof.NormBwd

@[expose] public section

set_option maxRecDepth 16384

noncomputable section

namespace Cert.BwdDh2Ideal.Value

open Cert.BwdDh2Ideal Cert.BwdDh2Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- Every window's block index at a point. -/
theorem idx_val : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0]
    ∧ win0_6.index t = ![t.val, 0] ∧ win0_7.index t = ![0, 0] :=
  (by decide +kernel : ∀ t : Fin grid0.N, _)

/-- Every point before the end of the grid. -/
theorem lt8 (t : Fin cfg0.N) : t.val < 8 := by
  have h := t.isLt
  exact lt_of_lt_of_eq h N_0

/-- What a point leaves in the gradient's block, in either case. -/
theorem outs5 (c : Dev nD) (t : Fin cfg0.N) : (outsAt0 m c t.val t.isLt).1
    = k0_pay6 (iblk m c 0 t) (iblk m c 1 t) (iblk m c 2 t) (iblk m c 3 t) (iblk m c 4 t) := by
  have hl := lt8 t
  by_cases h0 : t.val % 8 = 0
  · rw [outsAt0_A m c t h0 (by omega)]; frame_out
  · rw [outsAt0_B m c t h0 (by omega)]; frame_out

/-- What a point leaves in the rounded gradient's block, in either case. -/
theorem outs6 (c : Dev nD) (t : Fin cfg0.N) : (outsAt0 m c t.val t.isLt).2.1
    = k0_pay7 (iblk m c 0 t) (iblk m c 1 t) (iblk m c 2 t) (iblk m c 3 t) (iblk m c 4 t) := by
  have hl := lt8 t
  by_cases h0 : t.val % 8 = 0
  · rw [outsAt0_A m c t h0 (by omega)]; frame_out
  · rw [outsAt0_B m c t h0 (by omega)]; frame_out

/-- The kernel's block of the gradient at a point is the reference's array through the window. -/
theorem pay6_eq (c : Dev nD) (t : Fin cfg0.N) (y : S512x1024.Idx) (z : S4096x1024.Idx) (h0 : (z 0).val = t.val * 512 + (y 0).val)
    (h1 : (z 1).val = (y 1).val) :
    k0_pay6 (iblk m c 0 t) (iblk m c 1 t) (iblk m c 2 t) (iblk m c 3 t) (iblk m c 4 t) y
    = Cert.RefDh2Ideal.Term.term0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) z := by
  pointwise [k0_pay6, k0_pay4, k0_pay3, Cert.RefDh2Ideal.Term.term0]
  rw [Cert.NormBwd.dx_eq _ _ _ _ (Finset.sum_nonneg fun _ _ => Cert.NormBwd.sq_nonneg' _)]
  simp only [Fin.sum_univ_one]
  have hc := fun (x : Fin 1024) (Q w : EReal) => mul_comm (G := EReal) (m ((c : Thread nD τ).loc main_arg2) (ix2 (z 0) x)) (Q * w)
  simp only [hc]
  blk_point [iblk, V, idx_val t]

theorem final5 (c : Dev nD) : (dats m 0 c).arrAt 5 (cfgs 0).N
    = Cert.RefDh2Ideal.Term.term0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5, outs5]
  exact pay6_eq m c t y _ (by blk_simp [idx_val t]) (by blk_simp [idx_val t])

theorem final6 (c : Dev nD) : (dats m 0 c).arrAt 6 (cfgs 0).N
    = Cert.RefDh2Ideal.Term.term1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6, outs6]
  exact pay6_eq m c t y _ (by blk_simp [idx_val t]) (by blk_simp [idx_val t])

theorem final7 (c : Dev nD) : (dats m 0 c).arrAt 7 (cfgs 0).N
    = Cert.RefDh2Ideal.Term.term2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have hpay : ∀ (p : FVec Ideal S512x1024 .f32) (acc : FVec Ideal S1x1024 .f32) (j : S1x1024.Idx),
      k0_pay2 p acc j = acc j + k0_pay1 p j := fun p acc j => by pointwise [k0_pay2]
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0) (fun t j => k0_pay1 (k0_pay5 (iblk m c 0 t) (iblk m c 1 t) (iblk m c 2 t)) j)
    (fun t h j => by rw [outsAt0_A m c t h (by have := lt8 t; omega)]; frame_out; rw [zero_add])
    (fun t h j => by rw [outsAt0_B m c t h (by omega)]; frame_out; rw [hpay]) (le_of_eq N_0) t0_7 rfl j, zero_add]
  pointwise [k0_pay1, k0_pay5, k0_pay4, k0_pay3, Cert.RefDh2Ideal.Term.term2]
  refine Fin.sum_mul_add_congr fun p k hl => ?_
  refine (mul_assoc (_ : EReal) _ _).trans ((mul_comm (_ : EReal) _).trans ?_)
  blk_point [iblk, V, idx_val p]

end Cert.BwdDh2Ideal.Value

end
-- ==== Proof.X2Ref.lean ====
/- The reference's result over its arguments. -/
module

public import proofs.«01_k».proof.Proof.Gen.RefX2Ideal.Run

@[expose] public section

set_option maxRecDepth 16384

noncomputable section

namespace Cert.RefX2Ideal.Term

open Cert.RefX2Ideal Cert.RefX2Ideal.Gen Idealize.ShloMosaic Idealize.SL.Sem

variable {F : FTy → Type} [FloatOps F]

/-- Result 0 of the reference over its arguments. -/
abbrev term0 (a0 : FVec F S4096x1024 .f32) (a1 : FVec F S4096x4096 .bf16) (a2 : FVec F S4096x1024 .bf16) : FVec F S4096x1024 .f32 :=
  addf a0 (Host.dotGeneral dot_S4096x4096_S4096x1024_S4096x1024_1_0_0_1_n_n none (mulf (maximumf (extf .f32 a1 bitsLt_bf16_f32) (broadcastInDim S4096x4096 ![] bcast_S_S4096x4096 (constant S_ .f32 0x00000000#32))) (maximumf (extf .f32 a1 bitsLt_bf16_f32) (broadcastInDim S4096x4096 ![] bcast_S_S4096x4096 (constant S_ .f32 0x00000000#32)))) (extf .f32 a2 bitsLt_bf16_f32))

end Cert.RefX2Ideal.Term

end
-- ==== Proof.X2Value.lean ====
/- The array the second product of the feed-forward half leaves is the reference's term. -/
module

public import proofs.«01_k».proof.Proof.Gen.FwdX2Ideal.Value
public import proofs.«01_k».proof.Proof.X2Ref
public import Idealize.ShloMosaic.Lib.Pipeline.ValueKit
public import Idealize.ShloMosaic.Lib.Pipeline.ReadBack

@[expose] public section

set_option maxRecDepth 16384

noncomputable section

namespace Cert.FwdX2Ideal.Value

open Cert.FwdX2Ideal Cert.FwdX2Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- Every window's block index at a point. -/
theorem idx_val : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The array is the reference's: the block's rows of the residual plus the product. -/
theorem final (c : Dev nD) : (dats m 0 c).arrAt 3 (cfgs 0).N
    = Cert.RefX2Ideal.Term.term0 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  frame_out
  pointwise [k0_pay1, Cert.RefX2Ideal.Term.term0]
  blk_point [iblk, V, idx_val t]

end Cert.FwdX2Ideal.Value

end
-- ==== Proof.DhFrame.lean ====
/- The launch of the norm gradient with its matrix: nothing is carried from point to point but the two sums, which the first point of
   the grid begins and each later point adds to. -/
module

public import proofs.«01_k».proof.Proof.Gen.BwdDhIdeal.Frame
public import proofs.«01_k».proof.Proof.Gen.BwdDhIdeal.Skeleton
public import Idealize.ShloMosaic.Lib.Pipeline.ValueKit
public import Idealize.ShloMosaic.Lib.Pipeline.TableIdle
public import Idealize.ShloMosaic.Lib.Tactic

@[expose] public section

set_option maxRecDepth 16384

noncomputable section

namespace Cert.BwdDhIdeal.Norm

open Cert.BwdDhIdeal Cert.BwdDhIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## What a point computes -/

/-- The gradient's block. -/
abbrev res (x0 : Vec F S512x7168 .bf16) (x1 : Vec F S1024x7168 .bf16) (x2 : Vec F S512x1024 .f32) (x3 : Vec F S1x1024 .f32)
    (x4 : Vec F S512x1024 .f32) : Vec F S512x1024 .f32 := k0_pay1 (k0_pay10 x0 x1 x2 x3) (k0_pay11 x2) x4
/-- The gradient's block, rounded. -/
abbrev resB (x0 : Vec F S512x7168 .bf16) (x1 : Vec F S1024x7168 .bf16) (x2 : Vec F S512x1024 .f32) (x3 : Vec F S1x1024 .f32)
    (x4 : Vec F S512x1024 .f32) : Vec F S512x1024 .bf16 := k0_pay2 (k0_pay10 x0 x1 x2 x3) (k0_pay11 x2) x4
/-- The scale's sum over a point's rows. -/
abbrev scale0 (x0 : Vec F S512x7168 .bf16) (x1 : Vec F S1024x7168 .bf16) (x2 : Vec F S512x1024 .f32) : Vec F S1x1024 .f32 :=
  k0_pay3 (k0_pay8 x0 x1) x2 (k0_pay9 x2)
/-- The same added to what the points before left. -/
abbrev scaleS (x0 : Vec F S512x7168 .bf16) (x1 : Vec F S1024x7168 .bf16) (x2 : Vec F S512x1024 .f32) (a : Vec F S1x1024 .f32) :
    Vec F S1x1024 .f32 := k0_pay4 (k0_pay8 x0 x1) x2 (k0_pay9 x2) a
/-- The bias's sum over a point's rows. -/
abbrev bias0 (x0 : Vec F S512x7168 .bf16) : Vec F S1x1x7168 .f32 := k0_pay6 x0
/-- The same added to what the points before left. -/
abbrev biasS (x0 : Vec F S512x7168 .bf16) (a : Vec F S1x1x7168 .f32) : Vec F S1x1x7168 .f32 := k0_pay7 x0 a

theorem scale0_congr {x0 y0 : Vec F S512x7168 .bf16} {x1 y1 : Vec F S1024x7168 .bf16} {x2 y2 : Vec F S512x1024 .f32}
    (h0 : x0 = y0) (h1 : x1 = y1) (h2 : x2 = y2) : scale0 x0 x1 x2 = scale0 y0 y1 y2 := by rw [h0, h1, h2]
theorem scaleS_congr {x0 y0 : Vec F S512x7168 .bf16} {x1 y1 : Vec F S1024x7168 .bf16} {x2 y2 : Vec F S512x1024 .f32}
    {a b : Vec F S1x1024 .f32} (h0 : x0 = y0) (h1 : x1 = y1) (h2 : x2 = y2) (h : a = b) :
    scaleS x0 x1 x2 a = scaleS y0 y1 y2 b := by rw [h0, h1, h2, h]

/-! ## Whole blocks -/

theorem z2 : ∀ a : Fin 2, (![0, 0] : Fin 2 → ℕ) a = 0 := by decide
theorem off1 (i : grid0.Coords) : ∀ a, k0_off1 i a = 0 := by
  have h : (i 2).val = 0 := Nat.lt_one_iff.mp (i 2).isLt
  unfold k0_off1; rw [h]; decide
theorem off2 (i : grid0.Coords) : ∀ a, k0_off2 i a = 0 := by
  have h : (i 2).val = 0 := Nat.lt_one_iff.mp (i 2).isLt
  unfold k0_off2; rw [h]; decide

/-- A buffer last written whole reads as what was written. -/
theorem read_full {S : Shape} {e : EltTy} {sp : Space} (v : View sig .tc sp S e) (f : v.ty.Contents (Elt F)) {off : Fin S.rank → ℕ}
    (inb : ∀ a, off a + S.size a ≤ S.size a) (h : ∀ a, off a = 0) (p : S.Idx → Elt F e) (L : List (View.Piece (Elt F) S e)) :
    v.read (Elt F) (v.writes (Elt F) f (⟨Rect.unit off S.size inb, p⟩ :: L)) = p :=
  (View.read_writes_eq_canon v f _ fun y => ⟨_, List.mem_cons_self, View.mem_set_unit_zero (funext h) inb y⟩).trans
    (View.canon_cons_unit_lit inb p L h)

/-- A load of a whole buffer reads it. -/
theorem load_full {S : Shape} {e : EltTy} {sp : Space} (v : View sig .tc sp S e) {off : Fin S.rank → ℕ}
    (inb : ∀ a, off a + S.size a ≤ S.size a) (h : ∀ a, off a = 0) (f : v.ty.Contents (Elt F)) :
    v.readAt (Elt F) (Rect.unit off S.size inb).toLoadRect f = v.read (Elt F) f :=
  View.ld_unit_zero (funext h) inb (v.read (Elt F) f)

/-! ## The body's runs -/

set_option maxHeartbeats 1000000 in
/-- The first point: the sums begin. -/
theorem runFirst (c : Dev nD) (i : grid0.Coords) (h1 : k0_cond1 i = 1#1) (h2 : ¬ k0_cond2 i = 1#1) (h3 : k0_cond3 i = 1#1) (h4 : ¬ k0_cond4 i = 1#1)
    (arg3 : Memref sig .tc .vmem S512x7168 .bf16) (harg3 : arg3.IsWhole) (arg4 : Memref sig .tc .vmem S1024x7168 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S1x1x7168 .f32) (harg11 : arg11.IsWhole)
    (x0 : Vec F S512x7168 .bf16) (x1 : Vec F S1024x7168 .bf16) (x2 : Vec F S512x1024 .f32) (x3 : Vec F S1x1024 .f32) (x4 : Vec F S512x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ owns (c : Thread nD τ) arg8 fullShare (res x0 x1 x2 x3 x4) ∗ owns (c : Thread nD τ) arg9 fullShare (resB x0 x1 x2 x3 x4) ∗ owns (c : Thread nD τ) arg10 fullShare (scale0 x0 x1 x2) ∗ owns (c : Thread nD τ) arg11 fullShare (bias0 x0)) -∗ K ⟨⟩))
      ⊢ wp frame (wpE (defs₀ (F := F)) Variants.none c none) Set.univ (cc0_bwd_dh i arg3 harg3 arg4 harg4 arg5 harg5 arg6 harg6 arg7 harg7 arg8 harg8 arg9 harg9 arg10 harg10 arg11 harg11) K := by
  simp only [cc0_bwd_dh_eq_skeleton]; unfold cc0_bwd_dh_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, Hk⟩
  subst e0 e1 e2 e3 e4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists _; isplitr; swap; · iexact H5
                  ipureintro; exact (read_full _ _ _ z2 _ _).trans (congr (congr (congr (congr (congrArg (res (F := F)) (load_full arg3.view inb_S512x7168_S512x7168_0_0 z2 f0)) (load_full arg4.view inb_S1024x7168_S1024x7168_0_0 z2 f1)) (load_full arg5.view inb_S512x1024_S512x1024_0_0 z2 f2)) (load_full arg6.view inb_S1x1024_S1x1024_0_0 z2 f3)) (load_full arg7.view inb_S512x1024_S512x1024_0_0 z2 f4))
  isplitl [H6]; · iexists _; isplitr; swap; · iexact H6
                  ipureintro; exact (read_full _ _ _ z2 _ _).trans (congr (congr (congr (congr (congrArg (resB (F := F)) (load_full arg3.view inb_S512x7168_S512x7168_0_0 z2 f0)) (load_full arg4.view inb_S1024x7168_S1024x7168_0_0 z2 f1)) (load_full arg5.view inb_S512x1024_S512x1024_0_0 z2 f2)) (load_full arg6.view inb_S1x1024_S1x1024_0_0 z2 f3)) (load_full arg7.view inb_S512x1024_S512x1024_0_0 z2 f4))
  isplitl [H7]; · iexists _; isplitr; swap; · iexact H7
                  ipureintro; exact (read_full _ _ _ z2 _ _).trans (scale0_congr (load_full arg3.view inb_S512x7168_S512x7168_0_0 z2 f0) (load_full arg4.view inb_S1024x7168_S1024x7168_0_0 z2 f1) (load_full arg5.view inb_S512x1024_S512x1024_0_0 z2 f2))
  iexists _; isplitr; swap; · iexact H8
  ipureintro; exact (read_full _ _ _ (off1 i) _ _).trans (congrArg (bias0 (F := F)) (load_full arg3.view inb_S512x7168_S512x7168_0_0 z2 f0))

set_option maxHeartbeats 1000000 in
/-- A later point: it adds to the sums. -/
theorem runNext (c : Dev nD) (i : grid0.Coords) (h1 : ¬ k0_cond1 i = 1#1) (h2 : k0_cond2 i = 1#1) (h3 : ¬ k0_cond3 i = 1#1) (h4 : k0_cond4 i = 1#1)
    (arg3 : Memref sig .tc .vmem S512x7168 .bf16) (harg3 : arg3.IsWhole) (arg4 : Memref sig .tc .vmem S1024x7168 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S1x1x7168 .f32) (harg11 : arg11.IsWhole)
    (x0 : Vec F S512x7168 .bf16) (x1 : Vec F S1024x7168 .bf16) (x2 : Vec F S512x1024 .f32) (x3 : Vec F S1x1024 .f32) (x4 : Vec F S512x1024 .f32) (x7 : Vec F S1x1024 .f32) (x8 : Vec F S1x1x7168 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ (∃ d, owns (c : Thread nD τ) arg8 fullShare d) ∗ (∃ d, owns (c : Thread nD τ) arg9 fullShare d) ∗ owns (c : Thread nD τ) arg10 fullShare x7 ∗ owns (c : Thread nD τ) arg11 fullShare x8
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ owns (c : Thread nD τ) arg8 fullShare (res x0 x1 x2 x3 x4) ∗ owns (c : Thread nD τ) arg9 fullShare (resB x0 x1 x2 x3 x4) ∗ owns (c : Thread nD τ) arg10 fullShare (scaleS x0 x1 x2 x7) ∗ owns (c : Thread nD τ) arg11 fullShare (biasS x0 x8)) -∗ K ⟨⟩))
      ⊢ wp frame (wpE (defs₀ (F := F)) Variants.none c none) Set.univ (cc0_bwd_dh i arg3 harg3 arg4 harg4 arg5 harg5 arg6 harg6 arg7 harg7 arg8 harg8 arg9 harg9 arg10 harg10 arg11 harg11) K := by
  simp only [cc0_bwd_dh_eq_skeleton]; unfold cc0_bwd_dh_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, ⟨%f7, %e7, H7⟩, ⟨%f8, %e8, H8⟩, Hk⟩
  subst e0 e1 e2 e3 e4 e7 e8
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists _; isplitr; swap; · iexact H5
                  ipureintro; exact (read_full _ _ _ z2 _ _).trans (congr (congr (congr (congr (congrArg (res (F := F)) (load_full arg3.view inb_S512x7168_S512x7168_0_0 z2 f0)) (load_full arg4.view inb_S1024x7168_S1024x7168_0_0 z2 f1)) (load_full arg5.view inb_S512x1024_S512x1024_0_0 z2 f2)) (load_full arg6.view inb_S1x1024_S1x1024_0_0 z2 f3)) (load_full arg7.view inb_S512x1024_S512x1024_0_0 z2 f4))
  isplitl [H6]; · iexists _; isplitr; swap; · iexact H6
                  ipureintro; exact (read_full _ _ _ z2 _ _).trans (congr (congr (congr (congr (congrArg (resB (F := F)) (load_full arg3.view inb_S512x7168_S512x7168_0_0 z2 f0)) (load_full arg4.view inb_S1024x7168_S1024x7168_0_0 z2 f1)) (load_full arg5.view inb_S512x1024_S512x1024_0_0 z2 f2)) (load_full arg6.view inb_S1x1024_S1x1024_0_0 z2 f3)) (load_full arg7.view inb_S512x1024_S512x1024_0_0 z2 f4))
  isplitl [H7]; · iexists _; isplitr; swap; · iexact H7
                  ipureintro; exact (read_full _ _ _ z2 _ _).trans (scaleS_congr (load_full arg3.view inb_S512x7168_S512x7168_0_0 z2 f0) (load_full arg4.view inb_S1024x7168_S1024x7168_0_0 z2 f1) (load_full arg5.view inb_S512x1024_S512x1024_0_0 z2 f2) (load_full arg10.view inb_S1x1024_S1x1024_0_0 z2 f7))
  iexists _; isplitr; swap; · iexact H8
  ipureintro; exact (read_full _ _ _ (off2 i) _ _).trans (congr (congrArg (biasS (F := F)) (load_full arg3.view inb_S512x7168_S512x7168_0_0 z2 f0)) (load_full arg11.view (k0_off2_inb i h2) (off2 i) f8))

/-! ## The proof data -/

variable (m : (ℓ : Loc nD τ sig) → Buf (Elt F) ℓ) (ρ : Dev nD → PrngReg)

/-- The scale's sum after point `n`. -/
def acc7 (c : Dev nD) : (n : ℕ) → n < cfg0.N → Vec F S1x1024 .f32
  | 0, h => scale0 (iblk m c 0 ⟨0, h⟩) (iblk m c 1 ⟨0, h⟩) (iblk m c 2 ⟨0, h⟩)
  | n + 1, h => scaleS (iblk m c 0 ⟨n + 1, h⟩) (iblk m c 1 ⟨n + 1, h⟩) (iblk m c 2 ⟨n + 1, h⟩) (acc7 c n (by omega))

/-- The bias's sum after point `n`. -/
def acc8 (c : Dev nD) : (n : ℕ) → n < cfg0.N → Vec F S1x1x7168 .f32
  | 0, h => bias0 (iblk m c 0 ⟨0, h⟩)
  | n + 1, h => biasS (iblk m c 0 ⟨n + 1, h⟩) (acc8 c n (by omega))

theorem acc7_first (c : Dev nD) (t : Fin cfg0.N) (h : t.val = 0) :
    acc7 m c t.val t.isLt = scale0 (iblk m c 0 t) (iblk m c 1 t) (iblk m c 2 t) := by
  obtain ⟨n, hn⟩ := t; obtain rfl : n = 0 := h; rfl
theorem acc7_next (c : Dev nD) (t : Fin cfg0.N) (h : ¬ t.val = 0) : acc7 m c t.val t.isLt
    = scaleS (iblk m c 0 t) (iblk m c 1 t) (iblk m c 2 t) (acc7 m c (t.val - 1) (Nat.lt_of_le_of_lt (Nat.sub_le _ _) t.isLt)) := by
  obtain ⟨n, hn⟩ := t
  cases n with
  | zero => exact absurd rfl h
  | succ n => rfl
theorem acc8_first (c : Dev nD) (t : Fin cfg0.N) (h : t.val = 0) : acc8 m c t.val t.isLt = bias0 (iblk m c 0 t) := by
  obtain ⟨n, hn⟩ := t; obtain rfl : n = 0 := h; rfl
theorem acc8_next (c : Dev nD) (t : Fin cfg0.N) (h : ¬ t.val = 0) : acc8 m c t.val t.isLt
    = biasS (iblk m c 0 t) (acc8 m c (t.val - 1) (Nat.lt_of_le_of_lt (Nat.sub_le _ _) t.isLt)) := by
  obtain ⟨n, hn⟩ := t
  cases n with
  | zero => exact absurd rfl h
  | succ n => rfl

/-- The proof data: an input's block stays, the gradient's blocks are the point's, the sums run on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => res (iblk m c 0 t) (iblk m c 1 t) (iblk m c 2 t) (iblk m c 3 t) (iblk m c 4 t)
    | ⟨6, _⟩ => resB (iblk m c 0 t) (iblk m c 1 t) (iblk m c 2 t) (iblk m c 3 t) (iblk m c 4 t)
    | ⟨7, _⟩ => acc7 m c t.val t.isLt
    | ⟨8, _⟩ => acc8 m c t.val t.isLt
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = res (iblk m c 0 t) (iblk m c 1 t) (iblk m c 2 t) (iblk m c 3 t) (iblk m c 4 t) := by dsimp only [dats]
theorem after_6 (c : Dev nD) (t : Fin cfg0.N) : (dats m 0 c).after 6 t = resB (iblk m c 0 t) (iblk m c 1 t) (iblk m c 2 t) (iblk m c 3 t) (iblk m c 4 t) := by dsimp only [dats]
theorem after_7 (c : Dev nD) (t : Fin cfg0.N) : (dats m 0 c).after 7 t = acc7 m c t.val t.isLt := by dsimp only [dats]
theorem after_8 (c : Dev nD) (t : Fin cfg0.N) : (dats m 0 c).after 8 t = acc8 m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- Every window is used at every point. -/
theorem live : ∀ (w : Fin 9) (t : Fin cfg0.N), cfg0.idle w (grid0.coords t) = false :=
  (by decide +kernel : ∀ (w : Fin 9) (t : Fin grid0.N), _)

/-- At a later point the sum's buffer holds what the point before left. -/
theorem before_7 (c : Dev nD) (t : Fin cfg0.N) (h : ¬ t.val = 0) (d) :
    (dats m 0 c).before 7 t d = acc7 m c (t.val - 1) (Nat.lt_of_le_of_lt (Nat.sub_le _ _) t.isLt) := by
  have hf : cfg0.fresh 7 t.val = false := (by decide +kernel : ∀ t : Fin grid0.N, ¬ t.val = 0 → cfg0.fresh 7 t.val = false) t h
  rw [Dat.before_out_traj _ 7 rfl (fun _ _ => rfl)
    (fun t _ hi _ => absurd hi (by rw [live 7 t]; exact Bool.false_ne_true)) t.val t rfl d,
    if_neg (by rw [hf]; exact Bool.false_ne_true)]
  dsimp only [dats]

/-- At a later point the sum's buffer holds what the point before left. -/
theorem before_8 (c : Dev nD) (t : Fin cfg0.N) (h : ¬ t.val = 0) (d) :
    (dats m 0 c).before 8 t d = acc8 m c (t.val - 1) (Nat.lt_of_le_of_lt (Nat.sub_le _ _) t.isLt) := by
  have hf : cfg0.fresh 8 t.val = false := (by decide +kernel : ∀ t : Fin grid0.N, ¬ t.val = 0 → cfg0.fresh 8 t.val = false) t h
  rw [Dat.before_out_traj _ 8 rfl (fun _ _ => rfl)
    (fun t _ hi _ => absurd hi (by rw [live 8 t]; exact Bool.false_ne_true)) t.val t rfl d,
    if_neg (by rw [hf]; exact Bool.false_ne_true)]
  dsimp only [dats]

/-- The conditions at a point. -/
theorem conds : ∀ t : Fin cfg0.N,
    (t.val = 0 → k0_cond1 (grid0.coords t) = 1#1 ∧ ¬ k0_cond2 (grid0.coords t) = 1#1 ∧ k0_cond3 (grid0.coords t) = 1#1 ∧ ¬ k0_cond4 (grid0.coords t) = 1#1)
    ∧ (¬ t.val = 0 → ¬ k0_cond1 (grid0.coords t) = 1#1 ∧ k0_cond2 (grid0.coords t) = 1#1 ∧ ¬ k0_cond3 (grid0.coords t) = 1#1 ∧ k0_cond4 (grid0.coords t) = 1#1) :=
  (by decide +kernel : ∀ t : Fin grid0.N, _)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (win0_0.stage (cfg0.slots t 0)) fullShare ((dats m 0 c).after 0 t) from by
    unfold Dat.leavesExact; rw [live 0 t], after_0]
  rw [show (dats m 0 c).leavesExact 1 t = owns (c : Thread nD τ) (win0_1.stage (cfg0.slots t 1)) fullShare ((dats m 0 c).after 1 t) from by
    unfold Dat.leavesExact; rw [live 1 t], after_1]
  rw [show (dats m 0 c).leavesExact 2 t = owns (c : Thread nD τ) (win0_2.stage (cfg0.slots t 2)) fullShare ((dats m 0 c).after 2 t) from by
    unfold Dat.leavesExact; rw [live 2 t], after_2]
  rw [show (dats m 0 c).leavesExact 3 t = owns (c : Thread nD τ) (win0_3.stage (cfg0.slots t 3)) fullShare ((dats m 0 c).after 3 t) from by
    unfold Dat.leavesExact; rw [live 3 t], after_3]
  rw [show (dats m 0 c).leavesExact 4 t = owns (c : Thread nD τ) (win0_4.stage (cfg0.slots t 4)) fullShare ((dats m 0 c).after 4 t) from by
    unfold Dat.leavesExact; rw [live 4 t], after_4]
  rw [show (dats m 0 c).leavesExact 5 t = owns (c : Thread nD τ) (win0_5.stage (cfg0.slots t 5)) fullShare ((dats m 0 c).after 5 t) from by
    unfold Dat.leavesExact; rw [live 5 t], after_5]
  rw [show (dats m 0 c).leavesExact 6 t = owns (c : Thread nD τ) (win0_6.stage (cfg0.slots t 6)) fullShare ((dats m 0 c).after 6 t) from by
    unfold Dat.leavesExact; rw [live 6 t], after_6]
  rw [show (dats m 0 c).leavesExact 7 t = owns (c : Thread nD τ) (win0_7.stage (cfg0.slots t 7)) fullShare ((dats m 0 c).after 7 t) from by
    unfold Dat.leavesExact; rw [live 7 t], after_7]
  rw [show (dats m 0 c).leavesExact 8 t = owns (c : Thread nD τ) (win0_8.stage (cfg0.slots t 8)) fullShare ((dats m 0 c).after 8 t) from by
    unfold Dat.leavesExact; rw [live 8 t], after_8]
  by_cases h0 : t.val = 0
  · obtain ⟨h1, h2, h3, h4⟩ := (conds t).1 h0
    rw [acc7_first m c t h0, acc8_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runFirst c (grid0.coords t) h1 h2 h3 h4 _ _ _ _ _ _ _ _ _ _ _ _ _ _ _ _ _ _ _ _ _ _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · obtain ⟨h1, h2, h3, h4⟩ := (conds t).2 h0
    rw [acc7_next m c t h0, acc8_next m c t h0]
    simp only [before_7 m c t h0, before_8 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runNext c (grid0.coords t) h1 h2 h3 h4 _ _ _ _ _ _ _ _ _ _ _ _ _ _ _ _ _ _ _ _ _ _ _ _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at the point is the body on the point's memrefs. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every run of @main ends with the windows' arrays at what the proof data says. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every run of @main ends, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.BwdDhIdeal.Norm

end
-- ==== Proof.DhRef.lean ====
/- The reference of the norm gradient with its matrix: the terms its results are. -/
module

public import proofs.«01_k».proof.Proof.Gen.RefDhIdeal.Run

@[expose] public section

set_option maxRecDepth 16384

noncomputable section

namespace Cert.RefDhIdeal.Term

open Cert.RefDhIdeal Cert.RefDhIdeal.Gen Idealize.ShloMosaic Idealize.SL.Sem

variable {F : FTy → Type} [FloatOps F]

/-- Result 0 of the reference over its arguments. -/
abbrev term0 (a0 : FVec F S4096x7168 .bf16) (a1 : FVec F S1024x7168 .bf16) (a2 : FVec F S4096x1024 .f32) (a3 : FVec F S1x1024 .f32) (a4 : FVec F S4096x1024 .f32) : FVec F S4096x1024 .f32 :=
  addf (addf (addf (mulf (mulf (Host.dotGeneral dot_S4096x7168_S1024x7168_S4096x1024_1_1_0_0_n_n none (extf .f32 a0 bitsLt_bf16_f32) (extf .f32 a1 bitsLt_bf16_f32)) (broadcastInDim S4096x1024 ![0, 1] bcast_S1x1024_S4096x1024_0_1 a3)) (broadcastInDim S4096x1024 ![0, 1] bcast_S4096x1_S4096x1024_0_1 (Host.rsqrt (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf a2 (broadcastInDim S4096x1024 ![0] bcast_S4096_S4096x1024_0 (Host.reduceAdd (Host.divf (mulf (shapeCast _ (Host.reduceAdd (mulf a2 (mulf (Host.dotGeneral dot_S4096x7168_S1024x7168_S4096x1024_1_1_0_0_n_n none (extf .f32 a0 bitsLt_bf16_f32) (extf .f32 a1 bitsLt_bf16_f32)) (broadcastInDim S4096x1024 ![0, 1] bcast_S1x1024_S4096x1024_0_1 a3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf a2 (mulf (Host.dotGeneral dot_S4096x7168_S1024x7168_S4096x1024_1_1_0_0_n_n none (extf .f32 a0 bitsLt_bf16_f32) (extf .f32 a1 bitsLt_bf16_f32)) (broadcastInDim S4096x1024 ![0, 1] bcast_S1x1024_S4096x1024_0_1 a3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) a2)) a4

/-- Result 1 of the reference over its arguments. -/
abbrev term1 (a0 : FVec F S4096x7168 .bf16) (a1 : FVec F S1024x7168 .bf16) (a2 : FVec F S4096x1024 .f32) (a3 : FVec F S1x1024 .f32) (a4 : FVec F S4096x1024 .f32) : FVec F S4096x1024 .bf16 :=
  truncf .bf16 (addf (addf (addf (mulf (mulf (Host.dotGeneral dot_S4096x7168_S1024x7168_S4096x1024_1_1_0_0_n_n none (extf .f32 a0 bitsLt_bf16_f32) (extf .f32 a1 bitsLt_bf16_f32)) (broadcastInDim S4096x1024 ![0, 1] bcast_S1x1024_S4096x1024_0_1 a3)) (broadcastInDim S4096x1024 ![0, 1] bcast_S4096x1_S4096x1024_0_1 (Host.rsqrt (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf a2 (broadcastInDim S4096x1024 ![0] bcast_S4096_S4096x1024_0 (Host.reduceAdd (Host.divf (mulf (shapeCast _ (Host.reduceAdd (mulf a2 (mulf (Host.dotGeneral dot_S4096x7168_S1024x7168_S4096x1024_1_1_0_0_n_n none (extf .f32 a0 bitsLt_bf16_f32) (extf .f32 a1 bitsLt_bf16_f32)) (broadcastInDim S4096x1024 ![0, 1] bcast_S1x1024_S4096x1024_0_1 a3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf a2 (mulf (Host.dotGeneral dot_S4096x7168_S1024x7168_S4096x1024_1_1_0_0_n_n none (extf .f32 a0 bitsLt_bf16_f32) (extf .f32 a1 bitsLt_bf16_f32)) (broadcastInDim S4096x1024 ![0, 1] bcast_S1x1024_S4096x1024_0_1 a3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) a2)) a4) bitsLt_bf16_f32

/-- Result 2 of the reference over its arguments. -/
abbrev term2 (a0 : FVec F S4096x7168 .bf16) (a1 : FVec F S1024x7168 .bf16) (a2 : FVec F S4096x1024 .f32) (a3 : FVec F S1x1024 .f32) (a4 : FVec F S4096x1024 .f32) : FVec F S1x1024 .f32 :=
  shapeCast _ (Host.reduceAdd (mulf (mulf a2 (broadcastInDim S4096x1024 ![0, 1] bcast_S4096x1_S4096x1024_0_1 (Host.rsqrt (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (Host.dotGeneral dot_S4096x7168_S1024x7168_S4096x1024_1_1_0_0_n_n none (extf .f32 a0 bitsLt_bf16_f32) (extf .f32 a1 bitsLt_bf16_f32))) (constant S_ .f32 0x00000000#32) reducesTo_S4096x1024_S1024_d0 h_S_) shapeCasts_S1024_S1x1024

/-- Result 3 of the reference over its arguments. -/
abbrev term3 (a0 : FVec F S4096x7168 .bf16) (a1 : FVec F S1024x7168 .bf16) (a2 : FVec F S4096x1024 .f32) (a3 : FVec F S1x1024 .f32) (a4 : FVec F S4096x1024 .f32) : FVec F S1x1x7168 .f32 :=
  shapeCast _ (Host.reduceAdd (shapeCast _ (Host.reduceAdd (extf .f32 a0 bitsLt_bf16_f32) (constant S_ .f32 0x00000000#32) reducesTo_S4096x7168_S7168_d0 h_S_) shapeCasts_S7168_S1x7168) (constant S_ .f32 0x00000000#32) reducesTo_S1x7168_S7168_d0 h_S_) shapeCasts_S7168_S1x1x7168

/-- The reference's run, each result at its term. -/
theorem run_terms (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45) = term0 (m ((c.tc : Thread Cert.RefDhIdeal.nD Cert.RefDhIdeal.τ).loc main_arg0)) (m ((c.tc : Thread Cert.RefDhIdeal.nD Cert.RefDhIdeal.τ).loc main_arg1)) (m ((c.tc : Thread Cert.RefDhIdeal.nD Cert.RefDhIdeal.τ).loc main_arg2)) (m ((c.tc : Thread Cert.RefDhIdeal.nD Cert.RefDhIdeal.τ).loc main_arg3)) (m ((c.tc : Thread Cert.RefDhIdeal.nD Cert.RefDhIdeal.τ).loc main_arg4))
      ∧ r.2.mem ((c.tc : Thread nD τ).loc main_v46) = term1 (m ((c.tc : Thread Cert.RefDhIdeal.nD Cert.RefDhIdeal.τ).loc main_arg0)) (m ((c.tc : Thread Cert.RefDhIdeal.nD Cert.RefDhIdeal.τ).loc main_arg1)) (m ((c.tc : Thread Cert.RefDhIdeal.nD Cert.RefDhIdeal.τ).loc main_arg2)) (m ((c.tc : Thread Cert.RefDhIdeal.nD Cert.RefDhIdeal.τ).loc main_arg3)) (m ((c.tc : Thread Cert.RefDhIdeal.nD Cert.RefDhIdeal.τ).loc main_arg4))
      ∧ r.2.mem ((c.tc : Thread nD τ).loc main_v28) = term2 (m ((c.tc : Thread Cert.RefDhIdeal.nD Cert.RefDhIdeal.τ).loc main_arg0)) (m ((c.tc : Thread Cert.RefDhIdeal.nD Cert.RefDhIdeal.τ).loc main_arg1)) (m ((c.tc : Thread Cert.RefDhIdeal.nD Cert.RefDhIdeal.τ).loc main_arg2)) (m ((c.tc : Thread Cert.RefDhIdeal.nD Cert.RefDhIdeal.τ).loc main_arg3)) (m ((c.tc : Thread Cert.RefDhIdeal.nD Cert.RefDhIdeal.τ).loc main_arg4))
      ∧ r.2.mem ((c.tc : Thread nD τ).loc main_v47) = term3 (m ((c.tc : Thread Cert.RefDhIdeal.nD Cert.RefDhIdeal.τ).loc main_arg0)) (m ((c.tc : Thread Cert.RefDhIdeal.nD Cert.RefDhIdeal.τ).loc main_arg1)) (m ((c.tc : Thread Cert.RefDhIdeal.nD Cert.RefDhIdeal.τ).loc main_arg2)) (m ((c.tc : Thread Cert.RefDhIdeal.nD Cert.RefDhIdeal.τ).loc main_arg3)) (m ((c.tc : Thread Cert.RefDhIdeal.nD Cert.RefDhIdeal.τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by unfold Cert.RefDhIdeal.Value.res_main_v45; rfl),
      (h c).2.1.trans (by unfold Cert.RefDhIdeal.Value.res_main_v46; rfl),
      (h c).2.2.1.trans (by rfl),
      (h c).2.2.2.1.trans (by rfl),
      (h c).2.2.2.2⟩)
    (Cert.RefDhIdeal.Value.run m ρ)

end Cert.RefDhIdeal.Term

end
-- ==== Proof.DhValue.lean ====
/- The arrays the norm gradient call with its matrix leaves are the reference's terms: the gradient of the norm's input, the same rounded
   to the short format, and the gradients of the norm's scale and of the bias, summed over the eight points of the grid. -/
module

public import proofs.«01_k».proof.Proof.DhFrame
public import proofs.«01_k».proof.Proof.DhRef
public import Idealize.ShloMosaic.Lib.Pipeline.ValueKit
public import Idealize.ShloMosaic.Lib.Pipeline.ReadBack
public import proofs.«01_k».proof.Proof.NormBwd

@[expose] public section

set_option maxRecDepth 16384

noncomputable section

namespace Cert.BwdDhIdeal.Norm

open Cert.BwdDhIdeal Cert.BwdDhIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- Every window's block index at a point. -/
theorem idx_val : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0]
    ∧ win0_6.index t = ![t.val, 0] ∧ win0_7.index t = ![0, 0] ∧ win0_8.index t = ![0, 0, 0] :=
  (by decide +kernel : ∀ t : Fin grid0.N, _)

/-- Every point before the end of the grid. -/
theorem lt8 (t : Fin cfg0.N) : t.val < 8 := lt_of_lt_of_eq t.isLt N_0

/-- The kernel's block of the gradient at a point is the reference's array through the window. -/
theorem res_eq (c : Dev nD) (t : Fin cfg0.N) (y : S512x1024.Idx) (z : S4096x1024.Idx) (h0 : (z 0).val = t.val * 512 + (y 0).val)
    (h1 : (z 1).val = (y 1).val) :
    res (iblk m c 0 t) (iblk m c 1 t) (iblk m c 2 t) (iblk m c 3 t) (iblk m c 4 t) y
    = Cert.RefDhIdeal.Term.term0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) z := by
  pointwise [res, k0_pay1, k0_pay10, k0_pay11, k0_pay9, k0_pay8, Cert.RefDhIdeal.Term.term0]
  rw [Cert.NormBwd.dx_eq _ _ _ _ (Finset.sum_nonneg fun _ _ => Cert.NormBwd.sq_nonneg' _)]
  simp only [Fin.sum_univ_one]
  have hc := fun (x : Fin 1024) (Q w : EReal) => mul_comm (G := EReal) (m ((c : Thread nD τ).loc main_arg2) (ix2 (z 0) x)) (Q * w)
  simp only [hc]
  blk_point [iblk, V, idx_val t]

theorem final5 (c : Dev nD) : (dats m 0 c).arrAt 5 (cfgs 0).N
    = Cert.RefDhIdeal.Term.term0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after_5]
  exact res_eq m c t y _ (by blk_simp [idx_val t]) (by blk_simp [idx_val t])

theorem final6 (c : Dev nD) : (dats m 0 c).arrAt 6 (cfgs 0).N
    = Cert.RefDhIdeal.Term.term1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after_6]
  exact res_eq m c t y _ (by blk_simp [idx_val t]) (by blk_simp [idx_val t])

/-- The last point of the grid. -/
abbrev tl : Fin cfg0.N := t0_7

theorem final7 (c : Dev nD) : (dats m 0 c).arrAt 7 (cfgs 0).N
    = Cert.RefDhIdeal.Term.term2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have hpay : ∀ (p : FVec Ideal S512x1024 .f32) (q : FVec Ideal S512x1024 .f32) (r : FVec Ideal S512x1 .f32) (acc : FVec Ideal S1x1024 .f32)
      (j : S1x1024.Idx), k0_pay4 p q r acc j = acc j + k0_pay3 p q r j := fun p q r acc j => by pointwise [k0_pay4]
  refine (dats m 0 c).arrAt_eq_of_after_last 7 t0_7 (by decide +kernel) _ fun j => ?_
  blk_simp
  rw [after_7, Pipeline.eq_sum_fin_of_reset_step_apply_last (fun n h => acc7 m c n h) 8 (fun _ => 0) (fun t j => scale0 (iblk m c 0 t) (iblk m c 1 t) (iblk m c 2 t) j)
    (fun t h j => by rw [acc7_first m c t (by have := lt8 t; omega), zero_add])
    (fun t h j => by rw [acc7_next m c t (by intro h'; rw [h'] at h; exact h rfl)]; exact hpay _ _ _ _ j) (le_of_eq N_0) t0_7 rfl j, zero_add]
  pointwise [scale0, k0_pay3, k0_pay8, k0_pay9, Cert.RefDhIdeal.Term.term2]
  refine Fin.sum_mul_add_congr fun p k hl => ?_
  refine (mul_assoc (_ : EReal) _ _).trans ((mul_comm (_ : EReal) _).trans ?_)
  blk_point [iblk, V, idx_val p]

theorem final8 (c : Dev nD) : (dats m 0 c).arrAt 8 (cfgs 0).N
    = Cert.RefDhIdeal.Term.term3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have hpay : ∀ (x : FVec Ideal S512x7168 .bf16) (acc : FVec Ideal S1x1x7168 .f32)
      (j : S1x1x7168.Idx), k0_pay7 x acc j = acc j + k0_pay6 x j := fun x acc j => by pointwise [k0_pay7, k0_pay6]
  refine (dats m 0 c).arrAt_eq_of_after_last 8 t0_7 (by decide +kernel) _ fun j => ?_
  blk_simp
  rw [after_8, Pipeline.eq_sum_fin_of_reset_step_apply_last (fun n h => acc8 m c n h) 8 (fun _ => 0) (fun t j => bias0 (iblk m c 0 t) j)
    (fun t h j => by rw [acc8_first m c t (by have := lt8 t; omega), zero_add])
    (fun t h j => by rw [acc8_next m c t (by intro h'; rw [h'] at h; exact h rfl)]; exact hpay _ _ j) (le_of_eq N_0) t0_7 rfl j, zero_add]
  pointwise [bias0, k0_pay6, k0_pay5, Cert.RefDhIdeal.Term.term3]
  simp only [Fin.sum_univ_one]
  refine Fin.sum_mul_add_congr fun p k hl => ?_
  blk_point [iblk, V, idx_val p]

/-- Every run of @main leaves each result's array at its window's and the arguments as they were. -/
theorem run_blocks : θ_run defs (onTc (τ := τ) (main (F := Ideal))) ⟨m, fun _ => 0, ρ⟩ fun r => ∀ c : Dev nD,
      r.2.mem ((c.tc : Thread nD τ).loc main_v0_0) = (dats m 0 c).arrAt 5 (cfgs 0).N
      ∧ r.2.mem ((c.tc : Thread nD τ).loc main_v0_1) = (dats m 0 c).arrAt 6 (cfgs 0).N
      ∧ r.2.mem ((c.tc : Thread nD τ).loc main_v0_2) = (dats m 0 c).arrAt 7 (cfgs 0).N
      ∧ r.2.mem ((c.tc : Thread nD τ).loc main_v0_3) = (dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1.1 c).1 5, (h.1.1 c).1 6, (h.1.1 c).1 7, (h.1.1 c).1 8, h.2.1 c⟩)
    (θ_run_and (run_main m ρ) (frame m ρ))

end Cert.BwdDhIdeal.Norm

end
-- ==== Proof.ConvBRun.lean ====
module

public import proofs.«01_k».proof.Proof.Gen.BwdConvBIdeal.Frame
public import proofs.«01_k».proof.Proof.Gen.BwdConvBIdeal.Skeleton
public import proofs.«01_k».proof.Proof.Gen.BwdConvBIdeal.Loops
public import Idealize.ShloMosaic.Lib.Pipeline.FrameValue
public import Idealize.ShloMosaic.Lib.Tactic
public import Idealize.ShloMosaic.Lib.Transfers

@[expose] public section

set_option maxRecDepth 16384
set_option maxHeartbeats 1000000

noncomputable section

/-! Runs of the kernel body of the convolution gradient at one grid point: four cases, by whether an earlier copy is
    waited for, whether the sums of the columns begin, and whether the point is the last. -/

namespace Cert.BwdConvBIdeal.ConvB

open Cert.BwdConvBIdeal Cert.BwdConvBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-- The result the kernel writes by its own copies, and the scratch buffers, whole. -/
abbrev dzM : Memref sig .tc .hbm S4096x7168 .bf16 := Memref.whole main_v1_0
abbrev pdyM : Memref sig .tc .vmem S2056x512 .f32 := Memref.whole cc0_scratch0
abbrev puM : Memref sig .tc .vmem S2056x512 .f32 := Memref.whole cc0_scratch1
abbrev duM : Memref sig .tc .vmem S2048x512 .f32 := Memref.whole cc0_scratch2
abbrev waM : Memref sig .tc .vmem S64x512 .f32 := Memref.whole cc0_scratch3
abbrev obM : Memref sig .tc .vmem S2048x512 .bf16 := Memref.whole cc0_scratch4

/-- A memref's elements on core `c`, at contents `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

/-- The window of the result that a point's copy fills. -/
abbrev dst (i : grid0.Coords) : Memref sig .tc .hbm S2048x512 .bf16 :=
  dzM.slice (Rect.unit (s := S4096x7168) (k0_off4 i) S2048x512.size (k0_off4_inb i)) (fun _ => rfl)

/-- The kernel body on the memrefs of one point. -/
abbrev body (i : grid0.Coords) (arg2 : Memref sig .tc .vmem S2048x512 .f32) (harg2 : arg2.IsWhole)
    (arg3 : Memref sig .tc .vmem S2048x512 .bf16) (harg3 : arg3.IsWhole) (arg4 : Memref sig .tc .vmem S8x512 .f32) (harg4 : arg4.IsWhole)
    (arg7 : Memref sig .tc .vmem S8x512 .f32) (harg7 : arg7.IsWhole) (arg8 : Memref sig .tc .vmem S1x512 .f32) (harg8 : arg8.IsWhole) :
    Prog (TpuEff nD τ sig (Elt F) Λ₀ .tc) PUnit :=
  cc0_conv_b_bwd i arg2 harg2 arg3 harg3 arg4 harg4 dzM (Memref.isWhole_whole _) dzM (Memref.isWhole_whole _) arg7 harg7 arg8 harg8
    pdyM (Memref.isWhole_whole _) puM (Memref.isWhole_whole _) duM (Memref.isWhole_whole _) waM (Memref.isWhole_whole _)
    obM (Memref.isWhole_whole _) cc0_scratch5

section
variable (c : Dev nD) (i : grid0.Coords) (arg2 : Memref sig .tc .vmem S2048x512 .f32) (harg2 : arg2.IsWhole)
  (arg3 : Memref sig .tc .vmem S2048x512 .bf16) (harg3 : arg3.IsWhole) (arg4 : Memref sig .tc .vmem S8x512 .f32) (harg4 : arg4.IsWhole)
  (arg7 : Memref sig .tc .vmem S8x512 .f32) (harg7 : arg7.IsWhole) (arg8 : Memref sig .tc .vmem S1x512 .f32) (harg8 : arg8.IsWhole)
  (f2 : BufTy.Contents (Elt F) arg2.view.ty) (f3 : BufTy.Contents (Elt F) arg3.view.ty) (f4 : BufTy.Contents (Elt F) arg4.view.ty)
  (f7 : BufTy.Contents (Elt F) arg7.view.ty) (f8 : BufTy.Contents (Elt F) arg8.view.ty)
  (f9 f10 : BufTy.Contents (Elt F) pdyM.view.ty) (f11 : BufTy.Contents (Elt F) duM.view.ty) (f12 : BufTy.Contents (Elt F) waM.view.ty)
  (f13 : BufTy.Contents (Elt F) obM.view.ty)

/-- What a point leaves besides its copy: the blocks as they were, the two sums at `o7` and `o8`, the scratch at anything. -/
abbrev rest (o7 : BufTy.Contents (Elt F) arg7.view.ty) (o8 : BufTy.Contents (Elt F) arg8.view.ty) : sProp 𝕄 :=
  iprop(pt c arg2 f2 ∗ pt c arg3 f3 ∗ pt c arg4 f4 ∗ pt c arg7 o7 ∗ pt c arg8 o8 ∗ (∃ f, pt c pdyM f) ∗ (∃ f, pt c puM f)
    ∗ (∃ f, pt c duM f) ∗ (∃ f, pt c waM f) ∗ (∃ W', owes (c : Thread nD τ) 0 W'))

/-- The copy under way out of the staging buffer, at `f`, into `d`, delivering contents `e` there. -/
abbrev flight (d : Memref sig .tc .hbm S2048x512 .bf16) (e : BufTy.Contents (Elt F) d.view.ty) (f : BufTy.Contents (Elt F) obM.view.ty) : sProp 𝕄 :=
  Transfers.Flight countersEmb (c : Thread nD τ) (SemLoc.dma 10) () 65536 iprop(pt c d e ∗ pt c obM f)

/-- A copy under way delivers what equals what it delivers. -/
theorem flight_eq {sm : SemLoc sig} {X Y : sProp 𝕄} (h : X = Y) :
    Transfers.Flight countersEmb (c : Thread nD τ) sm () 65536 X ⊢ Transfers.Flight countersEmb (c : Thread nD τ) sm () 65536 Y :=
  Entails.of_eq (congrArg _ h)

/-- The copy under way, from a staging buffer at anything. -/
abbrev flying (d : Memref sig .tc .hbm S2048x512 .bf16) (e : BufTy.Contents (Elt F) d.view.ty) : sProp 𝕄 :=
  iprop(∃ f, flight c d e f)

/-- The cell the copies count on, at zero. -/
abbrev cell : sProp 𝕄 :=
  iprop(semVal ((c : Thread nD τ), SemLoc.dma 10) 0)

/-- The cell at zero and the staging buffer at hand. -/
abbrev landed : sProp 𝕄 :=
  iprop(cell c ∗ (∃ f, pt c obM f))

/-- The first point: nothing to wait for, the sums begin. -/
def runA : Σ' (O7 : BufTy.Contents (Elt F) arg7.view.ty) (O8 : BufTy.Contents (Elt F) arg8.view.ty)
    (D0 : S2048x512.Idx → Elt F .bf16),
    PLift (∀ (hc1 : ¬ k0_cond1 i = 1#1) (hc2 : ¬ k0_cond2 i = 1#1) (hc3 : k0_cond3 i = 1#1) (hc4 : ¬ k0_cond4 i = 1#1) (hc5 : k0_cond5 i = 1#1) (hc6 : ¬ k0_cond6 i = 1#1)
      (g0 : BufTy.Contents (Elt F) dzM.view.ty)
      (K : PUnit → sProp 𝕄),
    iprop(pt c arg2 f2 ∗ pt c arg3 f3 ∗ pt c arg4 f4 ∗ pt c arg7 f7 ∗ pt c arg8 f8 ∗ pt c pdyM f9 ∗ pt c puM f10
        ∗ pt c duM f11 ∗ pt c waM f12 ∗ (∃ W, owes (c : Thread nD τ) 0 W)
        ∗ pt c (dst i) g0 ∗ cell c ∗ pt c obM f13
        ∗ ((rest c arg2 arg3 arg4 arg7 arg8 f2 f3 f4 O7 O8
        ∗ flying c (dst i) ((dst i).view.writes (Elt F) g0 [⟨Rect.whole S2048x512, D0⟩])) -∗ K ⟨⟩))
      ⊢ wp frame (wpE (defs₀ (F := F)) Variants.none c none) Set.univ (body i arg2 harg2 arg3 harg3 arg4 harg4 arg7 harg7 arg8 harg8) K) := by
  refine ⟨?_, ?_, ?_, ⟨fun hc1 hc2 hc3 hc4 hc5 hc6 g0 K => ?run⟩⟩
  case run =>
  unfold body
  simp only [cc0_conv_b_bwd_eq_skeleton]; unfold cc0_conv_b_bwd_skel
  iintro ⟨H2, H3, H4, H7, H8, H9, H10, H11, H12, ⟨%W, HO⟩, HD0, HQ0, H13, HK⟩
  sl_exec
  sl_step
  iapply HK
  isplitl [H2 H3 H4 H7 H8 H9 H10 H11 H12 HO]
  · isplitl [H2]; · iexact H2
    isplitl [H3]; · iexact H3
    isplitl [H4]; · iexact H4
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iexists _; iexact HO
  iexists _
  iapply (flight_eq (c := c) ?hq0) $$ HQ0
  case hq0 =>
    refine congr (congrArg _ ?_) ?_
    · refine congrArg (fun x => View.loc (c : Thread nD τ) (dst i).view ↦[(dst i).view.set]{fullShare} x) ?_
      rfl
    · rfl

/-- A point that begins the sums of its columns, after the first. -/
def runC : Σ' (O7 : BufTy.Contents (Elt F) arg7.view.ty) (O8 : BufTy.Contents (Elt F) arg8.view.ty)
    (D0 : S2048x512.Idx → Elt F .bf16),
    PLift (∀ (hc1 : k0_cond1 i = 1#1) (hc2 : ¬ k0_cond2 i = 1#1) (hc3 : k0_cond3 i = 1#1) (hc4 : ¬ k0_cond4 i = 1#1) (hc5 : k0_cond5 i = 1#1) (hc6 : ¬ k0_cond6 i = 1#1)
      (g0 : BufTy.Contents (Elt F) dzM.view.ty)
      (p0 : Memref sig .tc .hbm S2048x512 .bf16) (h0 : BufTy.Contents (Elt F) p0.view.ty)
      (K : PUnit → sProp 𝕄),
    iprop(pt c arg2 f2 ∗ pt c arg3 f3 ∗ pt c arg4 f4 ∗ pt c arg7 f7 ∗ pt c arg8 f8 ∗ pt c pdyM f9 ∗ pt c puM f10
        ∗ pt c duM f11 ∗ pt c waM f12 ∗ (∃ W, owes (c : Thread nD τ) 0 W)
        ∗ pt c (dst i) g0 ∗ flight c p0 h0 f13
        ∗ ((rest c arg2 arg3 arg4 arg7 arg8 f2 f3 f4 O7 O8
        ∗ pt c p0 h0 ∗ flying c (dst i) ((dst i).view.writes (Elt F) g0 [⟨Rect.whole S2048x512, D0⟩])) -∗ K ⟨⟩))
      ⊢ wp frame (wpE (defs₀ (F := F)) Variants.none c none) Set.univ (body i arg2 harg2 arg3 harg3 arg4 harg4 arg7 harg7 arg8 harg8) K) := by
  refine ⟨?_, ?_, ?_, ⟨fun hc1 hc2 hc3 hc4 hc5 hc6 g0 p0 h0 K => ?run⟩⟩
  case run =>
  unfold body
  simp only [cc0_conv_b_bwd_eq_skeleton]; unfold cc0_conv_b_bwd_skel
  iintro ⟨H2, H3, H4, H7, H8, H9, H10, H11, H12, ⟨%W, HO⟩, HD0, HQ0, HK⟩
  sl_exec
  sl_step
  iapply HK
  isplitl [H2 H3 H4 H7 H8 H9 H10 H11 H12 HO]
  · isplitl [H2]; · iexact H2
    isplitl [H3]; · iexact H3
    isplitl [H4]; · iexact H4
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iexists _; iexact HO
  isplitl [HQ0_dst]; · iexact HQ0_dst
  iexists _
  iapply (flight_eq (c := c) ?hq0) $$ HQ0
  case hq0 =>
    refine congr (congrArg _ ?_) ?_
    · refine congrArg (fun x => View.loc (c : Thread nD τ) (dst i).view ↦[(dst i).view.set]{fullShare} x) ?_
      rfl
    · rfl

/-- A point that ends the sums of its columns, before the last. -/
def runB : Σ' (O7 : BufTy.Contents (Elt F) arg7.view.ty) (O8 : BufTy.Contents (Elt F) arg8.view.ty)
    (D0 : S2048x512.Idx → Elt F .bf16),
    PLift (∀ (hc1 : k0_cond1 i = 1#1) (hc2 : ¬ k0_cond2 i = 1#1) (hc3 : ¬ k0_cond3 i = 1#1) (hc4 : k0_cond4 i = 1#1) (hc5 : ¬ k0_cond5 i = 1#1) (hc6 : k0_cond6 i = 1#1)
      (g0 : BufTy.Contents (Elt F) dzM.view.ty)
      (p0 : Memref sig .tc .hbm S2048x512 .bf16) (h0 : BufTy.Contents (Elt F) p0.view.ty)
      (K : PUnit → sProp 𝕄),
    iprop(pt c arg2 f2 ∗ pt c arg3 f3 ∗ pt c arg4 f4 ∗ pt c arg7 f7 ∗ pt c arg8 f8 ∗ pt c pdyM f9 ∗ pt c puM f10
        ∗ pt c duM f11 ∗ pt c waM f12 ∗ (∃ W, owes (c : Thread nD τ) 0 W)
        ∗ pt c (dst i) g0 ∗ flight c p0 h0 f13
        ∗ ((rest c arg2 arg3 arg4 arg7 arg8 f2 f3 f4 O7 O8
        ∗ pt c p0 h0 ∗ flying c (dst i) ((dst i).view.writes (Elt F) g0 [⟨Rect.whole S2048x512, D0⟩])) -∗ K ⟨⟩))
      ⊢ wp frame (wpE (defs₀ (F := F)) Variants.none c none) Set.univ (body i arg2 harg2 arg3 harg3 arg4 harg4 arg7 harg7 arg8 harg8) K) := by
  refine ⟨?_, ?_, ?_, ⟨fun hc1 hc2 hc3 hc4 hc5 hc6 g0 p0 h0 K => ?run⟩⟩
  case run =>
  unfold body
  simp only [cc0_conv_b_bwd_eq_skeleton]; unfold cc0_conv_b_bwd_skel
  iintro ⟨H2, H3, H4, H7, H8, H9, H10, H11, H12, ⟨%W, HO⟩, HD0, HQ0, HK⟩
  sl_exec
  sl_step
  iapply HK
  isplitl [H2 H3 H4 H7 H8 H9 H10 H11 H12 HO]
  · isplitl [H2]; · iexact H2
    isplitl [H3]; · iexact H3
    isplitl [H4]; · iexact H4
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iexists _; iexact HO
  isplitl [HQ0_dst]; · iexact HQ0_dst
  iexists _
  iapply (flight_eq (c := c) ?hq0) $$ HQ0
  case hq0 =>
    refine congr (congrArg _ ?_) ?_
    · refine congrArg (fun x => View.loc (c : Thread nD τ) (dst i).view ↦[(dst i).view.set]{fullShare} x) ?_
      rfl
    · rfl

/-- The last point: it waits for its own copy too. -/
def runD : Σ' (O7 : BufTy.Contents (Elt F) arg7.view.ty) (O8 : BufTy.Contents (Elt F) arg8.view.ty)
    (D0 : S2048x512.Idx → Elt F .bf16),
    PLift (∀ (hc1 : k0_cond1 i = 1#1) (hc2 : k0_cond2 i = 1#1) (hc3 : ¬ k0_cond3 i = 1#1) (hc4 : k0_cond4 i = 1#1) (hc5 : ¬ k0_cond5 i = 1#1) (hc6 : k0_cond6 i = 1#1)
      (g0 : BufTy.Contents (Elt F) dzM.view.ty)
      (p0 : Memref sig .tc .hbm S2048x512 .bf16) (h0 : BufTy.Contents (Elt F) p0.view.ty)
      (K : PUnit → sProp 𝕄),
    iprop(pt c arg2 f2 ∗ pt c arg3 f3 ∗ pt c arg4 f4 ∗ pt c arg7 f7 ∗ pt c arg8 f8 ∗ pt c pdyM f9 ∗ pt c puM f10
        ∗ pt c duM f11 ∗ pt c waM f12 ∗ (∃ W, owes (c : Thread nD τ) 0 W)
        ∗ pt c (dst i) g0 ∗ flight c p0 h0 f13
        ∗ ((rest c arg2 arg3 arg4 arg7 arg8 f2 f3 f4 O7 O8
        ∗ pt c p0 h0 ∗ pt c (dst i) ((dst i).view.writes (Elt F) g0 [⟨Rect.whole S2048x512, D0⟩])
          ∗ landed c) -∗ K ⟨⟩))
      ⊢ wp frame (wpE (defs₀ (F := F)) Variants.none c none) Set.univ (body i arg2 harg2 arg3 harg3 arg4 harg4 arg7 harg7 arg8 harg8) K) := by
  refine ⟨?_, ?_, ?_, ⟨fun hc1 hc2 hc3 hc4 hc5 hc6 g0 p0 h0 K => ?run⟩⟩
  case run =>
  unfold body
  simp only [cc0_conv_b_bwd_eq_skeleton]; unfold cc0_conv_b_bwd_skel
  iintro ⟨H2, H3, H4, H7, H8, H9, H10, H11, H12, ⟨%W, HO⟩, HD0, HQ0, HK⟩
  sl_exec
  sl_step
  iapply HK
  isplitl [H2 H3 H4 H7 H8 H9 H10 H11 H12 HO]
  · isplitl [H2]; · iexact H2
    isplitl [H3]; · iexact H3
    isplitl [H4]; · iexact H4
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iexists _; iexact HO
  isplitl [HQ0_dst]; · iexact HQ0_dst
  isplitl [HD0]; · iexact HD0
  isplitl [HQ0]; · iexact HQ0
  iexists _; iexact HQ0_src

end

end Cert.BwdConvBIdeal.ConvB

end
-- ==== Proof.ConvBStep.lean ====
module

public import proofs.«01_k».proof.Proof.ConvBRun
public import Idealize.ShloMosaic.Lib.ViewIndex

@[expose] public section

set_option maxRecDepth 16384
set_option maxHeartbeats 1000000

noncomputable section

/-! One point of the convolution gradient between two invariants. Between two points the result it copies into is held but for the
    window of the copy under way, which the copy will hand back. -/

namespace Cert.BwdConvBIdeal.ConvB

open Cert.BwdConvBIdeal Cert.BwdConvBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-- What is not in one of two disjoint sets is the other and what is in neither. -/
theorem sdiff_join {α : Type} [Fintype α] [DecidableEq α] {A B : Finset α} (h : Disjoint A B) :
    Finset.univ \ B = A ∪ ((Finset.univ \ A) \ B) := by
  ext i
  have := fun hi : i ∈ A => Finset.disjoint_left.mp h hi
  simp only [Finset.mem_sdiff, Finset.mem_univ, true_and, Finset.mem_union]
  tauto

/-- A set and what is in neither it nor another are disjoint. -/
theorem disjoint_rest {α : Type} [Fintype α] [DecidableEq α] (A B : Finset α) : Disjoint A ((Finset.univ \ A) \ B) :=
  Finset.disjoint_left.mpr fun i hi hm => (Finset.mem_sdiff.mp (Finset.mem_sdiff.mp hm).1).2 hi

/-- A set disjoint from another lies off it. -/
theorem sub_rest {α : Type} [Fintype α] [DecidableEq α] {A B : Finset α} (h : Disjoint A B) : B ⊆ Finset.univ \ A :=
  fun i hi => Finset.mem_sdiff.mpr ⟨Finset.mem_univ _, fun hm => Finset.disjoint_left.mp h hm hi⟩

/-! ## The memrefs of a point, and which conditions hold there -/

abbrev a2 (t : Fin cfg0.N) : Memref sig .tc .vmem S2048x512 .f32 := win0_0.stage (cfg0.slots t 0)
abbrev a3 (t : Fin cfg0.N) : Memref sig .tc .vmem S2048x512 .bf16 := win0_1.stage (cfg0.slots t 1)
abbrev a4 (t : Fin cfg0.N) : Memref sig .tc .vmem S8x512 .f32 := win0_2.stage (cfg0.slots t 2)
abbrev a7 (t : Fin cfg0.N) : Memref sig .tc .vmem S8x512 .f32 := win0_3.stage (cfg0.slots t 3)
abbrev a8 (t : Fin cfg0.N) : Memref sig .tc .vmem S1x512 .f32 := win0_4.stage (cfg0.slots t 4)
theorem ha2 (t : Fin cfg0.N) : (a2 t).IsWhole := hstage0_0 ((cfg0.slots t 0).cast nbuf0_0)
theorem ha3 (t : Fin cfg0.N) : (a3 t).IsWhole := hstage0_1 ((cfg0.slots t 1).cast nbuf0_1)
theorem ha4 (t : Fin cfg0.N) : (a4 t).IsWhole := hstage0_2 ((cfg0.slots t 2).cast nbuf0_2)
theorem ha7 (t : Fin cfg0.N) : (a7 t).IsWhole := hstage0_3 ((cfg0.slots t 3).cast nbuf0_3)
theorem ha8 (t : Fin cfg0.N) : (a8 t).IsWhole := hstage0_4 ((cfg0.slots t 4).cast nbuf0_4)

/-- The coordinates of a point. -/
abbrev co (t : Fin cfg0.N) : grid0.Coords := grid0.coords t

theorem cond1_iff : ∀ t : Fin grid0.N, k0_cond1 (grid0.coords t) = 1#1 ↔ t.val ≠ 0 := by decide +kernel
theorem cond2_iff : ∀ t : Fin grid0.N, k0_cond2 (grid0.coords t) = 1#1 ↔ t.val = 5 := by decide +kernel
theorem cond3_iff : ∀ t : Fin grid0.N, k0_cond3 (grid0.coords t) = 1#1 ↔ t.val % 2 = 0 := by decide +kernel
theorem cond4_iff : ∀ t : Fin grid0.N, k0_cond4 (grid0.coords t) = 1#1 ↔ t.val % 2 ≠ 0 := by decide +kernel
theorem cond5_iff : ∀ t : Fin grid0.N, k0_cond5 (grid0.coords t) = 1#1 ↔ t.val % 2 = 0 := by decide +kernel
theorem cond6_iff : ∀ t : Fin grid0.N, k0_cond6 (grid0.coords t) = 1#1 ↔ t.val % 2 ≠ 0 := by decide +kernel

/-- A point's window of the result starts at this row and column. -/
theorem off_row : ∀ t : Fin grid0.N, k0_off4 (grid0.coords t) 0 = t.val % 2 * 2048 := by decide +kernel
theorem off_col : ∀ t : Fin grid0.N, k0_off4 (grid0.coords t) 1 = (4 + t.val / 2) * 512 := by decide +kernel

/-- The elements a point's copy fills. -/
abbrev win (t : Fin cfg0.N) : Finset (dzM.view.ty.Idx) := (dst (co t)).view.set

theorem win_disjoint {t t' : Fin cfg0.N} (h : t.val % 2 ≠ t'.val % 2) : Disjoint (win t) (win t') := by
  refine View.disjoint_slice (v := dzM.view) (Rect.disjoint_of_separated _ _ (0 : Fin 2) ?_)
  have e := off_row t; have e' := off_row t'
  have hs : ∀ t : Fin cfg0.N, (Rect.unit (s := S4096x7168) (k0_off4 (co t)) S2048x512.size (k0_off4_inb (co t))).off 0 = t.val % 2 * 2048 := off_row
  have h1 : (Rect.unit (s := S4096x7168) (k0_off4 (co t)) S2048x512.size (k0_off4_inb (co t))).stride 0 = 1 := rfl
  have h2 : (Rect.unit (s := S4096x7168) (k0_off4 (co t')) S2048x512.size (k0_off4_inb (co t'))).stride 0 = 1 := rfl
  have h3 : (Rect.unit (s := S4096x7168) (k0_off4 (co t)) S2048x512.size (k0_off4_inb (co t))).size 0 = 2048 := rfl
  have h4 : (Rect.unit (s := S4096x7168) (k0_off4 (co t')) S2048x512.size (k0_off4_inb (co t'))).size 0 = 2048 := rfl
  rw [hs t, hs t', h1, h2, h3, h4]
  omega

/-- The result with a point's window filled by `D`. -/
abbrev upd (t : Fin cfg0.N) (h : BufTy.Contents (Elt F) dzM.view.ty) (D : S2048x512.Idx → Elt F .bf16) : BufTy.Contents (Elt F) dzM.view.ty :=
  (dst (co t)).view.writes (Elt F) h [⟨Rect.whole S2048x512, D⟩]

theorem upd_off (t : Fin cfg0.N) (h : BufTy.Contents (Elt F) dzM.view.ty) (D : S2048x512.Idx → Elt F .bf16) {i : dzM.view.ty.Idx}
    (hi : i ∉ win t) : upd t h D i = h i := by
  unfold upd
  rw [View.writes_cons, View.writes_nil]
  refine View.write_of_not_mem (v := (dst (co t)).view.slice (Rect.whole S2048x512)) _ _ _ ?_
  intro hm
  rw [View.setOn_univ] at hm
  exact hi (View.set_slice_subset _ _ hm)

/-! ## The invariant -/

/-- The result whole, the cells at zero and the staging buffer at hand: no copy is under way. -/
abbrev dzWhole (c : Dev nD) (h : BufTy.Contents (Elt F) dzM.view.ty) : sProp 𝕄 :=
  iprop((dzM.view.loc (c : Thread nD τ) ↦{fullShare} h) ∗ landed c)

/-- The copy of point `t` under way, the rest of the result at hand. -/
abbrev dzPart (c : Dev nD) (t : Fin cfg0.N) (h : BufTy.Contents (Elt F) dzM.view.ty) : sProp 𝕄 :=
  iprop((dzM.view.loc (c : Thread nD τ) ↦[Finset.univ \ win t]{fullShare} h) ∗ flying c (dst (co t)) h)

/-- After `p` points, the result at `h` once the copy under way lands. -/
def held (c : Dev nD) (p : ℕ) (h : BufTy.Contents (Elt F) dzM.view.ty) : sProp 𝕄 :=
  if hp : 0 < p ∧ p < 6 then dzPart c ⟨p - 1, by have := N_0; show p - 1 < grid0.N; omega⟩ h else dzWhole c h

/-- The scratch the points pass nothing on in. -/
abbrev scr (c : Dev nD) : sProp 𝕄 :=
  iprop((∃ f, pt c pdyM f) ∗ (∃ f, pt c puM f) ∗ (∃ f, pt c duM f) ∗ (∃ f, pt c waM f))

theorem held_zero (c : Dev nD) (h : BufTy.Contents (Elt F) dzM.view.ty) : (held c 0 h : sProp 𝕄) = dzWhole c h := dif_neg (by omega)
theorem held_six (c : Dev nD) (h : BufTy.Contents (Elt F) dzM.view.ty) : (held c 6 h : sProp 𝕄) = dzWhole c h := dif_neg (by omega)
theorem held_succ (c : Dev nD) (t : Fin cfg0.N) (ht : t.val < 5) (h : BufTy.Contents (Elt F) dzM.view.ty) :
    (held c (t.val + 1) h : sProp 𝕄) = dzPart c t h := dif_pos ⟨by omega, by omega⟩

/-! ## What a point computes -/

/-- `O7`, `O8` and `D` are what the run of point `t` finds from these blocks and some scratch. -/
def Ran (c : Dev nD) (t : Fin cfg0.N) (f2 : BufTy.Contents (Elt F) (a2 t).view.ty) (f3 : BufTy.Contents (Elt F) (a3 t).view.ty)
    (f4 : BufTy.Contents (Elt F) (a4 t).view.ty) (f7 : BufTy.Contents (Elt F) (a7 t).view.ty) (f8 : BufTy.Contents (Elt F) (a8 t).view.ty)
    (O7 : BufTy.Contents (Elt F) (a7 t).view.ty) (O8 : BufTy.Contents (Elt F) (a8 t).view.ty) (D : S2048x512.Idx → Elt F .bf16) : Prop :=
  ∃ (f9 f10 : BufTy.Contents (Elt F) pdyM.view.ty) (f11 : BufTy.Contents (Elt F) duM.view.ty) (f12 : BufTy.Contents (Elt F) waM.view.ty)
    (f13 : BufTy.Contents (Elt F) obM.view.ty),
    (t.val = 0 ∧ O7 = (runA c (co t) (a2 t) (ha2 t) (a3 t) (ha3 t) (a4 t) (ha4 t) (a7 t) (ha7 t) (a8 t) (ha8 t) f2 f3 f4 f7 f8 f9 f10 f11 f12 f13).1
        ∧ O8 = (runA c (co t) (a2 t) (ha2 t) (a3 t) (ha3 t) (a4 t) (ha4 t) (a7 t) (ha7 t) (a8 t) (ha8 t) f2 f3 f4 f7 f8 f9 f10 f11 f12 f13).2.1
        ∧ D = (runA c (co t) (a2 t) (ha2 t) (a3 t) (ha3 t) (a4 t) (ha4 t) (a7 t) (ha7 t) (a8 t) (ha8 t) f2 f3 f4 f7 f8 f9 f10 f11 f12 f13).2.2.1)
    ∨ (t.val ≠ 0 ∧ t.val % 2 = 0 ∧ O7 = (runC c (co t) (a2 t) (ha2 t) (a3 t) (ha3 t) (a4 t) (ha4 t) (a7 t) (ha7 t) (a8 t) (ha8 t) f2 f3 f4 f7 f8 f9 f10 f11 f12 f13).1
        ∧ O8 = (runC c (co t) (a2 t) (ha2 t) (a3 t) (ha3 t) (a4 t) (ha4 t) (a7 t) (ha7 t) (a8 t) (ha8 t) f2 f3 f4 f7 f8 f9 f10 f11 f12 f13).2.1
        ∧ D = (runC c (co t) (a2 t) (ha2 t) (a3 t) (ha3 t) (a4 t) (ha4 t) (a7 t) (ha7 t) (a8 t) (ha8 t) f2 f3 f4 f7 f8 f9 f10 f11 f12 f13).2.2.1)
    ∨ (t.val % 2 = 1 ∧ t.val ≠ 5 ∧ O7 = (runB c (co t) (a2 t) (ha2 t) (a3 t) (ha3 t) (a4 t) (ha4 t) (a7 t) (ha7 t) (a8 t) (ha8 t) f2 f3 f4 f7 f8 f9 f10 f11 f12 f13).1
        ∧ O8 = (runB c (co t) (a2 t) (ha2 t) (a3 t) (ha3 t) (a4 t) (ha4 t) (a7 t) (ha7 t) (a8 t) (ha8 t) f2 f3 f4 f7 f8 f9 f10 f11 f12 f13).2.1
        ∧ D = (runB c (co t) (a2 t) (ha2 t) (a3 t) (ha3 t) (a4 t) (ha4 t) (a7 t) (ha7 t) (a8 t) (ha8 t) f2 f3 f4 f7 f8 f9 f10 f11 f12 f13).2.2.1)
    ∨ (t.val = 5 ∧ O7 = (runD c (co t) (a2 t) (ha2 t) (a3 t) (ha3 t) (a4 t) (ha4 t) (a7 t) (ha7 t) (a8 t) (ha8 t) f2 f3 f4 f7 f8 f9 f10 f11 f12 f13).1
        ∧ O8 = (runD c (co t) (a2 t) (ha2 t) (a3 t) (ha3 t) (a4 t) (ha4 t) (a7 t) (ha7 t) (a8 t) (ha8 t) f2 f3 f4 f7 f8 f9 f10 f11 f12 f13).2.1
        ∧ D = (runD c (co t) (a2 t) (ha2 t) (a3 t) (ha3 t) (a4 t) (ha4 t) (a7 t) (ha7 t) (a8 t) (ha8 t) f2 f3 f4 f7 f8 f9 f10 f11 f12 f13).2.2.1)

section
variable (c : Dev nD) (t : Fin cfg0.N) (f2 : BufTy.Contents (Elt F) (a2 t).view.ty) (f3 : BufTy.Contents (Elt F) (a3 t).view.ty)
    (f4 : BufTy.Contents (Elt F) (a4 t).view.ty) (f7 : BufTy.Contents (Elt F) (a7 t).view.ty) (f8 : BufTy.Contents (Elt F) (a8 t).view.ty)
    (h : BufTy.Contents (Elt F) dzM.view.ty)

/-- What a point is entered with. -/
abbrev entry : sProp 𝕄 :=
  iprop(held c t.val h ∗ scr c ∗ (∃ W, owes (c : Thread nD τ) 0 W)
    ∗ pt c (a2 t) f2 ∗ pt c (a3 t) f3 ∗ pt c (a4 t) f4 ∗ pt c (a7 t) f7 ∗ pt c (a8 t) f8)

/-- What it is left with. -/
abbrev exit : sProp 𝕄 :=
  iprop(∃ O7 O8 D, ⌜Ran c t f2 f3 f4 f7 f8 O7 O8 D⌝ ∗ held c (t.val + 1) (upd t h D) ∗ scr c ∗ (∃ W, owes (c : Thread nD τ) 0 W)
    ∗ pt c (a2 t) f2 ∗ pt c (a3 t) f3 ∗ pt c (a4 t) f4 ∗ pt c (a7 t) O7 ∗ pt c (a8 t) O8)

/-- The result but for a window that is not held, filled, is the result filled but for the window. -/
theorem rest_upd (D : S2048x512.Idx → Elt F .bf16) :
    ((dzM.view.loc (c : Thread nD τ) ↦[Finset.univ \ win t]{fullShare} h : sProp 𝕄))
      = (dzM.view.loc (c : Thread nD τ) ↦[Finset.univ \ win t]{fullShare} upd t h D) :=
  pointsTo_congr fun i hi => (upd_off t h D (Finset.mem_sdiff.mp hi).2).symm

/-- The result is a window and the rest. -/
theorem whole_split :
    ((dzM.view.loc (c : Thread nD τ) ↦{fullShare} h : sProp 𝕄))
      ⊣⊢ iprop(pt c (dst (co t)) h ∗ dzM.view.loc (c : Thread nD τ) ↦[Finset.univ \ win t]{fullShare} h) :=
  pointsTo_split_subset (Finset.subset_univ _)

/-- The result but for one window is another window and the rest. -/
theorem part_split {t' : Fin cfg0.N} (hd : t'.val % 2 ≠ t.val % 2) :
    ((dzM.view.loc (c : Thread nD τ) ↦[Finset.univ \ win t']{fullShare} h : sProp 𝕄))
      ⊣⊢ iprop(pt c (dst (co t)) h ∗ dzM.view.loc (c : Thread nD τ) ↦[(Finset.univ \ win t') \ win t]{fullShare} h) :=
  pointsTo_split_subset (sub_rest (win_disjoint hd))

/-- A window handed back joins the rest. -/
theorem part_join {t' : Fin cfg0.N} (hd : t'.val % 2 ≠ t.val % 2) :
    iprop(pt c (dst (co t')) h ∗ dzM.view.loc (c : Thread nD τ) ↦[(Finset.univ \ win t') \ win t]{fullShare} h)
      ⊢ (dzM.view.loc (c : Thread nD τ) ↦[Finset.univ \ win t]{fullShare} h : sProp 𝕄) := by
  rw [sdiff_join (win_disjoint hd)]
  exact (pointsTo_union (disjoint_rest _ _)).2
end

end Cert.BwdConvBIdeal.ConvB

end
-- ==== Proof.ConvBPoint.lean ====
module

public import proofs.«01_k».proof.Proof.ConvBStep

@[expose] public section

set_option maxRecDepth 16384
set_option maxHeartbeats 1000000

noncomputable section

/-! The body at one point, from the invariant before it to the invariant after it. -/

namespace Cert.BwdConvBIdeal.ConvB

open Cert.BwdConvBIdeal Cert.BwdConvBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (c : Dev nD) (t : Fin cfg0.N) (f2 : BufTy.Contents (Elt F) (a2 t).view.ty) (f3 : BufTy.Contents (Elt F) (a3 t).view.ty)
    (f4 : BufTy.Contents (Elt F) (a4 t).view.ty) (f7 : BufTy.Contents (Elt F) (a7 t).view.ty) (f8 : BufTy.Contents (Elt F) (a8 t).view.ty)
    (h : BufTy.Contents (Elt F) dzM.view.ty)

/-- The body on the memrefs of point `t`. -/
abbrev bodyOf (t : Fin cfg0.N) : Prog (TpuEff nD τ sig (Elt F) Λ₀ .tc) PUnit :=
  body (co t) (a2 t) (ha2 t) (a3 t) (ha3 t) (a4 t) (ha4 t) (a7 t) (ha7 t) (a8 t) (ha8 t)

/-- The first point. -/
theorem stepA (ht : t.val = 0) :
    entry c t f2 f3 f4 f7 f8 h ⊢ wp frame (wpE (defs₀ (F := F)) Variants.none c none) Set.univ (bodyOf t) (fun _ => exit c t f2 f3 f4 f7 f8 h) := by
  have hN : t.val < 6 := lt_of_lt_of_eq t.isLt N_0
  unfold entry
  rw [ht, held_zero]
  iintro ⟨⟨HZ, ⟨HC, ⟨%f13, H13⟩⟩⟩, ⟨⟨%f9, H9⟩, ⟨%f10, H10⟩, ⟨%f11, H11⟩, ⟨%f12, H12⟩⟩, HO, H2, H3, H4, H7, H8⟩
  ihave HZ := (whole_split c t h).1 $$ HZ
  icases HZ with ⟨HD, HR⟩
  iapply ((runA c (co t) (a2 t) (ha2 t) (a3 t) (ha3 t) (a4 t) (ha4 t) (a7 t) (ha7 t) (a8 t) (ha8 t) f2 f3 f4 f7 f8 f9 f10 f11 f12 f13).2.2.2.down ?c1 ?c2 ?c3 ?c4 ?c5 ?c6 h _)
  case c1 => exact fun hc => absurd ((cond1_iff t).mp hc) (by omega)
  case c2 => exact fun hc => absurd ((cond2_iff t).mp hc) (by omega)
  case c3 => exact (cond3_iff t).mpr (by omega)
  case c4 => exact fun hc => absurd ((cond4_iff t).mp hc) (by omega)
  case c5 => exact (cond5_iff t).mpr (by omega)
  case c6 => exact fun hc => absurd ((cond6_iff t).mp hc) (by omega)
  isplitl [H2]; · iexact H2
  isplitl [H3]; · iexact H3
  isplitl [H4]; · iexact H4
  isplitl [H7]; · iexact H7
  isplitl [H8]; · iexact H8
  isplitl [H9]; · iexact H9
  isplitl [H10]; · iexact H10
  isplitl [H11]; · iexact H11
  isplitl [H12]; · iexact H12
  isplitl [HO]; · iexact HO
  isplitl [HD]; · iexact HD
  isplitl [HC]; · iexact HC
  isplitl [H13]; · iexact H13
  iintro ⟨⟨H2, H3, H4, H7, H8, H9, H10, H11, H12, HO⟩, HF⟩
  unfold exit
  iexists _, _, _
  isplitr
  · ipureintro
    exact ⟨f9, f10, f11, f12, f13, Or.inl ⟨ht, rfl, rfl, rfl⟩⟩
  ihave HR := (Entails.of_eq (rest_upd c t h ((runA c (co t) (a2 t) (ha2 t) (a3 t) (ha3 t) (a4 t) (ha4 t) (a7 t) (ha7 t) (a8 t) (ha8 t) f2 f3 f4 f7 f8 f9 f10 f11 f12 f13).2.2.1))) $$ HR
  rw [held_succ c t (by omega)]
  isplitl [HR HF]
  · isplitl [HR]; · iexact HR
    iexact HF
  isplitl [H9 H10 H11 H12]
  · isplitl [H9]; · iexact H9
    isplitl [H10]; · iexact H10
    isplitl [H11]; · iexact H11
    iexact H12
  isplitl [HO]; · iexact HO
  isplitl [H2]; · iexact H2
  isplitl [H3]; · iexact H3
  isplitl [H4]; · iexact H4
  isplitl [H7]; · iexact H7
  iexact H8

/-- A later point that begins the sums of its columns. -/
theorem stepC (h0 : t.val ≠ 0) (h1 : t.val % 2 = 0) :
    entry c t f2 f3 f4 f7 f8 h ⊢ wp frame (wpE (defs₀ (F := F)) Variants.none c none) Set.univ (bodyOf t) (fun _ => exit c t f2 f3 f4 f7 f8 h) := by
  have hN : t.val < 6 := lt_of_lt_of_eq t.isLt N_0
  obtain ⟨t', hv⟩ : ∃ t' : Fin cfg0.N, t.val = t'.val + 1 := ⟨⟨t.val - 1, lt_of_le_of_lt (Nat.sub_le _ _) t.isLt⟩, by show t.val = t.val - 1 + 1; omega⟩
  have hd : t'.val % 2 ≠ t.val % 2 := by omega
  have hheld : (held c t.val h : sProp 𝕄) = dzPart c t' h := by rw [hv, held_succ c t' (by omega)]
  unfold entry
  rw [hheld]
  iintro ⟨⟨HZ, ⟨%f13, HF⟩⟩, ⟨⟨%f9, H9⟩, ⟨%f10, H10⟩, ⟨%f11, H11⟩, ⟨%f12, H12⟩⟩, HO, H2, H3, H4, H7, H8⟩
  ihave HZ := (part_split c t h hd).1 $$ HZ
  icases HZ with ⟨HD, HR⟩
  iapply ((runC c (co t) (a2 t) (ha2 t) (a3 t) (ha3 t) (a4 t) (ha4 t) (a7 t) (ha7 t) (a8 t) (ha8 t) f2 f3 f4 f7 f8 f9 f10 f11 f12 f13).2.2.2.down ?c1 ?c2 ?c3 ?c4 ?c5 ?c6 h (dst (co t')) h _)
  case c1 => exact (cond1_iff t).mpr (by omega)
  case c2 => exact fun hc => absurd ((cond2_iff t).mp hc) (by omega)
  case c3 => exact (cond3_iff t).mpr (by omega)
  case c4 => exact fun hc => absurd ((cond4_iff t).mp hc) (by omega)
  case c5 => exact (cond5_iff t).mpr (by omega)
  case c6 => exact fun hc => absurd ((cond6_iff t).mp hc) (by omega)
  isplitl [H2]; · iexact H2
  isplitl [H3]; · iexact H3
  isplitl [H4]; · iexact H4
  isplitl [H7]; · iexact H7
  isplitl [H8]; · iexact H8
  isplitl [H9]; · iexact H9
  isplitl [H10]; · iexact H10
  isplitl [H11]; · iexact H11
  isplitl [H12]; · iexact H12
  isplitl [HO]; · iexact HO
  isplitl [HD]; · iexact HD
  isplitl [HF]; · iexact HF
  iintro ⟨⟨H2, H3, H4, H7, H8, H9, H10, H11, H12, HO⟩, HP, HF⟩
  unfold exit
  iexists _, _, _
  isplitr
  · ipureintro
    exact ⟨f9, f10, f11, f12, f13, Or.inr (Or.inl ⟨h0, h1, rfl, rfl, rfl⟩)⟩
  ihave HR := (part_join c t h hd) $$ [HP HR]
  · isplitl [HP]; · iexact HP
    iexact HR
  ihave HR := (Entails.of_eq (rest_upd c t h ((runC c (co t) (a2 t) (ha2 t) (a3 t) (ha3 t) (a4 t) (ha4 t) (a7 t) (ha7 t) (a8 t) (ha8 t) f2 f3 f4 f7 f8 f9 f10 f11 f12 f13).2.2.1))) $$ HR
  rw [held_succ c t (by omega)]
  isplitl [HR HF]
  · isplitl [HR]; · iexact HR
    iexact HF
  isplitl [H9 H10 H11 H12]
  · isplitl [H9]; · iexact H9
    isplitl [H10]; · iexact H10
    isplitl [H11]; · iexact H11
    iexact H12
  isplitl [HO]; · iexact HO
  isplitl [H2]; · iexact H2
  isplitl [H3]; · iexact H3
  isplitl [H4]; · iexact H4
  isplitl [H7]; · iexact H7
  iexact H8

/-- A point before the last that ends them. -/
theorem stepB (h1 : t.val % 2 = 1) (h5 : t.val ≠ 5) :
    entry c t f2 f3 f4 f7 f8 h ⊢ wp frame (wpE (defs₀ (F := F)) Variants.none c none) Set.univ (bodyOf t) (fun _ => exit c t f2 f3 f4 f7 f8 h) := by
  have hN : t.val < 6 := lt_of_lt_of_eq t.isLt N_0
  obtain ⟨t', hv⟩ : ∃ t' : Fin cfg0.N, t.val = t'.val + 1 := ⟨⟨t.val - 1, lt_of_le_of_lt (Nat.sub_le _ _) t.isLt⟩, by show t.val = t.val - 1 + 1; omega⟩
  have hd : t'.val % 2 ≠ t.val % 2 := by omega
  have hheld : (held c t.val h : sProp 𝕄) = dzPart c t' h := by rw [hv, held_succ c t' (by omega)]
  unfold entry
  rw [hheld]
  iintro ⟨⟨HZ, ⟨%f13, HF⟩⟩, ⟨⟨%f9, H9⟩, ⟨%f10, H10⟩, ⟨%f11, H11⟩, ⟨%f12, H12⟩⟩, HO, H2, H3, H4, H7, H8⟩
  ihave HZ := (part_split c t h hd).1 $$ HZ
  icases HZ with ⟨HD, HR⟩
  iapply ((runB c (co t) (a2 t) (ha2 t) (a3 t) (ha3 t) (a4 t) (ha4 t) (a7 t) (ha7 t) (a8 t) (ha8 t) f2 f3 f4 f7 f8 f9 f10 f11 f12 f13).2.2.2.down ?c1 ?c2 ?c3 ?c4 ?c5 ?c6 h (dst (co t')) h _)
  case c1 => exact (cond1_iff t).mpr (by omega)
  case c2 => exact fun hc => absurd ((cond2_iff t).mp hc) (by omega)
  case c3 => exact fun hc => absurd ((cond3_iff t).mp hc) (by omega)
  case c4 => exact (cond4_iff t).mpr (by omega)
  case c5 => exact fun hc => absurd ((cond5_iff t).mp hc) (by omega)
  case c6 => exact (cond6_iff t).mpr (by omega)
  isplitl [H2]; · iexact H2
  isplitl [H3]; · iexact H3
  isplitl [H4]; · iexact H4
  isplitl [H7]; · iexact H7
  isplitl [H8]; · iexact H8
  isplitl [H9]; · iexact H9
  isplitl [H10]; · iexact H10
  isplitl [H11]; · iexact H11
  isplitl [H12]; · iexact H12
  isplitl [HO]; · iexact HO
  isplitl [HD]; · iexact HD
  isplitl [HF]; · iexact HF
  iintro ⟨⟨H2, H3, H4, H7, H8, H9, H10, H11, H12, HO⟩, HP, HF⟩
  unfold exit
  iexists _, _, _
  isplitr
  · ipureintro
    exact ⟨f9, f10, f11, f12, f13, Or.inr (Or.inr (Or.inl ⟨h1, h5, rfl, rfl, rfl⟩))⟩
  ihave HR := (part_join c t h hd) $$ [HP HR]
  · isplitl [HP]; · iexact HP
    iexact HR
  ihave HR := (Entails.of_eq (rest_upd c t h ((runB c (co t) (a2 t) (ha2 t) (a3 t) (ha3 t) (a4 t) (ha4 t) (a7 t) (ha7 t) (a8 t) (ha8 t) f2 f3 f4 f7 f8 f9 f10 f11 f12 f13).2.2.1))) $$ HR
  rw [held_succ c t (by omega)]
  isplitl [HR HF]
  · isplitl [HR]; · iexact HR
    iexact HF
  isplitl [H9 H10 H11 H12]
  · isplitl [H9]; · iexact H9
    isplitl [H10]; · iexact H10
    isplitl [H11]; · iexact H11
    iexact H12
  isplitl [HO]; · iexact HO
  isplitl [H2]; · iexact H2
  isplitl [H3]; · iexact H3
  isplitl [H4]; · iexact H4
  isplitl [H7]; · iexact H7
  iexact H8

/-- The last point. -/
theorem stepD (h5 : t.val = 5) :
    entry c t f2 f3 f4 f7 f8 h ⊢ wp frame (wpE (defs₀ (F := F)) Variants.none c none) Set.univ (bodyOf t) (fun _ => exit c t f2 f3 f4 f7 f8 h) := by
  have hN : t.val < 6 := lt_of_lt_of_eq t.isLt N_0
  obtain ⟨t', hv⟩ : ∃ t' : Fin cfg0.N, t.val = t'.val + 1 := ⟨⟨t.val - 1, lt_of_le_of_lt (Nat.sub_le _ _) t.isLt⟩, by show t.val = t.val - 1 + 1; omega⟩
  have hd : t'.val % 2 ≠ t.val % 2 := by omega
  have hheld : (held c t.val h : sProp 𝕄) = dzPart c t' h := by rw [hv, held_succ c t' (by omega)]
  unfold entry
  rw [hheld]
  iintro ⟨⟨HZ, ⟨%f13, HF⟩⟩, ⟨⟨%f9, H9⟩, ⟨%f10, H10⟩, ⟨%f11, H11⟩, ⟨%f12, H12⟩⟩, HO, H2, H3, H4, H7, H8⟩
  ihave HZ := (part_split c t h hd).1 $$ HZ
  icases HZ with ⟨HD, HR⟩
  iapply ((runD c (co t) (a2 t) (ha2 t) (a3 t) (ha3 t) (a4 t) (ha4 t) (a7 t) (ha7 t) (a8 t) (ha8 t) f2 f3 f4 f7 f8 f9 f10 f11 f12 f13).2.2.2.down ?c1 ?c2 ?c3 ?c4 ?c5 ?c6 h (dst (co t')) h _)
  case c1 => exact (cond1_iff t).mpr (by omega)
  case c2 => exact (cond2_iff t).mpr (by omega)
  case c3 => exact fun hc => absurd ((cond3_iff t).mp hc) (by omega)
  case c4 => exact (cond4_iff t).mpr (by omega)
  case c5 => exact fun hc => absurd ((cond5_iff t).mp hc) (by omega)
  case c6 => exact (cond6_iff t).mpr (by omega)
  isplitl [H2]; · iexact H2
  isplitl [H3]; · iexact H3
  isplitl [H4]; · iexact H4
  isplitl [H7]; · iexact H7
  isplitl [H8]; · iexact H8
  isplitl [H9]; · iexact H9
  isplitl [H10]; · iexact H10
  isplitl [H11]; · iexact H11
  isplitl [H12]; · iexact H12
  isplitl [HO]; · iexact HO
  isplitl [HD]; · iexact HD
  isplitl [HF]; · iexact HF
  iintro ⟨⟨H2, H3, H4, H7, H8, H9, H10, H11, H12, HO⟩, HP, HD, HL⟩
  unfold exit
  iexists _, _, _
  isplitr
  · ipureintro
    exact ⟨f9, f10, f11, f12, f13, Or.inr (Or.inr (Or.inr ⟨h5, rfl, rfl, rfl⟩))⟩
  ihave HR := (part_join c t h hd) $$ [HP HR]
  · isplitl [HP]; · iexact HP
    iexact HR
  ihave HR := (Entails.of_eq (rest_upd c t h ((runD c (co t) (a2 t) (ha2 t) (a3 t) (ha3 t) (a4 t) (ha4 t) (a7 t) (ha7 t) (a8 t) (ha8 t) f2 f3 f4 f7 f8 f9 f10 f11 f12 f13).2.2.1))) $$ HR
  ihave HZ := (whole_split c t (upd t h ((runD c (co t) (a2 t) (ha2 t) (a3 t) (ha3 t) (a4 t) (ha4 t) (a7 t) (ha7 t) (a8 t) (ha8 t) f2 f3 f4 f7 f8 f9 f10 f11 f12 f13).2.2.1))).2 $$ [HD HR]
  · isplitl [HD]; · iexact HD
    iexact HR
  rw [show t.val + 1 = 6 by omega, held_six]
  isplitl [HZ HL]
  · isplitl [HZ]; · iexact HZ
    iexact HL
  isplitl [H9 H10 H11 H12]
  · isplitl [H9]; · iexact H9
    isplitl [H10]; · iexact H10
    isplitl [H11]; · iexact H11
    iexact H12
  isplitl [HO]; · iexact HO
  isplitl [H2]; · iexact H2
  isplitl [H3]; · iexact H3
  isplitl [H4]; · iexact H4
  isplitl [H7]; · iexact H7
  iexact H8

/-- Any point. -/
theorem step :
    entry c t f2 f3 f4 f7 f8 h ⊢ wp frame (wpE (defs₀ (F := F)) Variants.none c none) Set.univ (bodyOf t) (fun _ => exit c t f2 f3 f4 f7 f8 h) := by
  by_cases h0 : t.val = 0
  · exact stepA c t f2 f3 f4 f7 f8 h h0
  by_cases h5 : t.val = 5
  · exact stepD c t f2 f3 f4 f7 f8 h h5
  by_cases h1 : t.val % 2 = 0
  · exact stepC c t f2 f3 f4 f7 f8 h h0 h1
  · exact stepB c t f2 f3 f4 f7 f8 h (by omega) h5

end Cert.BwdConvBIdeal.ConvB

end
-- ==== Proof.ConvBFrame.lean ====
module

public import proofs.«01_k».proof.Proof.ConvBPoint
public import Idealize.ShloMosaic.Lib.Pipeline.Frame

@[expose] public section

set_option maxRecDepth 16384
set_option maxHeartbeats 1000000

noncomputable section

/-! The frame of the convolution gradient: every run ends, with the arguments as they were. The two sums it leaves in its blocks and the
    result it copies into are held at something. -/

namespace Cert.BwdConvBIdeal.ConvB

open Cert.BwdConvBIdeal Cert.BwdConvBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's own cells and the buffer it writes -/

abbrev osem0 : Fin 2 → SemLoc sig := fun j => (![SemLoc.dma 10, SemLoc.dma 11] : Fin 2 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl

/-- The buffer it writes by its own copies. -/
def Rz : Finset (Ref sig .tc) := {main_v1_0}
theorem Rz_sub : Rz ⊆ Pipeline.restRefs sig spec0 \ ∅ := by decide

theorem owned_eq (c : Dev nD) :
    (Pipeline.owned Rz c : sProp 𝕄)
      = iprop(∃ f, (dzM.view.loc (c : Thread nD τ)) ↦{fullShare} f) := by
  unfold Pipeline.owned
  rw [BI.bigSep_eq_bigSepL_of_eq [main_v1_0] (by decide) (by decide)]; rfl

/-- What is held between two points besides the blocks, the result at `h` once a copy under way lands. -/
abbrev inv (c : Dev nD) (p : ℕ) (h : BufTy.Contents (Elt F) dzM.view.ty) : sProp 𝕄 :=
  iprop(held c p h ∗ scr c ∗ (∃ r, prngReg c r) ∗ semVal ((c : Thread nD τ), SemLoc.dma 11) 0)

/-- The same, the result at anything. -/
abbrev invAny (c : Dev nD) (p : ℕ) : sProp 𝕄 := iprop(∃ h, inv c p h)

/-! A scratch buffer is held whole. -/

theorem pt_pdy (c : Dev nD) (f : BufTy.Contents (Elt F) pdyM.view.ty) :
    (pt c pdyM f : sProp 𝕄) = (((c : Thread nD τ).loc cc0_scratch0) ↦{fullShare} f) :=
  congrArg (fun S => ((c : Thread nD τ).loc cc0_scratch0 ↦[S]{fullShare} f : sProp 𝕄)) (View.set_whole cc0_scratch0)
theorem pt_pu (c : Dev nD) (f : BufTy.Contents (Elt F) puM.view.ty) :
    (pt c puM f : sProp 𝕄) = (((c : Thread nD τ).loc cc0_scratch1) ↦{fullShare} f) :=
  congrArg (fun S => ((c : Thread nD τ).loc cc0_scratch1 ↦[S]{fullShare} f : sProp 𝕄)) (View.set_whole cc0_scratch1)
theorem pt_du (c : Dev nD) (f : BufTy.Contents (Elt F) duM.view.ty) :
    (pt c duM f : sProp 𝕄) = (((c : Thread nD τ).loc cc0_scratch2) ↦{fullShare} f) :=
  congrArg (fun S => ((c : Thread nD τ).loc cc0_scratch2 ↦[S]{fullShare} f : sProp 𝕄)) (View.set_whole cc0_scratch2)
theorem pt_wa (c : Dev nD) (f : BufTy.Contents (Elt F) waM.view.ty) :
    (pt c waM f : sProp 𝕄) = (((c : Thread nD τ).loc cc0_scratch3) ↦{fullShare} f) :=
  congrArg (fun S => ((c : Thread nD τ).loc cc0_scratch3 ↦[S]{fullShare} f : sProp 𝕄)) (View.set_whole cc0_scratch3)
theorem pt_ob (c : Dev nD) (f : BufTy.Contents (Elt F) obM.view.ty) :
    (pt c obM f : sProp 𝕄) = (((c : Thread nD τ).loc cc0_scratch4) ↦{fullShare} f) :=
  congrArg (fun S => ((c : Thread nD τ).loc cc0_scratch4 ↦[S]{fullShare} f : sProp 𝕄)) (View.set_whole cc0_scratch4)

theorem phi_eq (c : Dev nD) (V : (c : Dev nD) → (b : Ref sig .tc) → Buf (Elt F) ((c.tc : Thread nD τ).loc b)) :
    (Pipeline.ΦDR osem0 spec0 ∅ Rz V c : sProp 𝕄)
      = iprop(iprop((∃ f, pt c pdyM f) ∗ (∃ f, pt c puM f) ∗ (∃ f, pt c duM f) ∗ (∃ f, pt c waM f) ∗ (∃ f, pt c obM f)) ∗ (∃ r, prngReg c r)
          ∗ iprop(semVal ((c : Thread nD τ), SemLoc.dma 10) 0 ∗ semVal ((c : Thread nD τ), SemLoc.dma 11) 0)
          ∗ emp ∗ (∃ f, (dzM.view.loc (c : Thread nD τ)) ↦{fullShare} f)) := by
  rw [Pipeline.ΦDR_eq, scopedRest0_eq, ownSems_eq, owned_eq, BI.bigSep_empty]
  simp only [pt_pdy, pt_pu, pt_du, pt_wa, pt_ob]
  rfl

theorem phi_in (c : Dev nD) (V : (c : Dev nD) → (b : Ref sig .tc) → Buf (Elt F) ((c.tc : Thread nD τ).loc b)) :
    (Pipeline.ΦDR osem0 spec0 ∅ Rz V c : sProp 𝕄) ⊢ invAny c 0 := by
  rw [phi_eq]
  simp only [invAny, inv, held_zero]
  iintro ⟨⟨H9, H10, H11, H12, H13⟩, HG, ⟨Hq, Hq'⟩, -, ⟨%f, HZ⟩⟩
  iexists f
  isplitl [HZ Hq H13]
  · isplitl [HZ]; · iexact HZ
    isplitl [Hq]; · iexact Hq
    iexact H13
  isplitl [H9 H10 H11 H12]
  · isplitl [H9]; · iexact H9
    isplitl [H10]; · iexact H10
    isplitl [H11]; · iexact H11
    iexact H12
  isplitl [HG]; · iexact HG
  iexact Hq'

theorem phi_out (c : Dev nD) (V : (c : Dev nD) → (b : Ref sig .tc) → Buf (Elt F) ((c.tc : Thread nD τ).loc b)) :
    invAny c 6 ⊢ (Pipeline.ΦDR osem0 spec0 ∅ Rz V c : sProp 𝕄) := by
  rw [phi_eq]
  simp only [invAny, inv, held_six]
  iintro ⟨%h, ⟨HZ, Hq, H13⟩, ⟨H9, H10, H11, H12⟩, HG, Hq'⟩
  isplitl [H9 H10 H11 H12 H13]
  · isplitl [H9]; · iexact H9
    isplitl [H10]; · iexact H10
    isplitl [H11]; · iexact H11
    isplitl [H12]; · iexact H12
    iexact H13
  isplitl [HG]; · iexact HG
  isplitl [Hq Hq']
  · isplitl [Hq]; · iexact Hq
    iexact Hq'
  isplitr
  · iempintro
  iexists h; iexact HZ

/-! ## The proof data and the body -/

/-- The two sums are left unnamed. -/
def fgt : Fin 5 → Bool := fun | 3 => true | 4 => true | _ => false

/-- The arrays as the region finds them; an input block left in place; an output unnamed; nothing owed. -/
def dats (_ : Fin 1) (c : Dev nD) : Dat τ (Elt F) Unit ℕ (Pipeline.UD sig nD τ) ℕ cfg0 c where
  A w := V m c (Pipeline.arrRef spec0 w)
  after w := match w with
    | 0 => iblk m c 0
    | 1 => iblk m c 1
    | 2 => iblk m c 2
    | 3 => Pipeline.Dat.unnamed (cfg := cfg0) 3
    | 4 => Pipeline.Dat.unnamed (cfg := cfg0) 4
  Φ t := invAny c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (a2 t) fullShare ((dats m 0 c).before 0 t d))
    ∗ (∃ d, owns (c : Thread nD τ) (a3 t) fullShare ((dats m 0 c).before 1 t d))
    ∗ (∃ d, owns (c : Thread nD τ) (a4 t) fullShare ((dats m 0 c).before 2 t d))
    ∗ (∃ X, owns (c : Thread nD τ) (a7 t) fullShare X) ∗ (∃ X, owns (c : Thread nD τ) (a8 t) fullShare X))
def bodyPost (c : Dev nD) (t : Fin cfg0.N) : sProp 𝕄 :=
  iprop((dats m 0 c).Φ t.succ ∗ (dats m 0 c).owesAt () t.succ
    ∗ owns (c : Thread nD τ) (a2 t) fullShare ((dats m 0 c).after 0 t)
    ∗ owns (c : Thread nD τ) (a3 t) fullShare ((dats m 0 c).after 1 t)
    ∗ owns (c : Thread nD τ) (a4 t) fullShare ((dats m 0 c).after 2 t)
    ∗ (∃ X, owns (c : Thread nD τ) (a7 t) fullShare X) ∗ (∃ X, owns (c : Thread nD τ) (a8 t) fullShare X))

theorem sound_body (c : Dev nD) (t : Fin cfg0.N) :
    bodyPre m c t ⊢ wp frame (wpE (defs₀ (F := F)) Variants.none c none) Set.univ (bodyOf t) (fun _ => bodyPost m c t) := by
  unfold bodyPre bodyPost
  rw [after0, after1, after2]
  simp only [before0, before1, before2]
  rw [show (dats m 0 c).Φ t.castSucc = invAny c t.val from rfl, show (dats m 0 c).Φ t.succ = invAny c (t.val + 1) from rfl]
  unfold Dat.owesAt Pipeline.owesWithin
  rw [show (dats m 0 c).owed t.castSucc = 0 from rfl, show (dats m 0 c).owed t.succ = 0 from rfl]
  unfold owns
  iintro ⟨⟨%h, HH, HS, HG, Hq⟩, ⟨%W, -, HO⟩, ⟨%_, %f2, %e2, H2⟩, ⟨%_, %f3, %e3, H3⟩, ⟨%_, %f4, %e4, H4⟩, ⟨%_, %f7, -, H7⟩, ⟨%_, %f8, -, H8⟩⟩
  iapply (wp_wand_r frame _ Set.univ)
  isplitl [HH HS HO H2 H3 H4 H7 H8]
  · iapply (step c t f2 f3 f4 f7 f8 h)
    unfold entry
    isplitl [HH]; · iexact HH
    isplitl [HS]; · iexact HS
    isplitl [HO]; · iexists W; iexact HO
    isplitl [H2]; · iexact H2
    isplitl [H3]; · iexact H3
    isplitl [H4]; · iexact H4
    isplitl [H7]; · iexact H7
    iexact H8
  unfold exit
  iintro %_ ⟨%O7, %O8, %D, -, HH, HS, ⟨%W', HO⟩, H2, H3, H4, H7, H8⟩
  isplitl [HH HS HG Hq]
  · iexists _
    isplitl [HH]; · iexact HH
    isplitl [HS]; · iexact HS
    isplitl [HG]; · iexact HG
    iexact Hq
  isplitl [HO]
  · iexists W'; isplitr; · ipureintro; exact fun _ _ => Or.inl trivial
    iexact HO
  isplitl [H2]; · iexists f2; isplitr; swap; · iexact H2
                  ipureintro; exact e2
  isplitl [H3]; · iexists f3; isplitr; swap; · iexact H3
                  ipureintro; exact e3
  isplitl [H4]; · iexists f4; isplitr; swap; · iexact H4
                  ipureintro; exact e4
  isplitl [H7]; · iexists _, _; isplitr; swap; · iexact H7
                  ipureintro; rfl
  iexists _, _; isplitr; swap; · iexact H8
  ipureintro; rfl

/-- The body table's row at the point is the body on the point's memrefs. -/
theorem defs₀_row (t : Fin cfg0.N) : defs₀ (F := F) .tc cfg0.body (cfg0.bodyArgs t (cfg0.slots t)) = bodyOf t := by
  unfold defs₀; rw [Defs.onTc_tc]

theorem body_obligation (c : Dev nD) :
    BodyObligation (dats (F := F) m 0 c) (defs₀ (F := F)) Variants.none () Set.univ fgt := fun t => by
  rw [bigSep_W0, bigSep_W0, defs₀_row]
  exact triple_restated (sound_body m c t) rfl .rfl fun _ => .rfl

/-! ## The launch -/

set_option maxHeartbeats 2000000 in
/-- @main up to the region: the lines of host operations, then the region. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

set_option backward.isDefEq.respectTransparency.types false in
/-- Every run of @main ends, with every buffer that is no output as the region found it. -/
theorem run_main :
    θ_run defs (onTc (τ := τ) (main (F := F))) (s₀ m ρ)
      (fun r => Pipeline.RDat.FramePostR (cfgs 0) (fun c => (dats m 0 c).toRForget fgt) Rz (V m) r ∧ r.2.sem = fun _ => 0) :=
  Pipeline.θ_run_frame_dmaR_forget (Q' := _) cfgs (dats m) (0 : Fin 1) launch0 osem0 defs₀ Variants.none fgt ownSemFacts0 ∅ Rz
    (Finset.empty_subset _) Rz_sub m ρ main
    (hbody := fun c => (body_obligation m c).loose) (hshare := fun c => (dats m 0 c).share_full fun _ => rfl)
    (howed := fun _ _ => rfl) (V := V m) (hmain := hmainD m Variants.none) (hA := A_eq m)
    (hin := fun c => phi_in c (V m)) (hout := fun c => phi_out c (V m))

/-- The frame: every run of @main ends, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(Pipeline.RDat.FramePostR.arr_in h.1 c 0 rfl).trans ((A_eq m c 0).trans (V_main_arg0 m c)),
      (Pipeline.RDat.FramePostR.arr_in h.1 c 1 rfl).trans ((A_eq m c 1).trans (V_main_arg1 m c)),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c)⟩, h.2⟩) (run_main m ρ)

end Cert.BwdConvBIdeal.ConvB

end
-- ==== Proof.FFrame.lean ====
/- The launch of the norm before the MLP with its first matrix: at the first column block of a row block the normed rows are kept in the
   scratch buffer and in a result's block, and every point multiplies the kept rows by its columns of the matrix. -/
module

public import proofs.«01_k».proof.Proof.Gen.FwdFIdeal.Frame
public import proofs.«01_k».proof.Proof.Gen.FwdFIdeal.Skeleton
public import Idealize.ShloMosaic.Lib.Pipeline.ValueKit
public import Idealize.ShloMosaic.Lib.Pipeline.TableIdle
public import Idealize.ShloMosaic.Lib.Tactic

@[expose] public section

set_option maxRecDepth 16384

noncomputable section

namespace Cert.FwdFIdeal.Norm

open Cert.FwdFIdeal Cert.FwdFIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## What a point computes -/

/-- The matrix's columns at a point. -/
abbrev cols (i : grid0.Coords) (w : Vec F S1024x4096 .bf16) : Vec F S1024x1024 .bf16 :=
  View.ld w (Rect.unit (s := S1024x4096) (k0_off1 i) S1024x1024.size (k0_off1_inb i))

/-! ## Whole blocks -/

theorem z2 : ∀ a : Fin 2, (![0, 0] : Fin 2 → ℕ) a = 0 := by decide
/-- A buffer last written whole reads as what was written. -/
theorem read_full {S : Shape} {e : EltTy} {sp : Space} (v : View sig .tc sp S e) (f : v.ty.Contents (Elt F)) {off : Fin S.rank → ℕ}
    (inb : ∀ a, off a + S.size a ≤ S.size a) (h : ∀ a, off a = 0) (p : S.Idx → Elt F e) (L : List (View.Piece (Elt F) S e)) :
    v.read (Elt F) (v.writes (Elt F) f (⟨Rect.unit off S.size inb, p⟩ :: L)) = p :=
  (View.read_writes_eq_canon v f _ fun y => ⟨_, List.mem_cons_self, View.mem_set_unit_zero (funext h) inb y⟩).trans
    (View.canon_cons_unit_lit inb p L h)

/-- A load of a whole buffer reads it. -/
theorem load_full {S : Shape} {e : EltTy} {sp : Space} (v : View sig .tc sp S e) {off : Fin S.rank → ℕ}
    (inb : ∀ a, off a + S.size a ≤ S.size a) (h : ∀ a, off a = 0) (f : v.ty.Contents (Elt F)) :
    v.readAt (Elt F) (Rect.unit off S.size inb).toLoadRect f = v.read (Elt F) f :=
  View.ld_unit_zero (funext h) inb (v.read (Elt F) f)

/-! ## The body's runs -/

set_option maxHeartbeats 1000000 in
/-- The first column block: the normed rows are made and kept. -/
theorem runFirst (c : Dev nD) (i : grid0.Coords) (h1 : k0_cond1 i = 1#1)
    (arg3 : Memref sig .tc .vmem S1024x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole)
    (x0 : Vec F S1024x1024 .f32) (x1 : Vec F S1x1024 .f32) (x2 : Vec F S1024x4096 .bf16) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare (k0_pay3 (k0_pay2 x0 x1) (cols i x2)) ∗ owns (c : Thread nD τ) arg7 fullShare (k0_pay1 x0 x1) ∗ owns (c : Thread nD τ) arg8 fullShare (k0_pay2 x0 x1)) -∗ K ⟨⟩))
      ⊢ wp frame (wpE (defs₀ (F := F)) Variants.none c none) Set.univ (cc0_fwd_f i arg3 harg3 arg4 harg4 arg5 harg5 arg6 harg6 arg7 harg7 arg8 harg8) K := by
  simp only [cc0_fwd_f_eq_skeleton]; unfold cc0_fwd_f_skel
  unfold owns
  iintro ⟨⟨%f0, %e0, H0⟩, ⟨%f1, %e1, H1⟩, ⟨%f2, %e2, H2⟩, ⟨%d3, %f3, -, H3⟩, ⟨%d4, %f4, -, H4⟩, ⟨%d5, %f5, -, H5⟩, Hk⟩
  subst e0 e1 e2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists _; isplitr; swap; · iexact H3
                  ipureintro; refine (read_full _ _ _ z2 _ _).trans (congr (congrArg (k0_pay3 (F := F)) ?_) rfl)
                  exact (View.readCov_unit_zero _ (funext z2) _ _).trans (congr (congrArg (k0_pay2 (F := F)) (load_full arg3.view inb_S1024x1024_S1024x1024_0_0 z2 f0)) (load_full arg4.view inb_S1x1024_S1x1024_0_0 z2 f1))
  isplitl [H4]; · iexists _; isplitr; swap; · iexact H4
                  ipureintro; exact (read_full _ _ _ z2 _ _).trans (congr (congrArg (k0_pay1 (F := F)) (load_full arg3.view inb_S1024x1024_S1024x1024_0_0 z2 f0)) (load_full arg4.view inb_S1x1024_S1x1024_0_0 z2 f1))
  iexists _; isplitr; swap; · iexact H5
  ipureintro; exact (read_full _ _ _ z2 _ _).trans (congr (congrArg (k0_pay2 (F := F)) (load_full arg3.view inb_S1024x1024_S1024x1024_0_0 z2 f0)) (load_full arg4.view inb_S1x1024_S1x1024_0_0 z2 f1))

set_option maxHeartbeats 1000000 in
/-- A later column block: the kept rows are used. -/
theorem runNext (c : Dev nD) (i : grid0.Coords) (h1 : ¬ k0_cond1 i = 1#1)
    (arg3 : Memref sig .tc .vmem S1024x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole)
    (x0 : Vec F S1024x1024 .f32) (x1 : Vec F S1x1024 .f32) (x2 : Vec F S1024x4096 .bf16) (xs : Vec F S1024x1024 .bf16) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg8 fullShare xs
        ∗ (iprop(owns (c : Thread nD τ) arg3 fullShare x0 ∗ owns (c : Thread nD τ) arg4 fullShare x1 ∗ owns (c : Thread nD τ) arg5 fullShare x2 ∗ owns (c : Thread nD τ) arg6 fullShare (k0_pay3 xs (cols i x2)) ∗ owns (c : Thread nD τ) arg8 fullShare xs) -∗ K ⟨⟩))
      ⊢ wp frame (wpE (defs₀ (F := F)) Variants.none c none) Set.univ (cc0_fwd_f i arg3 harg3 arg4 harg4 arg5 harg5 arg6 harg6 arg7 harg7 arg8 harg8) K := by
  simp only [cc0_fwd_f_eq_skeleton]; unfold cc0_fwd_f_skel
  unfold owns
  iintro ⟨⟨%f0, %e0, H0⟩, ⟨%f1, %e1, H1⟩, ⟨%f2, %e2, H2⟩, ⟨%d3, %f3, -, H3⟩, ⟨%f5, %e5, H5⟩, Hk⟩
  subst e0 e1 e2 e5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists _; isplitr; swap; · iexact H3
                  ipureintro; exact (read_full _ _ _ z2 _ _).trans (congr (congrArg (k0_pay3 (F := F)) (load_full arg8.view inb_S1024x1024_S1024x1024_0_0 z2 f5)) rfl)
  iexists f5; isplitr; · ipureintro; rfl
  iexact H5

/-! ## The proof data -/

variable (m : (ℓ : Loc nD τ sig) → Buf (Elt F) ℓ) (ρ : Dev nD → PrngReg)

/-- The scratch operand. -/
abbrev kept : Memref sig .tc .vmem S1024x1024 .bf16 := Memref.whole cc0_scratch0

/-- The first point of a point's row block. -/
def src (t : Fin cfg0.N) : Fin cfg0.N := ⟨t.val / 4 * 4, lt_of_le_of_lt (Nat.div_mul_le_self _ _) t.isLt⟩

theorem src_first (t : Fin cfg0.N) (h : t.val % 4 = 0) : src t = t := Fin.ext (by show t.val / 4 * 4 = t.val; omega)
theorem src_next (t : Fin cfg0.N) (h : ¬ t.val % 4 = 0) (hp : t.val - 1 < cfg0.N) : src ⟨t.val - 1, hp⟩ = src t :=
  Fin.ext (by show (t.val - 1) / 4 * 4 = t.val / 4 * 4; omega)

/-- The invariant: after a point the scratch holds the row block's normed rows. -/
def PhiS (c : Dev nD) : (n : ℕ) → n ≤ cfg0.N → sProp 𝕄
  | 0, _ => Pipeline.ΦA spec0 c
  | n + 1, hn => iprop(owns (c : Thread nD τ) kept fullShare (k0_pay2 (iblk m c 0 (src ⟨n, hn⟩)) (iblk m c 1 (src ⟨n, hn⟩))) ∗ (∃ r, prngReg c r))

theorem PhiA_eq (c : Dev nD) : (Pipeline.ΦA spec0 c : sProp 𝕄)
    = iprop((∃ d, owns (c : Thread nD τ) kept fullShare d) ∗ (∃ r, prngReg c r)) := by
  unfold Pipeline.ΦA; rw [scopedRest0_eq]; simp only [kept, owns_whole]; try rfl

theorem PhiS_pos (c : Dev nD) (n : ℕ) (h : n ≤ cfg0.N) (hz : n ≠ 0) :
    PhiS m c n h = iprop(owns (c : Thread nD τ) kept fullShare (k0_pay2 (iblk m c 0 (src ⟨n - 1, by omega⟩)) (iblk m c 1 (src ⟨n - 1, by omega⟩))) ∗ (∃ r, prngReg c r)) := by
  cases n with
  | zero => exact absurd rfl hz
  | succ n => rfl

/-- The invariant gives the scratch at anything. -/
theorem PhiS_any (c : Dev nD) (n : ℕ) (h : n ≤ cfg0.N) :
    PhiS m c n h ⊢ iprop((∃ d, owns (c : Thread nD τ) kept fullShare d) ∗ (∃ r, prngReg c r)) := by
  by_cases hz : n = 0
  · subst hz; rw [show PhiS m c 0 h = Pipeline.ΦA spec0 c from rfl, PhiA_eq]
  · rw [PhiS_pos m c n h hz]
    iintro ⟨H, Hg⟩
    isplitl [H]; · iexists _; iexact H
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (k0_pay2 (iblk m c 0 (src t)) (iblk m c 1 (src t))) (cols (grid0.coords t) (iblk m c 2 t))
    | ⟨4, _⟩ => k0_pay1 (iblk m c 0 (src t)) (iblk m c 1 (src t))
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay3 (k0_pay2 (iblk m c 0 (src t)) (iblk m c 1 (src t))) (cols (grid0.coords t) (iblk m c 2 t)) := by dsimp only [dats]
theorem after_4 (c : Dev nD) (t : Fin cfg0.N) : (dats m 0 c).after 4 t = k0_pay1 (iblk m c 0 (src t)) (iblk m c 1 (src t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- Which windows a point uses, whether it writes the kept rows' block back, and its condition. -/
theorem live : ∀ (t : Fin cfg0.N), cfg0.idle 0 (grid0.coords t) = false ∧ cfg0.idle 1 (grid0.coords t) = false
    ∧ cfg0.idle 2 (grid0.coords t) = false ∧ cfg0.idle 3 (grid0.coords t) = false
    ∧ (cfg0.idle 4 (grid0.coords t) = true ↔ ¬ t.val % 4 = 0) ∧ (k0_cond1 (grid0.coords t) = 1#1 ↔ t.val % 4 = 0) :=
  (by decide +kernel : ∀ (t : Fin grid0.N), _)
theorem fresh_false : ∀ t : Fin cfg0.N, ¬ t.val % 4 = 0 → cfg0.fresh 4 t.val = false :=
  (by decide +kernel : ∀ t : Fin grid0.N, ¬ t.val % 4 = 0 → cfg0.fresh 4 t.val = false)

/-- At a later column block the kept rows' block holds what the row block's first point left. -/
theorem before_4 (c : Dev nD) (t : Fin cfg0.N) (h : ¬ t.val % 4 = 0) (d) : (dats m 0 c).before 4 t d = k0_pay1 (iblk m c 0 (src t)) (iblk m c 1 (src t)) := by
  rw [Dat.before_out_traj _ 4 rfl (fun _ _ => rfl)
    (fun t hz hi _ => by
      have hn := (live t).2.2.2.2.1.mp hi
      rw [after_4, after_4, src_next t hn]) t.val t rfl d,
    if_neg (by rw [fresh_false t h]; exact Bool.false_ne_true), after_4, src_next t h]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- What the kept rows' block leaves at a later column block, from what the body found in it. -/
theorem leaves_4 (c : Dev nD) (t : Fin cfg0.N) (h : ¬ t.val % 4 = 0) (d) :
    owns (c : Thread nD τ) (win0_4.stage (cfg0.slots t 4)) fullShare ((dats m 0 c).before 4 t d) ⊢ (dats m 0 c).leavesExact 4 t := by
  have hi := (live t).2.2.2.2.1.mpr h
  cases hf : (cfg0.win 4).flush t with
  | false =>
    rw [Dat.leavesExact_idle (dats m 0 c) 4 t hi hf]
    iintro H; iexists d; iexact H
  | true =>
    rw [show (dats m 0 c).leavesExact 4 t = owns (c : Thread nD τ) (win0_4.stage (cfg0.slots t 4)) fullShare ((dats m 0 c).after 4 t) from by
      unfold Dat.leavesExact; rw [hi, hf], after_4, before_4 m c t h]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  obtain ⟨l0, l1, l2, l3, l4, hc⟩ := live t
  rw [show (dats m 0 c).owesAt () t.succ = (dats m 0 c).owesAt () t.castSucc from rfl]
  rw [show (dats m 0 c).Φ t.succ = iprop(owns (c : Thread nD τ) kept fullShare (k0_pay2 (iblk m c 0 (src t)) (iblk m c 1 (src t))) ∗ (∃ r, prngReg c r)) from rfl]
  rw [show (dats m 0 c).leavesExact 0 t = owns (c : Thread nD τ) (win0_0.stage (cfg0.slots t 0)) fullShare ((dats m 0 c).after 0 t) from by
    unfold Dat.leavesExact; rw [l0], after_0]
  rw [show (dats m 0 c).leavesExact 1 t = owns (c : Thread nD τ) (win0_1.stage (cfg0.slots t 1)) fullShare ((dats m 0 c).after 1 t) from by
    unfold Dat.leavesExact; rw [l1], after_1]
  rw [show (dats m 0 c).leavesExact 2 t = owns (c : Thread nD τ) (win0_2.stage (cfg0.slots t 2)) fullShare ((dats m 0 c).after 2 t) from by
    unfold Dat.leavesExact; rw [l2], after_2]
  rw [show (dats m 0 c).leavesExact 3 t = owns (c : Thread nD τ) (win0_3.stage (cfg0.slots t 3)) fullShare ((dats m 0 c).after 3 t) from by
    unfold Dat.leavesExact; rw [l3], after_3]
  by_cases h0 : t.val % 4 = 0
  · have hi : cfg0.idle 4 (grid0.coords t) = false := Bool.eq_false_iff.mpr fun h => l4.mp h h0
    rw [show (dats m 0 c).leavesExact 4 t = owns (c : Thread nD τ) (win0_4.stage (cfg0.slots t 4)) fullShare ((dats m 0 c).after 4 t) from by
      unfold Dat.leavesExact; rw [hi], after_4, src_first t h0, Phi_castSucc]
    refine (sep_mono_left (PhiS_any m c t.val _)).trans ?_
    iintro ⟨⟨HS, Hg⟩, Ho, ⟨%d0, H0⟩, ⟨%d1, H1⟩, ⟨%d2, H2⟩, ⟨%d3, H3⟩, ⟨%d4, H4⟩⟩
    iapply (runFirst c (grid0.coords t) (hc.mpr h0) _ _ _ _ _ _ _ _ _ _ _ _ _ _ _ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · rw [Phi_castSucc, PhiS_pos m c t.val _ (by intro h; rw [h] at h0; exact h0 rfl), src_next t h0]
    iintro ⟨⟨HS, Hg⟩, Ho, ⟨%d0, H0⟩, ⟨%d1, H1⟩, ⟨%d2, H2⟩, ⟨%d3, H3⟩, ⟨%d4, H4⟩⟩
    iapply (runNext c (grid0.coords t) (fun h => h0 (hc.mp h)) _ _ _ _ _ _ _ _ (win0_4.stage (cfg0.slots t 4)) (hstage0_4 ((cfg0.slots t 4).cast nbuf0_4)) _ _ _ _ _ _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (leaves_4 m c t h0 d4); iexact H4

/-- The body table's row at the point is the body on the point's memrefs. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N (le_refl _) from rfl, PhiA_eq]; exact PhiS_any m c _ _

/-! ## The launch -/

set_option backward.isDefEq.respectTransparency.types false in
/-- Every run of @main ends with the windows' arrays at what the proof data says. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: every run of @main ends, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.FwdFIdeal.Norm

end
-- ==== Proof.FRef.lean ====
/- The reference's results over its arguments. -/
module

public import proofs.«01_k».proof.Proof.Gen.RefFIdeal.Run

@[expose] public section

set_option maxRecDepth 16384

noncomputable section

namespace Cert.RefFIdeal.Term

open Cert.RefFIdeal Cert.RefFIdeal.Gen Idealize.ShloMosaic Idealize.SL.Sem

variable {F : FTy → Type} [FloatOps F]

/-- Result 0 of the reference over its arguments. -/
abbrev term0 (a0 : FVec F S4096x1024 .f32) (a1 : FVec F S1x1024 .f32) (a2 : FVec F S1024x4096 .bf16) : FVec F S4096x4096 .bf16 :=
  truncf .bf16 (Host.dotGeneral dot_S4096x1024_S1024x4096_S4096x4096_1_0_0_1_n_n none (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (extf .f32 a2 bitsLt_bf16_f32)) bitsLt_bf16_f32

/-- Result 1 of the reference over its arguments. -/
abbrev term1 (a0 : FVec F S4096x1024 .f32) (a1 : FVec F S1x1024 .f32) (a2 : FVec F S1024x4096 .bf16) : FVec F S4096x1024 .bf16 :=
  truncf .bf16 (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) bitsLt_bf16_f32

/-- The reference's run, each result at its term. -/
theorem run_terms (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = term0 (m ((c.tc : Thread Cert.RefFIdeal.nD Cert.RefFIdeal.τ).loc main_arg0)) (m ((c.tc : Thread Cert.RefFIdeal.nD Cert.RefFIdeal.τ).loc main_arg1)) (m ((c.tc : Thread Cert.RefFIdeal.nD Cert.RefFIdeal.τ).loc main_arg2))
      ∧ r.2.mem ((c.tc : Thread nD τ).loc main_v15) = term1 (m ((c.tc : Thread Cert.RefFIdeal.nD Cert.RefFIdeal.τ).loc main_arg0)) (m ((c.tc : Thread Cert.RefFIdeal.nD Cert.RefFIdeal.τ).loc main_arg1)) (m ((c.tc : Thread Cert.RefFIdeal.nD Cert.RefFIdeal.τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by rfl),
      (h c).2.1.trans (by rfl),
      (h c).2.2⟩)
    (Cert.RefFIdeal.Value.run m ρ)

end Cert.RefFIdeal.Term

end
-- ==== Proof.FValue.lean ====
/- The arrays the norm before the MLP leaves are the reference's terms: the normed rows through the first matrix, and the normed rows. -/
module

public import proofs.«01_k».proof.Proof.FFrame
public import proofs.«01_k».proof.Proof.FRef
public import Idealize.ShloMosaic.Lib.Pipeline.ValueKit
public import Idealize.ShloMosaic.Lib.Pipeline.ReadBack

@[expose] public section

set_option maxRecDepth 16384

noncomputable section

namespace Cert.FwdFIdeal.Norm

open Cert.FwdFIdeal Cert.FwdFIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- Every window's block index at a point. -/
theorem idx_val : ∀ t : Fin cfg0.N, win0_0.index t = ![t.val / 4, 0] ∧ win0_1.index t = ![0, 0] ∧ win0_2.index t = ![0, 0]
    ∧ win0_3.index t = ![t.val / 4, t.val % 4] ∧ win0_4.index t = ![t.val / 4, 0] :=
  (by decide +kernel : ∀ t : Fin grid0.N, _)

/-- Where a point's columns of the matrix begin. -/
theorem off_val : ∀ t : Fin cfg0.N, k0_off1 (grid0.coords t) = ![0, t.val % 4 * 1024] :=
  (by decide +kernel : ∀ t : Fin grid0.N, _)

/-- The first point of a row block lies in the row block. -/
theorem src_div (t : Fin cfg0.N) : (src t).val / 4 = t.val / 4 := by
  show t.val / 4 * 4 / 4 = t.val / 4; omega

/-- The columns of the matrix at a point, at an index. -/
theorem cols_apply (t : Fin cfg0.N) (w : Vec Ideal S1024x4096 .bf16) (y : S1024x1024.Idx) (z : S1024x4096.Idx)
    (h0 : (z 0).val = (y 0).val) (h1 : (z 1).val = t.val % 4 * 1024 + (y 1).val) : cols (F := Ideal) (grid0.coords t) w y = w z := by
  show w _ = w z
  congr 1; funext k; apply Fin.ext
  fin_cases k
  · refine Eq.trans (b := (k0_off1 (grid0.coords t)) 0 + (y 0).val) ?_ ?_
    · exact Rect.idx_unit_val _ _ _ _ _
    · rw [off_val t]; simp [h0]
  · refine Eq.trans (b := (k0_off1 (grid0.coords t)) 1 + (y 1).val) ?_ ?_
    · exact Rect.idx_unit_val _ _ _ _ _
    · rw [off_val t]; simp [h1]

/-- The kept block of normed rows is the reference's array through the window. -/
theorem norm_eq (c : Dev nD) (t : Fin cfg0.N) (y : S1024x1024.Idx) (z : S4096x1024.Idx) (h0 : (z 0).val = t.val / 4 * 1024 + (y 0).val)
    (h1 : (z 1).val = (y 1).val) :
    k0_pay1 (iblk m c 0 (src t)) (iblk m c 1 (src t)) y
    = Cert.RefFIdeal.Term.term1 (F := Ideal) (m ((c : Thread nD τ).loc main_arg0)) (m ((c : Thread nD τ).loc main_arg1)) (m ((c : Thread nD τ).loc main_arg2)) z := by
  have hs := src_div t
  pointwise [k0_pay1, Cert.RefFIdeal.Term.term1]
  blk_point [iblk, V, idx_val (src t)]

theorem final4 (c : Dev nD) : (dats m 0 c).arrAt 4 (cfgs 0).N
    = Cert.RefFIdeal.Term.term1 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after_4]
  exact norm_eq m c t y _ (by blk_simp [idx_val t]) (by blk_simp [idx_val t])

theorem final3 (c : Dev nD) : (dats m 0 c).arrAt 3 (cfgs 0).N
    = Cert.RefFIdeal.Term.term0 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after_3]
  have hs := src_div t
  pointwise [k0_pay3, k0_pay2, k0_pay1, Cert.RefFIdeal.Term.term0]
  have hb : t.val % 4 < 4 := Nat.mod_lt _ (by omega)
  have hc := fun x : Fin 1024 => cols_apply t (iblk m c 2 t : Vec Ideal S1024x4096 .bf16) (ix2 x (y 1)) (ix2 x ⟨t.val % 4 * 1024 + (y 1).val, by have := (y 1).isLt; blk_simp at this; omega⟩) rfl rfl
  simp only [hc]
  blk_point [iblk, V, idx_val t, idx_val (src t)]

/-- Every run of @main leaves each result's array at its window's and the arguments as they were. -/
theorem run_blocks : θ_run defs (onTc (τ := τ) (main (F := Ideal))) ⟨m, fun _ => 0, ρ⟩ fun r => ∀ c : Dev nD,
      r.2.mem ((c.tc : Thread nD τ).loc main_v0_0) = (dats m 0 c).arrAt 3 (cfgs 0).N
      ∧ r.2.mem ((c.tc : Thread nD τ).loc main_v0_1) = (dats m 0 c).arrAt 4 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1.1 c).1 3, (h.1.1 c).1 4, h.2.1 c⟩)
    (θ_run_and (run_main m ρ) (frame m ρ))

end Cert.FwdFIdeal.Norm

end
-- ==== Proof.DwaRef.lean ====
/- The reference's result over its arguments. -/
module

public import proofs.«01_k».proof.Proof.Gen.RefDwaIdeal.Run

@[expose] public section

set_option maxRecDepth 16384

noncomputable section

namespace Cert.RefDwaIdeal.Term

open Cert.RefDwaIdeal Cert.RefDwaIdeal.Gen Idealize.ShloMosaic Idealize.SL.Sem

variable {F : FTy → Type} [FloatOps F]

/-- Result 0 of the reference over its arguments. -/
abbrev term0 (a0 : FVec F S4096x1024 .bf16) (a1 : FVec F S4096x1024 .bf16) : FVec F S1024x1024 .bf16 :=
  truncf .bf16 (transpose S1024x1024 [1, 0] (Host.dotGeneral dot_S4096x1024_S4096x1024_S1024x1024_0_0_1_1_n_n none (extf .f32 a1 bitsLt_bf16_f32) (extf .f32 a0 bitsLt_bf16_f32)) transposes_S1024x1024_S1024x1024_1_0) bitsLt_bf16_f32

end Cert.RefDwaIdeal.Term

end
-- ==== Proof.DwaValue.lean ====
/- The array this call leaves is the reference's term: the four partial sums over the rows, added point after point, are the reference's one sum. -/
module

public import proofs.«01_k».proof.Proof.Gen.BwdDwaIdeal.Value
public import proofs.«01_k».proof.Proof.DwaRef
public import Idealize.ShloMosaic.Lib.Pipeline.ValueKit
public import Idealize.ShloMosaic.Lib.Pipeline.ReadBack

@[expose] public section

set_option maxRecDepth 16384

noncomputable section

namespace Cert.BwdDwaIdeal.Value

open Cert.BwdDwaIdeal Cert.BwdDwaIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- Every window's block index at a point. -/
theorem idx_val : ∀ t : Fin cfg0.N, win0_0.index t = ![t.val, 0] ∧ win0_1.index t = ![t.val, 0] ∧ win0_2.index t = ![0, 0] :=
  (by decide +kernel : ∀ t : Fin grid0.N, _)

theorem pay3_at (x0 x1 acc : Vec Ideal S1024x1024 _) (j) :
    k0_pay3 (F := Ideal) x0 x1 acc j = acc j + ∑ k : Fin 1024, x0 (ix2 k (j 0)) * x1 (ix2 k (j 1)) := by
  pointwise [k0_pay3, k0_pay1]

theorem pay2_at (x0 x1 : Vec Ideal S1024x1024 _) (j) :
    k0_pay2 (F := Ideal) x0 x1 j = ∑ k : Fin 1024, x0 (ix2 k (j 0)) * x1 (ix2 k (j 1)) := by
  pointwise [k0_pay2, k0_pay1]

theorem pay4_eq (x : Vec Ideal S1024x1024 .f32) (j) : k0_pay4 (F := Ideal) x j = x j := by pointwise [k0_pay4]

theorem final (c : Dev nD) : (dats m 0 c).arrAt 2 (cfgs 0).N
    = Cert.RefDwaIdeal.Term.term0 (F := Ideal) (m ((c : Thread nD τ).loc main_arg0)) (m ((c : Thread nD τ).loc main_arg1)) := by
  refine (dats m 0 c).arrAt_eq_of_after_last 2 t0_3 (by decide +kernel) _ fun j => ?_
  blk_simp
  rw [after0_2]
  have hlast : (outsAt0 m c t0_3.val t0_3.isLt).1 j = (outsAt0 m c t0_3.val t0_3.isLt).2 j := by
    rw [outsAt0_C m c t0_3 (by decide) (by decide) (by decide)]; frame_out; rw [pay4_eq]
  rw [hlast]
  rw [Pipeline.eq_sum_fin_of_reset_step_apply_last (fun n h => (outsAt0 m c n h).2) 4 (fun _ => 0) _
    (fun t h j => by
      have h1 : ¬ 1 ≤ t.val := by have := lt_of_lt_of_eq t.isLt N_0; omega
      rw [outsAt0_A m c t h h1 (by omega)]; frame_out; rw [pay2_at, zero_add])
    (fun t h j => by
      by_cases h2 : t.val % 4 = 3
      · rw [outsAt0_C m c t h (by omega) h2]; frame_out; rw [pay3_at, read_unread_whole]
      · rw [outsAt0_B m c t h (by omega) h2]; frame_out; rw [pay3_at, read_unread_whole])
    (le_of_eq N_0) t0_3 rfl j, zero_add]
  pointwise [Cert.RefDwaIdeal.Term.term0]
  refine Fin.sum_mul_add_congr fun p k hl => ?_
  refine (mul_comm (_ : EReal) _).trans ?_
  blk_point [iblk, V, idx_val p]

end Cert.BwdDwaIdeal.Value

end
-- ==== Proof.DwbRef.lean ====
/- The reference's result over its arguments. -/
module

public import proofs.«01_k».proof.Proof.Gen.RefDwbIdeal.Run

@[expose] public section

set_option maxRecDepth 16384

noncomputable section

namespace Cert.RefDwbIdeal.Term

open Cert.RefDwbIdeal Cert.RefDwbIdeal.Gen Idealize.ShloMosaic Idealize.SL.Sem

variable {F : FTy → Type} [FloatOps F]

/-- Result 0 of the reference over its arguments. -/
abbrev term0 (a0 : FVec F S4096x1536 .bf16) (a1 : FVec F S4096x1024 .bf16) : FVec F S1536x1024 .bf16 :=
  truncf .bf16 (transpose S1536x1024 [1, 0] (Host.dotGeneral dot_S4096x1024_S4096x1536_S1024x1536_0_0_1_1_n_n none (extf .f32 a1 bitsLt_bf16_f32) (extf .f32 a0 bitsLt_bf16_f32)) transposes_S1024x1536_S1536x1024_1_0) bitsLt_bf16_f32

end Cert.RefDwbIdeal.Term

end
-- ==== Proof.DwbValue.lean ====
/- The array this call leaves is the reference's term: the four partial sums over the rows, added point after point, are the reference's one sum. -/
module

public import proofs.«01_k».proof.Proof.Gen.BwdDwbIdeal.Value
public import proofs.«01_k».proof.Proof.DwbRef
public import Idealize.ShloMosaic.Lib.Pipeline.ValueKit
public import Idealize.ShloMosaic.Lib.Pipeline.ReadBack

@[expose] public section

set_option maxRecDepth 16384

noncomputable section

namespace Cert.BwdDwbIdeal.Value

open Cert.BwdDwbIdeal Cert.BwdDwbIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- Every window's block index at a point. -/
theorem idx_val : ∀ t : Fin cfg0.N, win0_0.index t = ![t.val, 0] ∧ win0_1.index t = ![t.val, 0] ∧ win0_2.index t = ![0, 0] :=
  (by decide +kernel : ∀ t : Fin grid0.N, _)

theorem pay3_at (x0 : Vec Ideal S1024x1536 _) (x1 : Vec Ideal S1024x1024 _) (acc : Vec Ideal S1536x1024 _) (j) :
    k0_pay3 (F := Ideal) x0 x1 acc j = acc j + ∑ k : Fin 1024, x0 (ix2 k (j 0)) * x1 (ix2 k (j 1)) := by
  pointwise [k0_pay3, k0_pay1]

theorem pay2_at (x0 : Vec Ideal S1024x1536 _) (x1 : Vec Ideal S1024x1024 _) (j) :
    k0_pay2 (F := Ideal) x0 x1 j = ∑ k : Fin 1024, x0 (ix2 k (j 0)) * x1 (ix2 k (j 1)) := by
  pointwise [k0_pay2, k0_pay1]

theorem pay4_eq (x : Vec Ideal S1536x1024 .f32) (j) : k0_pay4 (F := Ideal) x j = x j := by pointwise [k0_pay4]

theorem final (c : Dev nD) : (dats m 0 c).arrAt 2 (cfgs 0).N
    = Cert.RefDwbIdeal.Term.term0 (F := Ideal) (m ((c : Thread nD τ).loc main_arg0)) (m ((c : Thread nD τ).loc main_arg1)) := by
  refine (dats m 0 c).arrAt_eq_of_after_last 2 t0_3 (by decide +kernel) _ fun j => ?_
  blk_simp
  rw [after0_2]
  have hlast : (outsAt0 m c t0_3.val t0_3.isLt).1 j = (outsAt0 m c t0_3.val t0_3.isLt).2 j := by
    rw [outsAt0_C m c t0_3 (by decide) (by decide) (by decide)]; frame_out; rw [pay4_eq]
  rw [hlast]
  rw [Pipeline.eq_sum_fin_of_reset_step_apply_last (fun n h => (outsAt0 m c n h).2) 4 (fun _ => 0) _
    (fun t h j => by
      have h1 : ¬ 1 ≤ t.val := by have := lt_of_lt_of_eq t.isLt N_0; omega
      rw [outsAt0_A m c t h h1 (by omega)]; frame_out; rw [pay2_at, zero_add])
    (fun t h j => by
      by_cases h2 : t.val % 4 = 3
      · rw [outsAt0_C m c t h (by omega) h2]; frame_out; rw [pay3_at, read_unread_whole]
      · rw [outsAt0_B m c t h (by omega) h2]; frame_out; rw [pay3_at, read_unread_whole])
    (le_of_eq N_0) t0_3 rfl j, zero_add]
  pointwise [Cert.RefDwbIdeal.Term.term0]
  refine Fin.sum_mul_add_congr fun p k hl => ?_
  refine (mul_comm (_ : EReal) _).trans ?_
  blk_point [iblk, V, idx_val p]

end Cert.BwdDwbIdeal.Value

end
-- ==== Proof.YaRef.lean ====
/- The reference's results over its arguments. -/
module

public import proofs.«01_k».proof.Proof.Gen.RefYaIdeal.Run

@[expose] public section

set_option maxRecDepth 16384

noncomputable section

namespace Cert.RefYaIdeal.Term

open Cert.RefYaIdeal Cert.RefYaIdeal.Gen Idealize.ShloMosaic Idealize.SL.Sem

variable {F : FTy → Type} [FloatOps F]

/-- Result 0 of the reference over its arguments. -/
abbrev term0 (a0 : FVec F S4096x1024 .bf16) (a1 : FVec F S1x1024 .f32) (a2 : FVec F S1x1024 .f32) (a3 : FVec F S1024x1024 .bf16) : FVec F S4096x1024 .bf16 :=
  truncf .bf16 (Host.dotGeneral dot_S4096x1024_S1024x1024_S4096x1024_1_0_0_1_n_n none (mulf (addf (mulf (mulf (subf (extf .f32 a0 bitsLt_bf16_f32) (broadcastInDim S4096x1024 ![0, 1] bcast_S4096x1_S4096x1024_0_1 (Host.divf (broadcastInDim S4096x1 ![0] bcast_S4096_S4096x1_0 (Host.reduceAdd (extf .f32 a0 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a0 bitsLt_bf16_f32) (broadcastInDim S4096x1024 ![0, 1] bcast_S4096x1_S4096x1024_0_1 (Host.divf (broadcastInDim S4096x1 ![0] bcast_S4096_S4096x1_0 (Host.reduceAdd (extf .f32 a0 bitsLt_bf16_f32) (constant S_ .f32 0x00000000#32) reducesTo_S4096x1024_S4096_d1 h_S_)) (broadcastInDim S4096x1 ![] bcast_S_S4096x1 (constant S_ .f32 0x44800000#32))))) (subf (extf .f32 a0 bitsLt_bf16_f32) (broadcastInDim S4096x1024 ![0, 1] bcast_S4096x1_S4096x1024_0_1 (Host.divf (broadcastInDim S4096x1 ![0] bcast_S4096_S4096x1_0 (Host.reduceAdd (extf .f32 a0 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (broadcastInDim S4096x1024 ![0, 1] bcast_S1x1024_S4096x1024_0_1 a2)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a0 bitsLt_bf16_f32) (broadcastInDim S4096x1024 ![0, 1] bcast_S4096x1_S4096x1024_0_1 (Host.divf (broadcastInDim S4096x1 ![0] bcast_S4096_S4096x1_0 (Host.reduceAdd (extf .f32 a0 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a0 bitsLt_bf16_f32) (broadcastInDim S4096x1024 ![0, 1] bcast_S4096x1_S4096x1024_0_1 (Host.divf (broadcastInDim S4096x1 ![0] bcast_S4096_S4096x1_0 (Host.reduceAdd (extf .f32 a0 bitsLt_bf16_f32) (constant S_ .f32 0x00000000#32) reducesTo_S4096x1024_S4096_d1 h_S_)) (broadcastInDim S4096x1 ![] bcast_S_S4096x1 (constant S_ .f32 0x44800000#32))))) (subf (extf .f32 a0 bitsLt_bf16_f32) (broadcastInDim S4096x1024 ![0, 1] bcast_S4096x1_S4096x1024_0_1 (Host.divf (broadcastInDim S4096x1 ![0] bcast_S4096_S4096x1_0 (Host.reduceAdd (extf .f32 a0 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (broadcastInDim S4096x1024 ![0, 1] bcast_S1x1024_S4096x1024_0_1 a2))))))) (extf .f32 a3 bitsLt_bf16_f32)) bitsLt_bf16_f32

/-- Result 1 of the reference over its arguments. -/
abbrev term1 (a0 : FVec F S4096x1024 .bf16) (a1 : FVec F S1x1024 .f32) (a2 : FVec F S1x1024 .f32) (a3 : FVec F S1024x1024 .bf16) : FVec F S4096x1024 .bf16 :=
  truncf .bf16 (mulf (addf (mulf (mulf (subf (extf .f32 a0 bitsLt_bf16_f32) (broadcastInDim S4096x1024 ![0, 1] bcast_S4096x1_S4096x1024_0_1 (Host.divf (broadcastInDim S4096x1 ![0] bcast_S4096_S4096x1_0 (Host.reduceAdd (extf .f32 a0 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a0 bitsLt_bf16_f32) (broadcastInDim S4096x1024 ![0, 1] bcast_S4096x1_S4096x1024_0_1 (Host.divf (broadcastInDim S4096x1 ![0] bcast_S4096_S4096x1_0 (Host.reduceAdd (extf .f32 a0 bitsLt_bf16_f32) (constant S_ .f32 0x00000000#32) reducesTo_S4096x1024_S4096_d1 h_S_)) (broadcastInDim S4096x1 ![] bcast_S_S4096x1 (constant S_ .f32 0x44800000#32))))) (subf (extf .f32 a0 bitsLt_bf16_f32) (broadcastInDim S4096x1024 ![0, 1] bcast_S4096x1_S4096x1024_0_1 (Host.divf (broadcastInDim S4096x1 ![0] bcast_S4096_S4096x1_0 (Host.reduceAdd (extf .f32 a0 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (broadcastInDim S4096x1024 ![0, 1] bcast_S1x1024_S4096x1024_0_1 a2)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a0 bitsLt_bf16_f32) (broadcastInDim S4096x1024 ![0, 1] bcast_S4096x1_S4096x1024_0_1 (Host.divf (broadcastInDim S4096x1 ![0] bcast_S4096_S4096x1_0 (Host.reduceAdd (extf .f32 a0 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a0 bitsLt_bf16_f32) (broadcastInDim S4096x1024 ![0, 1] bcast_S4096x1_S4096x1024_0_1 (Host.divf (broadcastInDim S4096x1 ![0] bcast_S4096_S4096x1_0 (Host.reduceAdd (extf .f32 a0 bitsLt_bf16_f32) (constant S_ .f32 0x00000000#32) reducesTo_S4096x1024_S4096_d1 h_S_)) (broadcastInDim S4096x1 ![] bcast_S_S4096x1 (constant S_ .f32 0x44800000#32))))) (subf (extf .f32 a0 bitsLt_bf16_f32) (broadcastInDim S4096x1024 ![0, 1] bcast_S4096x1_S4096x1024_0_1 (Host.divf (broadcastInDim S4096x1 ![0] bcast_S4096_S4096x1_0 (Host.reduceAdd (extf .f32 a0 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (broadcastInDim S4096x1024 ![0, 1] bcast_S1x1024_S4096x1024_0_1 a2))))))) bitsLt_bf16_f32

/-- The reference's run, each result at its term. -/
theorem run_terms (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = term0 (m ((c.tc : Thread Cert.RefYaIdeal.nD Cert.RefYaIdeal.τ).loc main_arg0)) (m ((c.tc : Thread Cert.RefYaIdeal.nD Cert.RefYaIdeal.τ).loc main_arg1)) (m ((c.tc : Thread Cert.RefYaIdeal.nD Cert.RefYaIdeal.τ).loc main_arg2)) (m ((c.tc : Thread Cert.RefYaIdeal.nD Cert.RefYaIdeal.τ).loc main_arg3))
      ∧ r.2.mem ((c.tc : Thread nD τ).loc main_v25) = term1 (m ((c.tc : Thread Cert.RefYaIdeal.nD Cert.RefYaIdeal.τ).loc main_arg0)) (m ((c.tc : Thread Cert.RefYaIdeal.nD Cert.RefYaIdeal.τ).loc main_arg1)) (m ((c.tc : Thread Cert.RefYaIdeal.nD Cert.RefYaIdeal.τ).loc main_arg2)) (m ((c.tc : Thread Cert.RefYaIdeal.nD Cert.RefYaIdeal.τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by unfold Cert.RefYaIdeal.Value.res_main_v24; rfl),
      (h c).2.1.trans (by unfold Cert.RefYaIdeal.Value.res_main_v25; rfl),
      (h c).2.2⟩)
    (Cert.RefYaIdeal.Value.run m ρ)

end Cert.RefYaIdeal.Term

end
-- ==== Proof.YaValue.lean ====
/- The arrays the layer norm's call leaves are the reference's terms: the normed rows through the swish, and these through the projection. -/
module

public import proofs.«01_k».proof.Proof.Gen.FwdYaIdeal.Value
public import proofs.«01_k».proof.Proof.YaRef
public import Idealize.ShloMosaic.Lib.Pipeline.ValueKit
public import Idealize.ShloMosaic.Lib.Pipeline.ReadBack

@[expose] public section

set_option maxRecDepth 16384

noncomputable section

namespace Cert.FwdYaIdeal.Value

open Cert.FwdYaIdeal Cert.FwdYaIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- Every window's block index at a point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![t.val, 0]
    ∧ win0_5.index t = ![t.val, 0] :=
  (by decide +kernel : ∀ t : Fin grid0.N, _)

theorem final4 (c : Dev nD) : (dats m 0 c).arrAt 4 (cfgs 0).N
    = Cert.RefYaIdeal.Term.term0 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  frame_out
  pointwise [k0_pay2, k0_pay1, Cert.RefYaIdeal.Term.term0]
  simp only [zero_sub]
  blk_point [iblk, V, idx_val t]

theorem final5 (c : Dev nD) : (dats m 0 c).arrAt 5 (cfgs 0).N
    = Cert.RefYaIdeal.Term.term1 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  frame_out
  pointwise [k0_pay1, Cert.RefYaIdeal.Term.term1]
  simp only [zero_sub]
  blk_point [iblk, V, idx_val t]

end Cert.FwdYaIdeal.Value

end
-- ==== Proof.YbRef.lean ====
/- The reference's results over its arguments. -/
module

public import proofs.«01_k».proof.Proof.Gen.RefYbIdeal.Run

@[expose] public section

set_option maxRecDepth 16384

noncomputable section

namespace Cert.RefYbIdeal.Term

open Cert.RefYbIdeal Cert.RefYbIdeal.Gen Idealize.ShloMosaic Idealize.SL.Sem

variable {F : FTy → Type} [FloatOps F]

/-- Result 0 of the reference over its arguments. -/
abbrev term0 (a0 : FVec F S4096x1536 .bf16) (a1 : FVec F S4096x7168 .bf16) (a2 : FVec F S1536x1024 .bf16) : FVec F S4096x1024 .bf16 :=
  truncf .bf16 (Host.dotGeneral dot_S4096x1536_S1536x1024_S4096x1024_1_0_0_1_n_n none (mulf (extf .f32 a0 bitsLt_bf16_f32) (mulf (extf .f32 (extractStridedSlice S4096x1536 ![0, 3584] a1 slices_S4096x7168_S4096x1536_0_3584) bitsLt_bf16_f32) (mulf (broadcastInDim S4096x1536 ![] bcast_S_S4096x1536 (constant S_ .f32 0x3F000000#32)) (addf (broadcastInDim S4096x1536 ![] bcast_S_S4096x1536 (constant S_ .f32 0x3F800000#32)) (Host.tanh (mulf (broadcastInDim S4096x1536 ![] bcast_S_S4096x1536 (constant S_ .f32 0x3F4C422A#32)) (addf (extf .f32 (extractStridedSlice S4096x1536 ![0, 3584] a1 slices_S4096x7168_S4096x1536_0_3584) bitsLt_bf16_f32) (mulf (broadcastInDim S4096x1536 ![] bcast_S_S4096x1536 (constant S_ .f32 0x3D372713#32)) (mulf (mulf (extf .f32 (extractStridedSlice S4096x1536 ![0, 3584] a1 slices_S4096x7168_S4096x1536_0_3584) bitsLt_bf16_f32) (extf .f32 (extractStridedSlice S4096x1536 ![0, 3584] a1 slices_S4096x7168_S4096x1536_0_3584) bitsLt_bf16_f32)) (extf .f32 (extractStridedSlice S4096x1536 ![0, 3584] a1 slices_S4096x7168_S4096x1536_0_3584) bitsLt_bf16_f32)))))))))) (extf .f32 a2 bitsLt_bf16_f32)) bitsLt_bf16_f32

/-- Result 1 of the reference over its arguments. -/
abbrev term1 (a0 : FVec F S4096x1536 .bf16) (a1 : FVec F S4096x7168 .bf16) (a2 : FVec F S1536x1024 .bf16) : FVec F S4096x1536 .bf16 :=
  truncf .bf16 (mulf (extf .f32 a0 bitsLt_bf16_f32) (mulf (extf .f32 (extractStridedSlice S4096x1536 ![0, 3584] a1 slices_S4096x7168_S4096x1536_0_3584) bitsLt_bf16_f32) (mulf (broadcastInDim S4096x1536 ![] bcast_S_S4096x1536 (constant S_ .f32 0x3F000000#32)) (addf (broadcastInDim S4096x1536 ![] bcast_S_S4096x1536 (constant S_ .f32 0x3F800000#32)) (Host.tanh (mulf (broadcastInDim S4096x1536 ![] bcast_S_S4096x1536 (constant S_ .f32 0x3F4C422A#32)) (addf (extf .f32 (extractStridedSlice S4096x1536 ![0, 3584] a1 slices_S4096x7168_S4096x1536_0_3584) bitsLt_bf16_f32) (mulf (broadcastInDim S4096x1536 ![] bcast_S_S4096x1536 (constant S_ .f32 0x3D372713#32)) (mulf (mulf (extf .f32 (extractStridedSlice S4096x1536 ![0, 3584] a1 slices_S4096x7168_S4096x1536_0_3584) bitsLt_bf16_f32) (extf .f32 (extractStridedSlice S4096x1536 ![0, 3584] a1 slices_S4096x7168_S4096x1536_0_3584) bitsLt_bf16_f32)) (extf .f32 (extractStridedSlice S4096x1536 ![0, 3584] a1 slices_S4096x7168_S4096x1536_0_3584) bitsLt_bf16_f32)))))))))) bitsLt_bf16_f32

/-- The reference's run, each result at its term. -/
theorem run_terms (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = term0 (m ((c.tc : Thread Cert.RefYbIdeal.nD Cert.RefYbIdeal.τ).loc main_arg0)) (m ((c.tc : Thread Cert.RefYbIdeal.nD Cert.RefYbIdeal.τ).loc main_arg1)) (m ((c.tc : Thread Cert.RefYbIdeal.nD Cert.RefYbIdeal.τ).loc main_arg2))
      ∧ r.2.mem ((c.tc : Thread nD τ).loc main_v20) = term1 (m ((c.tc : Thread Cert.RefYbIdeal.nD Cert.RefYbIdeal.τ).loc main_arg0)) (m ((c.tc : Thread Cert.RefYbIdeal.nD Cert.RefYbIdeal.τ).loc main_arg1)) (m ((c.tc : Thread Cert.RefYbIdeal.nD Cert.RefYbIdeal.τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by rfl),
      (h c).2.1.trans (by rfl),
      (h c).2.2⟩)
    (Cert.RefYbIdeal.Value.run m ρ)

end Cert.RefYbIdeal.Term

end
-- ==== Proof.YbValue.lean ====
/- The arrays the recurrent branch's gated call leaves are the reference's terms: the gated rows, and these through the projection, the three partial sums over the columns added point after point. -/
module

public import proofs.«01_k».proof.Proof.Gen.FwdYbIdeal.Value
public import proofs.«01_k».proof.Proof.YbRef
public import Idealize.ShloMosaic.Lib.Pipeline.ValueKit
public import Idealize.ShloMosaic.Lib.Pipeline.ReadBack

@[expose] public section

set_option maxRecDepth 16384

noncomputable section

namespace Cert.FwdYbIdeal.Value

open Cert.FwdYbIdeal Cert.FwdYbIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- Every window's block index at a point. -/
theorem idx_val : ∀ t : Fin cfg0.N, win0_0.index t = ![t.val / 3, t.val % 3]
    ∧ win0_1.index t = ![t.val / 3, 7 + t.val % 3]
    ∧ win0_2.index t = ![t.val % 3, 0]
    ∧ win0_3.index t = ![t.val / 3, 0]
    ∧ win0_4.index t = ![t.val / 3, t.val % 3] :=
  (by decide +kernel : ∀ t : Fin grid0.N, _)

theorem pay2_at (z h : Vec Ideal S1024x512 .bf16) (w : Vec Ideal S512x1024 .bf16) (j : S1024x1024.Idx) :
    k0_pay2 (F := Ideal) z h w j = ∑ k : Fin 512, k0_pay1 (F := Ideal) z h (ix2 (j 0) k) * w (ix2 k (j 1)) := by
  pointwise [k0_pay2]

theorem pay3_at (z h : Vec Ideal S1024x512 .bf16) (w : Vec Ideal S512x1024 .bf16) (j : S1024x1024.Idx) :
    k0_pay3 (F := Ideal) z h w j = k0_pay2 (F := Ideal) z h w j := by pointwise [k0_pay3]

theorem pay4_at (z h : Vec Ideal S1024x512 .bf16) (w : Vec Ideal S512x1024 .bf16) (acc : Vec Ideal S1024x1024 .f32) (j : S1024x1024.Idx) :
    k0_pay4 (F := Ideal) z h w acc j = acc j + k0_pay2 (F := Ideal) z h w j := by pointwise [k0_pay4]

theorem pay5_at (x : Vec Ideal S1024x1024 .f32) (j : S1024x1024.Idx) : k0_pay5 (F := Ideal) x j = x j := by pointwise [k0_pay5]

/-- Every point of the grid. -/
theorem lt12 (t : Fin cfg0.N) : t.val < 12 := lt_of_lt_of_eq t.isLt N_0

/-- The gated rows at a point are the reference's array through the window. -/
theorem gate_eq (c : Dev nD) (t : Fin cfg0.N) (y : S1024x512.Idx) (z : S4096x1536.Idx) (h0 : (z 0).val = t.val / 3 * 1024 + (y 0).val)
    (h1 : (z 1).val = t.val % 3 * 512 + (y 1).val) :
    k0_pay1 (F := Ideal) (iblk m c 1 t) (iblk m c 0 t) y = Cert.RefYbIdeal.Term.term1 (F := Ideal) (m ((c : Thread nD τ).loc main_arg0)) (m ((c : Thread nD τ).loc main_arg1)) (m ((c : Thread nD τ).loc main_arg2)) z := by
  pointwise [k0_pay1, Cert.RefYbIdeal.Term.term1]
  have hc : ∀ u v w q h : EReal, h * (q * u * (v + w)) = h * (u * (q * (v + w))) := fun u v w q h => by
    rw [mul_comm q u, mul_assoc]
  rw [hc]
  simp only [mul_assoc]
  blk_point [iblk, V, idx_val t]

theorem array4 (c : Dev nD) : (dats m 0 c).arrAt 4 (cfgs 0).N = Cert.RefYbIdeal.Term.term1 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]
  have h : (outsAt0 m c t.val t.isLt).2.1 = k0_pay1 (F := Ideal) (iblk m c 1 t) (iblk m c 0 t) := by
    by_cases h0 : t.val % 3 = 0
    · rw [outsAt0_A m c t h0 (by omega) (by omega)]; frame_out
    · by_cases h2 : t.val % 3 = 2
      · rw [outsAt0_C m c t h0 (by omega) h2]; frame_out
      · rw [outsAt0_B m c t h0 (by omega) h2]; frame_out
  rw [h]
  exact gate_eq m c t y _ (by blk_simp [idx_val t]) (by blk_simp [idx_val t])

/-- The reference's product, over its gated rows. -/
theorem term0_at (c : Dev nD) (z : S4096x1024.Idx) : Cert.RefYbIdeal.Term.term0 (F := Ideal) (m ((c : Thread nD τ).loc main_arg0)) (m ((c : Thread nD τ).loc main_arg1)) (m ((c : Thread nD τ).loc main_arg2)) z
      = ∑ x : Fin 1536, Cert.RefYbIdeal.Term.term1 (F := Ideal) (m ((c : Thread nD τ).loc main_arg0)) (m ((c : Thread nD τ).loc main_arg1)) (m ((c : Thread nD τ).loc main_arg2)) (ix2 (z 0) x) * (m ((c : Thread nD τ).loc main_arg2) (ix2 x (z 1)) : EReal) := by
  pointwise [Cert.RefYbIdeal.Term.term0]

/-- What the scratch holds at the last point of a row block: the three points' products. -/
theorem kept_eq (c : Dev nD) (t : Fin cfg0.N) (hr : t.val % 3 = 2) (y : S1024x1024.Idx) :
    (outsAt0 m c t.val t.isLt).2.2 y = ∑ s : Fin 3, k0_pay2 (F := Ideal) (iblk m c 1 ⟨3 * (t.val / 3) + s.val, Pipeline.run_point_lt_of_flush t hr s⟩)
      (iblk m c 0 ⟨3 * (t.val / 3) + s.val, Pipeline.run_point_lt_of_flush t hr s⟩) (iblk m c 2 ⟨3 * (t.val / 3) + s.val, Pipeline.run_point_lt_of_flush t hr s⟩) y := by
  rw [Pipeline.eq_sum_fin_of_reset_step_apply_of_flush (fun n h => (outsAt0 m c n h).2.2) 3 (fun _ => 0)
    (fun t j => k0_pay2 (F := Ideal) (iblk m c 1 t) (iblk m c 0 t) (iblk m c 2 t) j)
    (fun t h j => by
      rw [outsAt0_A m c t h (by omega) (by omega)]; frame_out; rw [pay3_at, zero_add])
    (fun t h j => by
      by_cases h2 : t.val % 3 = 2
      · rw [outsAt0_C m c t h (by omega) h2]; frame_out; rw [pay4_at, read_unread_whole]
      · rw [outsAt0_B m c t h (by omega) h2]; frame_out; rw [pay4_at, read_unread_whole])
    t hr y, zero_add]

/-- The matrix's rows at a point. -/
theorem mat_eq (c : Dev nD) (t : Fin cfg0.N) (y : S512x1024.Idx) (z : S1536x1024.Idx) (h0 : (z 0).val = t.val % 3 * 512 + (y 0).val)
    (h1 : (z 1).val = (y 1).val) : (iblk m c 2 t y : EReal) = m ((c : Thread nD τ).loc main_arg2) z := by
  blk_point [iblk, V, idx_val t]

theorem array3 (c : Dev nD) : (dats m 0 c).arrAt 3 (cfgs 0).N = Cert.RefYbIdeal.Term.term0 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hr : t.val % 3 = 2 := (flush0_3 t).mp hf
  blk_simp; rw [after0_3]
  have hlast : (outsAt0 m c t.val t.isLt).1 y = (outsAt0 m c t.val t.isLt).2.2 y := by
    rw [outsAt0_C m c t (by omega) (by omega) hr]; frame_out; rw [pay5_at]
  refine (hlast.trans (kept_eq m c t hr y)).trans (Eq.trans ?_ (term0_at m c _).symm)
  simp only [pay2_at]
  refine Fin.sum_mul_add_congr fun p k hl => ?_
  have hp := p.isLt
  have e3 : (3 * (t.val / 3) + p.val) / 3 = t.val / 3 := by omega
  have e4 : (3 * (t.val / 3) + p.val) % 3 = p.val := by omega
  refine congr (congrArg (fun a b : EReal => a * b) (gate_eq m c _ _ _ ?_ ?_)) (mat_eq m c _ _ _ ?_ ?_)
  all_goals (try simp only [e3, e4]); blk_simp [idx_val t]

end Cert.FwdYbIdeal.Value

end
-- ==== Proof.X1Ref.lean ====
/- The reference's results over its arguments. -/
module

public import proofs.«01_k».proof.Proof.Gen.RefX1Ideal.Run

@[expose] public section

set_option maxRecDepth 16384

noncomputable section

namespace Cert.RefX1Ideal.Term

open Cert.RefX1Ideal Cert.RefX1Ideal.Gen Idealize.ShloMosaic Idealize.SL.Sem

variable {F : FTy → Type} [FloatOps F]

/-- Result 0 of the reference over its arguments. -/
abbrev term0 (a0 : FVec F S4096x1024 .f32) (a1 : FVec F S4096x1024 .bf16) (a2 : FVec F S4096x1024 .bf16) (a3 : FVec F S4096x7168 .bf16) (a4 : FVec F S1024x1024 .bf16) : FVec F S4096x1024 .f32 :=
  addf a0 (Host.dotGeneral dot_S4096x1024_S1024x1024_S4096x1024_1_0_0_1_n_n none (addf (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extf .f32 (extractStridedSlice S4096x1024 ![0, 5120] a3 slices_S4096x7168_S4096x1024_0_5120) bitsLt_bf16_f32))))) (extf .f32 a1 bitsLt_bf16_f32)) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extf .f32 (extractStridedSlice S4096x1024 ![0, 6144] a3 slices_S4096x7168_S4096x1024_0_6144) bitsLt_bf16_f32))))) (extf .f32 a2 bitsLt_bf16_f32))) (extf .f32 a4 bitsLt_bf16_f32))

/-- Result 1 of the reference over its arguments. -/
abbrev term1 (a0 : FVec F S4096x1024 .f32) (a1 : FVec F S4096x1024 .bf16) (a2 : FVec F S4096x1024 .bf16) (a3 : FVec F S4096x7168 .bf16) (a4 : FVec F S1024x1024 .bf16) : FVec F S4096x1024 .bf16 :=
  truncf .bf16 (addf (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extf .f32 (extractStridedSlice S4096x1024 ![0, 5120] a3 slices_S4096x7168_S4096x1024_0_5120) bitsLt_bf16_f32))))) (extf .f32 a1 bitsLt_bf16_f32)) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extf .f32 (extractStridedSlice S4096x1024 ![0, 6144] a3 slices_S4096x7168_S4096x1024_0_6144) bitsLt_bf16_f32))))) (extf .f32 a2 bitsLt_bf16_f32))) bitsLt_bf16_f32

/-- The reference's run, each result at its term. -/
theorem run_terms (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = term0 (m ((c.tc : Thread Cert.RefX1Ideal.nD Cert.RefX1Ideal.τ).loc main_arg0)) (m ((c.tc : Thread Cert.RefX1Ideal.nD Cert.RefX1Ideal.τ).loc main_arg1)) (m ((c.tc : Thread Cert.RefX1Ideal.nD Cert.RefX1Ideal.τ).loc main_arg2)) (m ((c.tc : Thread Cert.RefX1Ideal.nD Cert.RefX1Ideal.τ).loc main_arg3)) (m ((c.tc : Thread Cert.RefX1Ideal.nD Cert.RefX1Ideal.τ).loc main_arg4))
      ∧ r.2.mem ((c.tc : Thread nD τ).loc main_v24) = term1 (m ((c.tc : Thread Cert.RefX1Ideal.nD Cert.RefX1Ideal.τ).loc main_arg0)) (m ((c.tc : Thread Cert.RefX1Ideal.nD Cert.RefX1Ideal.τ).loc main_arg1)) (m ((c.tc : Thread Cert.RefX1Ideal.nD Cert.RefX1Ideal.τ).loc main_arg2)) (m ((c.tc : Thread Cert.RefX1Ideal.nD Cert.RefX1Ideal.τ).loc main_arg3)) (m ((c.tc : Thread Cert.RefX1Ideal.nD Cert.RefX1Ideal.τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by rfl),
      (h c).2.1.trans (by rfl),
      (h c).2.2⟩)
    (Cert.RefX1Ideal.Value.run m ρ)

end Cert.RefX1Ideal.Term

end
-- ==== Proof.X1Value.lean ====
/- The arrays the merge's call leaves are the reference's terms: the gated sum of the branches, and the residual plus this sum through the projection. -/
module

public import proofs.«01_k».proof.Proof.Gen.FwdX1Ideal.Value
public import proofs.«01_k».proof.Proof.X1Ref
public import Idealize.ShloMosaic.Lib.Pipeline.ValueKit
public import Idealize.ShloMosaic.Lib.Pipeline.ReadBack

@[expose] public section

set_option maxRecDepth 16384

noncomputable section

namespace Cert.FwdX1Ideal.Value

open Cert.FwdX1Ideal Cert.FwdX1Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- Every window's block index at a point. -/
theorem idx_val : ∀ t : Fin cfg0.N, win0_0.index t = ![t.val, 0]
    ∧ win0_1.index t = ![t.val, 0]
    ∧ win0_2.index t = ![t.val, 5]
    ∧ win0_3.index t = ![t.val, 6]
    ∧ win0_4.index t = ![0, 0]
    ∧ win0_5.index t = ![t.val, 0]
    ∧ win0_6.index t = ![t.val, 0]
    ∧ win0_7.index t = ![t.val, 0] :=
  (by decide +kernel : ∀ t : Fin grid0.N, _)

theorem final6 (c : Dev nD) : (dats m 0 c).arrAt 6 (cfgs 0).N
    = Cert.RefX1Ideal.Term.term0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  frame_out
  pointwise [k0_pay2, k0_pay1, Cert.RefX1Ideal.Term.term0]
  simp only [zero_sub]
  blk_point [iblk, V, idx_val t]

theorem final7 (c : Dev nD) : (dats m 0 c).arrAt 7 (cfgs 0).N
    = Cert.RefX1Ideal.Term.term1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp; rw [after0_7]
  frame_out
  pointwise [k0_pay1, Cert.RefX1Ideal.Term.term1]
  simp only [zero_sub]
  blk_point [iblk, V, idx_val t]

end Cert.FwdX1Ideal.Value

end
-- ==== Proof.DmRun.lean ====
/- The launch of the gradient of the gated merge and of the output projection. A point multiplies a block of rows of the gradient by the matrix,
   leaves the two branches' gradients in its blocks, and copies the two gates' gradients, side by side, to their columns of the third
   result by a copy that the next point waits for. -/
module

public import proofs.«01_k».proof.Proof.Gen.BwdDmIdeal.Frame
public import proofs.«01_k».proof.Proof.Gen.BwdDmIdeal.Skeleton
public import Idealize.ShloMosaic.Lib.Pipeline.FrameValue
public import Idealize.ShloMosaic.Lib.Pipeline.ValueKit
public import Idealize.ShloMosaic.Lib.Tactic
public import Idealize.ShloMosaic.Lib.Transfers
public import Idealize.ShloMosaic.Lib.ViewIndex

@[expose] public section

set_option maxRecDepth 16384
set_option maxHeartbeats 1000000

noncomputable section

namespace Cert.BwdDmIdeal.Gates

open Cert.BwdDmIdeal Cert.BwdDmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-- The result the kernel writes by its own copies, and the buffer it copies from, whole. -/
abbrev dzM : Memref sig .tc .hbm S4096x7168 .bf16 := Memref.whole main_v0_2
abbrev obM : Memref sig .tc .vmem S512x2048 .bf16 := Memref.whole cc0_scratch0

/-- A memref's elements on core `c`, at contents `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

/-- The window of the result that a point's copy fills. -/
abbrev dst (i : grid0.Coords) : Memref sig .tc .hbm S512x2048 .bf16 :=
  dzM.slice (Rect.unit (s := S4096x7168) (k0_off2 i) S512x2048.size (k0_off2_inb i)) (fun _ => rfl)

/-- The kernel body on the memrefs of one point. -/
abbrev body (i : grid0.Coords)
    (arg3 : Memref sig .tc .vmem S512x1024 .bf16) (harg3 : arg3.IsWhole)
    (arg4 : Memref sig .tc .vmem S1024x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (arg8 : Memref sig .tc .vmem S512x1024 .bf16) (harg8 : arg8.IsWhole)
    (arg9 : Memref sig .tc .vmem S512x1024 .bf16) (harg9 : arg9.IsWhole)
    (arg10 : Memref sig .tc .vmem S512x1024 .bf16) (harg10 : arg10.IsWhole) :
    Prog (TpuEff nD τ sig (Elt F) Λ₀ .tc) PUnit :=
  cc0_bwd_dm i arg3 harg3 arg4 harg4 arg5 harg5 arg6 harg6 arg7 harg7 arg8 harg8 arg9 harg9 arg10 harg10 dzM (Memref.isWhole_whole _) obM (Memref.isWhole_whole _) cc0_scratch1

/-! ## Whole blocks -/

theorem z2 : ∀ a : Fin 2, (![0, 0] : Fin 2 → ℕ) a = 0 := by decide
/-- A buffer last written whole reads as what was written. -/
theorem read_full {S : Shape} {e : EltTy} {sp : Space} (v : View sig .tc sp S e) (f : v.ty.Contents (Elt F)) {off : Fin S.rank → ℕ}
    (inb : ∀ a, off a + S.size a ≤ S.size a) (h : ∀ a, off a = 0) (p : S.Idx → Elt F e) (L : List (View.Piece (Elt F) S e)) :
    v.read (Elt F) (v.writes (Elt F) f (⟨Rect.unit off S.size inb, p⟩ :: L)) = p :=
  (View.read_writes_eq_canon v f _ fun y => ⟨_, List.mem_cons_self, View.mem_set_unit_zero (funext h) inb y⟩).trans
    (View.canon_cons_unit_lit inb p L h)

/-- A load of a whole buffer reads it. -/
theorem load_full {S : Shape} {e : EltTy} {sp : Space} (v : View sig .tc sp S e) {off : Fin S.rank → ℕ}
    (inb : ∀ a, off a + S.size a ≤ S.size a) (h : ∀ a, off a = 0) (f : v.ty.Contents (Elt F)) :
    v.readAt (Elt F) (Rect.unit off S.size inb).toLoadRect f = v.read (Elt F) f :=
  View.ld_unit_zero (funext h) inb (v.read (Elt F) f)

/-! ## What a point computes -/

/-- The pieces a point stores side by side in the staging buffer. -/
abbrev pieces (x0 : Vec F S512x1024 .bf16) (x1 : Vec F S1024x1024 .bf16) (x2 : Vec F S512x1024 .bf16) (x3 : Vec F S512x1024 .bf16) (x4 : Vec F S512x1024 .bf16) (x5 : Vec F S512x1024 .bf16) : List (View.Piece (Elt F) S512x2048 .bf16) :=
  [⟨Rect.unit (s := S512x2048) ![0, 1024] S512x1024.size inb_S512x2048_S512x1024_0_1024, k0_pay2 (k0_pay3 x0 x1) (k0_pay5 x3) (k0_pay7 x5)⟩,
   ⟨Rect.unit (s := S512x2048) ![0, 0] S512x1024.size inb_S512x2048_S512x1024_0_0, k0_pay1 (k0_pay3 x0 x1) (k0_pay4 x2) (k0_pay6 x4)⟩]

/-- The two gates' gradients, side by side. -/
abbrev halves (x0 : Vec F S512x1024 .bf16) (x1 : Vec F S1024x1024 .bf16) (x2 : Vec F S512x1024 .bf16) (x3 : Vec F S512x1024 .bf16) (x4 : Vec F S512x1024 .bf16) (x5 : Vec F S512x1024 .bf16) : Vec F S512x2048 .bf16 := View.canon (pieces x0 x1 x2 x3 x4 x5)

theorem pieces_cover (x0 : Vec F S512x1024 .bf16) (x1 : Vec F S1024x1024 .bf16) (x2 : Vec F S512x1024 .bf16) (x3 : Vec F S512x1024 .bf16) (x4 : Vec F S512x1024 .bf16) (x5 : Vec F S512x1024 .bf16) (y : S512x2048.Idx) :
    ∃ p ∈ pieces x0 x1 x2 x3 x4 x5, y ∈ p.1.set := by
  have h0 : (y 0 : ℕ) < 512 := (y 0).isLt
  have h1 : (y 1 : ℕ) < 2048 := (y 1).isLt
  rcases Nat.lt_or_ge (y 1 : ℕ) 1024 with h | h
  · refine ⟨_, List.mem_cons_of_mem _ List.mem_cons_self, (Rect.mem_set_unit (s := S512x2048) (off := ![0, 0]) (size := S512x1024.size) (inb := inb_S512x2048_S512x1024_0_0)).mpr ?_⟩
    exact Fin.forall_fin_two.mpr ⟨⟨Nat.zero_le _, lt_of_lt_of_eq h0 (Nat.zero_add 512).symm⟩, ⟨Nat.zero_le _, lt_of_lt_of_eq h (Nat.zero_add 1024).symm⟩⟩
  · refine ⟨_, List.mem_cons_self, (Rect.mem_set_unit (s := S512x2048) (off := ![0, 1024]) (size := S512x1024.size) (inb := inb_S512x2048_S512x1024_0_1024)).mpr ?_⟩
    exact Fin.forall_fin_two.mpr ⟨⟨Nat.zero_le _, lt_of_lt_of_eq h0 (Nat.zero_add 512).symm⟩, ⟨h, h1⟩⟩

/-- The staging buffer, both halves stored, reads as the halves side by side. -/
theorem staged (f : BufTy.Contents (Elt F) obM.view.ty) {x0 y0 : Vec F S512x1024 .bf16} {x1 y1 : Vec F S1024x1024 .bf16} {x2 y2 : Vec F S512x1024 .bf16} {x3 y3 : Vec F S512x1024 .bf16} {x4 y4 : Vec F S512x1024 .bf16} {x5 y5 : Vec F S512x1024 .bf16}
    (e0 : y0 = x0) (e1 : y1 = x1) (e2 : y2 = x2) (e3 : y3 = x3) (e4 : y4 = x4) (e5 : y5 = x5) :
    obM.view.read (Elt F) (obM.view.writes (Elt F) f (pieces y0 y1 y2 y3 y4 y5)) = halves x0 x1 x2 x3 x4 x5 := by
  subst e0 e1 e2 e3 e4 e5
  exact View.read_writes_eq_canon _ _ _ (pieces_cover y0 y1 y2 y3 y4 y5)

section
variable (c : Dev nD) (i : grid0.Coords)
    (arg3 : Memref sig .tc .vmem S512x1024 .bf16) (harg3 : arg3.IsWhole)
    (arg4 : Memref sig .tc .vmem S1024x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (arg8 : Memref sig .tc .vmem S512x1024 .bf16) (harg8 : arg8.IsWhole)
    (arg9 : Memref sig .tc .vmem S512x1024 .bf16) (harg9 : arg9.IsWhole)
    (arg10 : Memref sig .tc .vmem S512x1024 .bf16) (harg10 : arg10.IsWhole)
  (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)
  (fb : BufTy.Contents (Elt F) obM.view.ty)

/-- The blocks a point reads. -/
abbrev ins : sProp 𝕄 := iprop(pt c arg3 f3 ∗ pt c arg4 f4 ∗ pt c arg5 f5 ∗ pt c arg6 f6 ∗ pt c arg7 f7 ∗ pt c arg8 f8)

/-- The copy under way out of the staging buffer, at `f`, into `d`, delivering contents `e` there. -/
abbrev flight (d : Memref sig .tc .hbm S512x2048 .bf16) (e : BufTy.Contents (Elt F) d.view.ty) (f : BufTy.Contents (Elt F) obM.view.ty) : sProp 𝕄 :=
  Transfers.Flight countersEmb (c : Thread nD τ) (SemLoc.dma 15) () 65536 iprop(pt c d e ∗ pt c obM f)

/-- A copy under way delivers what equals what it delivers. -/
theorem flight_eq {sm : SemLoc sig} {X Y : sProp 𝕄} (h : X = Y) :
    Transfers.Flight countersEmb (c : Thread nD τ) sm () 65536 X ⊢ Transfers.Flight countersEmb (c : Thread nD τ) sm () 65536 Y :=
  Entails.of_eq (congrArg _ h)

/-- The copy under way, from a staging buffer at anything. -/
abbrev flying (d : Memref sig .tc .hbm S512x2048 .bf16) (e : BufTy.Contents (Elt F) d.view.ty) : sProp 𝕄 :=
  iprop(∃ f, flight c d e f)

/-- The cell the copies count on, at zero. -/
abbrev cell : sProp 𝕄 :=
  iprop(semVal ((c : Thread nD τ), SemLoc.dma 15) 0)

/-- The cell at zero and the staging buffer at hand. -/
abbrev landed : sProp 𝕄 :=
  iprop(cell c ∗ (∃ f, pt c obM f))

/-- What a point leaves besides its copy: the blocks it read as they were, the two branches' gradients in its own. -/
abbrev rest : sProp 𝕄 :=
  iprop(pt c arg3 f3 ∗ pt c arg4 f4 ∗ pt c arg5 f5 ∗ pt c arg6 f6 ∗ pt c arg7 f7 ∗ pt c arg8 f8
    ∗ owns (c : Thread nD τ) arg9 fullShare (k0_pay8 (arg3.view.read (Elt F) f3) (arg4.view.read (Elt F) f4) (arg7.view.read (Elt F) f7))
    ∗ owns (c : Thread nD τ) arg10 fullShare (k0_pay9 (arg3.view.read (Elt F) f3) (arg4.view.read (Elt F) f4) (arg8.view.read (Elt F) f8))
    ∗ (∃ W', owes (c : Thread nD τ) 0 W'))

/-- What a point's copy leaves in the result. -/
abbrev copied (g0 : BufTy.Contents (Elt F) dzM.view.ty) : BufTy.Contents (Elt F) dzM.view.ty :=
  (dst i).view.writes (Elt F) g0 [⟨Rect.whole S512x2048, halves (arg3.view.read (Elt F) f3) (arg4.view.read (Elt F) f4) (arg5.view.read (Elt F) f5) (arg6.view.read (Elt F) f6) (arg7.view.read (Elt F) f7) (arg8.view.read (Elt F) f8)⟩]

/-- Elements held at contents that are equal. -/
theorem pt_eq {sp : Space} {S : Shape} {e : EltTy} (M : Memref sig .tc sp S e) {f g : BufTy.Contents (Elt F) M.view.ty} (h : f = g) :
    (pt c M f : sProp 𝕄) ⊢ pt c M g := Entails.of_eq (congrArg _ h)

/-- The first point: nothing to wait for. -/
theorem runA (hc1 : ¬ k0_cond1 i = 1#1) (hc2 : ¬ k0_cond2 i = 1#1) (g0 : BufTy.Contents (Elt F) dzM.view.ty)
    (K : PUnit → sProp 𝕄) :
    iprop(pt c arg3 f3 ∗ pt c arg4 f4 ∗ pt c arg5 f5 ∗ pt c arg6 f6 ∗ pt c arg7 f7 ∗ pt c arg8 f8 ∗ pt c arg9 f9 ∗ pt c arg10 f10 ∗ (∃ W, owes (c : Thread nD τ) 0 W)
        ∗ pt c (dst i) g0 ∗ cell c ∗ pt c obM fb
        ∗ ((rest c arg3 arg4 arg5 arg6 arg7 arg8 arg9 arg10 f3 f4 f5 f6 f7 f8
          ∗ flying c (dst i) (copied i arg3 arg4 arg5 arg6 arg7 arg8 f3 f4 f5 f6 f7 f8 g0)) -∗ K ⟨⟩))
      ⊢ wp frame (wpE (defs₀ (F := F)) Variants.none c none) Set.univ (body i arg3 harg3 arg4 harg4 arg5 harg5 arg6 harg6 arg7 harg7 arg8 harg8 arg9 harg9 arg10 harg10) K := by
  unfold body
  rw [cc0_bwd_dm_eq_skeleton]; unfold cc0_bwd_dm_skel
  simp only [k0_part1_eq_skeleton]; unfold k0_part1_skel
  iintro ⟨H3, H4, H5, H6, H7, H8, H9, H10, ⟨%W, HO⟩, HD0, HQ0, HB, HK⟩
  sl_exec
  sl_step
  iapply HK
  isplitl [H3 H4 H5 H6 H7 H8 H9 H10 HO]
  · isplitl [H3]; · iexact H3
    isplitl [H4]; · iexact H4
    isplitl [H5]; · iexact H5
    isplitl [H6]; · iexact H6
    isplitl [H7]; · iexact H7
    isplitl [H8]; · iexact H8
    isplitl [H9]
    · unfold owns
      iexists _; isplitr; swap; · iexact H9
      ipureintro
      exact (read_full _ _ _ z2 _ _).trans (congr (congr (congrArg (k0_pay8 (F := F)) (load_full _ _ z2 f3)) (load_full _ _ z2 f4)) (load_full _ _ z2 f7))
    isplitl [H10]
    · unfold owns
      iexists _; isplitr; swap; · iexact H10
      ipureintro
      exact (read_full _ _ _ z2 _ _).trans (congr (congr (congrArg (k0_pay9 (F := F)) (load_full _ _ z2 f3)) (load_full _ _ z2 f4)) (load_full _ _ z2 f8))
    iexists _; iexact HO
  iexists _
  iapply (flight_eq (c := c) ?hq0) $$ HQ0
  case hq0 =>
    refine congr (congrArg _ ?_) ?_
    · refine congrArg (fun x => View.loc (c : Thread nD τ) (dst i).view ↦[(dst i).view.set]{fullShare} x) ?_
      exact congrArg (fun D => (dst i).view.writes (Elt F) g0 [⟨Rect.whole S512x2048, D⟩]) (staged fb (load_full _ _ z2 f3) (load_full _ _ z2 f4) (load_full _ _ z2 f5) (load_full _ _ z2 f6) (load_full _ _ z2 f7) (load_full _ _ z2 f8))
    · rfl

/-- A middle point: the copy of the point before is waited for. -/
theorem runB (hc1 : k0_cond1 i = 1#1) (hc2 : ¬ k0_cond2 i = 1#1) (g0 : BufTy.Contents (Elt F) dzM.view.ty)
    (p0 : Memref sig .tc .hbm S512x2048 .bf16) (h0 : BufTy.Contents (Elt F) p0.view.ty)
    (K : PUnit → sProp 𝕄) :
    iprop(pt c arg3 f3 ∗ pt c arg4 f4 ∗ pt c arg5 f5 ∗ pt c arg6 f6 ∗ pt c arg7 f7 ∗ pt c arg8 f8 ∗ pt c arg9 f9 ∗ pt c arg10 f10 ∗ (∃ W, owes (c : Thread nD τ) 0 W)
        ∗ pt c (dst i) g0 ∗ flight c p0 h0 fb
        ∗ ((rest c arg3 arg4 arg5 arg6 arg7 arg8 arg9 arg10 f3 f4 f5 f6 f7 f8
          ∗ pt c p0 h0 ∗ flying c (dst i) (copied i arg3 arg4 arg5 arg6 arg7 arg8 f3 f4 f5 f6 f7 f8 g0)) -∗ K ⟨⟩))
      ⊢ wp frame (wpE (defs₀ (F := F)) Variants.none c none) Set.univ (body i arg3 harg3 arg4 harg4 arg5 harg5 arg6 harg6 arg7 harg7 arg8 harg8 arg9 harg9 arg10 harg10) K := by
  unfold body
  rw [cc0_bwd_dm_eq_skeleton]; unfold cc0_bwd_dm_skel
  simp only [k0_part1_eq_skeleton]; unfold k0_part1_skel
  iintro ⟨H3, H4, H5, H6, H7, H8, H9, H10, ⟨%W, HO⟩, HD0, HQ0, HK⟩
  sl_exec
  sl_step
  iapply HK
  isplitl [H3 H4 H5 H6 H7 H8 H9 H10 HO]
  · isplitl [H3]; · iexact H3
    isplitl [H4]; · iexact H4
    isplitl [H5]; · iexact H5
    isplitl [H6]; · iexact H6
    isplitl [H7]; · iexact H7
    isplitl [H8]; · iexact H8
    isplitl [H9]
    · unfold owns
      iexists _; isplitr; swap; · iexact H9
      ipureintro
      exact (read_full _ _ _ z2 _ _).trans (congr (congr (congrArg (k0_pay8 (F := F)) (load_full _ _ z2 f3)) (load_full _ _ z2 f4)) (load_full _ _ z2 f7))
    isplitl [H10]
    · unfold owns
      iexists _; isplitr; swap; · iexact H10
      ipureintro
      exact (read_full _ _ _ z2 _ _).trans (congr (congr (congrArg (k0_pay9 (F := F)) (load_full _ _ z2 f3)) (load_full _ _ z2 f4)) (load_full _ _ z2 f8))
    iexists _; iexact HO
  isplitl [HQ0_dst]; · iexact HQ0_dst
  iexists _
  iapply (flight_eq (c := c) ?hq0) $$ HQ0
  case hq0 =>
    refine congr (congrArg _ ?_) ?_
    · refine congrArg (fun x => View.loc (c : Thread nD τ) (dst i).view ↦[(dst i).view.set]{fullShare} x) ?_
      exact congrArg (fun D => (dst i).view.writes (Elt F) g0 [⟨Rect.whole S512x2048, D⟩]) (staged fb (load_full _ _ z2 f3) (load_full _ _ z2 f4) (load_full _ _ z2 f5) (load_full _ _ z2 f6) (load_full _ _ z2 f7) (load_full _ _ z2 f8))
    · rfl

/-- The last point: the copy of the point before is waited for, then its own. -/
theorem runC (hc1 : k0_cond1 i = 1#1) (hc2 : k0_cond2 i = 1#1) (g0 : BufTy.Contents (Elt F) dzM.view.ty)
    (p0 : Memref sig .tc .hbm S512x2048 .bf16) (h0 : BufTy.Contents (Elt F) p0.view.ty)
    (K : PUnit → sProp 𝕄) :
    iprop(pt c arg3 f3 ∗ pt c arg4 f4 ∗ pt c arg5 f5 ∗ pt c arg6 f6 ∗ pt c arg7 f7 ∗ pt c arg8 f8 ∗ pt c arg9 f9 ∗ pt c arg10 f10 ∗ (∃ W, owes (c : Thread nD τ) 0 W)
        ∗ pt c (dst i) g0 ∗ flight c p0 h0 fb
        ∗ ((rest c arg3 arg4 arg5 arg6 arg7 arg8 arg9 arg10 f3 f4 f5 f6 f7 f8
          ∗ pt c p0 h0 ∗ pt c (dst i) (copied i arg3 arg4 arg5 arg6 arg7 arg8 f3 f4 f5 f6 f7 f8 g0) ∗ landed c) -∗ K ⟨⟩))
      ⊢ wp frame (wpE (defs₀ (F := F)) Variants.none c none) Set.univ (body i arg3 harg3 arg4 harg4 arg5 harg5 arg6 harg6 arg7 harg7 arg8 harg8 arg9 harg9 arg10 harg10) K := by
  unfold body
  rw [cc0_bwd_dm_eq_skeleton]; unfold cc0_bwd_dm_skel
  simp only [k0_part1_eq_skeleton]; unfold k0_part1_skel
  iintro ⟨H3, H4, H5, H6, H7, H8, H9, H10, ⟨%W, HO⟩, HD0, HQ0, HK⟩
  sl_exec
  sl_step
  iapply HK
  isplitl [H3 H4 H5 H6 H7 H8 H9 H10 HO]
  · isplitl [H3]; · iexact H3
    isplitl [H4]; · iexact H4
    isplitl [H5]; · iexact H5
    isplitl [H6]; · iexact H6
    isplitl [H7]; · iexact H7
    isplitl [H8]; · iexact H8
    isplitl [H9]
    · unfold owns
      iexists _; isplitr; swap; · iexact H9
      ipureintro
      exact (read_full _ _ _ z2 _ _).trans (congr (congr (congrArg (k0_pay8 (F := F)) (load_full _ _ z2 f3)) (load_full _ _ z2 f4)) (load_full _ _ z2 f7))
    isplitl [H10]
    · unfold owns
      iexists _; isplitr; swap; · iexact H10
      ipureintro
      exact (read_full _ _ _ z2 _ _).trans (congr (congr (congrArg (k0_pay9 (F := F)) (load_full _ _ z2 f3)) (load_full _ _ z2 f4)) (load_full _ _ z2 f8))
    iexists _; iexact HO
  isplitl [HQ0_dst]; · iexact HQ0_dst
  isplitl [HD0]
  · iapply (pt_eq (c := c) (dst i) ?hq0) $$ HD0
    case hq0 => exact congrArg (fun D => (dst i).view.writes (Elt F) g0 [⟨Rect.whole S512x2048, D⟩]) (staged fb (load_full _ _ z2 f3) (load_full _ _ z2 f4) (load_full _ _ z2 f5) (load_full _ _ z2 f6) (load_full _ _ z2 f7) (load_full _ _ z2 f8))
  isplitl [HQ0]; · iexact HQ0
  iexists _; iexact HQ0_src

end

end Cert.BwdDmIdeal.Gates

end
-- ==== Proof.DmStep.lean ====
/- One point of the merge's gradient between two invariants. Between two points the result it copies into is held but for the window of
   the copy under way, which the copy will hand back. -/
module

public import proofs.«01_k».proof.Proof.DmRun

@[expose] public section

set_option maxRecDepth 16384
set_option maxHeartbeats 1000000

noncomputable section

namespace Cert.BwdDmIdeal.Gates

open Cert.BwdDmIdeal Cert.BwdDmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-- What is not in one of two disjoint sets is the other and what is in neither. -/
theorem sdiff_join {α : Type} [Fintype α] [DecidableEq α] {A B : Finset α} (h : Disjoint A B) :
    Finset.univ \ B = A ∪ ((Finset.univ \ A) \ B) := by
  ext i
  have := fun hi : i ∈ A => Finset.disjoint_left.mp h hi
  simp only [Finset.mem_sdiff, Finset.mem_univ, true_and, Finset.mem_union]
  tauto

/-- A set and what is in neither it nor another are disjoint. -/
theorem disjoint_rest {α : Type} [Fintype α] [DecidableEq α] (A B : Finset α) : Disjoint A ((Finset.univ \ A) \ B) :=
  Finset.disjoint_left.mpr fun i hi hm => (Finset.mem_sdiff.mp (Finset.mem_sdiff.mp hm).1).2 hi

/-- A set disjoint from another lies off it. -/
theorem sub_rest {α : Type} [Fintype α] [DecidableEq α] {A B : Finset α} (h : Disjoint A B) : B ⊆ Finset.univ \ A :=
  fun i hi => Finset.mem_sdiff.mpr ⟨Finset.mem_univ _, fun hm => Finset.disjoint_left.mp h hm hi⟩

/-! ## The memrefs of a point, and which conditions hold there -/

abbrev a3 (t : Fin cfg0.N) : Memref sig .tc .vmem S512x1024 .bf16 := win0_0.stage (cfg0.slots t 0)
abbrev a4 (t : Fin cfg0.N) : Memref sig .tc .vmem S1024x1024 .bf16 := win0_1.stage (cfg0.slots t 1)
abbrev a5 (t : Fin cfg0.N) : Memref sig .tc .vmem S512x1024 .bf16 := win0_2.stage (cfg0.slots t 2)
abbrev a6 (t : Fin cfg0.N) : Memref sig .tc .vmem S512x1024 .bf16 := win0_3.stage (cfg0.slots t 3)
abbrev a7 (t : Fin cfg0.N) : Memref sig .tc .vmem S512x1024 .bf16 := win0_4.stage (cfg0.slots t 4)
abbrev a8 (t : Fin cfg0.N) : Memref sig .tc .vmem S512x1024 .bf16 := win0_5.stage (cfg0.slots t 5)
abbrev a9 (t : Fin cfg0.N) : Memref sig .tc .vmem S512x1024 .bf16 := win0_6.stage (cfg0.slots t 6)
abbrev a10 (t : Fin cfg0.N) : Memref sig .tc .vmem S512x1024 .bf16 := win0_7.stage (cfg0.slots t 7)
theorem ha3 (t : Fin cfg0.N) : (a3 t).IsWhole := hstage0_0 ((cfg0.slots t 0).cast nbuf0_0)
theorem ha4 (t : Fin cfg0.N) : (a4 t).IsWhole := hstage0_1 ((cfg0.slots t 1).cast nbuf0_1)
theorem ha5 (t : Fin cfg0.N) : (a5 t).IsWhole := hstage0_2 ((cfg0.slots t 2).cast nbuf0_2)
theorem ha6 (t : Fin cfg0.N) : (a6 t).IsWhole := hstage0_3 ((cfg0.slots t 3).cast nbuf0_3)
theorem ha7 (t : Fin cfg0.N) : (a7 t).IsWhole := hstage0_4 ((cfg0.slots t 4).cast nbuf0_4)
theorem ha8 (t : Fin cfg0.N) : (a8 t).IsWhole := hstage0_5 ((cfg0.slots t 5).cast nbuf0_5)
theorem ha9 (t : Fin cfg0.N) : (a9 t).IsWhole := hstage0_6 ((cfg0.slots t 6).cast nbuf0_6)
theorem ha10 (t : Fin cfg0.N) : (a10 t).IsWhole := hstage0_7 ((cfg0.slots t 7).cast nbuf0_7)

/-- The coordinates of a point. -/
abbrev co (t : Fin cfg0.N) : grid0.Coords := grid0.coords t

theorem cond1_iff : ∀ t : Fin grid0.N, k0_cond1 (grid0.coords t) = 1#1 ↔ t.val ≠ 0 := by decide +kernel
theorem cond2_iff : ∀ t : Fin grid0.N, k0_cond2 (grid0.coords t) = 1#1 ↔ t.val = 7 := by decide +kernel

/-- A point's window of the result starts at this row. -/
theorem off_row : ∀ t : Fin grid0.N, k0_off2 (grid0.coords t) 0 = t.val * 512 := by decide +kernel
theorem off_col : ∀ t : Fin grid0.N, k0_off2 (grid0.coords t) 1 = 5120 := by decide +kernel

/-- The elements a point's copy fills. -/
abbrev win (t : Fin cfg0.N) : Finset (dzM.view.ty.Idx) := (dst (co t)).view.set

theorem win_disjoint {t t' : Fin cfg0.N} (h : t.val ≠ t'.val) : Disjoint (win t) (win t') := by
  refine View.disjoint_slice (v := dzM.view) (Rect.disjoint_of_separated _ _ (0 : Fin 2) ?_)
  have hs : ∀ t : Fin cfg0.N, (Rect.unit (s := S4096x7168) (k0_off2 (co t)) S512x2048.size (k0_off2_inb (co t))).off 0 = t.val * 512 := off_row
  have h1 : (Rect.unit (s := S4096x7168) (k0_off2 (co t)) S512x2048.size (k0_off2_inb (co t))).stride 0 = 1 := rfl
  have h2 : (Rect.unit (s := S4096x7168) (k0_off2 (co t')) S512x2048.size (k0_off2_inb (co t'))).stride 0 = 1 := rfl
  have h3 : (Rect.unit (s := S4096x7168) (k0_off2 (co t)) S512x2048.size (k0_off2_inb (co t))).size 0 = 512 := rfl
  have h4 : (Rect.unit (s := S4096x7168) (k0_off2 (co t')) S512x2048.size (k0_off2_inb (co t'))).size 0 = 512 := rfl
  rw [hs t, hs t', h1, h2, h3, h4]
  omega

/-- The result with a point's window filled by `D`. -/
abbrev upd (t : Fin cfg0.N) (h : BufTy.Contents (Elt F) dzM.view.ty) (D : S512x2048.Idx → Elt F .bf16) : BufTy.Contents (Elt F) dzM.view.ty :=
  (dst (co t)).view.writes (Elt F) h [⟨Rect.whole S512x2048, D⟩]

theorem upd_off (t : Fin cfg0.N) (h : BufTy.Contents (Elt F) dzM.view.ty) (D : S512x2048.Idx → Elt F .bf16) {i : dzM.view.ty.Idx}
    (hi : i ∉ win t) : upd t h D i = h i := by
  unfold upd
  rw [View.writes_cons, View.writes_nil]
  refine View.write_of_not_mem (v := (dst (co t)).view.slice (Rect.whole S512x2048)) _ _ _ ?_
  intro hm
  rw [View.setOn_univ] at hm
  exact hi (View.set_slice_subset _ _ hm)

/-! ## The invariant -/

/-- The result whole, the cell at zero and the staging buffer at hand: no copy is under way. -/
abbrev dzWhole (c : Dev nD) (h : BufTy.Contents (Elt F) dzM.view.ty) : sProp 𝕄 :=
  iprop((dzM.view.loc (c : Thread nD τ) ↦{fullShare} h) ∗ landed c)

/-- The copy of point `t` under way, the rest of the result at hand. -/
abbrev dzPart (c : Dev nD) (t : Fin cfg0.N) (h : BufTy.Contents (Elt F) dzM.view.ty) : sProp 𝕄 :=
  iprop((dzM.view.loc (c : Thread nD τ) ↦[Finset.univ \ win t]{fullShare} h) ∗ flying c (dst (co t)) h)

/-- After `p` points, the result at `h` once the copy under way lands. -/
def held (c : Dev nD) (p : ℕ) (h : BufTy.Contents (Elt F) dzM.view.ty) : sProp 𝕄 :=
  if hp : 0 < p ∧ p < 8 then dzPart c ⟨p - 1, by have := N_0; show p - 1 < grid0.N; omega⟩ h else dzWhole c h

theorem held_zero (c : Dev nD) (h : BufTy.Contents (Elt F) dzM.view.ty) : (held c 0 h : sProp 𝕄) = dzWhole c h := dif_neg (by omega)
theorem held_eight (c : Dev nD) (h : BufTy.Contents (Elt F) dzM.view.ty) : (held c 8 h : sProp 𝕄) = dzWhole c h := dif_neg (by omega)
theorem held_succ (c : Dev nD) (t : Fin cfg0.N) (ht : t.val < 7) (h : BufTy.Contents (Elt F) dzM.view.ty) :
    (held c (t.val + 1) h : sProp 𝕄) = dzPart c t h := dif_pos ⟨by omega, by omega⟩

section
variable (c : Dev nD) (t : Fin cfg0.N) (f3 : BufTy.Contents (Elt F) (a3 t).view.ty) (f4 : BufTy.Contents (Elt F) (a4 t).view.ty) (f5 : BufTy.Contents (Elt F) (a5 t).view.ty) (f6 : BufTy.Contents (Elt F) (a6 t).view.ty) (f7 : BufTy.Contents (Elt F) (a7 t).view.ty) (f8 : BufTy.Contents (Elt F) (a8 t).view.ty) (f9 : BufTy.Contents (Elt F) (a9 t).view.ty) (f10 : BufTy.Contents (Elt F) (a10 t).view.ty)
    (h : BufTy.Contents (Elt F) dzM.view.ty)

/-- What a point is entered with. -/
abbrev entry : sProp 𝕄 :=
  iprop(held c t.val h ∗ (∃ W, owes (c : Thread nD τ) 0 W) ∗ pt c (a3 t) f3 ∗ pt c (a4 t) f4 ∗ pt c (a5 t) f5 ∗ pt c (a6 t) f6 ∗ pt c (a7 t) f7 ∗ pt c (a8 t) f8 ∗ pt c (a9 t) f9 ∗ pt c (a10 t) f10)

/-- What it is left with. -/
abbrev exit : sProp 𝕄 :=
  iprop(held c (t.val + 1) (upd t h (halves ((a3 t).view.read (Elt F) f3) ((a4 t).view.read (Elt F) f4) ((a5 t).view.read (Elt F) f5) ((a6 t).view.read (Elt F) f6) ((a7 t).view.read (Elt F) f7) ((a8 t).view.read (Elt F) f8)))
    ∗ rest c (a3 t) (a4 t) (a5 t) (a6 t) (a7 t) (a8 t) (a9 t) (a10 t) f3 f4 f5 f6 f7 f8)

/-- The result but for a window that is not held, filled, is the result filled but for the window. -/
theorem rest_upd (D : S512x2048.Idx → Elt F .bf16) :
    ((dzM.view.loc (c : Thread nD τ) ↦[Finset.univ \ win t]{fullShare} h : sProp 𝕄))
      = (dzM.view.loc (c : Thread nD τ) ↦[Finset.univ \ win t]{fullShare} upd t h D) :=
  pointsTo_congr fun i hi => (upd_off t h D (Finset.mem_sdiff.mp hi).2).symm

/-- The result is a window and the rest. -/
theorem whole_split :
    ((dzM.view.loc (c : Thread nD τ) ↦{fullShare} h : sProp 𝕄))
      ⊣⊢ iprop(pt c (dst (co t)) h ∗ dzM.view.loc (c : Thread nD τ) ↦[Finset.univ \ win t]{fullShare} h) :=
  pointsTo_split_subset (Finset.subset_univ _)

/-- The result but for one window is another window and the rest. -/
theorem part_split {t' : Fin cfg0.N} (hd : t'.val ≠ t.val) :
    ((dzM.view.loc (c : Thread nD τ) ↦[Finset.univ \ win t']{fullShare} h : sProp 𝕄))
      ⊣⊢ iprop(pt c (dst (co t)) h ∗ dzM.view.loc (c : Thread nD τ) ↦[(Finset.univ \ win t') \ win t]{fullShare} h) :=
  pointsTo_split_subset (sub_rest (win_disjoint hd))

/-- A window handed back joins the rest. -/
theorem part_join {t' : Fin cfg0.N} (hd : t'.val ≠ t.val) :
    iprop(pt c (dst (co t')) h ∗ dzM.view.loc (c : Thread nD τ) ↦[(Finset.univ \ win t') \ win t]{fullShare} h)
      ⊢ (dzM.view.loc (c : Thread nD τ) ↦[Finset.univ \ win t]{fullShare} h : sProp 𝕄) := by
  rw [sdiff_join (win_disjoint hd)]
  exact (pointsTo_union (disjoint_rest _ _)).2

/-- The body on the memrefs of point `t`. -/
abbrev bodyOf (t : Fin cfg0.N) : Prog (TpuEff nD τ sig (Elt F) Λ₀ .tc) PUnit :=
  body (co t) (a3 t) (ha3 t) (a4 t) (ha4 t) (a5 t) (ha5 t) (a6 t) (ha6 t) (a7 t) (ha7 t) (a8 t) (ha8 t) (a9 t) (ha9 t) (a10 t) (ha10 t)

/-- The first point. -/
theorem stepA (ht : t.val = 0) :
    entry c t f3 f4 f5 f6 f7 f8 f9 f10 h ⊢ wp frame (wpE (defs₀ (F := F)) Variants.none c none) Set.univ (bodyOf t) (fun _ => exit c t f3 f4 f5 f6 f7 f8 h) := by
  have hN : t.val < 8 := lt_of_lt_of_eq t.isLt N_0
  unfold entry
  rw [ht, held_zero]
  iintro ⟨⟨HZ, ⟨HC, ⟨%fb, HB⟩⟩⟩, HO, H3, H4, H5, H6, H7, H8, H9, H10⟩
  ihave HZ := (whole_split c t h).1 $$ HZ
  icases HZ with ⟨HD, HR⟩
  iapply (runA c (co t) (a3 t) (ha3 t) (a4 t) (ha4 t) (a5 t) (ha5 t) (a6 t) (ha6 t) (a7 t) (ha7 t) (a8 t) (ha8 t) (a9 t) (ha9 t) (a10 t) (ha10 t) f3 f4 f5 f6 f7 f8 f9 f10 fb ?c1 ?c2 h _)
  case c1 => exact fun hc => absurd ((cond1_iff t).mp hc) (by omega)
  case c2 => exact fun hc => absurd ((cond2_iff t).mp hc) (by omega)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HO]; · iexact HO
  isplitl [HD]; · iexact HD
  isplitl [HC]; · iexact HC
  isplitl [HB]; · iexact HB
  iintro ⟨HX, HF⟩
  unfold exit
  ihave HR := (Entails.of_eq (rest_upd c t h (halves ((a3 t).view.read (Elt F) f3) ((a4 t).view.read (Elt F) f4) ((a5 t).view.read (Elt F) f5) ((a6 t).view.read (Elt F) f6) ((a7 t).view.read (Elt F) f7) ((a8 t).view.read (Elt F) f8)))) $$ HR
  rw [held_succ c t (by omega)]
  isplitl [HR HF]
  · isplitl [HR]; · iexact HR
    iexact HF
  iexact HX

/-- A middle point. -/
theorem stepB (h0 : t.val ≠ 0) (h7 : t.val ≠ 7) :
    entry c t f3 f4 f5 f6 f7 f8 f9 f10 h ⊢ wp frame (wpE (defs₀ (F := F)) Variants.none c none) Set.univ (bodyOf t) (fun _ => exit c t f3 f4 f5 f6 f7 f8 h) := by
  have hN : t.val < 8 := lt_of_lt_of_eq t.isLt N_0
  obtain ⟨t', hv⟩ : ∃ t' : Fin cfg0.N, t.val = t'.val + 1 := ⟨⟨t.val - 1, lt_of_le_of_lt (Nat.sub_le _ _) t.isLt⟩, by show t.val = t.val - 1 + 1; omega⟩
  have hd : t'.val ≠ t.val := by omega
  have hheld : (held c t.val h : sProp 𝕄) = dzPart c t' h := by rw [hv, held_succ c t' (by omega)]
  unfold entry
  rw [hheld]
  iintro ⟨⟨HZ, ⟨%fb, HF⟩⟩, HO, H3, H4, H5, H6, H7, H8, H9, H10⟩
  ihave HZ := (part_split c t h hd).1 $$ HZ
  icases HZ with ⟨HD, HR⟩
  iapply (runB c (co t) (a3 t) (ha3 t) (a4 t) (ha4 t) (a5 t) (ha5 t) (a6 t) (ha6 t) (a7 t) (ha7 t) (a8 t) (ha8 t) (a9 t) (ha9 t) (a10 t) (ha10 t) f3 f4 f5 f6 f7 f8 f9 f10 fb ?c1 ?c2 h (dst (co t')) h _)
  case c1 => exact (cond1_iff t).mpr (by omega)
  case c2 => exact fun hc => absurd ((cond2_iff t).mp hc) (by omega)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HO]; · iexact HO
  isplitl [HD]; · iexact HD
  isplitl [HF]; · iexact HF
  iintro ⟨HX, HP, HF⟩
  unfold exit
  ihave HR := (part_join c t h hd) $$ [HP HR]
  · isplitl [HP]; · iexact HP
    iexact HR
  ihave HR := (Entails.of_eq (rest_upd c t h (halves ((a3 t).view.read (Elt F) f3) ((a4 t).view.read (Elt F) f4) ((a5 t).view.read (Elt F) f5) ((a6 t).view.read (Elt F) f6) ((a7 t).view.read (Elt F) f7) ((a8 t).view.read (Elt F) f8)))) $$ HR
  rw [held_succ c t (by omega)]
  isplitl [HR HF]
  · isplitl [HR]; · iexact HR
    iexact HF
  iexact HX

/-- The last point. -/
theorem stepC (h7 : t.val = 7) :
    entry c t f3 f4 f5 f6 f7 f8 f9 f10 h ⊢ wp frame (wpE (defs₀ (F := F)) Variants.none c none) Set.univ (bodyOf t) (fun _ => exit c t f3 f4 f5 f6 f7 f8 h) := by
  have hN : t.val < 8 := lt_of_lt_of_eq t.isLt N_0
  obtain ⟨t', hv⟩ : ∃ t' : Fin cfg0.N, t.val = t'.val + 1 := ⟨⟨t.val - 1, lt_of_le_of_lt (Nat.sub_le _ _) t.isLt⟩, by show t.val = t.val - 1 + 1; omega⟩
  have hd : t'.val ≠ t.val := by omega
  have hheld : (held c t.val h : sProp 𝕄) = dzPart c t' h := by rw [hv, held_succ c t' (by omega)]
  unfold entry
  rw [hheld]
  iintro ⟨⟨HZ, ⟨%fb, HF⟩⟩, HO, H3, H4, H5, H6, H7, H8, H9, H10⟩
  ihave HZ := (part_split c t h hd).1 $$ HZ
  icases HZ with ⟨HD, HR⟩
  iapply (runC c (co t) (a3 t) (ha3 t) (a4 t) (ha4 t) (a5 t) (ha5 t) (a6 t) (ha6 t) (a7 t) (ha7 t) (a8 t) (ha8 t) (a9 t) (ha9 t) (a10 t) (ha10 t) f3 f4 f5 f6 f7 f8 f9 f10 fb ?c1 ?c2 h (dst (co t')) h _)
  case c1 => exact (cond1_iff t).mpr (by omega)
  case c2 => exact (cond2_iff t).mpr (by omega)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HO]; · iexact HO
  isplitl [HD]; · iexact HD
  isplitl [HF]; · iexact HF
  iintro ⟨HX, HP, HD, HL⟩
  unfold exit
  ihave HR := (part_join c t h hd) $$ [HP HR]
  · isplitl [HP]; · iexact HP
    iexact HR
  ihave HR := (Entails.of_eq (rest_upd c t h (halves ((a3 t).view.read (Elt F) f3) ((a4 t).view.read (Elt F) f4) ((a5 t).view.read (Elt F) f5) ((a6 t).view.read (Elt F) f6) ((a7 t).view.read (Elt F) f7) ((a8 t).view.read (Elt F) f8)))) $$ HR
  ihave HZ := (whole_split c t (upd t h (halves ((a3 t).view.read (Elt F) f3) ((a4 t).view.read (Elt F) f4) ((a5 t).view.read (Elt F) f5) ((a6 t).view.read (Elt F) f6) ((a7 t).view.read (Elt F) f7) ((a8 t).view.read (Elt F) f8)))).2 $$ [HD HR]
  · isplitl [HD]; · iexact HD
    iexact HR
  rw [show t.val + 1 = 8 by omega, held_eight]
  isplitl [HZ HL]
  · isplitl [HZ]; · iexact HZ
    iexact HL
  iexact HX

/-- Every point. -/
theorem step :
    entry c t f3 f4 f5 f6 f7 f8 f9 f10 h ⊢ wp frame (wpE (defs₀ (F := F)) Variants.none c none) Set.univ (bodyOf t) (fun _ => exit c t f3 f4 f5 f6 f7 f8 h) := by
  by_cases h0 : t.val = 0
  · exact stepA c t f3 f4 f5 f6 f7 f8 f9 f10 h h0
  by_cases h7 : t.val = 7
  · exact stepC c t f3 f4 f5 f6 f7 f8 f9 f10 h h7
  · exact stepB c t f3 f4 f5 f6 f7 f8 f9 f10 h h0 h7

end

end Cert.BwdDmIdeal.Gates

end
-- ==== Proof.DmFrame.lean ====
/- The frame of the merge's gradient with what its results hold: every run ends, with the arguments as they were, the two branches'
   gradients in their arrays and the two gates' gradients in their columns of the third result. -/
module

public import proofs.«01_k».proof.Proof.DmStep
public import Idealize.ShloMosaic.Lib.Pipeline.Frame

@[expose] public section

set_option maxRecDepth 16384
set_option maxHeartbeats 1000000

noncomputable section

namespace Cert.BwdDmIdeal.Gates

open Cert.BwdDmIdeal Cert.BwdDmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's own cell and the buffer it writes -/

abbrev osem0 : Fin 1 → SemLoc sig := fun j => (![SemLoc.dma 15] : Fin 1 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0) := by
  rw [Pipeline.ownSems0_eq_of_list c osem0 [0] (by decide) (by decide)]; rfl

/-- The buffer it writes by its own copies. -/
def Rz : Finset (Ref sig .tc) := {main_v0_2}
theorem Rz_sub : Rz ⊆ Pipeline.restRefs sig spec0 \ ∅ := by decide

theorem routed_eq (c : Dev nD) (W : (b : Ref sig .tc) → Buf (Elt F) ((c.tc : Thread nD τ).loc b)) :
    (Pipeline.routed Rz c W : sProp 𝕄) = iprop((dzM.view.loc (c : Thread nD τ)) ↦{fullShare} W main_v0_2) := by
  unfold Pipeline.routed
  rw [BI.bigSep_eq_bigSepL_of_eq [main_v0_2] (by decide) (by decide)]; rfl

/-! ## What the result holds after each point -/

/-- The two gates' gradients a point copies out. -/
abbrev gates (c : Dev nD) (t : Fin cfg0.N) : Vec F S512x2048 .bf16 := halves (iblk m c 0 t) (iblk m c 1 t) (iblk m c 2 t) (iblk m c 3 t) (iblk m c 4 t) (iblk m c 5 t)

/-- The result once the copies of the first `p` points have landed. -/
def filled (c : Dev nD) : ℕ → BufTy.Contents (Elt F) dzM.view.ty
  | 0 => V m c main_v0_2
  | p + 1 => if h : p < cfg0.N then upd ⟨p, h⟩ (filled c p) (gates m c ⟨p, h⟩) else filled c p

theorem filled_zero (c : Dev nD) : filled m c 0 = V m c main_v0_2 := rfl
theorem filled_succ (c : Dev nD) (t : Fin cfg0.N) : filled m c (t.val + 1) = upd t (filled m c t.val) (gates m c t) := dif_pos t.isLt

/-- What the unscoped buffers hold at the end: the result filled, any other as it was. -/
def G (c : Dev nD) : (b : Ref sig .tc) → Buf (Elt F) ((c.tc : Thread nD τ).loc b) :=
  Function.update (V m c) main_v0_2 (filled m c 8)

theorem G_dz (c : Dev nD) : G m c main_v0_2 = filled m c 8 := Function.update_self _ _ _

/-- What is held between two points besides the blocks. -/
abbrev inv (c : Dev nD) (p : ℕ) : sProp 𝕄 :=
  iprop(held c p (filled m c p) ∗ (∃ r, prngReg c r))

theorem pt_ob (c : Dev nD) (f : BufTy.Contents (Elt F) obM.view.ty) :
    (pt c obM f : sProp 𝕄) = (((c : Thread nD τ).loc cc0_scratch0) ↦{fullShare} f) :=
  congrArg (fun S => ((c : Thread nD τ).loc cc0_scratch0 ↦[S]{fullShare} f : sProp 𝕄)) (View.set_whole cc0_scratch0)

theorem phi_eq (c : Dev nD) (V W : (c : Dev nD) → (b : Ref sig .tc) → Buf (Elt F) ((c.tc : Thread nD τ).loc b)) :
    (Pipeline.ΦDRG osem0 spec0 ∅ Rz V W c : sProp 𝕄)
      = iprop((∃ f, pt c obM f) ∗ (∃ r, prngReg c r) ∗ semVal ((c : Thread nD τ), SemLoc.dma 15) 0
          ∗ emp ∗ (dzM.view.loc (c : Thread nD τ)) ↦{fullShare} W c main_v0_2) := by
  rw [Pipeline.ΦDRG_eq, scopedRest0_eq, ownSems_eq, routed_eq, BI.bigSep_empty]
  simp only [pt_ob]
  rfl

theorem phi_in (c : Dev nD) :
    (Pipeline.ΦDRG osem0 spec0 ∅ Rz (V m) (V m) c : sProp 𝕄) ⊢ inv m c 0 := by
  rw [phi_eq]
  simp only [inv, held_zero, filled_zero]
  iintro ⟨HB, HG, Hq, -, HZ⟩
  isplitl [HZ Hq HB]
  · isplitl [HZ]; · iexact HZ
    isplitl [Hq]; · iexact Hq
    iexact HB
  iexact HG

theorem phi_out (c : Dev nD) :
    inv m c 8 ⊢ (Pipeline.ΦDRG osem0 spec0 ∅ Rz (V m) (G m) c : sProp 𝕄) := by
  rw [phi_eq, G_dz]
  simp only [inv, held_eight]
  iintro ⟨⟨HZ, Hq, HB⟩, HG⟩
  isplitl [HB]; · iexact HB
  isplitl [HG]; · iexact HG
  isplitl [Hq]; · iexact Hq
  isplitr
  · iempintro
  iexact HZ

/-! ## The proof data and the body -/

/-- The arrays as the region finds them; an input block left in place; the branches' gradients in the two outputs; nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay8 (iblk m c 0 t) (iblk m c 1 t) (iblk m c 4 t)
    | ⟨7, _⟩ => k0_pay9 (iblk m c 0 t) (iblk m c 1 t) (iblk m c 5 t)
  Φ t := inv m c t.val
  q := Pipeline.shareOf spec0
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = k0_pay8 (iblk m c 0 t) (iblk m c 1 t) (iblk m c 4 t) := by dsimp only [dats]
theorem after7 (c : Dev nD) (t : Fin cfg0.N) : (dats m 0 c).after 7 t = k0_pay9 (iblk m c 0 t) (iblk m c 1 t) (iblk m c 5 t) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (a3 t) fullShare ((dats m 0 c).before 0 t d))
    ∗ (∃ d, owns (c : Thread nD τ) (a4 t) fullShare ((dats m 0 c).before 1 t d))
    ∗ (∃ d, owns (c : Thread nD τ) (a5 t) fullShare ((dats m 0 c).before 2 t d))
    ∗ (∃ d, owns (c : Thread nD τ) (a6 t) fullShare ((dats m 0 c).before 3 t d))
    ∗ (∃ d, owns (c : Thread nD τ) (a7 t) fullShare ((dats m 0 c).before 4 t d))
    ∗ (∃ d, owns (c : Thread nD τ) (a8 t) fullShare ((dats m 0 c).before 5 t d))
    ∗ (∃ d, owns (c : Thread nD τ) (a9 t) fullShare ((dats m 0 c).before 6 t d))
    ∗ (∃ d, owns (c : Thread nD τ) (a10 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (a3 t) fullShare ((dats m 0 c).after 0 t)
    ∗ owns (c : Thread nD τ) (a4 t) fullShare ((dats m 0 c).after 1 t)
    ∗ owns (c : Thread nD τ) (a5 t) fullShare ((dats m 0 c).after 2 t)
    ∗ owns (c : Thread nD τ) (a6 t) fullShare ((dats m 0 c).after 3 t)
    ∗ owns (c : Thread nD τ) (a7 t) fullShare ((dats m 0 c).after 4 t)
    ∗ owns (c : Thread nD τ) (a8 t) fullShare ((dats m 0 c).after 5 t)
    ∗ owns (c : Thread nD τ) (a9 t) fullShare ((dats m 0 c).after 6 t)
    ∗ owns (c : Thread nD τ) (a10 t) fullShare ((dats m 0 c).after 7 t))

theorem sound_body (c : Dev nD) (t : Fin cfg0.N) :
    bodyPre m c t ⊢ wp frame (wpE (defs₀ (F := F)) Variants.none c none) Set.univ (bodyOf t) (fun _ => bodyPost m c t) := by
  unfold bodyPre bodyPost
  rw [after0, after1, after2, after3, after4, after5, after6, after7]
  simp only [before0, before1, before2, before3, before4, before5]
  rw [show (dats m 0 c).Φ t.castSucc = inv m c t.val from rfl,
    show (dats m 0 c).Φ t.succ = iprop(held c (t.val + 1) (upd t (filled m c t.val) (gates m c t)) ∗ (∃ r, prngReg c r)) from
      congrArg (fun h => iprop(held c (t.val + 1) h ∗ (∃ r, prngReg c r))) (filled_succ m c t)]
  unfold Dat.owesAt Pipeline.owesWithin
  rw [show (dats m 0 c).owed t.castSucc = 0 from rfl, show (dats m 0 c).owed t.succ = 0 from rfl]
  iintro ⟨⟨HH, HG⟩, ⟨%W, -, HO⟩, ⟨%_, H3⟩, ⟨%_, H4⟩, ⟨%_, H5⟩, ⟨%_, H6⟩, ⟨%_, H7⟩, ⟨%_, H8⟩, ⟨%_, H9⟩, ⟨%_, H10⟩⟩
  unfold owns
  icases H3 with ⟨%f3, %e3, H3⟩
  icases H4 with ⟨%f4, %e4, H4⟩
  icases H5 with ⟨%f5, %e5, H5⟩
  icases H6 with ⟨%f6, %e6, H6⟩
  icases H7 with ⟨%f7, %e7, H7⟩
  icases H8 with ⟨%f8, %e8, H8⟩
  icases H9 with ⟨%f9, %e9, H9⟩
  icases H10 with ⟨%f10, %e10, H10⟩
  have eD : halves ((a3 t).view.read (Elt F) f3) ((a4 t).view.read (Elt F) f4) ((a5 t).view.read (Elt F) f5) ((a6 t).view.read (Elt F) f6) ((a7 t).view.read (Elt F) f7) ((a8 t).view.read (Elt F) f8) = gates m c t := by rw [e3, e4, e5, e6, e7, e8]
  iapply (wp_wand_r frame _ Set.univ)
  isplitl [HH HO H3 H4 H5 H6 H7 H8 H9 H10]
  · iapply (step c t f3 f4 f5 f6 f7 f8 f9 f10 (filled m c t.val))
    unfold entry
    isplitl [HH]; · iexact HH
    isplitl [HO]; · iexists W; iexact HO
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  rw [← eD]
  unfold exit
  iintro %_ ⟨HH, H3, H4, H5, H6, H7, H8, H9, H10, ⟨%W', HO⟩⟩
  isplitl [HH HG]
  · isplitl [HH]; · iexact HH
    iexact HG
  isplitl [HO]
  · iexists W'; isplitr; · ipureintro; exact fun _ _ => Or.inl trivial
    iexact HO
  isplitl [H3]; · iexists f3; isplitr; swap; · iexact H3
                  ipureintro; exact e3
  isplitl [H4]; · iexists f4; isplitr; swap; · iexact H4
                  ipureintro; exact e4
  isplitl [H5]; · iexists f5; isplitr; swap; · iexact H5
                  ipureintro; exact e5
  isplitl [H6]; · iexists f6; isplitr; swap; · iexact H6
                  ipureintro; exact e6
  isplitl [H7]; · iexists f7; isplitr; swap; · iexact H7
                  ipureintro; exact e7
  isplitl [H8]; · iexists f8; isplitr; swap; · iexact H8
                  ipureintro; exact e8
  isplitl [H9]
  · rw [← e3, ← e4, ← e7]
    unfold owns; iexact H9
  rw [← e3, ← e4, ← e8]
  unfold owns
  iexact H10

/-- The body table's row at the point is the body on the point's memrefs. -/
theorem defs₀_row (t : Fin cfg0.N) : defs₀ (F := F) .tc cfg0.body (cfg0.bodyArgs t (cfg0.slots t)) = bodyOf t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- @main is the region alone. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- Every run of @main ends, with the windows' arrays at what the proof data says and the third result filled. -/
theorem run_main :
    θ_run defs (onTc (τ := τ) (main (F := F))) (s₀ m ρ)
      (fun r => Pipeline.FramePostRG cfgs (dats m) 0 Rz (V m) (G m) r ∧ r.2.sem = fun _ => 0) :=
  Pipeline.θ_run_frame_dmaRG_shared (Q' := _) cfgs (dats m) (0 : Fin 1) launch₀0 osem0 defs₀ Variants.none ownSemFacts0 ∅ Rz
    (Finset.empty_subset _) Rz_sub m ρ main
    (hbody := fun c => (body_obligation m c).loose) (hq := fun _ _ _ => rfl)
    (howed := fun _ _ => rfl) (V := V m) (hmain := hmainD m Variants.none) (hA := A_eq m) (G := G m)
    (hin := fun c => phi_in m c) (hout := fun c => phi_out m c)

/-- The frame: every run of @main ends, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1.1 c).1 0).trans (((dats m 0 c).arrAt_in 0 rfl _).trans ((A_eq m c 0).trans (V_main_arg0 m c))),
      ((h.1.1 c).1 1).trans (((dats m 0 c).arrAt_in 1 rfl _).trans ((A_eq m c 1).trans (V_main_arg1 m c))),
      ((h.1.1 c).1 2).trans (((dats m 0 c).arrAt_in 2 rfl _).trans ((A_eq m c 2).trans (V_main_arg2 m c))),
      ((h.1.1 c).1 3).trans (((dats m 0 c).arrAt_in 3 rfl _).trans ((A_eq m c 3).trans (V_main_arg3 m c))),
      ((h.1.1 c).1 5).trans (((dats m 0 c).arrAt_in 5 rfl _).trans ((A_eq m c 5).trans (V_main_arg4 m c)))⟩, h.2⟩) (run_main m ρ)

end Cert.BwdDmIdeal.Gates

end
-- ==== Proof.DmRef.lean ====
/- The merge's gradient as the reference writes it -/
module

public import proofs.«01_k».proof.Proof.Gen.RefDmIdeal.Run

@[expose] public section

set_option maxRecDepth 16384

noncomputable section

namespace Cert.RefDmIdeal.Term

open Cert.RefDmIdeal Cert.RefDmIdeal.Gen Idealize.ShloMosaic Idealize.SL.Sem

variable {F : FTy → Type} [FloatOps F]

/-- Result 0 of the reference over its arguments. -/
abbrev term0 (a0 : FVec F S4096x1024 .bf16) (a1 : FVec F S1024x1024 .bf16) (a2 : FVec F S4096x1024 .bf16) (a3 : FVec F S4096x1024 .bf16) (a4 : FVec F S4096x7168 .bf16) : FVec F S4096x1024 .bf16 :=
  truncf .bf16 (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 5120] (extf .f32 a4 bitsLt_bf16_f32) slices_S4096x7168_S4096x1024_0_5120))))) (Host.dotGeneral dot_S4096x1024_S1024x1024_S4096x1024_1_1_0_0_n_n none (extf .f32 a0 bitsLt_bf16_f32) (extf .f32 a1 bitsLt_bf16_f32))) bitsLt_bf16_f32

/-- Result 1 of the reference over its arguments. -/
abbrev term1 (a0 : FVec F S4096x1024 .bf16) (a1 : FVec F S1024x1024 .bf16) (a2 : FVec F S4096x1024 .bf16) (a3 : FVec F S4096x1024 .bf16) (a4 : FVec F S4096x7168 .bf16) : FVec F S4096x1024 .bf16 :=
  truncf .bf16 (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 6144] (extf .f32 a4 bitsLt_bf16_f32) slices_S4096x7168_S4096x1024_0_6144))))) (Host.dotGeneral dot_S4096x1024_S1024x1024_S4096x1024_1_1_0_0_n_n none (extf .f32 a0 bitsLt_bf16_f32) (extf .f32 a1 bitsLt_bf16_f32))) bitsLt_bf16_f32

/-- Result 2 of the reference over its arguments. -/
abbrev term2 (a0 : FVec F S4096x1024 .bf16) (a1 : FVec F S1024x1024 .bf16) (a2 : FVec F S4096x1024 .bf16) (a3 : FVec F S4096x1024 .bf16) (a4 : FVec F S4096x7168 .bf16) : FVec F S4096x7168 .bf16 :=
  truncf .bf16 ((concatenate S4096x7168 1 [⟨S4096x5120, ((broadcastInDim S4096x5120 ![] bcast_S_S4096x5120 (constant S_ .f32 0x00000000#32)) : (⟨S4096x5120, .f32⟩ : BufTy).Contents (Elt F))⟩, ⟨S4096x1024, ((mulf (mulf (Host.dotGeneral dot_S4096x1024_S1024x1024_S4096x1024_1_1_0_0_n_n none (extf .f32 a0 bitsLt_bf16_f32) (extf .f32 a1 bitsLt_bf16_f32)) (extf .f32 a2 bitsLt_bf16_f32)) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 5120] (extf .f32 a4 bitsLt_bf16_f32) slices_S4096x7168_S4096x1024_0_5120))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 5120] (extf .f32 a4 bitsLt_bf16_f32) slices_S4096x7168_S4096x1024_0_5120)))))))) : (⟨S4096x1024, .f32⟩ : BufTy).Contents (Elt F))⟩, ⟨S4096x1024, ((mulf (mulf (Host.dotGeneral dot_S4096x1024_S1024x1024_S4096x1024_1_1_0_0_n_n none (extf .f32 a0 bitsLt_bf16_f32) (extf .f32 a1 bitsLt_bf16_f32)) (extf .f32 a3 bitsLt_bf16_f32)) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 6144] (extf .f32 a4 bitsLt_bf16_f32) slices_S4096x7168_S4096x1024_0_6144))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 6144] (extf .f32 a4 bitsLt_bf16_f32) slices_S4096x7168_S4096x1024_0_6144)))))))) : (⟨S4096x1024, .f32⟩ : BufTy).Contents (Elt F))⟩] concatenates_S4096x5120_S4096x1024_S4096x1024_S4096x7168_d1 : (⟨S4096x7168, .f32⟩ : BufTy).Contents (Elt F))) bitsLt_bf16_f32

/-- The reference's run, each result at its term. -/
theorem run_terms (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = term0 (m ((c.tc : Thread Cert.RefDmIdeal.nD Cert.RefDmIdeal.τ).loc main_arg0)) (m ((c.tc : Thread Cert.RefDmIdeal.nD Cert.RefDmIdeal.τ).loc main_arg1)) (m ((c.tc : Thread Cert.RefDmIdeal.nD Cert.RefDmIdeal.τ).loc main_arg2)) (m ((c.tc : Thread Cert.RefDmIdeal.nD Cert.RefDmIdeal.τ).loc main_arg3)) (m ((c.tc : Thread Cert.RefDmIdeal.nD Cert.RefDmIdeal.τ).loc main_arg4))
      ∧ r.2.mem ((c.tc : Thread nD τ).loc main_v39) = term1 (m ((c.tc : Thread Cert.RefDmIdeal.nD Cert.RefDmIdeal.τ).loc main_arg0)) (m ((c.tc : Thread Cert.RefDmIdeal.nD Cert.RefDmIdeal.τ).loc main_arg1)) (m ((c.tc : Thread Cert.RefDmIdeal.nD Cert.RefDmIdeal.τ).loc main_arg2)) (m ((c.tc : Thread Cert.RefDmIdeal.nD Cert.RefDmIdeal.τ).loc main_arg3)) (m ((c.tc : Thread Cert.RefDmIdeal.nD Cert.RefDmIdeal.τ).loc main_arg4))
      ∧ r.2.mem ((c.tc : Thread nD τ).loc main_v40) = term2 (m ((c.tc : Thread Cert.RefDmIdeal.nD Cert.RefDmIdeal.τ).loc main_arg0)) (m ((c.tc : Thread Cert.RefDmIdeal.nD Cert.RefDmIdeal.τ).loc main_arg1)) (m ((c.tc : Thread Cert.RefDmIdeal.nD Cert.RefDmIdeal.τ).loc main_arg2)) (m ((c.tc : Thread Cert.RefDmIdeal.nD Cert.RefDmIdeal.τ).loc main_arg3)) (m ((c.tc : Thread Cert.RefDmIdeal.nD Cert.RefDmIdeal.τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by rfl),
      (h c).2.1.trans (by rfl),
      (h c).2.2.1.trans (by rfl),
      (h c).2.2.2⟩)
    (Cert.RefDmIdeal.Value.run m ρ)

end Cert.RefDmIdeal.Term

end
-- ==== Proof.DmBlocks.lean ====
/- The blocks a point of the merge's gradient call computes are the reference's terms through the point's windows. -/
module

public import proofs.«01_k».proof.Proof.DmFrame
public import proofs.«01_k».proof.Proof.DmRef
public import Idealize.ShloMosaic.Lib.Pipeline.ValueKit
public import Idealize.ShloMosaic.Lib.Pipeline.ReadBack

@[expose] public section

set_option maxRecDepth 16384

noncomputable section

namespace Cert.BwdDmIdeal.Gates

open Cert.BwdDmIdeal Cert.BwdDmIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- Every window's block index at a point. -/
theorem idx_val : ∀ t : Fin cfg0.N, win0_0.index t = ![t.val, 0] ∧ win0_1.index t = ![0, 0] ∧ win0_2.index t = ![t.val, 0]
    ∧ win0_3.index t = ![t.val, 0] ∧ win0_4.index t = ![t.val, 5] ∧ win0_5.index t = ![t.val, 6]
    ∧ win0_6.index t = ![t.val, 0] ∧ win0_7.index t = ![t.val, 0] :=
  (by decide +kernel : ∀ t : Fin grid0.N, _)

/-- Every point before the end of the grid. -/
theorem lt8 (t : Fin cfg0.N) : t.val < 8 := lt_of_lt_of_eq t.isLt N_0

theorem final6 (c : Dev nD) : (dats m 0 c).arrAt 6 (cfgs 0).N
    = Cert.RefDmIdeal.Term.term0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after6]
  pointwise [k0_pay8, k0_pay3, k0_pay6, Cert.RefDmIdeal.Term.term0]
  simp only [zero_sub]
  rw [mul_comm (G := EReal)]
  blk_point [iblk, V, idx_val t]

theorem final7 (c : Dev nD) : (dats m 0 c).arrAt 7 (cfgs 0).N
    = Cert.RefDmIdeal.Term.term1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp; rw [after7]
  pointwise [k0_pay9, k0_pay3, k0_pay7, Cert.RefDmIdeal.Term.term1]
  simp only [zero_sub]
  rw [mul_comm (G := EReal)]
  blk_point [iblk, V, idx_val t]

/-! ## The two gates' gradients -/

/-- The first gate's gradient at a point is the reference's array through the point's window. -/
theorem left_eq (c : Dev nD) (t : Fin cfg0.N) (y : S512x1024.Idx) (z : S4096x7168.Idx) (h0 : (z 0).val = t.val * 512 + (y 0).val)
    (h1 : (z 1).val = 5120 + (y 1).val) :
    k0_pay1 (F := Ideal) (k0_pay3 (iblk m c 0 t) (iblk m c 1 t)) (k0_pay4 (iblk m c 2 t)) (k0_pay6 (iblk m c 4 t)) y = Cert.RefDmIdeal.Term.term2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) z := by
  pointwise [k0_pay1, k0_pay3, k0_pay4, k0_pay6, Cert.RefDmIdeal.Term.term2]
  have hy : (y 1 : ℕ) < 1024 := (y 1).isLt
  rw [dif_neg (by omega), dif_pos (by omega)]
  simp only [zero_sub, mul_assoc]
  blk_point [iblk, V, idx_val t]

/-- The second gate's gradient likewise. -/
theorem right_eq (c : Dev nD) (t : Fin cfg0.N) (y : S512x1024.Idx) (z : S4096x7168.Idx) (h0 : (z 0).val = t.val * 512 + (y 0).val)
    (h1 : (z 1).val = 6144 + (y 1).val) :
    k0_pay2 (F := Ideal) (k0_pay3 (iblk m c 0 t) (iblk m c 1 t)) (k0_pay5 (iblk m c 3 t)) (k0_pay7 (iblk m c 5 t)) y = Cert.RefDmIdeal.Term.term2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) z := by
  pointwise [k0_pay2, k0_pay3, k0_pay5, k0_pay7, Cert.RefDmIdeal.Term.term2]
  rw [dif_neg (by omega), dif_neg (by omega)]
  simp only [zero_sub, mul_assoc]
  blk_point [iblk, V, idx_val t]

end Cert.BwdDmIdeal.Gates

end
-- ==== Proof.DmValue.lean ====
/- The arrays the merge's gradient call leaves are the reference's terms: the two branches' gradients everywhere, and in the gates'
   columns of the third result the two gates' gradients. -/
module

public import proofs.«01_k».proof.Proof.DmBlocks
public import proofs.«01_k».proof.On_gate_columns
public import Idealize.ShloMosaic.Lib.Pipeline.ValueKit
public import Idealize.ShloMosaic.Lib.Pipeline.ReadBack

@[expose] public section

set_option maxRecDepth 16384

noncomputable section

namespace Cert.BwdDmIdeal.Gates

open Cert.BwdDmIdeal Cert.BwdDmIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-! ## The staged halves -/

/-- The two halves of the staging buffer. -/
abbrev rectL : Rect S512x2048 := Rect.unit (s := S512x2048) ![0, 0] S512x1024.size inb_S512x2048_S512x1024_0_0
abbrev rectR : Rect S512x2048 := Rect.unit (s := S512x2048) ![0, 1024] S512x1024.size inb_S512x2048_S512x1024_0_1024

theorem rectL_val (w : S512x1024.Idx) : (rectL.emb w 0 : ℕ) = (w 0 : ℕ) ∧ (rectL.emb w 1 : ℕ) = (w 1 : ℕ) :=
  ⟨(Rect.idx_unit_val (s := S512x2048) ![0, 0] S512x1024.size inb_S512x2048_S512x1024_0_0 w (0 : Fin 2)).trans (Nat.zero_add _),
    (Rect.idx_unit_val (s := S512x2048) ![0, 0] S512x1024.size inb_S512x2048_S512x1024_0_0 w (1 : Fin 2)).trans (Nat.zero_add _)⟩

theorem rectR_val (w : S512x1024.Idx) : (rectR.emb w 0 : ℕ) = (w 0 : ℕ) ∧ (rectR.emb w 1 : ℕ) = 1024 + (w 1 : ℕ) :=
  ⟨(Rect.idx_unit_val (s := S512x2048) ![0, 1024] S512x1024.size inb_S512x2048_S512x1024_0_1024 w (0 : Fin 2)).trans (Nat.zero_add _),
    Rect.idx_unit_val (s := S512x2048) ![0, 1024] S512x1024.size inb_S512x2048_S512x1024_0_1024 w (1 : Fin 2)⟩

/-- An element of the staging buffer is one of the left half or of the right. -/
theorem in_half (y : S512x2048.Idx) : (∃ w : S512x1024.Idx, rectL.emb w = y) ∨ (∃ w : S512x1024.Idx, rectR.emb w = y) := by
  have h0 : (y 0 : ℕ) < 512 := (y 0).isLt
  have h1 : (y 1 : ℕ) < 2048 := (y 1).isLt
  rcases Nat.lt_or_ge (y 1 : ℕ) 1024 with h | h
  · refine Or.inl (rectL.exists_idx_of_mem ((Rect.mem_set_unit (s := S512x2048) (off := ![0, 0]) (size := S512x1024.size) (inb := inb_S512x2048_S512x1024_0_0)).mpr ?_))
    exact Fin.forall_fin_two.mpr ⟨⟨Nat.zero_le _, lt_of_lt_of_eq h0 (Nat.zero_add 512).symm⟩, ⟨Nat.zero_le _, lt_of_lt_of_eq h (Nat.zero_add 1024).symm⟩⟩
  · refine Or.inr (rectR.exists_idx_of_mem ((Rect.mem_set_unit (s := S512x2048) (off := ![0, 1024]) (size := S512x1024.size) (inb := inb_S512x2048_S512x1024_0_1024)).mpr ?_))
    exact Fin.forall_fin_two.mpr ⟨⟨Nat.zero_le _, lt_of_lt_of_eq h0 (Nat.zero_add 512).symm⟩, ⟨h, h1⟩⟩

/-- An element of the left half is not one of the right. -/
theorem not_right (w : S512x1024.Idx) : rectL.emb w ∉ rectR.set := fun hm => by
  have hw : (w 1 : ℕ) < 1024 := (w 1).isLt
  have h : 1024 ≤ (rectL.emb w 1 : ℕ) := ((Rect.mem_set_unit (s := S512x2048) (off := ![0, 1024]) (size := S512x1024.size) (inb := inb_S512x2048_S512x1024_0_1024)).mp hm (1 : Fin 2)).1
  rw [(rectL_val w).2] at h
  omega

/-- Two halves side by side, at an element of the left one and of the right one. -/
theorem side_left (a b : Vec Ideal S512x1024 .bf16) (w : S512x1024.Idx) :
    View.canon (Val := Elt Ideal) (e := .bf16) [⟨rectR, b⟩, ⟨rectL, a⟩] (rectL.emb w) = a w :=
  (View.canon_cons_of_not_mem (⟨rectR, b⟩ : View.Piece (Elt Ideal) S512x2048 .bf16) [⟨rectL, a⟩] (not_right w)).trans (View.canon_cons_emb rectL a [] w)
theorem side_right (a b : Vec Ideal S512x1024 .bf16) (w : S512x1024.Idx) :
    View.canon (Val := Elt Ideal) (e := .bf16) [⟨rectR, b⟩, ⟨rectL, a⟩] (rectR.emb w) = b w :=
  View.canon_cons_emb rectR b [⟨rectL, a⟩] w

/-- What a point copies out is the reference's term through the window it copies to. -/
theorem gates_at (c : Dev nD) (t : Fin cfg0.N) (y : S512x2048.Idx) (z : S4096x7168.Idx) (h0 : (z 0).val = t.val * 512 + (y 0).val)
    (h1 : (z 1).val = 5120 + (y 1).val) : gates m c t y = Cert.RefDmIdeal.Term.term2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) z := by
  rcases in_half y with ⟨w, e⟩ | ⟨w, e⟩
  · rw [← e, (rectL_val w).1] at h0
    rw [← e, (rectL_val w).2] at h1
    rw [← e]
    exact (side_left _ _ w).trans (left_eq m c t w z h0 h1)
  · rw [← e, (rectR_val w).1] at h0
    rw [← e, (rectR_val w).2] at h1
    rw [← e]
    exact (side_right _ _ w).trans (right_eq m c t w z h0 (by omega))

/-! ## The third result -/

/-- The part of the result a point's copy fills. -/
abbrev rectD (t : Fin cfg0.N) : Rect S4096x7168 := Rect.unit (s := S4096x7168) (k0_off2 (co t)) S512x2048.size (k0_off2_inb (co t))

theorem rectD_val (t : Fin cfg0.N) (y : S512x2048.Idx) : ((rectD t).emb y 0 : ℕ) = t.val * 512 + (y 0 : ℕ)
    ∧ ((rectD t).emb y 1 : ℕ) = 5120 + (y 1 : ℕ) :=
  ⟨(Rect.idx_unit_val (s := S4096x7168) (k0_off2 (co t)) S512x2048.size (k0_off2_inb (co t)) y (0 : Fin 2)).trans (congrArg (· + (y 0 : ℕ)) (off_row t)),
    (Rect.idx_unit_val (s := S4096x7168) (k0_off2 (co t)) S512x2048.size (k0_off2_inb (co t)) y (1 : Fin 2)).trans (congrArg (· + (y 1 : ℕ)) (off_col t))⟩

theorem read_dst (t : Fin cfg0.N) (H : BufTy.Contents (Elt Ideal) dzM.view.ty) (y : S512x2048.Idx) :
    (dst (co t)).view.read (Elt Ideal) H y = H ((rectD t).emb y) := rfl

/-- A point's window, filled, holds at an element of it what fills it. -/
theorem upd_on (t : Fin cfg0.N) (h : BufTy.Contents (Elt Ideal) dzM.view.ty) (D : S512x2048.Idx → Elt Ideal .bf16) (y : S512x2048.Idx) :
    upd t h D ((rectD t).emb y) = D y := by
  have e := View.read_writes_cons_emb (v := (dst (co t)).view) (f := h) (Rect.whole S512x2048) D [] y
  rw [Rect.emb_whole_apply] at e
  exact (read_dst t _ y).symm.trans e

/-- A point's window is the rows of its block. -/
theorem row_of_mem (t : Fin cfg0.N) {i : S4096x7168.Idx} (h : i ∈ win t) : t.val * 512 ≤ (i 0 : ℕ) := by
  obtain ⟨y, -, e⟩ := Finset.mem_map.mp h
  have h := (rectD_val t y).1
  rw [show (rectD t).emb y = i from e] at h
  omega

theorem mem_of_row (t : Fin cfg0.N) (i : S4096x7168.Idx) (h : t.val * 512 ≤ (i 0 : ℕ)) (h' : (i 0 : ℕ) < t.val * 512 + 512)
    (hi : 5120 ≤ (i 1 : ℕ)) : ∃ y : S512x2048.Idx, (rectD t).emb y = i := by
  have h7 : (i 1 : ℕ) < 7168 := (i 1).isLt
  refine (rectD t).exists_idx_of_mem ((Rect.mem_set_unit (s := S4096x7168) (off := k0_off2 (co t)) (size := S512x2048.size) (inb := k0_off2_inb (co t))).mpr ?_)
  refine Fin.forall_fin_two.mpr ⟨?_, ?_⟩
  · rw [off_row t]; exact ⟨h, h'⟩
  · rw [off_col t]; exact ⟨hi, h7⟩

/-- In the gates' columns, the result after some points is the reference's term on the rows they cover. -/
theorem filled_at (c : Dev nD) (i : S4096x7168.Idx) (hi : 5120 ≤ (i 1 : ℕ)) (p : ℕ) (hp : p ≤ 8) (h : (i 0 : ℕ) < p * 512) :
    filled m c p i = Cert.RefDmIdeal.Term.term2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  induction p with
  | zero => exact absurd h (by omega)
  | succ p ih =>
    have hN : p < cfg0.N := lt_of_lt_of_eq (by omega) N_0.symm
    refine (congrFun (filled_succ m c ⟨p, hN⟩) i).trans ?_
    rcases Nat.lt_or_ge (i 0 : ℕ) (p * 512) with hr | hr
    · exact (upd_off ⟨p, hN⟩ _ _ fun hm => absurd (row_of_mem ⟨p, hN⟩ hm) (Nat.not_le.mpr hr)).trans (ih (by omega) hr)
    · obtain ⟨y, e⟩ := mem_of_row ⟨p, hN⟩ i hr (by show (i 0 : ℕ) < p * 512 + 512; omega) hi
      have hv := rectD_val ⟨p, hN⟩ y
      rw [← e]
      exact (upd_on ⟨p, hN⟩ _ _ y).trans (gates_at m c ⟨p, hN⟩ y _ hv.1 hv.2)

/-- In the gates' columns the third result is the reference's term. -/
theorem final_dz (c : Dev nD) (i : S4096x7168.Idx) (hi : 5120 ≤ (i 1 : ℕ)) :
    G m c main_v0_2 i = Cert.RefDmIdeal.Term.term2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  rw [G_dz]
  exact filled_at m c i hi 8 (le_refl _) (i 0).isLt

end Cert.BwdDmIdeal.Gates

end
-- ==== Proof.DmClaim.lean ====
/- The claim of the merge's gradient call: the two branches' gradients everywhere, and the gates' gradients where the mask
   `gate_columns` is set, which is the columns the call writes of its third result. -/
module

public import proofs.«01_k».proof.Defs
public import proofs.«01_k».proof.Proof.Gen.On_gate_columns
public import proofs.«01_k».proof.Proof.DmValue

@[expose] public section

noncomputable section

open Idealize.ShloMosaic Idealize.SL.Sem

namespace Cert.On_gate_columns

variable {F : FTy → Type} [FloatOps F] [Facts]

/-- The comparison the mask is made of, at one column. -/
theorem key (r : ℕ) (hr : r < 7168) (h : IntOp.cmpi .sge (BitVec.ofNat 32 r) 5120#32 = 1#1) : 5120 ≤ r := by
  by_contra hn
  have e : (5120#32).sle (BitVec.ofNat 32 r) = false := by
    rw [BitVec.sle_eq_decide, decide_eq_false_iff_not, BitVec.toInt_eq_toNat_of_lt (x := BitVec.ofNat 32 r) (by rw [BitVec.toNat_ofNat]; omega),
      BitVec.toNat_ofNat, show (5120#32).toInt = 5120 from rfl]
    omega
  have h' : BitVec.ofBool ((5120#32).sle (BitVec.ofNat 32 r)) = 1#1 := h
  rw [e] at h'
  exact absurd h' (by decide)

/-- The mask's third array is set only from column 5120 on. -/
theorem fn_apply (a0 : FVec F S4096x1024 .bf16) (a1 : FVec F S1024x1024 .bf16) (a2 a3 : FVec F S4096x1024 .bf16)
    (a4 : FVec F S4096x7168 .bf16) (i : S4096x7168.Idx) (h : (fn a0 a1 a2 a3 a4).2.2 i = 1#1) : 5120 ≤ (i 1 : ℕ) := by
  have h' : IntOp.cmpi .sge (BitVec.ofNat 32 (i 1 : ℕ)) 5120#32 = 1#1 := h
  exact key _ (i 1).isLt h'

end Cert.On_gate_columns

namespace Cert.BwdDmIdeal.Gates

open Cert.BwdDmIdeal Cert.BwdDmIdeal.Gen

/-- The two branches' gradients are the reference's everywhere, the gates' gradients where the mask is set. -/
theorem claim : Cert.algebraic_BwdDmIdeal_RefDmIdeal_on_gate_columns := by
  intro m g m' g' _ hm
  refine ⟨fun c => Cert.RefDmIdeal.Term.term0 (F := Ideal) (m ((c.tc : Thread Cert.BwdDmIdeal.nD Cert.BwdDmIdeal.τ).loc Cert.BwdDmIdeal.main_arg0)) (m ((c.tc : Thread Cert.BwdDmIdeal.nD Cert.BwdDmIdeal.τ).loc Cert.BwdDmIdeal.main_arg1)) (m ((c.tc : Thread Cert.BwdDmIdeal.nD Cert.BwdDmIdeal.τ).loc Cert.BwdDmIdeal.main_arg2)) (m ((c.tc : Thread Cert.BwdDmIdeal.nD Cert.BwdDmIdeal.τ).loc Cert.BwdDmIdeal.main_arg3)) (m ((c.tc : Thread Cert.BwdDmIdeal.nD Cert.BwdDmIdeal.τ).loc Cert.BwdDmIdeal.main_arg4)),
    fun c => Cert.RefDmIdeal.Term.term1 (F := Ideal) (m ((c.tc : Thread Cert.BwdDmIdeal.nD Cert.BwdDmIdeal.τ).loc Cert.BwdDmIdeal.main_arg0)) (m ((c.tc : Thread Cert.BwdDmIdeal.nD Cert.BwdDmIdeal.τ).loc Cert.BwdDmIdeal.main_arg1)) (m ((c.tc : Thread Cert.BwdDmIdeal.nD Cert.BwdDmIdeal.τ).loc Cert.BwdDmIdeal.main_arg2)) (m ((c.tc : Thread Cert.BwdDmIdeal.nD Cert.BwdDmIdeal.τ).loc Cert.BwdDmIdeal.main_arg3)) (m ((c.tc : Thread Cert.BwdDmIdeal.nD Cert.BwdDmIdeal.τ).loc Cert.BwdDmIdeal.main_arg4)),
    fun c => Cert.RefDmIdeal.Term.term2 (F := Ideal) (m ((c.tc : Thread Cert.BwdDmIdeal.nD Cert.BwdDmIdeal.τ).loc Cert.BwdDmIdeal.main_arg0)) (m ((c.tc : Thread Cert.BwdDmIdeal.nD Cert.BwdDmIdeal.τ).loc Cert.BwdDmIdeal.main_arg1)) (m ((c.tc : Thread Cert.BwdDmIdeal.nD Cert.BwdDmIdeal.τ).loc Cert.BwdDmIdeal.main_arg2)) (m ((c.tc : Thread Cert.BwdDmIdeal.nD Cert.BwdDmIdeal.τ).loc Cert.BwdDmIdeal.main_arg3)) (m ((c.tc : Thread Cert.BwdDmIdeal.nD Cert.BwdDmIdeal.τ).loc Cert.BwdDmIdeal.main_arg4)), ?_, ?_⟩
  · refine (θ_run Cert.BwdDmIdeal.defs _ _).mono (fun r h c => ?_) (run_main m g)
    have hd := h.1.written c (b := main_v0_2) (by simp [Rz])
    exact ⟨fun i _ => congrFun (((h.1.1 c).1 6).trans (final6 m c)) i, fun i _ => congrFun (((h.1.1 c).1 7).trans (final7 m c)) i,
      fun i hi => (congrFun hd i).trans (final_dz m c i (Cert.On_gate_columns.fn_apply _ _ _ _ _ i hi)),
      ((h.1.1 c).1 0).trans (((dats m 0 c).arrAt_in 0 rfl _).trans ((A_eq m c 0).trans (V_main_arg0 m c))),
      ((h.1.1 c).1 1).trans (((dats m 0 c).arrAt_in 1 rfl _).trans ((A_eq m c 1).trans (V_main_arg1 m c))),
      ((h.1.1 c).1 2).trans (((dats m 0 c).arrAt_in 2 rfl _).trans ((A_eq m c 2).trans (V_main_arg2 m c))),
      ((h.1.1 c).1 3).trans (((dats m 0 c).arrAt_in 3 rfl _).trans ((A_eq m c 3).trans (V_main_arg3 m c))),
      ((h.1.1 c).1 5).trans (((dats m 0 c).arrAt_in 5 rfl _).trans ((A_eq m c 5).trans (V_main_arg4 m c)))⟩
  · refine (θ_run Cert.RefDmIdeal.defs _ _).mono (fun r hr c => ?_) (Cert.RefDmIdeal.Term.run_terms m' g')
    obtain ⟨h0, h1, h2, h3, h4⟩ := hm c
    exact ⟨fun i _ => congrFun ((hr c).1.trans (by rw [h0, h1, h2, h3, h4])) i, fun i _ => congrFun ((hr c).2.1.trans (by rw [h0, h1, h2, h3, h4])) i,
      fun i _ => congrFun ((hr c).2.2.1.trans (by rw [h0, h1, h2, h3, h4])) i, (hr c).2.2.2⟩

end Cert.BwdDmIdeal.Gates

end
-- ==== Proof.ZFrame.lean ====
/- The launch of the norm before the mixing half with the input matrix and its bias: at the first column block of a row block the normed rows are kept in the
   scratch buffer and in a result's block, and every point multiplies the kept rows by its columns of the matrix. -/
module

public import proofs.«01_k».proof.Proof.Gen.FwdZIdeal.Frame
public import proofs.«01_k».proof.Proof.Gen.FwdZIdeal.Skeleton
public import Idealize.ShloMosaic.Lib.Pipeline.ValueKit
public import Idealize.ShloMosaic.Lib.Pipeline.TableIdle
public import Idealize.ShloMosaic.Lib.Tactic

@[expose] public section

set_option maxRecDepth 16384

noncomputable section

namespace Cert.FwdZIdeal.Norm

open Cert.FwdZIdeal Cert.FwdZIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## What a point computes -/

/-- The matrix's columns at a point. -/
abbrev cols (i : grid0.Coords) (w : Vec F S1024x7168 .bf16) : Vec F S1024x1024 .bf16 :=
  View.ld w (Rect.unit (s := S1024x7168) (k0_off1 i) S1024x1024.size (k0_off1_inb i))

/-! ## Whole blocks -/

theorem z2 : ∀ a : Fin 2, (![0, 0] : Fin 2 → ℕ) a = 0 := by decide
/-- A buffer last written whole reads as what was written. -/
theorem read_full {S : Shape} {e : EltTy} {sp : Space} (v : View sig .tc sp S e) (f : v.ty.Contents (Elt F)) {off : Fin S.rank → ℕ}
    (inb : ∀ a, off a + S.size a ≤ S.size a) (h : ∀ a, off a = 0) (p : S.Idx → Elt F e) (L : List (View.Piece (Elt F) S e)) :
    v.read (Elt F) (v.writes (Elt F) f (⟨Rect.unit off S.size inb, p⟩ :: L)) = p :=
  (View.read_writes_eq_canon v f _ fun y => ⟨_, List.mem_cons_self, View.mem_set_unit_zero (funext h) inb y⟩).trans
    (View.canon_cons_unit_lit inb p L h)

/-- A load of a whole buffer reads it. -/
theorem load_full {S : Shape} {e : EltTy} {sp : Space} (v : View sig .tc sp S e) {off : Fin S.rank → ℕ}
    (inb : ∀ a, off a + S.size a ≤ S.size a) (h : ∀ a, off a = 0) (f : v.ty.Contents (Elt F)) :
    v.readAt (Elt F) (Rect.unit off S.size inb).toLoadRect f = v.read (Elt F) f :=
  View.ld_unit_zero (funext h) inb (v.read (Elt F) f)

/-! ## The body's runs -/

set_option maxHeartbeats 1000000 in
/-- The first column block: the normed rows are made and kept. -/
theorem runFirst (c : Dev nD) (i : grid0.Coords) (h1 : k0_cond1 i = 1#1)
    (arg3 : Memref sig .tc .vmem S1024x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole)
    (x0 : Vec F S1024x1024 .f32) (x1 : Vec F S1x1024 .f32) (x2 : Vec F S1024x7168 .bf16) (x3 : Vec F S1x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay3 (k0_pay2 x0 x1) (cols i x2) x3) ∗ owns (c : Thread nD τ) arg8 fullShare (k0_pay1 x0 x1) ∗ owns (c : Thread nD τ) arg9 fullShare (k0_pay2 x0 x1)) -∗ K ⟨⟩))
      ⊢ wp frame (wpE (defs₀ (F := F)) Variants.none c none) Set.univ (cc0_fwd_z i arg3 harg3 arg4 harg4 arg5 harg5 arg6 harg6 arg7 harg7 arg8 harg8 arg9 harg9) K := by
  simp only [cc0_fwd_z_eq_skeleton]; unfold cc0_fwd_z_skel
  unfold owns
  iintro ⟨⟨%f0, %e0, H0⟩, ⟨%f1, %e1, H1⟩, ⟨%f2, %e2, H2⟩, ⟨%f6, %e6, H6⟩, ⟨%d3, %f3, -, H3⟩, ⟨%d4, %f4, -, H4⟩, ⟨%d5, %f5, -, H5⟩, Hk⟩
  subst e0 e1 e2 e6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H6]; · iexists f6; isplitr; · ipureintro; rfl
                  iexact H6
  isplitl [H3]; · iexists _; isplitr; swap; · iexact H3
                  ipureintro; refine (read_full _ _ _ z2 _ _).trans (congr (congr (congrArg (k0_pay3 (F := F)) ?_) rfl) (load_full arg6.view inb_S1x1024_S1x1024_0_0 z2 f6))
                  exact (View.readCov_unit_zero _ (funext z2) _ _).trans (congr (congrArg (k0_pay2 (F := F)) (load_full arg3.view inb_S1024x1024_S1024x1024_0_0 z2 f0)) (load_full arg4.view inb_S1x1024_S1x1024_0_0 z2 f1))
  isplitl [H4]; · iexists _; isplitr; swap; · iexact H4
                  ipureintro; exact (read_full _ _ _ z2 _ _).trans (congr (congrArg (k0_pay1 (F := F)) (load_full arg3.view inb_S1024x1024_S1024x1024_0_0 z2 f0)) (load_full arg4.view inb_S1x1024_S1x1024_0_0 z2 f1))
  iexists _; isplitr; swap; · iexact H5
  ipureintro; exact (read_full _ _ _ z2 _ _).trans (congr (congrArg (k0_pay2 (F := F)) (load_full arg3.view inb_S1024x1024_S1024x1024_0_0 z2 f0)) (load_full arg4.view inb_S1x1024_S1x1024_0_0 z2 f1))

set_option maxHeartbeats 1000000 in
/-- A later column block: the kept rows are used. -/
theorem runNext (c : Dev nD) (i : grid0.Coords) (h1 : ¬ k0_cond1 i = 1#1)
    (arg3 : Memref sig .tc .vmem S1024x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole)
    (x0 : Vec F S1024x1024 .f32) (x1 : Vec F S1x1024 .f32) (x2 : Vec F S1024x7168 .bf16) (x3 : Vec F S1x1024 .f32) (xs : Vec F S1024x1024 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay3 xs (cols i x2) x3) ∗ owns (c : Thread nD τ) arg9 fullShare xs) -∗ K ⟨⟩))
      ⊢ wp frame (wpE (defs₀ (F := F)) Variants.none c none) Set.univ (cc0_fwd_z i arg3 harg3 arg4 harg4 arg5 harg5 arg6 harg6 arg7 harg7 arg8 harg8 arg9 harg9) K := by
  simp only [cc0_fwd_z_eq_skeleton]; unfold cc0_fwd_z_skel
  unfold owns
  iintro ⟨⟨%f0, %e0, H0⟩, ⟨%f1, %e1, H1⟩, ⟨%f2, %e2, H2⟩, ⟨%f6, %e6, H6⟩, ⟨%d3, %f3, -, H3⟩, ⟨%f5, %e5, H5⟩, Hk⟩
  subst e0 e1 e2 e6 e5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H6]; · iexists f6; isplitr; · ipureintro; rfl
                  iexact H6
  isplitl [H3]; · iexists _; isplitr; swap; · iexact H3
                  ipureintro; exact (read_full _ _ _ z2 _ _).trans (congr (congr (congrArg (k0_pay3 (F := F)) (load_full arg9.view inb_S1024x1024_S1024x1024_0_0 z2 f5)) rfl) (load_full arg6.view inb_S1x1024_S1x1024_0_0 z2 f6))
  iexists f5; isplitr; · ipureintro; rfl
  iexact H5

/-! ## The proof data -/

variable (m : (ℓ : Loc nD τ sig) → Buf (Elt F) ℓ) (ρ : Dev nD → PrngReg)

/-- The scratch operand. -/
abbrev kept : Memref sig .tc .vmem S1024x1024 .bf16 := Memref.whole cc0_scratch0

/-- The first point of a point's row block. -/
def src (t : Fin cfg0.N) : Fin cfg0.N := ⟨t.val / 7 * 7, lt_of_le_of_lt (Nat.div_mul_le_self _ _) t.isLt⟩

theorem src_first (t : Fin cfg0.N) (h : t.val % 7 = 0) : src t = t := Fin.ext (by show t.val / 7 * 7 = t.val; omega)
theorem src_next (t : Fin cfg0.N) (h : ¬ t.val % 7 = 0) (hp : t.val - 1 < cfg0.N) : src ⟨t.val - 1, hp⟩ = src t :=
  Fin.ext (by show (t.val - 1) / 7 * 7 = t.val / 7 * 7; omega)

/-- The invariant: after a point the scratch holds the row block's normed rows. -/
def PhiS (c : Dev nD) : (n : ℕ) → n ≤ cfg0.N → sProp 𝕄
  | 0, _ => Pipeline.ΦA spec0 c
  | n + 1, hn => iprop(owns (c : Thread nD τ) kept fullShare (k0_pay2 (iblk m c 0 (src ⟨n, hn⟩)) (iblk m c 1 (src ⟨n, hn⟩))) ∗ (∃ r, prngReg c r))

theorem PhiA_eq (c : Dev nD) : (Pipeline.ΦA spec0 c : sProp 𝕄)
    = iprop((∃ d, owns (c : Thread nD τ) kept fullShare d) ∗ (∃ r, prngReg c r)) := by
  unfold Pipeline.ΦA; rw [scopedRest0_eq]; simp only [kept, owns_whole]; try rfl

theorem PhiS_pos (c : Dev nD) (n : ℕ) (h : n ≤ cfg0.N) (hz : n ≠ 0) :
    PhiS m c n h = iprop(owns (c : Thread nD τ) kept fullShare (k0_pay2 (iblk m c 0 (src ⟨n - 1, by omega⟩)) (iblk m c 1 (src ⟨n - 1, by omega⟩))) ∗ (∃ r, prngReg c r)) := by
  cases n with
  | zero => exact absurd rfl hz
  | succ n => rfl

/-- The invariant gives the scratch at anything. -/
theorem PhiS_any (c : Dev nD) (n : ℕ) (h : n ≤ cfg0.N) :
    PhiS m c n h ⊢ iprop((∃ d, owns (c : Thread nD τ) kept fullShare d) ∗ (∃ r, prngReg c r)) := by
  by_cases hz : n = 0
  · subst hz; rw [show PhiS m c 0 h = Pipeline.ΦA spec0 c from rfl, PhiA_eq]
  · rw [PhiS_pos m c n h hz]
    iintro ⟨H, Hg⟩
    isplitl [H]; · iexists _; iexact H
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (k0_pay2 (iblk m c 0 (src t)) (iblk m c 1 (src t))) (cols (grid0.coords t) (iblk m c 2 t)) (iblk m c 3 t)
    | ⟨5, _⟩ => k0_pay1 (iblk m c 0 (src t)) (iblk m c 1 (src t))
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay3 (k0_pay2 (iblk m c 0 (src t)) (iblk m c 1 (src t))) (cols (grid0.coords t) (iblk m c 2 t)) (iblk m c 3 t) := by dsimp only [dats]
theorem after_5 (c : Dev nD) (t : Fin cfg0.N) : (dats m 0 c).after 5 t = k0_pay1 (iblk m c 0 (src t)) (iblk m c 1 (src t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- Which windows a point uses, whether it writes the kept rows' block back, and its condition. -/
theorem live : ∀ (t : Fin cfg0.N), cfg0.idle 0 (grid0.coords t) = false ∧ cfg0.idle 1 (grid0.coords t) = false
    ∧ cfg0.idle 2 (grid0.coords t) = false ∧ cfg0.idle 3 (grid0.coords t) = false ∧ cfg0.idle 4 (grid0.coords t) = false
    ∧ (cfg0.idle 5 (grid0.coords t) = true ↔ ¬ t.val % 7 = 0) ∧ (k0_cond1 (grid0.coords t) = 1#1 ↔ t.val % 7 = 0) :=
  (by decide +kernel : ∀ (t : Fin grid0.N), _)
theorem fresh_false : ∀ t : Fin cfg0.N, ¬ t.val % 7 = 0 → cfg0.fresh 5 t.val = false :=
  (by decide +kernel : ∀ t : Fin grid0.N, ¬ t.val % 7 = 0 → cfg0.fresh 5 t.val = false)

/-- At a later column block the kept rows' block holds what the row block's first point left. -/
theorem before_5 (c : Dev nD) (t : Fin cfg0.N) (h : ¬ t.val % 7 = 0) (d) : (dats m 0 c).before 5 t d = k0_pay1 (iblk m c 0 (src t)) (iblk m c 1 (src t)) := by
  rw [Dat.before_out_traj _ 5 rfl (fun _ _ => rfl)
    (fun t hz hi _ => by
      have hn := (live t).2.2.2.2.2.1.mp hi
      rw [after_5, after_5, src_next t hn]) t.val t rfl d,
    if_neg (by rw [fresh_false t h]; exact Bool.false_ne_true), after_5, src_next t h]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- What the kept rows' block leaves at a later column block, from what the body found in it. -/
theorem leaves_5 (c : Dev nD) (t : Fin cfg0.N) (h : ¬ t.val % 7 = 0) (d) :
    owns (c : Thread nD τ) (win0_5.stage (cfg0.slots t 5)) fullShare ((dats m 0 c).before 5 t d) ⊢ (dats m 0 c).leavesExact 5 t := by
  have hi := (live t).2.2.2.2.2.1.mpr h
  cases hf : (cfg0.win 5).flush t with
  | false =>
    rw [Dat.leavesExact_idle (dats m 0 c) 5 t hi hf]
    iintro H; iexists d; iexact H
  | true =>
    rw [show (dats m 0 c).leavesExact 5 t = owns (c : Thread nD τ) (win0_5.stage (cfg0.slots t 5)) fullShare ((dats m 0 c).after 5 t) from by
      unfold Dat.leavesExact; rw [hi, hf], after_5, before_5 m c t h]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  obtain ⟨l0, l1, l2, l6, l3, l4, hc⟩ := live t
  rw [show (dats m 0 c).owesAt () t.succ = (dats m 0 c).owesAt () t.castSucc from rfl]
  rw [show (dats m 0 c).Φ t.succ = iprop(owns (c : Thread nD τ) kept fullShare (k0_pay2 (iblk m c 0 (src t)) (iblk m c 1 (src t))) ∗ (∃ r, prngReg c r)) from rfl]
  rw [show (dats m 0 c).leavesExact 0 t = owns (c : Thread nD τ) (win0_0.stage (cfg0.slots t 0)) fullShare ((dats m 0 c).after 0 t) from by
    unfold Dat.leavesExact; rw [l0], after_0]
  rw [show (dats m 0 c).leavesExact 1 t = owns (c : Thread nD τ) (win0_1.stage (cfg0.slots t 1)) fullShare ((dats m 0 c).after 1 t) from by
    unfold Dat.leavesExact; rw [l1], after_1]
  rw [show (dats m 0 c).leavesExact 2 t = owns (c : Thread nD τ) (win0_2.stage (cfg0.slots t 2)) fullShare ((dats m 0 c).after 2 t) from by
    unfold Dat.leavesExact; rw [l2], after_2]
  rw [show (dats m 0 c).leavesExact 3 t = owns (c : Thread nD τ) (win0_3.stage (cfg0.slots t 3)) fullShare ((dats m 0 c).after 3 t) from by
    unfold Dat.leavesExact; rw [l6], after_3]
  rw [show (dats m 0 c).leavesExact 4 t = owns (c : Thread nD τ) (win0_4.stage (cfg0.slots t 4)) fullShare ((dats m 0 c).after 4 t) from by
    unfold Dat.leavesExact; rw [l3], after_4]
  by_cases h0 : t.val % 7 = 0
  · have hi : cfg0.idle 5 (grid0.coords t) = false := Bool.eq_false_iff.mpr fun h => l4.mp h h0
    rw [show (dats m 0 c).leavesExact 5 t = owns (c : Thread nD τ) (win0_5.stage (cfg0.slots t 5)) fullShare ((dats m 0 c).after 5 t) from by
      unfold Dat.leavesExact; rw [hi], after_5, src_first t h0, Phi_castSucc]
    refine (sep_mono_left (PhiS_any m c t.val _)).trans ?_
    iintro ⟨⟨HS, Hg⟩, Ho, ⟨%d0, H0⟩, ⟨%d1, H1⟩, ⟨%d2, H2⟩, ⟨%d6, H6⟩, ⟨%d3, H3⟩, ⟨%d4, H4⟩⟩
    iapply (runFirst c (grid0.coords t) (hc.mpr h0) _ _ _ _ _ _ _ _ _ _ _ _ _ _ _ _ _ _ _)
    isplitl [H0]; · iexact H0
    isplitl [H1]; · iexact H1
    isplitl [H2]; · iexact H2
    isplitl [H6]; · iexact H6
    isplitl [H3]; · iexists _; iexact H3
    isplitl [H4]; · iexists _; iexact H4
    isplitl [HS]; · iexact HS
    iintro ⟨H0, H1, H2, H6, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H6]; · iexact H6
    isplitl [H3]; · iexact H3
    iexact H4
  · rw [Phi_castSucc, PhiS_pos m c t.val _ (by intro h; rw [h] at h0; exact h0 rfl), src_next t h0]
    iintro ⟨⟨HS, Hg⟩, Ho, ⟨%d0, H0⟩, ⟨%d1, H1⟩, ⟨%d2, H2⟩, ⟨%d6, H6⟩, ⟨%d3, H3⟩, ⟨%d4, H4⟩⟩
    iapply (runNext c (grid0.coords t) (fun h => h0 (hc.mp h)) _ _ _ _ _ _ _ _ _ _ (win0_5.stage (cfg0.slots t 5)) (hstage0_5 ((cfg0.slots t 5).cast nbuf0_5)) _ _ _ _ _ _ _ _)
    isplitl [H0]; · iexact H0
    isplitl [H1]; · iexact H1
    isplitl [H2]; · iexact H2
    isplitl [H6]; · iexact H6
    isplitl [H3]; · iexists _; iexact H3
    isplitl [HS]; · iexact HS
    iintro ⟨H0, H1, H2, H6, H3, HS⟩
    isplitl [HS Hg]
    · isplitl [HS]; · iexact HS
      iexact Hg
    isplitl [Ho]; · iexact Ho
    isplitl [H0]; · iexact H0
    isplitl [H1]; · iexact H1
    isplitl [H2]; · iexact H2
    isplitl [H6]; · iexact H6
    isplitl [H3]; · iexact H3
    iapply (leaves_5 m c t h0 d4); iexact H4

/-- The body table's row at the point is the body on the point's memrefs. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N (le_refl _) from rfl, PhiA_eq]; exact PhiS_any m c _ _

/-! ## The launch -/

set_option backward.isDefEq.respectTransparency.types false in
/-- Every run of @main ends with the windows' arrays at what the proof data says. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: every run of @main ends, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.FwdZIdeal.Norm

end
-- ==== Proof.ZRef.lean ====
/- The reference's two results over its arguments: the rows normed by their root mean square through the input matrix with its bias, and the normed rows. -/
module

public import proofs.«01_k».proof.Proof.Gen.RefZIdeal.Run

@[expose] public section

set_option maxRecDepth 16384

noncomputable section

namespace Cert.RefZIdeal.Term

open Cert.RefZIdeal Cert.RefZIdeal.Gen Idealize.ShloMosaic Idealize.SL.Sem

variable {F : FTy → Type} [FloatOps F]

/-- Result 0 of the reference over its arguments. -/
abbrev term0 (a0 : FVec F S4096x1024 .f32) (a1 : FVec F S1x1024 .f32) (a2 : FVec F S1024x7168 .bf16) (a3 : FVec F S1x7168 .f32) : FVec F S4096x7168 .bf16 :=
  truncf .bf16 (addf (Host.dotGeneral dot_S4096x1024_S1024x7168_S4096x7168_1_0_0_1_n_n none (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (extf .f32 a2 bitsLt_bf16_f32)) (broadcastInDim S4096x7168 ![0, 1] bcast_S1x7168_S4096x7168_0_1 a3)) bitsLt_bf16_f32

/-- Result 1 of the reference over its arguments. -/
abbrev term1 (a0 : FVec F S4096x1024 .f32) (a1 : FVec F S1x1024 .f32) (a2 : FVec F S1024x7168 .bf16) (a3 : FVec F S1x7168 .f32) : FVec F S4096x1024 .bf16 :=
  truncf .bf16 (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) bitsLt_bf16_f32

/-- The reference's run, each result at its term. -/
theorem run_terms (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = term0 (m ((c.tc : Thread Cert.RefZIdeal.nD Cert.RefZIdeal.τ).loc main_arg0)) (m ((c.tc : Thread Cert.RefZIdeal.nD Cert.RefZIdeal.τ).loc main_arg1)) (m ((c.tc : Thread Cert.RefZIdeal.nD Cert.RefZIdeal.τ).loc main_arg2)) (m ((c.tc : Thread Cert.RefZIdeal.nD Cert.RefZIdeal.τ).loc main_arg3))
      ∧ r.2.mem ((c.tc : Thread nD τ).loc main_v17) = term1 (m ((c.tc : Thread Cert.RefZIdeal.nD Cert.RefZIdeal.τ).loc main_arg0)) (m ((c.tc : Thread Cert.RefZIdeal.nD Cert.RefZIdeal.τ).loc main_arg1)) (m ((c.tc : Thread Cert.RefZIdeal.nD Cert.RefZIdeal.τ).loc main_arg2)) (m ((c.tc : Thread Cert.RefZIdeal.nD Cert.RefZIdeal.τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by rfl),
      (h c).2.1.trans (by rfl),
      (h c).2.2⟩)
    (Cert.RefZIdeal.Value.run m ρ)

end Cert.RefZIdeal.Term

end
-- ==== Proof.ZValue.lean ====
/- The arrays the norm before the mixing half leaves are the reference's terms: the normed rows through the input matrix with its bias, and the normed rows. -/
module

public import proofs.«01_k».proof.Proof.ZFrame
public import proofs.«01_k».proof.Proof.ZRef
public import Idealize.ShloMosaic.Lib.Pipeline.ValueKit
public import Idealize.ShloMosaic.Lib.Pipeline.ReadBack

@[expose] public section

set_option maxRecDepth 16384

noncomputable section

namespace Cert.FwdZIdeal.Norm

open Cert.FwdZIdeal Cert.FwdZIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- Every window's block index at a point. -/
theorem idx_val : ∀ t : Fin cfg0.N, win0_0.index t = ![t.val / 7, 0] ∧ win0_1.index t = ![0, 0] ∧ win0_2.index t = ![0, 0]
    ∧ win0_3.index t = ![0, t.val % 7] ∧ win0_4.index t = ![t.val / 7, t.val % 7] ∧ win0_5.index t = ![t.val / 7, 0] :=
  (by decide +kernel : ∀ t : Fin grid0.N, _)

/-- Where a point's columns of the matrix begin. -/
theorem off_val : ∀ t : Fin cfg0.N, k0_off1 (grid0.coords t) = ![0, t.val % 7 * 1024] :=
  (by decide +kernel : ∀ t : Fin grid0.N, _)

/-- The first point of a row block lies in the row block. -/
theorem src_div (t : Fin cfg0.N) : (src t).val / 7 = t.val / 7 := by
  show t.val / 7 * 7 / 7 = t.val / 7; omega

/-- The columns of the matrix at a point, at an index. -/
theorem cols_apply (t : Fin cfg0.N) (w : Vec Ideal S1024x7168 .bf16) (y : S1024x1024.Idx) (z : S1024x7168.Idx)
    (h0 : (z 0).val = (y 0).val) (h1 : (z 1).val = t.val % 7 * 1024 + (y 1).val) : cols (F := Ideal) (grid0.coords t) w y = w z := by
  show w _ = w z
  congr 1; funext k; apply Fin.ext
  fin_cases k
  · refine Eq.trans (b := (k0_off1 (grid0.coords t)) 0 + (y 0).val) ?_ ?_
    · exact Rect.idx_unit_val _ _ _ _ _
    · rw [off_val t]; simp [h0]
  · refine Eq.trans (b := (k0_off1 (grid0.coords t)) 1 + (y 1).val) ?_ ?_
    · exact Rect.idx_unit_val _ _ _ _ _
    · rw [off_val t]; simp [h1]

/-- The kept block of normed rows is the reference's array through the window. -/
theorem norm_eq (c : Dev nD) (t : Fin cfg0.N) (y : S1024x1024.Idx) (z : S4096x1024.Idx) (h0 : (z 0).val = t.val / 7 * 1024 + (y 0).val)
    (h1 : (z 1).val = (y 1).val) :
    k0_pay1 (iblk m c 0 (src t)) (iblk m c 1 (src t)) y
    = Cert.RefZIdeal.Term.term1 (F := Ideal) (m ((c : Thread nD τ).loc main_arg0)) (m ((c : Thread nD τ).loc main_arg1)) (m ((c : Thread nD τ).loc main_arg2)) (m ((c : Thread nD τ).loc main_arg3)) z := by
  have hs := src_div t
  pointwise [k0_pay1, Cert.RefZIdeal.Term.term1]
  blk_point [iblk, V, idx_val (src t)]

theorem final5 (c : Dev nD) : (dats m 0 c).arrAt 5 (cfgs 0).N
    = Cert.RefZIdeal.Term.term1 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after_5]
  exact norm_eq m c t y _ (by blk_simp [idx_val t]) (by blk_simp [idx_val t])

theorem final4 (c : Dev nD) : (dats m 0 c).arrAt 4 (cfgs 0).N
    = Cert.RefZIdeal.Term.term0 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after_4]
  have hs := src_div t
  pointwise [k0_pay3, k0_pay2, k0_pay1, Cert.RefZIdeal.Term.term0]
  have hb : t.val % 7 < 7 := Nat.mod_lt _ (by omega)
  have hc := fun x : Fin 1024 => cols_apply t (iblk m c 2 t : Vec Ideal S1024x7168 .bf16) (ix2 x (y 1)) (ix2 x ⟨t.val % 7 * 1024 + (y 1).val, by have := (y 1).isLt; blk_simp at this; omega⟩) rfl rfl
  simp only [hc]
  blk_point [iblk, V, idx_val t, idx_val (src t)]

/-- Every run of @main leaves each result's array at its window's and the arguments as they were. -/
theorem run_blocks : θ_run defs (onTc (τ := τ) (main (F := Ideal))) ⟨m, fun _ => 0, ρ⟩ fun r => ∀ c : Dev nD,
      r.2.mem ((c.tc : Thread nD τ).loc main_v0_0) = (dats m 0 c).arrAt 4 (cfgs 0).N
      ∧ r.2.mem ((c.tc : Thread nD τ).loc main_v0_1) = (dats m 0 c).arrAt 5 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1.1 c).1 4, (h.1.1 c).1 5, h.2.1 c⟩)
    (θ_run_and (run_main m ρ) (frame m ρ))

end Cert.FwdZIdeal.Norm

end
-- ==== Proof.Du3Ref.lean ====
/- The results of the reference of the gradient through the convolution branch's layer norm as terms over its arguments. -/
module

public import proofs.«01_k».proof.Proof.Gen.RefDu3Ideal.Run

@[expose] public section

set_option maxRecDepth 16384

noncomputable section

namespace Cert.RefDu3Ideal.Term

open Cert.RefDu3Ideal Cert.RefDu3Ideal.Gen Idealize.ShloMosaic

variable {F : FTy → Type} [FloatOps F]

/-- Result 0 of the reference over its arguments. -/
abbrev term0 (a0 : FVec F S4096x1024 .bf16) (a1 : FVec F S1024x1024 .bf16) (a2 : FVec F S4096x1024 .bf16) (a3 : FVec F S1x1024 .f32) (a4 : FVec F S1x1024 .f32) : FVec F S4096x1024 .f32 :=
  addf (addf (addf (mulf (mulf (addf (mulf (Host.dotGeneral dot_S4096x1024_S1024x1024_S4096x1024_1_1_0_0_n_n none (extf .f32 a0 bitsLt_bf16_f32) (extf .f32 a1 bitsLt_bf16_f32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4))))))) (mulf (mulf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)) (Host.dotGeneral dot_S4096x1024_S1024x1024_S4096x1024_1_1_0_0_n_n none (extf .f32 a0 bitsLt_bf16_f32) (extf .f32 a1 bitsLt_bf16_f32))) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)))))))))) (broadcastInDim S4096x1024 ![0, 1] bcast_S1x1024_S4096x1024_0_1 a3)) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0] bcast_S4096_S4096x1024_0 (Host.reduceAdd (Host.divf (mulf (shapeCast _ (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (mulf (addf (mulf (Host.dotGeneral dot_S4096x1024_S1024x1024_S4096x1024_1_1_0_0_n_n none (extf .f32 a0 bitsLt_bf16_f32) (extf .f32 a1 bitsLt_bf16_f32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4))))))) (mulf (mulf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)) (Host.dotGeneral dot_S4096x1024_S1024x1024_S4096x1024_1_1_0_0_n_n none (extf .f32 a0 bitsLt_bf16_f32) (extf .f32 a1 bitsLt_bf16_f32))) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)))))))))) (broadcastInDim S4096x1024 ![0, 1] bcast_S1x1024_S4096x1024_0_1 a3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (mulf (addf (mulf (Host.dotGeneral dot_S4096x1024_S1024x1024_S4096x1024_1_1_0_0_n_n none (extf .f32 a0 bitsLt_bf16_f32) (extf .f32 a1 bitsLt_bf16_f32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4))))))) (mulf (mulf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)) (Host.dotGeneral dot_S4096x1024_S1024x1024_S4096x1024_1_1_0_0_n_n none (extf .f32 a0 bitsLt_bf16_f32) (extf .f32 a1 bitsLt_bf16_f32))) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)))))))))) (broadcastInDim S4096x1024 ![0, 1] bcast_S1x1024_S4096x1024_0_1 a3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))))) (broadcastInDim S4096x1024 ![0] bcast_S4096_S4096x1024_0 (Host.reduceAdd (Host.divf (shapeCast _ (Host.reduceAdd (Host.negf (addf (addf (mulf (mulf (addf (mulf (Host.dotGeneral dot_S4096x1024_S1024x1024_S4096x1024_1_1_0_0_n_n none (extf .f32 a0 bitsLt_bf16_f32) (extf .f32 a1 bitsLt_bf16_f32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4))))))) (mulf (mulf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)) (Host.dotGeneral dot_S4096x1024_S1024x1024_S4096x1024_1_1_0_0_n_n none (extf .f32 a0 bitsLt_bf16_f32) (extf .f32 a1 bitsLt_bf16_f32))) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)))))))))) (broadcastInDim S4096x1024 ![0, 1] bcast_S1x1024_S4096x1024_0_1 a3)) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0] bcast_S4096_S4096x1024_0 (Host.reduceAdd (Host.divf (mulf (shapeCast _ (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (mulf (addf (mulf (Host.dotGeneral dot_S4096x1024_S1024x1024_S4096x1024_1_1_0_0_n_n none (extf .f32 a0 bitsLt_bf16_f32) (extf .f32 a1 bitsLt_bf16_f32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4))))))) (mulf (mulf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)) (Host.dotGeneral dot_S4096x1024_S1024x1024_S4096x1024_1_1_0_0_n_n none (extf .f32 a0 bitsLt_bf16_f32) (extf .f32 a1 bitsLt_bf16_f32))) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)))))))))) (broadcastInDim S4096x1024 ![0, 1] bcast_S1x1024_S4096x1024_0_1 a3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (mulf (addf (mulf (Host.dotGeneral dot_S4096x1024_S1024x1024_S4096x1024_1_1_0_0_n_n none (extf .f32 a0 bitsLt_bf16_f32) (extf .f32 a1 bitsLt_bf16_f32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4))))))) (mulf (mulf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)) (Host.dotGeneral dot_S4096x1024_S1024x1024_S4096x1024_1_1_0_0_n_n none (extf .f32 a0 bitsLt_bf16_f32) (extf .f32 a1 bitsLt_bf16_f32))) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)))))))))) (broadcastInDim S4096x1024 ![0, 1] bcast_S1x1024_S4096x1024_0_1 a3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))))) (constant S_ .f32 0x00000000#32) reducesTo_S4096x1024_S4096_d1 h_S_) shapeCasts_S4096_S4096x1) (broadcastInDim S4096x1 ![] bcast_S_S4096x1 (constant S_ .f32 0x44800000#32))) (constant S_ .f32 0x00000000#32) reducesTo_S4096x1_S4096_d1 h_S_))

/-- Result 1 of the reference over its arguments. -/
abbrev term1 (a0 : FVec F S4096x1024 .bf16) (a1 : FVec F S1024x1024 .bf16) (a2 : FVec F S4096x1024 .bf16) (a3 : FVec F S1x1024 .f32) (a4 : FVec F S1x1024 .f32) : FVec F S1x1024 .f32 :=
  shapeCast _ (Host.reduceAdd (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (addf (mulf (Host.dotGeneral dot_S4096x1024_S1024x1024_S4096x1024_1_1_0_0_n_n none (extf .f32 a0 bitsLt_bf16_f32) (extf .f32 a1 bitsLt_bf16_f32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4))))))) (mulf (mulf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)) (Host.dotGeneral dot_S4096x1024_S1024x1024_S4096x1024_1_1_0_0_n_n none (extf .f32 a0 bitsLt_bf16_f32) (extf .f32 a1 bitsLt_bf16_f32))) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4))))))))))) (constant S_ .f32 0x00000000#32) reducesTo_S4096x1024_S1024_d0 h_S_) shapeCasts_S1024_S1x1024

/-- Result 2 of the reference over its arguments. -/
abbrev term2 (a0 : FVec F S4096x1024 .bf16) (a1 : FVec F S1024x1024 .bf16) (a2 : FVec F S4096x1024 .bf16) (a3 : FVec F S1x1024 .f32) (a4 : FVec F S1x1024 .f32) : FVec F S1x1024 .f32 :=
  shapeCast _ (Host.reduceAdd (addf (mulf (Host.dotGeneral dot_S4096x1024_S1024x1024_S4096x1024_1_1_0_0_n_n none (extf .f32 a0 bitsLt_bf16_f32) (extf .f32 a1 bitsLt_bf16_f32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4))))))) (mulf (mulf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)) (Host.dotGeneral dot_S4096x1024_S1024x1024_S4096x1024_1_1_0_0_n_n none (extf .f32 a0 bitsLt_bf16_f32) (extf .f32 a1 bitsLt_bf16_f32))) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32))))) (subf (extf .f32 a2 bitsLt_bf16_f32) (broadcastInDim S4096x1024 ![0, 1] bcast_S4096x1_S4096x1024_0_1 (Host.divf (broadcastInDim S4096x1 ![0] bcast_S4096_S4096x1_0 (Host.reduceAdd (extf .f32 a2 bitsLt_bf16_f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (broadcastInDim S4096x1024 ![0, 1] bcast_S1x1024_S4096x1024_0_1 a4)))))))))) (constant S_ .f32 0x00000000#32) reducesTo_S4096x1024_S1024_d0 h_S_) shapeCasts_S1024_S1x1024

/-- The reference's run, each result at its term. -/
theorem run_terms (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70) = term0 (m ((c.tc : Thread Cert.RefDu3Ideal.nD Cert.RefDu3Ideal.τ).loc main_arg0)) (m ((c.tc : Thread Cert.RefDu3Ideal.nD Cert.RefDu3Ideal.τ).loc main_arg1)) (m ((c.tc : Thread Cert.RefDu3Ideal.nD Cert.RefDu3Ideal.τ).loc main_arg2)) (m ((c.tc : Thread Cert.RefDu3Ideal.nD Cert.RefDu3Ideal.τ).loc main_arg3)) (m ((c.tc : Thread Cert.RefDu3Ideal.nD Cert.RefDu3Ideal.τ).loc main_arg4))
      ∧ r.2.mem ((c.tc : Thread nD τ).loc main_v46) = term1 (m ((c.tc : Thread Cert.RefDu3Ideal.nD Cert.RefDu3Ideal.τ).loc main_arg0)) (m ((c.tc : Thread Cert.RefDu3Ideal.nD Cert.RefDu3Ideal.τ).loc main_arg1)) (m ((c.tc : Thread Cert.RefDu3Ideal.nD Cert.RefDu3Ideal.τ).loc main_arg2)) (m ((c.tc : Thread Cert.RefDu3Ideal.nD Cert.RefDu3Ideal.τ).loc main_arg3)) (m ((c.tc : Thread Cert.RefDu3Ideal.nD Cert.RefDu3Ideal.τ).loc main_arg4))
      ∧ r.2.mem ((c.tc : Thread nD τ).loc main_v43) = term2 (m ((c.tc : Thread Cert.RefDu3Ideal.nD Cert.RefDu3Ideal.τ).loc main_arg0)) (m ((c.tc : Thread Cert.RefDu3Ideal.nD Cert.RefDu3Ideal.τ).loc main_arg1)) (m ((c.tc : Thread Cert.RefDu3Ideal.nD Cert.RefDu3Ideal.τ).loc main_arg2)) (m ((c.tc : Thread Cert.RefDu3Ideal.nD Cert.RefDu3Ideal.τ).loc main_arg3)) (m ((c.tc : Thread Cert.RefDu3Ideal.nD Cert.RefDu3Ideal.τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by unfold Cert.RefDu3Ideal.Value.res_main_v70; rfl),
      (h c).2.1.trans (by unfold Cert.RefDu3Ideal.Value.res_main_v46; rfl),
      (h c).2.2.1.trans (by unfold Cert.RefDu3Ideal.Value.res_main_v43; rfl),
      (h c).2.2.2⟩)
    (Cert.RefDu3Ideal.Value.run m ρ)

end Cert.RefDu3Ideal.Term

end
-- ==== Proof.LnBwd.lean ====
/- The gradient through a layer norm and a swish on real numbers: the two ways of writing it agree, and the operations of
   the ideal arithmetic on finite numbers are the operations on reals. -/
module

public import proofs.«01_k».proof.Proof.NormBwd

@[expose] public section

noncomputable section

namespace Cert.LnBwd

open Idealize.ShloMosaic
open scoped BigOperators

/-- A sum of reals. -/
theorem sum_coe {ι : Type} [Fintype ι] (f : ι → ℝ) : ∑ x, ((f x : ℝ) : EReal) = ((∑ x, f x : ℝ) : EReal) := by
  classical
  refine Finset.induction_on (Finset.univ : Finset ι) (by simp) fun a s h ih => ?_
  rw [Finset.sum_insert h, Finset.sum_insert h, ih, EReal.coe_add]

theorem one_add (a : ℝ) : (1 : EReal) + (a : EReal) = ((1 + a : ℝ) : EReal) := by push_cast; rfl

theorem one_sub (a : ℝ) : (1 : EReal) - (a : EReal) = ((1 - a : ℝ) : EReal) := by push_cast; rfl

/-- The mean over the columns. -/
theorem div_n (a : ℝ) : Ideal.div (a : EReal) (Ideal.ofBits .f32 1149239296#32) = ((a * (1024 : ℝ)⁻¹ : ℝ) : EReal) := by
  rw [Cert.NormBwd.cols_eq, Cert.NormBwd.div_coe _ _ (by norm_num), ← EReal.coe_mul]

theorem var_pos (e : ℝ) (he : 0 < e) (f : Fin 1024 → ℝ) : 0 < (∑ x, f x * f x) * (1024 : ℝ)⁻¹ + e := by
  have : 0 ≤ ∑ x, f x * f x := Finset.sum_nonneg fun x _ => mul_self_nonneg (f x)
  positivity

/-- The reciprocal root of a variance plus the small number. -/
theorem rsqrt_var (e : ℝ) (he : 0 < e) (f : Fin 1024 → ℝ) :
    Ideal.rsqrt (((∑ x, f x * f x) * (1024 : ℝ)⁻¹ + e : ℝ) : EReal) = (((Real.sqrt ((∑ x, f x * f x) * (1024 : ℝ)⁻¹ + e))⁻¹ : ℝ) : EReal) := by
  have h := var_pos e he f
  rw [Ideal.rsqrt_coe, if_neg (not_lt.mpr h.le), if_neg h.ne']

/-- Division by a variance plus the small number. -/
theorem div_var (e : ℝ) (he : 0 < e) (f : Fin 1024 → ℝ) (a : ℝ) :
    Ideal.div (a : EReal) (((∑ x, f x * f x) * (1024 : ℝ)⁻¹ + e : ℝ) : EReal)
      = ((a * ((∑ x, f x * f x) * (1024 : ℝ)⁻¹ + e)⁻¹ : ℝ) : EReal) := by
  rw [Cert.NormBwd.div_coe _ _ (var_pos e he f).ne', ← EReal.coe_mul]

/-- The logistic function. -/
theorem div_exp (a : ℝ) : Ideal.div 1 ((1 + Real.exp a : ℝ) : EReal) = (((1 + Real.exp a)⁻¹ : ℝ) : EReal) := by
  rw [Cert.NormBwd.div_coe _ _ (by positivity), one_mul]

/-- The swish's derivative at an extended real: nought at minus infinity, one at plus infinity. -/
def slope : EReal → ℝ
  | ⊥ => 0
  | ⊤ => 1
  | (n : ℝ) => (1 + Real.exp (-n))⁻¹ * (1 + n * (1 - (1 + Real.exp (-n))⁻¹))

theorem slope_bot : slope ⊥ = 0 := rfl

theorem slope_top : slope ⊤ = 1 := rfl

theorem slope_coe (n : ℝ) : slope (n : EReal) = (1 + Real.exp (-n))⁻¹ * (1 + n * (1 - (1 + Real.exp (-n))⁻¹)) := rfl

theorem one_add_top : (1 : EReal) + ⊤ = ⊤ := rfl

theorem one_sub_one : (1 : EReal) - 1 = 0 := by
  have h := one_sub 1
  rw [EReal.coe_one] at h
  rw [h, sub_self, EReal.coe_zero]

theorem div_one_top : Ideal.div 1 ⊤ = 0 := by unfold Ideal.div; simp

theorem div_one_one : Ideal.div 1 1 = 1 := by unfold Ideal.div; simp

/-- The gradient through the swish in the kernel's form. -/
theorem swish_kernel (d : ℝ) (n : EReal) :
    (d : EReal) * (Ideal.div 1 (1 + Ideal.exp (-n)) * (1 + n * (1 - Ideal.div 1 (1 + Ideal.exp (-n))))) = ((d * slope n : ℝ) : EReal) := by
  induction n with
  | bot => simp [slope_bot, div_one_top, one_add_top]
  | top => simp [slope_top, div_one_one, one_sub_one]
  | coe r =>
    rw [← EReal.coe_neg, Ideal.exp_coe, one_add, div_exp, one_sub, ← EReal.coe_mul, one_add, ← EReal.coe_mul, ← EReal.coe_mul, slope_coe]

/-- The gradient through the swish in the reference's form. -/
theorem swish_reference (d : ℝ) (n : EReal) :
    (d : EReal) * Ideal.div 1 (1 + Ideal.exp (-n)) + n * (d : EReal) * (Ideal.div 1 (1 + Ideal.exp (-n)) * (1 - Ideal.div 1 (1 + Ideal.exp (-n))))
      = ((d * slope n : ℝ) : EReal) := by
  induction n with
  | bot => simp [slope_bot, div_one_top, one_add_top]
  | top => simp [slope_top, div_one_one, one_sub_one]
  | coe r =>
    rw [← EReal.coe_neg, Ideal.exp_coe, one_add, div_exp, one_sub, ← EReal.coe_mul, ← EReal.coe_mul, ← EReal.coe_mul, ← EReal.coe_mul,
      ← EReal.coe_add]
    refine congrArg _ ?_
    rw [slope_coe]; ring

/-- Deviations from the mean add to zero. -/
theorem sum_dev (u : Fin 1024 → ℝ) : ∑ x, (u x - (∑ k, u k) * (1024 : ℝ)⁻¹) = 0 := by
  rw [Finset.sum_sub_distrib, Finset.sum_const, Finset.card_univ, Fintype.card_fin]
  simp only [nsmul_eq_mul]; push_cast; ring

/-- The gradient through the layer norm: `C` are the deviations, `P` the gradient of the normalised row, `s` the reciprocal
    root of the variance plus the small number. The kernel's form is on the left. -/
theorem row_eq (C P : Fin 1024 → ℝ) (s e : ℝ) (he : 0 < e) (hs : (Real.sqrt ((∑ x, C x * C x) * (1024 : ℝ)⁻¹ + e))⁻¹ = s)
    (hC : ∑ x, C x = 0) (q : Fin 1024) :
    s * (P q - (∑ x, P x) * (1024 : ℝ)⁻¹ - C q * s * ((∑ x, P x * (C x * s)) * (1024 : ℝ)⁻¹))
    = P q * s + C q * ((∑ x, C x * P x) * (-(1 / 2) * (s * ((∑ x, C x * C x) * (1024 : ℝ)⁻¹ + e)⁻¹)) * (1024 : ℝ)⁻¹)
      + (∑ x, C x * P x) * (-(1 / 2) * (s * ((∑ x, C x * C x) * (1024 : ℝ)⁻¹ + e)⁻¹)) * (1024 : ℝ)⁻¹ * C q
      + (∑ y, -(P y * s + C y * ((∑ x, C x * P x) * (-(1 / 2) * (s * ((∑ x, C x * C x) * (1024 : ℝ)⁻¹ + e)⁻¹)) * (1024 : ℝ)⁻¹)
          + (∑ x, C x * P x) * (-(1 / 2) * (s * ((∑ x, C x * C x) * (1024 : ℝ)⁻¹ + e)⁻¹)) * (1024 : ℝ)⁻¹ * C y)) * (1024 : ℝ)⁻¹ := by
  have hv := var_pos e he C
  have hV : ((∑ x, C x * C x) * (1024 : ℝ)⁻¹ + e)⁻¹ = s * s := by
    rw [← hs, ← mul_inv, Real.mul_self_sqrt hv.le]
  rw [hV]
  have h1 : ∑ x, P x * (C x * s) = (∑ x, C x * P x) * s := by
    rw [Finset.sum_mul]; exact Finset.sum_congr rfl fun x _ => by ring
  obtain ⟨K, hK⟩ : ∃ K : ℝ, (∑ x, C x * P x) * (-(1 / 2) * (s * (s * s))) * (1024 : ℝ)⁻¹ = K := ⟨_, rfl⟩
  have h2 : ∑ y, -(P y * s + C y * K + K * C y) = -((∑ x, P x) * s) := by
    have : ∀ y, -(P y * s + C y * K + K * C y) = -(P y * s) + C y * (-(2 * K)) := fun y => by ring
    simp only [this]
    rw [Finset.sum_add_distrib, ← Finset.sum_mul _ _ (-(2 * K)), hC, zero_mul, add_zero, Finset.sum_neg_distrib, Finset.sum_mul]
  rw [hK, h2, h1, ← hK]
  ring

end Cert.LnBwd

end
-- ==== Proof.Du3Value.lean ====
/- The arrays the gradient through the convolution branch's layer norm leaves are the reference's terms. -/
module

public import proofs.«01_k».proof.Proof.Gen.BwdDu3Ideal.Value
public import proofs.«01_k».proof.Proof.Gen.BwdDu3Ideal.Skeleton
public import proofs.«01_k».proof.Proof.Du3Ref
public import proofs.«01_k».proof.Proof.LnBwd
public import Idealize.ShloMosaic.Lib.Pipeline.ValueKit
public import Idealize.ShloMosaic.Lib.Pipeline.ReadBack

@[expose] public section

set_option maxRecDepth 16384

noncomputable section

namespace Cert.BwdDu3Ideal.Value

open Cert.BwdDu3Ideal Cert.BwdDu3Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- Every window's block index at a point. -/
theorem idx_val : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0]
    ∧ win0_6.index t = ![0, 0] ∧ win0_7.index t = ![0, 0] :=
  (by decide +kernel : ∀ t : Fin grid0.N, _)

/-- The arguments but the norm's offset are real numbers. -/
structure Reals (c : Dev nD) (A : S4096x1024.Idx → ℝ) (W : S1024x1024.Idx → ℝ) (U : S4096x1024.Idx → ℝ) (G : S1x1024.Idx → ℝ) : Prop where
  a : ∀ i, m ((c : Thread nD τ).loc main_arg0) i = ((A i : ℝ) : EReal)
  w : ∀ i, m ((c : Thread nD τ).loc main_arg1) i = ((W i : ℝ) : EReal)
  u : ∀ i, m ((c : Thread nD τ).loc main_arg2) i = ((U i : ℝ) : EReal)
  g : ∀ i, m ((c : Thread nD τ).loc main_arg3) i = ((G i : ℝ) : EReal)

/-- The blocks at a point are rows of the arguments, as real numbers where those are real. -/
theorem blocks (c : Dev nD) (A : S4096x1024.Idx → ℝ) (W : S1024x1024.Idx → ℝ) (U : S4096x1024.Idx → ℝ) (G : S1x1024.Idx → ℝ) (hR : Reals m c A W U G)
    (t : Fin cfg0.N) (p : Fin 512) (r : Fin 4096) (hr : r.val = t.val * 512 + p.val) :
    (∀ x : Fin 1024, iblk m c 0 t (ix2 p x) = ((A (ix2 r x) : ℝ) : EReal)) ∧ (∀ x y : Fin 1024, iblk m c 1 t (ix2 x y) = ((W (ix2 x y) : ℝ) : EReal))
    ∧ (∀ x : Fin 1024, iblk m c 2 t (ix2 p x) = ((U (ix2 r x) : ℝ) : EReal)) ∧ (∀ x : Fin 1024, iblk m c 3 t (ix2 0 x) = ((G (ix2 0 x) : ℝ) : EReal))
    ∧ (∀ x : Fin 1024, iblk m c 4 t (ix2 0 x) = m ((c : Thread nD τ).loc main_arg4) (ix2 0 x)) := by
  have h0 : ∀ x : Fin 1024, iblk m c 0 t (ix2 p x) = ((A (ix2 r x) : ℝ) : EReal) := fun x => by
    rw [← hR.a]; blk_point [iblk, V, idx_val t]
  have h1 : ∀ x y : Fin 1024, iblk m c 1 t (ix2 x y) = ((W (ix2 x y) : ℝ) : EReal) := fun x y => by
    rw [← hR.w]; blk_point [iblk, V, idx_val t]
  have h2 : ∀ x : Fin 1024, iblk m c 2 t (ix2 p x) = ((U (ix2 r x) : ℝ) : EReal) := fun x => by
    rw [← hR.u]; blk_point [iblk, V, idx_val t]
  have h3 : ∀ x : Fin 1024, iblk m c 3 t (ix2 0 x) = ((G (ix2 0 x) : ℝ) : EReal) := fun x => by
    rw [← hR.g]; blk_point [iblk, V, idx_val t]
  have h4 : ∀ x : Fin 1024, iblk m c 4 t (ix2 0 x) = m ((c : Thread nD τ).loc main_arg4) (ix2 0 x) := fun x => by
    blk_point [iblk, V, idx_val t]
  exact ⟨h0, h1, h2, h3, h4⟩

/-- Every point before the end of the grid. -/
theorem lt8 (t : Fin cfg0.N) : t.val < 8 := by
  have h := t.isLt
  exact lt_of_lt_of_eq h N_0

/-- What a point leaves in the gradient's block, in either case. -/
theorem outs5 (c : Dev nD) (t : Fin cfg0.N) : (outsAt0 m c t.val t.isLt).1
    = k0_pay10 (k0_pay2 (iblk m c 0 t) (iblk m c 1 t)) (iblk m c 3 t) (k0_pay4 (iblk m c 2 t)) (k0_pay5 (iblk m c 2 t)) (k0_pay7 (iblk m c 3 t) (iblk m c 2 t) (iblk m c 4 t)) (k0_pay8 (iblk m c 3 t) (iblk m c 2 t) (iblk m c 4 t)) := by
  have hl := lt8 t
  by_cases h0 : t.val % 8 = 0
  · rw [outsAt0_A m c t h0 (by omega) h0 (by omega)]; frame_out
  · rw [outsAt0_B m c t h0 (by omega) h0 (by omega)]; frame_out

/-- The kernel's block of the gradient at a point is the reference's rows. -/
theorem pay10_eq (c : Dev nD) (A : S4096x1024.Idx → ℝ) (W : S1024x1024.Idx → ℝ) (U : S4096x1024.Idx → ℝ) (G : S1x1024.Idx → ℝ)
    (hR : Reals m c A W U G) (t : Fin cfg0.N) (p : Fin 512) (q : Fin 1024) (r : Fin 4096) (hr : r.val = t.val * 512 + p.val) :
    k0_pay10 (k0_pay2 (iblk m c 0 t) (iblk m c 1 t)) (iblk m c 3 t) (k0_pay4 (iblk m c 2 t)) (k0_pay5 (iblk m c 2 t)) (k0_pay7 (iblk m c 3 t) (iblk m c 2 t) (iblk m c 4 t)) (k0_pay8 (iblk m c 3 t) (iblk m c 2 t) (iblk m c 4 t)) (ix2 p q)
    = Cert.RefDu3Ideal.Term.term0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r q) := by
  obtain ⟨h0, h1, h2, h3, h4⟩ := blocks m c A W U G hR t p r hr
  obtain ⟨e, he, hE⟩ := Cert.NormBwd.eps_pos
  pointwise [k0_pay10, k0_pay9, k0_pay8, k0_pay7, k0_pay6, k0_pay5, k0_pay4, k0_pay3, k0_pay2, Cert.RefDu3Ideal.Term.term0]
  simp only [h0, h1, h2, h3, h4, hR.a, hR.w, hR.u, hR.g, hE, Cert.NormBwd.half_eq, zero_sub, ← EReal.coe_mul, ← EReal.coe_add,
    ← EReal.coe_sub, ← EReal.coe_neg, Cert.LnBwd.sum_coe, Cert.LnBwd.div_n, Cert.LnBwd.one_add, Cert.LnBwd.one_sub, Cert.LnBwd.rsqrt_var e he,
    Cert.LnBwd.div_var e he, Cert.LnBwd.swish_kernel, Cert.LnBwd.swish_reference, Fin.sum_univ_one]
  refine congrArg _ ?_
  have hC0 := Cert.LnBwd.sum_dev (fun x => U (ix2 r x))
  obtain ⟨C, hC⟩ : ∃ C : Fin 1024 → ℝ, ∀ x, U (ix2 r x) - (∑ k, U (ix2 r k)) * (1024 : ℝ)⁻¹ = C x := ⟨_, fun _ => rfl⟩
  simp only [hC] at hC0 ⊢
  generalize hs : (Real.sqrt ((∑ x, C x * C x) * (1024 : ℝ)⁻¹ + e))⁻¹ = s
  obtain ⟨P, hP⟩ : ∃ P : Fin 1024 → ℝ, ∀ x, (∑ k, A (ix2 r k) * W (ix2 x k)) * Cert.LnBwd.slope (((C x * s * G (ix2 0 x) : ℝ) : EReal)
      + m ((c : Thread nD τ).loc main_arg4) (ix2 0 x)) * G (ix2 0 x) = P x :=
    ⟨_, fun _ => rfl⟩
  simp only [hP]
  exact Cert.LnBwd.row_eq C P s e he hs hC0 q

/-- The gradient of the norm's input. -/
theorem final5 (c : Dev nD) (A : S4096x1024.Idx → ℝ) (W : S1024x1024.Idx → ℝ) (U : S4096x1024.Idx → ℝ) (G : S1x1024.Idx → ℝ) (hR : Reals m c A W U G) : (dats m 0 c).arrAt 5 (cfgs 0).N
    = Cert.RefDu3Ideal.Term.term0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5, outs5]
  obtain ⟨p, q, rfl⟩ : ∃ (p : Fin 512) (q : Fin 1024), y = ix2 p q := ⟨y 0, y 1, (ix2_eta y).symm⟩
  have hl := lt8 t
  have hp := p.isLt
  refine (pay10_eq m c A W U G hR t p q ⟨t.val * 512 + p.val, by omega⟩ rfl).trans (congrArg _ ?_)
  refine Eq.trans ?_ (eq_ix2 _).symm
  refine congrArg₂ ix2 (Fin.ext ?_) (Fin.ext ?_) <;> blk_simp [idx_val t]

/-- A later point adds its sums to what the point before left. -/
theorem pay12_eq (a b c d : FVec Ideal S512x1024 .f32) (v : FVec Ideal S1x1024 .f32) (j : S1x1024.Idx) :
    k0_pay12 a b c d v j = v j + k0_pay11 a b c d j := by pointwise [k0_pay12]

/-- The same for the offset's gradient. -/
theorem pay1_eq (a v : FVec Ideal S1x1024 .f32) (j : S1x1024.Idx) : k0_pay1 a v j = v j + a j := by pointwise [k0_pay1]

/-- The gradient of the norm's scale. -/
theorem final6 (c : Dev nD) (A : S4096x1024.Idx → ℝ) (W : S1024x1024.Idx → ℝ) (U : S4096x1024.Idx → ℝ) (G : S1x1024.Idx → ℝ) (hR : Reals m c A W U G) : (dats m 0 c).arrAt 6 (cfgs 0).N
    = Cert.RefDu3Ideal.Term.term1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0) (fun t j => k0_pay11 (k0_pay2 (iblk m c 0 t) (iblk m c 1 t)) (k0_pay5 (iblk m c 2 t)) (k0_pay7 (iblk m c 3 t) (iblk m c 2 t) (iblk m c 4 t)) (k0_pay8 (iblk m c 3 t) (iblk m c 2 t) (iblk m c 4 t)) j)
    (fun t h j => by rw [outsAt0_A m c t h (by have := lt8 t; omega) h (by have := lt8 t; omega)]; frame_out; rw [zero_add])
    (fun t h j => by rw [outsAt0_B m c t h (by omega) h (by omega)]; frame_out; rw [pay12_eq]) (le_of_eq N_0) t0_7 rfl j, zero_add]
  obtain ⟨e, he, hE⟩ := Cert.NormBwd.eps_pos
  obtain ⟨q, rfl⟩ : ∃ q : Fin 1024, j = ix2 0 q := ⟨j 1, by rw [← ix2_eta j]; congr 1; exact Subsingleton.elim _ _⟩
  pointwise [k0_pay11, k0_pay9, k0_pay8, k0_pay7, k0_pay6, k0_pay5, k0_pay4, k0_pay3, k0_pay2, Cert.RefDu3Ideal.Term.term1]
  refine Fin.sum_mul_add_congr fun t p hl => ?_
  obtain ⟨h0, h1, h2, h3, h4⟩ := blocks m c A W U G hR t p ⟨t.val * 512 + p.val, hl⟩ rfl
  simp only [h0, h1, h2, h3, h4, hR.a, hR.w, hR.u, hR.g, hE, zero_sub, ← EReal.coe_mul, ← EReal.coe_add,
    ← EReal.coe_sub, ← EReal.coe_neg, Cert.LnBwd.sum_coe, Cert.LnBwd.div_n, Cert.LnBwd.one_add, Cert.LnBwd.one_sub, Cert.LnBwd.rsqrt_var e he,
    Cert.LnBwd.div_var e he, Cert.LnBwd.swish_kernel, Cert.LnBwd.swish_reference, Fin.sum_univ_one]
  refine congrArg _ ?_
  ring

/-- The gradient of the norm's offset. -/
theorem final7 (c : Dev nD) (A : S4096x1024.Idx → ℝ) (W : S1024x1024.Idx → ℝ) (U : S4096x1024.Idx → ℝ) (G : S1x1024.Idx → ℝ) (hR : Reals m c A W U G) : (dats m 0 c).arrAt 7 (cfgs 0).N
    = Cert.RefDu3Ideal.Term.term2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0) (fun t j => k0_pay13 (k0_pay2 (iblk m c 0 t) (iblk m c 1 t)) (k0_pay7 (iblk m c 3 t) (iblk m c 2 t) (iblk m c 4 t)) (k0_pay8 (iblk m c 3 t) (iblk m c 2 t) (iblk m c 4 t)) j)
    (fun t h j => by rw [outsAt0_A m c t h (by have := lt8 t; omega) h (by have := lt8 t; omega)]; frame_out; rw [zero_add])
    (fun t h j => by rw [outsAt0_B m c t h (by omega) h (by omega)]; frame_out; rw [pay1_eq]) (le_of_eq N_0) t0_7 rfl j, zero_add]
  obtain ⟨e, he, hE⟩ := Cert.NormBwd.eps_pos
  obtain ⟨q, rfl⟩ : ∃ q : Fin 1024, j = ix2 0 q := ⟨j 1, by rw [← ix2_eta j]; congr 1; exact Subsingleton.elim _ _⟩
  pointwise [k0_pay13, k0_pay9, k0_pay8, k0_pay7, k0_pay6, k0_pay5, k0_pay4, k0_pay3, k0_pay2, Cert.RefDu3Ideal.Term.term2]
  refine Fin.sum_mul_add_congr fun t p hl => ?_
  obtain ⟨h0, h1, h2, h3, h4⟩ := blocks m c A W U G hR t p ⟨t.val * 512 + p.val, hl⟩ rfl
  simp only [h0, h1, h2, h3, h4, hR.a, hR.w, hR.u, hR.g, hE, zero_sub, ← EReal.coe_mul, ← EReal.coe_add,
    ← EReal.coe_sub, ← EReal.coe_neg, Cert.LnBwd.sum_coe, Cert.LnBwd.div_n, Cert.LnBwd.one_add, Cert.LnBwd.one_sub, Cert.LnBwd.rsqrt_var e he,
    Cert.LnBwd.div_var e he, Cert.LnBwd.swish_kernel, Cert.LnBwd.swish_reference, Fin.sum_univ_one]

end Cert.BwdDu3Ideal.Value

end
-- ==== Proof.Du3Claim.lean ====
/- The claim of the gradient through the convolution branch's layer norm: where every argument but the norm's offset is finite its three results are the
   reference's. -/
module

public import proofs.«01_k».proof.Defs
public import proofs.«01_k».proof.Proof.Gen.Pre_finite_du3
public import proofs.«01_k».proof.Proof.Du3Value

@[expose] public section

noncomputable section

open Idealize.ShloMosaic Idealize.SL.Sem

namespace Cert.BwdDu3Ideal.Value

open Cert.BwdDu3Ideal Cert.BwdDu3Ideal.Gen Idealize.ShloMosaic.TcCoe

/-- The pattern of plus infinity. -/
theorem top_eq : Ideal.ofBits .f32 0x7F800000#32 = (⊤ : EReal) := by simp [Ideal.ofBits, Ideal.ieee]

/-- The pattern of minus infinity. -/
theorem bot_eq : Ideal.ofBits .f32 0xFF800000#32 = (⊥ : EReal) := by simp [Ideal.ofBits, Ideal.ieee]

/-- A number strictly between the infinities is real. -/
theorem real_of (x : EReal) (h : IntOp.andi (Ideal.cmp .olt x (Ideal.ofBits .f32 0x7F800000#32)) (Ideal.cmp .ogt x (Ideal.ofBits .f32 0xFF800000#32)) = 1#1) :
    x = ((x.toReal : ℝ) : EReal) := by
  rw [top_eq, bot_eq] at h
  induction x with
  | bot => simp [Ideal.cmp, IntOp.andi] at h
  | top => simp [Ideal.cmp, IntOp.andi] at h
  | coe r => rfl

variable (m : (ℓ : Loc nD τ sig) → Buf (Elt Ideal) ℓ)

/-- The arguments' real numbers. -/
def A (c : Dev nD) (i : S4096x1024.Idx) : ℝ := EReal.toReal (m ((c : Thread nD τ).loc main_arg0) i)
def W (c : Dev nD) (i : S1024x1024.Idx) : ℝ := EReal.toReal (m ((c : Thread nD τ).loc main_arg1) i)
def U (c : Dev nD) (i : S4096x1024.Idx) : ℝ := EReal.toReal (m ((c : Thread nD τ).loc main_arg2) i)
def G (c : Dev nD) (i : S1x1024.Idx) : ℝ := EReal.toReal (m ((c : Thread nD τ).loc main_arg3) i)

/-- Under the precondition those arguments are real. -/
theorem reals (h : Cert.Pre_BwdDu3Ideal_finite_du3 m) (c : Dev nD) : Reals m c (A m c) (W m c) (U m c) (G m c) where
  a i := real_of _ (congrFun (h c).1 i)
  w i := real_of _ (congrFun (h c).2.1 i)
  u i := real_of _ (congrFun (h c).2.2.1 i)
  g i := real_of _ (congrFun (h c).2.2.2 i)

/-- Where the precondition holds the three results are the reference's. -/
theorem claim : Cert.algebraic_BwdDu3Ideal_RefDu3Ideal_pre_finite_du3 := by
  intro m g m' g' h hm
  refine ⟨fun c => Cert.RefDu3Ideal.Term.term0 (F := Ideal) (m ((c.tc : Thread Cert.BwdDu3Ideal.nD Cert.BwdDu3Ideal.τ).loc Cert.BwdDu3Ideal.main_arg0)) (m ((c.tc : Thread Cert.BwdDu3Ideal.nD Cert.BwdDu3Ideal.τ).loc Cert.BwdDu3Ideal.main_arg1)) (m ((c.tc : Thread Cert.BwdDu3Ideal.nD Cert.BwdDu3Ideal.τ).loc Cert.BwdDu3Ideal.main_arg2)) (m ((c.tc : Thread Cert.BwdDu3Ideal.nD Cert.BwdDu3Ideal.τ).loc Cert.BwdDu3Ideal.main_arg3)) (m ((c.tc : Thread Cert.BwdDu3Ideal.nD Cert.BwdDu3Ideal.τ).loc Cert.BwdDu3Ideal.main_arg4)),
    fun c => Cert.RefDu3Ideal.Term.term1 (F := Ideal) (m ((c.tc : Thread Cert.BwdDu3Ideal.nD Cert.BwdDu3Ideal.τ).loc Cert.BwdDu3Ideal.main_arg0)) (m ((c.tc : Thread Cert.BwdDu3Ideal.nD Cert.BwdDu3Ideal.τ).loc Cert.BwdDu3Ideal.main_arg1)) (m ((c.tc : Thread Cert.BwdDu3Ideal.nD Cert.BwdDu3Ideal.τ).loc Cert.BwdDu3Ideal.main_arg2)) (m ((c.tc : Thread Cert.BwdDu3Ideal.nD Cert.BwdDu3Ideal.τ).loc Cert.BwdDu3Ideal.main_arg3)) (m ((c.tc : Thread Cert.BwdDu3Ideal.nD Cert.BwdDu3Ideal.τ).loc Cert.BwdDu3Ideal.main_arg4)),
    fun c => Cert.RefDu3Ideal.Term.term2 (F := Ideal) (m ((c.tc : Thread Cert.BwdDu3Ideal.nD Cert.BwdDu3Ideal.τ).loc Cert.BwdDu3Ideal.main_arg0)) (m ((c.tc : Thread Cert.BwdDu3Ideal.nD Cert.BwdDu3Ideal.τ).loc Cert.BwdDu3Ideal.main_arg1)) (m ((c.tc : Thread Cert.BwdDu3Ideal.nD Cert.BwdDu3Ideal.τ).loc Cert.BwdDu3Ideal.main_arg2)) (m ((c.tc : Thread Cert.BwdDu3Ideal.nD Cert.BwdDu3Ideal.τ).loc Cert.BwdDu3Ideal.main_arg3)) (m ((c.tc : Thread Cert.BwdDu3Ideal.nD Cert.BwdDu3Ideal.τ).loc Cert.BwdDu3Ideal.main_arg4)), ?_, ?_⟩
  · exact (θ_run Cert.BwdDu3Ideal.defs _ _).mono (fun r hr c => ⟨(hr c).1.trans (final5 m c (A m c) (W m c) (U m c) (G m c) (reals m h c)), (hr c).2.1.trans (final6 m c (A m c) (W m c) (U m c) (G m c) (reals m h c)),
      (hr c).2.2.1.trans (final7 m c (A m c) (W m c) (U m c) (G m c) (reals m h c)), (hr c).2.2.2⟩) (Cert.BwdDu3Ideal.Value.run_blocks m g)
  · refine (θ_run Cert.RefDu3Ideal.defs _ _).mono (fun r hr c => ?_) (Cert.RefDu3Ideal.Term.run_terms m' g')
    obtain ⟨h0, h1, h2, h3, h4⟩ := hm c
    exact ⟨(hr c).1.trans (by rw [h0, h1, h2, h3, h4]), (hr c).2.1.trans (by rw [h0, h1, h2, h3, h4]), (hr c).2.2.1.trans (by rw [h0, h1, h2, h3, h4]), (hr c).2.2.2⟩

end Cert.BwdDu3Ideal.Value

end
-- ==== Proof.DpRef.lean ====
/- The results of the reference of the gradient of the recurrent branch's gated product as terms over its arguments. -/
module

public import proofs.«01_k».proof.Proof.Gen.RefDpIdeal.Run

@[expose] public section

set_option maxRecDepth 16384

noncomputable section

namespace Cert.RefDpIdeal.Term

open Cert.RefDpIdeal Cert.RefDpIdeal.Gen Idealize.ShloMosaic Idealize.SL.Sem

variable {F : FTy → Type} [FloatOps F]

/-- Result 0 of the reference over its arguments. -/
abbrev term0 (a0 : FVec F S4096x1024 .bf16) (a1 : FVec F S1536x1024 .bf16) (a2 : FVec F S4096x1536 .bf16) (a3 : FVec F S4096x7168 .bf16) (a4 : FVec F S4096x7168 .bf16) : FVec F S4096x1536 .f32 :=
  mulf (Host.dotGeneral dot_S4096x1024_S1536x1024_S4096x1536_1_1_0_0_n_n none (extf .f32 a0 bitsLt_bf16_f32) (extf .f32 a1 bitsLt_bf16_f32)) (mulf (extf .f32 (extractStridedSlice S4096x1536 ![0, 3584] a3 slices_S4096x7168_S4096x1536_0_3584) bitsLt_bf16_f32) (mulf (broadcastInDim S4096x1536 ![] bcast_S_S4096x1536 (constant S_ .f32 0x3F000000#32)) (addf (broadcastInDim S4096x1536 ![] bcast_S_S4096x1536 (constant S_ .f32 0x3F800000#32)) (Host.tanh (mulf (broadcastInDim S4096x1536 ![] bcast_S_S4096x1536 (constant S_ .f32 0x3F4C422A#32)) (addf (extf .f32 (extractStridedSlice S4096x1536 ![0, 3584] a3 slices_S4096x7168_S4096x1536_0_3584) bitsLt_bf16_f32) (Host.divf (mulf (broadcastInDim S4096x1536 ![] bcast_S_S4096x1536 (constant S_ .f32 0x472EAB00#32)) (mulf (mulf (extf .f32 (extractStridedSlice S4096x1536 ![0, 3584] a3 slices_S4096x7168_S4096x1536_0_3584) bitsLt_bf16_f32) (extf .f32 (extractStridedSlice S4096x1536 ![0, 3584] a3 slices_S4096x7168_S4096x1536_0_3584) bitsLt_bf16_f32)) (extf .f32 (extractStridedSlice S4096x1536 ![0, 3584] a3 slices_S4096x7168_S4096x1536_0_3584) bitsLt_bf16_f32))) (broadcastInDim S4096x1536 ![] bcast_S_S4096x1536 (constant S_ .f32 0x49742400#32)))))))))

/-- Result 1 of the reference over its arguments. -/
abbrev term1 (a0 : FVec F S4096x1024 .bf16) (a1 : FVec F S1536x1024 .bf16) (a2 : FVec F S4096x1536 .bf16) (a3 : FVec F S4096x7168 .bf16) (a4 : FVec F S4096x7168 .bf16) : FVec F S4096x7168 .bf16 :=
  (concatenate S4096x7168 1 [⟨S4096x3584, ((extractStridedSlice S4096x3584 ![0, 0] a4 slices_S4096x7168_S4096x3584_0_0) : (⟨S4096x3584, .bf16⟩ : BufTy).Contents (Elt F))⟩, ⟨S4096x1536, ((truncf .bf16 (addf (addf (addf (addf (mulf (mulf (extf .f32 a2 bitsLt_bf16_f32) (Host.dotGeneral dot_S4096x1024_S1536x1024_S4096x1536_1_1_0_0_n_n none (extf .f32 a0 bitsLt_bf16_f32) (extf .f32 a1 bitsLt_bf16_f32))) (mulf (broadcastInDim S4096x1536 ![] bcast_S_S4096x1536 (constant S_ .f32 0x3F000000#32)) (addf (broadcastInDim S4096x1536 ![] bcast_S_S4096x1536 (constant S_ .f32 0x3F800000#32)) (Host.tanh (mulf (broadcastInDim S4096x1536 ![] bcast_S_S4096x1536 (constant S_ .f32 0x3F4C422A#32)) (addf (extf .f32 (extractStridedSlice S4096x1536 ![0, 3584] a3 slices_S4096x7168_S4096x1536_0_3584) bitsLt_bf16_f32) (Host.divf (mulf (broadcastInDim S4096x1536 ![] bcast_S_S4096x1536 (constant S_ .f32 0x472EAB00#32)) (mulf (mulf (extf .f32 (extractStridedSlice S4096x1536 ![0, 3584] a3 slices_S4096x7168_S4096x1536_0_3584) bitsLt_bf16_f32) (extf .f32 (extractStridedSlice S4096x1536 ![0, 3584] a3 slices_S4096x7168_S4096x1536_0_3584) bitsLt_bf16_f32)) (extf .f32 (extractStridedSlice S4096x1536 ![0, 3584] a3 slices_S4096x7168_S4096x1536_0_3584) bitsLt_bf16_f32))) (broadcastInDim S4096x1536 ![] bcast_S_S4096x1536 (constant S_ .f32 0x49742400#32))))))))) (mulf (broadcastInDim S4096x1536 ![] bcast_S_S4096x1536 (constant S_ .f32 0x3F4C422A#32)) (mulf (mulf (broadcastInDim S4096x1536 ![] bcast_S_S4096x1536 (constant S_ .f32 0x3F000000#32)) (mulf (extf .f32 (extractStridedSlice S4096x1536 ![0, 3584] a3 slices_S4096x7168_S4096x1536_0_3584) bitsLt_bf16_f32) (mulf (extf .f32 a2 bitsLt_bf16_f32) (Host.dotGeneral dot_S4096x1024_S1536x1024_S4096x1536_1_1_0_0_n_n none (extf .f32 a0 bitsLt_bf16_f32) (extf .f32 a1 bitsLt_bf16_f32))))) (mulf (addf (broadcastInDim S4096x1536 ![] bcast_S_S4096x1536 (constant S_ .f32 0x3F800000#32)) (Host.tanh (mulf (broadcastInDim S4096x1536 ![] bcast_S_S4096x1536 (constant S_ .f32 0x3F4C422A#32)) (addf (extf .f32 (extractStridedSlice S4096x1536 ![0, 3584] a3 slices_S4096x7168_S4096x1536_0_3584) bitsLt_bf16_f32) (Host.divf (mulf (broadcastInDim S4096x1536 ![] bcast_S_S4096x1536 (constant S_ .f32 0x472EAB00#32)) (mulf (mulf (extf .f32 (extractStridedSlice S4096x1536 ![0, 3584] a3 slices_S4096x7168_S4096x1536_0_3584) bitsLt_bf16_f32) (extf .f32 (extractStridedSlice S4096x1536 ![0, 3584] a3 slices_S4096x7168_S4096x1536_0_3584) bitsLt_bf16_f32)) (extf .f32 (extractStridedSlice S4096x1536 ![0, 3584] a3 slices_S4096x7168_S4096x1536_0_3584) bitsLt_bf16_f32))) (broadcastInDim S4096x1536 ![] bcast_S_S4096x1536 (constant S_ .f32 0x49742400#32))))))) (subf (broadcastInDim S4096x1536 ![] bcast_S_S4096x1536 (constant S_ .f32 0x3F800000#32)) (Host.tanh (mulf (broadcastInDim S4096x1536 ![] bcast_S_S4096x1536 (constant S_ .f32 0x3F4C422A#32)) (addf (extf .f32 (extractStridedSlice S4096x1536 ![0, 3584] a3 slices_S4096x7168_S4096x1536_0_3584) bitsLt_bf16_f32) (Host.divf (mulf (broadcastInDim S4096x1536 ![] bcast_S_S4096x1536 (constant S_ .f32 0x472EAB00#32)) (mulf (mulf (extf .f32 (extractStridedSlice S4096x1536 ![0, 3584] a3 slices_S4096x7168_S4096x1536_0_3584) bitsLt_bf16_f32) (extf .f32 (extractStridedSlice S4096x1536 ![0, 3584] a3 slices_S4096x7168_S4096x1536_0_3584) bitsLt_bf16_f32)) (extf .f32 (extractStridedSlice S4096x1536 ![0, 3584] a3 slices_S4096x7168_S4096x1536_0_3584) bitsLt_bf16_f32))) (broadcastInDim S4096x1536 ![] bcast_S_S4096x1536 (constant S_ .f32 0x49742400#32))))))))))) (mulf (mulf (extf .f32 (extractStridedSlice S4096x1536 ![0, 3584] a3 slices_S4096x7168_S4096x1536_0_3584) bitsLt_bf16_f32) (extf .f32 (extractStridedSlice S4096x1536 ![0, 3584] a3 slices_S4096x7168_S4096x1536_0_3584) bitsLt_bf16_f32)) (mulf (broadcastInDim S4096x1536 ![] bcast_S_S4096x1536 (constant S_ .f32 0x472EAB00#32)) (Host.divf (mulf (broadcastInDim S4096x1536 ![] bcast_S_S4096x1536 (constant S_ .f32 0x3F4C422A#32)) (mulf (mulf (broadcastInDim S4096x1536 ![] bcast_S_S4096x1536 (constant S_ .f32 0x3F000000#32)) (mulf (extf .f32 (extractStridedSlice S4096x1536 ![0, 3584] a3 slices_S4096x7168_S4096x1536_0_3584) bitsLt_bf16_f32) (mulf (extf .f32 a2 bitsLt_bf16_f32) (Host.dotGeneral dot_S4096x1024_S1536x1024_S4096x1536_1_1_0_0_n_n none (extf .f32 a0 bitsLt_bf16_f32) (extf .f32 a1 bitsLt_bf16_f32))))) (mulf (addf (broadcastInDim S4096x1536 ![] bcast_S_S4096x1536 (constant S_ .f32 0x3F800000#32)) (Host.tanh (mulf (broadcastInDim S4096x1536 ![] bcast_S_S4096x1536 (constant S_ .f32 0x3F4C422A#32)) (addf (extf .f32 (extractStridedSlice S4096x1536 ![0, 3584] a3 slices_S4096x7168_S4096x1536_0_3584) bitsLt_bf16_f32) (Host.divf (mulf (broadcastInDim S4096x1536 ![] bcast_S_S4096x1536 (constant S_ .f32 0x472EAB00#32)) (mulf (mulf (extf .f32 (extractStridedSlice S4096x1536 ![0, 3584] a3 slices_S4096x7168_S4096x1536_0_3584) bitsLt_bf16_f32) (extf .f32 (extractStridedSlice S4096x1536 ![0, 3584] a3 slices_S4096x7168_S4096x1536_0_3584) bitsLt_bf16_f32)) (extf .f32 (extractStridedSlice S4096x1536 ![0, 3584] a3 slices_S4096x7168_S4096x1536_0_3584) bitsLt_bf16_f32))) (broadcastInDim S4096x1536 ![] bcast_S_S4096x1536 (constant S_ .f32 0x49742400#32))))))) (subf (broadcastInDim S4096x1536 ![] bcast_S_S4096x1536 (constant S_ .f32 0x3F800000#32)) (Host.tanh (mulf (broadcastInDim S4096x1536 ![] bcast_S_S4096x1536 (constant S_ .f32 0x3F4C422A#32)) (addf (extf .f32 (extractStridedSlice S4096x1536 ![0, 3584] a3 slices_S4096x7168_S4096x1536_0_3584) bitsLt_bf16_f32) (Host.divf (mulf (broadcastInDim S4096x1536 ![] bcast_S_S4096x1536 (constant S_ .f32 0x472EAB00#32)) (mulf (mulf (extf .f32 (extractStridedSlice S4096x1536 ![0, 3584] a3 slices_S4096x7168_S4096x1536_0_3584) bitsLt_bf16_f32) (extf .f32 (extractStridedSlice S4096x1536 ![0, 3584] a3 slices_S4096x7168_S4096x1536_0_3584) bitsLt_bf16_f32)) (extf .f32 (extractStridedSlice S4096x1536 ![0, 3584] a3 slices_S4096x7168_S4096x1536_0_3584) bitsLt_bf16_f32))) (broadcastInDim S4096x1536 ![] bcast_S_S4096x1536 (constant S_ .f32 0x49742400#32)))))))))) (broadcastInDim S4096x1536 ![] bcast_S_S4096x1536 (constant S_ .f32 0x49742400#32)))))) (mulf (extf .f32 (extractStridedSlice S4096x1536 ![0, 3584] a3 slices_S4096x7168_S4096x1536_0_3584) bitsLt_bf16_f32) (mulf (mulf (broadcastInDim S4096x1536 ![] bcast_S_S4096x1536 (constant S_ .f32 0x472EAB00#32)) (Host.divf (mulf (broadcastInDim S4096x1536 ![] bcast_S_S4096x1536 (constant S_ .f32 0x3F4C422A#32)) (mulf (mulf (broadcastInDim S4096x1536 ![] bcast_S_S4096x1536 (constant S_ .f32 0x3F000000#32)) (mulf (extf .f32 (extractStridedSlice S4096x1536 ![0, 3584] a3 slices_S4096x7168_S4096x1536_0_3584) bitsLt_bf16_f32) (mulf (extf .f32 a2 bitsLt_bf16_f32) (Host.dotGeneral dot_S4096x1024_S1536x1024_S4096x1536_1_1_0_0_n_n none (extf .f32 a0 bitsLt_bf16_f32) (extf .f32 a1 bitsLt_bf16_f32))))) (mulf (addf (broadcastInDim S4096x1536 ![] bcast_S_S4096x1536 (constant S_ .f32 0x3F800000#32)) (Host.tanh (mulf (broadcastInDim S4096x1536 ![] bcast_S_S4096x1536 (constant S_ .f32 0x3F4C422A#32)) (addf (extf .f32 (extractStridedSlice S4096x1536 ![0, 3584] a3 slices_S4096x7168_S4096x1536_0_3584) bitsLt_bf16_f32) (Host.divf (mulf (broadcastInDim S4096x1536 ![] bcast_S_S4096x1536 (constant S_ .f32 0x472EAB00#32)) (mulf (mulf (extf .f32 (extractStridedSlice S4096x1536 ![0, 3584] a3 slices_S4096x7168_S4096x1536_0_3584) bitsLt_bf16_f32) (extf .f32 (extractStridedSlice S4096x1536 ![0, 3584] a3 slices_S4096x7168_S4096x1536_0_3584) bitsLt_bf16_f32)) (extf .f32 (extractStridedSlice S4096x1536 ![0, 3584] a3 slices_S4096x7168_S4096x1536_0_3584) bitsLt_bf16_f32))) (broadcastInDim S4096x1536 ![] bcast_S_S4096x1536 (constant S_ .f32 0x49742400#32))))))) (subf (broadcastInDim S4096x1536 ![] bcast_S_S4096x1536 (constant S_ .f32 0x3F800000#32)) (Host.tanh (mulf (broadcastInDim S4096x1536 ![] bcast_S_S4096x1536 (constant S_ .f32 0x3F4C422A#32)) (addf (extf .f32 (extractStridedSlice S4096x1536 ![0, 3584] a3 slices_S4096x7168_S4096x1536_0_3584) bitsLt_bf16_f32) (Host.divf (mulf (broadcastInDim S4096x1536 ![] bcast_S_S4096x1536 (constant S_ .f32 0x472EAB00#32)) (mulf (mulf (extf .f32 (extractStridedSlice S4096x1536 ![0, 3584] a3 slices_S4096x7168_S4096x1536_0_3584) bitsLt_bf16_f32) (extf .f32 (extractStridedSlice S4096x1536 ![0, 3584] a3 slices_S4096x7168_S4096x1536_0_3584) bitsLt_bf16_f32)) (extf .f32 (extractStridedSlice S4096x1536 ![0, 3584] a3 slices_S4096x7168_S4096x1536_0_3584) bitsLt_bf16_f32))) (broadcastInDim S4096x1536 ![] bcast_S_S4096x1536 (constant S_ .f32 0x49742400#32)))))))))) (broadcastInDim S4096x1536 ![] bcast_S_S4096x1536 (constant S_ .f32 0x49742400#32)))) (extf .f32 (extractStridedSlice S4096x1536 ![0, 3584] a3 slices_S4096x7168_S4096x1536_0_3584) bitsLt_bf16_f32)))) (mulf (mulf (mulf (broadcastInDim S4096x1536 ![] bcast_S_S4096x1536 (constant S_ .f32 0x472EAB00#32)) (Host.divf (mulf (broadcastInDim S4096x1536 ![] bcast_S_S4096x1536 (constant S_ .f32 0x3F4C422A#32)) (mulf (mulf (broadcastInDim S4096x1536 ![] bcast_S_S4096x1536 (constant S_ .f32 0x3F000000#32)) (mulf (extf .f32 (extractStridedSlice S4096x1536 ![0, 3584] a3 slices_S4096x7168_S4096x1536_0_3584) bitsLt_bf16_f32) (mulf (extf .f32 a2 bitsLt_bf16_f32) (Host.dotGeneral dot_S4096x1024_S1536x1024_S4096x1536_1_1_0_0_n_n none (extf .f32 a0 bitsLt_bf16_f32) (extf .f32 a1 bitsLt_bf16_f32))))) (mulf (addf (broadcastInDim S4096x1536 ![] bcast_S_S4096x1536 (constant S_ .f32 0x3F800000#32)) (Host.tanh (mulf (broadcastInDim S4096x1536 ![] bcast_S_S4096x1536 (constant S_ .f32 0x3F4C422A#32)) (addf (extf .f32 (extractStridedSlice S4096x1536 ![0, 3584] a3 slices_S4096x7168_S4096x1536_0_3584) bitsLt_bf16_f32) (Host.divf (mulf (broadcastInDim S4096x1536 ![] bcast_S_S4096x1536 (constant S_ .f32 0x472EAB00#32)) (mulf (mulf (extf .f32 (extractStridedSlice S4096x1536 ![0, 3584] a3 slices_S4096x7168_S4096x1536_0_3584) bitsLt_bf16_f32) (extf .f32 (extractStridedSlice S4096x1536 ![0, 3584] a3 slices_S4096x7168_S4096x1536_0_3584) bitsLt_bf16_f32)) (extf .f32 (extractStridedSlice S4096x1536 ![0, 3584] a3 slices_S4096x7168_S4096x1536_0_3584) bitsLt_bf16_f32))) (broadcastInDim S4096x1536 ![] bcast_S_S4096x1536 (constant S_ .f32 0x49742400#32))))))) (subf (broadcastInDim S4096x1536 ![] bcast_S_S4096x1536 (constant S_ .f32 0x3F800000#32)) (Host.tanh (mulf (broadcastInDim S4096x1536 ![] bcast_S_S4096x1536 (constant S_ .f32 0x3F4C422A#32)) (addf (extf .f32 (extractStridedSlice S4096x1536 ![0, 3584] a3 slices_S4096x7168_S4096x1536_0_3584) bitsLt_bf16_f32) (Host.divf (mulf (broadcastInDim S4096x1536 ![] bcast_S_S4096x1536 (constant S_ .f32 0x472EAB00#32)) (mulf (mulf (extf .f32 (extractStridedSlice S4096x1536 ![0, 3584] a3 slices_S4096x7168_S4096x1536_0_3584) bitsLt_bf16_f32) (extf .f32 (extractStridedSlice S4096x1536 ![0, 3584] a3 slices_S4096x7168_S4096x1536_0_3584) bitsLt_bf16_f32)) (extf .f32 (extractStridedSlice S4096x1536 ![0, 3584] a3 slices_S4096x7168_S4096x1536_0_3584) bitsLt_bf16_f32))) (broadcastInDim S4096x1536 ![] bcast_S_S4096x1536 (constant S_ .f32 0x49742400#32)))))))))) (broadcastInDim S4096x1536 ![] bcast_S_S4096x1536 (constant S_ .f32 0x49742400#32)))) (extf .f32 (extractStridedSlice S4096x1536 ![0, 3584] a3 slices_S4096x7168_S4096x1536_0_3584) bitsLt_bf16_f32)) (extf .f32 (extractStridedSlice S4096x1536 ![0, 3584] a3 slices_S4096x7168_S4096x1536_0_3584) bitsLt_bf16_f32))) bitsLt_bf16_f32) : (⟨S4096x1536, .bf16⟩ : BufTy).Contents (Elt F))⟩, ⟨S4096x2048, ((extractStridedSlice S4096x2048 ![0, 5120] a4 slices_S4096x7168_S4096x2048_0_5120) : (⟨S4096x2048, .bf16⟩ : BufTy).Contents (Elt F))⟩] concatenates_S4096x3584_S4096x1536_S4096x2048_S4096x7168_d1 : (⟨S4096x7168, .bf16⟩ : BufTy).Contents (Elt F))

/-- The reference's run, each result at its term. -/
theorem run_terms (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = term0 (m ((c.tc : Thread Cert.RefDpIdeal.nD Cert.RefDpIdeal.τ).loc main_arg0)) (m ((c.tc : Thread Cert.RefDpIdeal.nD Cert.RefDpIdeal.τ).loc main_arg1)) (m ((c.tc : Thread Cert.RefDpIdeal.nD Cert.RefDpIdeal.τ).loc main_arg2)) (m ((c.tc : Thread Cert.RefDpIdeal.nD Cert.RefDpIdeal.τ).loc main_arg3)) (m ((c.tc : Thread Cert.RefDpIdeal.nD Cert.RefDpIdeal.τ).loc main_arg4))
      ∧ r.2.mem ((c.tc : Thread nD τ).loc main_v52) = term1 (m ((c.tc : Thread Cert.RefDpIdeal.nD Cert.RefDpIdeal.τ).loc main_arg0)) (m ((c.tc : Thread Cert.RefDpIdeal.nD Cert.RefDpIdeal.τ).loc main_arg1)) (m ((c.tc : Thread Cert.RefDpIdeal.nD Cert.RefDpIdeal.τ).loc main_arg2)) (m ((c.tc : Thread Cert.RefDpIdeal.nD Cert.RefDpIdeal.τ).loc main_arg3)) (m ((c.tc : Thread Cert.RefDpIdeal.nD Cert.RefDpIdeal.τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by rfl),
      (h c).2.1.trans (by unfold Cert.RefDpIdeal.Value.res_main_v52; rfl),
      (h c).2.2⟩)
    (Cert.RefDpIdeal.Value.run m ρ)

end Cert.RefDpIdeal.Term

end
-- ==== Proof.DpReal.lean ====
/- The tanh form of the gate's nonlinearity and its derivative at one number: the kernel's two formulas are the reference's, on the extended numbers. -/
module

public import proofs.«01_k».proof.BwdDpIdeal
public import proofs.«01_k».proof.Proof.NormBwd
public import Idealize.ShloMosaic.PureOps.IdealRules

@[expose] public section

noncomputable section

open Idealize.ShloMosaic

namespace Cert.DpReal

/-- The kernel's cubic coefficient. -/
theorem cubic_eq : Named.named (F := Ideal) Cert.BwdDpIdeal.κ "gelu_cubic" (φ := .f32) 0x3D372713#32 = ((8943 / 200000 : ℝ) : EReal) :=
  IdealRules.named_const.ideal_named_scalar _ _ _ _ rfl

/-- Three times it. -/
theorem slope_eq : Named.named (F := Ideal) Cert.BwdDpIdeal.κ "gelu_slope" (φ := .f32) 0x3E095D4F#32 = ((26829 / 200000 : ℝ) : EReal) :=
  IdealRules.named_const.ideal_named_scalar _ _ _ _ rfl

/-- The reference's coefficient's numerator. -/
theorem num_eq : Ideal.ofBits .f32 1194240768#32 = ((44715 : ℝ) : EReal) := by
  simp [Ideal.ofBits, Ideal.ieee, -EReal.coe_mul]; norm_num

/-- Its denominator. -/
theorem den_eq : Ideal.ofBits .f32 1232348160#32 = ((1000000 : ℝ) : EReal) := by
  simp [Ideal.ofBits, Ideal.ieee, -EReal.coe_mul]; norm_num

/-- The pattern of a half. -/
theorem half_eq : Ideal.ofBits .f32 1056964608#32 = ((1 / 2 : ℝ) : EReal) := by
  simp [Ideal.ofBits, Ideal.ieee, -EReal.coe_mul]; norm_num

/-- The factor in the hyperbolic tangent's argument is a positive real number. -/
theorem fac_pos : ∃ k : ℝ, 0 < k ∧ Ideal.ofBits .f32 1061962282#32 = (k : EReal) := by
  refine ⟨_, ?_, by simp [Ideal.ofBits, Ideal.ieee, -EReal.coe_mul]; rfl⟩
  norm_num

/-- The quotient by the denominator. -/
theorem quot (y : EReal) : Ideal.div (Ideal.ofBits .f32 1194240768#32 * y) (Ideal.ofBits .f32 1232348160#32) = ((8943 / 200000 : ℝ) : EReal) * y := by
  rw [num_eq, den_eq, Cert.NormBwd.div_coe _ _ (by norm_num), mul_comm ((44715 : ℝ) : EReal) y, mul_assoc, ← EReal.coe_mul, mul_comm]
  norm_num

/-- The quotient by the denominator, taken before the product. -/
theorem quot' (y : EReal) : Ideal.ofBits .f32 1194240768#32 * Ideal.div y (Ideal.ofBits .f32 1232348160#32) = ((8943 / 200000 : ℝ) : EReal) * y := by
  rw [num_eq, den_eq, Cert.NormBwd.div_coe _ _ (by norm_num), mul_comm y, ← mul_assoc, ← EReal.coe_mul]
  norm_num

/-- The cubic term, as the kernel multiplies it and as the reference does. -/
theorem cube (x : EReal) : Named.named (F := Ideal) Cert.BwdDpIdeal.κ "gelu_cubic" (φ := .f32) 0x3D372713#32 * x * x * x
    = ((8943 / 200000 : ℝ) : EReal) * (x * x * x) := by
  rw [cubic_eq]; simp only [mul_assoc]

/-- The derivative, times a real number. -/
theorem deriv (k : ℝ) (hk : 0 < k) (b : ℝ) (x : EReal) :
    (b : EReal) * (((1 / 2 : ℝ) : EReal) * (1 + Ideal.tanh ((k : EReal) * (x + ((8943 / 200000 : ℝ) : EReal) * (x * x * x))))
      + ((1 / 2 : ℝ) : EReal) * x * ((1 - Ideal.tanh ((k : EReal) * (x + ((8943 / 200000 : ℝ) : EReal) * (x * x * x))) * Ideal.tanh ((k : EReal) * (x + ((8943 / 200000 : ℝ) : EReal) * (x * x * x)))) * (k : EReal)
        * (1 + ((26829 / 200000 : ℝ) : EReal) * x * x)))
    = (b : EReal) * (((1 / 2 : ℝ) : EReal) * (1 + Ideal.tanh ((k : EReal) * (x + ((8943 / 200000 : ℝ) : EReal) * (x * x * x)))))
      + (k : EReal) * (((1 / 2 : ℝ) : EReal) * (x * (b : EReal)) * ((1 + Ideal.tanh ((k : EReal) * (x + ((8943 / 200000 : ℝ) : EReal) * (x * x * x)))) * (1 - Ideal.tanh ((k : EReal) * (x + ((8943 / 200000 : ℝ) : EReal) * (x * x * x))))))
      + x * x * (((8943 / 200000 : ℝ) : EReal) * ((k : EReal) * (((1 / 2 : ℝ) : EReal) * (x * (b : EReal)) * ((1 + Ideal.tanh ((k : EReal) * (x + ((8943 / 200000 : ℝ) : EReal) * (x * x * x)))) * (1 - Ideal.tanh ((k : EReal) * (x + ((8943 / 200000 : ℝ) : EReal) * (x * x * x))))))))
      + x * (((8943 / 200000 : ℝ) : EReal) * ((k : EReal) * (((1 / 2 : ℝ) : EReal) * (x * (b : EReal)) * ((1 + Ideal.tanh ((k : EReal) * (x + ((8943 / 200000 : ℝ) : EReal) * (x * x * x)))) * (1 - Ideal.tanh ((k : EReal) * (x + ((8943 / 200000 : ℝ) : EReal) * (x * x * x))))))) * x)
      + ((8943 / 200000 : ℝ) : EReal) * ((k : EReal) * (((1 / 2 : ℝ) : EReal) * (x * (b : EReal)) * ((1 + Ideal.tanh ((k : EReal) * (x + ((8943 / 200000 : ℝ) : EReal) * (x * x * x)))) * (1 - Ideal.tanh ((k : EReal) * (x + ((8943 / 200000 : ℝ) : EReal) * (x * x * x))))))) * x * x := by
  have e1 : (1 : EReal) - 1 = 0 := by rw [← EReal.coe_one, ← EReal.coe_sub, sub_self, EReal.coe_zero]
  have e2 : (1 : EReal) + -1 = 0 := by rw [← sub_eq_add_neg, e1]
  induction x with
  | bot =>
    have ht : Ideal.tanh ((k : EReal) * (⊥ + ((8943 / 200000 : ℝ) : EReal) * (⊥ * ⊥ * ⊥))) = -1 := by
      rw [EReal.bot_add, EReal.coe_mul_bot_of_pos hk]; rfl
    rw [ht]
    simp [e1, e2]
  | top =>
    have ht : Ideal.tanh ((k : EReal) * (⊤ + ((8943 / 200000 : ℝ) : EReal) * (⊤ * ⊤ * ⊤))) = 1 := by
      rw [EReal.top_mul_top, EReal.top_mul_top, EReal.coe_mul_top_of_pos (by norm_num), EReal.top_add_top, EReal.coe_mul_top_of_pos hk]; rfl
    rw [ht]
    simp [e1, e2]
  | coe x =>
    simp only [← EReal.coe_mul, ← EReal.coe_add, Ideal.tanh_coe]
    generalize Real.tanh _ = t
    simp only [← EReal.coe_one, ← EReal.coe_mul, ← EReal.coe_add, ← EReal.coe_sub]
    congr 1
    ring

end Cert.DpReal

end
-- ==== Proof.DpValue.lean ====
/- The arrays the call of the recurrent branch's gated product's gradient leaves: the gradient of the recurrence's output is the reference's term, the
   columns of the second result around the gate's are those of the array it was given, as in the reference, and the gate's columns are the
   reference's where the product's gradient is finite. -/
module

public import proofs.«01_k».proof.Proof.Gen.BwdDpIdeal.Value
public import proofs.«01_k».proof.Proof.DpRef
public import proofs.«01_k».proof.Proof.DpReal
public import proofs.«01_k».proof.Proof.LnBwd
public import Idealize.ShloMosaic.Lib.Pipeline.ValueKit
public import Idealize.ShloMosaic.Lib.Pipeline.ReadBack

@[expose] public section

set_option maxRecDepth 16384

noncomputable section

namespace Cert.BwdDpIdeal.Value

open Cert.BwdDpIdeal Cert.BwdDpIdeal.Gen
open Idealize.ShloMosaic Idealize.ShloMosaic.TcCoe Idealize.SL.Sem
open Idealize.ShloMosaic.Pipeline (Dat)
open scoped BigOperators

/-- The reference's shapes. -/
abbrev S4096x3584 : Shape := ⟨2, ![4096, 3584]⟩
abbrev S4096x2048 : Shape := ⟨2, ![4096, 2048]⟩

variable (m : (ℓ : Loc nD τ sig) → Buf (Elt Ideal) ℓ) (ρ : Dev nD → PrngReg)

/-- Every window's block index at a point. -/
theorem idx_val : ∀ t : Fin cfg0.N, win0_0.index t = ![t.val / 3, 0]
    ∧ win0_1.index t = ![t.val % 3, 0]
    ∧ win0_2.index t = ![t.val / 3, t.val % 3]
    ∧ win0_3.index t = ![t.val / 3, 7 + t.val % 3]
    ∧ win0_4.index t = ![t.val / 3, t.val % 3]
    ∧ win0_5.index t = ![t.val / 3, 7 + t.val % 3] :=
  (by decide +kernel : ∀ t : Fin grid0.N, _)

/-- The gradient, the weights and the recurrence's output are real numbers. -/
structure Reals (c : Dev nD) (A : S4096x1024.Idx → ℝ) (W : S1536x1024.Idx → ℝ) (H : S4096x1536.Idx → ℝ) : Prop where
  a : ∀ i, m ((c : Thread nD τ).loc main_arg0) i = ((A i : ℝ) : EReal)
  w : ∀ i, m ((c : Thread nD τ).loc main_arg1) i = ((W i : ℝ) : EReal)
  h : ∀ i, m ((c : Thread nD τ).loc main_arg2) i = ((H i : ℝ) : EReal)

/-- The gradient of the recurrence's output at a point is the reference's array through the window. -/
theorem grad_eq (c : Dev nD) (t : Fin cfg0.N) (y : S1024x512.Idx) (z : S4096x1536.Idx) (h0 : (z 0).val = t.val / 3 * 1024 + (y 0).val)
    (h1 : (z 1).val = t.val % 3 * 512 + (y 1).val) :
    k0_pay5 (F := Ideal) (iblk m c 0 t) (iblk m c 1 t) (iblk m c 3 t) y = Cert.RefDpIdeal.Term.term0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) z := by
  pointwise [k0_pay5, k0_pay2, k0_pay3, k0_pay4, Cert.RefDpIdeal.Term.term0]
  simp only [Cert.DpReal.cube, Cert.DpReal.quot]
  have hc : ∀ u v w q h : EReal, h * (q * u * (v + w)) = h * (u * (q * (v + w))) := fun u v w q h => by
    rw [mul_comm q u, mul_assoc]
  rw [hc]
  simp only [mul_assoc]
  blk_point [iblk, V, idx_val t]

/-- The gate's gradient at a point is the reference's array through the window, where the product's gradient is made of real numbers. -/
theorem gate_eq (c : Dev nD) (A : S4096x1024.Idx → ℝ) (W : S1536x1024.Idx → ℝ) (H : S4096x1536.Idx → ℝ) (hR : Reals m c A W H)
    (t : Fin cfg0.N) (y : S1024x512.Idx) (z : S4096x7168.Idx) (h0 : (z 0).val = t.val / 3 * 1024 + (y 0).val)
    (h1 : (z 1).val = 3584 + (t.val % 3 * 512 + (y 1).val)) :
    k0_pay1 (F := Ideal) (k0_pay3 (iblk m c 3 t)) (k0_pay6 (iblk m c 0 t) (iblk m c 1 t) (iblk m c 2 t)) (k0_pay7 (iblk m c 3 t)) (k0_pay8 (iblk m c 3 t)) y = Cert.RefDpIdeal.Term.term1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) z := by
  have hy : (y 1 : ℕ) < 512 := (y 1).isLt
  have ht : t.val % 3 < 3 := Nat.mod_lt _ (by decide)
  obtain ⟨k, hk, hK⟩ := Cert.DpReal.fac_pos
  have g0 : ∀ x : Fin 1024, iblk m c 0 t (ix2 (y 0) x) = ((A (ix2 (z 0) x) : ℝ) : EReal) := fun x => by
    rw [← hR.a]; blk_point [iblk, V, idx_val t]
  have hw : (z 1).val - 3584 < 1536 := by omega
  have g1 : ∀ x : Fin 1024, iblk m c 1 t (ix2 (y 1) x) = ((W (ix2 ⟨(z 1).val - 3584, hw⟩ x) : ℝ) : EReal) := fun x => by
    rw [← hR.w]; blk_point [iblk, V, idx_val t]
  have g2 : iblk m c 2 t y = ((H (ix2 (z 0) ⟨(z 1).val - 3584, hw⟩) : ℝ) : EReal) := by
    rw [← hR.h]; blk_point [iblk, V, idx_val t]
  have g3 : m ((c : Thread nD τ).loc main_arg3) (ix2 (z 0) ⟨3584 + ((z 1).val - 3584), by omega⟩) = iblk m c 3 t y := by
    blk_point [iblk, V, idx_val t]
  pointwise [k0_pay1, k0_pay6, k0_pay7, k0_pay8, k0_pay2, k0_pay3, k0_pay4, Cert.RefDpIdeal.Term.term1]
  rw [dif_neg (by omega), dif_pos (by omega)]
  simp only [g0, g1, g2, g3, hR.a, hR.w, hR.h, Cert.DpReal.cube, Cert.DpReal.quot, Cert.DpReal.quot', Cert.DpReal.slope_eq, Cert.DpReal.half_eq, hK]
  simp only [← EReal.coe_mul (A _), Cert.LnBwd.sum_coe]
  simp only [← EReal.coe_mul (∑ k, A _ * W _), ← EReal.coe_mul (H _)]
  rw [mul_comm (H _)]
  exact Cert.DpReal.deriv k hk _ (iblk m c 3 t y)

/-- The first result is the reference's. -/
theorem final4 (c : Dev nD) : (dats m 0 c).arrAt 4 (cfgs 0).N = Cert.RefDpIdeal.Term.term0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 4 _ (by decide +kernel) fun t hf y => ?_
  blk_simp; rw [after0_4]
  have h : (outsAt0 m c t).1 = k0_pay5 (F := Ideal) (iblk m c 0 t) (iblk m c 1 t) (iblk m c 3 t) := by
    unfold outsAt0; frame_out
  rw [h]
  exact grad_eq m c t y _ (by blk_simp [idx_val t]) (by blk_simp [idx_val t])

/-- Three arrays side by side, the outer two cut from one array: around the middle one they are that array. -/
theorem around (hl : S4096x7168.Slices ![0, 0] S4096x3584) (hr : S4096x7168.Slices ![0, 5120] S4096x2048)
    (hc : Shape.Concatenates [S4096x3584, S4096x1536, S4096x2048] S4096x7168 1) (a : FVec Ideal S4096x7168 .bf16) (x : FVec Ideal S4096x1536 .bf16) (i : S4096x7168.Idx) (hi : (i 1 : ℕ) < 3584 ∨ 5120 ≤ (i 1 : ℕ)) :
    concatenate S4096x7168 1 [⟨S4096x3584, extractStridedSlice S4096x3584 ![0, 0] a hl⟩, ⟨S4096x1536, x⟩,
      ⟨S4096x2048, extractStridedSlice S4096x2048 ![0, 5120] a hr⟩]
      hc i = a i := by
  rcases hi with h | h
  · pointwise
    rw [dif_pos h]
  · pointwise
    rw [dif_neg (by omega), dif_neg (by omega)]
    refine congrArg a (Eq.trans ?_ (eq_ix2 _).symm)
    refine congrArg₂ ix2 (Fin.ext ?_) (Fin.ext ?_) <;> simp <;> omega

/-- The reference's second result around the gate's columns. -/
theorem term1_at (a0 : FVec Ideal S4096x1024 .bf16) (a1 : FVec Ideal S1536x1024 .bf16) (a2 : FVec Ideal S4096x1536 .bf16) (a3 a4 : FVec Ideal S4096x7168 .bf16)
    (i : S4096x7168.Idx) (hi : (i 1 : ℕ) < 3584 ∨ 5120 ≤ (i 1 : ℕ)) : Cert.RefDpIdeal.Term.term1 (F := Ideal) a0 a1 a2 a3 a4 i = a4 i :=
  around _ _ _ a4 _ i hi

/-- A point's block lies in the gate's columns. -/
theorem not_mem (t : Fin cfg0.N) (i : S4096x7168.Idx) (hi : (i 1 : ℕ) < 3584 ∨ 5120 ≤ (i 1 : ℕ)) : i ∉ ((cfg0.win 5).blk t).view.set := by
  intro hm
  obtain ⟨y, -, e⟩ := Finset.mem_map.mp hm
  have h : (i 1 : ℕ) = (7 + t.val % 3) * 512 + (y 1 : ℕ) := by rw [← e]; blk_simp [idx_val t]
  have hy : (y 1 : ℕ) < 512 := (y 1).isLt
  omega

/-- Around the gate's columns the second result is the array the call was given. -/
theorem final5 (c : Dev nD) (i : S4096x7168.Idx) (hi : (i 1 : ℕ) < 3584 ∨ 5120 ≤ (i 1 : ℕ)) :
    (dats m 0 c).arrAt 5 (cfgs 0).N i = Cert.RefDpIdeal.Term.term1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  rw [term1_at _ _ _ _ _ i hi]
  exact entry5 m c i fun t _ => not_mem t i hi

/-- Every column of the gate lies in some point's block. -/
theorem mem_gate (i : S4096x7168.Idx) (h : 3584 ≤ (i 1 : ℕ)) (h' : (i 1 : ℕ) < 5120) : ∃ t : Fin cfg0.N, i ∈ ((cfg0.win 5).blk t).view.set := by
  have hi : (i 0 : ℕ) < 4096 := (i 0).isLt
  obtain ⟨t, ht⟩ : ∃ t : Fin cfg0.N, t.val = (i 0 : ℕ) / 1024 * 3 + ((i 1 : ℕ) - 3584) / 512 :=
    ⟨⟨(i 0 : ℕ) / 1024 * 3 + ((i 1 : ℕ) - 3584) / 512, by rw [show cfg0.N = 12 from N_0]; omega⟩, rfl⟩
  let y : S1024x512.Idx := ix2 ⟨(i 0 : ℕ) % 1024, Nat.mod_lt _ (by decide)⟩ ⟨((i 1 : ℕ) - 3584) % 512, Nat.mod_lt _ (by decide)⟩
  have y0 : (y 0 : ℕ) = (i 0 : ℕ) % 1024 := rfl
  have y1 : (y 1 : ℕ) = ((i 1 : ℕ) - 3584) % 512 := rfl
  refine ⟨t, Finset.mem_map.mpr ⟨y, Finset.mem_univ _, ?_⟩⟩
  refine ((eq_ix2 _).trans ?_).trans (eq_ix2 i).symm
  clear_value y
  refine congrArg₂ ix2 (Fin.ext ?_) (Fin.ext ?_)
  · blk_simp [idx_val t]; omega
  · blk_simp [idx_val t]; omega

/-- The second result is the reference's everywhere where the product's gradient is made of real numbers. -/
theorem final5_real (c : Dev nD) (A : S4096x1024.Idx → ℝ) (W : S1536x1024.Idx → ℝ) (H : S4096x1536.Idx → ℝ) (hR : Reals m c A W H) :
    (dats m 0 c).arrAt 5 (cfgs 0).N = Cert.RefDpIdeal.Term.term1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  by_cases hi : (i 1 : ℕ) < 3584 ∨ 5120 ≤ (i 1 : ℕ)
  · exact final5 m c i hi
  obtain ⟨t, ht⟩ := mem_gate i (by omega) (by omega)
  refine (dats m 0 c).arrAt_apply_of_mem 5 _ (fun t hf => ?_) cfg0.N t i t.isLt ((by decide +kernel : ∀ t, (cfg0.win 5).flush t = true) t) ht
  rw [flushed5]
  have h : (outsAt0 m c t).2 = k0_pay1 (F := Ideal) (k0_pay3 (iblk m c 3 t)) (k0_pay6 (iblk m c 0 t) (iblk m c 1 t) (iblk m c 2 t)) (k0_pay7 (iblk m c 3 t)) (k0_pay8 (iblk m c 3 t)) := by
    unfold outsAt0; frame_out
  rw [h]
  funext y
  exact gate_eq m c A W H hR t y _ (by blk_simp [idx_val t]) (by blk_simp [idx_val t]; omega)

end Cert.BwdDpIdeal.Value

end
-- ==== Proof.DpClaim.lean ====
/- The two claims of the call of the recurrent branch's gated product's gradient: whatever the arguments, the gradient of the recurrence's output everywhere
   and the second result where the mask `outside_gate` is set, which is all its columns but the gate's; and both results everywhere where the
   gradient, the weights and the recurrence's output are finite. -/
module

public import proofs.«01_k».proof.Defs
public import proofs.«01_k».proof.Proof.Gen.On_outside_gate
public import proofs.«01_k».proof.Proof.Gen.Pre_finite_dp
public import proofs.«01_k».proof.Proof.DpValue

@[expose] public section

noncomputable section

open Idealize.ShloMosaic Idealize.SL.Sem

namespace Cert.On_outside_gate

variable {F : FTy → Type} [FloatOps F] [Facts]

/-- The integer a column's number is. -/
theorem col_int (r : ℕ) (hr : r < 7168) : (BitVec.ofNat 32 r).toInt = r := by
  rw [BitVec.toInt_eq_toNat_of_lt (x := BitVec.ofNat 32 r) (by rw [BitVec.toNat_ofNat]; omega), BitVec.toNat_ofNat]
  omega

/-- The comparisons the mask is made of, at one column. -/
theorem key (r : ℕ) (hr : r < 7168)
    (h : IntOp.ori (IntOp.cmpi .slt (BitVec.ofNat 32 r) 3584#32) (IntOp.cmpi .sge (BitVec.ofNat 32 r) 5120#32) = 1#1) : r < 3584 ∨ 5120 ≤ r := by
  by_contra hn
  have e1 : (BitVec.ofNat 32 r).slt 3584#32 = false := by
    rw [BitVec.slt_eq_decide, decide_eq_false_iff_not, col_int r hr, show (3584#32).toInt = 3584 from rfl]
    omega
  have e2 : (5120#32).sle (BitVec.ofNat 32 r) = false := by
    rw [BitVec.sle_eq_decide, decide_eq_false_iff_not, col_int r hr, show (5120#32).toInt = 5120 from rfl]
    omega
  have h' : BitVec.ofBool ((BitVec.ofNat 32 r).slt 3584#32) ||| BitVec.ofBool ((5120#32).sle (BitVec.ofNat 32 r)) = 1#1 := h
  rw [e1, e2] at h'
  exact absurd h' (by decide)

/-- The mask's second array is set only outside the gate's columns. -/
theorem fn_apply (a0 : FVec F S4096x1024 .bf16) (a1 : FVec F S1536x1024 .bf16) (a2 : FVec F S4096x1536 .bf16) (a3 a4 : FVec F S4096x7168 .bf16)
    (i : S4096x7168.Idx) (h : (fn a0 a1 a2 a3 a4).2 i = 1#1) : (i 1 : ℕ) < 3584 ∨ 5120 ≤ (i 1 : ℕ) := by
  have h' : IntOp.ori (IntOp.cmpi .slt (BitVec.ofNat 32 (i 1 : ℕ)) 3584#32) (IntOp.cmpi .sge (BitVec.ofNat 32 (i 1 : ℕ)) 5120#32) = 1#1 := h
  exact key _ (i 1).isLt h'

end Cert.On_outside_gate

namespace Cert.BwdDpIdeal.Value

/-- The first result is the reference's everywhere, the second where the mask is set. -/
theorem claim : Cert.algebraic_BwdDpIdeal_RefDpIdeal_on_outside_gate := by
  intro m g m' g' _ hm
  refine ⟨fun c => Cert.RefDpIdeal.Term.term0 (F := Ideal) (m ((c.tc : Thread Cert.BwdDpIdeal.nD Cert.BwdDpIdeal.τ).loc Cert.BwdDpIdeal.main_arg0)) (m ((c.tc : Thread Cert.BwdDpIdeal.nD Cert.BwdDpIdeal.τ).loc Cert.BwdDpIdeal.main_arg1)) (m ((c.tc : Thread Cert.BwdDpIdeal.nD Cert.BwdDpIdeal.τ).loc Cert.BwdDpIdeal.main_arg2)) (m ((c.tc : Thread Cert.BwdDpIdeal.nD Cert.BwdDpIdeal.τ).loc Cert.BwdDpIdeal.main_arg3)) (m ((c.tc : Thread Cert.BwdDpIdeal.nD Cert.BwdDpIdeal.τ).loc Cert.BwdDpIdeal.main_arg4)),
    fun c => Cert.RefDpIdeal.Term.term1 (F := Ideal) (m ((c.tc : Thread Cert.BwdDpIdeal.nD Cert.BwdDpIdeal.τ).loc Cert.BwdDpIdeal.main_arg0)) (m ((c.tc : Thread Cert.BwdDpIdeal.nD Cert.BwdDpIdeal.τ).loc Cert.BwdDpIdeal.main_arg1)) (m ((c.tc : Thread Cert.BwdDpIdeal.nD Cert.BwdDpIdeal.τ).loc Cert.BwdDpIdeal.main_arg2)) (m ((c.tc : Thread Cert.BwdDpIdeal.nD Cert.BwdDpIdeal.τ).loc Cert.BwdDpIdeal.main_arg3)) (m ((c.tc : Thread Cert.BwdDpIdeal.nD Cert.BwdDpIdeal.τ).loc Cert.BwdDpIdeal.main_arg4)), ?_, ?_⟩
  · refine (θ_run Cert.BwdDpIdeal.defs _ _).mono (fun r hr c => ?_) (Cert.BwdDpIdeal.Value.run_blocks m g)
    exact ⟨fun i _ => congrFun ((hr c).1.trans (final4 m c)) i,
      fun i hi => (congrFun (hr c).2.1 i).trans (final5 m c i (Cert.On_outside_gate.fn_apply _ _ _ _ _ i hi)), (hr c).2.2⟩
  · refine (θ_run Cert.RefDpIdeal.defs _ _).mono (fun r hr c => ?_) (Cert.RefDpIdeal.Term.run_terms m' g')
    obtain ⟨h0, h1, h2, h3, h4⟩ := hm c
    exact ⟨fun i _ => congrFun ((hr c).1.trans (by rw [h0, h1, h2, h3, h4])) i, fun i _ => congrFun ((hr c).2.1.trans (by rw [h0, h1, h2, h3, h4])) i,
      (hr c).2.2⟩

/-- The pattern of plus infinity. -/
theorem top_eq : Ideal.ofBits .f32 0x7F800000#32 = (⊤ : EReal) := by simp [Ideal.ofBits, Ideal.ieee]

/-- The pattern of minus infinity. -/
theorem bot_eq : Ideal.ofBits .f32 0xFF800000#32 = (⊥ : EReal) := by simp [Ideal.ofBits, Ideal.ieee]

/-- A number strictly between the infinities is real. -/
theorem real_of (x : EReal) (h : IntOp.andi (Ideal.cmp .olt x (Ideal.ofBits .f32 0x7F800000#32)) (Ideal.cmp .ogt x (Ideal.ofBits .f32 0xFF800000#32)) = 1#1) :
    x = ((x.toReal : ℝ) : EReal) := by
  rw [top_eq, bot_eq] at h
  induction x with
  | bot => simp [Ideal.cmp, IntOp.andi] at h
  | top => simp [Ideal.cmp, IntOp.andi] at h
  | coe r => rfl

open Cert.BwdDpIdeal Cert.BwdDpIdeal.Gen Idealize.ShloMosaic.TcCoe in
/-- Under the precondition the gradient, the weights and the recurrence's output are real. -/
theorem reals (m : (ℓ : Loc nD τ sig) → Buf (Elt Ideal) ℓ) (h : Cert.Pre_BwdDpIdeal_finite_dp m) (c : Dev nD) :
    Reals m c (fun i => EReal.toReal (m ((c : Thread nD τ).loc main_arg0) i)) (fun i => EReal.toReal (m ((c : Thread nD τ).loc main_arg1) i))
      (fun i => EReal.toReal (m ((c : Thread nD τ).loc main_arg2) i)) where
  a i := real_of _ (congrFun (h c).1 i)
  w i := real_of _ (congrFun (h c).2.1 i)
  h i := real_of _ (congrFun (h c).2.2 i)

/-- Where the precondition holds the two results are the reference's. -/
theorem claim_real : Cert.algebraic_BwdDpIdeal_RefDpIdeal_pre_finite_dp := by
  intro m g m' g' h hm
  refine ⟨fun c => Cert.RefDpIdeal.Term.term0 (F := Ideal) (m ((c.tc : Thread Cert.BwdDpIdeal.nD Cert.BwdDpIdeal.τ).loc Cert.BwdDpIdeal.main_arg0)) (m ((c.tc : Thread Cert.BwdDpIdeal.nD Cert.BwdDpIdeal.τ).loc Cert.BwdDpIdeal.main_arg1)) (m ((c.tc : Thread Cert.BwdDpIdeal.nD Cert.BwdDpIdeal.τ).loc Cert.BwdDpIdeal.main_arg2)) (m ((c.tc : Thread Cert.BwdDpIdeal.nD Cert.BwdDpIdeal.τ).loc Cert.BwdDpIdeal.main_arg3)) (m ((c.tc : Thread Cert.BwdDpIdeal.nD Cert.BwdDpIdeal.τ).loc Cert.BwdDpIdeal.main_arg4)),
    fun c => Cert.RefDpIdeal.Term.term1 (F := Ideal) (m ((c.tc : Thread Cert.BwdDpIdeal.nD Cert.BwdDpIdeal.τ).loc Cert.BwdDpIdeal.main_arg0)) (m ((c.tc : Thread Cert.BwdDpIdeal.nD Cert.BwdDpIdeal.τ).loc Cert.BwdDpIdeal.main_arg1)) (m ((c.tc : Thread Cert.BwdDpIdeal.nD Cert.BwdDpIdeal.τ).loc Cert.BwdDpIdeal.main_arg2)) (m ((c.tc : Thread Cert.BwdDpIdeal.nD Cert.BwdDpIdeal.τ).loc Cert.BwdDpIdeal.main_arg3)) (m ((c.tc : Thread Cert.BwdDpIdeal.nD Cert.BwdDpIdeal.τ).loc Cert.BwdDpIdeal.main_arg4)), ?_, ?_⟩
  · exact (θ_run Cert.BwdDpIdeal.defs _ _).mono (fun r hr c => ⟨(hr c).1.trans (final4 m c), (hr c).2.1.trans (final5_real m c _ _ _ (reals m h c)), (hr c).2.2⟩)
      (Cert.BwdDpIdeal.Value.run_blocks m g)
  · refine (θ_run Cert.RefDpIdeal.defs _ _).mono (fun r hr c => ?_) (Cert.RefDpIdeal.Term.run_terms m' g')
    obtain ⟨h0, h1, h2, h3, h4⟩ := hm c
    exact ⟨(hr c).1.trans (by rw [h0, h1, h2, h3, h4]), (hr c).2.1.trans (by rw [h0, h1, h2, h3, h4]), (hr c).2.2⟩

end Cert.BwdDpIdeal.Value

end
-- ==== Proof.lean ====
module

public import proofs.«01_k».proof.Defs
public import proofs.«01_k».proof.Proof.Gen.BwdDf.Frame
public import proofs.«01_k».proof.Proof.Gen.BwdDfIdeal.Frame
public import proofs.«01_k».proof.Proof.Gen.BwdDfIdeal.Value
public import proofs.«01_k».proof.Proof.Gen.RefDfIdeal.Run
public import proofs.«01_k».proof.Proof.DfValue
public import proofs.«01_k».proof.Proof.Gen.BwdDw2.Frame
public import proofs.«01_k».proof.Proof.Gen.BwdDw2Ideal.Frame
public import proofs.«01_k».proof.Proof.Gen.BwdDw2Ideal.Value
public import proofs.«01_k».proof.Proof.Gen.RefDw2Ideal.Run
public import proofs.«01_k».proof.Proof.Dw2Value
public import proofs.«01_k».proof.Proof.Gen.BwdDw1.Frame
public import proofs.«01_k».proof.Proof.Gen.BwdDw1Ideal.Frame
public import proofs.«01_k».proof.Proof.Gen.BwdDw1Ideal.Value
public import proofs.«01_k».proof.Proof.Gen.RefDw1Ideal.Run
public import proofs.«01_k».proof.Proof.Dw1Value
public import proofs.«01_k».proof.Proof.Gen.BwdDwin.Frame
public import proofs.«01_k».proof.Proof.Gen.BwdDwinIdeal.Frame
public import proofs.«01_k».proof.Proof.Gen.BwdDwinIdeal.Value
public import proofs.«01_k».proof.Proof.Gen.RefDwinIdeal.Run
public import proofs.«01_k».proof.Proof.DwinValue
public import proofs.«01_k».proof.Proof.Gen.BwdDwo.Frame
public import proofs.«01_k».proof.Proof.Gen.BwdDwoIdeal.Frame
public import proofs.«01_k».proof.Proof.Gen.BwdDwoIdeal.Value
public import proofs.«01_k».proof.Proof.Gen.RefDwoIdeal.Run
public import proofs.«01_k».proof.Proof.DwoValue
public import proofs.«01_k».proof.Proof.Gen.BwdDh2.Frame
public import proofs.«01_k».proof.Proof.Gen.BwdDh2Ideal.Frame
public import proofs.«01_k».proof.Proof.Gen.BwdDh2Ideal.Value
public import proofs.«01_k».proof.Proof.Gen.RefDh2Ideal.Run
public import proofs.«01_k».proof.Proof.Dh2Value
public import proofs.«01_k».proof.Proof.Gen.FwdX2.Frame
public import proofs.«01_k».proof.Proof.Gen.FwdX2Ideal.Frame
public import proofs.«01_k».proof.Proof.Gen.FwdX2Ideal.Value
public import proofs.«01_k».proof.Proof.Gen.RefX2Ideal.Run
public import proofs.«01_k».proof.Proof.X2Value
public import proofs.«01_k».proof.Proof.Gen.BwdDh.Frame
public import proofs.«01_k».proof.Proof.Gen.BwdDhIdeal.Frame
public import proofs.«01_k».proof.Proof.Gen.BwdDhIdeal.Skeleton
public import proofs.«01_k».proof.Proof.DhFrame
public import proofs.«01_k».proof.Proof.Gen.RefDhIdeal.Run
public import proofs.«01_k».proof.Proof.DhValue
public import proofs.«01_k».proof.Proof.Gen.BwdConvB.Frame
public import proofs.«01_k».proof.Proof.Gen.BwdConvBIdeal.Frame
public import proofs.«01_k».proof.Proof.Gen.BwdConvBIdeal.Skeleton
public import proofs.«01_k».proof.Proof.Gen.BwdConvBIdeal.Loops
public import proofs.«01_k».proof.Proof.ConvBFrame
public import proofs.«01_k».proof.Proof.Gen.RefConvBIdeal.Run
public import proofs.«01_k».proof.Proof.Gen.FwdF.Frame
public import proofs.«01_k».proof.Proof.Gen.FwdFIdeal.Frame
public import proofs.«01_k».proof.Proof.Gen.FwdFIdeal.Skeleton
public import proofs.«01_k».proof.Proof.FFrame
public import proofs.«01_k».proof.Proof.Gen.RefFIdeal.Run
public import proofs.«01_k».proof.Proof.FValue
public import proofs.«01_k».proof.Proof.Gen.BwdDwa.Frame
public import proofs.«01_k».proof.Proof.Gen.BwdDwaIdeal.Frame
public import proofs.«01_k».proof.Proof.Gen.BwdDwaIdeal.Value
public import proofs.«01_k».proof.Proof.Gen.RefDwaIdeal.Run
public import proofs.«01_k».proof.Proof.DwaValue
public import proofs.«01_k».proof.Proof.Gen.BwdDwb.Frame
public import proofs.«01_k».proof.Proof.Gen.BwdDwbIdeal.Frame
public import proofs.«01_k».proof.Proof.Gen.BwdDwbIdeal.Value
public import proofs.«01_k».proof.Proof.Gen.RefDwbIdeal.Run
public import proofs.«01_k».proof.Proof.DwbValue
public import proofs.«01_k».proof.Proof.Gen.FwdYa.Frame
public import proofs.«01_k».proof.Proof.Gen.FwdYaIdeal.Frame
public import proofs.«01_k».proof.Proof.Gen.FwdYaIdeal.Value
public import proofs.«01_k».proof.Proof.Gen.RefYaIdeal.Run
public import proofs.«01_k».proof.Proof.YaValue
public import proofs.«01_k».proof.Proof.Gen.FwdYb.Frame
public import proofs.«01_k».proof.Proof.Gen.FwdYbIdeal.Frame
public import proofs.«01_k».proof.Proof.Gen.FwdYbIdeal.Value
public import proofs.«01_k».proof.Proof.Gen.RefYbIdeal.Run
public import proofs.«01_k».proof.Proof.YbValue
public import proofs.«01_k».proof.Proof.Gen.FwdX1.Frame
public import proofs.«01_k».proof.Proof.Gen.FwdX1Ideal.Frame
public import proofs.«01_k».proof.Proof.Gen.FwdX1Ideal.Value
public import proofs.«01_k».proof.Proof.Gen.RefX1Ideal.Run
public import proofs.«01_k».proof.Proof.X1Value
public import proofs.«01_k».proof.Proof.Gen.BwdDm.Frame
public import proofs.«01_k».proof.Proof.Gen.BwdDmIdeal.Frame
public import proofs.«01_k».proof.Proof.Gen.BwdDmIdeal.Skeleton
public import proofs.«01_k».proof.Proof.DmFrame
public import proofs.«01_k».proof.Proof.Gen.RefDmIdeal.Run
public import proofs.«01_k».proof.Proof.DmClaim
public import proofs.«01_k».proof.Proof.Gen.On_gate_columns
public import proofs.«01_k».proof.Proof.Gen.FwdZ.Frame
public import proofs.«01_k».proof.Proof.Gen.FwdZIdeal.Frame
public import proofs.«01_k».proof.Proof.Gen.FwdZIdeal.Skeleton
public import proofs.«01_k».proof.Proof.ZFrame
public import proofs.«01_k».proof.Proof.Gen.RefZIdeal.Run
public import proofs.«01_k».proof.Proof.ZValue
public import proofs.«01_k».proof.Proof.Gen.BwdDu3.Frame
public import proofs.«01_k».proof.Proof.Gen.BwdDu3Ideal.Frame
public import proofs.«01_k».proof.Proof.Gen.BwdDu3Ideal.Value
public import proofs.«01_k».proof.Proof.Gen.RefDu3Ideal.Run
public import proofs.«01_k».proof.Proof.Du3Claim
public import proofs.«01_k».proof.Proof.Gen.Pre_finite_du3
public import proofs.«01_k».proof.Proof.Gen.BwdDp.Frame
public import proofs.«01_k».proof.Proof.Gen.BwdDpIdeal.Frame
public import proofs.«01_k».proof.Proof.Gen.BwdDpIdeal.Value
public import proofs.«01_k».proof.Proof.Gen.RefDpIdeal.Run
public import proofs.«01_k».proof.Proof.DpClaim
public import proofs.«01_k».proof.Proof.Gen.On_outside_gate
public import proofs.«01_k».proof.Proof.Gen.Pre_finite_dp
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem frame_refDf : Cert.quiescent_RefDfIdeal := fun m g _ =>
  (θ_run Cert.RefDfIdeal.defs _ _).mono (fun r h => ⟨fun c => (h c).2, sem_eq_zero_of_no_sems rfl r.2⟩)
    (Cert.RefDfIdeal.Value.run (F := Ideal) m g)

theorem algebraic_df : Cert.algebraic_BwdDfIdeal_RefDfIdeal := by
  pair_intro
  · run_from Cert.BwdDfIdeal.Gen.run_main m g
  · run_from Cert.RefDfIdeal.Value.run m' g'
    exact (Cert.BwdDfIdeal.Value.final m c).symm

theorem frame_refDw2 : Cert.quiescent_RefDw2Ideal := fun m g _ =>
  (θ_run Cert.RefDw2Ideal.defs _ _).mono (fun r h => ⟨fun c => (h c).2, sem_eq_zero_of_no_sems rfl r.2⟩)
    (Cert.RefDw2Ideal.Value.run (F := Ideal) m g)

theorem algebraic_dw2 : Cert.algebraic_BwdDw2Ideal_RefDw2Ideal := by
  pair_intro
  · run_from Cert.BwdDw2Ideal.Gen.run_main m g
  · run_from Cert.RefDw2Ideal.Value.run m' g'
    exact (Cert.BwdDw2Ideal.Value.final m c).symm

theorem frame_refDw1 : Cert.quiescent_RefDw1Ideal := fun m g _ =>
  (θ_run Cert.RefDw1Ideal.defs _ _).mono (fun r h => ⟨fun c => (h c).2, sem_eq_zero_of_no_sems rfl r.2⟩)
    (Cert.RefDw1Ideal.Value.run (F := Ideal) m g)

theorem algebraic_dw1 : Cert.algebraic_BwdDw1Ideal_RefDw1Ideal := by
  pair_intro
  · run_from Cert.BwdDw1Ideal.Gen.run_main m g
  · run_from Cert.RefDw1Ideal.Value.run m' g'
    exact (Cert.BwdDw1Ideal.Value.final m c).symm

theorem frame_refDwin : Cert.quiescent_RefDwinIdeal := fun m g _ =>
  (θ_run Cert.RefDwinIdeal.defs _ _).mono (fun r h => ⟨fun c => (h c).2, sem_eq_zero_of_no_sems rfl r.2⟩)
    (Cert.RefDwinIdeal.Value.run (F := Ideal) m g)

theorem algebraic_dwin : Cert.algebraic_BwdDwinIdeal_RefDwinIdeal := by
  pair_intro
  · run_from Cert.BwdDwinIdeal.Gen.run_main m g
  · run_from Cert.RefDwinIdeal.Value.run m' g'
    exact (Cert.BwdDwinIdeal.Value.final m c).symm

theorem frame_refDwo : Cert.quiescent_RefDwoIdeal := fun m g _ =>
  (θ_run Cert.RefDwoIdeal.defs _ _).mono (fun r h => ⟨fun c => (h c).2, sem_eq_zero_of_no_sems rfl r.2⟩)
    (Cert.RefDwoIdeal.Value.run (F := Ideal) m g)

theorem algebraic_dwo : Cert.algebraic_BwdDwoIdeal_RefDwoIdeal := by
  pair_intro
  · run_from Cert.BwdDwoIdeal.Gen.run_main m g
  · run_from Cert.RefDwoIdeal.Value.run m' g'
    exact (Cert.BwdDwoIdeal.Value.final m c).symm

theorem frame_refDh2 : Cert.quiescent_RefDh2Ideal := fun m g _ =>
  (θ_run Cert.RefDh2Ideal.defs _ _).mono (fun r h => ⟨fun c => (h c).2.2.2, sem_eq_zero_of_no_sems rfl r.2⟩)
    (Cert.RefDh2Ideal.Value.run (F := Ideal) m g)

theorem algebraic_dh2 : Cert.algebraic_BwdDh2Ideal_RefDh2Ideal := by
  intro m g m' g' _ hm
  refine ⟨fun c => Cert.RefDh2Ideal.Term.term0 (F := Ideal) (m ((c.tc : Thread Cert.BwdDh2Ideal.nD Cert.BwdDh2Ideal.τ).loc Cert.BwdDh2Ideal.main_arg0)) (m ((c.tc : Thread Cert.BwdDh2Ideal.nD Cert.BwdDh2Ideal.τ).loc Cert.BwdDh2Ideal.main_arg1)) (m ((c.tc : Thread Cert.BwdDh2Ideal.nD Cert.BwdDh2Ideal.τ).loc Cert.BwdDh2Ideal.main_arg2)) (m ((c.tc : Thread Cert.BwdDh2Ideal.nD Cert.BwdDh2Ideal.τ).loc Cert.BwdDh2Ideal.main_arg3)) (m ((c.tc : Thread Cert.BwdDh2Ideal.nD Cert.BwdDh2Ideal.τ).loc Cert.BwdDh2Ideal.main_arg4)), fun c => Cert.RefDh2Ideal.Term.term1 (F := Ideal) (m ((c.tc : Thread Cert.BwdDh2Ideal.nD Cert.BwdDh2Ideal.τ).loc Cert.BwdDh2Ideal.main_arg0)) (m ((c.tc : Thread Cert.BwdDh2Ideal.nD Cert.BwdDh2Ideal.τ).loc Cert.BwdDh2Ideal.main_arg1)) (m ((c.tc : Thread Cert.BwdDh2Ideal.nD Cert.BwdDh2Ideal.τ).loc Cert.BwdDh2Ideal.main_arg2)) (m ((c.tc : Thread Cert.BwdDh2Ideal.nD Cert.BwdDh2Ideal.τ).loc Cert.BwdDh2Ideal.main_arg3)) (m ((c.tc : Thread Cert.BwdDh2Ideal.nD Cert.BwdDh2Ideal.τ).loc Cert.BwdDh2Ideal.main_arg4)), fun c => Cert.RefDh2Ideal.Term.term2 (F := Ideal) (m ((c.tc : Thread Cert.BwdDh2Ideal.nD Cert.BwdDh2Ideal.τ).loc Cert.BwdDh2Ideal.main_arg0)) (m ((c.tc : Thread Cert.BwdDh2Ideal.nD Cert.BwdDh2Ideal.τ).loc Cert.BwdDh2Ideal.main_arg1)) (m ((c.tc : Thread Cert.BwdDh2Ideal.nD Cert.BwdDh2Ideal.τ).loc Cert.BwdDh2Ideal.main_arg2)) (m ((c.tc : Thread Cert.BwdDh2Ideal.nD Cert.BwdDh2Ideal.τ).loc Cert.BwdDh2Ideal.main_arg3)) (m ((c.tc : Thread Cert.BwdDh2Ideal.nD Cert.BwdDh2Ideal.τ).loc Cert.BwdDh2Ideal.main_arg4)), ?_, ?_⟩
  · exact (θ_run Cert.BwdDh2Ideal.defs _ _).mono (fun r hr c => ⟨(hr c).1.trans (Cert.BwdDh2Ideal.Value.final5 m c), (hr c).2.1.trans (Cert.BwdDh2Ideal.Value.final6 m c), (hr c).2.2.1.trans (Cert.BwdDh2Ideal.Value.final7 m c), (hr c).2.2.2⟩)
      (Cert.BwdDh2Ideal.Value.run_blocks m g)
  · refine (θ_run Cert.RefDh2Ideal.defs _ _).mono (fun r hr c => ?_) (Cert.RefDh2Ideal.Term.run_terms m' g')
    obtain ⟨h0, h1, h2, h3, h4⟩ := hm c
    exact ⟨(hr c).1.trans (by rw [h0, h1, h2, h3, h4]), (hr c).2.1.trans (by rw [h0, h1, h2, h3, h4]), (hr c).2.2.1.trans (by rw [h0, h1, h2, h3, h4]), (hr c).2.2.2⟩

theorem frame_refX2 : Cert.quiescent_RefX2Ideal := fun m g _ =>
  (θ_run Cert.RefX2Ideal.defs _ _).mono (fun r h => ⟨fun c => (h c).2, sem_eq_zero_of_no_sems rfl r.2⟩)
    (Cert.RefX2Ideal.Value.run (F := Ideal) m g)

theorem algebraic_x2 : Cert.algebraic_FwdX2Ideal_RefX2Ideal := by
  pair_intro
  · run_from Cert.FwdX2Ideal.Gen.run_main m g
  · run_from Cert.RefX2Ideal.Value.run m' g'
    exact (Cert.FwdX2Ideal.Value.final m c).symm

theorem frame_refDh : Cert.quiescent_RefDhIdeal := fun m g _ =>
  (θ_run Cert.RefDhIdeal.defs _ _).mono (fun r h => ⟨fun c => (h c).2.2.2.2, sem_eq_zero_of_no_sems rfl r.2⟩)
    (Cert.RefDhIdeal.Value.run (F := Ideal) m g)

theorem algebraic_dh : Cert.algebraic_BwdDhIdeal_RefDhIdeal := by
  intro m g m' g' _ hm
  refine ⟨fun c => Cert.RefDhIdeal.Term.term0 (F := Ideal) (m ((c.tc : Thread Cert.BwdDhIdeal.nD Cert.BwdDhIdeal.τ).loc Cert.BwdDhIdeal.main_arg0)) (m ((c.tc : Thread Cert.BwdDhIdeal.nD Cert.BwdDhIdeal.τ).loc Cert.BwdDhIdeal.main_arg1)) (m ((c.tc : Thread Cert.BwdDhIdeal.nD Cert.BwdDhIdeal.τ).loc Cert.BwdDhIdeal.main_arg2)) (m ((c.tc : Thread Cert.BwdDhIdeal.nD Cert.BwdDhIdeal.τ).loc Cert.BwdDhIdeal.main_arg3)) (m ((c.tc : Thread Cert.BwdDhIdeal.nD Cert.BwdDhIdeal.τ).loc Cert.BwdDhIdeal.main_arg4)), fun c => Cert.RefDhIdeal.Term.term1 (F := Ideal) (m ((c.tc : Thread Cert.BwdDhIdeal.nD Cert.BwdDhIdeal.τ).loc Cert.BwdDhIdeal.main_arg0)) (m ((c.tc : Thread Cert.BwdDhIdeal.nD Cert.BwdDhIdeal.τ).loc Cert.BwdDhIdeal.main_arg1)) (m ((c.tc : Thread Cert.BwdDhIdeal.nD Cert.BwdDhIdeal.τ).loc Cert.BwdDhIdeal.main_arg2)) (m ((c.tc : Thread Cert.BwdDhIdeal.nD Cert.BwdDhIdeal.τ).loc Cert.BwdDhIdeal.main_arg3)) (m ((c.tc : Thread Cert.BwdDhIdeal.nD Cert.BwdDhIdeal.τ).loc Cert.BwdDhIdeal.main_arg4)), fun c => Cert.RefDhIdeal.Term.term2 (F := Ideal) (m ((c.tc : Thread Cert.BwdDhIdeal.nD Cert.BwdDhIdeal.τ).loc Cert.BwdDhIdeal.main_arg0)) (m ((c.tc : Thread Cert.BwdDhIdeal.nD Cert.BwdDhIdeal.τ).loc Cert.BwdDhIdeal.main_arg1)) (m ((c.tc : Thread Cert.BwdDhIdeal.nD Cert.BwdDhIdeal.τ).loc Cert.BwdDhIdeal.main_arg2)) (m ((c.tc : Thread Cert.BwdDhIdeal.nD Cert.BwdDhIdeal.τ).loc Cert.BwdDhIdeal.main_arg3)) (m ((c.tc : Thread Cert.BwdDhIdeal.nD Cert.BwdDhIdeal.τ).loc Cert.BwdDhIdeal.main_arg4)), fun c => Cert.RefDhIdeal.Term.term3 (F := Ideal) (m ((c.tc : Thread Cert.BwdDhIdeal.nD Cert.BwdDhIdeal.τ).loc Cert.BwdDhIdeal.main_arg0)) (m ((c.tc : Thread Cert.BwdDhIdeal.nD Cert.BwdDhIdeal.τ).loc Cert.BwdDhIdeal.main_arg1)) (m ((c.tc : Thread Cert.BwdDhIdeal.nD Cert.BwdDhIdeal.τ).loc Cert.BwdDhIdeal.main_arg2)) (m ((c.tc : Thread Cert.BwdDhIdeal.nD Cert.BwdDhIdeal.τ).loc Cert.BwdDhIdeal.main_arg3)) (m ((c.tc : Thread Cert.BwdDhIdeal.nD Cert.BwdDhIdeal.τ).loc Cert.BwdDhIdeal.main_arg4)), ?_, ?_⟩
  · exact (θ_run Cert.BwdDhIdeal.defs _ _).mono (fun r hr c => ⟨(hr c).1.trans (Cert.BwdDhIdeal.Norm.final5 m c), (hr c).2.1.trans (Cert.BwdDhIdeal.Norm.final6 m c), (hr c).2.2.1.trans (Cert.BwdDhIdeal.Norm.final7 m c), (hr c).2.2.2.1.trans (Cert.BwdDhIdeal.Norm.final8 m c), (hr c).2.2.2.2⟩)
      (Cert.BwdDhIdeal.Norm.run_blocks m g)
  · refine (θ_run Cert.RefDhIdeal.defs _ _).mono (fun r hr c => ?_) (Cert.RefDhIdeal.Term.run_terms m' g')
    obtain ⟨h0, h1, h2, h3, h4⟩ := hm c
    exact ⟨(hr c).1.trans (by rw [h0, h1, h2, h3, h4]), (hr c).2.1.trans (by rw [h0, h1, h2, h3, h4]), (hr c).2.2.1.trans (by rw [h0, h1, h2, h3, h4]), (hr c).2.2.2.1.trans (by rw [h0, h1, h2, h3, h4]), (hr c).2.2.2.2⟩

/-- The two prints of the kernel have one body table. -/
theorem table_dh : Cert.BwdDh.defs₀ (F := Bits) = Cert.BwdDhIdeal.defs₀ (F := Bits) := by
  unfold Cert.BwdDh.defs₀ Cert.BwdDhIdeal.defs₀
  refine congrArg Defs.onTc (funext fun l => funext fun a => ?_)
  match l, a with
  | ⟨0, _⟩, _ => rfl
  | ⟨_ + 1, h⟩, _ => exact absurd h (Nat.not_lt.2 (Nat.le_add_left _ _))

theorem frame_dh : Cert.quiescent_BwdDh := fun m ρ _ => by
  have h := Cert.BwdDhIdeal.Norm.frame (F := Bits) m ρ
  have e : Cert.BwdDh.defs (F := Bits) = Cert.BwdDhIdeal.defs (F := Bits) := congrArg (Pipeline.defs Cert.BwdDh.pcfgs) table_dh
  rw [← e] at h
  exact h

theorem frame_refConvB : Cert.quiescent_RefConvBIdeal := fun m g _ =>
  (θ_run Cert.RefConvBIdeal.defs _ _).mono (fun r h => ⟨fun c => (h c).2.2.2, sem_eq_zero_of_no_sems rfl r.2⟩)
    (Cert.RefConvBIdeal.Value.run (F := Ideal) m g)

/-- The two prints of the kernel have one body table. -/
theorem table_conv_b : Cert.BwdConvB.defs₀ (F := Bits) = Cert.BwdConvBIdeal.defs₀ (F := Bits) := by
  unfold Cert.BwdConvB.defs₀ Cert.BwdConvBIdeal.defs₀
  refine congrArg Defs.onTc (funext fun l => funext fun a => ?_)
  match l, a with
  | ⟨0, _⟩, _ => rfl
  | ⟨_ + 1, h⟩, _ => exact absurd h (Nat.not_lt.2 (Nat.le_add_left _ _))

theorem frame_conv_b : Cert.quiescent_BwdConvB := fun m ρ _ => by
  have h := Cert.BwdConvBIdeal.ConvB.frame (F := Bits) m ρ
  have e : Cert.BwdConvB.defs (F := Bits) = Cert.BwdConvBIdeal.defs (F := Bits) := congrArg (Pipeline.defs Cert.BwdConvB.pcfgs) table_conv_b
  rw [← e] at h
  exact h

theorem frame_refF : Cert.quiescent_RefFIdeal := fun m g _ =>
  (θ_run Cert.RefFIdeal.defs _ _).mono (fun r h => ⟨fun c => (h c).2.2, sem_eq_zero_of_no_sems rfl r.2⟩)
    (Cert.RefFIdeal.Value.run (F := Ideal) m g)

theorem algebraic_f : Cert.algebraic_FwdFIdeal_RefFIdeal := by
  intro m g m' g' _ hm
  refine ⟨fun c => Cert.RefFIdeal.Term.term0 (F := Ideal) (m ((c.tc : Thread Cert.FwdFIdeal.nD Cert.FwdFIdeal.τ).loc Cert.FwdFIdeal.main_arg0)) (m ((c.tc : Thread Cert.FwdFIdeal.nD Cert.FwdFIdeal.τ).loc Cert.FwdFIdeal.main_arg1)) (m ((c.tc : Thread Cert.FwdFIdeal.nD Cert.FwdFIdeal.τ).loc Cert.FwdFIdeal.main_arg2)), fun c => Cert.RefFIdeal.Term.term1 (F := Ideal) (m ((c.tc : Thread Cert.FwdFIdeal.nD Cert.FwdFIdeal.τ).loc Cert.FwdFIdeal.main_arg0)) (m ((c.tc : Thread Cert.FwdFIdeal.nD Cert.FwdFIdeal.τ).loc Cert.FwdFIdeal.main_arg1)) (m ((c.tc : Thread Cert.FwdFIdeal.nD Cert.FwdFIdeal.τ).loc Cert.FwdFIdeal.main_arg2)), ?_, ?_⟩
  · exact (θ_run Cert.FwdFIdeal.defs _ _).mono (fun r hr c => ⟨(hr c).1.trans (Cert.FwdFIdeal.Norm.final3 m c), (hr c).2.1.trans (Cert.FwdFIdeal.Norm.final4 m c), (hr c).2.2⟩)
      (Cert.FwdFIdeal.Norm.run_blocks m g)
  · refine (θ_run Cert.RefFIdeal.defs _ _).mono (fun r hr c => ?_) (Cert.RefFIdeal.Term.run_terms m' g')
    obtain ⟨h0, h1, h2⟩ := hm c
    exact ⟨(hr c).1.trans (by rw [h0, h1, h2]), (hr c).2.1.trans (by rw [h0, h1, h2]), (hr c).2.2⟩

/-- The two prints of the kernel have one body table. -/
theorem table_f : Cert.FwdF.defs₀ (F := Bits) = Cert.FwdFIdeal.defs₀ (F := Bits) := by
  unfold Cert.FwdF.defs₀ Cert.FwdFIdeal.defs₀
  refine congrArg Defs.onTc (funext fun l => funext fun a => ?_)
  match l, a with
  | ⟨0, _⟩, _ => rfl
  | ⟨_ + 1, h⟩, _ => exact absurd h (Nat.not_lt.2 (Nat.le_add_left _ _))

theorem frame_f : Cert.quiescent_FwdF := fun m ρ _ => by
  have h := Cert.FwdFIdeal.Norm.frame (F := Bits) m ρ
  have e : Cert.FwdF.defs (F := Bits) = Cert.FwdFIdeal.defs (F := Bits) := congrArg (Pipeline.defs Cert.FwdF.pcfgs) table_f
  rw [← e] at h
  exact h

theorem frame_refDwa : Cert.quiescent_RefDwaIdeal := fun m g _ =>
  (θ_run Cert.RefDwaIdeal.defs _ _).mono (fun r h => ⟨fun c => (h c).2, sem_eq_zero_of_no_sems rfl r.2⟩)
    (Cert.RefDwaIdeal.Value.run (F := Ideal) m g)

theorem algebraic_dwa : Cert.algebraic_BwdDwaIdeal_RefDwaIdeal := by
  pair_intro
  · run_from Cert.BwdDwaIdeal.Gen.run_main m g
  · run_from Cert.RefDwaIdeal.Value.run m' g'
    exact (Cert.BwdDwaIdeal.Value.final m c).symm

theorem frame_refDwb : Cert.quiescent_RefDwbIdeal := fun m g _ =>
  (θ_run Cert.RefDwbIdeal.defs _ _).mono (fun r h => ⟨fun c => (h c).2, sem_eq_zero_of_no_sems rfl r.2⟩)
    (Cert.RefDwbIdeal.Value.run (F := Ideal) m g)

theorem algebraic_dwb : Cert.algebraic_BwdDwbIdeal_RefDwbIdeal := by
  pair_intro
  · run_from Cert.BwdDwbIdeal.Gen.run_main m g
  · run_from Cert.RefDwbIdeal.Value.run m' g'
    exact (Cert.BwdDwbIdeal.Value.final m c).symm

theorem frame_refYa : Cert.quiescent_RefYaIdeal := fun m g _ =>
  (θ_run Cert.RefYaIdeal.defs _ _).mono (fun r h => ⟨fun c => (h c).2.2, sem_eq_zero_of_no_sems rfl r.2⟩)
    (Cert.RefYaIdeal.Value.run (F := Ideal) m g)

theorem algebraic_ya : Cert.algebraic_FwdYaIdeal_RefYaIdeal := by
  intro m g m' g' _ hm
  refine ⟨fun c => Cert.RefYaIdeal.Term.term0 (F := Ideal) (m ((c.tc : Thread Cert.FwdYaIdeal.nD Cert.FwdYaIdeal.τ).loc Cert.FwdYaIdeal.main_arg0)) (m ((c.tc : Thread Cert.FwdYaIdeal.nD Cert.FwdYaIdeal.τ).loc Cert.FwdYaIdeal.main_arg1)) (m ((c.tc : Thread Cert.FwdYaIdeal.nD Cert.FwdYaIdeal.τ).loc Cert.FwdYaIdeal.main_arg2)) (m ((c.tc : Thread Cert.FwdYaIdeal.nD Cert.FwdYaIdeal.τ).loc Cert.FwdYaIdeal.main_arg3)), fun c => Cert.RefYaIdeal.Term.term1 (F := Ideal) (m ((c.tc : Thread Cert.FwdYaIdeal.nD Cert.FwdYaIdeal.τ).loc Cert.FwdYaIdeal.main_arg0)) (m ((c.tc : Thread Cert.FwdYaIdeal.nD Cert.FwdYaIdeal.τ).loc Cert.FwdYaIdeal.main_arg1)) (m ((c.tc : Thread Cert.FwdYaIdeal.nD Cert.FwdYaIdeal.τ).loc Cert.FwdYaIdeal.main_arg2)) (m ((c.tc : Thread Cert.FwdYaIdeal.nD Cert.FwdYaIdeal.τ).loc Cert.FwdYaIdeal.main_arg3)), ?_, ?_⟩
  · exact (θ_run Cert.FwdYaIdeal.defs _ _).mono (fun r hr c => ⟨(hr c).1.trans (Cert.FwdYaIdeal.Value.final4 m c), (hr c).2.1.trans (Cert.FwdYaIdeal.Value.final5 m c), (hr c).2.2⟩)
      (Cert.FwdYaIdeal.Value.run_blocks m g)
  · refine (θ_run Cert.RefYaIdeal.defs _ _).mono (fun r hr c => ?_) (Cert.RefYaIdeal.Term.run_terms m' g')
    obtain ⟨h0, h1, h2, h3⟩ := hm c
    exact ⟨(hr c).1.trans (by rw [h0, h1, h2, h3]), (hr c).2.1.trans (by rw [h0, h1, h2, h3]), (hr c).2.2⟩

theorem frame_refYb : Cert.quiescent_RefYbIdeal := fun m g _ =>
  (θ_run Cert.RefYbIdeal.defs _ _).mono (fun r h => ⟨fun c => (h c).2.2, sem_eq_zero_of_no_sems rfl r.2⟩)
    (Cert.RefYbIdeal.Value.run (F := Ideal) m g)

theorem algebraic_yb : Cert.algebraic_FwdYbIdeal_RefYbIdeal := by
  intro m g m' g' _ hm
  refine ⟨fun c => Cert.RefYbIdeal.Term.term0 (F := Ideal) (m ((c.tc : Thread Cert.FwdYbIdeal.nD Cert.FwdYbIdeal.τ).loc Cert.FwdYbIdeal.main_arg0)) (m ((c.tc : Thread Cert.FwdYbIdeal.nD Cert.FwdYbIdeal.τ).loc Cert.FwdYbIdeal.main_arg1)) (m ((c.tc : Thread Cert.FwdYbIdeal.nD Cert.FwdYbIdeal.τ).loc Cert.FwdYbIdeal.main_arg2)), fun c => Cert.RefYbIdeal.Term.term1 (F := Ideal) (m ((c.tc : Thread Cert.FwdYbIdeal.nD Cert.FwdYbIdeal.τ).loc Cert.FwdYbIdeal.main_arg0)) (m ((c.tc : Thread Cert.FwdYbIdeal.nD Cert.FwdYbIdeal.τ).loc Cert.FwdYbIdeal.main_arg1)) (m ((c.tc : Thread Cert.FwdYbIdeal.nD Cert.FwdYbIdeal.τ).loc Cert.FwdYbIdeal.main_arg2)), ?_, ?_⟩
  · exact (θ_run Cert.FwdYbIdeal.defs _ _).mono (fun r hr c => ⟨(hr c).1.trans (Cert.FwdYbIdeal.Value.array3 m c), (hr c).2.1.trans (Cert.FwdYbIdeal.Value.array4 m c), (hr c).2.2⟩)
      (Cert.FwdYbIdeal.Value.run_blocks m g)
  · refine (θ_run Cert.RefYbIdeal.defs _ _).mono (fun r hr c => ?_) (Cert.RefYbIdeal.Term.run_terms m' g')
    obtain ⟨h0, h1, h2⟩ := hm c
    exact ⟨(hr c).1.trans (by rw [h0, h1, h2]), (hr c).2.1.trans (by rw [h0, h1, h2]), (hr c).2.2⟩

theorem frame_refX1 : Cert.quiescent_RefX1Ideal := fun m g _ =>
  (θ_run Cert.RefX1Ideal.defs _ _).mono (fun r h => ⟨fun c => (h c).2.2, sem_eq_zero_of_no_sems rfl r.2⟩)
    (Cert.RefX1Ideal.Value.run (F := Ideal) m g)

theorem algebraic_x1 : Cert.algebraic_FwdX1Ideal_RefX1Ideal := by
  intro m g m' g' _ hm
  refine ⟨fun c => Cert.RefX1Ideal.Term.term0 (F := Ideal) (m ((c.tc : Thread Cert.FwdX1Ideal.nD Cert.FwdX1Ideal.τ).loc Cert.FwdX1Ideal.main_arg0)) (m ((c.tc : Thread Cert.FwdX1Ideal.nD Cert.FwdX1Ideal.τ).loc Cert.FwdX1Ideal.main_arg1)) (m ((c.tc : Thread Cert.FwdX1Ideal.nD Cert.FwdX1Ideal.τ).loc Cert.FwdX1Ideal.main_arg2)) (m ((c.tc : Thread Cert.FwdX1Ideal.nD Cert.FwdX1Ideal.τ).loc Cert.FwdX1Ideal.main_arg3)) (m ((c.tc : Thread Cert.FwdX1Ideal.nD Cert.FwdX1Ideal.τ).loc Cert.FwdX1Ideal.main_arg4)), fun c => Cert.RefX1Ideal.Term.term1 (F := Ideal) (m ((c.tc : Thread Cert.FwdX1Ideal.nD Cert.FwdX1Ideal.τ).loc Cert.FwdX1Ideal.main_arg0)) (m ((c.tc : Thread Cert.FwdX1Ideal.nD Cert.FwdX1Ideal.τ).loc Cert.FwdX1Ideal.main_arg1)) (m ((c.tc : Thread Cert.FwdX1Ideal.nD Cert.FwdX1Ideal.τ).loc Cert.FwdX1Ideal.main_arg2)) (m ((c.tc : Thread Cert.FwdX1Ideal.nD Cert.FwdX1Ideal.τ).loc Cert.FwdX1Ideal.main_arg3)) (m ((c.tc : Thread Cert.FwdX1Ideal.nD Cert.FwdX1Ideal.τ).loc Cert.FwdX1Ideal.main_arg4)), ?_, ?_⟩
  · exact (θ_run Cert.FwdX1Ideal.defs _ _).mono (fun r hr c => ⟨(hr c).1.trans (Cert.FwdX1Ideal.Value.final6 m c), (hr c).2.1.trans (Cert.FwdX1Ideal.Value.final7 m c), (hr c).2.2⟩)
      (Cert.FwdX1Ideal.Value.run_blocks m g)
  · refine (θ_run Cert.RefX1Ideal.defs _ _).mono (fun r hr c => ?_) (Cert.RefX1Ideal.Term.run_terms m' g')
    obtain ⟨h0, h1, h2, h3, h4⟩ := hm c
    exact ⟨(hr c).1.trans (by rw [h0, h1, h2, h3, h4]), (hr c).2.1.trans (by rw [h0, h1, h2, h3, h4]), (hr c).2.2⟩

theorem frame_refDm : Cert.quiescent_RefDmIdeal := fun m g _ =>
  (θ_run Cert.RefDmIdeal.defs _ _).mono (fun r h => ⟨fun c => (h c).2.2.2, sem_eq_zero_of_no_sems rfl r.2⟩)
    (Cert.RefDmIdeal.Value.run (F := Ideal) m g)

theorem algebraic_dm : Cert.algebraic_BwdDmIdeal_RefDmIdeal_on_gate_columns := Cert.BwdDmIdeal.Gates.claim

/-- The two prints of the kernel have one body table. -/
theorem table_dm : Cert.BwdDm.defs₀ (F := Bits) = Cert.BwdDmIdeal.defs₀ (F := Bits) := by
  unfold Cert.BwdDm.defs₀ Cert.BwdDmIdeal.defs₀
  refine congrArg Defs.onTc (funext fun l => funext fun a => ?_)
  match l, a with
  | ⟨0, _⟩, _ => rfl
  | ⟨_ + 1, h⟩, _ => exact absurd h (Nat.not_lt.2 (Nat.le_add_left _ _))

theorem frame_dm : Cert.quiescent_BwdDm := fun m ρ _ => by
  have h := Cert.BwdDmIdeal.Gates.frame (F := Bits) m ρ
  have e : Cert.BwdDm.defs (F := Bits) = Cert.BwdDmIdeal.defs (F := Bits) := congrArg (Pipeline.defs Cert.BwdDm.pcfgs) table_dm
  rw [← e] at h
  exact h

theorem frame_refZ : Cert.quiescent_RefZIdeal := fun m g _ =>
  (θ_run Cert.RefZIdeal.defs _ _).mono (fun r h => ⟨fun c => (h c).2.2, sem_eq_zero_of_no_sems rfl r.2⟩)
    (Cert.RefZIdeal.Value.run (F := Ideal) m g)

theorem algebraic_z : Cert.algebraic_FwdZIdeal_RefZIdeal := by
  intro m g m' g' _ hm
  refine ⟨fun c => Cert.RefZIdeal.Term.term0 (F := Ideal) (m ((c.tc : Thread Cert.FwdZIdeal.nD Cert.FwdZIdeal.τ).loc Cert.FwdZIdeal.main_arg0)) (m ((c.tc : Thread Cert.FwdZIdeal.nD Cert.FwdZIdeal.τ).loc Cert.FwdZIdeal.main_arg1)) (m ((c.tc : Thread Cert.FwdZIdeal.nD Cert.FwdZIdeal.τ).loc Cert.FwdZIdeal.main_arg2)) (m ((c.tc : Thread Cert.FwdZIdeal.nD Cert.FwdZIdeal.τ).loc Cert.FwdZIdeal.main_arg3)), fun c => Cert.RefZIdeal.Term.term1 (F := Ideal) (m ((c.tc : Thread Cert.FwdZIdeal.nD Cert.FwdZIdeal.τ).loc Cert.FwdZIdeal.main_arg0)) (m ((c.tc : Thread Cert.FwdZIdeal.nD Cert.FwdZIdeal.τ).loc Cert.FwdZIdeal.main_arg1)) (m ((c.tc : Thread Cert.FwdZIdeal.nD Cert.FwdZIdeal.τ).loc Cert.FwdZIdeal.main_arg2)) (m ((c.tc : Thread Cert.FwdZIdeal.nD Cert.FwdZIdeal.τ).loc Cert.FwdZIdeal.main_arg3)), ?_, ?_⟩
  · exact (θ_run Cert.FwdZIdeal.defs _ _).mono (fun r hr c => ⟨(hr c).1.trans (Cert.FwdZIdeal.Norm.final4 m c), (hr c).2.1.trans (Cert.FwdZIdeal.Norm.final5 m c), (hr c).2.2⟩)
      (Cert.FwdZIdeal.Norm.run_blocks m g)
  · refine (θ_run Cert.RefZIdeal.defs _ _).mono (fun r hr c => ?_) (Cert.RefZIdeal.Term.run_terms m' g')
    obtain ⟨h0, h1, h2, h3⟩ := hm c
    exact ⟨(hr c).1.trans (by rw [h0, h1, h2, h3]), (hr c).2.1.trans (by rw [h0, h1, h2, h3]), (hr c).2.2⟩

/-- The two prints of the kernel have one body table. -/
theorem table_z : Cert.FwdZ.defs₀ (F := Bits) = Cert.FwdZIdeal.defs₀ (F := Bits) := by
  unfold Cert.FwdZ.defs₀ Cert.FwdZIdeal.defs₀
  refine congrArg Defs.onTc (funext fun l => funext fun a => ?_)
  match l, a with
  | ⟨0, _⟩, _ => rfl
  | ⟨_ + 1, h⟩, _ => exact absurd h (Nat.not_lt.2 (Nat.le_add_left _ _))

theorem frame_z : Cert.quiescent_FwdZ := fun m ρ _ => by
  have h := Cert.FwdZIdeal.Norm.frame (F := Bits) m ρ
  have e : Cert.FwdZ.defs (F := Bits) = Cert.FwdZIdeal.defs (F := Bits) := congrArg (Pipeline.defs Cert.FwdZ.pcfgs) table_z
  rw [← e] at h
  exact h

theorem frame_refDu3 : Cert.quiescent_RefDu3Ideal := fun m g _ =>
  (θ_run Cert.RefDu3Ideal.defs _ _).mono (fun r h => ⟨fun c => (h c).2.2.2, sem_eq_zero_of_no_sems rfl r.2⟩)
    (Cert.RefDu3Ideal.Value.run (F := Ideal) m g)

theorem algebraic_du3 : Cert.algebraic_BwdDu3Ideal_RefDu3Ideal_pre_finite_du3 := Cert.BwdDu3Ideal.Value.claim

theorem frame_refDp : Cert.quiescent_RefDpIdeal := fun m g _ =>
  (θ_run Cert.RefDpIdeal.defs _ _).mono (fun r h => ⟨fun c => (h c).2.2, sem_eq_zero_of_no_sems rfl r.2⟩)
    (Cert.RefDpIdeal.Value.run (F := Ideal) m g)

theorem algebraic_dp : Cert.algebraic_BwdDpIdeal_RefDpIdeal_on_outside_gate := Cert.BwdDpIdeal.Value.claim

theorem algebraic_dp_pre : Cert.algebraic_BwdDpIdeal_RefDpIdeal_pre_finite_dp := Cert.BwdDpIdeal.Value.claim_real

/-- The two constants replaced by their names have the names' values. -/
theorem preserves_dp : Cert.preserves_BwdDp_BwdDpIdeal :=
  ⟨IdealRules.named_const.statement Cert.BwdDpIdeal.κ "gelu_cubic" .f32 0x3D372713#32 ((8943 / 200000 : ℝ) : EReal) rfl,
   IdealRules.named_const.statement Cert.BwdDpIdeal.κ "gelu_slope" .f32 0x3E095D4F#32 ((26829 / 200000 : ℝ) : EReal) rfl⟩

theorem claim : Cert.Claim := ⟨Cert.BwdDf.Gen.facts, Cert.BwdDfIdeal.Gen.facts, Cert.RefDfIdeal.Gen.facts,
  Cert.BwdDw2.Gen.facts, Cert.BwdDw2Ideal.Gen.facts, Cert.RefDw2Ideal.Gen.facts,
  Cert.BwdDw1.Gen.facts, Cert.BwdDw1Ideal.Gen.facts, Cert.RefDw1Ideal.Gen.facts,
  Cert.BwdDwin.Gen.facts, Cert.BwdDwinIdeal.Gen.facts, Cert.RefDwinIdeal.Gen.facts,
  Cert.BwdDwo.Gen.facts, Cert.BwdDwoIdeal.Gen.facts, Cert.RefDwoIdeal.Gen.facts,
  Cert.BwdDh2.Gen.facts, Cert.BwdDh2Ideal.Gen.facts, Cert.RefDh2Ideal.Gen.facts,
  Cert.FwdX2.Gen.facts, Cert.FwdX2Ideal.Gen.facts, Cert.RefX2Ideal.Gen.facts,
  Cert.BwdDh.Gen.facts, Cert.BwdDhIdeal.Gen.facts, Cert.RefDhIdeal.Gen.facts,
  Cert.BwdConvB.Gen.facts, Cert.BwdConvBIdeal.Gen.facts, Cert.RefConvBIdeal.Gen.facts,
  Cert.FwdF.Gen.facts, Cert.FwdFIdeal.Gen.facts, Cert.RefFIdeal.Gen.facts,
  Cert.BwdDwa.Gen.facts, Cert.BwdDwaIdeal.Gen.facts, Cert.RefDwaIdeal.Gen.facts,
  Cert.BwdDwb.Gen.facts, Cert.BwdDwbIdeal.Gen.facts, Cert.RefDwbIdeal.Gen.facts,
  Cert.FwdYa.Gen.facts, Cert.FwdYaIdeal.Gen.facts, Cert.RefYaIdeal.Gen.facts,
  Cert.FwdYb.Gen.facts, Cert.FwdYbIdeal.Gen.facts, Cert.RefYbIdeal.Gen.facts,
  Cert.FwdX1.Gen.facts, Cert.FwdX1Ideal.Gen.facts, Cert.RefX1Ideal.Gen.facts,
  Cert.BwdDm.Gen.facts, Cert.BwdDmIdeal.Gen.facts, Cert.RefDmIdeal.Gen.facts,
  Cert.FwdZ.Gen.facts, Cert.FwdZIdeal.Gen.facts, Cert.RefZIdeal.Gen.facts,
  Cert.BwdDu3.Gen.facts, Cert.BwdDu3Ideal.Gen.facts, Cert.RefDu3Ideal.Gen.facts,
  Cert.BwdDp.Gen.facts, Cert.BwdDpIdeal.Gen.facts, Cert.RefDpIdeal.Gen.facts,
  Cert.Pre_finite_du3.Gen.facts,
  Cert.Pre_finite_dp.Gen.facts,
  Cert.On_gate_columns.Gen.facts,
  Cert.On_outside_gate.Gen.facts,
  fun m ρ _ => Cert.BwdDf.Gen.frame m ρ, fun m ρ _ => Cert.BwdDfIdeal.Gen.frame m ρ, frame_refDf,
  fun m ρ _ => Cert.BwdDw2.Gen.frame m ρ, fun m ρ _ => Cert.BwdDw2Ideal.Gen.frame m ρ, frame_refDw2,
  fun m ρ _ => Cert.BwdDw1.Gen.frame m ρ, fun m ρ _ => Cert.BwdDw1Ideal.Gen.frame m ρ, frame_refDw1,
  fun m ρ _ => Cert.BwdDwin.Gen.frame m ρ, fun m ρ _ => Cert.BwdDwinIdeal.Gen.frame m ρ, frame_refDwin,
  fun m ρ _ => Cert.BwdDwo.Gen.frame m ρ, fun m ρ _ => Cert.BwdDwoIdeal.Gen.frame m ρ, frame_refDwo,
  fun m ρ _ => Cert.BwdDh2.Gen.frame m ρ, fun m ρ _ => Cert.BwdDh2Ideal.Gen.frame m ρ, frame_refDh2,
  fun m ρ _ => Cert.FwdX2.Gen.frame m ρ, fun m ρ _ => Cert.FwdX2Ideal.Gen.frame m ρ, frame_refX2,
  frame_dh, fun m ρ _ => Cert.BwdDhIdeal.Norm.frame m ρ, frame_refDh,
  frame_conv_b, fun m ρ _ => Cert.BwdConvBIdeal.ConvB.frame m ρ, frame_refConvB,
  frame_f, fun m ρ _ => Cert.FwdFIdeal.Norm.frame m ρ, frame_refF,
  fun m ρ _ => Cert.BwdDwa.Gen.frame m ρ, fun m ρ _ => Cert.BwdDwaIdeal.Gen.frame m ρ, frame_refDwa,
  fun m ρ _ => Cert.BwdDwb.Gen.frame m ρ, fun m ρ _ => Cert.BwdDwbIdeal.Gen.frame m ρ, frame_refDwb,
  fun m ρ _ => Cert.FwdYa.Gen.frame m ρ, fun m ρ _ => Cert.FwdYaIdeal.Gen.frame m ρ, frame_refYa,
  fun m ρ _ => Cert.FwdYb.Gen.frame m ρ, fun m ρ _ => Cert.FwdYbIdeal.Gen.frame m ρ, frame_refYb,
  fun m ρ _ => Cert.FwdX1.Gen.frame m ρ, fun m ρ _ => Cert.FwdX1Ideal.Gen.frame m ρ, frame_refX1,
  frame_dm, fun m ρ _ => Cert.BwdDmIdeal.Gates.frame m ρ, frame_refDm,
  frame_z, fun m ρ _ => Cert.FwdZIdeal.Norm.frame m ρ, frame_refZ,
  fun m ρ _ => Cert.BwdDu3.Gen.frame m ρ, fun m ρ _ => Cert.BwdDu3Ideal.Gen.frame m ρ, fun m ρ _ => Cert.BwdDu3Ideal.Gen.frame m ρ, frame_refDu3, fun m ρ _ => frame_refDu3 m ρ trivial,
  fun m ρ _ => Cert.BwdDp.Gen.frame m ρ, fun m ρ _ => Cert.BwdDpIdeal.Gen.frame m ρ, fun m ρ _ => Cert.BwdDpIdeal.Gen.frame m ρ, frame_refDp, fun m ρ _ => frame_refDp m ρ trivial,
  trivial, algebraic_df,
  trivial, algebraic_dw2,
  trivial, algebraic_dw1,
  trivial, algebraic_dwin,
  trivial, algebraic_dwo,
  trivial, algebraic_dh2,
  trivial, algebraic_x2,
  trivial, algebraic_dh,
  trivial,
  trivial, algebraic_f,
  trivial, algebraic_dwa,
  trivial, algebraic_dwb,
  trivial, algebraic_ya,
  trivial, algebraic_yb,
  trivial, algebraic_x1,
  trivial, algebraic_dm,
  trivial, algebraic_z,
  trivial, algebraic_du3,
  preserves_dp, algebraic_dp, algebraic_dp_pre⟩

end Cert.Proof

end
